-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Dz (m : (ℓ : Loc Cert.Dz.nD Cert.Dz.τ Cert.Dz.sig) → Buf (Elt Bits) ℓ) : Prop :=
  True

def Pre_DzIdeal (m : (ℓ : Loc Cert.DzIdeal.nD Cert.DzIdeal.τ Cert.DzIdeal.sig) → Buf (Elt Ideal) ℓ) : Prop :=
  True

def Pre_DzRefIdeal (m : (ℓ : Loc Cert.DzRefIdeal.nD Cert.DzRefIdeal.τ Cert.DzRefIdeal.sig) → Buf (Elt Ideal) ℓ) : Prop :=
  True

def Pre_Dwb (m : (ℓ : Loc Cert.Dwb.nD Cert.Dwb.τ Cert.Dwb.sig) → Buf (Elt Bits) ℓ) : Prop :=
  True

def Pre_DwbIdeal (m : (ℓ : Loc Cert.DwbIdeal.nD Cert.DwbIdeal.τ Cert.DwbIdeal.sig) → Buf (Elt Ideal) ℓ) : Prop :=
  True

def Pre_DwbRefIdeal (m : (ℓ : Loc Cert.DwbRefIdeal.nD Cert.DwbRefIdeal.τ Cert.DwbRefIdeal.sig) → Buf (Elt Ideal) ℓ) : Prop :=
  True

def Pre_Dwa (m : (ℓ : Loc Cert.Dwa.nD Cert.Dwa.τ Cert.Dwa.sig) → Buf (Elt Bits) ℓ) : Prop :=
  True

def Pre_DwaIdeal (m : (ℓ : Loc Cert.DwaIdeal.nD Cert.DwaIdeal.τ Cert.DwaIdeal.sig) → Buf (Elt Ideal) ℓ) : Prop :=
  True

def Pre_DwaRefIdeal (m : (ℓ : Loc Cert.DwaRefIdeal.nD Cert.DwaRefIdeal.τ Cert.DwaRefIdeal.sig) → Buf (Elt Ideal) ℓ) : Prop :=
  True

def Pre_ConvDwb (m : (ℓ : Loc Cert.ConvDwb.nD Cert.ConvDwb.τ Cert.ConvDwb.sig) → Buf (Elt Bits) ℓ) : Prop :=
  True

def Pre_ConvDwbIdeal (m : (ℓ : Loc Cert.ConvDwbIdeal.nD Cert.ConvDwbIdeal.τ Cert.ConvDwbIdeal.sig) → Buf (Elt Ideal) ℓ) : Prop :=
  True

def Pre_ConvDwbRefIdeal (m : (ℓ : Loc Cert.ConvDwbRefIdeal.nD Cert.ConvDwbRefIdeal.τ Cert.ConvDwbRefIdeal.sig) → Buf (Elt Ideal) ℓ) : Prop :=
  True

def Pre_ConvDwa (m : (ℓ : Loc Cert.ConvDwa.nD Cert.ConvDwa.τ Cert.ConvDwa.sig) → Buf (Elt Bits) ℓ) : Prop :=
  True

def Pre_ConvDwaIdeal (m : (ℓ : Loc Cert.ConvDwaIdeal.nD Cert.ConvDwaIdeal.τ Cert.ConvDwaIdeal.sig) → Buf (Elt Ideal) ℓ) : Prop :=
  True

def Pre_ConvDwaRefIdeal (m : (ℓ : Loc Cert.ConvDwaRefIdeal.nD Cert.ConvDwaRefIdeal.τ Cert.ConvDwaRefIdeal.sig) → Buf (Elt Ideal) ℓ) : Prop :=
  True

def Pre_MlaDwq (m : (ℓ : Loc Cert.MlaDwq.nD Cert.MlaDwq.τ Cert.MlaDwq.sig) → Buf (Elt Bits) ℓ) : Prop :=
  True

def Pre_MlaDwqIdeal (m : (ℓ : Loc Cert.MlaDwqIdeal.nD Cert.MlaDwqIdeal.τ Cert.MlaDwqIdeal.sig) → Buf (Elt Ideal) ℓ) : Prop :=
  True

def Pre_MlaDwqRefIdeal (m : (ℓ : Loc Cert.MlaDwqRefIdeal.nD Cert.MlaDwqRefIdeal.τ Cert.MlaDwqRefIdeal.sig) → Buf (Elt Ideal) ℓ) : Prop :=
  True

def Pre_MlaDwin (m : (ℓ : Loc Cert.MlaDwin.nD Cert.MlaDwin.τ Cert.MlaDwin.sig) → Buf (Elt Bits) ℓ) : Prop :=
  True

def Pre_MlaDwinIdeal (m : (ℓ : Loc Cert.MlaDwinIdeal.nD Cert.MlaDwinIdeal.τ Cert.MlaDwinIdeal.sig) → Buf (Elt Ideal) ℓ) : Prop :=
  True

def Pre_MlaDwinRefIdeal (m : (ℓ : Loc Cert.MlaDwinRefIdeal.nD Cert.MlaDwinRefIdeal.τ Cert.MlaDwinRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_ConvDs (m : (ℓ : Loc Cert.ConvDs.nD Cert.ConvDs.τ Cert.ConvDs.sig) → Buf (Elt Bits) ℓ) : Prop :=
  True

def Pre_ConvDsIdeal (m : (ℓ : Loc Cert.ConvDsIdeal.nD Cert.ConvDsIdeal.τ Cert.ConvDsIdeal.sig) → Buf (Elt Ideal) ℓ) : Prop :=
  True

def Pre_ConvDsRefIdeal (m : (ℓ : Loc Cert.ConvDsRefIdeal.nD Cert.ConvDsRefIdeal.τ Cert.ConvDsRefIdeal.sig) → Buf (Elt Ideal) ℓ) : Prop :=
  True

def Pre_ConvDh (m : (ℓ : Loc Cert.ConvDh.nD Cert.ConvDh.τ Cert.ConvDh.sig) → Buf (Elt Bits) ℓ) : Prop :=
  True

def Pre_ConvDhIdeal (m : (ℓ : Loc Cert.ConvDhIdeal.nD Cert.ConvDhIdeal.τ Cert.ConvDhIdeal.sig) → Buf (Elt Ideal) ℓ) : Prop :=
  True

def Pre_ConvDhRefIdeal (m : (ℓ : Loc Cert.ConvDhRefIdeal.nD Cert.ConvDhRefIdeal.τ Cert.ConvDhRefIdeal.sig) → Buf (Elt Ideal) ℓ) : Prop :=
  True

def Pre_MlaDo (m : (ℓ : Loc Cert.MlaDo.nD Cert.MlaDo.τ Cert.MlaDo.sig) → Buf (Elt Bits) ℓ) : Prop :=
  True

def Pre_MlaDoIdeal (m : (ℓ : Loc Cert.MlaDoIdeal.nD Cert.MlaDoIdeal.τ Cert.MlaDoIdeal.sig) → Buf (Elt Ideal) ℓ) : Prop :=
  True

def Pre_MlaDoRefIdeal (m : (ℓ : Loc Cert.MlaDoRefIdeal.nD Cert.MlaDoRefIdeal.τ Cert.MlaDoRefIdeal.sig) → Buf (Elt Ideal) ℓ) : Prop :=
  True

def Pre_MlaDqn (m : (ℓ : Loc Cert.MlaDqn.nD Cert.MlaDqn.τ Cert.MlaDqn.sig) → Buf (Elt Bits) ℓ) : Prop :=
  True

def Pre_MlaDqnIdeal (m : (ℓ : Loc Cert.MlaDqnIdeal.nD Cert.MlaDqnIdeal.τ Cert.MlaDqnIdeal.sig) → Buf (Elt Ideal) ℓ) : Prop :=
  True

def Pre_MlaDqnRefIdeal (m : (ℓ : Loc Cert.MlaDqnRefIdeal.nD Cert.MlaDqnRefIdeal.τ Cert.MlaDqnRefIdeal.sig) → Buf (Elt Ideal) ℓ) : Prop :=
  True

def Pre_MlaDh (m : (ℓ : Loc Cert.MlaDh.nD Cert.MlaDh.τ Cert.MlaDh.sig) → Buf (Elt Bits) ℓ) : Prop :=
  True

def Pre_MlaDhIdeal (m : (ℓ : Loc Cert.MlaDhIdeal.nD Cert.MlaDhIdeal.τ Cert.MlaDhIdeal.sig) → Buf (Elt Ideal) ℓ) : Prop :=
  True

def Pre_MlaDhRefIdeal (m : (ℓ : Loc Cert.MlaDhRefIdeal.nD Cert.MlaDhRefIdeal.τ Cert.MlaDhRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutRefIdeal (m : (ℓ : Loc Cert.MlaOutRefIdeal.nD Cert.MlaOutRefIdeal.τ Cert.MlaOutRefIdeal.sig) → Buf (Elt Ideal) ℓ) : Prop :=
  True

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_MlaInRefIdeal (m : (ℓ : Loc Cert.MlaInRefIdeal.nD Cert.MlaInRefIdeal.τ Cert.MlaInRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_AdamARefIdeal (m : (ℓ : Loc Cert.AdamARefIdeal.nD Cert.AdamARefIdeal.τ Cert.AdamARefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCRefIdeal (m : (ℓ : Loc Cert.AdamCRefIdeal.nD Cert.AdamCRefIdeal.τ Cert.AdamCRefIdeal.sig) → Buf (Elt Ideal) ℓ) : Prop :=
  True

def Pre_AdamD (m : (ℓ : Loc Cert.AdamD.nD Cert.AdamD.τ Cert.AdamD.sig) → Buf (Elt Bits) ℓ) : Prop :=
  True

def Pre_AdamDIdeal (m : (ℓ : Loc Cert.AdamDIdeal.nD Cert.AdamDIdeal.τ Cert.AdamDIdeal.sig) → Buf (Elt Ideal) ℓ) : Prop :=
  True

def Pre_AdamDRefIdeal (m : (ℓ : Loc Cert.AdamDRefIdeal.nD Cert.AdamDRefIdeal.τ Cert.AdamDRefIdeal.sig) → Buf (Elt Ideal) ℓ) : Prop :=
  True

def Pre_AdamE (m : (ℓ : Loc Cert.AdamE.nD Cert.AdamE.τ Cert.AdamE.sig) → Buf (Elt Bits) ℓ) : Prop :=
  True

def Pre_AdamEIdeal (m : (ℓ : Loc Cert.AdamEIdeal.nD Cert.AdamEIdeal.τ Cert.AdamEIdeal.sig) → Buf (Elt Ideal) ℓ) : Prop :=
  True

def Pre_AdamERefIdeal (m : (ℓ : Loc Cert.AdamERefIdeal.nD Cert.AdamERefIdeal.τ Cert.AdamERefIdeal.sig) → Buf (Elt Ideal) ℓ) : Prop :=
  True

def Pre_AdamF (m : (ℓ : Loc Cert.AdamF.nD Cert.AdamF.τ Cert.AdamF.sig) → Buf (Elt Bits) ℓ) : Prop :=
  True

def Pre_AdamFIdeal (m : (ℓ : Loc Cert.AdamFIdeal.nD Cert.AdamFIdeal.τ Cert.AdamFIdeal.sig) → Buf (Elt Ideal) ℓ) : Prop :=
  True

def Pre_AdamFRefIdeal (m : (ℓ : Loc Cert.AdamFRefIdeal.nD Cert.AdamFRefIdeal.τ Cert.AdamFRefIdeal.sig) → Buf (Elt Ideal) ℓ) : Prop :=
  True

def Pre_AdamG (m : (ℓ : Loc Cert.AdamG.nD Cert.AdamG.τ Cert.AdamG.sig) → Buf (Elt Bits) ℓ) : Prop :=
  True

def Pre_AdamGIdeal (m : (ℓ : Loc Cert.AdamGIdeal.nD Cert.AdamGIdeal.τ Cert.AdamGIdeal.sig) → Buf (Elt Ideal) ℓ) : Prop :=
  True

def Pre_AdamGRefIdeal (m : (ℓ : Loc Cert.AdamGRefIdeal.nD Cert.AdamGRefIdeal.τ Cert.AdamGRefIdeal.sig) → Buf (Elt Ideal) ℓ) : Prop :=
  True

def Pre_AdamR (m : (ℓ : Loc Cert.AdamR.nD Cert.AdamR.τ Cert.AdamR.sig) → Buf (Elt Bits) ℓ) : Prop :=
  True

def Pre_AdamRIdeal (m : (ℓ : Loc Cert.AdamRIdeal.nD Cert.AdamRIdeal.τ Cert.AdamRIdeal.sig) → Buf (Elt Ideal) ℓ) : Prop :=
  True

def Pre_AdamRRefIdeal (m : (ℓ : Loc Cert.AdamRRefIdeal.nD Cert.AdamRRefIdeal.τ Cert.AdamRRefIdeal.sig) → Buf (Elt Ideal) ℓ) : Prop :=
  True

def Pre_AdamS (m : (ℓ : Loc Cert.AdamS.nD Cert.AdamS.τ Cert.AdamS.sig) → Buf (Elt Bits) ℓ) : Prop :=
  True

def Pre_AdamSIdeal (m : (ℓ : Loc Cert.AdamSIdeal.nD Cert.AdamSIdeal.τ Cert.AdamSIdeal.sig) → Buf (Elt Ideal) ℓ) : Prop :=
  True

def Pre_AdamSRefIdeal (m : (ℓ : Loc Cert.AdamSRefIdeal.nD Cert.AdamSRefIdeal.τ Cert.AdamSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Dz [hDz : Cert.Dz.Facts] : Prop :=
  ∀ (m : (ℓ : Loc Cert.Dz.nD Cert.Dz.τ Cert.Dz.sig) → Buf (Elt Bits) ℓ) (g : Dev Cert.Dz.nD → PrngReg), Pre_Dz m →
    θ_run (Cert.Dz.defs (F := Bits)) (onTc (τ := Cert.Dz.τ) (Cert.Dz.main (F := Bits))) ⟨m, fun _ => 0, g⟩ (fun r => (∀ c : Dev Cert.Dz.nD,
      r.2.mem ((c.tc : Thread Cert.Dz.nD Cert.Dz.τ).loc Cert.Dz.main_arg0) = m ((c.tc : Thread Cert.Dz.nD Cert.Dz.τ).loc Cert.Dz.main_arg0)
      ∧ r.2.mem ((c.tc : Thread Cert.Dz.nD Cert.Dz.τ).loc Cert.Dz.main_arg1) = m ((c.tc : Thread Cert.Dz.nD Cert.Dz.τ).loc Cert.Dz.main_arg1)
      ∧ r.2.mem ((c.tc : Thread Cert.Dz.nD Cert.Dz.τ).loc Cert.Dz.main_arg2) = m ((c.tc : Thread Cert.Dz.nD Cert.Dz.τ).loc Cert.Dz.main_arg2))
      ∧ r.2.sem = fun _ => 0)

def quiescent_DzIdeal [hDzIdeal : Cert.DzIdeal.Facts] : Prop :=
  ∀ (m : (ℓ : Loc Cert.DzIdeal.nD Cert.DzIdeal.τ Cert.DzIdeal.sig) → Buf (Elt Ideal) ℓ) (g : Dev Cert.DzIdeal.nD → PrngReg), Pre_DzIdeal m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
      ∧ r.2.mem ((c.tc : Thread Cert.DzIdeal.nD Cert.DzIdeal.τ).loc Cert.DzIdeal.main_arg2) = m ((c.tc : Thread Cert.DzIdeal.nD Cert.DzIdeal.τ).loc Cert.DzIdeal.main_arg2))
      ∧ r.2.sem = fun _ => 0)

def quiescent_DzRefIdeal [hDzRefIdeal : Cert.DzRefIdeal.Facts] : Prop :=
  ∀ (m : (ℓ : Loc Cert.DzRefIdeal.nD Cert.DzRefIdeal.τ Cert.DzRefIdeal.sig) → Buf (Elt Ideal) ℓ) (g : Dev Cert.DzRefIdeal.nD → PrngReg), Pre_DzRefIdeal m →
    θ_run (Cert.DzRefIdeal.defs (F := Ideal)) (onTc (τ := Cert.DzRefIdeal.τ) (Cert.DzRefIdeal.main (F := Ideal))) ⟨m, fun _ => 0, g⟩ (fun r => (∀ c : Dev Cert.DzRefIdeal.nD,
      r.2.mem ((c.tc : Thread Cert.DzRefIdeal.nD Cert.DzRefIdeal.τ).loc Cert.DzRefIdeal.main_arg0) = m ((c.tc : Thread Cert.DzRefIdeal.nD Cert.DzRefIdeal.τ).loc Cert.DzRefIdeal.main_arg0)
      ∧ r.2.mem ((c.tc : Thread Cert.DzRefIdeal.nD Cert.DzRefIdeal.τ).loc Cert.DzRefIdeal.main_arg1) = m ((c.tc : Thread Cert.DzRefIdeal.nD Cert.DzRefIdeal.τ).loc Cert.DzRefIdeal.main_arg1)
      ∧ r.2.mem ((c.tc : Thread Cert.DzRefIdeal.nD Cert.DzRefIdeal.τ).loc Cert.DzRefIdeal.main_arg2) = m ((c.tc : Thread Cert.DzRefIdeal.nD Cert.DzRefIdeal.τ).loc Cert.DzRefIdeal.main_arg2))
      ∧ r.2.sem = fun _ => 0)

def quiescent_Dwb [hDwb : Cert.Dwb.Facts] : Prop :=
  ∀ (m : (ℓ : Loc Cert.Dwb.nD Cert.Dwb.τ Cert.Dwb.sig) → Buf (Elt Bits) ℓ) (g : Dev Cert.Dwb.nD → PrngReg), Pre_Dwb m →
    θ_run (Cert.Dwb.defs (F := Bits)) (onTc (τ := Cert.Dwb.τ) (Cert.Dwb.main (F := Bits))) ⟨m, fun _ => 0, g⟩ (fun r => (∀ c : Dev Cert.Dwb.nD,
      r.2.mem ((c.tc : Thread Cert.Dwb.nD Cert.Dwb.τ).loc Cert.Dwb.main_arg0) = m ((c.tc : Thread Cert.Dwb.nD Cert.Dwb.τ).loc Cert.Dwb.main_arg0)
      ∧ r.2.mem ((c.tc : Thread Cert.Dwb.nD Cert.Dwb.τ).loc Cert.Dwb.main_arg1) = m ((c.tc : Thread Cert.Dwb.nD Cert.Dwb.τ).loc Cert.Dwb.main_arg1))
      ∧ r.2.sem = fun _ => 0)

def quiescent_DwbIdeal [hDwbIdeal : Cert.DwbIdeal.Facts] : Prop :=
  ∀ (m : (ℓ : Loc Cert.DwbIdeal.nD Cert.DwbIdeal.τ Cert.DwbIdeal.sig) → Buf (Elt Ideal) ℓ) (g : Dev Cert.DwbIdeal.nD → PrngReg), Pre_DwbIdeal m →
    θ_run (Cert.DwbIdeal.defs (F := Ideal)) (onTc (τ := Cert.DwbIdeal.τ) (Cert.DwbIdeal.main (F := Ideal))) ⟨m, fun _ => 0, g⟩ (fun r => (∀ c : Dev Cert.DwbIdeal.nD,
      r.2.mem ((c.tc : Thread Cert.DwbIdeal.nD Cert.DwbIdeal.τ).loc Cert.DwbIdeal.main_arg0) = m ((c.tc : Thread Cert.DwbIdeal.nD Cert.DwbIdeal.τ).loc Cert.DwbIdeal.main_arg0)
      ∧ r.2.mem ((c.tc : Thread Cert.DwbIdeal.nD Cert.DwbIdeal.τ).loc Cert.DwbIdeal.main_arg1) = m ((c.tc : Thread Cert.DwbIdeal.nD Cert.DwbIdeal.τ).loc Cert.DwbIdeal.main_arg1))
      ∧ r.2.sem = fun _ => 0)

def quiescent_DwbRefIdeal [hDwbRefIdeal : Cert.DwbRefIdeal.Facts] : Prop :=
  ∀ (m : (ℓ : Loc Cert.DwbRefIdeal.nD Cert.DwbRefIdeal.τ Cert.DwbRefIdeal.sig) → Buf (Elt Ideal) ℓ) (g : Dev Cert.DwbRefIdeal.nD → PrngReg), Pre_DwbRefIdeal m →
    θ_run (Cert.DwbRefIdeal.defs (F := Ideal)) (onTc (τ := Cert.DwbRefIdeal.τ) (Cert.DwbRefIdeal.main (F := Ideal))) ⟨m, fun _ => 0, g⟩ (fun r => (∀ c : Dev Cert.DwbRefIdeal.nD,
      r.2.mem ((c.tc : Thread Cert.DwbRefIdeal.nD Cert.DwbRefIdeal.τ).loc Cert.DwbRefIdeal.main_arg0) = m ((c.tc : Thread Cert.DwbRefIdeal.nD Cert.DwbRefIdeal.τ).loc Cert.DwbRefIdeal.main_arg0)
      ∧ r.2.mem ((c.tc : Thread Cert.DwbRefIdeal.nD Cert.DwbRefIdeal.τ).loc Cert.DwbRefIdeal.main_arg1) = m ((c.tc : Thread Cert.DwbRefIdeal.nD Cert.DwbRefIdeal.τ).loc Cert.DwbRefIdeal.main_arg1))
      ∧ r.2.sem = fun _ => 0)

def quiescent_Dwa [hDwa : Cert.Dwa.Facts] : Prop :=
  ∀ (m : (ℓ : Loc Cert.Dwa.nD Cert.Dwa.τ Cert.Dwa.sig) → Buf (Elt Bits) ℓ) (g : Dev Cert.Dwa.nD → PrngReg), Pre_Dwa m →
    θ_run (Cert.Dwa.defs (F := Bits)) (onTc (τ := Cert.Dwa.τ) (Cert.Dwa.main (F := Bits))) ⟨m, fun _ => 0, g⟩ (fun r => (∀ c : Dev Cert.Dwa.nD,
      r.2.mem ((c.tc : Thread Cert.Dwa.nD Cert.Dwa.τ).loc Cert.Dwa.main_arg0) = m ((c.tc : Thread Cert.Dwa.nD Cert.Dwa.τ).loc Cert.Dwa.main_arg0)
      ∧ r.2.mem ((c.tc : Thread Cert.Dwa.nD Cert.Dwa.τ).loc Cert.Dwa.main_arg1) = m ((c.tc : Thread Cert.Dwa.nD Cert.Dwa.τ).loc Cert.Dwa.main_arg1))
      ∧ r.2.sem = fun _ => 0)

def quiescent_DwaIdeal [hDwaIdeal : Cert.DwaIdeal.Facts] : Prop :=
  ∀ (m : (ℓ : Loc Cert.DwaIdeal.nD Cert.DwaIdeal.τ Cert.DwaIdeal.sig) → Buf (Elt Ideal) ℓ) (g : Dev Cert.DwaIdeal.nD → PrngReg), Pre_DwaIdeal m →
    θ_run (Cert.DwaIdeal.defs (F := Ideal)) (onTc (τ := Cert.DwaIdeal.τ) (Cert.DwaIdeal.main (F := Ideal))) ⟨m, fun _ => 0, g⟩ (fun r => (∀ c : Dev Cert.DwaIdeal.nD,
      r.2.mem ((c.tc : Thread Cert.DwaIdeal.nD Cert.DwaIdeal.τ).loc Cert.DwaIdeal.main_arg0) = m ((c.tc : Thread Cert.DwaIdeal.nD Cert.DwaIdeal.τ).loc Cert.DwaIdeal.main_arg0)
      ∧ r.2.mem ((c.tc : Thread Cert.DwaIdeal.nD Cert.DwaIdeal.τ).loc Cert.DwaIdeal.main_arg1) = m ((c.tc : Thread Cert.DwaIdeal.nD Cert.DwaIdeal.τ).loc Cert.DwaIdeal.main_arg1))
      ∧ r.2.sem = fun _ => 0)

def quiescent_DwaRefIdeal [hDwaRefIdeal : Cert.DwaRefIdeal.Facts] : Prop :=
  ∀ (m : (ℓ : Loc Cert.DwaRefIdeal.nD Cert.DwaRefIdeal.τ Cert.DwaRefIdeal.sig) → Buf (Elt Ideal) ℓ) (g : Dev Cert.DwaRefIdeal.nD → PrngReg), Pre_DwaRefIdeal m →
    θ_run (Cert.DwaRefIdeal.defs (F := Ideal)) (onTc (τ := Cert.DwaRefIdeal.τ) (Cert.DwaRefIdeal.main (F := Ideal))) ⟨m, fun _ => 0, g⟩ (fun r => (∀ c : Dev Cert.DwaRefIdeal.nD,
      r.2.mem ((c.tc : Thread Cert.DwaRefIdeal.nD Cert.DwaRefIdeal.τ).loc Cert.DwaRefIdeal.main_arg0) = m ((c.tc : Thread Cert.DwaRefIdeal.nD Cert.DwaRefIdeal.τ).loc Cert.DwaRefIdeal.main_arg0)
      ∧ r.2.mem ((c.tc : Thread Cert.DwaRefIdeal.nD Cert.DwaRefIdeal.τ).loc Cert.DwaRefIdeal.main_arg1) = m ((c.tc : Thread Cert.DwaRefIdeal.nD Cert.DwaRefIdeal.τ).loc Cert.DwaRefIdeal.main_arg1))
      ∧ r.2.sem = fun _ => 0)

def quiescent_ConvDwb [hConvDwb : Cert.ConvDwb.Facts] : Prop :=
  ∀ (m : (ℓ : Loc Cert.ConvDwb.nD Cert.ConvDwb.τ Cert.ConvDwb.sig) → Buf (Elt Bits) ℓ) (g : Dev Cert.ConvDwb.nD → PrngReg), Pre_ConvDwb m →
    θ_run (Cert.ConvDwb.defs (F := Bits)) (onTc (τ := Cert.ConvDwb.τ) (Cert.ConvDwb.main (F := Bits))) ⟨m, fun _ => 0, g⟩ (fun r => (∀ c : Dev Cert.ConvDwb.nD,
      r.2.mem ((c.tc : Thread Cert.ConvDwb.nD Cert.ConvDwb.τ).loc Cert.ConvDwb.main_arg0) = m ((c.tc : Thread Cert.ConvDwb.nD Cert.ConvDwb.τ).loc Cert.ConvDwb.main_arg0)
      ∧ r.2.mem ((c.tc : Thread Cert.ConvDwb.nD Cert.ConvDwb.τ).loc Cert.ConvDwb.main_arg1) = m ((c.tc : Thread Cert.ConvDwb.nD Cert.ConvDwb.τ).loc Cert.ConvDwb.main_arg1))
      ∧ r.2.sem = fun _ => 0)

def quiescent_ConvDwbIdeal [hConvDwbIdeal : Cert.ConvDwbIdeal.Facts] : Prop :=
  ∀ (m : (ℓ : Loc Cert.ConvDwbIdeal.nD Cert.ConvDwbIdeal.τ Cert.ConvDwbIdeal.sig) → Buf (Elt Ideal) ℓ) (g : Dev Cert.ConvDwbIdeal.nD → PrngReg), Pre_ConvDwbIdeal m →
    θ_run (Cert.ConvDwbIdeal.defs (F := Ideal)) (onTc (τ := Cert.ConvDwbIdeal.τ) (Cert.ConvDwbIdeal.main (F := Ideal))) ⟨m, fun _ => 0, g⟩ (fun r => (∀ c : Dev Cert.ConvDwbIdeal.nD,
      r.2.mem ((c.tc : Thread Cert.ConvDwbIdeal.nD Cert.ConvDwbIdeal.τ).loc Cert.ConvDwbIdeal.main_arg0) = m ((c.tc : Thread Cert.ConvDwbIdeal.nD Cert.ConvDwbIdeal.τ).loc Cert.ConvDwbIdeal.main_arg0)
      ∧ r.2.mem ((c.tc : Thread Cert.ConvDwbIdeal.nD Cert.ConvDwbIdeal.τ).loc Cert.ConvDwbIdeal.main_arg1) = m ((c.tc : Thread Cert.ConvDwbIdeal.nD Cert.ConvDwbIdeal.τ).loc Cert.ConvDwbIdeal.main_arg1))
      ∧ r.2.sem = fun _ => 0)

def quiescent_ConvDwbRefIdeal [hConvDwbRefIdeal : Cert.ConvDwbRefIdeal.Facts] : Prop :=
  ∀ (m : (ℓ : Loc Cert.ConvDwbRefIdeal.nD Cert.ConvDwbRefIdeal.τ Cert.ConvDwbRefIdeal.sig) → Buf (Elt Ideal) ℓ) (g : Dev Cert.ConvDwbRefIdeal.nD → PrngReg), Pre_ConvDwbRefIdeal m →
    θ_run (Cert.ConvDwbRefIdeal.defs (F := Ideal)) (onTc (τ := Cert.ConvDwbRefIdeal.τ) (Cert.ConvDwbRefIdeal.main (F := Ideal))) ⟨m, fun _ => 0, g⟩ (fun r => (∀ c : Dev Cert.ConvDwbRefIdeal.nD,
      r.2.mem ((c.tc : Thread Cert.ConvDwbRefIdeal.nD Cert.ConvDwbRefIdeal.τ).loc Cert.ConvDwbRefIdeal.main_arg0) = m ((c.tc : Thread Cert.ConvDwbRefIdeal.nD Cert.ConvDwbRefIdeal.τ).loc Cert.ConvDwbRefIdeal.main_arg0)
      ∧ r.2.mem ((c.tc : Thread Cert.ConvDwbRefIdeal.nD Cert.ConvDwbRefIdeal.τ).loc Cert.ConvDwbRefIdeal.main_arg1) = m ((c.tc : Thread Cert.ConvDwbRefIdeal.nD Cert.ConvDwbRefIdeal.τ).loc Cert.ConvDwbRefIdeal.main_arg1))
      ∧ r.2.sem = fun _ => 0)

def quiescent_ConvDwa [hConvDwa : Cert.ConvDwa.Facts] : Prop :=
  ∀ (m : (ℓ : Loc Cert.ConvDwa.nD Cert.ConvDwa.τ Cert.ConvDwa.sig) → Buf (Elt Bits) ℓ) (g : Dev Cert.ConvDwa.nD → PrngReg), Pre_ConvDwa m →
    θ_run (Cert.ConvDwa.defs (F := Bits)) (onTc (τ := Cert.ConvDwa.τ) (Cert.ConvDwa.main (F := Bits))) ⟨m, fun _ => 0, g⟩ (fun r => (∀ c : Dev Cert.ConvDwa.nD,
      r.2.mem ((c.tc : Thread Cert.ConvDwa.nD Cert.ConvDwa.τ).loc Cert.ConvDwa.main_arg0) = m ((c.tc : Thread Cert.ConvDwa.nD Cert.ConvDwa.τ).loc Cert.ConvDwa.main_arg0)
      ∧ r.2.mem ((c.tc : Thread Cert.ConvDwa.nD Cert.ConvDwa.τ).loc Cert.ConvDwa.main_arg1) = m ((c.tc : Thread Cert.ConvDwa.nD Cert.ConvDwa.τ).loc Cert.ConvDwa.main_arg1))
      ∧ r.2.sem = fun _ => 0)

def quiescent_ConvDwaIdeal [hConvDwaIdeal : Cert.ConvDwaIdeal.Facts] : Prop :=
  ∀ (m : (ℓ : Loc Cert.ConvDwaIdeal.nD Cert.ConvDwaIdeal.τ Cert.ConvDwaIdeal.sig) → Buf (Elt Ideal) ℓ) (g : Dev Cert.ConvDwaIdeal.nD → PrngReg), Pre_ConvDwaIdeal m →
    θ_run (Cert.ConvDwaIdeal.defs (F := Ideal)) (onTc (τ := Cert.ConvDwaIdeal.τ) (Cert.ConvDwaIdeal.main (F := Ideal))) ⟨m, fun _ => 0, g⟩ (fun r => (∀ c : Dev Cert.ConvDwaIdeal.nD,
      r.2.mem ((c.tc : Thread Cert.ConvDwaIdeal.nD Cert.ConvDwaIdeal.τ).loc Cert.ConvDwaIdeal.main_arg0) = m ((c.tc : Thread Cert.ConvDwaIdeal.nD Cert.ConvDwaIdeal.τ).loc Cert.ConvDwaIdeal.main_arg0)
      ∧ r.2.mem ((c.tc : Thread Cert.ConvDwaIdeal.nD Cert.ConvDwaIdeal.τ).loc Cert.ConvDwaIdeal.main_arg1) = m ((c.tc : Thread Cert.ConvDwaIdeal.nD Cert.ConvDwaIdeal.τ).loc Cert.ConvDwaIdeal.main_arg1))
      ∧ r.2.sem = fun _ => 0)

def quiescent_ConvDwaRefIdeal [hConvDwaRefIdeal : Cert.ConvDwaRefIdeal.Facts] : Prop :=
  ∀ (m : (ℓ : Loc Cert.ConvDwaRefIdeal.nD Cert.ConvDwaRefIdeal.τ Cert.ConvDwaRefIdeal.sig) → Buf (Elt Ideal) ℓ) (g : Dev Cert.ConvDwaRefIdeal.nD → PrngReg), Pre_ConvDwaRefIdeal m →
    θ_run (Cert.ConvDwaRefIdeal.defs (F := Ideal)) (onTc (τ := Cert.ConvDwaRefIdeal.τ) (Cert.ConvDwaRefIdeal.main (F := Ideal))) ⟨m, fun _ => 0, g⟩ (fun r => (∀ c : Dev Cert.ConvDwaRefIdeal.nD,
      r.2.mem ((c.tc : Thread Cert.ConvDwaRefIdeal.nD Cert.ConvDwaRefIdeal.τ).loc Cert.ConvDwaRefIdeal.main_arg0) = m ((c.tc : Thread Cert.ConvDwaRefIdeal.nD Cert.ConvDwaRefIdeal.τ).loc Cert.ConvDwaRefIdeal.main_arg0)
      ∧ r.2.mem ((c.tc : Thread Cert.ConvDwaRefIdeal.nD Cert.ConvDwaRefIdeal.τ).loc Cert.ConvDwaRefIdeal.main_arg1) = m ((c.tc : Thread Cert.ConvDwaRefIdeal.nD Cert.ConvDwaRefIdeal.τ).loc Cert.ConvDwaRefIdeal.main_arg1))
      ∧ r.2.sem = fun _ => 0)

def quiescent_MlaDwq [hMlaDwq : Cert.MlaDwq.Facts] : Prop :=
  ∀ (m : (ℓ : Loc Cert.MlaDwq.nD Cert.MlaDwq.τ Cert.MlaDwq.sig) → Buf (Elt Bits) ℓ) (g : Dev Cert.MlaDwq.nD → PrngReg), Pre_MlaDwq m →
    θ_run (Cert.MlaDwq.defs (F := Bits)) (onTc (τ := Cert.MlaDwq.τ) (Cert.MlaDwq.main (F := Bits))) ⟨m, fun _ => 0, g⟩ (fun r => (∀ c : Dev Cert.MlaDwq.nD,
      r.2.mem ((c.tc : Thread Cert.MlaDwq.nD Cert.MlaDwq.τ).loc Cert.MlaDwq.main_arg0) = m ((c.tc : Thread Cert.MlaDwq.nD Cert.MlaDwq.τ).loc Cert.MlaDwq.main_arg0)
      ∧ r.2.mem ((c.tc : Thread Cert.MlaDwq.nD Cert.MlaDwq.τ).loc Cert.MlaDwq.main_arg1) = m ((c.tc : Thread Cert.MlaDwq.nD Cert.MlaDwq.τ).loc Cert.MlaDwq.main_arg1))
      ∧ r.2.sem = fun _ => 0)

def quiescent_MlaDwqIdeal [hMlaDwqIdeal : Cert.MlaDwqIdeal.Facts] : Prop :=
  ∀ (m : (ℓ : Loc Cert.MlaDwqIdeal.nD Cert.MlaDwqIdeal.τ Cert.MlaDwqIdeal.sig) → Buf (Elt Ideal) ℓ) (g : Dev Cert.MlaDwqIdeal.nD → PrngReg), Pre_MlaDwqIdeal m →
    θ_run (Cert.MlaDwqIdeal.defs (F := Ideal)) (onTc (τ := Cert.MlaDwqIdeal.τ) (Cert.MlaDwqIdeal.main (F := Ideal))) ⟨m, fun _ => 0, g⟩ (fun r => (∀ c : Dev Cert.MlaDwqIdeal.nD,
      r.2.mem ((c.tc : Thread Cert.MlaDwqIdeal.nD Cert.MlaDwqIdeal.τ).loc Cert.MlaDwqIdeal.main_arg0) = m ((c.tc : Thread Cert.MlaDwqIdeal.nD Cert.MlaDwqIdeal.τ).loc Cert.MlaDwqIdeal.main_arg0)
      ∧ r.2.mem ((c.tc : Thread Cert.MlaDwqIdeal.nD Cert.MlaDwqIdeal.τ).loc Cert.MlaDwqIdeal.main_arg1) = m ((c.tc : Thread Cert.MlaDwqIdeal.nD Cert.MlaDwqIdeal.τ).loc Cert.MlaDwqIdeal.main_arg1))
      ∧ r.2.sem = fun _ => 0)

def quiescent_MlaDwqRefIdeal [hMlaDwqRefIdeal : Cert.MlaDwqRefIdeal.Facts] : Prop :=
  ∀ (m : (ℓ : Loc Cert.MlaDwqRefIdeal.nD Cert.MlaDwqRefIdeal.τ Cert.MlaDwqRefIdeal.sig) → Buf (Elt Ideal) ℓ) (g : Dev Cert.MlaDwqRefIdeal.nD → PrngReg), Pre_MlaDwqRefIdeal m →
    θ_run (Cert.MlaDwqRefIdeal.defs (F := Ideal)) (onTc (τ := Cert.MlaDwqRefIdeal.τ) (Cert.MlaDwqRefIdeal.main (F := Ideal))) ⟨m, fun _ => 0, g⟩ (fun r => (∀ c : Dev Cert.MlaDwqRefIdeal.nD,
      r.2.mem ((c.tc : Thread Cert.MlaDwqRefIdeal.nD Cert.MlaDwqRefIdeal.τ).loc Cert.MlaDwqRefIdeal.main_arg0) = m ((c.tc : Thread Cert.MlaDwqRefIdeal.nD Cert.MlaDwqRefIdeal.τ).loc Cert.MlaDwqRefIdeal.main_arg0)
      ∧ r.2.mem ((c.tc : Thread Cert.MlaDwqRefIdeal.nD Cert.MlaDwqRefIdeal.τ).loc Cert.MlaDwqRefIdeal.main_arg1) = m ((c.tc : Thread Cert.MlaDwqRefIdeal.nD Cert.MlaDwqRefIdeal.τ).loc Cert.MlaDwqRefIdeal.main_arg1))
      ∧ r.2.sem = fun _ => 0)

def quiescent_MlaDwin [hMlaDwin : Cert.MlaDwin.Facts] : Prop :=
  ∀ (m : (ℓ : Loc Cert.MlaDwin.nD Cert.MlaDwin.τ Cert.MlaDwin.sig) → Buf (Elt Bits) ℓ) (g : Dev Cert.MlaDwin.nD → PrngReg), Pre_MlaDwin m →
    θ_run (Cert.MlaDwin.defs (F := Bits)) (onTc (τ := Cert.MlaDwin.τ) (Cert.MlaDwin.main (F := Bits))) ⟨m, fun _ => 0, g⟩ (fun r => (∀ c : Dev Cert.MlaDwin.nD,
      r.2.mem ((c.tc : Thread Cert.MlaDwin.nD Cert.MlaDwin.τ).loc Cert.MlaDwin.main_arg0) = m ((c.tc : Thread Cert.MlaDwin.nD Cert.MlaDwin.τ).loc Cert.MlaDwin.main_arg0)
      ∧ r.2.mem ((c.tc : Thread Cert.MlaDwin.nD Cert.MlaDwin.τ).loc Cert.MlaDwin.main_arg1) = m ((c.tc : Thread Cert.MlaDwin.nD Cert.MlaDwin.τ).loc Cert.MlaDwin.main_arg1))
      ∧ r.2.sem = fun _ => 0)

def quiescent_MlaDwinIdeal [hMlaDwinIdeal : Cert.MlaDwinIdeal.Facts] : Prop :=
  ∀ (m : (ℓ : Loc Cert.MlaDwinIdeal.nD Cert.MlaDwinIdeal.τ Cert.MlaDwinIdeal.sig) → Buf (Elt Ideal) ℓ) (g : Dev Cert.MlaDwinIdeal.nD → PrngReg), Pre_MlaDwinIdeal m →
    θ_run (Cert.MlaDwinIdeal.defs (F := Ideal)) (onTc (τ := Cert.MlaDwinIdeal.τ) (Cert.MlaDwinIdeal.main (F := Ideal))) ⟨m, fun _ => 0, g⟩ (fun r => (∀ c : Dev Cert.MlaDwinIdeal.nD,
      r.2.mem ((c.tc : Thread Cert.MlaDwinIdeal.nD Cert.MlaDwinIdeal.τ).loc Cert.MlaDwinIdeal.main_arg0) = m ((c.tc : Thread Cert.MlaDwinIdeal.nD Cert.MlaDwinIdeal.τ).loc Cert.MlaDwinIdeal.main_arg0)
      ∧ r.2.mem ((c.tc : Thread Cert.MlaDwinIdeal.nD Cert.MlaDwinIdeal.τ).loc Cert.MlaDwinIdeal.main_arg1) = m ((c.tc : Thread Cert.MlaDwinIdeal.nD Cert.MlaDwinIdeal.τ).loc Cert.MlaDwinIdeal.main_arg1))
      ∧ r.2.sem = fun _ => 0)

def quiescent_MlaDwinRefIdeal [hMlaDwinRefIdeal : Cert.MlaDwinRefIdeal.Facts] : Prop :=
  ∀ (m : (ℓ : Loc Cert.MlaDwinRefIdeal.nD Cert.MlaDwinRefIdeal.τ Cert.MlaDwinRefIdeal.sig) → Buf (Elt Ideal) ℓ) (g : Dev Cert.MlaDwinRefIdeal.nD → PrngReg), Pre_MlaDwinRefIdeal m →
    θ_run (Cert.MlaDwinRefIdeal.defs (F := Ideal)) (onTc (τ := Cert.MlaDwinRefIdeal.τ) (Cert.MlaDwinRefIdeal.main (F := Ideal))) ⟨m, fun _ => 0, g⟩ (fun r => (∀ c : Dev Cert.MlaDwinRefIdeal.nD,
      r.2.mem ((c.tc : Thread Cert.MlaDwinRefIdeal.nD Cert.MlaDwinRefIdeal.τ).loc Cert.MlaDwinRefIdeal.main_arg0) = m ((c.tc : Thread Cert.MlaDwinRefIdeal.nD Cert.MlaDwinRefIdeal.τ).loc Cert.MlaDwinRefIdeal.main_arg0)
      ∧ r.2.mem ((c.tc : Thread Cert.MlaDwinRefIdeal.nD Cert.MlaDwinRefIdeal.τ).loc Cert.MlaDwinRefIdeal.main_arg1) = m ((c.tc : Thread Cert.MlaDwinRefIdeal.nD Cert.MlaDwinRefIdeal.τ).loc Cert.MlaDwinRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_ConvDs [hConvDs : Cert.ConvDs.Facts] : Prop :=
  ∀ (m : (ℓ : Loc Cert.ConvDs.nD Cert.ConvDs.τ Cert.ConvDs.sig) → Buf (Elt Bits) ℓ) (g : Dev Cert.ConvDs.nD → PrngReg), Pre_ConvDs m →
    θ_run (Cert.ConvDs.defs (F := Bits)) (onTc (τ := Cert.ConvDs.τ) (Cert.ConvDs.main (F := Bits))) ⟨m, fun _ => 0, g⟩ (fun r => (∀ c : Dev Cert.ConvDs.nD,
      r.2.mem ((c.tc : Thread Cert.ConvDs.nD Cert.ConvDs.τ).loc Cert.ConvDs.main_arg0) = m ((c.tc : Thread Cert.ConvDs.nD Cert.ConvDs.τ).loc Cert.ConvDs.main_arg0)
      ∧ r.2.mem ((c.tc : Thread Cert.ConvDs.nD Cert.ConvDs.τ).loc Cert.ConvDs.main_arg1) = m ((c.tc : Thread Cert.ConvDs.nD Cert.ConvDs.τ).loc Cert.ConvDs.main_arg1))
      ∧ r.2.sem = fun _ => 0)

def quiescent_ConvDsIdeal [hConvDsIdeal : Cert.ConvDsIdeal.Facts] : Prop :=
  ∀ (m : (ℓ : Loc Cert.ConvDsIdeal.nD Cert.ConvDsIdeal.τ Cert.ConvDsIdeal.sig) → Buf (Elt Ideal) ℓ) (g : Dev Cert.ConvDsIdeal.nD → PrngReg), Pre_ConvDsIdeal m →
    θ_run (Cert.ConvDsIdeal.defs (F := Ideal)) (onTc (τ := Cert.ConvDsIdeal.τ) (Cert.ConvDsIdeal.main (F := Ideal))) ⟨m, fun _ => 0, g⟩ (fun r => (∀ c : Dev Cert.ConvDsIdeal.nD,
      r.2.mem ((c.tc : Thread Cert.ConvDsIdeal.nD Cert.ConvDsIdeal.τ).loc Cert.ConvDsIdeal.main_arg0) = m ((c.tc : Thread Cert.ConvDsIdeal.nD Cert.ConvDsIdeal.τ).loc Cert.ConvDsIdeal.main_arg0)
      ∧ r.2.mem ((c.tc : Thread Cert.ConvDsIdeal.nD Cert.ConvDsIdeal.τ).loc Cert.ConvDsIdeal.main_arg1) = m ((c.tc : Thread Cert.ConvDsIdeal.nD Cert.ConvDsIdeal.τ).loc Cert.ConvDsIdeal.main_arg1))
      ∧ r.2.sem = fun _ => 0)

def quiescent_ConvDsRefIdeal [hConvDsRefIdeal : Cert.ConvDsRefIdeal.Facts] : Prop :=
  ∀ (m : (ℓ : Loc Cert.ConvDsRefIdeal.nD Cert.ConvDsRefIdeal.τ Cert.ConvDsRefIdeal.sig) → Buf (Elt Ideal) ℓ) (g : Dev Cert.ConvDsRefIdeal.nD → PrngReg), Pre_ConvDsRefIdeal m →
    θ_run (Cert.ConvDsRefIdeal.defs (F := Ideal)) (onTc (τ := Cert.ConvDsRefIdeal.τ) (Cert.ConvDsRefIdeal.main (F := Ideal))) ⟨m, fun _ => 0, g⟩ (fun r => (∀ c : Dev Cert.ConvDsRefIdeal.nD,
      r.2.mem ((c.tc : Thread Cert.ConvDsRefIdeal.nD Cert.ConvDsRefIdeal.τ).loc Cert.ConvDsRefIdeal.main_arg0) = m ((c.tc : Thread Cert.ConvDsRefIdeal.nD Cert.ConvDsRefIdeal.τ).loc Cert.ConvDsRefIdeal.main_arg0)
      ∧ r.2.mem ((c.tc : Thread Cert.ConvDsRefIdeal.nD Cert.ConvDsRefIdeal.τ).loc Cert.ConvDsRefIdeal.main_arg1) = m ((c.tc : Thread Cert.ConvDsRefIdeal.nD Cert.ConvDsRefIdeal.τ).loc Cert.ConvDsRefIdeal.main_arg1))
      ∧ r.2.sem = fun _ => 0)

def quiescent_ConvDh [hConvDh : Cert.ConvDh.Facts] : Prop :=
  ∀ (m : (ℓ : Loc Cert.ConvDh.nD Cert.ConvDh.τ Cert.ConvDh.sig) → Buf (Elt Bits) ℓ) (g : Dev Cert.ConvDh.nD → PrngReg), Pre_ConvDh m →
    θ_run (Cert.ConvDh.defs (F := Bits)) (onTc (τ := Cert.ConvDh.τ) (Cert.ConvDh.main (F := Bits))) ⟨m, fun _ => 0, g⟩ (fun r => (∀ c : Dev Cert.ConvDh.nD,
      r.2.mem ((c.tc : Thread Cert.ConvDh.nD Cert.ConvDh.τ).loc Cert.ConvDh.main_arg0) = m ((c.tc : Thread Cert.ConvDh.nD Cert.ConvDh.τ).loc Cert.ConvDh.main_arg0)
      ∧ r.2.mem ((c.tc : Thread Cert.ConvDh.nD Cert.ConvDh.τ).loc Cert.ConvDh.main_arg1) = m ((c.tc : Thread Cert.ConvDh.nD Cert.ConvDh.τ).loc Cert.ConvDh.main_arg1))
      ∧ r.2.sem = fun _ => 0)

def quiescent_ConvDhIdeal [hConvDhIdeal : Cert.ConvDhIdeal.Facts] : Prop :=
  ∀ (m : (ℓ : Loc Cert.ConvDhIdeal.nD Cert.ConvDhIdeal.τ Cert.ConvDhIdeal.sig) → Buf (Elt Ideal) ℓ) (g : Dev Cert.ConvDhIdeal.nD → PrngReg), Pre_ConvDhIdeal m →
    θ_run (Cert.ConvDhIdeal.defs (F := Ideal)) (onTc (τ := Cert.ConvDhIdeal.τ) (Cert.ConvDhIdeal.main (F := Ideal))) ⟨m, fun _ => 0, g⟩ (fun r => (∀ c : Dev Cert.ConvDhIdeal.nD,
      r.2.mem ((c.tc : Thread Cert.ConvDhIdeal.nD Cert.ConvDhIdeal.τ).loc Cert.ConvDhIdeal.main_arg0) = m ((c.tc : Thread Cert.ConvDhIdeal.nD Cert.ConvDhIdeal.τ).loc Cert.ConvDhIdeal.main_arg0)
      ∧ r.2.mem ((c.tc : Thread Cert.ConvDhIdeal.nD Cert.ConvDhIdeal.τ).loc Cert.ConvDhIdeal.main_arg1) = m ((c.tc : Thread Cert.ConvDhIdeal.nD Cert.ConvDhIdeal.τ).loc Cert.ConvDhIdeal.main_arg1))
      ∧ r.2.sem = fun _ => 0)

def quiescent_ConvDhRefIdeal [hConvDhRefIdeal : Cert.ConvDhRefIdeal.Facts] : Prop :=
  ∀ (m : (ℓ : Loc Cert.ConvDhRefIdeal.nD Cert.ConvDhRefIdeal.τ Cert.ConvDhRefIdeal.sig) → Buf (Elt Ideal) ℓ) (g : Dev Cert.ConvDhRefIdeal.nD → PrngReg), Pre_ConvDhRefIdeal m →
    θ_run (Cert.ConvDhRefIdeal.defs (F := Ideal)) (onTc (τ := Cert.ConvDhRefIdeal.τ) (Cert.ConvDhRefIdeal.main (F := Ideal))) ⟨m, fun _ => 0, g⟩ (fun r => (∀ c : Dev Cert.ConvDhRefIdeal.nD,
      r.2.mem ((c.tc : Thread Cert.ConvDhRefIdeal.nD Cert.ConvDhRefIdeal.τ).loc Cert.ConvDhRefIdeal.main_arg0) = m ((c.tc : Thread Cert.ConvDhRefIdeal.nD Cert.ConvDhRefIdeal.τ).loc Cert.ConvDhRefIdeal.main_arg0)
      ∧ r.2.mem ((c.tc : Thread Cert.ConvDhRefIdeal.nD Cert.ConvDhRefIdeal.τ).loc Cert.ConvDhRefIdeal.main_arg1) = m ((c.tc : Thread Cert.ConvDhRefIdeal.nD Cert.ConvDhRefIdeal.τ).loc Cert.ConvDhRefIdeal.main_arg1))
      ∧ r.2.sem = fun _ => 0)

def quiescent_MlaDo [hMlaDo : Cert.MlaDo.Facts] : Prop :=
  ∀ (m : (ℓ : Loc Cert.MlaDo.nD Cert.MlaDo.τ Cert.MlaDo.sig) → Buf (Elt Bits) ℓ) (g : Dev Cert.MlaDo.nD → PrngReg), Pre_MlaDo m →
    θ_run (Cert.MlaDo.defs (F := Bits)) (onTc (τ := Cert.MlaDo.τ) (Cert.MlaDo.main (F := Bits))) ⟨m, fun _ => 0, g⟩ (fun r => (∀ c : Dev Cert.MlaDo.nD,
      r.2.mem ((c.tc : Thread Cert.MlaDo.nD Cert.MlaDo.τ).loc Cert.MlaDo.main_arg0) = m ((c.tc : Thread Cert.MlaDo.nD Cert.MlaDo.τ).loc Cert.MlaDo.main_arg0)
      ∧ r.2.mem ((c.tc : Thread Cert.MlaDo.nD Cert.MlaDo.τ).loc Cert.MlaDo.main_arg1) = m ((c.tc : Thread Cert.MlaDo.nD Cert.MlaDo.τ).loc Cert.MlaDo.main_arg1))
      ∧ r.2.sem = fun _ => 0)

def quiescent_MlaDoIdeal [hMlaDoIdeal : Cert.MlaDoIdeal.Facts] : Prop :=
  ∀ (m : (ℓ : Loc Cert.MlaDoIdeal.nD Cert.MlaDoIdeal.τ Cert.MlaDoIdeal.sig) → Buf (Elt Ideal) ℓ) (g : Dev Cert.MlaDoIdeal.nD → PrngReg), Pre_MlaDoIdeal m →
    θ_run (Cert.MlaDoIdeal.defs (F := Ideal)) (onTc (τ := Cert.MlaDoIdeal.τ) (Cert.MlaDoIdeal.main (F := Ideal))) ⟨m, fun _ => 0, g⟩ (fun r => (∀ c : Dev Cert.MlaDoIdeal.nD,
      r.2.mem ((c.tc : Thread Cert.MlaDoIdeal.nD Cert.MlaDoIdeal.τ).loc Cert.MlaDoIdeal.main_arg0) = m ((c.tc : Thread Cert.MlaDoIdeal.nD Cert.MlaDoIdeal.τ).loc Cert.MlaDoIdeal.main_arg0)
      ∧ r.2.mem ((c.tc : Thread Cert.MlaDoIdeal.nD Cert.MlaDoIdeal.τ).loc Cert.MlaDoIdeal.main_arg1) = m ((c.tc : Thread Cert.MlaDoIdeal.nD Cert.MlaDoIdeal.τ).loc Cert.MlaDoIdeal.main_arg1))
      ∧ r.2.sem = fun _ => 0)

def quiescent_MlaDoRefIdeal [hMlaDoRefIdeal : Cert.MlaDoRefIdeal.Facts] : Prop :=
  ∀ (m : (ℓ : Loc Cert.MlaDoRefIdeal.nD Cert.MlaDoRefIdeal.τ Cert.MlaDoRefIdeal.sig) → Buf (Elt Ideal) ℓ) (g : Dev Cert.MlaDoRefIdeal.nD → PrngReg), Pre_MlaDoRefIdeal m →
    θ_run (Cert.MlaDoRefIdeal.defs (F := Ideal)) (onTc (τ := Cert.MlaDoRefIdeal.τ) (Cert.MlaDoRefIdeal.main (F := Ideal))) ⟨m, fun _ => 0, g⟩ (fun r => (∀ c : Dev Cert.MlaDoRefIdeal.nD,
      r.2.mem ((c.tc : Thread Cert.MlaDoRefIdeal.nD Cert.MlaDoRefIdeal.τ).loc Cert.MlaDoRefIdeal.main_arg0) = m ((c.tc : Thread Cert.MlaDoRefIdeal.nD Cert.MlaDoRefIdeal.τ).loc Cert.MlaDoRefIdeal.main_arg0)
      ∧ r.2.mem ((c.tc : Thread Cert.MlaDoRefIdeal.nD Cert.MlaDoRefIdeal.τ).loc Cert.MlaDoRefIdeal.main_arg1) = m ((c.tc : Thread Cert.MlaDoRefIdeal.nD Cert.MlaDoRefIdeal.τ).loc Cert.MlaDoRefIdeal.main_arg1))
      ∧ r.2.sem = fun _ => 0)

def quiescent_MlaDqn [hMlaDqn : Cert.MlaDqn.Facts] : Prop :=
  ∀ (m : (ℓ : Loc Cert.MlaDqn.nD Cert.MlaDqn.τ Cert.MlaDqn.sig) → Buf (Elt Bits) ℓ) (g : Dev Cert.MlaDqn.nD → PrngReg), Pre_MlaDqn m →
    θ_run (Cert.MlaDqn.defs (F := Bits)) (onTc (τ := Cert.MlaDqn.τ) (Cert.MlaDqn.main (F := Bits))) ⟨m, fun _ => 0, g⟩ (fun r => (∀ c : Dev Cert.MlaDqn.nD,
      r.2.mem ((c.tc : Thread Cert.MlaDqn.nD Cert.MlaDqn.τ).loc Cert.MlaDqn.main_arg0) = m ((c.tc : Thread Cert.MlaDqn.nD Cert.MlaDqn.τ).loc Cert.MlaDqn.main_arg0)
      ∧ r.2.mem ((c.tc : Thread Cert.MlaDqn.nD Cert.MlaDqn.τ).loc Cert.MlaDqn.main_arg1) = m ((c.tc : Thread Cert.MlaDqn.nD Cert.MlaDqn.τ).loc Cert.MlaDqn.main_arg1))
      ∧ r.2.sem = fun _ => 0)

def quiescent_MlaDqnIdeal [hMlaDqnIdeal : Cert.MlaDqnIdeal.Facts] : Prop :=
  ∀ (m : (ℓ : Loc Cert.MlaDqnIdeal.nD Cert.MlaDqnIdeal.τ Cert.MlaDqnIdeal.sig) → Buf (Elt Ideal) ℓ) (g : Dev Cert.MlaDqnIdeal.nD → PrngReg), Pre_MlaDqnIdeal m →
    θ_run (Cert.MlaDqnIdeal.defs (F := Ideal)) (onTc (τ := Cert.MlaDqnIdeal.τ) (Cert.MlaDqnIdeal.main (F := Ideal))) ⟨m, fun _ => 0, g⟩ (fun r => (∀ c : Dev Cert.MlaDqnIdeal.nD,
      r.2.mem ((c.tc : Thread Cert.MlaDqnIdeal.nD Cert.MlaDqnIdeal.τ).loc Cert.MlaDqnIdeal.main_arg0) = m ((c.tc : Thread Cert.MlaDqnIdeal.nD Cert.MlaDqnIdeal.τ).loc Cert.MlaDqnIdeal.main_arg0)
      ∧ r.2.mem ((c.tc : Thread Cert.MlaDqnIdeal.nD Cert.MlaDqnIdeal.τ).loc Cert.MlaDqnIdeal.main_arg1) = m ((c.tc : Thread Cert.MlaDqnIdeal.nD Cert.MlaDqnIdeal.τ).loc Cert.MlaDqnIdeal.main_arg1))
      ∧ r.2.sem = fun _ => 0)

def quiescent_MlaDqnRefIdeal [hMlaDqnRefIdeal : Cert.MlaDqnRefIdeal.Facts] : Prop :=
  ∀ (m : (ℓ : Loc Cert.MlaDqnRefIdeal.nD Cert.MlaDqnRefIdeal.τ Cert.MlaDqnRefIdeal.sig) → Buf (Elt Ideal) ℓ) (g : Dev Cert.MlaDqnRefIdeal.nD → PrngReg), Pre_MlaDqnRefIdeal m →
    θ_run (Cert.MlaDqnRefIdeal.defs (F := Ideal)) (onTc (τ := Cert.MlaDqnRefIdeal.τ) (Cert.MlaDqnRefIdeal.main (F := Ideal))) ⟨m, fun _ => 0, g⟩ (fun r => (∀ c : Dev Cert.MlaDqnRefIdeal.nD,
      r.2.mem ((c.tc : Thread Cert.MlaDqnRefIdeal.nD Cert.MlaDqnRefIdeal.τ).loc Cert.MlaDqnRefIdeal.main_arg0) = m ((c.tc : Thread Cert.MlaDqnRefIdeal.nD Cert.MlaDqnRefIdeal.τ).loc Cert.MlaDqnRefIdeal.main_arg0)
      ∧ r.2.mem ((c.tc : Thread Cert.MlaDqnRefIdeal.nD Cert.MlaDqnRefIdeal.τ).loc Cert.MlaDqnRefIdeal.main_arg1) = m ((c.tc : Thread Cert.MlaDqnRefIdeal.nD Cert.MlaDqnRefIdeal.τ).loc Cert.MlaDqnRefIdeal.main_arg1))
      ∧ r.2.sem = fun _ => 0)

def quiescent_MlaDh [hMlaDh : Cert.MlaDh.Facts] : Prop :=
  ∀ (m : (ℓ : Loc Cert.MlaDh.nD Cert.MlaDh.τ Cert.MlaDh.sig) → Buf (Elt Bits) ℓ) (g : Dev Cert.MlaDh.nD → PrngReg), Pre_MlaDh m →
    θ_run (Cert.MlaDh.defs (F := Bits)) (onTc (τ := Cert.MlaDh.τ) (Cert.MlaDh.main (F := Bits))) ⟨m, fun _ => 0, g⟩ (fun r => (∀ c : Dev Cert.MlaDh.nD,
      r.2.mem ((c.tc : Thread Cert.MlaDh.nD Cert.MlaDh.τ).loc Cert.MlaDh.main_arg0) = m ((c.tc : Thread Cert.MlaDh.nD Cert.MlaDh.τ).loc Cert.MlaDh.main_arg0)
      ∧ r.2.mem ((c.tc : Thread Cert.MlaDh.nD Cert.MlaDh.τ).loc Cert.MlaDh.main_arg1) = m ((c.tc : Thread Cert.MlaDh.nD Cert.MlaDh.τ).loc Cert.MlaDh.main_arg1))
      ∧ r.2.sem = fun _ => 0)

def quiescent_MlaDhIdeal [hMlaDhIdeal : Cert.MlaDhIdeal.Facts] : Prop :=
  ∀ (m : (ℓ : Loc Cert.MlaDhIdeal.nD Cert.MlaDhIdeal.τ Cert.MlaDhIdeal.sig) → Buf (Elt Ideal) ℓ) (g : Dev Cert.MlaDhIdeal.nD → PrngReg), Pre_MlaDhIdeal m →
    θ_run (Cert.MlaDhIdeal.defs (F := Ideal)) (onTc (τ := Cert.MlaDhIdeal.τ) (Cert.MlaDhIdeal.main (F := Ideal))) ⟨m, fun _ => 0, g⟩ (fun r => (∀ c : Dev Cert.MlaDhIdeal.nD,
      r.2.mem ((c.tc : Thread Cert.MlaDhIdeal.nD Cert.MlaDhIdeal.τ).loc Cert.MlaDhIdeal.main_arg0) = m ((c.tc : Thread Cert.MlaDhIdeal.nD Cert.MlaDhIdeal.τ).loc Cert.MlaDhIdeal.main_arg0)
      ∧ r.2.mem ((c.tc : Thread Cert.MlaDhIdeal.nD Cert.MlaDhIdeal.τ).loc Cert.MlaDhIdeal.main_arg1) = m ((c.tc : Thread Cert.MlaDhIdeal.nD Cert.MlaDhIdeal.τ).loc Cert.MlaDhIdeal.main_arg1))
      ∧ r.2.sem = fun _ => 0)

def quiescent_MlaDhRefIdeal [hMlaDhRefIdeal : Cert.MlaDhRefIdeal.Facts] : Prop :=
  ∀ (m : (ℓ : Loc Cert.MlaDhRefIdeal.nD Cert.MlaDhRefIdeal.τ Cert.MlaDhRefIdeal.sig) → Buf (Elt Ideal) ℓ) (g : Dev Cert.MlaDhRefIdeal.nD → PrngReg), Pre_MlaDhRefIdeal m →
    θ_run (Cert.MlaDhRefIdeal.defs (F := Ideal)) (onTc (τ := Cert.MlaDhRefIdeal.τ) (Cert.MlaDhRefIdeal.main (F := Ideal))) ⟨m, fun _ => 0, g⟩ (fun r => (∀ c : Dev Cert.MlaDhRefIdeal.nD,
      r.2.mem ((c.tc : Thread Cert.MlaDhRefIdeal.nD Cert.MlaDhRefIdeal.τ).loc Cert.MlaDhRefIdeal.main_arg0) = m ((c.tc : Thread Cert.MlaDhRefIdeal.nD Cert.MlaDhRefIdeal.τ).loc Cert.MlaDhRefIdeal.main_arg0)
      ∧ r.2.mem ((c.tc : Thread Cert.MlaDhRefIdeal.nD Cert.MlaDhRefIdeal.τ).loc Cert.MlaDhRefIdeal.main_arg1) = m ((c.tc : Thread Cert.MlaDhRefIdeal.nD Cert.MlaDhRefIdeal.τ).loc Cert.MlaDhRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1)
      ∧ r.2.mem ((c.tc : Thread Cert.MlaOut.nD Cert.MlaOut.τ).loc Cert.MlaOut.main_arg2) = m ((c.tc : Thread Cert.MlaOut.nD Cert.MlaOut.τ).loc Cert.MlaOut.main_arg2))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
      ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2))
      ∧ r.2.sem = fun _ => 0)

def quiescent_MlaOutRefIdeal [hMlaOutRefIdeal : Cert.MlaOutRefIdeal.Facts] : Prop :=
  ∀ (m : (ℓ : Loc Cert.MlaOutRefIdeal.nD Cert.MlaOutRefIdeal.τ Cert.MlaOutRefIdeal.sig) → Buf (Elt Ideal) ℓ) (g : Dev Cert.MlaOutRefIdeal.nD → PrngReg), Pre_MlaOutRefIdeal m →
    θ_run (Cert.MlaOutRefIdeal.defs (F := Ideal)) (onTc (τ := Cert.MlaOutRefIdeal.τ) (Cert.MlaOutRefIdeal.main (F := Ideal))) ⟨m, fun _ => 0, g⟩ (fun r => (∀ c : Dev Cert.MlaOutRefIdeal.nD,
      r.2.mem ((c.tc : Thread Cert.MlaOutRefIdeal.nD Cert.MlaOutRefIdeal.τ).loc Cert.MlaOutRefIdeal.main_arg0) = m ((c.tc : Thread Cert.MlaOutRefIdeal.nD Cert.MlaOutRefIdeal.τ).loc Cert.MlaOutRefIdeal.main_arg0)
      ∧ r.2.mem ((c.tc : Thread Cert.MlaOutRefIdeal.nD Cert.MlaOutRefIdeal.τ).loc Cert.MlaOutRefIdeal.main_arg1) = m ((c.tc : Thread Cert.MlaOutRefIdeal.nD Cert.MlaOutRefIdeal.τ).loc Cert.MlaOutRefIdeal.main_arg1)
      ∧ r.2.mem ((c.tc : Thread Cert.MlaOutRefIdeal.nD Cert.MlaOutRefIdeal.τ).loc Cert.MlaOutRefIdeal.main_arg2) = m ((c.tc : Thread Cert.MlaOutRefIdeal.nD Cert.MlaOutRefIdeal.τ).loc Cert.MlaOutRefIdeal.main_arg2))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ r.2.sem = fun _ => 0)

def quiescent_MlaInRefIdeal [hMlaInRefIdeal : Cert.MlaInRefIdeal.Facts] : Prop :=
  ∀ (m : (ℓ : Loc Cert.MlaInRefIdeal.nD Cert.MlaInRefIdeal.τ Cert.MlaInRefIdeal.sig) → Buf (Elt Ideal) ℓ) (g : Dev Cert.MlaInRefIdeal.nD → PrngReg), Pre_MlaInRefIdeal m →
    θ_run (Cert.MlaInRefIdeal.defs (F := Ideal)) (onTc (τ := Cert.MlaInRefIdeal.τ) (Cert.MlaInRefIdeal.main (F := Ideal))) ⟨m, fun _ => 0, g⟩ (fun r => (∀ c : Dev Cert.MlaInRefIdeal.nD,
      r.2.mem ((c.tc : Thread Cert.MlaInRefIdeal.nD Cert.MlaInRefIdeal.τ).loc Cert.MlaInRefIdeal.main_arg0) = m ((c.tc : Thread Cert.MlaInRefIdeal.nD Cert.MlaInRefIdeal.τ).loc Cert.MlaInRefIdeal.main_arg0)
      ∧ r.2.mem ((c.tc : Thread Cert.MlaInRefIdeal.nD Cert.MlaInRefIdeal.τ).loc Cert.MlaInRefIdeal.main_arg1) = m ((c.tc : Thread Cert.MlaInRefIdeal.nD Cert.MlaInRefIdeal.τ).loc Cert.MlaInRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ r.2.sem = fun _ => 0)

def quiescent_AdamARefIdeal [hAdamARefIdeal : Cert.AdamARefIdeal.Facts] : Prop :=
  ∀ (m : (ℓ : Loc Cert.AdamARefIdeal.nD Cert.AdamARefIdeal.τ Cert.AdamARefIdeal.sig) → Buf (Elt Ideal) ℓ) (g : Dev Cert.AdamARefIdeal.nD → PrngReg), Pre_AdamARefIdeal m →
    θ_run (Cert.AdamARefIdeal.defs (F := Ideal)) (onTc (τ := Cert.AdamARefIdeal.τ) (Cert.AdamARefIdeal.main (F := Ideal))) ⟨m, fun _ => 0, g⟩ (fun r => (∀ c : Dev Cert.AdamARefIdeal.nD,
      r.2.mem ((c.tc : Thread Cert.AdamARefIdeal.nD Cert.AdamARefIdeal.τ).loc Cert.AdamARefIdeal.main_arg0) = m ((c.tc : Thread Cert.AdamARefIdeal.nD Cert.AdamARefIdeal.τ).loc Cert.AdamARefIdeal.main_arg0)
      ∧ r.2.mem ((c.tc : Thread Cert.AdamARefIdeal.nD Cert.AdamARefIdeal.τ).loc Cert.AdamARefIdeal.main_arg1) = m ((c.tc : Thread Cert.AdamARefIdeal.nD Cert.AdamARefIdeal.τ).loc Cert.AdamARefIdeal.main_arg1)
      ∧ r.2.mem ((c.tc : Thread Cert.AdamARefIdeal.nD Cert.AdamARefIdeal.τ).loc Cert.AdamARefIdeal.main_arg2) = m ((c.tc : Thread Cert.AdamARefIdeal.nD Cert.AdamARefIdeal.τ).loc Cert.AdamARefIdeal.main_arg2)
      ∧ r.2.mem ((c.tc : Thread Cert.AdamARefIdeal.nD Cert.AdamARefIdeal.τ).loc Cert.AdamARefIdeal.main_arg3) = m ((c.tc : Thread Cert.AdamARefIdeal.nD Cert.AdamARefIdeal.τ).loc Cert.AdamARefIdeal.main_arg3))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ r.2.sem = fun _ => 0)

def quiescent_AdamCRefIdeal [hAdamCRefIdeal : Cert.AdamCRefIdeal.Facts] : Prop :=
  ∀ (m : (ℓ : Loc Cert.AdamCRefIdeal.nD Cert.AdamCRefIdeal.τ Cert.AdamCRefIdeal.sig) → Buf (Elt Ideal) ℓ) (g : Dev Cert.AdamCRefIdeal.nD → PrngReg), Pre_AdamCRefIdeal m →
    θ_run (Cert.AdamCRefIdeal.defs (F := Ideal)) (onTc (τ := Cert.AdamCRefIdeal.τ) (Cert.AdamCRefIdeal.main (F := Ideal))) ⟨m, fun _ => 0, g⟩ (fun r => (∀ c : Dev Cert.AdamCRefIdeal.nD,
      r.2.mem ((c.tc : Thread Cert.AdamCRefIdeal.nD Cert.AdamCRefIdeal.τ).loc Cert.AdamCRefIdeal.main_arg0) = m ((c.tc : Thread Cert.AdamCRefIdeal.nD Cert.AdamCRefIdeal.τ).loc Cert.AdamCRefIdeal.main_arg0)
      ∧ r.2.mem ((c.tc : Thread Cert.AdamCRefIdeal.nD Cert.AdamCRefIdeal.τ).loc Cert.AdamCRefIdeal.main_arg1) = m ((c.tc : Thread Cert.AdamCRefIdeal.nD Cert.AdamCRefIdeal.τ).loc Cert.AdamCRefIdeal.main_arg1)
      ∧ r.2.mem ((c.tc : Thread Cert.AdamCRefIdeal.nD Cert.AdamCRefIdeal.τ).loc Cert.AdamCRefIdeal.main_arg2) = m ((c.tc : Thread Cert.AdamCRefIdeal.nD Cert.AdamCRefIdeal.τ).loc Cert.AdamCRefIdeal.main_arg2)
      ∧ r.2.mem ((c.tc : Thread Cert.AdamCRefIdeal.nD Cert.AdamCRefIdeal.τ).loc Cert.AdamCRefIdeal.main_arg3) = m ((c.tc : Thread Cert.AdamCRefIdeal.nD Cert.AdamCRefIdeal.τ).loc Cert.AdamCRefIdeal.main_arg3))
      ∧ r.2.sem = fun _ => 0)

def quiescent_AdamD [hAdamD : Cert.AdamD.Facts] : Prop :=
  ∀ (m : (ℓ : Loc Cert.AdamD.nD Cert.AdamD.τ Cert.AdamD.sig) → Buf (Elt Bits) ℓ) (g : Dev Cert.AdamD.nD → PrngReg), Pre_AdamD m →
    θ_run (Cert.AdamD.defs (F := Bits)) (onTc (τ := Cert.AdamD.τ) (Cert.AdamD.main (F := Bits))) ⟨m, fun _ => 0, g⟩ (fun r => (∀ c : Dev Cert.AdamD.nD,
      r.2.mem ((c.tc : Thread Cert.AdamD.nD Cert.AdamD.τ).loc Cert.AdamD.main_arg0) = m ((c.tc : Thread Cert.AdamD.nD Cert.AdamD.τ).loc Cert.AdamD.main_arg0)
      ∧ r.2.mem ((c.tc : Thread Cert.AdamD.nD Cert.AdamD.τ).loc Cert.AdamD.main_arg1) = m ((c.tc : Thread Cert.AdamD.nD Cert.AdamD.τ).loc Cert.AdamD.main_arg1)
      ∧ r.2.mem ((c.tc : Thread Cert.AdamD.nD Cert.AdamD.τ).loc Cert.AdamD.main_arg2) = m ((c.tc : Thread Cert.AdamD.nD Cert.AdamD.τ).loc Cert.AdamD.main_arg2)
      ∧ r.2.mem ((c.tc : Thread Cert.AdamD.nD Cert.AdamD.τ).loc Cert.AdamD.main_arg3) = m ((c.tc : Thread Cert.AdamD.nD Cert.AdamD.τ).loc Cert.AdamD.main_arg3))
      ∧ r.2.sem = fun _ => 0)

def quiescent_AdamDIdeal [hAdamDIdeal : Cert.AdamDIdeal.Facts] : Prop :=
  ∀ (m : (ℓ : Loc Cert.AdamDIdeal.nD Cert.AdamDIdeal.τ Cert.AdamDIdeal.sig) → Buf (Elt Ideal) ℓ) (g : Dev Cert.AdamDIdeal.nD → PrngReg), Pre_AdamDIdeal m →
    θ_run (Cert.AdamDIdeal.defs (F := Ideal)) (onTc (τ := Cert.AdamDIdeal.τ) (Cert.AdamDIdeal.main (F := Ideal))) ⟨m, fun _ => 0, g⟩ (fun r => (∀ c : Dev Cert.AdamDIdeal.nD,
      r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
      ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
      ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
      ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3))
      ∧ r.2.sem = fun _ => 0)

def quiescent_AdamDRefIdeal [hAdamDRefIdeal : Cert.AdamDRefIdeal.Facts] : Prop :=
  ∀ (m : (ℓ : Loc Cert.AdamDRefIdeal.nD Cert.AdamDRefIdeal.τ Cert.AdamDRefIdeal.sig) → Buf (Elt Ideal) ℓ) (g : Dev Cert.AdamDRefIdeal.nD → PrngReg), Pre_AdamDRefIdeal m →
    θ_run (Cert.AdamDRefIdeal.defs (F := Ideal)) (onTc (τ := Cert.AdamDRefIdeal.τ) (Cert.AdamDRefIdeal.main (F := Ideal))) ⟨m, fun _ => 0, g⟩ (fun r => (∀ c : Dev Cert.AdamDRefIdeal.nD,
      r.2.mem ((c.tc : Thread Cert.AdamDRefIdeal.nD Cert.AdamDRefIdeal.τ).loc Cert.AdamDRefIdeal.main_arg0) = m ((c.tc : Thread Cert.AdamDRefIdeal.nD Cert.AdamDRefIdeal.τ).loc Cert.AdamDRefIdeal.main_arg0)
      ∧ r.2.mem ((c.tc : Thread Cert.AdamDRefIdeal.nD Cert.AdamDRefIdeal.τ).loc Cert.AdamDRefIdeal.main_arg1) = m ((c.tc : Thread Cert.AdamDRefIdeal.nD Cert.AdamDRefIdeal.τ).loc Cert.AdamDRefIdeal.main_arg1)
      ∧ r.2.mem ((c.tc : Thread Cert.AdamDRefIdeal.nD Cert.AdamDRefIdeal.τ).loc Cert.AdamDRefIdeal.main_arg2) = m ((c.tc : Thread Cert.AdamDRefIdeal.nD Cert.AdamDRefIdeal.τ).loc Cert.AdamDRefIdeal.main_arg2)
      ∧ r.2.mem ((c.tc : Thread Cert.AdamDRefIdeal.nD Cert.AdamDRefIdeal.τ).loc Cert.AdamDRefIdeal.main_arg3) = m ((c.tc : Thread Cert.AdamDRefIdeal.nD Cert.AdamDRefIdeal.τ).loc Cert.AdamDRefIdeal.main_arg3))
      ∧ r.2.sem = fun _ => 0)

def quiescent_AdamE [hAdamE : Cert.AdamE.Facts] : Prop :=
  ∀ (m : (ℓ : Loc Cert.AdamE.nD Cert.AdamE.τ Cert.AdamE.sig) → Buf (Elt Bits) ℓ) (g : Dev Cert.AdamE.nD → PrngReg), Pre_AdamE m →
    θ_run (Cert.AdamE.defs (F := Bits)) (onTc (τ := Cert.AdamE.τ) (Cert.AdamE.main (F := Bits))) ⟨m, fun _ => 0, g⟩ (fun r => (∀ c : Dev Cert.AdamE.nD,
      r.2.mem ((c.tc : Thread Cert.AdamE.nD Cert.AdamE.τ).loc Cert.AdamE.main_arg0) = m ((c.tc : Thread Cert.AdamE.nD Cert.AdamE.τ).loc Cert.AdamE.main_arg0)
      ∧ r.2.mem ((c.tc : Thread Cert.AdamE.nD Cert.AdamE.τ).loc Cert.AdamE.main_arg1) = m ((c.tc : Thread Cert.AdamE.nD Cert.AdamE.τ).loc Cert.AdamE.main_arg1)
      ∧ r.2.mem ((c.tc : Thread Cert.AdamE.nD Cert.AdamE.τ).loc Cert.AdamE.main_arg2) = m ((c.tc : Thread Cert.AdamE.nD Cert.AdamE.τ).loc Cert.AdamE.main_arg2)
      ∧ r.2.mem ((c.tc : Thread Cert.AdamE.nD Cert.AdamE.τ).loc Cert.AdamE.main_arg3) = m ((c.tc : Thread Cert.AdamE.nD Cert.AdamE.τ).loc Cert.AdamE.main_arg3))
      ∧ r.2.sem = fun _ => 0)

def quiescent_AdamEIdeal [hAdamEIdeal : Cert.AdamEIdeal.Facts] : Prop :=
  ∀ (m : (ℓ : Loc Cert.AdamEIdeal.nD Cert.AdamEIdeal.τ Cert.AdamEIdeal.sig) → Buf (Elt Ideal) ℓ) (g : Dev Cert.AdamEIdeal.nD → PrngReg), Pre_AdamEIdeal m →
    θ_run (Cert.AdamEIdeal.defs (F := Ideal)) (onTc (τ := Cert.AdamEIdeal.τ) (Cert.AdamEIdeal.main (F := Ideal))) ⟨m, fun _ => 0, g⟩ (fun r => (∀ c : Dev Cert.AdamEIdeal.nD,
      r.2.mem ((c.tc : Thread Cert.AdamEIdeal.nD Cert.AdamEIdeal.τ).loc Cert.AdamEIdeal.main_arg0) = m ((c.tc : Thread Cert.AdamEIdeal.nD Cert.AdamEIdeal.τ).loc Cert.AdamEIdeal.main_arg0)
      ∧ r.2.mem ((c.tc : Thread Cert.AdamEIdeal.nD Cert.AdamEIdeal.τ).loc Cert.AdamEIdeal.main_arg1) = m ((c.tc : Thread Cert.AdamEIdeal.nD Cert.AdamEIdeal.τ).loc Cert.AdamEIdeal.main_arg1)
      ∧ r.2.mem ((c.tc : Thread Cert.AdamEIdeal.nD Cert.AdamEIdeal.τ).loc Cert.AdamEIdeal.main_arg2) = m ((c.tc : Thread Cert.AdamEIdeal.nD Cert.AdamEIdeal.τ).loc Cert.AdamEIdeal.main_arg2)
      ∧ r.2.mem ((c.tc : Thread Cert.AdamEIdeal.nD Cert.AdamEIdeal.τ).loc Cert.AdamEIdeal.main_arg3) = m ((c.tc : Thread Cert.AdamEIdeal.nD Cert.AdamEIdeal.τ).loc Cert.AdamEIdeal.main_arg3))
      ∧ r.2.sem = fun _ => 0)

def quiescent_AdamERefIdeal [hAdamERefIdeal : Cert.AdamERefIdeal.Facts] : Prop :=
  ∀ (m : (ℓ : Loc Cert.AdamERefIdeal.nD Cert.AdamERefIdeal.τ Cert.AdamERefIdeal.sig) → Buf (Elt Ideal) ℓ) (g : Dev Cert.AdamERefIdeal.nD → PrngReg), Pre_AdamERefIdeal m →
    θ_run (Cert.AdamERefIdeal.defs (F := Ideal)) (onTc (τ := Cert.AdamERefIdeal.τ) (Cert.AdamERefIdeal.main (F := Ideal))) ⟨m, fun _ => 0, g⟩ (fun r => (∀ c : Dev Cert.AdamERefIdeal.nD,
      r.2.mem ((c.tc : Thread Cert.AdamERefIdeal.nD Cert.AdamERefIdeal.τ).loc Cert.AdamERefIdeal.main_arg0) = m ((c.tc : Thread Cert.AdamERefIdeal.nD Cert.AdamERefIdeal.τ).loc Cert.AdamERefIdeal.main_arg0)
      ∧ r.2.mem ((c.tc : Thread Cert.AdamERefIdeal.nD Cert.AdamERefIdeal.τ).loc Cert.AdamERefIdeal.main_arg1) = m ((c.tc : Thread Cert.AdamERefIdeal.nD Cert.AdamERefIdeal.τ).loc Cert.AdamERefIdeal.main_arg1)
      ∧ r.2.mem ((c.tc : Thread Cert.AdamERefIdeal.nD Cert.AdamERefIdeal.τ).loc Cert.AdamERefIdeal.main_arg2) = m ((c.tc : Thread Cert.AdamERefIdeal.nD Cert.AdamERefIdeal.τ).loc Cert.AdamERefIdeal.main_arg2)
      ∧ r.2.mem ((c.tc : Thread Cert.AdamERefIdeal.nD Cert.AdamERefIdeal.τ).loc Cert.AdamERefIdeal.main_arg3) = m ((c.tc : Thread Cert.AdamERefIdeal.nD Cert.AdamERefIdeal.τ).loc Cert.AdamERefIdeal.main_arg3))
      ∧ r.2.sem = fun _ => 0)

def quiescent_AdamF [hAdamF : Cert.AdamF.Facts] : Prop :=
  ∀ (m : (ℓ : Loc Cert.AdamF.nD Cert.AdamF.τ Cert.AdamF.sig) → Buf (Elt Bits) ℓ) (g : Dev Cert.AdamF.nD → PrngReg), Pre_AdamF m →
    θ_run (Cert.AdamF.defs (F := Bits)) (onTc (τ := Cert.AdamF.τ) (Cert.AdamF.main (F := Bits))) ⟨m, fun _ => 0, g⟩ (fun r => (∀ c : Dev Cert.AdamF.nD,
      r.2.mem ((c.tc : Thread Cert.AdamF.nD Cert.AdamF.τ).loc Cert.AdamF.main_arg0) = m ((c.tc : Thread Cert.AdamF.nD Cert.AdamF.τ).loc Cert.AdamF.main_arg0)
      ∧ r.2.mem ((c.tc : Thread Cert.AdamF.nD Cert.AdamF.τ).loc Cert.AdamF.main_arg1) = m ((c.tc : Thread Cert.AdamF.nD Cert.AdamF.τ).loc Cert.AdamF.main_arg1)
      ∧ r.2.mem ((c.tc : Thread Cert.AdamF.nD Cert.AdamF.τ).loc Cert.AdamF.main_arg2) = m ((c.tc : Thread Cert.AdamF.nD Cert.AdamF.τ).loc Cert.AdamF.main_arg2)
      ∧ r.2.mem ((c.tc : Thread Cert.AdamF.nD Cert.AdamF.τ).loc Cert.AdamF.main_arg3) = m ((c.tc : Thread Cert.AdamF.nD Cert.AdamF.τ).loc Cert.AdamF.main_arg3))
      ∧ r.2.sem = fun _ => 0)

def quiescent_AdamFIdeal [hAdamFIdeal : Cert.AdamFIdeal.Facts] : Prop :=
  ∀ (m : (ℓ : Loc Cert.AdamFIdeal.nD Cert.AdamFIdeal.τ Cert.AdamFIdeal.sig) → Buf (Elt Ideal) ℓ) (g : Dev Cert.AdamFIdeal.nD → PrngReg), Pre_AdamFIdeal m →
    θ_run (Cert.AdamFIdeal.defs (F := Ideal)) (onTc (τ := Cert.AdamFIdeal.τ) (Cert.AdamFIdeal.main (F := Ideal))) ⟨m, fun _ => 0, g⟩ (fun r => (∀ c : Dev Cert.AdamFIdeal.nD,
      r.2.mem ((c.tc : Thread Cert.AdamFIdeal.nD Cert.AdamFIdeal.τ).loc Cert.AdamFIdeal.main_arg0) = m ((c.tc : Thread Cert.AdamFIdeal.nD Cert.AdamFIdeal.τ).loc Cert.AdamFIdeal.main_arg0)
      ∧ r.2.mem ((c.tc : Thread Cert.AdamFIdeal.nD Cert.AdamFIdeal.τ).loc Cert.AdamFIdeal.main_arg1) = m ((c.tc : Thread Cert.AdamFIdeal.nD Cert.AdamFIdeal.τ).loc Cert.AdamFIdeal.main_arg1)
      ∧ r.2.mem ((c.tc : Thread Cert.AdamFIdeal.nD Cert.AdamFIdeal.τ).loc Cert.AdamFIdeal.main_arg2) = m ((c.tc : Thread Cert.AdamFIdeal.nD Cert.AdamFIdeal.τ).loc Cert.AdamFIdeal.main_arg2)
      ∧ r.2.mem ((c.tc : Thread Cert.AdamFIdeal.nD Cert.AdamFIdeal.τ).loc Cert.AdamFIdeal.main_arg3) = m ((c.tc : Thread Cert.AdamFIdeal.nD Cert.AdamFIdeal.τ).loc Cert.AdamFIdeal.main_arg3))
      ∧ r.2.sem = fun _ => 0)

def quiescent_AdamFRefIdeal [hAdamFRefIdeal : Cert.AdamFRefIdeal.Facts] : Prop :=
  ∀ (m : (ℓ : Loc Cert.AdamFRefIdeal.nD Cert.AdamFRefIdeal.τ Cert.AdamFRefIdeal.sig) → Buf (Elt Ideal) ℓ) (g : Dev Cert.AdamFRefIdeal.nD → PrngReg), Pre_AdamFRefIdeal m →
    θ_run (Cert.AdamFRefIdeal.defs (F := Ideal)) (onTc (τ := Cert.AdamFRefIdeal.τ) (Cert.AdamFRefIdeal.main (F := Ideal))) ⟨m, fun _ => 0, g⟩ (fun r => (∀ c : Dev Cert.AdamFRefIdeal.nD,
      r.2.mem ((c.tc : Thread Cert.AdamFRefIdeal.nD Cert.AdamFRefIdeal.τ).loc Cert.AdamFRefIdeal.main_arg0) = m ((c.tc : Thread Cert.AdamFRefIdeal.nD Cert.AdamFRefIdeal.τ).loc Cert.AdamFRefIdeal.main_arg0)
      ∧ r.2.mem ((c.tc : Thread Cert.AdamFRefIdeal.nD Cert.AdamFRefIdeal.τ).loc Cert.AdamFRefIdeal.main_arg1) = m ((c.tc : Thread Cert.AdamFRefIdeal.nD Cert.AdamFRefIdeal.τ).loc Cert.AdamFRefIdeal.main_arg1)
      ∧ r.2.mem ((c.tc : Thread Cert.AdamFRefIdeal.nD Cert.AdamFRefIdeal.τ).loc Cert.AdamFRefIdeal.main_arg2) = m ((c.tc : Thread Cert.AdamFRefIdeal.nD Cert.AdamFRefIdeal.τ).loc Cert.AdamFRefIdeal.main_arg2)
      ∧ r.2.mem ((c.tc : Thread Cert.AdamFRefIdeal.nD Cert.AdamFRefIdeal.τ).loc Cert.AdamFRefIdeal.main_arg3) = m ((c.tc : Thread Cert.AdamFRefIdeal.nD Cert.AdamFRefIdeal.τ).loc Cert.AdamFRefIdeal.main_arg3))
      ∧ r.2.sem = fun _ => 0)

def quiescent_AdamG [hAdamG : Cert.AdamG.Facts] : Prop :=
  ∀ (m : (ℓ : Loc Cert.AdamG.nD Cert.AdamG.τ Cert.AdamG.sig) → Buf (Elt Bits) ℓ) (g : Dev Cert.AdamG.nD → PrngReg), Pre_AdamG m →
    θ_run (Cert.AdamG.defs (F := Bits)) (onTc (τ := Cert.AdamG.τ) (Cert.AdamG.main (F := Bits))) ⟨m, fun _ => 0, g⟩ (fun r => (∀ c : Dev Cert.AdamG.nD,
      r.2.mem ((c.tc : Thread Cert.AdamG.nD Cert.AdamG.τ).loc Cert.AdamG.main_arg0) = m ((c.tc : Thread Cert.AdamG.nD Cert.AdamG.τ).loc Cert.AdamG.main_arg0)
      ∧ r.2.mem ((c.tc : Thread Cert.AdamG.nD Cert.AdamG.τ).loc Cert.AdamG.main_arg1) = m ((c.tc : Thread Cert.AdamG.nD Cert.AdamG.τ).loc Cert.AdamG.main_arg1)
      ∧ r.2.mem ((c.tc : Thread Cert.AdamG.nD Cert.AdamG.τ).loc Cert.AdamG.main_arg2) = m ((c.tc : Thread Cert.AdamG.nD Cert.AdamG.τ).loc Cert.AdamG.main_arg2)
      ∧ r.2.mem ((c.tc : Thread Cert.AdamG.nD Cert.AdamG.τ).loc Cert.AdamG.main_arg3) = m ((c.tc : Thread Cert.AdamG.nD Cert.AdamG.τ).loc Cert.AdamG.main_arg3))
      ∧ r.2.sem = fun _ => 0)

def quiescent_AdamGIdeal [hAdamGIdeal : Cert.AdamGIdeal.Facts] : Prop :=
  ∀ (m : (ℓ : Loc Cert.AdamGIdeal.nD Cert.AdamGIdeal.τ Cert.AdamGIdeal.sig) → Buf (Elt Ideal) ℓ) (g : Dev Cert.AdamGIdeal.nD → PrngReg), Pre_AdamGIdeal m →
    θ_run (Cert.AdamGIdeal.defs (F := Ideal)) (onTc (τ := Cert.AdamGIdeal.τ) (Cert.AdamGIdeal.main (F := Ideal))) ⟨m, fun _ => 0, g⟩ (fun r => (∀ c : Dev Cert.AdamGIdeal.nD,
      r.2.mem ((c.tc : Thread Cert.AdamGIdeal.nD Cert.AdamGIdeal.τ).loc Cert.AdamGIdeal.main_arg0) = m ((c.tc : Thread Cert.AdamGIdeal.nD Cert.AdamGIdeal.τ).loc Cert.AdamGIdeal.main_arg0)
      ∧ r.2.mem ((c.tc : Thread Cert.AdamGIdeal.nD Cert.AdamGIdeal.τ).loc Cert.AdamGIdeal.main_arg1) = m ((c.tc : Thread Cert.AdamGIdeal.nD Cert.AdamGIdeal.τ).loc Cert.AdamGIdeal.main_arg1)
      ∧ r.2.mem ((c.tc : Thread Cert.AdamGIdeal.nD Cert.AdamGIdeal.τ).loc Cert.AdamGIdeal.main_arg2) = m ((c.tc : Thread Cert.AdamGIdeal.nD Cert.AdamGIdeal.τ).loc Cert.AdamGIdeal.main_arg2)
      ∧ r.2.mem ((c.tc : Thread Cert.AdamGIdeal.nD Cert.AdamGIdeal.τ).loc Cert.AdamGIdeal.main_arg3) = m ((c.tc : Thread Cert.AdamGIdeal.nD Cert.AdamGIdeal.τ).loc Cert.AdamGIdeal.main_arg3))
      ∧ r.2.sem = fun _ => 0)

def quiescent_AdamGRefIdeal [hAdamGRefIdeal : Cert.AdamGRefIdeal.Facts] : Prop :=
  ∀ (m : (ℓ : Loc Cert.AdamGRefIdeal.nD Cert.AdamGRefIdeal.τ Cert.AdamGRefIdeal.sig) → Buf (Elt Ideal) ℓ) (g : Dev Cert.AdamGRefIdeal.nD → PrngReg), Pre_AdamGRefIdeal m →
    θ_run (Cert.AdamGRefIdeal.defs (F := Ideal)) (onTc (τ := Cert.AdamGRefIdeal.τ) (Cert.AdamGRefIdeal.main (F := Ideal))) ⟨m, fun _ => 0, g⟩ (fun r => (∀ c : Dev Cert.AdamGRefIdeal.nD,
      r.2.mem ((c.tc : Thread Cert.AdamGRefIdeal.nD Cert.AdamGRefIdeal.τ).loc Cert.AdamGRefIdeal.main_arg0) = m ((c.tc : Thread Cert.AdamGRefIdeal.nD Cert.AdamGRefIdeal.τ).loc Cert.AdamGRefIdeal.main_arg0)
      ∧ r.2.mem ((c.tc : Thread Cert.AdamGRefIdeal.nD Cert.AdamGRefIdeal.τ).loc Cert.AdamGRefIdeal.main_arg1) = m ((c.tc : Thread Cert.AdamGRefIdeal.nD Cert.AdamGRefIdeal.τ).loc Cert.AdamGRefIdeal.main_arg1)
      ∧ r.2.mem ((c.tc : Thread Cert.AdamGRefIdeal.nD Cert.AdamGRefIdeal.τ).loc Cert.AdamGRefIdeal.main_arg2) = m ((c.tc : Thread Cert.AdamGRefIdeal.nD Cert.AdamGRefIdeal.τ).loc Cert.AdamGRefIdeal.main_arg2)
      ∧ r.2.mem ((c.tc : Thread Cert.AdamGRefIdeal.nD Cert.AdamGRefIdeal.τ).loc Cert.AdamGRefIdeal.main_arg3) = m ((c.tc : Thread Cert.AdamGRefIdeal.nD Cert.AdamGRefIdeal.τ).loc Cert.AdamGRefIdeal.main_arg3))
      ∧ r.2.sem = fun _ => 0)

def quiescent_AdamR [hAdamR : Cert.AdamR.Facts] : Prop :=
  ∀ (m : (ℓ : Loc Cert.AdamR.nD Cert.AdamR.τ Cert.AdamR.sig) → Buf (Elt Bits) ℓ) (g : Dev Cert.AdamR.nD → PrngReg), Pre_AdamR m →
    θ_run (Cert.AdamR.defs (F := Bits)) (onTc (τ := Cert.AdamR.τ) (Cert.AdamR.main (F := Bits))) ⟨m, fun _ => 0, g⟩ (fun r => (∀ c : Dev Cert.AdamR.nD,
      r.2.mem ((c.tc : Thread Cert.AdamR.nD Cert.AdamR.τ).loc Cert.AdamR.main_arg0) = m ((c.tc : Thread Cert.AdamR.nD Cert.AdamR.τ).loc Cert.AdamR.main_arg0)
      ∧ r.2.mem ((c.tc : Thread Cert.AdamR.nD Cert.AdamR.τ).loc Cert.AdamR.main_arg1) = m ((c.tc : Thread Cert.AdamR.nD Cert.AdamR.τ).loc Cert.AdamR.main_arg1)
      ∧ r.2.mem ((c.tc : Thread Cert.AdamR.nD Cert.AdamR.τ).loc Cert.AdamR.main_arg2) = m ((c.tc : Thread Cert.AdamR.nD Cert.AdamR.τ).loc Cert.AdamR.main_arg2)
      ∧ r.2.mem ((c.tc : Thread Cert.AdamR.nD Cert.AdamR.τ).loc Cert.AdamR.main_arg3) = m ((c.tc : Thread Cert.AdamR.nD Cert.AdamR.τ).loc Cert.AdamR.main_arg3))
      ∧ r.2.sem = fun _ => 0)

def quiescent_AdamRIdeal [hAdamRIdeal : Cert.AdamRIdeal.Facts] : Prop :=
  ∀ (m : (ℓ : Loc Cert.AdamRIdeal.nD Cert.AdamRIdeal.τ Cert.AdamRIdeal.sig) → Buf (Elt Ideal) ℓ) (g : Dev Cert.AdamRIdeal.nD → PrngReg), Pre_AdamRIdeal m →
    θ_run (Cert.AdamRIdeal.defs (F := Ideal)) (onTc (τ := Cert.AdamRIdeal.τ) (Cert.AdamRIdeal.main (F := Ideal))) ⟨m, fun _ => 0, g⟩ (fun r => (∀ c : Dev Cert.AdamRIdeal.nD,
      r.2.mem ((c.tc : Thread Cert.AdamRIdeal.nD Cert.AdamRIdeal.τ).loc Cert.AdamRIdeal.main_arg0) = m ((c.tc : Thread Cert.AdamRIdeal.nD Cert.AdamRIdeal.τ).loc Cert.AdamRIdeal.main_arg0)
      ∧ r.2.mem ((c.tc : Thread Cert.AdamRIdeal.nD Cert.AdamRIdeal.τ).loc Cert.AdamRIdeal.main_arg1) = m ((c.tc : Thread Cert.AdamRIdeal.nD Cert.AdamRIdeal.τ).loc Cert.AdamRIdeal.main_arg1)
      ∧ r.2.mem ((c.tc : Thread Cert.AdamRIdeal.nD Cert.AdamRIdeal.τ).loc Cert.AdamRIdeal.main_arg2) = m ((c.tc : Thread Cert.AdamRIdeal.nD Cert.AdamRIdeal.τ).loc Cert.AdamRIdeal.main_arg2)
      ∧ r.2.mem ((c.tc : Thread Cert.AdamRIdeal.nD Cert.AdamRIdeal.τ).loc Cert.AdamRIdeal.main_arg3) = m ((c.tc : Thread Cert.AdamRIdeal.nD Cert.AdamRIdeal.τ).loc Cert.AdamRIdeal.main_arg3))
      ∧ r.2.sem = fun _ => 0)

def quiescent_AdamRRefIdeal [hAdamRRefIdeal : Cert.AdamRRefIdeal.Facts] : Prop :=
  ∀ (m : (ℓ : Loc Cert.AdamRRefIdeal.nD Cert.AdamRRefIdeal.τ Cert.AdamRRefIdeal.sig) → Buf (Elt Ideal) ℓ) (g : Dev Cert.AdamRRefIdeal.nD → PrngReg), Pre_AdamRRefIdeal m →
    θ_run (Cert.AdamRRefIdeal.defs (F := Ideal)) (onTc (τ := Cert.AdamRRefIdeal.τ) (Cert.AdamRRefIdeal.main (F := Ideal))) ⟨m, fun _ => 0, g⟩ (fun r => (∀ c : Dev Cert.AdamRRefIdeal.nD,
      r.2.mem ((c.tc : Thread Cert.AdamRRefIdeal.nD Cert.AdamRRefIdeal.τ).loc Cert.AdamRRefIdeal.main_arg0) = m ((c.tc : Thread Cert.AdamRRefIdeal.nD Cert.AdamRRefIdeal.τ).loc Cert.AdamRRefIdeal.main_arg0)
      ∧ r.2.mem ((c.tc : Thread Cert.AdamRRefIdeal.nD Cert.AdamRRefIdeal.τ).loc Cert.AdamRRefIdeal.main_arg1) = m ((c.tc : Thread Cert.AdamRRefIdeal.nD Cert.AdamRRefIdeal.τ).loc Cert.AdamRRefIdeal.main_arg1)
      ∧ r.2.mem ((c.tc : Thread Cert.AdamRRefIdeal.nD Cert.AdamRRefIdeal.τ).loc Cert.AdamRRefIdeal.main_arg2) = m ((c.tc : Thread Cert.AdamRRefIdeal.nD Cert.AdamRRefIdeal.τ).loc Cert.AdamRRefIdeal.main_arg2)
      ∧ r.2.mem ((c.tc : Thread Cert.AdamRRefIdeal.nD Cert.AdamRRefIdeal.τ).loc Cert.AdamRRefIdeal.main_arg3) = m ((c.tc : Thread Cert.AdamRRefIdeal.nD Cert.AdamRRefIdeal.τ).loc Cert.AdamRRefIdeal.main_arg3))
      ∧ r.2.sem = fun _ => 0)

def quiescent_AdamS [hAdamS : Cert.AdamS.Facts] : Prop :=
  ∀ (m : (ℓ : Loc Cert.AdamS.nD Cert.AdamS.τ Cert.AdamS.sig) → Buf (Elt Bits) ℓ) (g : Dev Cert.AdamS.nD → PrngReg), Pre_AdamS m →
    θ_run (Cert.AdamS.defs (F := Bits)) (onTc (τ := Cert.AdamS.τ) (Cert.AdamS.main (F := Bits))) ⟨m, fun _ => 0, g⟩ (fun r => (∀ c : Dev Cert.AdamS.nD,
      r.2.mem ((c.tc : Thread Cert.AdamS.nD Cert.AdamS.τ).loc Cert.AdamS.main_arg0) = m ((c.tc : Thread Cert.AdamS.nD Cert.AdamS.τ).loc Cert.AdamS.main_arg0)
      ∧ r.2.mem ((c.tc : Thread Cert.AdamS.nD Cert.AdamS.τ).loc Cert.AdamS.main_arg1) = m ((c.tc : Thread Cert.AdamS.nD Cert.AdamS.τ).loc Cert.AdamS.main_arg1)
      ∧ r.2.mem ((c.tc : Thread Cert.AdamS.nD Cert.AdamS.τ).loc Cert.AdamS.main_arg2) = m ((c.tc : Thread Cert.AdamS.nD Cert.AdamS.τ).loc Cert.AdamS.main_arg2)
      ∧ r.2.mem ((c.tc : Thread Cert.AdamS.nD Cert.AdamS.τ).loc Cert.AdamS.main_arg3) = m ((c.tc : Thread Cert.AdamS.nD Cert.AdamS.τ).loc Cert.AdamS.main_arg3))
      ∧ r.2.sem = fun _ => 0)

def quiescent_AdamSIdeal [hAdamSIdeal : Cert.AdamSIdeal.Facts] : Prop :=
  ∀ (m : (ℓ : Loc Cert.AdamSIdeal.nD Cert.AdamSIdeal.τ Cert.AdamSIdeal.sig) → Buf (Elt Ideal) ℓ) (g : Dev Cert.AdamSIdeal.nD → PrngReg), Pre_AdamSIdeal m →
    θ_run (Cert.AdamSIdeal.defs (F := Ideal)) (onTc (τ := Cert.AdamSIdeal.τ) (Cert.AdamSIdeal.main (F := Ideal))) ⟨m, fun _ => 0, g⟩ (fun r => (∀ c : Dev Cert.AdamSIdeal.nD,
      r.2.mem ((c.tc : Thread Cert.AdamSIdeal.nD Cert.AdamSIdeal.τ).loc Cert.AdamSIdeal.main_arg0) = m ((c.tc : Thread Cert.AdamSIdeal.nD Cert.AdamSIdeal.τ).loc Cert.AdamSIdeal.main_arg0)
      ∧ r.2.mem ((c.tc : Thread Cert.AdamSIdeal.nD Cert.AdamSIdeal.τ).loc Cert.AdamSIdeal.main_arg1) = m ((c.tc : Thread Cert.AdamSIdeal.nD Cert.AdamSIdeal.τ).loc Cert.AdamSIdeal.main_arg1)
      ∧ r.2.mem ((c.tc : Thread Cert.AdamSIdeal.nD Cert.AdamSIdeal.τ).loc Cert.AdamSIdeal.main_arg2) = m ((c.tc : Thread Cert.AdamSIdeal.nD Cert.AdamSIdeal.τ).loc Cert.AdamSIdeal.main_arg2)
      ∧ r.2.mem ((c.tc : Thread Cert.AdamSIdeal.nD Cert.AdamSIdeal.τ).loc Cert.AdamSIdeal.main_arg3) = m ((c.tc : Thread Cert.AdamSIdeal.nD Cert.AdamSIdeal.τ).loc Cert.AdamSIdeal.main_arg3))
      ∧ r.2.sem = fun _ => 0)

def quiescent_AdamSRefIdeal [hAdamSRefIdeal : Cert.AdamSRefIdeal.Facts] : Prop :=
  ∀ (m : (ℓ : Loc Cert.AdamSRefIdeal.nD Cert.AdamSRefIdeal.τ Cert.AdamSRefIdeal.sig) → Buf (Elt Ideal) ℓ) (g : Dev Cert.AdamSRefIdeal.nD → PrngReg), Pre_AdamSRefIdeal m →
    θ_run (Cert.AdamSRefIdeal.defs (F := Ideal)) (onTc (τ := Cert.AdamSRefIdeal.τ) (Cert.AdamSRefIdeal.main (F := Ideal))) ⟨m, fun _ => 0, g⟩ (fun r => (∀ c : Dev Cert.AdamSRefIdeal.nD,
      r.2.mem ((c.tc : Thread Cert.AdamSRefIdeal.nD Cert.AdamSRefIdeal.τ).loc Cert.AdamSRefIdeal.main_arg0) = m ((c.tc : Thread Cert.AdamSRefIdeal.nD Cert.AdamSRefIdeal.τ).loc Cert.AdamSRefIdeal.main_arg0)
      ∧ r.2.mem ((c.tc : Thread Cert.AdamSRefIdeal.nD Cert.AdamSRefIdeal.τ).loc Cert.AdamSRefIdeal.main_arg1) = m ((c.tc : Thread Cert.AdamSRefIdeal.nD Cert.AdamSRefIdeal.τ).loc Cert.AdamSRefIdeal.main_arg1)
      ∧ r.2.mem ((c.tc : Thread Cert.AdamSRefIdeal.nD Cert.AdamSRefIdeal.τ).loc Cert.AdamSRefIdeal.main_arg2) = m ((c.tc : Thread Cert.AdamSRefIdeal.nD Cert.AdamSRefIdeal.τ).loc Cert.AdamSRefIdeal.main_arg2)
      ∧ r.2.mem ((c.tc : Thread Cert.AdamSRefIdeal.nD Cert.AdamSRefIdeal.τ).loc Cert.AdamSRefIdeal.main_arg3) = m ((c.tc : Thread Cert.AdamSRefIdeal.nD Cert.AdamSRefIdeal.τ).loc Cert.AdamSRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87_0)) (v1 : (c : Dev Cert.KernelIdeal.nD) → Buf (Elt Ideal) ((c.tc : Thread Cert.KernelIdeal.nD Cert.KernelIdeal.τ).loc Cert.KernelIdeal.main_v87_1)) (v2 : (c : Dev Cert.KernelIdeal.nD) → Buf (Elt Ideal) ((c.tc : Thread Cert.KernelIdeal.nD Cert.KernelIdeal.τ).loc Cert.KernelIdeal.main_v87_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_0) = v0 c
          ∧ r.2.mem ((c.tc : Thread Cert.KernelIdeal.nD Cert.KernelIdeal.τ).loc Cert.KernelIdeal.main_v87_1) = v1 c
          ∧ r.2.mem ((c.tc : Thread Cert.KernelIdeal.nD Cert.KernelIdeal.τ).loc Cert.KernelIdeal.main_v87_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Dz_DzIdeal : Prop :=
  True

def algebraic_DzIdeal_DzRefIdeal [hDzIdeal : Cert.DzIdeal.Facts] [hDzRefIdeal : Cert.DzRefIdeal.Facts] : Prop :=
  ∀ (m : (ℓ : Loc Cert.DzIdeal.nD Cert.DzIdeal.τ Cert.DzIdeal.sig) → Buf (Elt Ideal) ℓ) (g : Dev Cert.DzIdeal.nD → PrngReg)
    (m' : (ℓ : Loc Cert.DzRefIdeal.nD Cert.DzRefIdeal.τ Cert.DzRefIdeal.sig) → Buf (Elt Ideal) ℓ) (g' : Dev Cert.DzRefIdeal.nD → PrngReg), Pre_DzIdeal m →
    (∀ c : Dev Cert.DzIdeal.nD,
      m' ((c.tc : Thread Cert.DzRefIdeal.nD Cert.DzRefIdeal.τ).loc Cert.DzRefIdeal.main_arg0) = m ((c.tc : Thread Cert.DzIdeal.nD Cert.DzIdeal.τ).loc Cert.DzIdeal.main_arg0)
      ∧ m' ((c.tc : Thread Cert.DzRefIdeal.nD Cert.DzRefIdeal.τ).loc Cert.DzRefIdeal.main_arg1) = m ((c.tc : Thread Cert.DzIdeal.nD Cert.DzIdeal.τ).loc Cert.DzIdeal.main_arg1)
      ∧ m' ((c.tc : Thread Cert.DzRefIdeal.nD Cert.DzRefIdeal.τ).loc Cert.DzRefIdeal.main_arg2) = m ((c.tc : Thread Cert.DzIdeal.nD Cert.DzIdeal.τ).loc Cert.DzIdeal.main_arg2)) →
    ∃ (v0 : (c : Dev Cert.DzIdeal.nD) → Buf (Elt Ideal) ((c.tc : Thread Cert.DzIdeal.nD Cert.DzIdeal.τ).loc Cert.DzIdeal.main_v0)),
      θ_run (Cert.DzIdeal.defs (F := Ideal)) (onTc (τ := Cert.DzIdeal.τ) (Cert.DzIdeal.main (F := Ideal))) ⟨m, fun _ => 0, g⟩ (fun r => ∀ c : Dev Cert.DzIdeal.nD,
          r.2.mem ((c.tc : Thread Cert.DzIdeal.nD Cert.DzIdeal.τ).loc Cert.DzIdeal.main_v0) = v0 c
          ∧ r.2.mem ((c.tc : Thread Cert.DzIdeal.nD Cert.DzIdeal.τ).loc Cert.DzIdeal.main_arg0) = m ((c.tc : Thread Cert.DzIdeal.nD Cert.DzIdeal.τ).loc Cert.DzIdeal.main_arg0)
          ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
          ∧ r.2.mem ((c.tc : Thread Cert.DzIdeal.nD Cert.DzIdeal.τ).loc Cert.DzIdeal.main_arg2) = m ((c.tc : Thread Cert.DzIdeal.nD Cert.DzIdeal.τ).loc Cert.DzIdeal.main_arg2))
      ∧ θ_run (Cert.DzRefIdeal.defs (F := Ideal)) (onTc (τ := Cert.DzRefIdeal.τ) (Cert.DzRefIdeal.main (F := Ideal))) ⟨m', fun _ => 0, g'⟩ (fun r => ∀ c : Dev Cert.DzRefIdeal.nD,
          r.2.mem ((c.tc : Thread Cert.DzRefIdeal.nD Cert.DzRefIdeal.τ).loc Cert.DzRefIdeal.main_v15) = v0 c
          ∧ r.2.mem ((c.tc : Thread Cert.DzRefIdeal.nD Cert.DzRefIdeal.τ).loc Cert.DzRefIdeal.main_arg0) = m' ((c.tc : Thread Cert.DzRefIdeal.nD Cert.DzRefIdeal.τ).loc Cert.DzRefIdeal.main_arg0)
          ∧ r.2.mem ((c.tc : Thread Cert.DzRefIdeal.nD Cert.DzRefIdeal.τ).loc Cert.DzRefIdeal.main_arg1) = m' ((c.tc : Thread Cert.DzRefIdeal.nD Cert.DzRefIdeal.τ).loc Cert.DzRefIdeal.main_arg1)
          ∧ r.2.mem ((c.tc : Thread Cert.DzRefIdeal.nD Cert.DzRefIdeal.τ).loc Cert.DzRefIdeal.main_arg2) = m' ((c.tc : Thread Cert.DzRefIdeal.nD Cert.DzRefIdeal.τ).loc Cert.DzRefIdeal.main_arg2))

def preserves_Dwb_DwbIdeal : Prop :=
  True

def algebraic_DwbIdeal_DwbRefIdeal [hDwbIdeal : Cert.DwbIdeal.Facts] [hDwbRefIdeal : Cert.DwbRefIdeal.Facts] : Prop :=
  ∀ (m : (ℓ : Loc Cert.DwbIdeal.nD Cert.DwbIdeal.τ Cert.DwbIdeal.sig) → Buf (Elt Ideal) ℓ) (g : Dev Cert.DwbIdeal.nD → PrngReg)
    (m' : (ℓ : Loc Cert.DwbRefIdeal.nD Cert.DwbRefIdeal.τ Cert.DwbRefIdeal.sig) → Buf (Elt Ideal) ℓ) (g' : Dev Cert.DwbRefIdeal.nD → PrngReg), Pre_DwbIdeal m →
    (∀ c : Dev Cert.DwbIdeal.nD,
      m' ((c.tc : Thread Cert.DwbRefIdeal.nD Cert.DwbRefIdeal.τ).loc Cert.DwbRefIdeal.main_arg0) = m ((c.tc : Thread Cert.DwbIdeal.nD Cert.DwbIdeal.τ).loc Cert.DwbIdeal.main_arg0)
      ∧ m' ((c.tc : Thread Cert.DwbRefIdeal.nD Cert.DwbRefIdeal.τ).loc Cert.DwbRefIdeal.main_arg1) = m ((c.tc : Thread Cert.DwbIdeal.nD Cert.DwbIdeal.τ).loc Cert.DwbIdeal.main_arg1)) →
    ∃ (v0 : (c : Dev Cert.DwbIdeal.nD) → Buf (Elt Ideal) ((c.tc : Thread Cert.DwbIdeal.nD Cert.DwbIdeal.τ).loc Cert.DwbIdeal.main_v0)),
      θ_run (Cert.DwbIdeal.defs (F := Ideal)) (onTc (τ := Cert.DwbIdeal.τ) (Cert.DwbIdeal.main (F := Ideal))) ⟨m, fun _ => 0, g⟩ (fun r => ∀ c : Dev Cert.DwbIdeal.nD,
          r.2.mem ((c.tc : Thread Cert.DwbIdeal.nD Cert.DwbIdeal.τ).loc Cert.DwbIdeal.main_v0) = v0 c
          ∧ r.2.mem ((c.tc : Thread Cert.DwbIdeal.nD Cert.DwbIdeal.τ).loc Cert.DwbIdeal.main_arg0) = m ((c.tc : Thread Cert.DwbIdeal.nD Cert.DwbIdeal.τ).loc Cert.DwbIdeal.main_arg0)
          ∧ r.2.mem ((c.tc : Thread Cert.DwbIdeal.nD Cert.DwbIdeal.τ).loc Cert.DwbIdeal.main_arg1) = m ((c.tc : Thread Cert.DwbIdeal.nD Cert.DwbIdeal.τ).loc Cert.DwbIdeal.main_arg1))
      ∧ θ_run (Cert.DwbRefIdeal.defs (F := Ideal)) (onTc (τ := Cert.DwbRefIdeal.τ) (Cert.DwbRefIdeal.main (F := Ideal))) ⟨m', fun _ => 0, g'⟩ (fun r => ∀ c : Dev Cert.DwbRefIdeal.nD,
          r.2.mem ((c.tc : Thread Cert.DwbRefIdeal.nD Cert.DwbRefIdeal.τ).loc Cert.DwbRefIdeal.main_v6) = v0 c
          ∧ r.2.mem ((c.tc : Thread Cert.DwbRefIdeal.nD Cert.DwbRefIdeal.τ).loc Cert.DwbRefIdeal.main_arg0) = m' ((c.tc : Thread Cert.DwbRefIdeal.nD Cert.DwbRefIdeal.τ).loc Cert.DwbRefIdeal.main_arg0)
          ∧ r.2.mem ((c.tc : Thread Cert.DwbRefIdeal.nD Cert.DwbRefIdeal.τ).loc Cert.DwbRefIdeal.main_arg1) = m' ((c.tc : Thread Cert.DwbRefIdeal.nD Cert.DwbRefIdeal.τ).loc Cert.DwbRefIdeal.main_arg1))

def preserves_Dwa_DwaIdeal : Prop :=
  True

def algebraic_DwaIdeal_DwaRefIdeal [hDwaIdeal : Cert.DwaIdeal.Facts] [hDwaRefIdeal : Cert.DwaRefIdeal.Facts] : Prop :=
  ∀ (m : (ℓ : Loc Cert.DwaIdeal.nD Cert.DwaIdeal.τ Cert.DwaIdeal.sig) → Buf (Elt Ideal) ℓ) (g : Dev Cert.DwaIdeal.nD → PrngReg)
    (m' : (ℓ : Loc Cert.DwaRefIdeal.nD Cert.DwaRefIdeal.τ Cert.DwaRefIdeal.sig) → Buf (Elt Ideal) ℓ) (g' : Dev Cert.DwaRefIdeal.nD → PrngReg), Pre_DwaIdeal m →
    (∀ c : Dev Cert.DwaIdeal.nD,
      m' ((c.tc : Thread Cert.DwaRefIdeal.nD Cert.DwaRefIdeal.τ).loc Cert.DwaRefIdeal.main_arg0) = m ((c.tc : Thread Cert.DwaIdeal.nD Cert.DwaIdeal.τ).loc Cert.DwaIdeal.main_arg0)
      ∧ m' ((c.tc : Thread Cert.DwaRefIdeal.nD Cert.DwaRefIdeal.τ).loc Cert.DwaRefIdeal.main_arg1) = m ((c.tc : Thread Cert.DwaIdeal.nD Cert.DwaIdeal.τ).loc Cert.DwaIdeal.main_arg1)) →
    ∃ (v0 : (c : Dev Cert.DwaIdeal.nD) → Buf (Elt Ideal) ((c.tc : Thread Cert.DwaIdeal.nD Cert.DwaIdeal.τ).loc Cert.DwaIdeal.main_v0)),
      θ_run (Cert.DwaIdeal.defs (F := Ideal)) (onTc (τ := Cert.DwaIdeal.τ) (Cert.DwaIdeal.main (F := Ideal))) ⟨m, fun _ => 0, g⟩ (fun r => ∀ c : Dev Cert.DwaIdeal.nD,
          r.2.mem ((c.tc : Thread Cert.DwaIdeal.nD Cert.DwaIdeal.τ).loc Cert.DwaIdeal.main_v0) = v0 c
          ∧ r.2.mem ((c.tc : Thread Cert.DwaIdeal.nD Cert.DwaIdeal.τ).loc Cert.DwaIdeal.main_arg0) = m ((c.tc : Thread Cert.DwaIdeal.nD Cert.DwaIdeal.τ).loc Cert.DwaIdeal.main_arg0)
          ∧ r.2.mem ((c.tc : Thread Cert.DwaIdeal.nD Cert.DwaIdeal.τ).loc Cert.DwaIdeal.main_arg1) = m ((c.tc : Thread Cert.DwaIdeal.nD Cert.DwaIdeal.τ).loc Cert.DwaIdeal.main_arg1))
      ∧ θ_run (Cert.DwaRefIdeal.defs (F := Ideal)) (onTc (τ := Cert.DwaRefIdeal.τ) (Cert.DwaRefIdeal.main (F := Ideal))) ⟨m', fun _ => 0, g'⟩ (fun r => ∀ c : Dev Cert.DwaRefIdeal.nD,
          r.2.mem ((c.tc : Thread Cert.DwaRefIdeal.nD Cert.DwaRefIdeal.τ).loc Cert.DwaRefIdeal.main_v6) = v0 c
          ∧ r.2.mem ((c.tc : Thread Cert.DwaRefIdeal.nD Cert.DwaRefIdeal.τ).loc Cert.DwaRefIdeal.main_arg0) = m' ((c.tc : Thread Cert.DwaRefIdeal.nD Cert.DwaRefIdeal.τ).loc Cert.DwaRefIdeal.main_arg0)
          ∧ r.2.mem ((c.tc : Thread Cert.DwaRefIdeal.nD Cert.DwaRefIdeal.τ).loc Cert.DwaRefIdeal.main_arg1) = m' ((c.tc : Thread Cert.DwaRefIdeal.nD Cert.DwaRefIdeal.τ).loc Cert.DwaRefIdeal.main_arg1))

def preserves_ConvDwb_ConvDwbIdeal : Prop :=
  True

def algebraic_ConvDwbIdeal_ConvDwbRefIdeal [hConvDwbIdeal : Cert.ConvDwbIdeal.Facts] [hConvDwbRefIdeal : Cert.ConvDwbRefIdeal.Facts] : Prop :=
  ∀ (m : (ℓ : Loc Cert.ConvDwbIdeal.nD Cert.ConvDwbIdeal.τ Cert.ConvDwbIdeal.sig) → Buf (Elt Ideal) ℓ) (g : Dev Cert.ConvDwbIdeal.nD → PrngReg)
    (m' : (ℓ : Loc Cert.ConvDwbRefIdeal.nD Cert.ConvDwbRefIdeal.τ Cert.ConvDwbRefIdeal.sig) → Buf (Elt Ideal) ℓ) (g' : Dev Cert.ConvDwbRefIdeal.nD → PrngReg), Pre_ConvDwbIdeal m →
    (∀ c : Dev Cert.ConvDwbIdeal.nD,
      m' ((c.tc : Thread Cert.ConvDwbRefIdeal.nD Cert.ConvDwbRefIdeal.τ).loc Cert.ConvDwbRefIdeal.main_arg0) = m ((c.tc : Thread Cert.ConvDwbIdeal.nD Cert.ConvDwbIdeal.τ).loc Cert.ConvDwbIdeal.main_arg0)
      ∧ m' ((c.tc : Thread Cert.ConvDwbRefIdeal.nD Cert.ConvDwbRefIdeal.τ).loc Cert.ConvDwbRefIdeal.main_arg1) = m ((c.tc : Thread Cert.ConvDwbIdeal.nD Cert.ConvDwbIdeal.τ).loc Cert.ConvDwbIdeal.main_arg1)) →
    ∃ (v0 : (c : Dev Cert.ConvDwbIdeal.nD) → Buf (Elt Ideal) ((c.tc : Thread Cert.ConvDwbIdeal.nD Cert.ConvDwbIdeal.τ).loc Cert.ConvDwbIdeal.main_v0)),
      θ_run (Cert.ConvDwbIdeal.defs (F := Ideal)) (onTc (τ := Cert.ConvDwbIdeal.τ) (Cert.ConvDwbIdeal.main (F := Ideal))) ⟨m, fun _ => 0, g⟩ (fun r => ∀ c : Dev Cert.ConvDwbIdeal.nD,
          r.2.mem ((c.tc : Thread Cert.ConvDwbIdeal.nD Cert.ConvDwbIdeal.τ).loc Cert.ConvDwbIdeal.main_v0) = v0 c
          ∧ r.2.mem ((c.tc : Thread Cert.ConvDwbIdeal.nD Cert.ConvDwbIdeal.τ).loc Cert.ConvDwbIdeal.main_arg0) = m ((c.tc : Thread Cert.ConvDwbIdeal.nD Cert.ConvDwbIdeal.τ).loc Cert.ConvDwbIdeal.main_arg0)
          ∧ r.2.mem ((c.tc : Thread Cert.ConvDwbIdeal.nD Cert.ConvDwbIdeal.τ).loc Cert.ConvDwbIdeal.main_arg1) = m ((c.tc : Thread Cert.ConvDwbIdeal.nD Cert.ConvDwbIdeal.τ).loc Cert.ConvDwbIdeal.main_arg1))
      ∧ θ_run (Cert.ConvDwbRefIdeal.defs (F := Ideal)) (onTc (τ := Cert.ConvDwbRefIdeal.τ) (Cert.ConvDwbRefIdeal.main (F := Ideal))) ⟨m', fun _ => 0, g'⟩ (fun r => ∀ c : Dev Cert.ConvDwbRefIdeal.nD,
          r.2.mem ((c.tc : Thread Cert.ConvDwbRefIdeal.nD Cert.ConvDwbRefIdeal.τ).loc Cert.ConvDwbRefIdeal.main_v6) = v0 c
          ∧ r.2.mem ((c.tc : Thread Cert.ConvDwbRefIdeal.nD Cert.ConvDwbRefIdeal.τ).loc Cert.ConvDwbRefIdeal.main_arg0) = m' ((c.tc : Thread Cert.ConvDwbRefIdeal.nD Cert.ConvDwbRefIdeal.τ).loc Cert.ConvDwbRefIdeal.main_arg0)
          ∧ r.2.mem ((c.tc : Thread Cert.ConvDwbRefIdeal.nD Cert.ConvDwbRefIdeal.τ).loc Cert.ConvDwbRefIdeal.main_arg1) = m' ((c.tc : Thread Cert.ConvDwbRefIdeal.nD Cert.ConvDwbRefIdeal.τ).loc Cert.ConvDwbRefIdeal.main_arg1))

def preserves_ConvDwa_ConvDwaIdeal : Prop :=
  True

def algebraic_ConvDwaIdeal_ConvDwaRefIdeal [hConvDwaIdeal : Cert.ConvDwaIdeal.Facts] [hConvDwaRefIdeal : Cert.ConvDwaRefIdeal.Facts] : Prop :=
  ∀ (m : (ℓ : Loc Cert.ConvDwaIdeal.nD Cert.ConvDwaIdeal.τ Cert.ConvDwaIdeal.sig) → Buf (Elt Ideal) ℓ) (g : Dev Cert.ConvDwaIdeal.nD → PrngReg)
    (m' : (ℓ : Loc Cert.ConvDwaRefIdeal.nD Cert.ConvDwaRefIdeal.τ Cert.ConvDwaRefIdeal.sig) → Buf (Elt Ideal) ℓ) (g' : Dev Cert.ConvDwaRefIdeal.nD → PrngReg), Pre_ConvDwaIdeal m →
    (∀ c : Dev Cert.ConvDwaIdeal.nD,
      m' ((c.tc : Thread Cert.ConvDwaRefIdeal.nD Cert.ConvDwaRefIdeal.τ).loc Cert.ConvDwaRefIdeal.main_arg0) = m ((c.tc : Thread Cert.ConvDwaIdeal.nD Cert.ConvDwaIdeal.τ).loc Cert.ConvDwaIdeal.main_arg0)
      ∧ m' ((c.tc : Thread Cert.ConvDwaRefIdeal.nD Cert.ConvDwaRefIdeal.τ).loc Cert.ConvDwaRefIdeal.main_arg1) = m ((c.tc : Thread Cert.ConvDwaIdeal.nD Cert.ConvDwaIdeal.τ).loc Cert.ConvDwaIdeal.main_arg1)) →
    ∃ (v0 : (c : Dev Cert.ConvDwaIdeal.nD) → Buf (Elt Ideal) ((c.tc : Thread Cert.ConvDwaIdeal.nD Cert.ConvDwaIdeal.τ).loc Cert.ConvDwaIdeal.main_v0)),
      θ_run (Cert.ConvDwaIdeal.defs (F := Ideal)) (onTc (τ := Cert.ConvDwaIdeal.τ) (Cert.ConvDwaIdeal.main (F := Ideal))) ⟨m, fun _ => 0, g⟩ (fun r => ∀ c : Dev Cert.ConvDwaIdeal.nD,
          r.2.mem ((c.tc : Thread Cert.ConvDwaIdeal.nD Cert.ConvDwaIdeal.τ).loc Cert.ConvDwaIdeal.main_v0) = v0 c
          ∧ r.2.mem ((c.tc : Thread Cert.ConvDwaIdeal.nD Cert.ConvDwaIdeal.τ).loc Cert.ConvDwaIdeal.main_arg0) = m ((c.tc : Thread Cert.ConvDwaIdeal.nD Cert.ConvDwaIdeal.τ).loc Cert.ConvDwaIdeal.main_arg0)
          ∧ r.2.mem ((c.tc : Thread Cert.ConvDwaIdeal.nD Cert.ConvDwaIdeal.τ).loc Cert.ConvDwaIdeal.main_arg1) = m ((c.tc : Thread Cert.ConvDwaIdeal.nD Cert.ConvDwaIdeal.τ).loc Cert.ConvDwaIdeal.main_arg1))
      ∧ θ_run (Cert.ConvDwaRefIdeal.defs (F := Ideal)) (onTc (τ := Cert.ConvDwaRefIdeal.τ) (Cert.ConvDwaRefIdeal.main (F := Ideal))) ⟨m', fun _ => 0, g'⟩ (fun r => ∀ c : Dev Cert.ConvDwaRefIdeal.nD,
          r.2.mem ((c.tc : Thread Cert.ConvDwaRefIdeal.nD Cert.ConvDwaRefIdeal.τ).loc Cert.ConvDwaRefIdeal.main_v6) = v0 c
          ∧ r.2.mem ((c.tc : Thread Cert.ConvDwaRefIdeal.nD Cert.ConvDwaRefIdeal.τ).loc Cert.ConvDwaRefIdeal.main_arg0) = m' ((c.tc : Thread Cert.ConvDwaRefIdeal.nD Cert.ConvDwaRefIdeal.τ).loc Cert.ConvDwaRefIdeal.main_arg0)
          ∧ r.2.mem ((c.tc : Thread Cert.ConvDwaRefIdeal.nD Cert.ConvDwaRefIdeal.τ).loc Cert.ConvDwaRefIdeal.main_arg1) = m' ((c.tc : Thread Cert.ConvDwaRefIdeal.nD Cert.ConvDwaRefIdeal.τ).loc Cert.ConvDwaRefIdeal.main_arg1))

def preserves_MlaDwq_MlaDwqIdeal : Prop :=
  True

def algebraic_MlaDwqIdeal_MlaDwqRefIdeal [hMlaDwqIdeal : Cert.MlaDwqIdeal.Facts] [hMlaDwqRefIdeal : Cert.MlaDwqRefIdeal.Facts] : Prop :=
  ∀ (m : (ℓ : Loc Cert.MlaDwqIdeal.nD Cert.MlaDwqIdeal.τ Cert.MlaDwqIdeal.sig) → Buf (Elt Ideal) ℓ) (g : Dev Cert.MlaDwqIdeal.nD → PrngReg)
    (m' : (ℓ : Loc Cert.MlaDwqRefIdeal.nD Cert.MlaDwqRefIdeal.τ Cert.MlaDwqRefIdeal.sig) → Buf (Elt Ideal) ℓ) (g' : Dev Cert.MlaDwqRefIdeal.nD → PrngReg), Pre_MlaDwqIdeal m →
    (∀ c : Dev Cert.MlaDwqIdeal.nD,
      m' ((c.tc : Thread Cert.MlaDwqRefIdeal.nD Cert.MlaDwqRefIdeal.τ).loc Cert.MlaDwqRefIdeal.main_arg0) = m ((c.tc : Thread Cert.MlaDwqIdeal.nD Cert.MlaDwqIdeal.τ).loc Cert.MlaDwqIdeal.main_arg0)
      ∧ m' ((c.tc : Thread Cert.MlaDwqRefIdeal.nD Cert.MlaDwqRefIdeal.τ).loc Cert.MlaDwqRefIdeal.main_arg1) = m ((c.tc : Thread Cert.MlaDwqIdeal.nD Cert.MlaDwqIdeal.τ).loc Cert.MlaDwqIdeal.main_arg1)) →
    ∃ (v0 : (c : Dev Cert.MlaDwqIdeal.nD) → Buf (Elt Ideal) ((c.tc : Thread Cert.MlaDwqIdeal.nD Cert.MlaDwqIdeal.τ).loc Cert.MlaDwqIdeal.main_v0)),
      θ_run (Cert.MlaDwqIdeal.defs (F := Ideal)) (onTc (τ := Cert.MlaDwqIdeal.τ) (Cert.MlaDwqIdeal.main (F := Ideal))) ⟨m, fun _ => 0, g⟩ (fun r => ∀ c : Dev Cert.MlaDwqIdeal.nD,
          r.2.mem ((c.tc : Thread Cert.MlaDwqIdeal.nD Cert.MlaDwqIdeal.τ).loc Cert.MlaDwqIdeal.main_v0) = v0 c
          ∧ r.2.mem ((c.tc : Thread Cert.MlaDwqIdeal.nD Cert.MlaDwqIdeal.τ).loc Cert.MlaDwqIdeal.main_arg0) = m ((c.tc : Thread Cert.MlaDwqIdeal.nD Cert.MlaDwqIdeal.τ).loc Cert.MlaDwqIdeal.main_arg0)
          ∧ r.2.mem ((c.tc : Thread Cert.MlaDwqIdeal.nD Cert.MlaDwqIdeal.τ).loc Cert.MlaDwqIdeal.main_arg1) = m ((c.tc : Thread Cert.MlaDwqIdeal.nD Cert.MlaDwqIdeal.τ).loc Cert.MlaDwqIdeal.main_arg1))
      ∧ θ_run (Cert.MlaDwqRefIdeal.defs (F := Ideal)) (onTc (τ := Cert.MlaDwqRefIdeal.τ) (Cert.MlaDwqRefIdeal.main (F := Ideal))) ⟨m', fun _ => 0, g'⟩ (fun r => ∀ c : Dev Cert.MlaDwqRefIdeal.nD,
          r.2.mem ((c.tc : Thread Cert.MlaDwqRefIdeal.nD Cert.MlaDwqRefIdeal.τ).loc Cert.MlaDwqRefIdeal.main_v6) = v0 c
          ∧ r.2.mem ((c.tc : Thread Cert.MlaDwqRefIdeal.nD Cert.MlaDwqRefIdeal.τ).loc Cert.MlaDwqRefIdeal.main_arg0) = m' ((c.tc : Thread Cert.MlaDwqRefIdeal.nD Cert.MlaDwqRefIdeal.τ).loc Cert.MlaDwqRefIdeal.main_arg0)
          ∧ r.2.mem ((c.tc : Thread Cert.MlaDwqRefIdeal.nD Cert.MlaDwqRefIdeal.τ).loc Cert.MlaDwqRefIdeal.main_arg1) = m' ((c.tc : Thread Cert.MlaDwqRefIdeal.nD Cert.MlaDwqRefIdeal.τ).loc Cert.MlaDwqRefIdeal.main_arg1))

def preserves_MlaDwin_MlaDwinIdeal : Prop :=
  True

def algebraic_MlaDwinIdeal_MlaDwinRefIdeal [hMlaDwinIdeal : Cert.MlaDwinIdeal.Facts] [hMlaDwinRefIdeal : Cert.MlaDwinRefIdeal.Facts] : Prop :=
  ∀ (m : (ℓ : Loc Cert.MlaDwinIdeal.nD Cert.MlaDwinIdeal.τ Cert.MlaDwinIdeal.sig) → Buf (Elt Ideal) ℓ) (g : Dev Cert.MlaDwinIdeal.nD → PrngReg)
    (m' : (ℓ : Loc Cert.MlaDwinRefIdeal.nD Cert.MlaDwinRefIdeal.τ Cert.MlaDwinRefIdeal.sig) → Buf (Elt Ideal) ℓ) (g' : Dev Cert.MlaDwinRefIdeal.nD → PrngReg), Pre_MlaDwinIdeal m →
    (∀ c : Dev Cert.MlaDwinIdeal.nD,
      m' ((c.tc : Thread Cert.MlaDwinRefIdeal.nD Cert.MlaDwinRefIdeal.τ).loc Cert.MlaDwinRefIdeal.main_arg0) = m ((c.tc : Thread Cert.MlaDwinIdeal.nD Cert.MlaDwinIdeal.τ).loc Cert.MlaDwinIdeal.main_arg0)
      ∧ m' ((c.tc : Thread Cert.MlaDwinRefIdeal.nD Cert.MlaDwinRefIdeal.τ).loc Cert.MlaDwinRefIdeal.main_arg1) = m ((c.tc : Thread Cert.MlaDwinIdeal.nD Cert.MlaDwinIdeal.τ).loc Cert.MlaDwinIdeal.main_arg1)) →
    ∃ (v0 : (c : Dev Cert.MlaDwinIdeal.nD) → Buf (Elt Ideal) ((c.tc : Thread Cert.MlaDwinIdeal.nD Cert.MlaDwinIdeal.τ).loc Cert.MlaDwinIdeal.main_v0)),
      θ_run (Cert.MlaDwinIdeal.defs (F := Ideal)) (onTc (τ := Cert.MlaDwinIdeal.τ) (Cert.MlaDwinIdeal.main (F := Ideal))) ⟨m, fun _ => 0, g⟩ (fun r => ∀ c : Dev Cert.MlaDwinIdeal.nD,
          r.2.mem ((c.tc : Thread Cert.MlaDwinIdeal.nD Cert.MlaDwinIdeal.τ).loc Cert.MlaDwinIdeal.main_v0) = v0 c
          ∧ r.2.mem ((c.tc : Thread Cert.MlaDwinIdeal.nD Cert.MlaDwinIdeal.τ).loc Cert.MlaDwinIdeal.main_arg0) = m ((c.tc : Thread Cert.MlaDwinIdeal.nD Cert.MlaDwinIdeal.τ).loc Cert.MlaDwinIdeal.main_arg0)
          ∧ r.2.mem ((c.tc : Thread Cert.MlaDwinIdeal.nD Cert.MlaDwinIdeal.τ).loc Cert.MlaDwinIdeal.main_arg1) = m ((c.tc : Thread Cert.MlaDwinIdeal.nD Cert.MlaDwinIdeal.τ).loc Cert.MlaDwinIdeal.main_arg1))
      ∧ θ_run (Cert.MlaDwinRefIdeal.defs (F := Ideal)) (onTc (τ := Cert.MlaDwinRefIdeal.τ) (Cert.MlaDwinRefIdeal.main (F := Ideal))) ⟨m', fun _ => 0, g'⟩ (fun r => ∀ c : Dev Cert.MlaDwinRefIdeal.nD,
          r.2.mem ((c.tc : Thread Cert.MlaDwinRefIdeal.nD Cert.MlaDwinRefIdeal.τ).loc Cert.MlaDwinRefIdeal.main_v6) = v0 c
          ∧ r.2.mem ((c.tc : Thread Cert.MlaDwinRefIdeal.nD Cert.MlaDwinRefIdeal.τ).loc Cert.MlaDwinRefIdeal.main_arg0) = m' ((c.tc : Thread Cert.MlaDwinRefIdeal.nD Cert.MlaDwinRefIdeal.τ).loc Cert.MlaDwinRefIdeal.main_arg0)
          ∧ r.2.mem ((c.tc : Thread Cert.MlaDwinRefIdeal.nD Cert.MlaDwinRefIdeal.τ).loc Cert.MlaDwinRefIdeal.main_arg1) = m' ((c.tc : Thread Cert.MlaDwinRefIdeal.nD Cert.MlaDwinRefIdeal.τ).loc Cert.MlaDwinRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v4) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_ConvDs_ConvDsIdeal : Prop :=
  True

def algebraic_ConvDsIdeal_ConvDsRefIdeal [hConvDsIdeal : Cert.ConvDsIdeal.Facts] [hConvDsRefIdeal : Cert.ConvDsRefIdeal.Facts] : Prop :=
  ∀ (m : (ℓ : Loc Cert.ConvDsIdeal.nD Cert.ConvDsIdeal.τ Cert.ConvDsIdeal.sig) → Buf (Elt Ideal) ℓ) (g : Dev Cert.ConvDsIdeal.nD → PrngReg)
    (m' : (ℓ : Loc Cert.ConvDsRefIdeal.nD Cert.ConvDsRefIdeal.τ Cert.ConvDsRefIdeal.sig) → Buf (Elt Ideal) ℓ) (g' : Dev Cert.ConvDsRefIdeal.nD → PrngReg), Pre_ConvDsIdeal m →
    (∀ c : Dev Cert.ConvDsIdeal.nD,
      m' ((c.tc : Thread Cert.ConvDsRefIdeal.nD Cert.ConvDsRefIdeal.τ).loc Cert.ConvDsRefIdeal.main_arg0) = m ((c.tc : Thread Cert.ConvDsIdeal.nD Cert.ConvDsIdeal.τ).loc Cert.ConvDsIdeal.main_arg0)
      ∧ m' ((c.tc : Thread Cert.ConvDsRefIdeal.nD Cert.ConvDsRefIdeal.τ).loc Cert.ConvDsRefIdeal.main_arg1) = m ((c.tc : Thread Cert.ConvDsIdeal.nD Cert.ConvDsIdeal.τ).loc Cert.ConvDsIdeal.main_arg1)) →
    ∃ (v0 : (c : Dev Cert.ConvDsIdeal.nD) → Buf (Elt Ideal) ((c.tc : Thread Cert.ConvDsIdeal.nD Cert.ConvDsIdeal.τ).loc Cert.ConvDsIdeal.main_v0)),
      θ_run (Cert.ConvDsIdeal.defs (F := Ideal)) (onTc (τ := Cert.ConvDsIdeal.τ) (Cert.ConvDsIdeal.main (F := Ideal))) ⟨m, fun _ => 0, g⟩ (fun r => ∀ c : Dev Cert.ConvDsIdeal.nD,
          r.2.mem ((c.tc : Thread Cert.ConvDsIdeal.nD Cert.ConvDsIdeal.τ).loc Cert.ConvDsIdeal.main_v0) = v0 c
          ∧ r.2.mem ((c.tc : Thread Cert.ConvDsIdeal.nD Cert.ConvDsIdeal.τ).loc Cert.ConvDsIdeal.main_arg0) = m ((c.tc : Thread Cert.ConvDsIdeal.nD Cert.ConvDsIdeal.τ).loc Cert.ConvDsIdeal.main_arg0)
          ∧ r.2.mem ((c.tc : Thread Cert.ConvDsIdeal.nD Cert.ConvDsIdeal.τ).loc Cert.ConvDsIdeal.main_arg1) = m ((c.tc : Thread Cert.ConvDsIdeal.nD Cert.ConvDsIdeal.τ).loc Cert.ConvDsIdeal.main_arg1))
      ∧ θ_run (Cert.ConvDsRefIdeal.defs (F := Ideal)) (onTc (τ := Cert.ConvDsRefIdeal.τ) (Cert.ConvDsRefIdeal.main (F := Ideal))) ⟨m', fun _ => 0, g'⟩ (fun r => ∀ c : Dev Cert.ConvDsRefIdeal.nD,
          r.2.mem ((c.tc : Thread Cert.ConvDsRefIdeal.nD Cert.ConvDsRefIdeal.τ).loc Cert.ConvDsRefIdeal.main_v4) = v0 c
          ∧ r.2.mem ((c.tc : Thread Cert.ConvDsRefIdeal.nD Cert.ConvDsRefIdeal.τ).loc Cert.ConvDsRefIdeal.main_arg0) = m' ((c.tc : Thread Cert.ConvDsRefIdeal.nD Cert.ConvDsRefIdeal.τ).loc Cert.ConvDsRefIdeal.main_arg0)
          ∧ r.2.mem ((c.tc : Thread Cert.ConvDsRefIdeal.nD Cert.ConvDsRefIdeal.τ).loc Cert.ConvDsRefIdeal.main_arg1) = m' ((c.tc : Thread Cert.ConvDsRefIdeal.nD Cert.ConvDsRefIdeal.τ).loc Cert.ConvDsRefIdeal.main_arg1))

def preserves_ConvDh_ConvDhIdeal : Prop :=
  True

def algebraic_ConvDhIdeal_ConvDhRefIdeal [hConvDhIdeal : Cert.ConvDhIdeal.Facts] [hConvDhRefIdeal : Cert.ConvDhRefIdeal.Facts] : Prop :=
  ∀ (m : (ℓ : Loc Cert.ConvDhIdeal.nD Cert.ConvDhIdeal.τ Cert.ConvDhIdeal.sig) → Buf (Elt Ideal) ℓ) (g : Dev Cert.ConvDhIdeal.nD → PrngReg)
    (m' : (ℓ : Loc Cert.ConvDhRefIdeal.nD Cert.ConvDhRefIdeal.τ Cert.ConvDhRefIdeal.sig) → Buf (Elt Ideal) ℓ) (g' : Dev Cert.ConvDhRefIdeal.nD → PrngReg), Pre_ConvDhIdeal m →
    (∀ c : Dev Cert.ConvDhIdeal.nD,
      m' ((c.tc : Thread Cert.ConvDhRefIdeal.nD Cert.ConvDhRefIdeal.τ).loc Cert.ConvDhRefIdeal.main_arg0) = m ((c.tc : Thread Cert.ConvDhIdeal.nD Cert.ConvDhIdeal.τ).loc Cert.ConvDhIdeal.main_arg0)
      ∧ m' ((c.tc : Thread Cert.ConvDhRefIdeal.nD Cert.ConvDhRefIdeal.τ).loc Cert.ConvDhRefIdeal.main_arg1) = m ((c.tc : Thread Cert.ConvDhIdeal.nD Cert.ConvDhIdeal.τ).loc Cert.ConvDhIdeal.main_arg1)) →
    ∃ (v0 : (c : Dev Cert.ConvDhIdeal.nD) → Buf (Elt Ideal) ((c.tc : Thread Cert.ConvDhIdeal.nD Cert.ConvDhIdeal.τ).loc Cert.ConvDhIdeal.main_v0)),
      θ_run (Cert.ConvDhIdeal.defs (F := Ideal)) (onTc (τ := Cert.ConvDhIdeal.τ) (Cert.ConvDhIdeal.main (F := Ideal))) ⟨m, fun _ => 0, g⟩ (fun r => ∀ c : Dev Cert.ConvDhIdeal.nD,
          r.2.mem ((c.tc : Thread Cert.ConvDhIdeal.nD Cert.ConvDhIdeal.τ).loc Cert.ConvDhIdeal.main_v0) = v0 c
          ∧ r.2.mem ((c.tc : Thread Cert.ConvDhIdeal.nD Cert.ConvDhIdeal.τ).loc Cert.ConvDhIdeal.main_arg0) = m ((c.tc : Thread Cert.ConvDhIdeal.nD Cert.ConvDhIdeal.τ).loc Cert.ConvDhIdeal.main_arg0)
          ∧ r.2.mem ((c.tc : Thread Cert.ConvDhIdeal.nD Cert.ConvDhIdeal.τ).loc Cert.ConvDhIdeal.main_arg1) = m ((c.tc : Thread Cert.ConvDhIdeal.nD Cert.ConvDhIdeal.τ).loc Cert.ConvDhIdeal.main_arg1))
      ∧ θ_run (Cert.ConvDhRefIdeal.defs (F := Ideal)) (onTc (τ := Cert.ConvDhRefIdeal.τ) (Cert.ConvDhRefIdeal.main (F := Ideal))) ⟨m', fun _ => 0, g'⟩ (fun r => ∀ c : Dev Cert.ConvDhRefIdeal.nD,
          r.2.mem ((c.tc : Thread Cert.ConvDhRefIdeal.nD Cert.ConvDhRefIdeal.τ).loc Cert.ConvDhRefIdeal.main_v4) = v0 c
          ∧ r.2.mem ((c.tc : Thread Cert.ConvDhRefIdeal.nD Cert.ConvDhRefIdeal.τ).loc Cert.ConvDhRefIdeal.main_arg0) = m' ((c.tc : Thread Cert.ConvDhRefIdeal.nD Cert.ConvDhRefIdeal.τ).loc Cert.ConvDhRefIdeal.main_arg0)
          ∧ r.2.mem ((c.tc : Thread Cert.ConvDhRefIdeal.nD Cert.ConvDhRefIdeal.τ).loc Cert.ConvDhRefIdeal.main_arg1) = m' ((c.tc : Thread Cert.ConvDhRefIdeal.nD Cert.ConvDhRefIdeal.τ).loc Cert.ConvDhRefIdeal.main_arg1))

def preserves_MlaDo_MlaDoIdeal : Prop :=
  True

def algebraic_MlaDoIdeal_MlaDoRefIdeal [hMlaDoIdeal : Cert.MlaDoIdeal.Facts] [hMlaDoRefIdeal : Cert.MlaDoRefIdeal.Facts] : Prop :=
  ∀ (m : (ℓ : Loc Cert.MlaDoIdeal.nD Cert.MlaDoIdeal.τ Cert.MlaDoIdeal.sig) → Buf (Elt Ideal) ℓ) (g : Dev Cert.MlaDoIdeal.nD → PrngReg)
    (m' : (ℓ : Loc Cert.MlaDoRefIdeal.nD Cert.MlaDoRefIdeal.τ Cert.MlaDoRefIdeal.sig) → Buf (Elt Ideal) ℓ) (g' : Dev Cert.MlaDoRefIdeal.nD → PrngReg), Pre_MlaDoIdeal m →
    (∀ c : Dev Cert.MlaDoIdeal.nD,
      m' ((c.tc : Thread Cert.MlaDoRefIdeal.nD Cert.MlaDoRefIdeal.τ).loc Cert.MlaDoRefIdeal.main_arg0) = m ((c.tc : Thread Cert.MlaDoIdeal.nD Cert.MlaDoIdeal.τ).loc Cert.MlaDoIdeal.main_arg0)
      ∧ m' ((c.tc : Thread Cert.MlaDoRefIdeal.nD Cert.MlaDoRefIdeal.τ).loc Cert.MlaDoRefIdeal.main_arg1) = m ((c.tc : Thread Cert.MlaDoIdeal.nD Cert.MlaDoIdeal.τ).loc Cert.MlaDoIdeal.main_arg1)) →
    ∃ (v0 : (c : Dev Cert.MlaDoIdeal.nD) → Buf (Elt Ideal) ((c.tc : Thread Cert.MlaDoIdeal.nD Cert.MlaDoIdeal.τ).loc Cert.MlaDoIdeal.main_v0)),
      θ_run (Cert.MlaDoIdeal.defs (F := Ideal)) (onTc (τ := Cert.MlaDoIdeal.τ) (Cert.MlaDoIdeal.main (F := Ideal))) ⟨m, fun _ => 0, g⟩ (fun r => ∀ c : Dev Cert.MlaDoIdeal.nD,
          r.2.mem ((c.tc : Thread Cert.MlaDoIdeal.nD Cert.MlaDoIdeal.τ).loc Cert.MlaDoIdeal.main_v0) = v0 c
          ∧ r.2.mem ((c.tc : Thread Cert.MlaDoIdeal.nD Cert.MlaDoIdeal.τ).loc Cert.MlaDoIdeal.main_arg0) = m ((c.tc : Thread Cert.MlaDoIdeal.nD Cert.MlaDoIdeal.τ).loc Cert.MlaDoIdeal.main_arg0)
          ∧ r.2.mem ((c.tc : Thread Cert.MlaDoIdeal.nD Cert.MlaDoIdeal.τ).loc Cert.MlaDoIdeal.main_arg1) = m ((c.tc : Thread Cert.MlaDoIdeal.nD Cert.MlaDoIdeal.τ).loc Cert.MlaDoIdeal.main_arg1))
      ∧ θ_run (Cert.MlaDoRefIdeal.defs (F := Ideal)) (onTc (τ := Cert.MlaDoRefIdeal.τ) (Cert.MlaDoRefIdeal.main (F := Ideal))) ⟨m', fun _ => 0, g'⟩ (fun r => ∀ c : Dev Cert.MlaDoRefIdeal.nD,
          r.2.mem ((c.tc : Thread Cert.MlaDoRefIdeal.nD Cert.MlaDoRefIdeal.τ).loc Cert.MlaDoRefIdeal.main_v5) = v0 c
          ∧ r.2.mem ((c.tc : Thread Cert.MlaDoRefIdeal.nD Cert.MlaDoRefIdeal.τ).loc Cert.MlaDoRefIdeal.main_arg0) = m' ((c.tc : Thread Cert.MlaDoRefIdeal.nD Cert.MlaDoRefIdeal.τ).loc Cert.MlaDoRefIdeal.main_arg0)
          ∧ r.2.mem ((c.tc : Thread Cert.MlaDoRefIdeal.nD Cert.MlaDoRefIdeal.τ).loc Cert.MlaDoRefIdeal.main_arg1) = m' ((c.tc : Thread Cert.MlaDoRefIdeal.nD Cert.MlaDoRefIdeal.τ).loc Cert.MlaDoRefIdeal.main_arg1))

def preserves_MlaDqn_MlaDqnIdeal : Prop :=
  True

def algebraic_MlaDqnIdeal_MlaDqnRefIdeal [hMlaDqnIdeal : Cert.MlaDqnIdeal.Facts] [hMlaDqnRefIdeal : Cert.MlaDqnRefIdeal.Facts] : Prop :=
  ∀ (m : (ℓ : Loc Cert.MlaDqnIdeal.nD Cert.MlaDqnIdeal.τ Cert.MlaDqnIdeal.sig) → Buf (Elt Ideal) ℓ) (g : Dev Cert.MlaDqnIdeal.nD → PrngReg)
    (m' : (ℓ : Loc Cert.MlaDqnRefIdeal.nD Cert.MlaDqnRefIdeal.τ Cert.MlaDqnRefIdeal.sig) → Buf (Elt Ideal) ℓ) (g' : Dev Cert.MlaDqnRefIdeal.nD → PrngReg), Pre_MlaDqnIdeal m →
    (∀ c : Dev Cert.MlaDqnIdeal.nD,
      m' ((c.tc : Thread Cert.MlaDqnRefIdeal.nD Cert.MlaDqnRefIdeal.τ).loc Cert.MlaDqnRefIdeal.main_arg0) = m ((c.tc : Thread Cert.MlaDqnIdeal.nD Cert.MlaDqnIdeal.τ).loc Cert.MlaDqnIdeal.main_arg0)
      ∧ m' ((c.tc : Thread Cert.MlaDqnRefIdeal.nD Cert.MlaDqnRefIdeal.τ).loc Cert.MlaDqnRefIdeal.main_arg1) = m ((c.tc : Thread Cert.MlaDqnIdeal.nD Cert.MlaDqnIdeal.τ).loc Cert.MlaDqnIdeal.main_arg1)) →
    ∃ (v0 : (c : Dev Cert.MlaDqnIdeal.nD) → Buf (Elt Ideal) ((c.tc : Thread Cert.MlaDqnIdeal.nD Cert.MlaDqnIdeal.τ).loc Cert.MlaDqnIdeal.main_v0)),
      θ_run (Cert.MlaDqnIdeal.defs (F := Ideal)) (onTc (τ := Cert.MlaDqnIdeal.τ) (Cert.MlaDqnIdeal.main (F := Ideal))) ⟨m, fun _ => 0, g⟩ (fun r => ∀ c : Dev Cert.MlaDqnIdeal.nD,
          r.2.mem ((c.tc : Thread Cert.MlaDqnIdeal.nD Cert.MlaDqnIdeal.τ).loc Cert.MlaDqnIdeal.main_v0) = v0 c
          ∧ r.2.mem ((c.tc : Thread Cert.MlaDqnIdeal.nD Cert.MlaDqnIdeal.τ).loc Cert.MlaDqnIdeal.main_arg0) = m ((c.tc : Thread Cert.MlaDqnIdeal.nD Cert.MlaDqnIdeal.τ).loc Cert.MlaDqnIdeal.main_arg0)
          ∧ r.2.mem ((c.tc : Thread Cert.MlaDqnIdeal.nD Cert.MlaDqnIdeal.τ).loc Cert.MlaDqnIdeal.main_arg1) = m ((c.tc : Thread Cert.MlaDqnIdeal.nD Cert.MlaDqnIdeal.τ).loc Cert.MlaDqnIdeal.main_arg1))
      ∧ θ_run (Cert.MlaDqnRefIdeal.defs (F := Ideal)) (onTc (τ := Cert.MlaDqnRefIdeal.τ) (Cert.MlaDqnRefIdeal.main (F := Ideal))) ⟨m', fun _ => 0, g'⟩ (fun r => ∀ c : Dev Cert.MlaDqnRefIdeal.nD,
          r.2.mem ((c.tc : Thread Cert.MlaDqnRefIdeal.nD Cert.MlaDqnRefIdeal.τ).loc Cert.MlaDqnRefIdeal.main_v4) = v0 c
          ∧ r.2.mem ((c.tc : Thread Cert.MlaDqnRefIdeal.nD Cert.MlaDqnRefIdeal.τ).loc Cert.MlaDqnRefIdeal.main_arg0) = m' ((c.tc : Thread Cert.MlaDqnRefIdeal.nD Cert.MlaDqnRefIdeal.τ).loc Cert.MlaDqnRefIdeal.main_arg0)
          ∧ r.2.mem ((c.tc : Thread Cert.MlaDqnRefIdeal.nD Cert.MlaDqnRefIdeal.τ).loc Cert.MlaDqnRefIdeal.main_arg1) = m' ((c.tc : Thread Cert.MlaDqnRefIdeal.nD Cert.MlaDqnRefIdeal.τ).loc Cert.MlaDqnRefIdeal.main_arg1))

def preserves_MlaDh_MlaDhIdeal : Prop :=
  True

def algebraic_MlaDhIdeal_MlaDhRefIdeal [hMlaDhIdeal : Cert.MlaDhIdeal.Facts] [hMlaDhRefIdeal : Cert.MlaDhRefIdeal.Facts] : Prop :=
  ∀ (m : (ℓ : Loc Cert.MlaDhIdeal.nD Cert.MlaDhIdeal.τ Cert.MlaDhIdeal.sig) → Buf (Elt Ideal) ℓ) (g : Dev Cert.MlaDhIdeal.nD → PrngReg)
    (m' : (ℓ : Loc Cert.MlaDhRefIdeal.nD Cert.MlaDhRefIdeal.τ Cert.MlaDhRefIdeal.sig) → Buf (Elt Ideal) ℓ) (g' : Dev Cert.MlaDhRefIdeal.nD → PrngReg), Pre_MlaDhIdeal m →
    (∀ c : Dev Cert.MlaDhIdeal.nD,
      m' ((c.tc : Thread Cert.MlaDhRefIdeal.nD Cert.MlaDhRefIdeal.τ).loc Cert.MlaDhRefIdeal.main_arg0) = m ((c.tc : Thread Cert.MlaDhIdeal.nD Cert.MlaDhIdeal.τ).loc Cert.MlaDhIdeal.main_arg0)
      ∧ m' ((c.tc : Thread Cert.MlaDhRefIdeal.nD Cert.MlaDhRefIdeal.τ).loc Cert.MlaDhRefIdeal.main_arg1) = m ((c.tc : Thread Cert.MlaDhIdeal.nD Cert.MlaDhIdeal.τ).loc Cert.MlaDhIdeal.main_arg1)) →
    ∃ (v0 : (c : Dev Cert.MlaDhIdeal.nD) → Buf (Elt Ideal) ((c.tc : Thread Cert.MlaDhIdeal.nD Cert.MlaDhIdeal.τ).loc Cert.MlaDhIdeal.main_v0)),
      θ_run (Cert.MlaDhIdeal.defs (F := Ideal)) (onTc (τ := Cert.MlaDhIdeal.τ) (Cert.MlaDhIdeal.main (F := Ideal))) ⟨m, fun _ => 0, g⟩ (fun r => ∀ c : Dev Cert.MlaDhIdeal.nD,
          r.2.mem ((c.tc : Thread Cert.MlaDhIdeal.nD Cert.MlaDhIdeal.τ).loc Cert.MlaDhIdeal.main_v0) = v0 c
          ∧ r.2.mem ((c.tc : Thread Cert.MlaDhIdeal.nD Cert.MlaDhIdeal.τ).loc Cert.MlaDhIdeal.main_arg0) = m ((c.tc : Thread Cert.MlaDhIdeal.nD Cert.MlaDhIdeal.τ).loc Cert.MlaDhIdeal.main_arg0)
          ∧ r.2.mem ((c.tc : Thread Cert.MlaDhIdeal.nD Cert.MlaDhIdeal.τ).loc Cert.MlaDhIdeal.main_arg1) = m ((c.tc : Thread Cert.MlaDhIdeal.nD Cert.MlaDhIdeal.τ).loc Cert.MlaDhIdeal.main_arg1))
      ∧ θ_run (Cert.MlaDhRefIdeal.defs (F := Ideal)) (onTc (τ := Cert.MlaDhRefIdeal.τ) (Cert.MlaDhRefIdeal.main (F := Ideal))) ⟨m', fun _ => 0, g'⟩ (fun r => ∀ c : Dev Cert.MlaDhRefIdeal.nD,
          r.2.mem ((c.tc : Thread Cert.MlaDhRefIdeal.nD Cert.MlaDhRefIdeal.τ).loc Cert.MlaDhRefIdeal.main_v4) = v0 c
          ∧ r.2.mem ((c.tc : Thread Cert.MlaDhRefIdeal.nD Cert.MlaDhRefIdeal.τ).loc Cert.MlaDhRefIdeal.main_arg0) = m' ((c.tc : Thread Cert.MlaDhRefIdeal.nD Cert.MlaDhRefIdeal.τ).loc Cert.MlaDhRefIdeal.main_arg0)
          ∧ r.2.mem ((c.tc : Thread Cert.MlaDhRefIdeal.nD Cert.MlaDhRefIdeal.τ).loc Cert.MlaDhRefIdeal.main_arg1) = m' ((c.tc : Thread Cert.MlaDhRefIdeal.nD Cert.MlaDhRefIdeal.τ).loc Cert.MlaDhRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)) →
    ∃ (v0 : (c : Dev Cert.ConvOutIdeal.nD) → Buf (Elt Ideal) ((c.tc : Thread Cert.ConvOutIdeal.nD Cert.ConvOutIdeal.τ).loc Cert.ConvOutIdeal.main_v1)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v1) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v6) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3))

def preserves_MlaOut_MlaOutIdeal : Prop :=
  True

def algebraic_MlaOutIdeal_MlaOutRefIdeal [hMlaOutIdeal : Cert.MlaOutIdeal.Facts] [hMlaOutRefIdeal : Cert.MlaOutRefIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutRefIdeal.nD Cert.MlaOutRefIdeal.τ Cert.MlaOutRefIdeal.sig) → Buf (Elt Ideal) ℓ) (g' : Dev Cert.MlaOutRefIdeal.nD → PrngReg), Pre_MlaOutIdeal m →
    (∀ c : Dev Cert.MlaOutIdeal.nD,
      m' ((c.tc : Thread Cert.MlaOutRefIdeal.nD Cert.MlaOutRefIdeal.τ).loc Cert.MlaOutRefIdeal.main_arg0) = m ((c.tc : Thread Cert.MlaOutIdeal.nD Cert.MlaOutIdeal.τ).loc Cert.MlaOutIdeal.main_arg0)
      ∧ m' ((c.tc : Thread Cert.MlaOutRefIdeal.nD Cert.MlaOutRefIdeal.τ).loc Cert.MlaOutRefIdeal.main_arg1) = m ((c.tc : Thread Cert.MlaOutIdeal.nD Cert.MlaOutIdeal.τ).loc Cert.MlaOutIdeal.main_arg1)
      ∧ m' ((c.tc : Thread Cert.MlaOutRefIdeal.nD Cert.MlaOutRefIdeal.τ).loc Cert.MlaOutRefIdeal.main_arg2) = m ((c.tc : Thread Cert.MlaOutIdeal.nD Cert.MlaOutIdeal.τ).loc Cert.MlaOutIdeal.main_arg2)) →
    ∃ (v0 : (c : Dev Cert.MlaOutIdeal.nD) → Buf (Elt Ideal) ((c.tc : Thread Cert.MlaOutIdeal.nD Cert.MlaOutIdeal.τ).loc Cert.MlaOutIdeal.main_v0)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v0) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
          ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2))
      ∧ θ_run (Cert.MlaOutRefIdeal.defs (F := Ideal)) (onTc (τ := Cert.MlaOutRefIdeal.τ) (Cert.MlaOutRefIdeal.main (F := Ideal))) ⟨m', fun _ => 0, g'⟩ (fun r => ∀ c : Dev Cert.MlaOutRefIdeal.nD,
          r.2.mem ((c.tc : Thread Cert.MlaOutRefIdeal.nD Cert.MlaOutRefIdeal.τ).loc Cert.MlaOutRefIdeal.main_v3) = v0 c
          ∧ r.2.mem ((c.tc : Thread Cert.MlaOutRefIdeal.nD Cert.MlaOutRefIdeal.τ).loc Cert.MlaOutRefIdeal.main_arg0) = m' ((c.tc : Thread Cert.MlaOutRefIdeal.nD Cert.MlaOutRefIdeal.τ).loc Cert.MlaOutRefIdeal.main_arg0)
          ∧ r.2.mem ((c.tc : Thread Cert.MlaOutRefIdeal.nD Cert.MlaOutRefIdeal.τ).loc Cert.MlaOutRefIdeal.main_arg1) = m' ((c.tc : Thread Cert.MlaOutRefIdeal.nD Cert.MlaOutRefIdeal.τ).loc Cert.MlaOutRefIdeal.main_arg1)
          ∧ r.2.mem ((c.tc : Thread Cert.MlaOutRefIdeal.nD Cert.MlaOutRefIdeal.τ).loc Cert.MlaOutRefIdeal.main_arg2) = m' ((c.tc : Thread Cert.MlaOutRefIdeal.nD Cert.MlaOutRefIdeal.τ).loc Cert.MlaOutRefIdeal.main_arg2))

def preserves_MlaIn_MlaInIdeal : Prop :=
  True

def algebraic_MlaInIdeal_MlaInRefIdeal [hMlaInIdeal : Cert.MlaInIdeal.Facts] [hMlaInRefIdeal : Cert.MlaInRefIdeal.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.MlaInRefIdeal.nD Cert.MlaInRefIdeal.τ Cert.MlaInRefIdeal.sig) → Buf (Elt Ideal) ℓ) (g' : Dev Cert.MlaInRefIdeal.nD → PrngReg), Pre_MlaInIdeal m →
    (∀ c : Dev Cert.MlaInIdeal.nD,
      m' ((c.tc : Thread Cert.MlaInRefIdeal.nD Cert.MlaInRefIdeal.τ).loc Cert.MlaInRefIdeal.main_arg0) = m ((c.tc : Thread Cert.MlaInIdeal.nD Cert.MlaInIdeal.τ).loc Cert.MlaInIdeal.main_arg0)
      ∧ m' ((c.tc : Thread Cert.MlaInRefIdeal.nD Cert.MlaInRefIdeal.τ).loc Cert.MlaInRefIdeal.main_arg1) = m ((c.tc : Thread Cert.MlaInIdeal.nD Cert.MlaInIdeal.τ).loc Cert.MlaInIdeal.main_arg1)) →
    ∃ (v0 : (c : Dev Cert.MlaInIdeal.nD) → Buf (Elt Ideal) ((c.tc : Thread Cert.MlaInIdeal.nD Cert.MlaInIdeal.τ).loc Cert.MlaInIdeal.main_v0)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v0) = v0 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ θ_run (Cert.MlaInRefIdeal.defs (F := Ideal)) (onTc (τ := Cert.MlaInRefIdeal.τ) (Cert.MlaInRefIdeal.main (F := Ideal))) ⟨m', fun _ => 0, g'⟩ (fun r => ∀ c : Dev Cert.MlaInRefIdeal.nD,
          r.2.mem ((c.tc : Thread Cert.MlaInRefIdeal.nD Cert.MlaInRefIdeal.τ).loc Cert.MlaInRefIdeal.main_v2) = v0 c
          ∧ r.2.mem ((c.tc : Thread Cert.MlaInRefIdeal.nD Cert.MlaInRefIdeal.τ).loc Cert.MlaInRefIdeal.main_arg0) = m' ((c.tc : Thread Cert.MlaInRefIdeal.nD Cert.MlaInRefIdeal.τ).loc Cert.MlaInRefIdeal.main_arg0)
          ∧ r.2.mem ((c.tc : Thread Cert.MlaInRefIdeal.nD Cert.MlaInRefIdeal.τ).loc Cert.MlaInRefIdeal.main_arg1) = m' ((c.tc : Thread Cert.MlaInRefIdeal.nD Cert.MlaInRefIdeal.τ).loc Cert.MlaInRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)) (v3 : (c : Dev Cert.RmsBwdIdeal.nD) → Buf (Elt Ideal) ((c.tc : Thread Cert.RmsBwdIdeal.nD Cert.RmsBwdIdeal.τ).loc Cert.RmsBwdIdeal.main_v1_3)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_v1_3) = v3 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_v38) = v2 c
          ∧ r.2.mem ((c.tc : Thread Cert.RmsBwdRefIdeal.nD Cert.RmsBwdRefIdeal.τ).loc Cert.RmsBwdRefIdeal.main_v40) = v3 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)) →
    ∃ (v0 : (c : Dev Cert.HeadIdeal.nD) → Buf (Elt Ideal) ((c.tc : Thread Cert.HeadIdeal.nD Cert.HeadIdeal.τ).loc Cert.HeadIdeal.main_v1_0)) (v1 : (c : Dev Cert.HeadIdeal.nD) → Buf (Elt Ideal) ((c.tc : Thread Cert.HeadIdeal.nD Cert.HeadIdeal.τ).loc Cert.HeadIdeal.main_v1_1)) (v2 : (c : Dev Cert.HeadIdeal.nD) → Buf (Elt Ideal) ((c.tc : Thread Cert.HeadIdeal.nD Cert.HeadIdeal.τ).loc Cert.HeadIdeal.main_v1_2)) (v3 : (c : Dev Cert.HeadIdeal.nD) → Buf (Elt Ideal) ((c.tc : Thread Cert.HeadIdeal.nD Cert.HeadIdeal.τ).loc Cert.HeadIdeal.main_v1_3)) (v4 : (c : Dev Cert.HeadIdeal.nD) → Buf (Elt Ideal) ((c.tc : Thread Cert.HeadIdeal.nD Cert.HeadIdeal.τ).loc Cert.HeadIdeal.main_v1_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v1_0) = v0 c
          ∧ r.2.mem ((c.tc : Thread Cert.HeadIdeal.nD Cert.HeadIdeal.τ).loc Cert.HeadIdeal.main_v1_1) = v1 c
          ∧ r.2.mem ((c.tc : Thread Cert.HeadIdeal.nD Cert.HeadIdeal.τ).loc Cert.HeadIdeal.main_v1_2) = v2 c
          ∧ r.2.mem ((c.tc : Thread Cert.HeadIdeal.nD Cert.HeadIdeal.τ).loc Cert.HeadIdeal.main_v1_3) = v3 c
          ∧ r.2.mem ((c.tc : Thread Cert.HeadIdeal.nD Cert.HeadIdeal.τ).loc Cert.HeadIdeal.main_v1_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v51) = v0 c
          ∧ r.2.mem ((c.tc : Thread Cert.HeadRefIdeal.nD Cert.HeadRefIdeal.τ).loc Cert.HeadRefIdeal.main_v50) = v1 c
          ∧ r.2.mem ((c.tc : Thread Cert.HeadRefIdeal.nD Cert.HeadRefIdeal.τ).loc Cert.HeadRefIdeal.main_v52) = v2 c
          ∧ r.2.mem ((c.tc : Thread Cert.HeadRefIdeal.nD Cert.HeadRefIdeal.τ).loc Cert.HeadRefIdeal.main_v53) = v3 c
          ∧ r.2.mem ((c.tc : Thread Cert.HeadRefIdeal.nD Cert.HeadRefIdeal.τ).loc Cert.HeadRefIdeal.main_v55) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v1_0)) (v1 : (c : Dev Cert.GluIdeal.nD) → Buf (Elt Ideal) ((c.tc : Thread Cert.GluIdeal.nD Cert.GluIdeal.τ).loc Cert.GluIdeal.main_v1_1)) (v2 : (c : Dev Cert.GluIdeal.nD) → Buf (Elt Ideal) ((c.tc : Thread Cert.GluIdeal.nD Cert.GluIdeal.τ).loc Cert.GluIdeal.main_v1_2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1_0) = v0 c
          ∧ r.2.mem ((c.tc : Thread Cert.GluIdeal.nD Cert.GluIdeal.τ).loc Cert.GluIdeal.main_v1_1) = v1 c
          ∧ r.2.mem ((c.tc : Thread Cert.GluIdeal.nD Cert.GluIdeal.τ).loc Cert.GluIdeal.main_v1_2) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v8) = v0 c
          ∧ r.2.mem ((c.tc : Thread Cert.GluRefIdeal.nD Cert.GluRefIdeal.τ).loc Cert.GluRefIdeal.main_v9) = v1 c
          ∧ r.2.mem ((c.tc : Thread Cert.GluRefIdeal.nD Cert.GluRefIdeal.τ).loc Cert.GluRefIdeal.main_v16) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_AdamA_AdamAIdeal : Prop :=
  True

def algebraic_AdamAIdeal_AdamARefIdeal [hAdamAIdeal : Cert.AdamAIdeal.Facts] [hAdamARefIdeal : Cert.AdamARefIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.AdamARefIdeal.nD Cert.AdamARefIdeal.τ Cert.AdamARefIdeal.sig) → Buf (Elt Ideal) ℓ) (g' : Dev Cert.AdamARefIdeal.nD → PrngReg), Pre_AdamAIdeal m →
    (∀ c : Dev Cert.AdamAIdeal.nD,
      m' ((c.tc : Thread Cert.AdamARefIdeal.nD Cert.AdamARefIdeal.τ).loc Cert.AdamARefIdeal.main_arg0) = m ((c.tc : Thread Cert.AdamAIdeal.nD Cert.AdamAIdeal.τ).loc Cert.AdamAIdeal.main_arg0)
      ∧ m' ((c.tc : Thread Cert.AdamARefIdeal.nD Cert.AdamARefIdeal.τ).loc Cert.AdamARefIdeal.main_arg1) = m ((c.tc : Thread Cert.AdamAIdeal.nD Cert.AdamAIdeal.τ).loc Cert.AdamAIdeal.main_arg1)
      ∧ m' ((c.tc : Thread Cert.AdamARefIdeal.nD Cert.AdamARefIdeal.τ).loc Cert.AdamARefIdeal.main_arg2) = m ((c.tc : Thread Cert.AdamAIdeal.nD Cert.AdamAIdeal.τ).loc Cert.AdamAIdeal.main_arg2)
      ∧ m' ((c.tc : Thread Cert.AdamARefIdeal.nD Cert.AdamARefIdeal.τ).loc Cert.AdamARefIdeal.main_arg3) = m ((c.tc : Thread Cert.AdamAIdeal.nD Cert.AdamAIdeal.τ).loc Cert.AdamAIdeal.main_arg3)) →
    ∃ (v0 : (c : Dev Cert.AdamAIdeal.nD) → Buf (Elt Ideal) ((c.tc : Thread Cert.AdamAIdeal.nD Cert.AdamAIdeal.τ).loc Cert.AdamAIdeal.main_v0_0)) (v1 : (c : Dev Cert.AdamAIdeal.nD) → Buf (Elt Ideal) ((c.tc : Thread Cert.AdamAIdeal.nD Cert.AdamAIdeal.τ).loc Cert.AdamAIdeal.main_v0_1)) (v2 : (c : Dev Cert.AdamAIdeal.nD) → Buf (Elt Ideal) ((c.tc : Thread Cert.AdamAIdeal.nD Cert.AdamAIdeal.τ).loc Cert.AdamAIdeal.main_v0_2)) (v3 : (c : Dev Cert.AdamAIdeal.nD) → Buf (Elt Ideal) ((c.tc : Thread Cert.AdamAIdeal.nD Cert.AdamAIdeal.τ).loc Cert.AdamAIdeal.main_v0_3)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v0_0) = v0 c
          ∧ r.2.mem ((c.tc : Thread Cert.AdamAIdeal.nD Cert.AdamAIdeal.τ).loc Cert.AdamAIdeal.main_v0_1) = v1 c
          ∧ r.2.mem ((c.tc : Thread Cert.AdamAIdeal.nD Cert.AdamAIdeal.τ).loc Cert.AdamAIdeal.main_v0_2) = v2 c
          ∧ r.2.mem ((c.tc : Thread Cert.AdamAIdeal.nD Cert.AdamAIdeal.τ).loc Cert.AdamAIdeal.main_v0_3) = v3 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ θ_run (Cert.AdamARefIdeal.defs (F := Ideal)) (onTc (τ := Cert.AdamARefIdeal.τ) (Cert.AdamARefIdeal.main (F := Ideal))) ⟨m', fun _ => 0, g'⟩ (fun r => ∀ c : Dev Cert.AdamARefIdeal.nD,
          r.2.mem ((c.tc : Thread Cert.AdamARefIdeal.nD Cert.AdamARefIdeal.τ).loc Cert.AdamARefIdeal.main_v1) = v0 c
          ∧ r.2.mem ((c.tc : Thread Cert.AdamARefIdeal.nD Cert.AdamARefIdeal.τ).loc Cert.AdamARefIdeal.main_v25) = v1 c
          ∧ r.2.mem ((c.tc : Thread Cert.AdamARefIdeal.nD Cert.AdamARefIdeal.τ).loc Cert.AdamARefIdeal.main_v6) = v2 c
          ∧ r.2.mem ((c.tc : Thread Cert.AdamARefIdeal.nD Cert.AdamARefIdeal.τ).loc Cert.AdamARefIdeal.main_v12) = v3 c
          ∧ r.2.mem ((c.tc : Thread Cert.AdamARefIdeal.nD Cert.AdamARefIdeal.τ).loc Cert.AdamARefIdeal.main_arg0) = m' ((c.tc : Thread Cert.AdamARefIdeal.nD Cert.AdamARefIdeal.τ).loc Cert.AdamARefIdeal.main_arg0)
          ∧ r.2.mem ((c.tc : Thread Cert.AdamARefIdeal.nD Cert.AdamARefIdeal.τ).loc Cert.AdamARefIdeal.main_arg1) = m' ((c.tc : Thread Cert.AdamARefIdeal.nD Cert.AdamARefIdeal.τ).loc Cert.AdamARefIdeal.main_arg1)
          ∧ r.2.mem ((c.tc : Thread Cert.AdamARefIdeal.nD Cert.AdamARefIdeal.τ).loc Cert.AdamARefIdeal.main_arg2) = m' ((c.tc : Thread Cert.AdamARefIdeal.nD Cert.AdamARefIdeal.τ).loc Cert.AdamARefIdeal.main_arg2)
          ∧ r.2.mem ((c.tc : Thread Cert.AdamARefIdeal.nD Cert.AdamARefIdeal.τ).loc Cert.AdamARefIdeal.main_arg3) = m' ((c.tc : Thread Cert.AdamARefIdeal.nD Cert.AdamARefIdeal.τ).loc Cert.AdamARefIdeal.main_arg3))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)) (v3 : (c : Dev Cert.AdamBIdeal.nD) → Buf (Elt Ideal) ((c.tc : Thread Cert.AdamBIdeal.nD Cert.AdamBIdeal.τ).loc Cert.AdamBIdeal.main_v0_3)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_v0_3) = v3 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v1) = v0 c
          ∧ r.2.mem ((c.tc : Thread Cert.AdamBRefIdeal.nD Cert.AdamBRefIdeal.τ).loc Cert.AdamBRefIdeal.main_v25) = v1 c
          ∧ r.2.mem ((c.tc : Thread Cert.AdamBRefIdeal.nD Cert.AdamBRefIdeal.τ).loc Cert.AdamBRefIdeal.main_v6) = v2 c
          ∧ r.2.mem ((c.tc : Thread Cert.AdamBRefIdeal.nD Cert.AdamBRefIdeal.τ).loc Cert.AdamBRefIdeal.main_v12) = v3 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3))

def preserves_AdamC_AdamCIdeal : Prop :=
  True

def algebraic_AdamCIdeal_AdamCRefIdeal [hAdamCIdeal : Cert.AdamCIdeal.Facts] [hAdamCRefIdeal : Cert.AdamCRefIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCRefIdeal.nD Cert.AdamCRefIdeal.τ Cert.AdamCRefIdeal.sig) → Buf (Elt Ideal) ℓ) (g' : Dev Cert.AdamCRefIdeal.nD → PrngReg), Pre_AdamCIdeal m →
    (∀ c : Dev Cert.AdamCIdeal.nD,
      m' ((c.tc : Thread Cert.AdamCRefIdeal.nD Cert.AdamCRefIdeal.τ).loc Cert.AdamCRefIdeal.main_arg0) = m ((c.tc : Thread Cert.AdamCIdeal.nD Cert.AdamCIdeal.τ).loc Cert.AdamCIdeal.main_arg0)
      ∧ m' ((c.tc : Thread Cert.AdamCRefIdeal.nD Cert.AdamCRefIdeal.τ).loc Cert.AdamCRefIdeal.main_arg1) = m ((c.tc : Thread Cert.AdamCIdeal.nD Cert.AdamCIdeal.τ).loc Cert.AdamCIdeal.main_arg1)
      ∧ m' ((c.tc : Thread Cert.AdamCRefIdeal.nD Cert.AdamCRefIdeal.τ).loc Cert.AdamCRefIdeal.main_arg2) = m ((c.tc : Thread Cert.AdamCIdeal.nD Cert.AdamCIdeal.τ).loc Cert.AdamCIdeal.main_arg2)
      ∧ m' ((c.tc : Thread Cert.AdamCRefIdeal.nD Cert.AdamCRefIdeal.τ).loc Cert.AdamCRefIdeal.main_arg3) = m ((c.tc : Thread Cert.AdamCIdeal.nD Cert.AdamCIdeal.τ).loc Cert.AdamCIdeal.main_arg3)) →
    ∃ (v0 : (c : Dev Cert.AdamCIdeal.nD) → Buf (Elt Ideal) ((c.tc : Thread Cert.AdamCIdeal.nD Cert.AdamCIdeal.τ).loc Cert.AdamCIdeal.main_v0_0)) (v1 : (c : Dev Cert.AdamCIdeal.nD) → Buf (Elt Ideal) ((c.tc : Thread Cert.AdamCIdeal.nD Cert.AdamCIdeal.τ).loc Cert.AdamCIdeal.main_v0_1)) (v2 : (c : Dev Cert.AdamCIdeal.nD) → Buf (Elt Ideal) ((c.tc : Thread Cert.AdamCIdeal.nD Cert.AdamCIdeal.τ).loc Cert.AdamCIdeal.main_v0_2)) (v3 : (c : Dev Cert.AdamCIdeal.nD) → Buf (Elt Ideal) ((c.tc : Thread Cert.AdamCIdeal.nD Cert.AdamCIdeal.τ).loc Cert.AdamCIdeal.main_v0_3)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v0_0) = v0 c
          ∧ r.2.mem ((c.tc : Thread Cert.AdamCIdeal.nD Cert.AdamCIdeal.τ).loc Cert.AdamCIdeal.main_v0_1) = v1 c
          ∧ r.2.mem ((c.tc : Thread Cert.AdamCIdeal.nD Cert.AdamCIdeal.τ).loc Cert.AdamCIdeal.main_v0_2) = v2 c
          ∧ r.2.mem ((c.tc : Thread Cert.AdamCIdeal.nD Cert.AdamCIdeal.τ).loc Cert.AdamCIdeal.main_v0_3) = v3 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ θ_run (Cert.AdamCRefIdeal.defs (F := Ideal)) (onTc (τ := Cert.AdamCRefIdeal.τ) (Cert.AdamCRefIdeal.main (F := Ideal))) ⟨m', fun _ => 0, g'⟩ (fun r => ∀ c : Dev Cert.AdamCRefIdeal.nD,
          r.2.mem ((c.tc : Thread Cert.AdamCRefIdeal.nD Cert.AdamCRefIdeal.τ).loc Cert.AdamCRefIdeal.main_v1) = v0 c
          ∧ r.2.mem ((c.tc : Thread Cert.AdamCRefIdeal.nD Cert.AdamCRefIdeal.τ).loc Cert.AdamCRefIdeal.main_v25) = v1 c
          ∧ r.2.mem ((c.tc : Thread Cert.AdamCRefIdeal.nD Cert.AdamCRefIdeal.τ).loc Cert.AdamCRefIdeal.main_v6) = v2 c
          ∧ r.2.mem ((c.tc : Thread Cert.AdamCRefIdeal.nD Cert.AdamCRefIdeal.τ).loc Cert.AdamCRefIdeal.main_v12) = v3 c
          ∧ r.2.mem ((c.tc : Thread Cert.AdamCRefIdeal.nD Cert.AdamCRefIdeal.τ).loc Cert.AdamCRefIdeal.main_arg0) = m' ((c.tc : Thread Cert.AdamCRefIdeal.nD Cert.AdamCRefIdeal.τ).loc Cert.AdamCRefIdeal.main_arg0)
          ∧ r.2.mem ((c.tc : Thread Cert.AdamCRefIdeal.nD Cert.AdamCRefIdeal.τ).loc Cert.AdamCRefIdeal.main_arg1) = m' ((c.tc : Thread Cert.AdamCRefIdeal.nD Cert.AdamCRefIdeal.τ).loc Cert.AdamCRefIdeal.main_arg1)
          ∧ r.2.mem ((c.tc : Thread Cert.AdamCRefIdeal.nD Cert.AdamCRefIdeal.τ).loc Cert.AdamCRefIdeal.main_arg2) = m' ((c.tc : Thread Cert.AdamCRefIdeal.nD Cert.AdamCRefIdeal.τ).loc Cert.AdamCRefIdeal.main_arg2)
          ∧ r.2.mem ((c.tc : Thread Cert.AdamCRefIdeal.nD Cert.AdamCRefIdeal.τ).loc Cert.AdamCRefIdeal.main_arg3) = m' ((c.tc : Thread Cert.AdamCRefIdeal.nD Cert.AdamCRefIdeal.τ).loc Cert.AdamCRefIdeal.main_arg3))

def preserves_AdamD_AdamDIdeal : Prop :=
  True

def algebraic_AdamDIdeal_AdamDRefIdeal [hAdamDIdeal : Cert.AdamDIdeal.Facts] [hAdamDRefIdeal : Cert.AdamDRefIdeal.Facts] : Prop :=
  ∀ (m : (ℓ : Loc Cert.AdamDIdeal.nD Cert.AdamDIdeal.τ Cert.AdamDIdeal.sig) → Buf (Elt Ideal) ℓ) (g : Dev Cert.AdamDIdeal.nD → PrngReg)
    (m' : (ℓ : Loc Cert.AdamDRefIdeal.nD Cert.AdamDRefIdeal.τ Cert.AdamDRefIdeal.sig) → Buf (Elt Ideal) ℓ) (g' : Dev Cert.AdamDRefIdeal.nD → PrngReg), Pre_AdamDIdeal m →
    (∀ c : Dev Cert.AdamDIdeal.nD,
      m' ((c.tc : Thread Cert.AdamDRefIdeal.nD Cert.AdamDRefIdeal.τ).loc Cert.AdamDRefIdeal.main_arg0) = m ((c.tc : Thread Cert.AdamDIdeal.nD Cert.AdamDIdeal.τ).loc Cert.AdamDIdeal.main_arg0)
      ∧ m' ((c.tc : Thread Cert.AdamDRefIdeal.nD Cert.AdamDRefIdeal.τ).loc Cert.AdamDRefIdeal.main_arg1) = m ((c.tc : Thread Cert.AdamDIdeal.nD Cert.AdamDIdeal.τ).loc Cert.AdamDIdeal.main_arg1)
      ∧ m' ((c.tc : Thread Cert.AdamDRefIdeal.nD Cert.AdamDRefIdeal.τ).loc Cert.AdamDRefIdeal.main_arg2) = m ((c.tc : Thread Cert.AdamDIdeal.nD Cert.AdamDIdeal.τ).loc Cert.AdamDIdeal.main_arg2)
      ∧ m' ((c.tc : Thread Cert.AdamDRefIdeal.nD Cert.AdamDRefIdeal.τ).loc Cert.AdamDRefIdeal.main_arg3) = m ((c.tc : Thread Cert.AdamDIdeal.nD Cert.AdamDIdeal.τ).loc Cert.AdamDIdeal.main_arg3)) →
    ∃ (v0 : (c : Dev Cert.AdamDIdeal.nD) → Buf (Elt Ideal) ((c.tc : Thread Cert.AdamDIdeal.nD Cert.AdamDIdeal.τ).loc Cert.AdamDIdeal.main_v0_0)) (v1 : (c : Dev Cert.AdamDIdeal.nD) → Buf (Elt Ideal) ((c.tc : Thread Cert.AdamDIdeal.nD Cert.AdamDIdeal.τ).loc Cert.AdamDIdeal.main_v0_1)) (v2 : (c : Dev Cert.AdamDIdeal.nD) → Buf (Elt Ideal) ((c.tc : Thread Cert.AdamDIdeal.nD Cert.AdamDIdeal.τ).loc Cert.AdamDIdeal.main_v0_2)) (v3 : (c : Dev Cert.AdamDIdeal.nD) → Buf (Elt Ideal) ((c.tc : Thread Cert.AdamDIdeal.nD Cert.AdamDIdeal.τ).loc Cert.AdamDIdeal.main_v0_3)),
      θ_run (Cert.AdamDIdeal.defs (F := Ideal)) (onTc (τ := Cert.AdamDIdeal.τ) (Cert.AdamDIdeal.main (F := Ideal))) ⟨m, fun _ => 0, g⟩ (fun r => ∀ c : Dev Cert.AdamDIdeal.nD,
          r.2.mem ((c.tc : Thread Cert.AdamDIdeal.nD Cert.AdamDIdeal.τ).loc Cert.AdamDIdeal.main_v0_0) = v0 c
          ∧ r.2.mem ((c.tc : Thread Cert.AdamDIdeal.nD Cert.AdamDIdeal.τ).loc Cert.AdamDIdeal.main_v0_1) = v1 c
          ∧ r.2.mem ((c.tc : Thread Cert.AdamDIdeal.nD Cert.AdamDIdeal.τ).loc Cert.AdamDIdeal.main_v0_2) = v2 c
          ∧ r.2.mem ((c.tc : Thread Cert.AdamDIdeal.nD Cert.AdamDIdeal.τ).loc Cert.AdamDIdeal.main_v0_3) = v3 c
          ∧ r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
          ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
          ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
          ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3))
      ∧ θ_run (Cert.AdamDRefIdeal.defs (F := Ideal)) (onTc (τ := Cert.AdamDRefIdeal.τ) (Cert.AdamDRefIdeal.main (F := Ideal))) ⟨m', fun _ => 0, g'⟩ (fun r => ∀ c : Dev Cert.AdamDRefIdeal.nD,
          r.2.mem ((c.tc : Thread Cert.AdamDRefIdeal.nD Cert.AdamDRefIdeal.τ).loc Cert.AdamDRefIdeal.main_v1) = v0 c
          ∧ r.2.mem ((c.tc : Thread Cert.AdamDRefIdeal.nD Cert.AdamDRefIdeal.τ).loc Cert.AdamDRefIdeal.main_v25) = v1 c
          ∧ r.2.mem ((c.tc : Thread Cert.AdamDRefIdeal.nD Cert.AdamDRefIdeal.τ).loc Cert.AdamDRefIdeal.main_v6) = v2 c
          ∧ r.2.mem ((c.tc : Thread Cert.AdamDRefIdeal.nD Cert.AdamDRefIdeal.τ).loc Cert.AdamDRefIdeal.main_v12) = v3 c
          ∧ r.2.mem ((c.tc : Thread Cert.AdamDRefIdeal.nD Cert.AdamDRefIdeal.τ).loc Cert.AdamDRefIdeal.main_arg0) = m' ((c.tc : Thread Cert.AdamDRefIdeal.nD Cert.AdamDRefIdeal.τ).loc Cert.AdamDRefIdeal.main_arg0)
          ∧ r.2.mem ((c.tc : Thread Cert.AdamDRefIdeal.nD Cert.AdamDRefIdeal.τ).loc Cert.AdamDRefIdeal.main_arg1) = m' ((c.tc : Thread Cert.AdamDRefIdeal.nD Cert.AdamDRefIdeal.τ).loc Cert.AdamDRefIdeal.main_arg1)
          ∧ r.2.mem ((c.tc : Thread Cert.AdamDRefIdeal.nD Cert.AdamDRefIdeal.τ).loc Cert.AdamDRefIdeal.main_arg2) = m' ((c.tc : Thread Cert.AdamDRefIdeal.nD Cert.AdamDRefIdeal.τ).loc Cert.AdamDRefIdeal.main_arg2)
          ∧ r.2.mem ((c.tc : Thread Cert.AdamDRefIdeal.nD Cert.AdamDRefIdeal.τ).loc Cert.AdamDRefIdeal.main_arg3) = m' ((c.tc : Thread Cert.AdamDRefIdeal.nD Cert.AdamDRefIdeal.τ).loc Cert.AdamDRefIdeal.main_arg3))

def preserves_AdamE_AdamEIdeal : Prop :=
  True

def algebraic_AdamEIdeal_AdamERefIdeal [hAdamEIdeal : Cert.AdamEIdeal.Facts] [hAdamERefIdeal : Cert.AdamERefIdeal.Facts] : Prop :=
  ∀ (m : (ℓ : Loc Cert.AdamEIdeal.nD Cert.AdamEIdeal.τ Cert.AdamEIdeal.sig) → Buf (Elt Ideal) ℓ) (g : Dev Cert.AdamEIdeal.nD → PrngReg)
    (m' : (ℓ : Loc Cert.AdamERefIdeal.nD Cert.AdamERefIdeal.τ Cert.AdamERefIdeal.sig) → Buf (Elt Ideal) ℓ) (g' : Dev Cert.AdamERefIdeal.nD → PrngReg), Pre_AdamEIdeal m →
    (∀ c : Dev Cert.AdamEIdeal.nD,
      m' ((c.tc : Thread Cert.AdamERefIdeal.nD Cert.AdamERefIdeal.τ).loc Cert.AdamERefIdeal.main_arg0) = m ((c.tc : Thread Cert.AdamEIdeal.nD Cert.AdamEIdeal.τ).loc Cert.AdamEIdeal.main_arg0)
      ∧ m' ((c.tc : Thread Cert.AdamERefIdeal.nD Cert.AdamERefIdeal.τ).loc Cert.AdamERefIdeal.main_arg1) = m ((c.tc : Thread Cert.AdamEIdeal.nD Cert.AdamEIdeal.τ).loc Cert.AdamEIdeal.main_arg1)
      ∧ m' ((c.tc : Thread Cert.AdamERefIdeal.nD Cert.AdamERefIdeal.τ).loc Cert.AdamERefIdeal.main_arg2) = m ((c.tc : Thread Cert.AdamEIdeal.nD Cert.AdamEIdeal.τ).loc Cert.AdamEIdeal.main_arg2)
      ∧ m' ((c.tc : Thread Cert.AdamERefIdeal.nD Cert.AdamERefIdeal.τ).loc Cert.AdamERefIdeal.main_arg3) = m ((c.tc : Thread Cert.AdamEIdeal.nD Cert.AdamEIdeal.τ).loc Cert.AdamEIdeal.main_arg3)) →
    ∃ (v0 : (c : Dev Cert.AdamEIdeal.nD) → Buf (Elt Ideal) ((c.tc : Thread Cert.AdamEIdeal.nD Cert.AdamEIdeal.τ).loc Cert.AdamEIdeal.main_v0_0)) (v1 : (c : Dev Cert.AdamEIdeal.nD) → Buf (Elt Ideal) ((c.tc : Thread Cert.AdamEIdeal.nD Cert.AdamEIdeal.τ).loc Cert.AdamEIdeal.main_v0_1)) (v2 : (c : Dev Cert.AdamEIdeal.nD) → Buf (Elt Ideal) ((c.tc : Thread Cert.AdamEIdeal.nD Cert.AdamEIdeal.τ).loc Cert.AdamEIdeal.main_v0_2)) (v3 : (c : Dev Cert.AdamEIdeal.nD) → Buf (Elt Ideal) ((c.tc : Thread Cert.AdamEIdeal.nD Cert.AdamEIdeal.τ).loc Cert.AdamEIdeal.main_v0_3)),
      θ_run (Cert.AdamEIdeal.defs (F := Ideal)) (onTc (τ := Cert.AdamEIdeal.τ) (Cert.AdamEIdeal.main (F := Ideal))) ⟨m, fun _ => 0, g⟩ (fun r => ∀ c : Dev Cert.AdamEIdeal.nD,
          r.2.mem ((c.tc : Thread Cert.AdamEIdeal.nD Cert.AdamEIdeal.τ).loc Cert.AdamEIdeal.main_v0_0) = v0 c
          ∧ r.2.mem ((c.tc : Thread Cert.AdamEIdeal.nD Cert.AdamEIdeal.τ).loc Cert.AdamEIdeal.main_v0_1) = v1 c
          ∧ r.2.mem ((c.tc : Thread Cert.AdamEIdeal.nD Cert.AdamEIdeal.τ).loc Cert.AdamEIdeal.main_v0_2) = v2 c
          ∧ r.2.mem ((c.tc : Thread Cert.AdamEIdeal.nD Cert.AdamEIdeal.τ).loc Cert.AdamEIdeal.main_v0_3) = v3 c
          ∧ r.2.mem ((c.tc : Thread Cert.AdamEIdeal.nD Cert.AdamEIdeal.τ).loc Cert.AdamEIdeal.main_arg0) = m ((c.tc : Thread Cert.AdamEIdeal.nD Cert.AdamEIdeal.τ).loc Cert.AdamEIdeal.main_arg0)
          ∧ r.2.mem ((c.tc : Thread Cert.AdamEIdeal.nD Cert.AdamEIdeal.τ).loc Cert.AdamEIdeal.main_arg1) = m ((c.tc : Thread Cert.AdamEIdeal.nD Cert.AdamEIdeal.τ).loc Cert.AdamEIdeal.main_arg1)
          ∧ r.2.mem ((c.tc : Thread Cert.AdamEIdeal.nD Cert.AdamEIdeal.τ).loc Cert.AdamEIdeal.main_arg2) = m ((c.tc : Thread Cert.AdamEIdeal.nD Cert.AdamEIdeal.τ).loc Cert.AdamEIdeal.main_arg2)
          ∧ r.2.mem ((c.tc : Thread Cert.AdamEIdeal.nD Cert.AdamEIdeal.τ).loc Cert.AdamEIdeal.main_arg3) = m ((c.tc : Thread Cert.AdamEIdeal.nD Cert.AdamEIdeal.τ).loc Cert.AdamEIdeal.main_arg3))
      ∧ θ_run (Cert.AdamERefIdeal.defs (F := Ideal)) (onTc (τ := Cert.AdamERefIdeal.τ) (Cert.AdamERefIdeal.main (F := Ideal))) ⟨m', fun _ => 0, g'⟩ (fun r => ∀ c : Dev Cert.AdamERefIdeal.nD,
          r.2.mem ((c.tc : Thread Cert.AdamERefIdeal.nD Cert.AdamERefIdeal.τ).loc Cert.AdamERefIdeal.main_v1) = v0 c
          ∧ r.2.mem ((c.tc : Thread Cert.AdamERefIdeal.nD Cert.AdamERefIdeal.τ).loc Cert.AdamERefIdeal.main_v25) = v1 c
          ∧ r.2.mem ((c.tc : Thread Cert.AdamERefIdeal.nD Cert.AdamERefIdeal.τ).loc Cert.AdamERefIdeal.main_v6) = v2 c
          ∧ r.2.mem ((c.tc : Thread Cert.AdamERefIdeal.nD Cert.AdamERefIdeal.τ).loc Cert.AdamERefIdeal.main_v12) = v3 c
          ∧ r.2.mem ((c.tc : Thread Cert.AdamERefIdeal.nD Cert.AdamERefIdeal.τ).loc Cert.AdamERefIdeal.main_arg0) = m' ((c.tc : Thread Cert.AdamERefIdeal.nD Cert.AdamERefIdeal.τ).loc Cert.AdamERefIdeal.main_arg0)
          ∧ r.2.mem ((c.tc : Thread Cert.AdamERefIdeal.nD Cert.AdamERefIdeal.τ).loc Cert.AdamERefIdeal.main_arg1) = m' ((c.tc : Thread Cert.AdamERefIdeal.nD Cert.AdamERefIdeal.τ).loc Cert.AdamERefIdeal.main_arg1)
          ∧ r.2.mem ((c.tc : Thread Cert.AdamERefIdeal.nD Cert.AdamERefIdeal.τ).loc Cert.AdamERefIdeal.main_arg2) = m' ((c.tc : Thread Cert.AdamERefIdeal.nD Cert.AdamERefIdeal.τ).loc Cert.AdamERefIdeal.main_arg2)
          ∧ r.2.mem ((c.tc : Thread Cert.AdamERefIdeal.nD Cert.AdamERefIdeal.τ).loc Cert.AdamERefIdeal.main_arg3) = m' ((c.tc : Thread Cert.AdamERefIdeal.nD Cert.AdamERefIdeal.τ).loc Cert.AdamERefIdeal.main_arg3))

def preserves_AdamF_AdamFIdeal : Prop :=
  True

def algebraic_AdamFIdeal_AdamFRefIdeal [hAdamFIdeal : Cert.AdamFIdeal.Facts] [hAdamFRefIdeal : Cert.AdamFRefIdeal.Facts] : Prop :=
  ∀ (m : (ℓ : Loc Cert.AdamFIdeal.nD Cert.AdamFIdeal.τ Cert.AdamFIdeal.sig) → Buf (Elt Ideal) ℓ) (g : Dev Cert.AdamFIdeal.nD → PrngReg)
    (m' : (ℓ : Loc Cert.AdamFRefIdeal.nD Cert.AdamFRefIdeal.τ Cert.AdamFRefIdeal.sig) → Buf (Elt Ideal) ℓ) (g' : Dev Cert.AdamFRefIdeal.nD → PrngReg), Pre_AdamFIdeal m →
    (∀ c : Dev Cert.AdamFIdeal.nD,
      m' ((c.tc : Thread Cert.AdamFRefIdeal.nD Cert.AdamFRefIdeal.τ).loc Cert.AdamFRefIdeal.main_arg0) = m ((c.tc : Thread Cert.AdamFIdeal.nD Cert.AdamFIdeal.τ).loc Cert.AdamFIdeal.main_arg0)
      ∧ m' ((c.tc : Thread Cert.AdamFRefIdeal.nD Cert.AdamFRefIdeal.τ).loc Cert.AdamFRefIdeal.main_arg1) = m ((c.tc : Thread Cert.AdamFIdeal.nD Cert.AdamFIdeal.τ).loc Cert.AdamFIdeal.main_arg1)
      ∧ m' ((c.tc : Thread Cert.AdamFRefIdeal.nD Cert.AdamFRefIdeal.τ).loc Cert.AdamFRefIdeal.main_arg2) = m ((c.tc : Thread Cert.AdamFIdeal.nD Cert.AdamFIdeal.τ).loc Cert.AdamFIdeal.main_arg2)
      ∧ m' ((c.tc : Thread Cert.AdamFRefIdeal.nD Cert.AdamFRefIdeal.τ).loc Cert.AdamFRefIdeal.main_arg3) = m ((c.tc : Thread Cert.AdamFIdeal.nD Cert.AdamFIdeal.τ).loc Cert.AdamFIdeal.main_arg3)) →
    ∃ (v0 : (c : Dev Cert.AdamFIdeal.nD) → Buf (Elt Ideal) ((c.tc : Thread Cert.AdamFIdeal.nD Cert.AdamFIdeal.τ).loc Cert.AdamFIdeal.main_v0_0)) (v1 : (c : Dev Cert.AdamFIdeal.nD) → Buf (Elt Ideal) ((c.tc : Thread Cert.AdamFIdeal.nD Cert.AdamFIdeal.τ).loc Cert.AdamFIdeal.main_v0_1)) (v2 : (c : Dev Cert.AdamFIdeal.nD) → Buf (Elt Ideal) ((c.tc : Thread Cert.AdamFIdeal.nD Cert.AdamFIdeal.τ).loc Cert.AdamFIdeal.main_v0_2)) (v3 : (c : Dev Cert.AdamFIdeal.nD) → Buf (Elt Ideal) ((c.tc : Thread Cert.AdamFIdeal.nD Cert.AdamFIdeal.τ).loc Cert.AdamFIdeal.main_v0_3)),
      θ_run (Cert.AdamFIdeal.defs (F := Ideal)) (onTc (τ := Cert.AdamFIdeal.τ) (Cert.AdamFIdeal.main (F := Ideal))) ⟨m, fun _ => 0, g⟩ (fun r => ∀ c : Dev Cert.AdamFIdeal.nD,
          r.2.mem ((c.tc : Thread Cert.AdamFIdeal.nD Cert.AdamFIdeal.τ).loc Cert.AdamFIdeal.main_v0_0) = v0 c
          ∧ r.2.mem ((c.tc : Thread Cert.AdamFIdeal.nD Cert.AdamFIdeal.τ).loc Cert.AdamFIdeal.main_v0_1) = v1 c
          ∧ r.2.mem ((c.tc : Thread Cert.AdamFIdeal.nD Cert.AdamFIdeal.τ).loc Cert.AdamFIdeal.main_v0_2) = v2 c
          ∧ r.2.mem ((c.tc : Thread Cert.AdamFIdeal.nD Cert.AdamFIdeal.τ).loc Cert.AdamFIdeal.main_v0_3) = v3 c
          ∧ r.2.mem ((c.tc : Thread Cert.AdamFIdeal.nD Cert.AdamFIdeal.τ).loc Cert.AdamFIdeal.main_arg0) = m ((c.tc : Thread Cert.AdamFIdeal.nD Cert.AdamFIdeal.τ).loc Cert.AdamFIdeal.main_arg0)
          ∧ r.2.mem ((c.tc : Thread Cert.AdamFIdeal.nD Cert.AdamFIdeal.τ).loc Cert.AdamFIdeal.main_arg1) = m ((c.tc : Thread Cert.AdamFIdeal.nD Cert.AdamFIdeal.τ).loc Cert.AdamFIdeal.main_arg1)
          ∧ r.2.mem ((c.tc : Thread Cert.AdamFIdeal.nD Cert.AdamFIdeal.τ).loc Cert.AdamFIdeal.main_arg2) = m ((c.tc : Thread Cert.AdamFIdeal.nD Cert.AdamFIdeal.τ).loc Cert.AdamFIdeal.main_arg2)
          ∧ r.2.mem ((c.tc : Thread Cert.AdamFIdeal.nD Cert.AdamFIdeal.τ).loc Cert.AdamFIdeal.main_arg3) = m ((c.tc : Thread Cert.AdamFIdeal.nD Cert.AdamFIdeal.τ).loc Cert.AdamFIdeal.main_arg3))
      ∧ θ_run (Cert.AdamFRefIdeal.defs (F := Ideal)) (onTc (τ := Cert.AdamFRefIdeal.τ) (Cert.AdamFRefIdeal.main (F := Ideal))) ⟨m', fun _ => 0, g'⟩ (fun r => ∀ c : Dev Cert.AdamFRefIdeal.nD,
          r.2.mem ((c.tc : Thread Cert.AdamFRefIdeal.nD Cert.AdamFRefIdeal.τ).loc Cert.AdamFRefIdeal.main_v1) = v0 c
          ∧ r.2.mem ((c.tc : Thread Cert.AdamFRefIdeal.nD Cert.AdamFRefIdeal.τ).loc Cert.AdamFRefIdeal.main_v25) = v1 c
          ∧ r.2.mem ((c.tc : Thread Cert.AdamFRefIdeal.nD Cert.AdamFRefIdeal.τ).loc Cert.AdamFRefIdeal.main_v6) = v2 c
          ∧ r.2.mem ((c.tc : Thread Cert.AdamFRefIdeal.nD Cert.AdamFRefIdeal.τ).loc Cert.AdamFRefIdeal.main_v12) = v3 c
          ∧ r.2.mem ((c.tc : Thread Cert.AdamFRefIdeal.nD Cert.AdamFRefIdeal.τ).loc Cert.AdamFRefIdeal.main_arg0) = m' ((c.tc : Thread Cert.AdamFRefIdeal.nD Cert.AdamFRefIdeal.τ).loc Cert.AdamFRefIdeal.main_arg0)
          ∧ r.2.mem ((c.tc : Thread Cert.AdamFRefIdeal.nD Cert.AdamFRefIdeal.τ).loc Cert.AdamFRefIdeal.main_arg1) = m' ((c.tc : Thread Cert.AdamFRefIdeal.nD Cert.AdamFRefIdeal.τ).loc Cert.AdamFRefIdeal.main_arg1)
          ∧ r.2.mem ((c.tc : Thread Cert.AdamFRefIdeal.nD Cert.AdamFRefIdeal.τ).loc Cert.AdamFRefIdeal.main_arg2) = m' ((c.tc : Thread Cert.AdamFRefIdeal.nD Cert.AdamFRefIdeal.τ).loc Cert.AdamFRefIdeal.main_arg2)
          ∧ r.2.mem ((c.tc : Thread Cert.AdamFRefIdeal.nD Cert.AdamFRefIdeal.τ).loc Cert.AdamFRefIdeal.main_arg3) = m' ((c.tc : Thread Cert.AdamFRefIdeal.nD Cert.AdamFRefIdeal.τ).loc Cert.AdamFRefIdeal.main_arg3))

def preserves_AdamG_AdamGIdeal : Prop :=
  True

def algebraic_AdamGIdeal_AdamGRefIdeal [hAdamGIdeal : Cert.AdamGIdeal.Facts] [hAdamGRefIdeal : Cert.AdamGRefIdeal.Facts] : Prop :=
  ∀ (m : (ℓ : Loc Cert.AdamGIdeal.nD Cert.AdamGIdeal.τ Cert.AdamGIdeal.sig) → Buf (Elt Ideal) ℓ) (g : Dev Cert.AdamGIdeal.nD → PrngReg)
    (m' : (ℓ : Loc Cert.AdamGRefIdeal.nD Cert.AdamGRefIdeal.τ Cert.AdamGRefIdeal.sig) → Buf (Elt Ideal) ℓ) (g' : Dev Cert.AdamGRefIdeal.nD → PrngReg), Pre_AdamGIdeal m →
    (∀ c : Dev Cert.AdamGIdeal.nD,
      m' ((c.tc : Thread Cert.AdamGRefIdeal.nD Cert.AdamGRefIdeal.τ).loc Cert.AdamGRefIdeal.main_arg0) = m ((c.tc : Thread Cert.AdamGIdeal.nD Cert.AdamGIdeal.τ).loc Cert.AdamGIdeal.main_arg0)
      ∧ m' ((c.tc : Thread Cert.AdamGRefIdeal.nD Cert.AdamGRefIdeal.τ).loc Cert.AdamGRefIdeal.main_arg1) = m ((c.tc : Thread Cert.AdamGIdeal.nD Cert.AdamGIdeal.τ).loc Cert.AdamGIdeal.main_arg1)
      ∧ m' ((c.tc : Thread Cert.AdamGRefIdeal.nD Cert.AdamGRefIdeal.τ).loc Cert.AdamGRefIdeal.main_arg2) = m ((c.tc : Thread Cert.AdamGIdeal.nD Cert.AdamGIdeal.τ).loc Cert.AdamGIdeal.main_arg2)
      ∧ m' ((c.tc : Thread Cert.AdamGRefIdeal.nD Cert.AdamGRefIdeal.τ).loc Cert.AdamGRefIdeal.main_arg3) = m ((c.tc : Thread Cert.AdamGIdeal.nD Cert.AdamGIdeal.τ).loc Cert.AdamGIdeal.main_arg3)) →
    ∃ (v0 : (c : Dev Cert.AdamGIdeal.nD) → Buf (Elt Ideal) ((c.tc : Thread Cert.AdamGIdeal.nD Cert.AdamGIdeal.τ).loc Cert.AdamGIdeal.main_v0_0)) (v1 : (c : Dev Cert.AdamGIdeal.nD) → Buf (Elt Ideal) ((c.tc : Thread Cert.AdamGIdeal.nD Cert.AdamGIdeal.τ).loc Cert.AdamGIdeal.main_v0_1)) (v2 : (c : Dev Cert.AdamGIdeal.nD) → Buf (Elt Ideal) ((c.tc : Thread Cert.AdamGIdeal.nD Cert.AdamGIdeal.τ).loc Cert.AdamGIdeal.main_v0_2)) (v3 : (c : Dev Cert.AdamGIdeal.nD) → Buf (Elt Ideal) ((c.tc : Thread Cert.AdamGIdeal.nD Cert.AdamGIdeal.τ).loc Cert.AdamGIdeal.main_v0_3)),
      θ_run (Cert.AdamGIdeal.defs (F := Ideal)) (onTc (τ := Cert.AdamGIdeal.τ) (Cert.AdamGIdeal.main (F := Ideal))) ⟨m, fun _ => 0, g⟩ (fun r => ∀ c : Dev Cert.AdamGIdeal.nD,
          r.2.mem ((c.tc : Thread Cert.AdamGIdeal.nD Cert.AdamGIdeal.τ).loc Cert.AdamGIdeal.main_v0_0) = v0 c
          ∧ r.2.mem ((c.tc : Thread Cert.AdamGIdeal.nD Cert.AdamGIdeal.τ).loc Cert.AdamGIdeal.main_v0_1) = v1 c
          ∧ r.2.mem ((c.tc : Thread Cert.AdamGIdeal.nD Cert.AdamGIdeal.τ).loc Cert.AdamGIdeal.main_v0_2) = v2 c
          ∧ r.2.mem ((c.tc : Thread Cert.AdamGIdeal.nD Cert.AdamGIdeal.τ).loc Cert.AdamGIdeal.main_v0_3) = v3 c
          ∧ r.2.mem ((c.tc : Thread Cert.AdamGIdeal.nD Cert.AdamGIdeal.τ).loc Cert.AdamGIdeal.main_arg0) = m ((c.tc : Thread Cert.AdamGIdeal.nD Cert.AdamGIdeal.τ).loc Cert.AdamGIdeal.main_arg0)
          ∧ r.2.mem ((c.tc : Thread Cert.AdamGIdeal.nD Cert.AdamGIdeal.τ).loc Cert.AdamGIdeal.main_arg1) = m ((c.tc : Thread Cert.AdamGIdeal.nD Cert.AdamGIdeal.τ).loc Cert.AdamGIdeal.main_arg1)
          ∧ r.2.mem ((c.tc : Thread Cert.AdamGIdeal.nD Cert.AdamGIdeal.τ).loc Cert.AdamGIdeal.main_arg2) = m ((c.tc : Thread Cert.AdamGIdeal.nD Cert.AdamGIdeal.τ).loc Cert.AdamGIdeal.main_arg2)
          ∧ r.2.mem ((c.tc : Thread Cert.AdamGIdeal.nD Cert.AdamGIdeal.τ).loc Cert.AdamGIdeal.main_arg3) = m ((c.tc : Thread Cert.AdamGIdeal.nD Cert.AdamGIdeal.τ).loc Cert.AdamGIdeal.main_arg3))
      ∧ θ_run (Cert.AdamGRefIdeal.defs (F := Ideal)) (onTc (τ := Cert.AdamGRefIdeal.τ) (Cert.AdamGRefIdeal.main (F := Ideal))) ⟨m', fun _ => 0, g'⟩ (fun r => ∀ c : Dev Cert.AdamGRefIdeal.nD,
          r.2.mem ((c.tc : Thread Cert.AdamGRefIdeal.nD Cert.AdamGRefIdeal.τ).loc Cert.AdamGRefIdeal.main_v1) = v0 c
          ∧ r.2.mem ((c.tc : Thread Cert.AdamGRefIdeal.nD Cert.AdamGRefIdeal.τ).loc Cert.AdamGRefIdeal.main_v25) = v1 c
          ∧ r.2.mem ((c.tc : Thread Cert.AdamGRefIdeal.nD Cert.AdamGRefIdeal.τ).loc Cert.AdamGRefIdeal.main_v6) = v2 c
          ∧ r.2.mem ((c.tc : Thread Cert.AdamGRefIdeal.nD Cert.AdamGRefIdeal.τ).loc Cert.AdamGRefIdeal.main_v12) = v3 c
          ∧ r.2.mem ((c.tc : Thread Cert.AdamGRefIdeal.nD Cert.AdamGRefIdeal.τ).loc Cert.AdamGRefIdeal.main_arg0) = m' ((c.tc : Thread Cert.AdamGRefIdeal.nD Cert.AdamGRefIdeal.τ).loc Cert.AdamGRefIdeal.main_arg0)
          ∧ r.2.mem ((c.tc : Thread Cert.AdamGRefIdeal.nD Cert.AdamGRefIdeal.τ).loc Cert.AdamGRefIdeal.main_arg1) = m' ((c.tc : Thread Cert.AdamGRefIdeal.nD Cert.AdamGRefIdeal.τ).loc Cert.AdamGRefIdeal.main_arg1)
          ∧ r.2.mem ((c.tc : Thread Cert.AdamGRefIdeal.nD Cert.AdamGRefIdeal.τ).loc Cert.AdamGRefIdeal.main_arg2) = m' ((c.tc : Thread Cert.AdamGRefIdeal.nD Cert.AdamGRefIdeal.τ).loc Cert.AdamGRefIdeal.main_arg2)
          ∧ r.2.mem ((c.tc : Thread Cert.AdamGRefIdeal.nD Cert.AdamGRefIdeal.τ).loc Cert.AdamGRefIdeal.main_arg3) = m' ((c.tc : Thread Cert.AdamGRefIdeal.nD Cert.AdamGRefIdeal.τ).loc Cert.AdamGRefIdeal.main_arg3))

def preserves_AdamR_AdamRIdeal : Prop :=
  True

def algebraic_AdamRIdeal_AdamRRefIdeal [hAdamRIdeal : Cert.AdamRIdeal.Facts] [hAdamRRefIdeal : Cert.AdamRRefIdeal.Facts] : Prop :=
  ∀ (m : (ℓ : Loc Cert.AdamRIdeal.nD Cert.AdamRIdeal.τ Cert.AdamRIdeal.sig) → Buf (Elt Ideal) ℓ) (g : Dev Cert.AdamRIdeal.nD → PrngReg)
    (m' : (ℓ : Loc Cert.AdamRRefIdeal.nD Cert.AdamRRefIdeal.τ Cert.AdamRRefIdeal.sig) → Buf (Elt Ideal) ℓ) (g' : Dev Cert.AdamRRefIdeal.nD → PrngReg), Pre_AdamRIdeal m →
    (∀ c : Dev Cert.AdamRIdeal.nD,
      m' ((c.tc : Thread Cert.AdamRRefIdeal.nD Cert.AdamRRefIdeal.τ).loc Cert.AdamRRefIdeal.main_arg0) = m ((c.tc : Thread Cert.AdamRIdeal.nD Cert.AdamRIdeal.τ).loc Cert.AdamRIdeal.main_arg0)
      ∧ m' ((c.tc : Thread Cert.AdamRRefIdeal.nD Cert.AdamRRefIdeal.τ).loc Cert.AdamRRefIdeal.main_arg1) = m ((c.tc : Thread Cert.AdamRIdeal.nD Cert.AdamRIdeal.τ).loc Cert.AdamRIdeal.main_arg1)
      ∧ m' ((c.tc : Thread Cert.AdamRRefIdeal.nD Cert.AdamRRefIdeal.τ).loc Cert.AdamRRefIdeal.main_arg2) = m ((c.tc : Thread Cert.AdamRIdeal.nD Cert.AdamRIdeal.τ).loc Cert.AdamRIdeal.main_arg2)
      ∧ m' ((c.tc : Thread Cert.AdamRRefIdeal.nD Cert.AdamRRefIdeal.τ).loc Cert.AdamRRefIdeal.main_arg3) = m ((c.tc : Thread Cert.AdamRIdeal.nD Cert.AdamRIdeal.τ).loc Cert.AdamRIdeal.main_arg3)) →
    ∃ (v0 : (c : Dev Cert.AdamRIdeal.nD) → Buf (Elt Ideal) ((c.tc : Thread Cert.AdamRIdeal.nD Cert.AdamRIdeal.τ).loc Cert.AdamRIdeal.main_v0_0)) (v1 : (c : Dev Cert.AdamRIdeal.nD) → Buf (Elt Ideal) ((c.tc : Thread Cert.AdamRIdeal.nD Cert.AdamRIdeal.τ).loc Cert.AdamRIdeal.main_v0_1)) (v2 : (c : Dev Cert.AdamRIdeal.nD) → Buf (Elt Ideal) ((c.tc : Thread Cert.AdamRIdeal.nD Cert.AdamRIdeal.τ).loc Cert.AdamRIdeal.main_v0_2)) (v3 : (c : Dev Cert.AdamRIdeal.nD) → Buf (Elt Ideal) ((c.tc : Thread Cert.AdamRIdeal.nD Cert.AdamRIdeal.τ).loc Cert.AdamRIdeal.main_v0_3)),
      θ_run (Cert.AdamRIdeal.defs (F := Ideal)) (onTc (τ := Cert.AdamRIdeal.τ) (Cert.AdamRIdeal.main (F := Ideal))) ⟨m, fun _ => 0, g⟩ (fun r => ∀ c : Dev Cert.AdamRIdeal.nD,
          r.2.mem ((c.tc : Thread Cert.AdamRIdeal.nD Cert.AdamRIdeal.τ).loc Cert.AdamRIdeal.main_v0_0) = v0 c
          ∧ r.2.mem ((c.tc : Thread Cert.AdamRIdeal.nD Cert.AdamRIdeal.τ).loc Cert.AdamRIdeal.main_v0_1) = v1 c
          ∧ r.2.mem ((c.tc : Thread Cert.AdamRIdeal.nD Cert.AdamRIdeal.τ).loc Cert.AdamRIdeal.main_v0_2) = v2 c
          ∧ r.2.mem ((c.tc : Thread Cert.AdamRIdeal.nD Cert.AdamRIdeal.τ).loc Cert.AdamRIdeal.main_v0_3) = v3 c
          ∧ r.2.mem ((c.tc : Thread Cert.AdamRIdeal.nD Cert.AdamRIdeal.τ).loc Cert.AdamRIdeal.main_arg0) = m ((c.tc : Thread Cert.AdamRIdeal.nD Cert.AdamRIdeal.τ).loc Cert.AdamRIdeal.main_arg0)
          ∧ r.2.mem ((c.tc : Thread Cert.AdamRIdeal.nD Cert.AdamRIdeal.τ).loc Cert.AdamRIdeal.main_arg1) = m ((c.tc : Thread Cert.AdamRIdeal.nD Cert.AdamRIdeal.τ).loc Cert.AdamRIdeal.main_arg1)
          ∧ r.2.mem ((c.tc : Thread Cert.AdamRIdeal.nD Cert.AdamRIdeal.τ).loc Cert.AdamRIdeal.main_arg2) = m ((c.tc : Thread Cert.AdamRIdeal.nD Cert.AdamRIdeal.τ).loc Cert.AdamRIdeal.main_arg2)
          ∧ r.2.mem ((c.tc : Thread Cert.AdamRIdeal.nD Cert.AdamRIdeal.τ).loc Cert.AdamRIdeal.main_arg3) = m ((c.tc : Thread Cert.AdamRIdeal.nD Cert.AdamRIdeal.τ).loc Cert.AdamRIdeal.main_arg3))
      ∧ θ_run (Cert.AdamRRefIdeal.defs (F := Ideal)) (onTc (τ := Cert.AdamRRefIdeal.τ) (Cert.AdamRRefIdeal.main (F := Ideal))) ⟨m', fun _ => 0, g'⟩ (fun r => ∀ c : Dev Cert.AdamRRefIdeal.nD,
          r.2.mem ((c.tc : Thread Cert.AdamRRefIdeal.nD Cert.AdamRRefIdeal.τ).loc Cert.AdamRRefIdeal.main_v0) = v0 c
          ∧ r.2.mem ((c.tc : Thread Cert.AdamRRefIdeal.nD Cert.AdamRRefIdeal.τ).loc Cert.AdamRRefIdeal.main_v24) = v1 c
          ∧ r.2.mem ((c.tc : Thread Cert.AdamRRefIdeal.nD Cert.AdamRRefIdeal.τ).loc Cert.AdamRRefIdeal.main_v5) = v2 c
          ∧ r.2.mem ((c.tc : Thread Cert.AdamRRefIdeal.nD Cert.AdamRRefIdeal.τ).loc Cert.AdamRRefIdeal.main_v11) = v3 c
          ∧ r.2.mem ((c.tc : Thread Cert.AdamRRefIdeal.nD Cert.AdamRRefIdeal.τ).loc Cert.AdamRRefIdeal.main_arg0) = m' ((c.tc : Thread Cert.AdamRRefIdeal.nD Cert.AdamRRefIdeal.τ).loc Cert.AdamRRefIdeal.main_arg0)
          ∧ r.2.mem ((c.tc : Thread Cert.AdamRRefIdeal.nD Cert.AdamRRefIdeal.τ).loc Cert.AdamRRefIdeal.main_arg1) = m' ((c.tc : Thread Cert.AdamRRefIdeal.nD Cert.AdamRRefIdeal.τ).loc Cert.AdamRRefIdeal.main_arg1)
          ∧ r.2.mem ((c.tc : Thread Cert.AdamRRefIdeal.nD Cert.AdamRRefIdeal.τ).loc Cert.AdamRRefIdeal.main_arg2) = m' ((c.tc : Thread Cert.AdamRRefIdeal.nD Cert.AdamRRefIdeal.τ).loc Cert.AdamRRefIdeal.main_arg2)
          ∧ r.2.mem ((c.tc : Thread Cert.AdamRRefIdeal.nD Cert.AdamRRefIdeal.τ).loc Cert.AdamRRefIdeal.main_arg3) = m' ((c.tc : Thread Cert.AdamRRefIdeal.nD Cert.AdamRRefIdeal.τ).loc Cert.AdamRRefIdeal.main_arg3))

def preserves_AdamS_AdamSIdeal : Prop :=
  True

def algebraic_AdamSIdeal_AdamSRefIdeal [hAdamSIdeal : Cert.AdamSIdeal.Facts] [hAdamSRefIdeal : Cert.AdamSRefIdeal.Facts] : Prop :=
  ∀ (m : (ℓ : Loc Cert.AdamSIdeal.nD Cert.AdamSIdeal.τ Cert.AdamSIdeal.sig) → Buf (Elt Ideal) ℓ) (g : Dev Cert.AdamSIdeal.nD → PrngReg)
    (m' : (ℓ : Loc Cert.AdamSRefIdeal.nD Cert.AdamSRefIdeal.τ Cert.AdamSRefIdeal.sig) → Buf (Elt Ideal) ℓ) (g' : Dev Cert.AdamSRefIdeal.nD → PrngReg), Pre_AdamSIdeal m →
    (∀ c : Dev Cert.AdamSIdeal.nD,
      m' ((c.tc : Thread Cert.AdamSRefIdeal.nD Cert.AdamSRefIdeal.τ).loc Cert.AdamSRefIdeal.main_arg0) = m ((c.tc : Thread Cert.AdamSIdeal.nD Cert.AdamSIdeal.τ).loc Cert.AdamSIdeal.main_arg0)
      ∧ m' ((c.tc : Thread Cert.AdamSRefIdeal.nD Cert.AdamSRefIdeal.τ).loc Cert.AdamSRefIdeal.main_arg1) = m ((c.tc : Thread Cert.AdamSIdeal.nD Cert.AdamSIdeal.τ).loc Cert.AdamSIdeal.main_arg1)
      ∧ m' ((c.tc : Thread Cert.AdamSRefIdeal.nD Cert.AdamSRefIdeal.τ).loc Cert.AdamSRefIdeal.main_arg2) = m ((c.tc : Thread Cert.AdamSIdeal.nD Cert.AdamSIdeal.τ).loc Cert.AdamSIdeal.main_arg2)
      ∧ m' ((c.tc : Thread Cert.AdamSRefIdeal.nD Cert.AdamSRefIdeal.τ).loc Cert.AdamSRefIdeal.main_arg3) = m ((c.tc : Thread Cert.AdamSIdeal.nD Cert.AdamSIdeal.τ).loc Cert.AdamSIdeal.main_arg3)) →
    ∃ (v0 : (c : Dev Cert.AdamSIdeal.nD) → Buf (Elt Ideal) ((c.tc : Thread Cert.AdamSIdeal.nD Cert.AdamSIdeal.τ).loc Cert.AdamSIdeal.main_v0_0)) (v1 : (c : Dev Cert.AdamSIdeal.nD) → Buf (Elt Ideal) ((c.tc : Thread Cert.AdamSIdeal.nD Cert.AdamSIdeal.τ).loc Cert.AdamSIdeal.main_v0_1)) (v2 : (c : Dev Cert.AdamSIdeal.nD) → Buf (Elt Ideal) ((c.tc : Thread Cert.AdamSIdeal.nD Cert.AdamSIdeal.τ).loc Cert.AdamSIdeal.main_v0_2)) (v3 : (c : Dev Cert.AdamSIdeal.nD) → Buf (Elt Ideal) ((c.tc : Thread Cert.AdamSIdeal.nD Cert.AdamSIdeal.τ).loc Cert.AdamSIdeal.main_v0_3)),
      θ_run (Cert.AdamSIdeal.defs (F := Ideal)) (onTc (τ := Cert.AdamSIdeal.τ) (Cert.AdamSIdeal.main (F := Ideal))) ⟨m, fun _ => 0, g⟩ (fun r => ∀ c : Dev Cert.AdamSIdeal.nD,
          r.2.mem ((c.tc : Thread Cert.AdamSIdeal.nD Cert.AdamSIdeal.τ).loc Cert.AdamSIdeal.main_v0_0) = v0 c
          ∧ r.2.mem ((c.tc : Thread Cert.AdamSIdeal.nD Cert.AdamSIdeal.τ).loc Cert.AdamSIdeal.main_v0_1) = v1 c
          ∧ r.2.mem ((c.tc : Thread Cert.AdamSIdeal.nD Cert.AdamSIdeal.τ).loc Cert.AdamSIdeal.main_v0_2) = v2 c
          ∧ r.2.mem ((c.tc : Thread Cert.AdamSIdeal.nD Cert.AdamSIdeal.τ).loc Cert.AdamSIdeal.main_v0_3) = v3 c
          ∧ r.2.mem ((c.tc : Thread Cert.AdamSIdeal.nD Cert.AdamSIdeal.τ).loc Cert.AdamSIdeal.main_arg0) = m ((c.tc : Thread Cert.AdamSIdeal.nD Cert.AdamSIdeal.τ).loc Cert.AdamSIdeal.main_arg0)
          ∧ r.2.mem ((c.tc : Thread Cert.AdamSIdeal.nD Cert.AdamSIdeal.τ).loc Cert.AdamSIdeal.main_arg1) = m ((c.tc : Thread Cert.AdamSIdeal.nD Cert.AdamSIdeal.τ).loc Cert.AdamSIdeal.main_arg1)
          ∧ r.2.mem ((c.tc : Thread Cert.AdamSIdeal.nD Cert.AdamSIdeal.τ).loc Cert.AdamSIdeal.main_arg2) = m ((c.tc : Thread Cert.AdamSIdeal.nD Cert.AdamSIdeal.τ).loc Cert.AdamSIdeal.main_arg2)
          ∧ r.2.mem ((c.tc : Thread Cert.AdamSIdeal.nD Cert.AdamSIdeal.τ).loc Cert.AdamSIdeal.main_arg3) = m ((c.tc : Thread Cert.AdamSIdeal.nD Cert.AdamSIdeal.τ).loc Cert.AdamSIdeal.main_arg3))
      ∧ θ_run (Cert.AdamSRefIdeal.defs (F := Ideal)) (onTc (τ := Cert.AdamSRefIdeal.τ) (Cert.AdamSRefIdeal.main (F := Ideal))) ⟨m', fun _ => 0, g'⟩ (fun r => ∀ c : Dev Cert.AdamSRefIdeal.nD,
          r.2.mem ((c.tc : Thread Cert.AdamSRefIdeal.nD Cert.AdamSRefIdeal.τ).loc Cert.AdamSRefIdeal.main_v0) = v0 c
          ∧ r.2.mem ((c.tc : Thread Cert.AdamSRefIdeal.nD Cert.AdamSRefIdeal.τ).loc Cert.AdamSRefIdeal.main_v24) = v1 c
          ∧ r.2.mem ((c.tc : Thread Cert.AdamSRefIdeal.nD Cert.AdamSRefIdeal.τ).loc Cert.AdamSRefIdeal.main_v5) = v2 c
          ∧ r.2.mem ((c.tc : Thread Cert.AdamSRefIdeal.nD Cert.AdamSRefIdeal.τ).loc Cert.AdamSRefIdeal.main_v11) = v3 c
          ∧ r.2.mem ((c.tc : Thread Cert.AdamSRefIdeal.nD Cert.AdamSRefIdeal.τ).loc Cert.AdamSRefIdeal.main_arg0) = m' ((c.tc : Thread Cert.AdamSRefIdeal.nD Cert.AdamSRefIdeal.τ).loc Cert.AdamSRefIdeal.main_arg0)
          ∧ r.2.mem ((c.tc : Thread Cert.AdamSRefIdeal.nD Cert.AdamSRefIdeal.τ).loc Cert.AdamSRefIdeal.main_arg1) = m' ((c.tc : Thread Cert.AdamSRefIdeal.nD Cert.AdamSRefIdeal.τ).loc Cert.AdamSRefIdeal.main_arg1)
          ∧ r.2.mem ((c.tc : Thread Cert.AdamSRefIdeal.nD Cert.AdamSRefIdeal.τ).loc Cert.AdamSRefIdeal.main_arg2) = m' ((c.tc : Thread Cert.AdamSRefIdeal.nD Cert.AdamSRefIdeal.τ).loc Cert.AdamSRefIdeal.main_arg2)
          ∧ r.2.mem ((c.tc : Thread Cert.AdamSRefIdeal.nD Cert.AdamSRefIdeal.τ).loc Cert.AdamSRefIdeal.main_arg3) = m' ((c.tc : Thread Cert.AdamSRefIdeal.nD Cert.AdamSRefIdeal.τ).loc Cert.AdamSRefIdeal.main_arg3))

def Claim : Prop :=
  ∃ (hKernel : Cert.Kernel.Facts) (hKernelIdeal : Cert.KernelIdeal.Facts) (hReferenceIdeal : Cert.ReferenceIdeal.Facts) (hDz : Cert.Dz.Facts) (hDzIdeal : Cert.DzIdeal.Facts) (hDzRefIdeal : Cert.DzRefIdeal.Facts) (hDwb : Cert.Dwb.Facts) (hDwbIdeal : Cert.DwbIdeal.Facts) (hDwbRefIdeal : Cert.DwbRefIdeal.Facts) (hDwa : Cert.Dwa.Facts) (hDwaIdeal : Cert.DwaIdeal.Facts) (hDwaRefIdeal : Cert.DwaRefIdeal.Facts) (hConvDwb : Cert.ConvDwb.Facts) (hConvDwbIdeal : Cert.ConvDwbIdeal.Facts) (hConvDwbRefIdeal : Cert.ConvDwbRefIdeal.Facts) (hConvDwa : Cert.ConvDwa.Facts) (hConvDwaIdeal : Cert.ConvDwaIdeal.Facts) (hConvDwaRefIdeal : Cert.ConvDwaRefIdeal.Facts) (hMlaDwq : Cert.MlaDwq.Facts) (hMlaDwqIdeal : Cert.MlaDwqIdeal.Facts) (hMlaDwqRefIdeal : Cert.MlaDwqRefIdeal.Facts) (hMlaDwin : Cert.MlaDwin.Facts) (hMlaDwinIdeal : Cert.MlaDwinIdeal.Facts) (hMlaDwinRefIdeal : Cert.MlaDwinRefIdeal.Facts) (hDh : Cert.Dh.Facts) (hDhIdeal : Cert.DhIdeal.Facts) (hDhRefIdeal : Cert.DhRefIdeal.Facts) (hConvDs : Cert.ConvDs.Facts) (hConvDsIdeal : Cert.ConvDsIdeal.Facts) (hConvDsRefIdeal : Cert.ConvDsRefIdeal.Facts) (hConvDh : Cert.ConvDh.Facts) (hConvDhIdeal : Cert.ConvDhIdeal.Facts) (hConvDhRefIdeal : Cert.ConvDhRefIdeal.Facts) (hMlaDo : Cert.MlaDo.Facts) (hMlaDoIdeal : Cert.MlaDoIdeal.Facts) (hMlaDoRefIdeal : Cert.MlaDoRefIdeal.Facts) (hMlaDqn : Cert.MlaDqn.Facts) (hMlaDqnIdeal : Cert.MlaDqnIdeal.Facts) (hMlaDqnRefIdeal : Cert.MlaDqnRefIdeal.Facts) (hMlaDh : Cert.MlaDh.Facts) (hMlaDhIdeal : Cert.MlaDhIdeal.Facts) (hMlaDhRefIdeal : Cert.MlaDhRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hConvOut : Cert.ConvOut.Facts) (hConvOutIdeal : Cert.ConvOutIdeal.Facts) (hConvOutRefIdeal : Cert.ConvOutRefIdeal.Facts) (hMlaOut : Cert.MlaOut.Facts) (hMlaOutIdeal : Cert.MlaOutIdeal.Facts) (hMlaOutRefIdeal : Cert.MlaOutRefIdeal.Facts) (hMlaIn : Cert.MlaIn.Facts) (hMlaInIdeal : Cert.MlaInIdeal.Facts) (hMlaInRefIdeal : Cert.MlaInRefIdeal.Facts) (hRmsBwd : Cert.RmsBwd.Facts) (hRmsBwdIdeal : Cert.RmsBwdIdeal.Facts) (hRmsBwdRefIdeal : Cert.RmsBwdRefIdeal.Facts) (hRmsFwd : Cert.RmsFwd.Facts) (hRmsFwdIdeal : Cert.RmsFwdIdeal.Facts) (hRmsFwdRefIdeal : Cert.RmsFwdRefIdeal.Facts) (hHead : Cert.Head.Facts) (hHeadIdeal : Cert.HeadIdeal.Facts) (hHeadRefIdeal : Cert.HeadRefIdeal.Facts) (hGlu : Cert.Glu.Facts) (hGluIdeal : Cert.GluIdeal.Facts) (hGluRefIdeal : Cert.GluRefIdeal.Facts) (hAdamA : Cert.AdamA.Facts) (hAdamAIdeal : Cert.AdamAIdeal.Facts) (hAdamARefIdeal : Cert.AdamARefIdeal.Facts) (hAdamB : Cert.AdamB.Facts) (hAdamBIdeal : Cert.AdamBIdeal.Facts) (hAdamBRefIdeal : Cert.AdamBRefIdeal.Facts) (hAdamC : Cert.AdamC.Facts) (hAdamCIdeal : Cert.AdamCIdeal.Facts) (hAdamCRefIdeal : Cert.AdamCRefIdeal.Facts) (hAdamD : Cert.AdamD.Facts) (hAdamDIdeal : Cert.AdamDIdeal.Facts) (hAdamDRefIdeal : Cert.AdamDRefIdeal.Facts) (hAdamE : Cert.AdamE.Facts) (hAdamEIdeal : Cert.AdamEIdeal.Facts) (hAdamERefIdeal : Cert.AdamERefIdeal.Facts) (hAdamF : Cert.AdamF.Facts) (hAdamFIdeal : Cert.AdamFIdeal.Facts) (hAdamFRefIdeal : Cert.AdamFRefIdeal.Facts) (hAdamG : Cert.AdamG.Facts) (hAdamGIdeal : Cert.AdamGIdeal.Facts) (hAdamGRefIdeal : Cert.AdamGRefIdeal.Facts) (hAdamR : Cert.AdamR.Facts) (hAdamRIdeal : Cert.AdamRIdeal.Facts) (hAdamRRefIdeal : Cert.AdamRRefIdeal.Facts) (hAdamS : Cert.AdamS.Facts) (hAdamSIdeal : Cert.AdamSIdeal.Facts) (hAdamSRefIdeal : Cert.AdamSRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dz (hDz := hDz)
    ∧ quiescent_DzIdeal (hDzIdeal := hDzIdeal)
    ∧ quiescent_DzRefIdeal (hDzRefIdeal := hDzRefIdeal)
    ∧ quiescent_Dwb (hDwb := hDwb)
    ∧ quiescent_DwbIdeal (hDwbIdeal := hDwbIdeal)
    ∧ quiescent_DwbRefIdeal (hDwbRefIdeal := hDwbRefIdeal)
    ∧ quiescent_Dwa (hDwa := hDwa)
    ∧ quiescent_DwaIdeal (hDwaIdeal := hDwaIdeal)
    ∧ quiescent_DwaRefIdeal (hDwaRefIdeal := hDwaRefIdeal)
    ∧ quiescent_ConvDwb (hConvDwb := hConvDwb)
    ∧ quiescent_ConvDwbIdeal (hConvDwbIdeal := hConvDwbIdeal)
    ∧ quiescent_ConvDwbRefIdeal (hConvDwbRefIdeal := hConvDwbRefIdeal)
    ∧ quiescent_ConvDwa (hConvDwa := hConvDwa)
    ∧ quiescent_ConvDwaIdeal (hConvDwaIdeal := hConvDwaIdeal)
    ∧ quiescent_ConvDwaRefIdeal (hConvDwaRefIdeal := hConvDwaRefIdeal)
    ∧ quiescent_MlaDwq (hMlaDwq := hMlaDwq)
    ∧ quiescent_MlaDwqIdeal (hMlaDwqIdeal := hMlaDwqIdeal)
    ∧ quiescent_MlaDwqRefIdeal (hMlaDwqRefIdeal := hMlaDwqRefIdeal)
    ∧ quiescent_MlaDwin (hMlaDwin := hMlaDwin)
    ∧ quiescent_MlaDwinIdeal (hMlaDwinIdeal := hMlaDwinIdeal)
    ∧ quiescent_MlaDwinRefIdeal (hMlaDwinRefIdeal := hMlaDwinRefIdeal)
    ∧ quiescent_Dh (hDh := hDh)
    ∧ quiescent_DhIdeal (hDhIdeal := hDhIdeal)
    ∧ quiescent_DhRefIdeal (hDhRefIdeal := hDhRefIdeal)
    ∧ quiescent_ConvDs (hConvDs := hConvDs)
    ∧ quiescent_ConvDsIdeal (hConvDsIdeal := hConvDsIdeal)
    ∧ quiescent_ConvDsRefIdeal (hConvDsRefIdeal := hConvDsRefIdeal)
    ∧ quiescent_ConvDh (hConvDh := hConvDh)
    ∧ quiescent_ConvDhIdeal (hConvDhIdeal := hConvDhIdeal)
    ∧ quiescent_ConvDhRefIdeal (hConvDhRefIdeal := hConvDhRefIdeal)
    ∧ quiescent_MlaDo (hMlaDo := hMlaDo)
    ∧ quiescent_MlaDoIdeal (hMlaDoIdeal := hMlaDoIdeal)
    ∧ quiescent_MlaDoRefIdeal (hMlaDoRefIdeal := hMlaDoRefIdeal)
    ∧ quiescent_MlaDqn (hMlaDqn := hMlaDqn)
    ∧ quiescent_MlaDqnIdeal (hMlaDqnIdeal := hMlaDqnIdeal)
    ∧ quiescent_MlaDqnRefIdeal (hMlaDqnRefIdeal := hMlaDqnRefIdeal)
    ∧ quiescent_MlaDh (hMlaDh := hMlaDh)
    ∧ quiescent_MlaDhIdeal (hMlaDhIdeal := hMlaDhIdeal)
    ∧ quiescent_MlaDhRefIdeal (hMlaDhRefIdeal := hMlaDhRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_MlaOut (hMlaOut := hMlaOut)
    ∧ quiescent_MlaOutIdeal (hMlaOutIdeal := hMlaOutIdeal)
    ∧ quiescent_MlaOutRefIdeal (hMlaOutRefIdeal := hMlaOutRefIdeal)
    ∧ quiescent_MlaIn (hMlaIn := hMlaIn)
    ∧ quiescent_MlaInIdeal (hMlaInIdeal := hMlaInIdeal)
    ∧ quiescent_MlaInRefIdeal (hMlaInRefIdeal := hMlaInRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_Head (hHead := hHead)
    ∧ quiescent_HeadIdeal (hHeadIdeal := hHeadIdeal)
    ∧ quiescent_HeadRefIdeal (hHeadRefIdeal := hHeadRefIdeal)
    ∧ quiescent_Glu (hGlu := hGlu)
    ∧ quiescent_GluIdeal (hGluIdeal := hGluIdeal)
    ∧ quiescent_GluRefIdeal (hGluRefIdeal := hGluRefIdeal)
    ∧ quiescent_AdamA (hAdamA := hAdamA)
    ∧ quiescent_AdamAIdeal (hAdamAIdeal := hAdamAIdeal)
    ∧ quiescent_AdamARefIdeal (hAdamARefIdeal := hAdamARefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamC (hAdamC := hAdamC)
    ∧ quiescent_AdamCIdeal (hAdamCIdeal := hAdamCIdeal)
    ∧ quiescent_AdamCRefIdeal (hAdamCRefIdeal := hAdamCRefIdeal)
    ∧ quiescent_AdamD (hAdamD := hAdamD)
    ∧ quiescent_AdamDIdeal (hAdamDIdeal := hAdamDIdeal)
    ∧ quiescent_AdamDRefIdeal (hAdamDRefIdeal := hAdamDRefIdeal)
    ∧ quiescent_AdamE (hAdamE := hAdamE)
    ∧ quiescent_AdamEIdeal (hAdamEIdeal := hAdamEIdeal)
    ∧ quiescent_AdamERefIdeal (hAdamERefIdeal := hAdamERefIdeal)
    ∧ quiescent_AdamF (hAdamF := hAdamF)
    ∧ quiescent_AdamFIdeal (hAdamFIdeal := hAdamFIdeal)
    ∧ quiescent_AdamFRefIdeal (hAdamFRefIdeal := hAdamFRefIdeal)
    ∧ quiescent_AdamG (hAdamG := hAdamG)
    ∧ quiescent_AdamGIdeal (hAdamGIdeal := hAdamGIdeal)
    ∧ quiescent_AdamGRefIdeal (hAdamGRefIdeal := hAdamGRefIdeal)
    ∧ quiescent_AdamR (hAdamR := hAdamR)
    ∧ quiescent_AdamRIdeal (hAdamRIdeal := hAdamRIdeal)
    ∧ quiescent_AdamRRefIdeal (hAdamRRefIdeal := hAdamRRefIdeal)
    ∧ quiescent_AdamS (hAdamS := hAdamS)
    ∧ quiescent_AdamSIdeal (hAdamSIdeal := hAdamSIdeal)
    ∧ quiescent_AdamSRefIdeal (hAdamSRefIdeal := hAdamSRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dz_DzIdeal
    ∧ algebraic_DzIdeal_DzRefIdeal (hDzIdeal := hDzIdeal) (hDzRefIdeal := hDzRefIdeal)
    ∧ preserves_Dwb_DwbIdeal
    ∧ algebraic_DwbIdeal_DwbRefIdeal (hDwbIdeal := hDwbIdeal) (hDwbRefIdeal := hDwbRefIdeal)
    ∧ preserves_Dwa_DwaIdeal
    ∧ algebraic_DwaIdeal_DwaRefIdeal (hDwaIdeal := hDwaIdeal) (hDwaRefIdeal := hDwaRefIdeal)
    ∧ preserves_ConvDwb_ConvDwbIdeal
    ∧ algebraic_ConvDwbIdeal_ConvDwbRefIdeal (hConvDwbIdeal := hConvDwbIdeal) (hConvDwbRefIdeal := hConvDwbRefIdeal)
    ∧ preserves_ConvDwa_ConvDwaIdeal
    ∧ algebraic_ConvDwaIdeal_ConvDwaRefIdeal (hConvDwaIdeal := hConvDwaIdeal) (hConvDwaRefIdeal := hConvDwaRefIdeal)
    ∧ preserves_MlaDwq_MlaDwqIdeal
    ∧ algebraic_MlaDwqIdeal_MlaDwqRefIdeal (hMlaDwqIdeal := hMlaDwqIdeal) (hMlaDwqRefIdeal := hMlaDwqRefIdeal)
    ∧ preserves_MlaDwin_MlaDwinIdeal
    ∧ algebraic_MlaDwinIdeal_MlaDwinRefIdeal (hMlaDwinIdeal := hMlaDwinIdeal) (hMlaDwinRefIdeal := hMlaDwinRefIdeal)
    ∧ preserves_Dh_DhIdeal
    ∧ algebraic_DhIdeal_DhRefIdeal (hDhIdeal := hDhIdeal) (hDhRefIdeal := hDhRefIdeal)
    ∧ preserves_ConvDs_ConvDsIdeal
    ∧ algebraic_ConvDsIdeal_ConvDsRefIdeal (hConvDsIdeal := hConvDsIdeal) (hConvDsRefIdeal := hConvDsRefIdeal)
    ∧ preserves_ConvDh_ConvDhIdeal
    ∧ algebraic_ConvDhIdeal_ConvDhRefIdeal (hConvDhIdeal := hConvDhIdeal) (hConvDhRefIdeal := hConvDhRefIdeal)
    ∧ preserves_MlaDo_MlaDoIdeal
    ∧ algebraic_MlaDoIdeal_MlaDoRefIdeal (hMlaDoIdeal := hMlaDoIdeal) (hMlaDoRefIdeal := hMlaDoRefIdeal)
    ∧ preserves_MlaDqn_MlaDqnIdeal
    ∧ algebraic_MlaDqnIdeal_MlaDqnRefIdeal (hMlaDqnIdeal := hMlaDqnIdeal) (hMlaDqnRefIdeal := hMlaDqnRefIdeal)
    ∧ preserves_MlaDh_MlaDhIdeal
    ∧ algebraic_MlaDhIdeal_MlaDhRefIdeal (hMlaDhIdeal := hMlaDhIdeal) (hMlaDhRefIdeal := hMlaDhRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_ConvOut_ConvOutIdeal
    ∧ algebraic_ConvOutIdeal_ConvOutRefIdeal (hConvOutIdeal := hConvOutIdeal) (hConvOutRefIdeal := hConvOutRefIdeal)
    ∧ preserves_MlaOut_MlaOutIdeal
    ∧ algebraic_MlaOutIdeal_MlaOutRefIdeal (hMlaOutIdeal := hMlaOutIdeal) (hMlaOutRefIdeal := hMlaOutRefIdeal)
    ∧ preserves_MlaIn_MlaInIdeal
    ∧ algebraic_MlaInIdeal_MlaInRefIdeal (hMlaInIdeal := hMlaInIdeal) (hMlaInRefIdeal := hMlaInRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_Head_HeadIdeal
    ∧ algebraic_HeadIdeal_HeadRefIdeal (hHeadIdeal := hHeadIdeal) (hHeadRefIdeal := hHeadRefIdeal)
    ∧ preserves_Glu_GluIdeal
    ∧ algebraic_GluIdeal_GluRefIdeal (hGluIdeal := hGluIdeal) (hGluRefIdeal := hGluRefIdeal)
    ∧ preserves_AdamA_AdamAIdeal
    ∧ algebraic_AdamAIdeal_AdamARefIdeal (hAdamAIdeal := hAdamAIdeal) (hAdamARefIdeal := hAdamARefIdeal)
    ∧ preserves_AdamB_AdamBIdeal
    ∧ algebraic_AdamBIdeal_AdamBRefIdeal (hAdamBIdeal := hAdamBIdeal) (hAdamBRefIdeal := hAdamBRefIdeal)
    ∧ preserves_AdamC_AdamCIdeal
    ∧ algebraic_AdamCIdeal_AdamCRefIdeal (hAdamCIdeal := hAdamCIdeal) (hAdamCRefIdeal := hAdamCRefIdeal)
    ∧ preserves_AdamD_AdamDIdeal
    ∧ algebraic_AdamDIdeal_AdamDRefIdeal (hAdamDIdeal := hAdamDIdeal) (hAdamDRefIdeal := hAdamDRefIdeal)
    ∧ preserves_AdamE_AdamEIdeal
    ∧ algebraic_AdamEIdeal_AdamERefIdeal (hAdamEIdeal := hAdamEIdeal) (hAdamERefIdeal := hAdamERefIdeal)
    ∧ preserves_AdamF_AdamFIdeal
    ∧ algebraic_AdamFIdeal_AdamFRefIdeal (hAdamFIdeal := hAdamFIdeal) (hAdamFRefIdeal := hAdamFRefIdeal)
    ∧ preserves_AdamG_AdamGIdeal
    ∧ algebraic_AdamGIdeal_AdamGRefIdeal (hAdamGIdeal := hAdamGIdeal) (hAdamGRefIdeal := hAdamGRefIdeal)
    ∧ preserves_AdamR_AdamRIdeal
    ∧ algebraic_AdamRIdeal_AdamRRefIdeal (hAdamRIdeal := hAdamRIdeal) (hAdamRRefIdeal := hAdamRRefIdeal)
    ∧ preserves_AdamS_AdamSIdeal
    ∧ algebraic_AdamSIdeal_AdamSRefIdeal (hAdamSIdeal := hAdamSIdeal) (hAdamSRefIdeal := hAdamSRefIdeal)
-- ==== Pre_finite.lean ====
abbrev S4096x3072 : Shape := ⟨2, ![4096, 3072]⟩
abbrev S4096x4096 : Shape := ⟨2, ![4096, 4096]⟩
abbrev S4096x64 : Shape := ⟨2, ![4096, 64]⟩
abbrev S4096x32 : Shape := ⟨2, ![4096, 32]⟩
abbrev S4096x2048 : Shape := ⟨2, ![4096, 2048]⟩
abbrev S_ : Shape := ⟨0, ![]⟩

class Facts : Prop where
  bcast_S_S4096x3072 : S_.BroadcastsInDim S4096x3072 (![] : Fin 0 → Fin S4096x3072.rank)
  bcast_S_S4096x4096 : S_.BroadcastsInDim S4096x4096 (![] : Fin 0 → Fin S4096x4096.rank)
  bcast_S_S4096x64 : S_.BroadcastsInDim S4096x64 (![] : Fin 0 → Fin S4096x64.rank)
  bcast_S_S4096x32 : S_.BroadcastsInDim S4096x32 (![] : Fin 0 → Fin S4096x32.rank)
  bitsLt_bf16_f32 : FTy.bits .bf16 < FTy.bits .f32
  bcast_S_S4096x2048 : S_.BroadcastsInDim S4096x2048 (![] : Fin 0 → Fin S4096x2048.rank)

variable [Facts]

def fn_part1 {F : FTy → Type} [FloatOps F] (main_v2 : IVec S4096x3072 1) (main_v5 : IVec S4096x4096 1) (main_v8 : IVec S4096x64 1) (main_v11 : IVec S4096x32 1) (main_v14 : IVec S4096x32 1) (main_v16 : FVec F S4096x2048 .f32) (main_v17 : FVec F S4096x2048 .f32) : IVec S4096x3072 1 × IVec S4096x4096 1 × IVec S4096x64 1 × IVec S4096x32 1 × IVec S4096x32 1 × IVec S4096x2048 1 :=
  let main_v18 : IVec S4096x2048 1 := cmpf .olt main_v16 main_v17
  (main_v2, main_v5, main_v8, main_v11, main_v14, main_v18)

def fn {F : FTy → Type} [FloatOps F] (main_arg0 : FVec F S4096x3072 .f32) (main_arg1 : FVec F S4096x4096 .f32) (main_arg2 : FVec F S4096x64 .f32) (main_arg3 : FVec F S4096x32 .f32) (main_arg4 : FVec F S4096x32 .f32) (main_arg5 : FVec F S4096x2048 .bf16) : IVec S4096x3072 1 × IVec S4096x4096 1 × IVec S4096x64 1 × IVec S4096x32 1 × IVec S4096x32 1 × IVec S4096x2048 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S4096x64 .f32 := Host.absf main_arg2
  let main_cst_1 : FVec F S_ .f32 := constant S_ .f32 0x7F800000#32
  let main_v7 : FVec F S4096x64 .f32 := broadcastInDim S4096x64 ![] bcast_S_S4096x64 main_cst_1
  let main_v8 : IVec S4096x64 1 := cmpf .olt main_v6 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_v12 : FVec F S4096x32 .f32 := Host.absf main_arg4
  let main_cst_3 : FVec F S_ .f32 := constant S_ .f32 0x7F800000#32
  let main_v13 : FVec F S4096x32 .f32 := broadcastInDim S4096x32 ![] bcast_S_S4096x32 main_cst_3
  let main_v14 : IVec S4096x32 1 := cmpf .olt main_v12 main_v13
  let main_v15 : FVec F S4096x2048 .f32 := (extf .f32 · bitsLt_bf16_f32) main_arg5
  let main_v16 : FVec F S4096x2048 .f32 := Host.absf main_v15
  let main_cst_4 : FVec F S_ .f32 := constant S_ .f32 0x7F800000#32
  let main_v17 : FVec F S4096x2048 .f32 := broadcastInDim S4096x2048 ![] bcast_S_S4096x2048 main_cst_4
  fn_part1 (F := F) main_v2 main_v5 main_v8 main_v11 main_v14 main_v16 main_v17
-- ==== Kernel.lean ====
abbrev S4096x3072 : Shape := ⟨2, ![4096, 3072]⟩
abbrev S4096x4096 : Shape := ⟨2, ![4096, 4096]⟩
abbrev S4096x64 : Shape := ⟨2, ![4096, 64]⟩
abbrev S4096x32 : Shape := ⟨2, ![4096, 32]⟩
abbrev S4096x2048 : Shape := ⟨2, ![4096, 2048]⟩
abbrev S36 : Shape := ⟨1, ![36]⟩
abbrev S_ : Shape := ⟨0, ![]⟩
abbrev S4096x128 : Shape := ⟨2, ![4096, 128]⟩
abbrev S4096x256 : Shape := ⟨2, ![4096, 256]⟩
abbrev S4096x16x192 : Shape := ⟨3, ![4096, 16, 192]⟩
abbrev S4096x16x128 : Shape := ⟨3, ![4096, 16, 128]⟩
abbrev S4096x16x64 : Shape := ⟨3, ![4096, 16, 64]⟩
abbrev S4096x16x256 : Shape := ⟨3, ![4096, 16, 256]⟩
abbrev S4096x1x32 : Shape := ⟨3, ![4096, 1, 32]⟩
abbrev S4096x16x32 : Shape := ⟨3, ![4096, 16, 32]⟩
abbrev S16x4096x4096 : Shape := ⟨3, ![16, 4096, 4096]⟩
abbrev S4096x4096x16 : Shape := ⟨3, ![4096, 4096, 16]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S16x4096 : Shape := ⟨2, ![16, 4096]⟩
abbrev S16x4096x1 : Shape := ⟨3, ![16, 4096, 1]⟩
abbrev S16x1x4096 : Shape := ⟨3, ![16, 1, 4096]⟩
abbrev S16x128x4096 : Shape := ⟨3, ![16, 128, 4096]⟩
abbrev S4096x1x64 : Shape := ⟨3, ![4096, 1, 64]⟩
abbrev S512x512 : Shape := ⟨2, ![512, 512]⟩
abbrev S1 : Shape := ⟨1, ![1]⟩
abbrev S512x256 : Shape := ⟨2, ![512, 256]⟩
abbrev S2x1x512 : Shape := ⟨3, ![2, 1, 512]⟩
abbrev S512x128 : Shape := ⟨2, ![512, 128]⟩
abbrev S2x512x256 : Shape := ⟨3, ![2, 512, 256]⟩
abbrev S2x512x128 : Shape := ⟨3, ![2, 512, 128]⟩
abbrev S2x256x4096 : Shape := ⟨3, ![2, 256, 4096]⟩
abbrev S2x1x4096 : Shape := ⟨3, ![2, 1, 4096]⟩
abbrev S2 : Shape := ⟨1, ![2]⟩
abbrev S256x512 : Shape := ⟨2, ![256, 512]⟩
abbrev S1x256x512 : Shape := ⟨3, ![1, 256, 512]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1x1x512 : Shape := ⟨3, ![1, 1, 512]⟩
abbrev S1x512x128 : Shape := ⟨3, ![1, 512, 128]⟩
abbrev S1x512x256 : Shape := ⟨3, ![1, 512, 256]⟩

abbrev nBuf : Space → Nat
  | .hbm => 127
  | .vmem => 31
  | .smem => 2
  | _ => 0

abbrev bufTy : (tb : Table) → Fin (tcTables nBuf tb) → BufTy
  | .hbm, ⟨0, _⟩ => ⟨S4096x3072, .f32⟩
  | .hbm, ⟨1, _⟩ => ⟨S4096x4096, .f32⟩
  | .hbm, ⟨2, _⟩ => ⟨S4096x64, .f32⟩
  | .hbm, ⟨3, _⟩ => ⟨S4096x32, .f32⟩
  | .hbm, ⟨4, _⟩ => ⟨S4096x32, .f32⟩
  | .hbm, ⟨5, _⟩ => ⟨S4096x2048, .bf16⟩
  | .hbm, ⟨6, _⟩ => ⟨S_, .f32⟩
  | .hbm, ⟨7, _⟩ => ⟨S4096x64, .f32⟩
  | .hbm, ⟨8, _⟩ => ⟨S4096x128, .f32⟩
  | .hbm, ⟨9, _⟩ => ⟨S4096x32, .f32⟩
  | .hbm, ⟨10, _⟩ => ⟨S4096x128, .f32⟩
  | .hbm, ⟨11, _⟩ => ⟨S_, .f32⟩
  | .hbm, ⟨12, _⟩ => ⟨S4096x128, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S_, .f32⟩
  | .hbm, ⟨18, _⟩ => ⟨S4096x128, .f32⟩
  | .hbm, ⟨19, _⟩ => ⟨S4096x256, .f32⟩
  | .hbm, ⟨20, _⟩ => ⟨S_, .f32⟩
  | .hbm, ⟨21, _⟩ => ⟨S4096x256, .f32⟩
  | .hbm, ⟨22, _⟩ => ⟨S4096x256, .f32⟩
  | .hbm, ⟨23, _⟩ => ⟨S4096x16x192, .f32⟩
  | .hbm, ⟨24, _⟩ => ⟨S4096x16x128, .f32⟩
  | .hbm, ⟨25, _⟩ => ⟨S4096x16x64, .f32⟩
  | .hbm, ⟨26, _⟩ => ⟨S4096x16x256, .f32⟩
  | .hbm, ⟨27, _⟩ => ⟨S4096x16x128, .f32⟩
  | .hbm, ⟨28, _⟩ => ⟨S4096x16x128, .f32⟩
  | .hbm, ⟨29, _⟩ => ⟨S4096x1x32, .f32⟩
  | .hbm, ⟨30, _⟩ => ⟨S4096x1x32, .f32⟩
  | .hbm, ⟨31, _⟩ => ⟨S4096x16x32, .f32⟩
  | .hbm, ⟨32, _⟩ => ⟨S4096x16x32, .f32⟩
  | .hbm, ⟨33, _⟩ => ⟨S4096x16x32, .f32⟩
  | .hbm, ⟨34, _⟩ => ⟨S4096x16x32, .f32⟩
  | .hbm, ⟨35, _⟩ => ⟨S4096x16x32, .f32⟩
  | .hbm, ⟨36, _⟩ => ⟨S4096x16x32, .f32⟩
  | .hbm, ⟨37, _⟩ => ⟨S4096x16x32, .f32⟩
  | .hbm, ⟨38, _⟩ => ⟨S4096x16x32, .f32⟩
  | .hbm, ⟨39, _⟩ => ⟨S4096x16x32, .f32⟩
  | .hbm, ⟨40, _⟩ => ⟨S4096x16x32, .f32⟩
  | .hbm, ⟨41, _⟩ => ⟨S4096x16x32, .f32⟩
  | .hbm, ⟨42, _⟩ => ⟨S4096x16x32, .f32⟩
  | .hbm, ⟨43, _⟩ => ⟨S4096x16x64, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x64, .f32⟩
  | .hbm, ⟨53, _⟩ => ⟨S16x4096x4096, .f32⟩
  | .hbm, ⟨54, _⟩ => ⟨S4096x4096x16, .f32⟩
  | .hbm, ⟨55, _⟩ => ⟨S16x4096x4096, .f32⟩
  | .hbm, ⟨56, _⟩ => ⟨S16x4096x4096, .f32⟩
  | .hbm, ⟨57, _⟩ => ⟨S_, .f32⟩
  | .hbm, ⟨58, _⟩ => ⟨S16x4096x4096, .f32⟩
  | .hbm, ⟨59, _⟩ => ⟨S16x4096x4096, .f32⟩
  | .hbm, ⟨60, _⟩ => ⟨S4096, .i32⟩
  | .hbm, ⟨61, _⟩ => ⟨S_, .i32⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S_, .i32⟩
  | .hbm, ⟨67, _⟩ => ⟨S4096, .i32⟩
  | .hbm, ⟨68, _⟩ => ⟨S4096, .i1⟩
  | .hbm, ⟨69, _⟩ => ⟨S4096, .i32⟩
  | .hbm, ⟨70, _⟩ => ⟨S4096, .i32⟩
  | .hbm, ⟨71, _⟩ => ⟨S_, .i32⟩
  | .hbm, ⟨72, _⟩ => ⟨S4096, .i32⟩
  | .hbm, ⟨73, _⟩ => ⟨S4096, .i1⟩
  | .hbm, ⟨74, _⟩ => ⟨S4096, .i1⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S4096, .i32⟩
  | .hbm, ⟨79, _⟩ => ⟨S1x1x4096, .i32⟩
  | .hbm, ⟨80, _⟩ => ⟨S1x4096x1, .i32⟩
  | .hbm, ⟨81, _⟩ => ⟨S1x4096x4096, .i32⟩
  | .hbm, ⟨82, _⟩ => ⟨S1x4096x4096, .i32⟩
  | .hbm, ⟨83, _⟩ => ⟨S1x4096x4096, .i1⟩
  | .hbm, ⟨84, _⟩ => ⟨S_, .f32⟩
  | .hbm, ⟨85, _⟩ => ⟨S_, .f32⟩
  | .hbm, ⟨86, _⟩ => ⟨S16x4096x4096, .i1⟩
  | .hbm, ⟨87, _⟩ => ⟨S16x4096x4096, .f32⟩
  | .hbm, ⟨88, _⟩ => ⟨S16x4096x4096, .f32⟩
  | .hbm, ⟨89, _⟩ => ⟨S_, .f32⟩
  | .hbm, ⟨90, _⟩ => ⟨S16x4096, .f32⟩
  | .hbm, ⟨91, _⟩ => ⟨S16x4096x1, .f32⟩
  | .hbm, ⟨92, _⟩ => ⟨S16x4096x4096, .f32⟩
  | .hbm, ⟨93, _⟩ => ⟨S16x4096x4096, .f32⟩
  | .hbm, ⟨94, _⟩ => ⟨S16x4096x4096, .f32⟩
  | .hbm, ⟨95, _⟩ => ⟨S_, .f32⟩
  | .hbm, ⟨96, _⟩ => ⟨S16x4096, .f32⟩
  | .hbm, ⟨97, _⟩ => ⟨S16x4096, .f32⟩
  | .hbm, ⟨98, _⟩ => ⟨S16x4096, .f32⟩
  | .hbm, ⟨99, _⟩ => ⟨S16x1x4096, .f32⟩
  | .hbm, ⟨100, _⟩ => ⟨S16x4096x1, .f32⟩
  | .hbm, ⟨101, _⟩ => ⟨S16x4096x4096, .f32⟩
  | .hbm, ⟨102, _⟩ => ⟨S16x4096x4096, .f32⟩
  | .hbm, ⟨103, _⟩ => ⟨S16x128x4096, .f32⟩
  | .hbm, ⟨104, _⟩ => ⟨S4096x16x128, .f32⟩
  | .hbm, ⟨105, _⟩ => ⟨S4096x2048, .f32⟩
  | .hbm, ⟨106, _⟩ => ⟨S_, .f32⟩
  | .hbm, ⟨107, _⟩ => ⟨S4096x16x64, .f32⟩
  | .hbm, ⟨108, _⟩ => ⟨S4096x16x256, .f32⟩
  | .hbm, ⟨109, _⟩ => ⟨S_, .f32⟩
  | .hbm, ⟨110, _⟩ => ⟨S4096x16x256, .f32⟩
  | .hbm, ⟨111, _⟩ => ⟨S4096x16x256, .f32⟩
  | .hbm, ⟨112, _⟩ => ⟨S4096x4096, .f32⟩
  | .hbm, ⟨113, _⟩ => ⟨S4096x1x64, .f32⟩
  | .hbm, ⟨114, _⟩ => ⟨S4096x16x64, .f32⟩
  | .hbm, ⟨115, _⟩ => ⟨S4096x16x256, .f32⟩
  | .hbm, ⟨116, _⟩ => ⟨S4096x4096, .f32⟩
  | .hbm, ⟨117, _⟩ => ⟨S4096x4096, .bf16⟩
  | .hbm, ⟨118, _⟩ => ⟨S4096x4096, .bf16⟩
  | .hbm, ⟨119, _⟩ => ⟨S4096x4096, .f32⟩
  | .hbm, ⟨120, _⟩ => ⟨S4096x4096, .bf16⟩
  | .hbm, ⟨121, _⟩ => ⟨S4096x2048, .f32⟩
  | .hbm, ⟨122, _⟩ => ⟨S4096x2048, .bf16⟩
  | .hbm, ⟨123, _⟩ => ⟨S4096x2048, .bf16⟩
  | .hbm, ⟨124, _⟩ => ⟨S4096x4096, .bf16⟩
  | .hbm, ⟨125, _⟩ => ⟨S4096x4096, .bf16⟩
  | .hbm, ⟨126, _⟩ => ⟨S4096x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S2x1x512, .f32⟩
  | .local _ .vmem, ⟨13, _⟩ => ⟨S2x1x512, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x512, .bf16⟩
  | .local _ .vmem, ⟨23, _⟩ => ⟨S512x512, .bf16⟩
  | .local _ .vmem, ⟨24, _⟩ => ⟨S2x512x256, .f32⟩
  | .local _ .vmem, ⟨25, _⟩ => ⟨S2x512x128, .f32⟩
  | .local _ .vmem, ⟨26, _⟩ => ⟨S2x256x4096, .f32⟩
  | .local _ .vmem, ⟨27, _⟩ => ⟨S2x1x4096, .f32⟩
  | .local _ .vmem, ⟨28, _⟩ => ⟨S4096x128, .f32⟩
  | .local _ .vmem, ⟨29, _⟩ => ⟨S512x512, .bf16⟩
  | .local _ .vmem, ⟨30, _⟩ => ⟨S512x128, .f32⟩
  | .local _ .smem, ⟨0, _⟩ => ⟨S36, .i32⟩
  | .local _ .smem, ⟨1, _⟩ => ⟨S36, .i32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_9 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_10 : Ref sig .tc := ⟨.hbm, 106, rfl⟩
abbrev main_v71 : Ref sig .tc := ⟨.hbm, 107, rfl⟩
abbrev main_v72 : Ref sig .tc := ⟨.hbm, 108, rfl⟩
abbrev main_cst_11 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87_0 : Ref sig .tc := ⟨.hbm, 124, rfl⟩
abbrev main_v87_1 : Ref sig .tc := ⟨.hbm, 125, rfl⟩
abbrev main_v87_2 : Ref sig .tc := ⟨.hbm, 126, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c512_i32 : BitVec 32 := 512#32
  let v4 : BitVec 32 := Scalar.muli v3 c512_i32
  v4

def k0_mult2 (v1 : BitVec 32) : BitVec 32 :=
  let c512_i32_0 : BitVec 32 := 512#32
  let v6 : BitVec 32 := Scalar.muli v1 c512_i32_0
  v6

def k0_chk2 (v1 : BitVec 32) : Prop :=
  (512 ∣ (k0_mult2 v1).toNat)
theorem k0_mult2_dvd : ∀ (v1 : BitVec 32) (k0_hw2 : k0_chk2 v1), 512 ∣ (k0_mult2 v1).toNat := fun v1 k0_hw2 => k0_hw2

def k0_off2 (v3 : BitVec 32) : Fin 3 → Nat :=
  let c0 : Index := 0#32
  let c0_9 : Index := 0#32
  let c512_i32 : BitVec 32 := 512#32
  let v4 : BitVec 32 := Scalar.muli v3 c512_i32
  let v5 : BitVec 32 := v4
  let v29 : Index := Scalar.indexCast v5
  ![0, 0, v29.toNat]
def k0_cond2 (v1 : BitVec 32) : BitVec 1 :=
  let c0_i32_3 : BitVec 32 := 0#32
  let v13 : BitVec 1 := Scalar.cmpi .eq v1 c0_i32_3
  let v14 : BitVec 32 := Scalar.extui v13
  let c0_i32_4 : BitVec 32 := 0#32
  let v15 : BitVec 1 := Scalar.cmpi .ne v14 c0_i32_4
  v15

def k0_off3 (v3 : BitVec 32) : Fin 3 → Nat :=
  let c0_15 : Index := 0#32
  let c0_16 : Index := 0#32
  let c512_i32 : BitVec 32 := 512#32
  let v4 : BitVec 32 := Scalar.muli v3 c512_i32
  let v5 : BitVec 32 := v4
  let v45 : Index := Scalar.indexCast v5
  ![0, 0, v45.toNat]
def k0_off4 (v3 : BitVec 32) : Fin 3 → Nat :=
  let c1 : Index := 1#32
  let c0_18 : Index := 0#32
  let c512_i32 : BitVec 32 := 512#32
  let v4 : BitVec 32 := Scalar.muli v3 c512_i32
  let v5 : BitVec 32 := v4
  let v50 : Index := Scalar.indexCast v5
  ![1, 0, v50.toNat]
def k0_off5 (v3 : BitVec 32) : Fin 3 → Nat :=
  let c1_23 : Index := 1#32
  let c0_24 : Index := 0#32
  let c512_i32 : BitVec 32 := 512#32
  let v4 : BitVec 32 := Scalar.muli v3 c512_i32
  let v5 : BitVec 32 := v4
  let v66 : Index := Scalar.indexCast v5
  ![1, 0, v66.toNat]
def k0_off6 (v3 : BitVec 32) : Fin 3 → Nat :=
  let c0_27 : Index := 0#32
  let c0_28 : Index := 0#32
  let c512_i32 : BitVec 32 := 512#32
  let v4 : BitVec 32 := Scalar.muli v3 c512_i32
  let v5 : BitVec 32 := v4
  let v50 : Index := Scalar.indexCast v5
  ![0, 0, v50.toNat]
def k0_cond4 (v1 : BitVec 32) (v3 : BitVec 32) : BitVec 1 :=
  let v19 : BitVec 1 := Scalar.cmpi .sgt v3 v1
  let v20 : BitVec 32 := Scalar.extui v19
  let c0_i32_6 : BitVec 32 := 0#32
  let v21 : BitVec 1 := Scalar.cmpi .ne v20 c0_i32_6
  v21

def k0_off7 (v3 : BitVec 32) : Fin 3 → Nat :=
  let c0_36 : Index := 0#32
  let c0_37 : Index := 0#32
  let c512_i32 : BitVec 32 := 512#32
  let v4 : BitVec 32 := Scalar.muli v3 c512_i32
  let v5 : BitVec 32 := v4
  let v64 : Index := Scalar.indexCast v5
  ![0, 0, v64.toNat]
def k0_off8 (v3 : BitVec 32) : Fin 3 → Nat :=
  let c1_60 : Index := 1#32
  let c0_61 : Index := 0#32
  let c512_i32 : BitVec 32 := 512#32
  let v4 : BitVec 32 := Scalar.muli v3 c512_i32
  let v5 : BitVec 32 := v4
  let v97 : Index := Scalar.indexCast v5
  ![1, 0, v97.toNat]
def k0_off9 (v3 : BitVec 32) : Fin 3 → Nat :=
  let c1_69 : Index := 1#32
  let c0_70 : Index := 0#32
  let c512_i32 : BitVec 32 := 512#32
  let v4 : BitVec 32 := Scalar.muli v3 c512_i32
  let v5 : BitVec 32 := v4
  let v111 : Index := Scalar.indexCast v5
  ![1, 0, v111.toNat]
def k0_off10 (v3 : BitVec 32) : Fin 3 → Nat :=
  let c0_29 : Index := 0#32
  let c0_30 : Index := 0#32
  let c512_i32 : BitVec 32 := 512#32
  let v4 : BitVec 32 := Scalar.muli v3 c512_i32
  let v5 : BitVec 32 := v4
  let v59 : Index := Scalar.indexCast v5
  ![0, 0, v59.toNat]
def k0_cond5 (v1 : BitVec 32) (v3 : BitVec 32) : BitVec 1 :=
  let v22 : BitVec 1 := Scalar.cmpi .eq v3 v1
  let v23 : BitVec 32 := Scalar.extui v22
  let c0_i32_7 : BitVec 32 := 0#32
  let v24 : BitVec 1 := Scalar.cmpi .ne v23 c0_i32_7
  v24

def k0_off11 (v3 : BitVec 32) : Fin 3 → Nat :=
  let c0_38 : Index := 0#32
  let c0_39 : Index := 0#32
  let c512_i32 : BitVec 32 := 512#32
  let v4 : BitVec 32 := Scalar.muli v3 c512_i32
  let v5 : BitVec 32 := v4
  let v73 : Index := Scalar.indexCast v5
  ![0, 0, v73.toNat]
def k0_off12 (v3 : BitVec 32) : Fin 3 → Nat :=
  let c1_65 : Index := 1#32
  let c0_66 : Index := 0#32
  let c512_i32 : BitVec 32 := 512#32
  let v4 : BitVec 32 := Scalar.muli v3 c512_i32
  let v5 : BitVec 32 := v4
  let v115 : Index := Scalar.indexCast v5
  ![1, 0, v115.toNat]
def k0_off13 (v3 : BitVec 32) : Fin 3 → Nat :=
  let c1_74 : Index := 1#32
  let c0_75 : Index := 0#32
  let c512_i32 : BitVec 32 := 512#32
  let v4 : BitVec 32 := Scalar.muli v3 c512_i32
  let v5 : BitVec 32 := v4
  let v129 : Index := Scalar.indexCast v5
  ![1, 0, v129.toNat]
def k0_mult3 (i : grid0.Coords) : BitVec 32 :=
  let arg0 : BitVec 32 := BitVec.ofNat 32 (i 0).val
  let c512_i32_102 : BitVec 32 := 512#32
  let v186 : BitVec 32 := Scalar.muli arg0 c512_i32_102
  v186
def k0_off14 (i : grid0.Coords) (v3 : BitVec 32) : Fin 2 → Nat :=
  let c512_i32 : BitVec 32 := 512#32
  let v4 : BitVec 32 := Scalar.muli v3 c512_i32
  let v5 : BitVec 32 := v4
  let arg0 : BitVec 32 := BitVec.ofNat 32 (i 0).val
  let c512_i32_102 : BitVec 32 := 512#32
  let v186 : BitVec 32 := Scalar.muli arg0 c512_i32_102
  let v187 : BitVec 32 := v186
  ![v5.toNat, v187.toNat]
def k0_off15 (v1 : BitVec 32) : Fin 2 → Nat :=
  let c512_i32_0 : BitVec 32 := 512#32
  let v6 : BitVec 32 := Scalar.muli v1 c512_i32_0
  let v7 : BitVec 32 := v6
  let v47 : Index := Scalar.indexCast v7
  let c0_22 : Index := 0#32
  ![v47.toNat, 0]
def k0_cond6 (v3 : BitVec 32) : BitVec 1 :=
  let c7_i32 : BitVec 32 := 7#32
  let v25 : BitVec 1 := Scalar.cmpi .eq v3 c7_i32
  let v26 : BitVec 32 := Scalar.extui v25
  let c0_i32_8 : BitVec 32 := 0#32
  let v27 : BitVec 1 := Scalar.cmpi .ne v26 c0_i32_8
  v27

def k0_cond7 (i : grid0.Coords) : BitVec 1 :=
  let arg0 : BitVec 32 := BitVec.ofNat 32 (i 0).val
  let c7_i32_24 : BitVec 32 := 7#32
  let v54 : BitVec 1 := Scalar.cmpi .eq arg0 c7_i32_24
  let v55 : BitVec 32 := Scalar.extui v54
  let c0_i32_25 : BitVec 32 := 0#32
  let v56 : BitVec 1 := Scalar.cmpi .ne v55 c0_i32_25
  v56

def k0_off16 (v1 : BitVec 32) : Fin 2 → Nat :=
  let c512_i32_0 : BitVec 32 := 512#32
  let v6 : BitVec 32 := Scalar.muli v1 c512_i32_0
  let v7 : BitVec 32 := v6
  let v57 : Index := Scalar.indexCast v7
  let c0_26 : Index := 0#32
  ![v57.toNat, 0]
def k0_off17 (v1 : BitVec 32) : Fin 2 → Nat :=
  let c512_i32_0 : BitVec 32 := 512#32
  let v6 : BitVec 32 := Scalar.muli v1 c512_i32_0
  let v7 : BitVec 32 := v6
  let c0_i32_34 : BitVec 32 := 0#32
  ![v7.toNat, 0]

def k0_chk1 (i : grid0.Coords) (v1 : BitVec 32) (v3 : BitVec 32) : Prop :=
  (512 ∣ (k0_mult1 v3).toNat) ∧
  (∀ (k0_h2 : k0_cond2 v1 = 1#1), ∀ a, (k0_off2 v3) a + S1x256x512.size a ≤ S2x256x4096.size a) ∧
  (∀ (k0_h2 : k0_cond2 v1 = 1#1), ∀ a, (k0_off3 v3) a + S1x1x512.size a ≤ S2x1x4096.size a) ∧
  (∀ (k0_h2 : k0_cond2 v1 = 1#1), ∀ a, (k0_off4 v3) a + S1x256x512.size a ≤ S2x256x4096.size a) ∧
  (∀ (k0_h2 : k0_cond2 v1 = 1#1), ∀ a, (k0_off5 v3) a + S1x1x512.size a ≤ S2x1x4096.size a) ∧
  (∀ (k0_h4 : k0_cond4 v1 v3 = 1#1), ∀ a, (k0_off6 v3) a + S1x1x512.size a ≤ S2x1x4096.size a) ∧
  (∀ (k0_h4 : k0_cond4 v1 v3 = 1#1), ∀ a, (k0_off7 v3) a + S1x256x512.size a ≤ S2x256x4096.size a) ∧
  (∀ (k0_h4 : k0_cond4 v1 v3 = 1#1), ∀ a, (k0_off8 v3) a + S1x1x512.size a ≤ S2x1x4096.size a) ∧
  (∀ (k0_h4 : k0_cond4 v1 v3 = 1#1), ∀ a, (k0_off9 v3) a + S1x256x512.size a ≤ S2x256x4096.size a) ∧
  (∀ (k0_h5 : k0_cond5 v1 v3 = 1#1), ∀ a, (k0_off10 v3) a + S1x1x512.size a ≤ S2x1x4096.size a) ∧
  (∀ (k0_h5 : k0_cond5 v1 v3 = 1#1), ∀ a, (k0_off11 v3) a + S1x256x512.size a ≤ S2x256x4096.size a) ∧
  (∀ (k0_h5 : k0_cond5 v1 v3 = 1#1), ∀ a, (k0_off12 v3) a + S1x1x512.size a ≤ S2x1x4096.size a) ∧
  (∀ (k0_h5 : k0_cond5 v1 v3 = 1#1), ∀ a, (k0_off13 v3) a + S1x256x512.size a ≤ S2x256x4096.size a) ∧
  (∀ (k0_h5 : k0_cond5 v1 v3 = 1#1), ∀ a, (k0_off14 i v3) a + S512x512.size a ≤ S4096x4096.size a) ∧
  (∀ (k0_h5 : k0_cond5 v1 v3 = 1#1), ∀ (hinb : ∀ a, (k0_off14 i v3) a + S512x512.size a ≤ S4096x4096.size a), (Rect.unit (s := S4096x4096) (k0_off14 i v3) S512x512.size hinb).WholeWords (EltTy.packing .bf16)) ∧
  (∀ (k0_h6 : k0_cond6 v3 = 1#1), ∀ a, (k0_off15 v1) a + S512x128.size a ≤ S4096x128.size a) ∧
  (∀ (k0_h6 : k0_cond6 v3 = 1#1), ∀ (k0_h7 : k0_cond7 i = 1#1), ∀ a, (k0_off16 v1) a + S512x128.size a ≤ S4096x128.size a) ∧
  (∀ (k0_h6 : k0_cond6 v3 = 1#1), ∀ (k0_h7 : k0_cond7 i = 1#1), ∀ a, (k0_off17 v1) a + S512x128.size a ≤ S4096x128.size a)
theorem k0_mult1_dvd : ∀ (i : grid0.Coords) (v1 : BitVec 32) (v3 : BitVec 32) (k0_hw1 : k0_chk1 i v1 v3), 512 ∣ (k0_mult1 v3).toNat := fun i v1 v3 k0_hw1 => k0_hw1.1
theorem k0_off2_inb : ∀ (i : grid0.Coords) (v1 : BitVec 32) (v3 : BitVec 32) (k0_hw1 : k0_chk1 i v1 v3), ∀ (k0_h2 : k0_cond2 v1 = 1#1), ∀ a, (k0_off2 v3) a + S1x256x512.size a ≤ S2x256x4096.size a := fun i v1 v3 k0_hw1 k0_h2 => k0_hw1.2.1 k0_h2
theorem k0_off3_inb : ∀ (i : grid0.Coords) (v1 : BitVec 32) (v3 : BitVec 32) (k0_hw1 : k0_chk1 i v1 v3), ∀ (k0_h2 : k0_cond2 v1 = 1#1), ∀ a, (k0_off3 v3) a + S1x1x512.size a ≤ S2x1x4096.size a := fun i v1 v3 k0_hw1 k0_h2 => k0_hw1.2.2.1 k0_h2
theorem k0_off4_inb : ∀ (i : grid0.Coords) (v1 : BitVec 32) (v3 : BitVec 32) (k0_hw1 : k0_chk1 i v1 v3), ∀ (k0_h2 : k0_cond2 v1 = 1#1), ∀ a, (k0_off4 v3) a + S1x256x512.size a ≤ S2x256x4096.size a := fun i v1 v3 k0_hw1 k0_h2 => k0_hw1.2.2.2.1 k0_h2
theorem k0_off5_inb : ∀ (i : grid0.Coords) (v1 : BitVec 32) (v3 : BitVec 32) (k0_hw1 : k0_chk1 i v1 v3), ∀ (k0_h2 : k0_cond2 v1 = 1#1), ∀ a, (k0_off5 v3) a + S1x1x512.size a ≤ S2x1x4096.size a := fun i v1 v3 k0_hw1 k0_h2 => k0_hw1.2.2.2.2.1 k0_h2
theorem k0_off6_inb : ∀ (i : grid0.Coords) (v1 : BitVec 32) (v3 : BitVec 32) (k0_hw1 : k0_chk1 i v1 v3), ∀ (k0_h4 : k0_cond4 v1 v3 = 1#1), ∀ a, (k0_off6 v3) a + S1x1x512.size a ≤ S2x1x4096.size a := fun i v1 v3 k0_hw1 k0_h4 => k0_hw1.2.2.2.2.2.1 k0_h4
theorem k0_off7_inb : ∀ (i : grid0.Coords) (v1 : BitVec 32) (v3 : BitVec 32) (k0_hw1 : k0_chk1 i v1 v3), ∀ (k0_h4 : k0_cond4 v1 v3 = 1#1), ∀ a, (k0_off7 v3) a + S1x256x512.size a ≤ S2x256x4096.size a := fun i v1 v3 k0_hw1 k0_h4 => k0_hw1.2.2.2.2.2.2.1 k0_h4
theorem k0_off8_inb : ∀ (i : grid0.Coords) (v1 : BitVec 32) (v3 : BitVec 32) (k0_hw1 : k0_chk1 i v1 v3), ∀ (k0_h4 : k0_cond4 v1 v3 = 1#1), ∀ a, (k0_off8 v3) a + S1x1x512.size a ≤ S2x1x4096.size a := fun i v1 v3 k0_hw1 k0_h4 => k0_hw1.2.2.2.2.2.2.2.1 k0_h4
theorem k0_off9_inb : ∀ (i : grid0.Coords) (v1 : BitVec 32) (v3 : BitVec 32) (k0_hw1 : k0_chk1 i v1 v3), ∀ (k0_h4 : k0_cond4 v1 v3 = 1#1), ∀ a, (k0_off9 v3) a + S1x256x512.size a ≤ S2x256x4096.size a := fun i v1 v3 k0_hw1 k0_h4 => k0_hw1.2.2.2.2.2.2.2.2.1 k0_h4
theorem k0_off10_inb : ∀ (i : grid0.Coords) (v1 : BitVec 32) (v3 : BitVec 32) (k0_hw1 : k0_chk1 i v1 v3), ∀ (k0_h5 : k0_cond5 v1 v3 = 1#1), ∀ a, (k0_off10 v3) a + S1x1x512.size a ≤ S2x1x4096.size a := fun i v1 v3 k0_hw1 k0_h5 => k0_hw1.2.2.2.2.2.2.2.2.2.1 k0_h5
theorem k0_off11_inb : ∀ (i : grid0.Coords) (v1 : BitVec 32) (v3 : BitVec 32) (k0_hw1 : k0_chk1 i v1 v3), ∀ (k0_h5 : k0_cond5 v1 v3 = 1#1), ∀ a, (k0_off11 v3) a + S1x256x512.size a ≤ S2x256x4096.size a := fun i v1 v3 k0_hw1 k0_h5 => k0_hw1.2.2.2.2.2.2.2.2.2.2.1 k0_h5
theorem k0_off12_inb : ∀ (i : grid0.Coords) (v1 : BitVec 32) (v3 : BitVec 32) (k0_hw1 : k0_chk1 i v1 v3), ∀ (k0_h5 : k0_cond5 v1 v3 = 1#1), ∀ a, (k0_off12 v3) a + S1x1x512.size a ≤ S2x1x4096.size a := fun i v1 v3 k0_hw1 k0_h5 => k0_hw1.2.2.2.2.2.2.2.2.2.2.2.1 k0_h5
theorem k0_off13_inb : ∀ (i : grid0.Coords) (v1 : BitVec 32) (v3 : BitVec 32) (k0_hw1 : k0_chk1 i v1 v3), ∀ (k0_h5 : k0_cond5 v1 v3 = 1#1), ∀ a, (k0_off13 v3) a + S1x256x512.size a ≤ S2x256x4096.size a := fun i v1 v3 k0_hw1 k0_h5 => k0_hw1.2.2.2.2.2.2.2.2.2.2.2.2.1 k0_h5
theorem k0_off14_inb : ∀ (i : grid0.Coords) (v1 : BitVec 32) (v3 : BitVec 32) (k0_hw1 : k0_chk1 i v1 v3), ∀ (k0_h5 : k0_cond5 v1 v3 = 1#1), ∀ a, (k0_off14 i v3) a + S512x512.size a ≤ S4096x4096.size a := fun i v1 v3 k0_hw1 k0_h5 => k0_hw1.2.2.2.2.2.2.2.2.2.2.2.2.2.1 k0_h5
theorem k0_off14_wordsbf16 : ∀ (i : grid0.Coords) (v1 : BitVec 32) (v3 : BitVec 32) (k0_hw1 : k0_chk1 i v1 v3), ∀ (k0_h5 : k0_cond5 v1 v3 = 1#1), (Rect.unit (s := S4096x4096) (k0_off14 i v3) S512x512.size (k0_off14_inb i v1 v3 k0_hw1 k0_h5)).WholeWords (EltTy.packing .bf16) := fun i v1 v3 k0_hw1 k0_h5 => k0_hw1.2.2.2.2.2.2.2.2.2.2.2.2.2.2.1 k0_h5 (k0_off14_inb i v1 v3 k0_hw1 k0_h5)
theorem k0_off15_inb : ∀ (i : grid0.Coords) (v1 : BitVec 32) (v3 : BitVec 32) (k0_hw1 : k0_chk1 i v1 v3), ∀ (k0_h6 : k0_cond6 v3 = 1#1), ∀ a, (k0_off15 v1) a + S512x128.size a ≤ S4096x128.size a := fun i v1 v3 k0_hw1 k0_h6 => k0_hw1.2.2.2.2.2.2.2.2.2.2.2.2.2.2.2.1 k0_h6
theorem k0_off16_inb : ∀ (i : grid0.Coords) (v1 : BitVec 32) (v3 : BitVec 32) (k0_hw1 : k0_chk1 i v1 v3), ∀ (k0_h6 : k0_cond6 v3 = 1#1), ∀ (k0_h7 : k0_cond7 i = 1#1), ∀ a, (k0_off16 v1) a + S512x128.size a ≤ S4096x128.size a := fun i v1 v3 k0_hw1 k0_h6 k0_h7 => k0_hw1.2.2.2.2.2.2.2.2.2.2.2.2.2.2.2.2.1 k0_h6 k0_h7
theorem k0_off17_inb : ∀ (i : grid0.Coords) (v1 : BitVec 32) (v3 : BitVec 32) (k0_hw1 : k0_chk1 i v1 v3), ∀ (k0_h6 : k0_cond6 v3 = 1#1), ∀ (k0_h7 : k0_cond7 i = 1#1), ∀ a, (k0_off17 v1) a + S512x128.size a ≤ S4096x128.size a := fun i v1 v3 k0_hw1 k0_h6 k0_h7 => k0_hw1.2.2.2.2.2.2.2.2.2.2.2.2.2.2.2.2.2 k0_h6 k0_h7

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![arg0.toNat, v1.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 1 := Scalar.cmpi .eq v1 c0_i32
  let v3 : Index := Scalar.indexCast arg1
  let v4 : BitVec 32 := pf.at 1 (Rect.unit (s := S36) ![v3.toNat] S1.size (k0_off1_inb i)) numel1_S1
  let c7_i32 : BitVec 32 := 7#32
  let v5 : BitVec 32 := Scalar.select v2 v4 c7_i32
  let c0_i32_0 : BitVec 32 := 0#32
  ![v5.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_9 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_10 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_12 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4096x3072 : Shape := ⟨2, ![4096, 3072]⟩
abbrev S4096x4096 : Shape := ⟨2, ![4096, 4096]⟩
abbrev S4096x64 : Shape := ⟨2, ![4096, 64]⟩
abbrev S4096x32 : Shape := ⟨2, ![4096, 32]⟩
abbrev S4096x2048 : Shape := ⟨2, ![4096, 2048]⟩
abbrev S4096x16x192 : Shape := ⟨3, ![4096, 16, 192]⟩
abbrev S4096x16x128 : Shape := ⟨3, ![4096, 16, 128]⟩
abbrev S4096x16x64 : Shape := ⟨3, ![4096, 16, 64]⟩
abbrev S4096x16x256 : Shape := ⟨3, ![4096, 16, 256]⟩
abbrev S4096x1x32 : Shape := ⟨3, ![4096, 1, 32]⟩
abbrev S4096x16x32 : Shape := ⟨3, ![4096, 16, 32]⟩
abbrev S16x4096x4096 : Shape := ⟨3, ![16, 4096, 4096]⟩
abbrev S4096x4096x16 : Shape := ⟨3, ![4096, 4096, 16]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩
abbrev S4096x128 : Shape := ⟨2, ![4096, 128]⟩

abbrev nBuf : Space → Nat
  | .hbm => 186
  | .vmem => 0
  | .smem => 0
  | _ => 0

abbrev hbmTy0_0 (i : Nat) : BufTy := match i % 128 with
  | 0 => ⟨S4096x3072, .f32⟩
  | 1 => ⟨S4096x4096, .f32⟩
  | 2 => ⟨S4096x64, .f32⟩
  | 3 => ⟨S4096x32, .f32⟩
  | 4 => ⟨S4096x32, .f32⟩
  | 5 => ⟨S4096x2048, .bf16⟩
  | 6 => ⟨S4096x16x192, .f32⟩
  | 7 => ⟨S4096x16x128, .f32⟩
  | 8 => ⟨S4096x16x64, .f32⟩
  | 9 => ⟨S4096x16x256, .f32⟩
  | 10 => ⟨S4096x16x128, .f32⟩
  | 11 => ⟨S4096x16x128, .f32⟩
  | 12 => ⟨S4096x1x32, .f32⟩
  | 13 => ⟨S4096x1x32, .f32⟩
  | 14 => ⟨S4096x16x32, .f32⟩
  | 15 => ⟨S4096x16x32, .f32⟩
  | 16 => ⟨S4096x16x32, .f32⟩
  | 17 => ⟨S4096x16x32, .f32⟩
  | 18 => ⟨S4096x16x32, .f32⟩
  | 19 => ⟨S4096x16x32, .f32⟩
  | 20 => ⟨S4096x16x32, .f32⟩
  | 21 => ⟨S4096x16x32, .f32⟩
  | 22 => ⟨S4096x16x32, .f32⟩
  | 23 => ⟨S4096x16x32, .f32⟩
  | 24 => ⟨S4096x16x32, .f32⟩
  | 25 => ⟨S4096x16x32, .f32⟩
  | 26 => ⟨S4096x16x64, .f32⟩
  | 27 => ⟨S4096x32, .f32⟩
  | 28 => ⟨S4096x32, .f32⟩
  | 29 => ⟨S4096x32, .f32⟩
  | 30 => ⟨S4096x32, .f32⟩
  | 31 => ⟨S4096x32, .f32⟩
  | 32 => ⟨S4096x32, .f32⟩
  | 33 => ⟨S4096x32, .f32⟩
  | 34 => ⟨S4096x32, .f32⟩
  | 35 => ⟨S4096x64, .f32⟩
  | 36 => ⟨S16x4096x4096, .f32⟩
  | 37 => ⟨S4096x4096x16, .f32⟩
  | 38 => ⟨S16x4096x4096, .f32⟩
  | 39 => ⟨S16x4096x4096, .f32⟩
  | 40 => ⟨S_, .f32⟩
  | 41 => ⟨S16x4096x4096, .f32⟩
  | 42 => ⟨S16x4096x4096, .f32⟩
  | 43 => ⟨S4096, .i32⟩
  | 44 => ⟨S_, .i32⟩
  | 45 => ⟨S_, .i32⟩
  | 46 => ⟨S4096, .i32⟩
  | 47 => ⟨S4096, .i32⟩
  | 48 => ⟨S4096, .i32⟩
  | 49 => ⟨S_, .i32⟩
  | 50 => ⟨S4096, .i32⟩
  | 51 => ⟨S4096, .i1⟩
  | 52 => ⟨S4096, .i32⟩
  | 53 => ⟨S4096, .i32⟩
  | 54 => ⟨S_, .i32⟩
  | 55 => ⟨S4096, .i32⟩
  | 56 => ⟨S4096, .i1⟩
  | 57 => ⟨S4096, .i1⟩
  | 58 => ⟨S_, .i32⟩
  | 59 => ⟨S4096, .i32⟩
  | 60 => ⟨S4096, .i32⟩
  | 61 => ⟨S4096, .i32⟩
  | 62 => ⟨S1x1x4096, .i32⟩
  | 63 => ⟨S1x4096x1, .i32⟩
  | 64 => ⟨S1x4096x4096, .i32⟩
  | 65 => ⟨S1x4096x4096, .i32⟩
  | 66 => ⟨S1x4096x4096, .i1⟩
  | 67 => ⟨S_, .f32⟩
  | 68 => ⟨S_, .f32⟩
  | 69 => ⟨S16x4096x4096, .i1⟩
  | 70 => ⟨S16x4096x4096, .f32⟩
  | 71 => ⟨S16x4096x4096, .f32⟩
  | 72 => ⟨S_, .f32⟩
  | 73 => ⟨S16x4096x4096, .f32⟩
  | 74 => ⟨S_, .f32⟩
  | 75 => ⟨S16x4096, .f32⟩
  | 76 => ⟨S16x4096x1, .f32⟩
  | 77 => ⟨S16x4096x4096, .f32⟩
  | 78 => ⟨S16x4096x4096, .i1⟩
  | 79 => ⟨S16x4096x4096, .f32⟩
  | 80 => ⟨S_, .f32⟩
  | 81 => ⟨S16x4096, .f32⟩
  | 82 => ⟨S_, .f32⟩
  | 83 => ⟨S16x4096, .f32⟩
  | 84 => ⟨S16x4096, .f32⟩
  | 85 => ⟨S_, .f32⟩
  | 86 => ⟨S16x4096, .f32⟩
  | 87 => ⟨S16x4096, .i1⟩
  | 88 => ⟨S_, .f32⟩
  | 89 => ⟨S16x4096, .f32⟩
  | 90 => ⟨S16x4096, .i1⟩
  | 91 => ⟨S_, .f32⟩
  | 92 => ⟨S16x4096, .f32⟩
  | 93 => ⟨S_, .f32⟩
  | 94 => ⟨S16x4096, .f32⟩
  | 95 => ⟨S_, .f32⟩
  | 96 => ⟨S16x4096, .f32⟩
  | 97 => ⟨S16x4096, .f32⟩
  | 98 => ⟨S16x4096, .f32⟩
  | 99 => ⟨S16x4096x1, .f32⟩
  | 100 => ⟨S16x4096x4096, .f32⟩
  | 101 => ⟨S16x4096x4096, .f32⟩
  | 102 => ⟨S16x4096x4096, .f32⟩
  | 103 => ⟨S_, .f32⟩
  | 104 => ⟨S16x4096, .f32⟩
  | 105 => ⟨S16x4096x1, .f32⟩
  | 106 => ⟨S16x4096x4096, .f32⟩
  | 107 => ⟨S16x4096x4096, .f32⟩
  | 108 => ⟨S16x4096x1, .f32⟩
  | 109 => ⟨S_, .f32⟩
  | 110 => ⟨S16x4096x1, .f32⟩
  | 111 => ⟨S16x4096x1, .f32⟩
  | 112 => ⟨S16x128x4096, .f32⟩
  | 113 => ⟨S4096x16x128, .f32⟩
  | 114 => ⟨S4096x2048, .f32⟩
  | 115 => ⟨S4096x2048, .f32⟩
  | 116 => ⟨S4096x16x128, .f32⟩
  | 117 => ⟨S16x128x4096, .f32⟩
  | 118 => ⟨S16x4096x4096, .f32⟩
  | 119 => ⟨S16x128x4096, .f32⟩
  | 120 => ⟨S4096x16x128, .f32⟩
  | 121 => ⟨S16x4096x4096, .f32⟩
  | 122 => ⟨S16x4096x4096, .f32⟩
  | 123 => ⟨S16x4096x4096, .f32⟩
  | 124 => ⟨S_, .f32⟩
  | 125 => ⟨S16x4096, .f32⟩
  | 126 => ⟨S16x4096x1, .f32⟩
  | 127 => ⟨S16x4096x1, .f32⟩
  | _ => ⟨S4096x3072, .f32⟩

abbrev hbmTy0_1 (i : Nat) : BufTy := match i % 128 with
  | 0 => ⟨S16x4096x4096, .f32⟩
  | 1 => ⟨S16x4096x4096, .f32⟩
  | 2 => ⟨S_, .f32⟩
  | 3 => ⟨S16x4096, .f32⟩
  | 4 => ⟨S16x4096x4096, .f32⟩
  | 5 => ⟨S16x4096x4096, .f32⟩
  | 6 => ⟨S16x4096x4096, .f32⟩
  | 7 => ⟨S_, .f32⟩
  | 8 => ⟨S16x4096x4096, .f32⟩
  | 9 => ⟨S16x4096x4096, .f32⟩
  | 10 => ⟨S_, .f32⟩
  | 11 => ⟨S16x4096x4096, .f32⟩
  | 12 => ⟨S16x4096x4096, .f32⟩
  | 13 => ⟨S4096x4096x16, .f32⟩
  | 14 => ⟨S4096x16x64, .f32⟩
  | 15 => ⟨S4096x64, .f32⟩
  | 16 => ⟨S16x4096x128, .f32⟩
  | 17 => ⟨S4096x16x128, .f32⟩
  | 18 => ⟨S16x4096x128, .f32⟩
  | 19 => ⟨S4096x16x128, .f32⟩
  | 20 => ⟨S4096x32, .f32⟩
  | 21 => ⟨S4096x32, .f32⟩
  | 22 => ⟨S4096x32, .f32⟩
  | 23 => ⟨S4096x32, .f32⟩
  | 24 => ⟨S4096x32, .f32⟩
  | 25 => ⟨S4096x32, .f32⟩
  | 26 => ⟨S4096x32, .f32⟩
  | 27 => ⟨S4096x32, .f32⟩
  | 28 => ⟨S4096x32, .f32⟩
  | 29 => ⟨S4096x64, .f32⟩
  | 30 => ⟨S4096x16x32, .f32⟩
  | 31 => ⟨S4096x16x32, .f32⟩
  | 32 => ⟨S4096x16x32, .f32⟩
  | 33 => ⟨S4096x16x32, .f32⟩
  | 34 => ⟨S4096x16x32, .f32⟩
  | 35 => ⟨S4096x16x32, .f32⟩
  | 36 => ⟨S4096x16x32, .f32⟩
  | 37 => ⟨S4096x16x32, .f32⟩
  | 38 => ⟨S4096x16x32, .f32⟩
  | 39 => ⟨S4096x16x32, .f32⟩
  | 40 => ⟨S4096x16x32, .f32⟩
  | 41 => ⟨S4096x16x32, .f32⟩
  | 42 => ⟨S4096x16x32, .f32⟩
  | 43 => ⟨S4096x16x64, .f32⟩
  | 44 => ⟨S4096x16x256, .f32⟩
  | 45 => ⟨S4096x4096, .f32⟩
  | 46 => ⟨S4096x16x192, .f32⟩
  | 47 => ⟨S4096x3072, .f32⟩
  | 48 => ⟨S4096x16x192, .f32⟩
  | 49 => ⟨S_, .i32⟩
  | 50 => ⟨S_, .f32⟩
  | 51 => ⟨S4096x16x256, .f32⟩
  | 52 => ⟨S4096x4096, .f32⟩
  | 53 => ⟨S4096x4096, .bf16⟩
  | 54 => ⟨S4096x4096, .bf16⟩
  | 55 => ⟨S_, .i32⟩
  | 56 => ⟨S_, .f32⟩
  | 57 => ⟨S4096x128, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_c : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_0 : Ref sig .tc := ⟨.hbm, 58, rfl⟩
abbrev main_call0_v12 : Ref sig .tc := ⟨.hbm, 59, rfl⟩
abbrev main_call0_v13 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_0 : Ref sig .tc := ⟨.hbm, 67, rfl⟩
abbrev main_call1_v0 : Ref sig .tc := ⟨.hbm, 68, rfl⟩
abbrev main_v43_1 : Ref sig .tc := ⟨.hbm, 69, rfl⟩
abbrev main_call1_v2 : Ref sig .tc := ⟨.hbm, 70, rfl⟩
abbrev main_v43_0 : Ref sig .tc := ⟨.hbm, 71, rfl⟩
abbrev main_call1_cst : Ref sig .tc := ⟨.hbm, 72, rfl⟩
abbrev main_v43_2 : Ref sig .tc := ⟨.hbm, 73, rfl⟩
abbrev main_cst_1 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_2 : Ref sig .tc := ⟨.hbm, 80, rfl⟩
abbrev main_v49 : Ref sig .tc := ⟨.hbm, 81, rfl⟩
abbrev main_cst_3 : Ref sig .tc := ⟨.hbm, 82, rfl⟩
abbrev main_v50 : Ref sig .tc := ⟨.hbm, 83, rfl⟩
abbrev main_v51 : Ref sig .tc := ⟨.hbm, 84, rfl⟩
abbrev main_cst_4 : Ref sig .tc := ⟨.hbm, 85, rfl⟩
abbrev main_v52 : Ref sig .tc := ⟨.hbm, 86, rfl⟩
abbrev main_v53 : Ref sig .tc := ⟨.hbm, 87, rfl⟩
abbrev main_cst_5 : Ref sig .tc := ⟨.hbm, 88, rfl⟩
abbrev main_v54 : Ref sig .tc := ⟨.hbm, 89, rfl⟩
abbrev main_v55 : Ref sig .tc := ⟨.hbm, 90, rfl⟩
abbrev main_cst_6 : Ref sig .tc := ⟨.hbm, 91, rfl⟩
abbrev main_v56 : Ref sig .tc := ⟨.hbm, 92, rfl⟩
abbrev main_cst_7 : Ref sig .tc := ⟨.hbm, 93, rfl⟩
abbrev main_v57 : Ref sig .tc := ⟨.hbm, 94, rfl⟩
abbrev main_cst_8 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_9 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_10 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_11 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_12 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_call2_cst : Ref sig .tc := ⟨.hbm, 135, rfl⟩
abbrev main_call2_v0 : Ref sig .tc := ⟨.hbm, 136, rfl⟩
abbrev main_v93 : Ref sig .tc := ⟨.hbm, 137, rfl⟩
abbrev main_cst_13 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_c_14 : Ref sig .tc := ⟨.hbm, 177, rfl⟩
abbrev main_call3_v0 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_15 : Ref sig .tc := ⟨.hbm, 183, rfl⟩
abbrev main_call4_v0 : Ref sig .tc := ⟨.hbm, 184, rfl⟩
abbrev main_v136 : Ref sig .tc := ⟨.hbm, 185, rfl⟩

abbrev nD : Nat := 1
abbrev τ : Topo := Topo.v7x

variable {F : FTy → Type} [FloatOps F]
-- ==== Dz.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DzRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Dwb.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwbRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwa.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwaRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvDwb.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvDwbRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvDwa.lean ====
abbrev S4096x2048 : Shape := ⟨2, ![4096, 2048]⟩
abbrev S4096x4096 : Shape := ⟨2, ![4096, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvDwaRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaDwq.lean ====
abbrev S4096x512 : Shape := ⟨2, ![4096, 512]⟩
abbrev S4096x4096 : Shape := ⟨2, ![4096, 4096]⟩
abbrev S512x4096 : Shape := ⟨2, ![512, 4096]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDwqRefIdeal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S_, .f32⟩
  | .hbm, ⟨3, _⟩ => ⟨S512x4096, .f32⟩
  | .hbm, ⟨4, _⟩ => ⟨S4096x512, .f32⟩
  | .hbm, ⟨5, _⟩ => ⟨S4096x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S512x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaDwin.lean ====
abbrev S4096x2048 : Shape := ⟨2, ![4096, 2048]⟩
abbrev S4096x1152 : Shape := ⟨2, ![4096, 1152]⟩
abbrev S2048x1152 : Shape := ⟨2, ![2048, 1152]⟩
abbrev S2048x1024 : Shape := ⟨2, ![2048, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1152, .bf16⟩
  | .hbm, ⟨2, _⟩ => ⟨S2048x1152, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDwinRefIdeal.lean ====
abbrev S4096x2048 : Shape := ⟨2, ![4096, 2048]⟩
abbrev S4096x1152 : Shape := ⟨2, ![4096, 1152]⟩
abbrev S_ : Shape := ⟨0, ![]⟩
abbrev S2048x1152 : Shape := ⟨2, ![2048, 1152]⟩
abbrev S1152x2048 : Shape := ⟨2, ![1152, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1152, .bf16⟩
  | .hbm, ⟨2, _⟩ => ⟨S_, .f32⟩
  | .hbm, ⟨3, _⟩ => ⟨S2048x1152, .f32⟩
  | .hbm, ⟨4, _⟩ => ⟨S4096x2048, .f32⟩
  | .hbm, ⟨5, _⟩ => ⟨S4096x1152, .f32⟩
  | .hbm, ⟨6, _⟩ => ⟨S4096x1152, .f32⟩
  | .hbm, ⟨7, _⟩ => ⟨S1152x2048, .f32⟩
  | .hbm, ⟨8, _⟩ => ⟨S2048x1152, .f32⟩
  | .hbm, ⟨9, _⟩ => ⟨S2048x1152, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ConvDs.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvDsRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ConvDh.lean ====
abbrev S4096x4096 : Shape := ⟨2, ![4096, 4096]⟩
abbrev S2048x4096 : Shape := ⟨2, ![2048, 4096]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvDhRefIdeal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaDo.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDoRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MlaDqn.lean ====
abbrev S4096x4096 : Shape := ⟨2, ![4096, 4096]⟩
abbrev S512x4096 : Shape := ⟨2, ![512, 4096]⟩
abbrev S4096x512 : Shape := ⟨2, ![4096, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDqnRefIdeal.lean ====
abbrev S4096x4096 : Shape := ⟨2, ![4096, 4096]⟩
abbrev S512x4096 : Shape := ⟨2, ![512, 4096]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S_, .f32⟩
  | .hbm, ⟨3, _⟩ => ⟨S4096x512, .f32⟩
  | .hbm, ⟨4, _⟩ => ⟨S512x4096, .f32⟩
  | .hbm, ⟨5, _⟩ => ⟨S4096x4096, .f32⟩
  | .hbm, ⟨6, _⟩ => ⟨S4096x4096, .f32⟩
  | .hbm, ⟨7, _⟩ => ⟨S4096x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaDh.lean ====
abbrev S4096x1152 : Shape := ⟨2, ![4096, 1152]⟩
abbrev S2048x1152 : Shape := ⟨2, ![2048, 1152]⟩
abbrev S4096x2048 : Shape := ⟨2, ![4096, 2048]⟩
abbrev S1024x1152 : Shape := ⟨2, ![1024, 1152]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1152, .bf16⟩
  | .hbm, ⟨1, _⟩ => ⟨S2048x1152, .bf16⟩
  | .hbm, ⟨2, _⟩ => ⟨S4096x2048, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | _, _ => ⟨S4096x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDhRefIdeal.lean ====
abbrev S4096x1152 : Shape := ⟨2, ![4096, 1152]⟩
abbrev S2048x1152 : Shape := ⟨2, ![2048, 1152]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1152, .bf16⟩
  | .hbm, ⟨1, _⟩ => ⟨S2048x1152, .bf16⟩
  | .hbm, ⟨2, _⟩ => ⟨S_, .f32⟩
  | .hbm, ⟨3, _⟩ => ⟨S4096x2048, .f32⟩
  | .hbm, ⟨4, _⟩ => ⟨S2048x1152, .f32⟩
  | .hbm, ⟨5, _⟩ => ⟨S4096x1152, .f32⟩
  | .hbm, ⟨6, _⟩ => ⟨S4096x1152, .f32⟩
  | .hbm, ⟨7, _⟩ => ⟨S4096x2048, .f32⟩
  | _, _ => ⟨S4096x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ConvOut.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ConvOutRefIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MlaOut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlaOutRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaIn.lean ====
abbrev S4096x2048 : Shape := ⟨2, ![4096, 2048]⟩
abbrev S2048x1152 : Shape := ⟨2, ![2048, 1152]⟩
abbrev S4096x1152 : Shape := ⟨2, ![4096, 1152]⟩
abbrev S1024x2048 : Shape := ⟨2, ![1024, 2048]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1152, .bf16⟩
  | .hbm, ⟨2, _⟩ => ⟨S4096x1152, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S1024x1152, .f32⟩
  | .local _ .vmem, ⟨4, _⟩ => ⟨S1024x1152, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaInRefIdeal.lean ====
abbrev S4096x2048 : Shape := ⟨2, ![4096, 2048]⟩
abbrev S2048x1152 : Shape := ⟨2, ![2048, 1152]⟩
abbrev S4096x1152 : Shape := ⟨2, ![4096, 1152]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1152, .bf16⟩
  | .hbm, ⟨2, _⟩ => ⟨S4096x2048, .f32⟩
  | .hbm, ⟨3, _⟩ => ⟨S2048x1152, .f32⟩
  | .hbm, ⟨4, _⟩ => ⟨S4096x1152, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RmsBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | .hbm, ⟨52, _⟩ => ⟨S_, .f32⟩
  | .hbm, ⟨53, _⟩ => ⟨S2048, .f32⟩
  | .hbm, ⟨54, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== RmsFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Head.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x128, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== HeadRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x128, .f32⟩
  | .hbm, ⟨72, _⟩ => ⟨S4096x2048, .bf16⟩
  | .hbm, ⟨73, _⟩ => ⟨S1x2048, .f32⟩
  | .hbm, ⟨74, _⟩ => ⟨S_, .f32⟩
  | .hbm, ⟨75, _⟩ => ⟨S2048, .f32⟩
  | .hbm, ⟨76, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Glu.lean ====
abbrev S4096x2048 : Shape := ⟨2, ![4096, 2048]⟩
abbrev S2048x4096 : Shape := ⟨2, ![2048, 4096]⟩
abbrev S4096 : Shape := ⟨1, ![4096]⟩
abbrev S1x4096 : Shape := ⟨2, ![1, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 7
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096, .f32⟩
  | .hbm, ⟨3, _⟩ => ⟨S1x4096, .f32⟩
  | .hbm, ⟨4, _⟩ => ⟨S4096x2048, .bf16⟩
  | .hbm, ⟨5, _⟩ => ⟨S4096x2048, .bf16⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== GluRefIdeal.lean ====
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S4096x2048, .f32⟩
  | .hbm, ⟨11, _⟩ => ⟨S4096x2048, .bf16⟩
  | .hbm, ⟨12, _⟩ => ⟨S4096x2048, .bf16⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== AdamA.lean ====
abbrev S8x4096x512 : Shape := ⟨3, ![8, 4096, 512]⟩
abbrev S4096x512 : Shape := ⟨2, ![4096, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x512, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAIdeal.lean ====
abbrev S8x4096x512 : Shape := ⟨3, ![8, 4096, 512]⟩
abbrev S4096x512 : Shape := ⟨2, ![4096, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x512, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamARefIdeal.lean ====
abbrev S8x4096x512 : Shape := ⟨3, ![8, 4096, 512]⟩
abbrev S4096x512 : Shape := ⟨2, ![4096, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S8x4096x512, .f32⟩
  | .hbm, ⟨5, _⟩ => ⟨S_, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamB.lean ====
abbrev S8x4096x2048 : Shape := ⟨3, ![8, 4096, 2048]⟩
abbrev S4096x2048 : Shape := ⟨2, ![4096, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x2048, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBIdeal.lean ====
abbrev S8x4096x2048 : Shape := ⟨3, ![8, 4096, 2048]⟩
abbrev S4096x2048 : Shape := ⟨2, ![4096, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x2048, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBRefIdeal.lean ====
abbrev S8x4096x2048 : Shape := ⟨3, ![8, 4096, 2048]⟩
abbrev S4096x2048 : Shape := ⟨2, ![4096, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S8x4096x2048, .f32⟩
  | .hbm, ⟨5, _⟩ => ⟨S_, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamC.lean ====
abbrev S8x512x2048 : Shape := ⟨3, ![8, 512, 2048]⟩
abbrev S512x2048 : Shape := ⟨2, ![512, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamCIdeal.lean ====
abbrev S8x512x2048 : Shape := ⟨3, ![8, 512, 2048]⟩
abbrev S512x2048 : Shape := ⟨2, ![512, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamCRefIdeal.lean ====
abbrev S8x512x2048 : Shape := ⟨3, ![8, 512, 2048]⟩
abbrev S512x2048 : Shape := ⟨2, ![512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamD.lean ====
abbrev S8x512x1088 : Shape := ⟨3, ![8, 512, 1088]⟩
abbrev S512x1088 : Shape := ⟨2, ![512, 1088]⟩
abbrev S8x128x1088 : Shape := ⟨3, ![8, 128, 1088]⟩
abbrev S128x1088 : Shape := ⟨2, ![128, 1088]⟩
abbrev S1x128x1088 : Shape := ⟨3, ![1, 128, 1088]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1088, .bf16⟩
  | .hbm, ⟨1, _⟩ => ⟨S512x1088, .f32⟩
  | .hbm, ⟨2, _⟩ => ⟨S512x1088, .f32⟩
  | .hbm, ⟨3, _⟩ => ⟨S512x1088, .f32⟩
  | .hbm, ⟨4, _⟩ => ⟨S512x1088, .f32⟩
  | .hbm, ⟨5, _⟩ => ⟨S512x1088, .f32⟩
  | .hbm, ⟨6, _⟩ => ⟨S512x1088, .f32⟩
  | .hbm, ⟨7, _⟩ => ⟨S512x1088, .f32⟩
  | .local _ .vmem, ⟨0, _⟩ => ⟨S8x128x1088, .bf16⟩
  | .local _ .vmem, ⟨1, _⟩ => ⟨S8x128x1088, .bf16⟩
  | .local _ .vmem, ⟨2, _⟩ => ⟨S128x1088, .f32⟩
  | .local _ .vmem, ⟨3, _⟩ => ⟨S128x1088, .f32⟩
  | .local _ .vmem, ⟨4, _⟩ => ⟨S128x1088, .f32⟩
  | .local _ .vmem, ⟨5, _⟩ => ⟨S128x1088, .f32⟩
  | .local _ .vmem, ⟨6, _⟩ => ⟨S128x1088, .f32⟩
  | .local _ .vmem, ⟨7, _⟩ => ⟨S128x1088, .f32⟩
  | .local _ .vmem, ⟨8, _⟩ => ⟨S128x1088, .f32⟩
  | .local _ .vmem, ⟨9, _⟩ => ⟨S128x1088, .f32⟩
  | .local _ .vmem, ⟨10, _⟩ => ⟨S128x1088, .f32⟩
  | .local _ .vmem, ⟨11, _⟩ => ⟨S128x1088, .f32⟩
  | .local _ .vmem, ⟨12, _⟩ => ⟨S128x1088, .f32⟩
  | .local _ .vmem, ⟨13, _⟩ => ⟨S128x1088, .f32⟩
  | .local _ .vmem, ⟨14, _⟩ => ⟨S128x1088, .f32⟩
  | .local _ .vmem, ⟨15, _⟩ => ⟨S128x1088, .f32⟩
  | _, _ => ⟨S8x512x1088, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1088 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDIdeal.lean ====
abbrev S8x512x1088 : Shape := ⟨3, ![8, 512, 1088]⟩
abbrev S512x1088 : Shape := ⟨2, ![512, 1088]⟩
abbrev S8x128x1088 : Shape := ⟨3, ![8, 128, 1088]⟩
abbrev S128x1088 : Shape := ⟨2, ![128, 1088]⟩
abbrev S1x128x1088 : Shape := ⟨3, ![1, 128, 1088]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1088, .bf16⟩
  | .hbm, ⟨1, _⟩ => ⟨S512x1088, .f32⟩
  | .hbm, ⟨2, _⟩ => ⟨S512x1088, .f32⟩
  | .hbm, ⟨3, _⟩ => ⟨S512x1088, .f32⟩
  | .hbm, ⟨4, _⟩ => ⟨S512x1088, .f32⟩
  | .hbm, ⟨5, _⟩ => ⟨S512x1088, .f32⟩
  | .hbm, ⟨6, _⟩ => ⟨S512x1088, .f32⟩
  | .hbm, ⟨7, _⟩ => ⟨S512x1088, .f32⟩
  | .local _ .vmem, ⟨0, _⟩ => ⟨S8x128x1088, .bf16⟩
  | .local _ .vmem, ⟨1, _⟩ => ⟨S8x128x1088, .bf16⟩
  | .local _ .vmem, ⟨2, _⟩ => ⟨S128x1088, .f32⟩
  | .local _ .vmem, ⟨3, _⟩ => ⟨S128x1088, .f32⟩
  | .local _ .vmem, ⟨4, _⟩ => ⟨S128x1088, .f32⟩
  | .local _ .vmem, ⟨5, _⟩ => ⟨S128x1088, .f32⟩
  | .local _ .vmem, ⟨6, _⟩ => ⟨S128x1088, .f32⟩
  | .local _ .vmem, ⟨7, _⟩ => ⟨S128x1088, .f32⟩
  | .local _ .vmem, ⟨8, _⟩ => ⟨S128x1088, .f32⟩
  | .local _ .vmem, ⟨9, _⟩ => ⟨S128x1088, .f32⟩
  | .local _ .vmem, ⟨10, _⟩ => ⟨S128x1088, .f32⟩
  | .local _ .vmem, ⟨11, _⟩ => ⟨S128x1088, .f32⟩
  | .local _ .vmem, ⟨12, _⟩ => ⟨S128x1088, .f32⟩
  | .local _ .vmem, ⟨13, _⟩ => ⟨S128x1088, .f32⟩
  | .local _ .vmem, ⟨14, _⟩ => ⟨S128x1088, .f32⟩
  | .local _ .vmem, ⟨15, _⟩ => ⟨S128x1088, .f32⟩
  | _, _ => ⟨S8x512x1088, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1088 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDRefIdeal.lean ====
abbrev S8x512x1088 : Shape := ⟨3, ![8, 512, 1088]⟩
abbrev S512x1088 : Shape := ⟨2, ![512, 1088]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1088, .bf16⟩
  | .hbm, ⟨1, _⟩ => ⟨S512x1088, .f32⟩
  | .hbm, ⟨2, _⟩ => ⟨S512x1088, .f32⟩
  | .hbm, ⟨3, _⟩ => ⟨S512x1088, .f32⟩
  | .hbm, ⟨4, _⟩ => ⟨S8x512x1088, .f32⟩
  | .hbm, ⟨5, _⟩ => ⟨S_, .f32⟩
  | .hbm, ⟨6, _⟩ => ⟨S512x1088, .f32⟩
  | .hbm, ⟨7, _⟩ => ⟨S_, .f32⟩
  | .hbm, ⟨8, _⟩ => ⟨S512x1088, .f32⟩
  | .hbm, ⟨9, _⟩ => ⟨S512x1088, .f32⟩
  | .hbm, ⟨10, _⟩ => ⟨S_, .f32⟩
  | .hbm, ⟨11, _⟩ => ⟨S512x1088, .f32⟩
  | .hbm, ⟨12, _⟩ => ⟨S512x1088, .f32⟩
  | .hbm, ⟨13, _⟩ => ⟨S512x1088, .f32⟩
  | .hbm, ⟨14, _⟩ => ⟨S_, .f32⟩
  | .hbm, ⟨15, _⟩ => ⟨S512x1088, .f32⟩
  | .hbm, ⟨16, _⟩ => ⟨S512x1088, .f32⟩
  | .hbm, ⟨17, _⟩ => ⟨S512x1088, .f32⟩
  | .hbm, ⟨18, _⟩ => ⟨S_, .f32⟩
  | .hbm, ⟨19, _⟩ => ⟨S512x1088, .f32⟩
  | .hbm, ⟨20, _⟩ => ⟨S512x1088, .f32⟩
  | .hbm, ⟨21, _⟩ => ⟨S512x1088, .f32⟩
  | .hbm, ⟨22, _⟩ => ⟨S_, .f32⟩
  | .hbm, ⟨23, _⟩ => ⟨S512x1088, .f32⟩
  | .hbm, ⟨24, _⟩ => ⟨S512x1088, .f32⟩
  | .hbm, ⟨25, _⟩ => ⟨S_, .f32⟩
  | .hbm, ⟨26, _⟩ => ⟨S512x1088, .f32⟩
  | .hbm, ⟨27, _⟩ => ⟨S512x1088, .f32⟩
  | .hbm, ⟨28, _⟩ => ⟨S512x1088, .f32⟩
  | .hbm, ⟨29, _⟩ => ⟨S_, .f32⟩
  | .hbm, ⟨30, _⟩ => ⟨S512x1088, .f32⟩
  | .hbm, ⟨31, _⟩ => ⟨S512x1088, .f32⟩
  | .hbm, ⟨32, _⟩ => ⟨S512x1088, .f32⟩
  | .hbm, ⟨33, _⟩ => ⟨S_, .f32⟩
  | .hbm, ⟨34, _⟩ => ⟨S512x1088, .f32⟩
  | .hbm, ⟨35, _⟩ => ⟨S512x1088, .f32⟩
  | .hbm, ⟨36, _⟩ => ⟨S512x1088, .f32⟩
  | .hbm, ⟨37, _⟩ => ⟨S_, .f32⟩
  | .hbm, ⟨38, _⟩ => ⟨S512x1088, .f32⟩
  | .hbm, ⟨39, _⟩ => ⟨S512x1088, .f32⟩
  | _, _ => ⟨S8x512x1088, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamE.lean ====
abbrev S8x1024x384 : Shape := ⟨3, ![8, 1024, 384]⟩
abbrev S1024x384 : Shape := ⟨2, ![1024, 384]⟩
abbrev S8x512x384 : Shape := ⟨3, ![8, 512, 384]⟩
abbrev S512x384 : Shape := ⟨2, ![512, 384]⟩
abbrev S1x512x384 : Shape := ⟨3, ![1, 512, 384]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S8x512x384, .bf16⟩
  | .local _ .vmem, ⟨1, _⟩ => ⟨S8x512x384, .bf16⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamEIdeal.lean ====
abbrev S8x1024x384 : Shape := ⟨3, ![8, 1024, 384]⟩
abbrev S1024x384 : Shape := ⟨2, ![1024, 384]⟩
abbrev S8x512x384 : Shape := ⟨3, ![8, 512, 384]⟩
abbrev S512x384 : Shape := ⟨2, ![512, 384]⟩
abbrev S1x512x384 : Shape := ⟨3, ![1, 512, 384]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S8x512x384, .bf16⟩
  | .local _ .vmem, ⟨1, _⟩ => ⟨S8x512x384, .bf16⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamERefIdeal.lean ====
abbrev S8x1024x384 : Shape := ⟨3, ![8, 1024, 384]⟩
abbrev S1024x384 : Shape := ⟨2, ![1024, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S8x1024x384, .f32⟩
  | .hbm, ⟨5, _⟩ => ⟨S_, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamF.lean ====
abbrev S8x1024x512 : Shape := ⟨3, ![8, 1024, 512]⟩
abbrev S1024x512 : Shape := ⟨2, ![1024, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFIdeal.lean ====
abbrev S8x1024x512 : Shape := ⟨3, ![8, 1024, 512]⟩
abbrev S1024x512 : Shape := ⟨2, ![1024, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFRefIdeal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamG.lean ====
abbrev S8x8192x1024 : Shape := ⟨3, ![8, 8192, 1024]⟩
abbrev S8192x1024 : Shape := ⟨2, ![8192, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x8192x1024, .bf16⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGIdeal.lean ====
abbrev S8x8192x1024 : Shape := ⟨3, ![8, 8192, 1024]⟩
abbrev S8192x1024 : Shape := ⟨2, ![8192, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x8192x1024, .bf16⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGRefIdeal.lean ====
abbrev S8x8192x1024 : Shape := ⟨3, ![8, 8192, 1024]⟩
abbrev S8192x1024 : Shape := ⟨2, ![8192, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8x8192x1024, .f32⟩
  | .hbm, ⟨5, _⟩ => ⟨S_, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamR.lean ====
abbrev S1x336x128 : Shape := ⟨3, ![1, 336, 128]⟩
abbrev S336x128 : Shape := ⟨2, ![336, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S336x128, .f32⟩
  | .hbm, ⟨5, _⟩ => ⟨S336x128, .f32⟩
  | .hbm, ⟨6, _⟩ => ⟨S336x128, .f32⟩
  | .hbm, ⟨7, _⟩ => ⟨S336x128, .f32⟩
  | .local _ .vmem, ⟨0, _⟩ => ⟨S1x336x128, .f32⟩
  | .local _ .vmem, ⟨1, _⟩ => ⟨S336x128, .f32⟩
  | .local _ .vmem, ⟨2, _⟩ => ⟨S336x128, .f32⟩
  | .local _ .vmem, ⟨3, _⟩ => ⟨S336x128, .f32⟩
  | .local _ .vmem, ⟨4, _⟩ => ⟨S336x128, .f32⟩
  | .local _ .vmem, ⟨5, _⟩ => ⟨S336x128, .f32⟩
  | .local _ .vmem, ⟨6, _⟩ => ⟨S336x128, .f32⟩
  | .local _ .vmem, ⟨7, _⟩ => ⟨S336x128, .f32⟩
  | _, _ => ⟨S1x336x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x336x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S336x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S336x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S336x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S336x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S336x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S336x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S336x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRIdeal.lean ====
abbrev S1x336x128 : Shape := ⟨3, ![1, 336, 128]⟩
abbrev S336x128 : Shape := ⟨2, ![336, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S336x128, .f32⟩
  | .hbm, ⟨5, _⟩ => ⟨S336x128, .f32⟩
  | .hbm, ⟨6, _⟩ => ⟨S336x128, .f32⟩
  | .hbm, ⟨7, _⟩ => ⟨S336x128, .f32⟩
  | .local _ .vmem, ⟨0, _⟩ => ⟨S1x336x128, .f32⟩
  | .local _ .vmem, ⟨1, _⟩ => ⟨S336x128, .f32⟩
  | .local _ .vmem, ⟨2, _⟩ => ⟨S336x128, .f32⟩
  | .local _ .vmem, ⟨3, _⟩ => ⟨S336x128, .f32⟩
  | .local _ .vmem, ⟨4, _⟩ => ⟨S336x128, .f32⟩
  | .local _ .vmem, ⟨5, _⟩ => ⟨S336x128, .f32⟩
  | .local _ .vmem, ⟨6, _⟩ => ⟨S336x128, .f32⟩
  | .local _ .vmem, ⟨7, _⟩ => ⟨S336x128, .f32⟩
  | _, _ => ⟨S1x336x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x336x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S336x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S336x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S336x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S336x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S336x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S336x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S336x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRRefIdeal.lean ====
abbrev S1x336x128 : Shape := ⟨3, ![1, 336, 128]⟩
abbrev S336x128 : Shape := ⟨2, ![336, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S_, .f32⟩
  | .hbm, ⟨5, _⟩ => ⟨S336x128, .f32⟩
  | .hbm, ⟨6, _⟩ => ⟨S_, .f32⟩
  | .hbm, ⟨7, _⟩ => ⟨S336x128, .f32⟩
  | .hbm, ⟨8, _⟩ => ⟨S336x128, .f32⟩
  | .hbm, ⟨9, _⟩ => ⟨S_, .f32⟩
  | .hbm, ⟨10, _⟩ => ⟨S336x128, .f32⟩
  | .hbm, ⟨11, _⟩ => ⟨S336x128, .f32⟩
  | .hbm, ⟨12, _⟩ => ⟨S336x128, .f32⟩
  | .hbm, ⟨13, _⟩ => ⟨S_, .f32⟩
  | .hbm, ⟨14, _⟩ => ⟨S336x128, .f32⟩
  | .hbm, ⟨15, _⟩ => ⟨S336x128, .f32⟩
  | .hbm, ⟨16, _⟩ => ⟨S336x128, .f32⟩
  | .hbm, ⟨17, _⟩ => ⟨S_, .f32⟩
  | .hbm, ⟨18, _⟩ => ⟨S336x128, .f32⟩
  | .hbm, ⟨19, _⟩ => ⟨S336x128, .f32⟩
  | .hbm, ⟨20, _⟩ => ⟨S336x128, .f32⟩
  | .hbm, ⟨21, _⟩ => ⟨S_, .f32⟩
  | .hbm, ⟨22, _⟩ => ⟨S336x128, .f32⟩
  | .hbm, ⟨23, _⟩ => ⟨S336x128, .f32⟩
  | .hbm, ⟨24, _⟩ => ⟨S_, .f32⟩
  | .hbm, ⟨25, _⟩ => ⟨S336x128, .f32⟩
  | .hbm, ⟨26, _⟩ => ⟨S336x128, .f32⟩
  | .hbm, ⟨27, _⟩ => ⟨S336x128, .f32⟩
  | .hbm, ⟨28, _⟩ => ⟨S_, .f32⟩
  | .hbm, ⟨29, _⟩ => ⟨S336x128, .f32⟩
  | .hbm, ⟨30, _⟩ => ⟨S336x128, .f32⟩
  | .hbm, ⟨31, _⟩ => ⟨S336x128, .f32⟩
  | .hbm, ⟨32, _⟩ => ⟨S_, .f32⟩
  | .hbm, ⟨33, _⟩ => ⟨S336x128, .f32⟩
  | .hbm, ⟨34, _⟩ => ⟨S336x128, .f32⟩
  | .hbm, ⟨35, _⟩ => ⟨S336x128, .f32⟩
  | .hbm, ⟨36, _⟩ => ⟨S_, .f32⟩
  | .hbm, ⟨37, _⟩ => ⟨S336x128, .f32⟩
  | .hbm, ⟨38, _⟩ => ⟨S336x128, .f32⟩
  | _, _ => ⟨S1x336x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamS.lean ====
abbrev S1x128x128 : Shape := ⟨3, ![1, 128, 128]⟩
abbrev S128x128 : Shape := ⟨2, ![128, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .local _ .vmem, ⟨0, _⟩ => ⟨S1x128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S1x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSRefIdeal.lean ====
abbrev S1x128x128 : Shape := ⟨3, ![1, 128, 128]⟩
abbrev S128x128 : Shape := ⟨2, ![128, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S_, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S_, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | _, _ => ⟨S1x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.DzValue.lean ====
/- The activation gradient of the squared-ReLU feed-forward block: the kernel's array is the reference's. -/
module

public import proofs.«01_k».proof.Proof.Gen.DzIdeal.Value
public import proofs.«01_k».proof.Proof.Gen.DzRefIdeal.Run
public import Idealize.ShloMosaic.Lib.Pointwise
public import Idealize.ShloMosaic.Lib.Pipeline.ValueKit

@[expose] public section

set_option maxRecDepth 16384

noncomputable section

namespace Cert.DzIdeal.Value

open Idealize.ShloMosaic Idealize.ShloMosaic.TcCoe Idealize.SL.Sem
open Idealize.ShloMosaic.Pipeline (Dat)
open Cert.DzIdeal Cert.DzIdeal.Gen

variable (m : (ℓ : Loc nD τ sig) → Buf (Elt Ideal) ℓ)

/-- The reference's result over its three arguments. -/
def REF (G : FVec Ideal Cert.DzRefIdeal.S4096x2048 .bf16) (W : FVec Ideal Cert.DzRefIdeal.S8192x2048 .bf16)
    (Z : FVec Ideal Cert.DzRefIdeal.S4096x8192 .bf16) : FVec Ideal Cert.DzRefIdeal.S4096x8192 .bf16 :=
  truncf .bf16 (select (cmpf .ogt (extf .f32 Z Cert.DzRefIdeal.Gen.bitsLt_bf16_f32) (broadcastInDim Cert.DzRefIdeal.S4096x8192 ![] Cert.DzRefIdeal.Gen.bcast_S_S4096x8192 (constant Cert.DzRefIdeal.S_ .f32 0x00000000#32))) (mulf (Host.dotGeneral Cert.DzRefIdeal.dot_S4096x2048_S8192x2048_S4096x8192_1_1_0_0_n_n none (extf .f32 G Cert.DzRefIdeal.Gen.bitsLt_bf16_f32) (extf .f32 W Cert.DzRefIdeal.Gen.bitsLt_bf16_f32)) (mulf (broadcastInDim Cert.DzRefIdeal.S4096x8192 ![] Cert.DzRefIdeal.Gen.bcast_S_S4096x8192 (constant Cert.DzRefIdeal.S_ .f32 0x40000000#32)) (maximumf (extf .f32 Z Cert.DzRefIdeal.Gen.bitsLt_bf16_f32) (broadcastInDim Cert.DzRefIdeal.S4096x8192 ![] Cert.DzRefIdeal.Gen.bcast_S_S4096x8192 (constant Cert.DzRefIdeal.S_ .f32 0x00000000#32))))) (broadcastInDim Cert.DzRefIdeal.S4096x8192 ![] Cert.DzRefIdeal.Gen.bcast_S_S4096x8192 (constant Cert.DzRefIdeal.S_ .f32 0x00000000#32))) Cert.DzRefIdeal.Gen.bitsLt_bf16_f32

/-- Where `z ≤ 0` the slope `2 · max z 0` is zero already, so choosing zero there changes nothing. -/
theorem select_slope (z a b : EReal) : (if 0 < z then a * (b * max z 0) else 0) = a * (b * max z 0) := by
  split_ifs with h
  · rfl
  · rw [max_eq_right (not_lt.mp h), mul_zero, mul_zero]

theorem idx : ∀ t : Fin cfg0.N, win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, _)

theorem point (c : Dev nD) (t : Fin cfg0.N) (y : S1024x1024.Idx) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  refine Eq.trans ?_ (select_slope _ _ _).symm
  blk_point [iblk, V, idx t]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.DzIdeal.Value
end
-- ==== Proof.DwbValue.lean ====
/- The gradient of the second feed-forward weight: the kernel's array is the reference's. -/
module

public import proofs.«01_k».proof.Proof.Gen.DwbIdeal.Value
public import proofs.«01_k».proof.Proof.Gen.DwbRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwbIdeal.Value

open Idealize.ShloMosaic Idealize.ShloMosaic.TcCoe Idealize.SL.Sem
open Idealize.ShloMosaic.Pipeline (Dat)
open Cert.DwbIdeal Cert.DwbIdeal.Gen

variable (m : (ℓ : Loc nD τ sig) → Buf (Elt Ideal) ℓ)

/-- The reference's result over its arguments. -/
def REF (A : FVec Ideal Cert.DwbRefIdeal.S4096x8192 .bf16) (W : FVec Ideal Cert.DwbRefIdeal.S4096x2048 .bf16) : FVec Ideal Cert.DwbRefIdeal.S8192x2048 .bf16 :=
  truncf .bf16 (transpose Cert.DwbRefIdeal.S8192x2048 [1, 0] (Host.dotGeneral Cert.DwbRefIdeal.dot_S4096x2048_S4096x8192_S2048x8192_0_0_1_1_n_n none (extf .f32 W Cert.DwbRefIdeal.Gen.bitsLt_bf16_f32) (extf .f32 A Cert.DwbRefIdeal.Gen.bitsLt_bf16_f32)) Cert.DwbRefIdeal.Gen.transposes_S2048x8192_S8192x2048_1_0) Cert.DwbRefIdeal.Gen.bitsLt_bf16_f32

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

/-- The part of one block's entry that one step of the sum adds. -/
abbrev part (a : S2048x1024.Idx → EReal) (b : S2048x1024.Idx → EReal) (j : S1024x1024.Idx) : EReal := ∑ k : Fin 2048, a (ix2 k (j 0)) * b (ix2 k (j 1))

theorem first_at (a : S2048x1024.Idx → EReal) (b : S2048x1024.Idx → EReal) (j : S1024x1024.Idx) :
    (k0_pay1 (F := Ideal) a b j : EReal) = 0 + part a b j := by
  rw [zero_add]
  pointwise [k0_pay1]

theorem next_at (s : S1024x1024.Idx → EReal) (a : S2048x1024.Idx → EReal) (b : S2048x1024.Idx → EReal) (j : S1024x1024.Idx) :
    (k0_pay2 (F := Ideal) s a b j : EReal) = s j + part a b j := by
  pointwise [k0_pay2]

theorem last_at (s : S1024x1024.Idx → EReal) (j : S1024x1024.Idx) : (k0_pay3 (F := Ideal) s j : EReal) = s j := by
  pointwise [k0_pay3]

theorem ref_at (A : Cert.DwbRefIdeal.S4096x8192.Idx → EReal) (W : Cert.DwbRefIdeal.S4096x2048.Idx → EReal) (i : Cert.DwbRefIdeal.S8192x2048.Idx) :
    (REF A W i : EReal) = ∑ k : Fin 4096, A (ix2 k (i 0)) * W (ix2 k (i 1)) := by
  pointwise [REF]
  exact Finset.sum_congr rfl fun k _ => mul_comm _ _

/-- At the last step of a run the block written back is the carried sum. -/
theorem out_eq (c : Dev nD) (t : Fin cfg0.N) (h : t.val % 2 = 1) (j : S1024x1024.Idx) :
    ((outsAt0 m c t.val t.isLt).1 j : EReal) = (outsAt0 m c t.val t.isLt).2 j := by
  rw [outsAt0_B m c t (by omega) h h]
  frame_out
  rw [last_at]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_at])
    (fun t h j => by rw [outsAt0_B m c t h (by omega) (by omega)]; frame_out; rw [next_at]; simp only [read_unread_whole])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.DwbIdeal.Value
end
-- ==== Proof.DwaValue.lean ====
/- The gradient of the first feed-forward weight: the kernel's array is the reference's. -/
module

public import proofs.«01_k».proof.Proof.Gen.DwaIdeal.Value
public import proofs.«01_k».proof.Proof.Gen.DwaRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwaIdeal.Value

open Idealize.ShloMosaic Idealize.ShloMosaic.TcCoe Idealize.SL.Sem
open Idealize.ShloMosaic.Pipeline (Dat)
open Cert.DwaIdeal Cert.DwaIdeal.Gen

variable (m : (ℓ : Loc nD τ sig) → Buf (Elt Ideal) ℓ)

/-- The reference's result over its arguments. -/
def REF (A : FVec Ideal Cert.DwaRefIdeal.S4096x2048 .bf16) (W : FVec Ideal Cert.DwaRefIdeal.S4096x8192 .bf16) : FVec Ideal Cert.DwaRefIdeal.S2048x8192 .bf16 :=
  truncf .bf16 (transpose Cert.DwaRefIdeal.S2048x8192 [1, 0] (Host.dotGeneral Cert.DwaRefIdeal.dot_S4096x8192_S4096x2048_S8192x2048_0_0_1_1_n_n none (extf .f32 W Cert.DwaRefIdeal.Gen.bitsLt_bf16_f32) (extf .f32 A Cert.DwaRefIdeal.Gen.bitsLt_bf16_f32)) Cert.DwaRefIdeal.Gen.transposes_S8192x2048_S2048x8192_1_0) Cert.DwaRefIdeal.Gen.bitsLt_bf16_f32

theorem idx : ∀ t : Fin cfg0.N, win0_0.index t = ![t.val % 2, t.val / 16] ∧ win0_1.index t = ![t.val % 2, t.val / 2 % 8] ∧ win0_2.index t = ![t.val / 16, t.val / 2 % 8] :=
  (by decide +kernel : ∀ t : Fin grid0.N, _)

/-- The part of one block's entry that one step of the sum adds. -/
abbrev part (a : S2048x1024.Idx → EReal) (b : S2048x1024.Idx → EReal) (j : S1024x1024.Idx) : EReal := ∑ k : Fin 2048, a (ix2 k (j 0)) * b (ix2 k (j 1))

theorem first_at (a : S2048x1024.Idx → EReal) (b : S2048x1024.Idx → EReal) (j : S1024x1024.Idx) :
    (k0_pay1 (F := Ideal) a b j : EReal) = 0 + part a b j := by
  rw [zero_add]
  pointwise [k0_pay1]

theorem next_at (s : S1024x1024.Idx → EReal) (a : S2048x1024.Idx → EReal) (b : S2048x1024.Idx → EReal) (j : S1024x1024.Idx) :
    (k0_pay2 (F := Ideal) s a b j : EReal) = s j + part a b j := by
  pointwise [k0_pay2]

theorem last_at (s : S1024x1024.Idx → EReal) (j : S1024x1024.Idx) : (k0_pay3 (F := Ideal) s j : EReal) = s j := by
  pointwise [k0_pay3]

theorem ref_at (A : Cert.DwaRefIdeal.S4096x2048.Idx → EReal) (W : Cert.DwaRefIdeal.S4096x8192.Idx → EReal) (i : Cert.DwaRefIdeal.S2048x8192.Idx) :
    (REF A W i : EReal) = ∑ k : Fin 4096, A (ix2 k (i 0)) * W (ix2 k (i 1)) := by
  pointwise [REF]
  exact Finset.sum_congr rfl fun k _ => mul_comm _ _

/-- At the last step of a run the block written back is the carried sum. -/
theorem out_eq (c : Dev nD) (t : Fin cfg0.N) (h : t.val % 2 = 1) (j : S1024x1024.Idx) :
    ((outsAt0 m c t.val t.isLt).1 j : EReal) = (outsAt0 m c t.val t.isLt).2 j := by
  rw [outsAt0_B m c t (by omega) h h]
  frame_out
  rw [last_at]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_at])
    (fun t h j => by rw [outsAt0_B m c t h (by omega) (by omega)]; frame_out; rw [next_at]; simp only [read_unread_whole])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.DwaIdeal.Value
end
-- ==== Proof.ConvDwbValue.lean ====
/- The gradient of the second pointwise weight of the convolution block: the kernel's array is the reference's. -/
module

public import proofs.«01_k».proof.Proof.Gen.ConvDwbIdeal.Value
public import proofs.«01_k».proof.Proof.Gen.ConvDwbRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ConvDwbIdeal.Value

open Idealize.ShloMosaic Idealize.ShloMosaic.TcCoe Idealize.SL.Sem
open Idealize.ShloMosaic.Pipeline (Dat)
open Cert.ConvDwbIdeal Cert.ConvDwbIdeal.Gen

variable (m : (ℓ : Loc nD τ sig) → Buf (Elt Ideal) ℓ)

/-- The reference's result over its arguments. -/
def REF (A : FVec Ideal Cert.ConvDwbRefIdeal.S4096x2048 .bf16) (W : FVec Ideal Cert.ConvDwbRefIdeal.S4096x2048 .bf16) : FVec Ideal Cert.ConvDwbRefIdeal.S2048x2048 .bf16 :=
  truncf .bf16 (transpose Cert.ConvDwbRefIdeal.S2048x2048 [1, 0] (Host.dotGeneral Cert.ConvDwbRefIdeal.dot_S4096x2048_S4096x2048_S2048x2048_0_0_1_1_n_n none (extf .f32 W Cert.ConvDwbRefIdeal.Gen.bitsLt_bf16_f32) (extf .f32 A Cert.ConvDwbRefIdeal.Gen.bitsLt_bf16_f32)) Cert.ConvDwbRefIdeal.Gen.transposes_S2048x2048_S2048x2048_1_0) Cert.ConvDwbRefIdeal.Gen.bitsLt_bf16_f32

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

/-- The part of one block's entry that one step of the sum adds. -/
abbrev part (a : S2048x1024.Idx → EReal) (b : S2048x1024.Idx → EReal) (j : S1024x1024.Idx) : EReal := ∑ k : Fin 2048, a (ix2 k (j 0)) * b (ix2 k (j 1))

theorem first_at (a : S2048x1024.Idx → EReal) (b : S2048x1024.Idx → EReal) (j : S1024x1024.Idx) :
    (k0_pay1 (F := Ideal) a b j : EReal) = 0 + part a b j := by
  rw [zero_add]
  pointwise [k0_pay1]

theorem next_at (s : S1024x1024.Idx → EReal) (a : S2048x1024.Idx → EReal) (b : S2048x1024.Idx → EReal) (j : S1024x1024.Idx) :
    (k0_pay2 (F := Ideal) s a b j : EReal) = s j + part a b j := by
  pointwise [k0_pay2]

theorem last_at (s : S1024x1024.Idx → EReal) (j : S1024x1024.Idx) : (k0_pay3 (F := Ideal) s j : EReal) = s j := by
  pointwise [k0_pay3]

theorem ref_at (A : Cert.ConvDwbRefIdeal.S4096x2048.Idx → EReal) (W : Cert.ConvDwbRefIdeal.S4096x2048.Idx → EReal) (i : Cert.ConvDwbRefIdeal.S2048x2048.Idx) :
    (REF A W i : EReal) = ∑ k : Fin 4096, A (ix2 k (i 0)) * W (ix2 k (i 1)) := by
  pointwise [REF]
  exact Finset.sum_congr rfl fun k _ => mul_comm _ _

/-- At the last step of a run the block written back is the carried sum. -/
theorem out_eq (c : Dev nD) (t : Fin cfg0.N) (h : t.val % 2 = 1) (j : S1024x1024.Idx) :
    ((outsAt0 m c t.val t.isLt).1 j : EReal) = (outsAt0 m c t.val t.isLt).2 j := by
  rw [outsAt0_B m c t (by omega) h h]
  frame_out
  rw [last_at]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_at])
    (fun t h j => by rw [outsAt0_B m c t h (by omega) (by omega)]; frame_out; rw [next_at]; simp only [read_unread_whole])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.ConvDwbIdeal.Value
end
-- ==== Proof.ConvDwaValue.lean ====
/- The gradient of the first pointwise weight of the convolution block: the kernel's array is the reference's. -/
module

public import proofs.«01_k».proof.Proof.Gen.ConvDwaIdeal.Value
public import proofs.«01_k».proof.Proof.Gen.ConvDwaRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ConvDwaIdeal.Value

open Idealize.ShloMosaic Idealize.ShloMosaic.TcCoe Idealize.SL.Sem
open Idealize.ShloMosaic.Pipeline (Dat)
open Cert.ConvDwaIdeal Cert.ConvDwaIdeal.Gen

variable (m : (ℓ : Loc nD τ sig) → Buf (Elt Ideal) ℓ)

/-- The reference's result over its arguments. -/
def REF (A : FVec Ideal Cert.ConvDwaRefIdeal.S4096x2048 .bf16) (W : FVec Ideal Cert.ConvDwaRefIdeal.S4096x4096 .bf16) : FVec Ideal Cert.ConvDwaRefIdeal.S2048x4096 .bf16 :=
  truncf .bf16 (transpose Cert.ConvDwaRefIdeal.S2048x4096 [1, 0] (Host.dotGeneral Cert.ConvDwaRefIdeal.dot_S4096x4096_S4096x2048_S4096x2048_0_0_1_1_n_n none (extf .f32 W Cert.ConvDwaRefIdeal.Gen.bitsLt_bf16_f32) (extf .f32 A Cert.ConvDwaRefIdeal.Gen.bitsLt_bf16_f32)) Cert.ConvDwaRefIdeal.Gen.transposes_S4096x2048_S2048x4096_1_0) Cert.ConvDwaRefIdeal.Gen.bitsLt_bf16_f32

theorem idx : ∀ t : Fin cfg0.N, win0_0.index t = ![t.val % 2, t.val / 8] ∧ win0_1.index t = ![t.val % 2, t.val / 2 % 4] ∧ win0_2.index t = ![t.val / 8, t.val / 2 % 4] :=
  (by decide +kernel : ∀ t : Fin grid0.N, _)

/-- The part of one block's entry that one step of the sum adds. -/
abbrev part (a : S2048x1024.Idx → EReal) (b : S2048x1024.Idx → EReal) (j : S1024x1024.Idx) : EReal := ∑ k : Fin 2048, a (ix2 k (j 0)) * b (ix2 k (j 1))

theorem first_at (a : S2048x1024.Idx → EReal) (b : S2048x1024.Idx → EReal) (j : S1024x1024.Idx) :
    (k0_pay1 (F := Ideal) a b j : EReal) = 0 + part a b j := by
  rw [zero_add]
  pointwise [k0_pay1]

theorem next_at (s : S1024x1024.Idx → EReal) (a : S2048x1024.Idx → EReal) (b : S2048x1024.Idx → EReal) (j : S1024x1024.Idx) :
    (k0_pay2 (F := Ideal) s a b j : EReal) = s j + part a b j := by
  pointwise [k0_pay2]

theorem last_at (s : S1024x1024.Idx → EReal) (j : S1024x1024.Idx) : (k0_pay3 (F := Ideal) s j : EReal) = s j := by
  pointwise [k0_pay3]

theorem ref_at (A : Cert.ConvDwaRefIdeal.S4096x2048.Idx → EReal) (W : Cert.ConvDwaRefIdeal.S4096x4096.Idx → EReal) (i : Cert.ConvDwaRefIdeal.S2048x4096.Idx) :
    (REF A W i : EReal) = ∑ k : Fin 4096, A (ix2 k (i 0)) * W (ix2 k (i 1)) := by
  pointwise [REF]
  exact Finset.sum_congr rfl fun k _ => mul_comm _ _

/-- At the last step of a run the block written back is the carried sum. -/
theorem out_eq (c : Dev nD) (t : Fin cfg0.N) (h : t.val % 2 = 1) (j : S1024x1024.Idx) :
    ((outsAt0 m c t.val t.isLt).1 j : EReal) = (outsAt0 m c t.val t.isLt).2 j := by
  rw [outsAt0_B m c t (by omega) h h]
  frame_out
  rw [last_at]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_at])
    (fun t h j => by rw [outsAt0_B m c t h (by omega) (by omega)]; frame_out; rw [next_at]; simp only [read_unread_whole])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.ConvDwaIdeal.Value
end
-- ==== Proof.MlaDwqValue.lean ====
/- The gradient of the query up-projection: the kernel's array is the reference's. -/
module

public import proofs.«01_k».proof.Proof.Gen.MlaDwqIdeal.Value
public import proofs.«01_k».proof.Proof.Gen.MlaDwqRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MlaDwqIdeal.Value

open Idealize.ShloMosaic Idealize.ShloMosaic.TcCoe Idealize.SL.Sem
open Idealize.ShloMosaic.Pipeline (Dat)
open Cert.MlaDwqIdeal Cert.MlaDwqIdeal.Gen

variable (m : (ℓ : Loc nD τ sig) → Buf (Elt Ideal) ℓ)

/-- The reference's result over its arguments. -/
def REF (A : FVec Ideal Cert.MlaDwqRefIdeal.S4096x512 .bf16) (W : FVec Ideal Cert.MlaDwqRefIdeal.S4096x4096 .bf16) : FVec Ideal Cert.MlaDwqRefIdeal.S512x4096 .bf16 :=
  truncf .bf16 (transpose Cert.MlaDwqRefIdeal.S512x4096 [1, 0] (Host.dotGeneral Cert.MlaDwqRefIdeal.dot_S4096x4096_S4096x512_S4096x512_0_0_1_1_n_n none (extf .f32 W Cert.MlaDwqRefIdeal.Gen.bitsLt_bf16_f32) (extf .f32 A Cert.MlaDwqRefIdeal.Gen.bitsLt_bf16_f32)) Cert.MlaDwqRefIdeal.Gen.transposes_S4096x512_S512x4096_1_0) Cert.MlaDwqRefIdeal.Gen.bitsLt_bf16_f32

theorem idx : ∀ t : Fin cfg0.N, win0_0.index t = ![t.val % 2, t.val / 8] ∧ win0_1.index t = ![t.val % 2, t.val / 2 % 4] ∧ win0_2.index t = ![t.val / 8, t.val / 2 % 4] :=
  (by decide +kernel : ∀ t : Fin grid0.N, _)

/-- The part of one block's entry that one step of the sum adds. -/
abbrev part (a : S2048x512.Idx → EReal) (b : S2048x1024.Idx → EReal) (j : S512x1024.Idx) : EReal := ∑ k : Fin 2048, a (ix2 k (j 0)) * b (ix2 k (j 1))

theorem first_at (a : S2048x512.Idx → EReal) (b : S2048x1024.Idx → EReal) (j : S512x1024.Idx) :
    (k0_pay1 (F := Ideal) a b j : EReal) = 0 + part a b j := by
  rw [zero_add]
  pointwise [k0_pay1]

theorem next_at (s : S512x1024.Idx → EReal) (a : S2048x512.Idx → EReal) (b : S2048x1024.Idx → EReal) (j : S512x1024.Idx) :
    (k0_pay2 (F := Ideal) s a b j : EReal) = s j + part a b j := by
  pointwise [k0_pay2]

theorem last_at (s : S512x1024.Idx → EReal) (j : S512x1024.Idx) : (k0_pay3 (F := Ideal) s j : EReal) = s j := by
  pointwise [k0_pay3]

theorem ref_at (A : Cert.MlaDwqRefIdeal.S4096x512.Idx → EReal) (W : Cert.MlaDwqRefIdeal.S4096x4096.Idx → EReal) (i : Cert.MlaDwqRefIdeal.S512x4096.Idx) :
    (REF A W i : EReal) = ∑ k : Fin 4096, A (ix2 k (i 0)) * W (ix2 k (i 1)) := by
  pointwise [REF]
  exact Finset.sum_congr rfl fun k _ => mul_comm _ _

/-- At the last step of a run the block written back is the carried sum. -/
theorem out_eq (c : Dev nD) (t : Fin cfg0.N) (h : t.val % 2 = 1) (j : S512x1024.Idx) :
    ((outsAt0 m c t.val t.isLt).1 j : EReal) = (outsAt0 m c t.val t.isLt).2 j := by
  rw [outsAt0_B m c t (by omega) h h]
  frame_out
  rw [last_at]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_at])
    (fun t h j => by rw [outsAt0_B m c t h (by omega) (by omega)]; frame_out; rw [next_at]; simp only [read_unread_whole])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.MlaDwqIdeal.Value
end
-- ==== Proof.MlaDwinValue.lean ====
/- The gradient of the down-projection: the kernel's array is the reference's. -/
module

public import proofs.«01_k».proof.Proof.Gen.MlaDwinIdeal.Value
public import proofs.«01_k».proof.Proof.Gen.MlaDwinRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MlaDwinIdeal.Value

open Idealize.ShloMosaic Idealize.ShloMosaic.TcCoe Idealize.SL.Sem
open Idealize.ShloMosaic.Pipeline (Dat)
open Cert.MlaDwinIdeal Cert.MlaDwinIdeal.Gen

variable (m : (ℓ : Loc nD τ sig) → Buf (Elt Ideal) ℓ)

/-- The reference's result over its arguments. -/
def REF (A : FVec Ideal Cert.MlaDwinRefIdeal.S4096x2048 .bf16) (W : FVec Ideal Cert.MlaDwinRefIdeal.S4096x1152 .bf16) : FVec Ideal Cert.MlaDwinRefIdeal.S2048x1152 .bf16 :=
  truncf .bf16 (transpose Cert.MlaDwinRefIdeal.S2048x1152 [1, 0] (Host.dotGeneral Cert.MlaDwinRefIdeal.dot_S4096x1152_S4096x2048_S1152x2048_0_0_1_1_n_n none (extf .f32 W Cert.MlaDwinRefIdeal.Gen.bitsLt_bf16_f32) (extf .f32 A Cert.MlaDwinRefIdeal.Gen.bitsLt_bf16_f32)) Cert.MlaDwinRefIdeal.Gen.transposes_S1152x2048_S2048x1152_1_0) Cert.MlaDwinRefIdeal.Gen.bitsLt_bf16_f32

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The part of one block's entry that one step of the sum adds. -/
abbrev part (a : S2048x1024.Idx → EReal) (b : S2048x1152.Idx → EReal) (j : S1024x1152.Idx) : EReal := ∑ k : Fin 2048, a (ix2 k (j 0)) * b (ix2 k (j 1))

theorem first_at (a : S2048x1024.Idx → EReal) (b : S2048x1152.Idx → EReal) (j : S1024x1152.Idx) :
    (k0_pay1 (F := Ideal) a b j : EReal) = 0 + part a b j := by
  rw [zero_add]
  pointwise [k0_pay1]

theorem next_at (s : S1024x1152.Idx → EReal) (a : S2048x1024.Idx → EReal) (b : S2048x1152.Idx → EReal) (j : S1024x1152.Idx) :
    (k0_pay2 (F := Ideal) s a b j : EReal) = s j + part a b j := by
  pointwise [k0_pay2]

theorem last_at (s : S1024x1152.Idx → EReal) (j : S1024x1152.Idx) : (k0_pay3 (F := Ideal) s j : EReal) = s j := by
  pointwise [k0_pay3]

theorem ref_at (A : Cert.MlaDwinRefIdeal.S4096x2048.Idx → EReal) (W : Cert.MlaDwinRefIdeal.S4096x1152.Idx → EReal) (i : Cert.MlaDwinRefIdeal.S2048x1152.Idx) :
    (REF A W i : EReal) = ∑ k : Fin 4096, A (ix2 k (i 0)) * W (ix2 k (i 1)) := by
  pointwise [REF]
  exact Finset.sum_congr rfl fun k _ => mul_comm _ _

/-- At the last step of a run the block written back is the carried sum. -/
theorem out_eq (c : Dev nD) (t : Fin cfg0.N) (h : t.val % 2 = 1) (j : S1024x1152.Idx) :
    ((outsAt0 m c t.val t.isLt).1 j : EReal) = (outsAt0 m c t.val t.isLt).2 j := by
  rw [outsAt0_B m c t (by omega) h h]
  frame_out
  rw [last_at]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_at])
    (fun t h j => by rw [outsAt0_B m c t h (by omega) (by omega)]; frame_out; rw [next_at]; simp only [read_unread_whole])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.MlaDwinIdeal.Value
end
-- ==== Proof.DhValue.lean ====
/- The gradient of the feed-forward input: the kernel's array is the reference's. -/
module

public import proofs.«01_k».proof.Proof.Gen.DhIdeal.Value
public import proofs.«01_k».proof.Proof.Gen.DhRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DhIdeal.Value

open Idealize.ShloMosaic Idealize.ShloMosaic.TcCoe Idealize.SL.Sem
open Idealize.ShloMosaic.Pipeline (Dat)
open Cert.DhIdeal Cert.DhIdeal.Gen

variable (m : (ℓ : Loc nD τ sig) → Buf (Elt Ideal) ℓ)

/-- The reference's result over its arguments. -/
def REF (A : FVec Ideal Cert.DhRefIdeal.S4096x8192 .bf16) (W : FVec Ideal Cert.DhRefIdeal.S2048x8192 .bf16) : FVec Ideal Cert.DhRefIdeal.S4096x2048 .f32 :=
  Host.dotGeneral Cert.DhRefIdeal.dot_S4096x8192_S2048x8192_S4096x2048_1_1_0_0_n_n none (extf .f32 A Cert.DhRefIdeal.Gen.bitsLt_bf16_f32) (extf .f32 W Cert.DhRefIdeal.Gen.bitsLt_bf16_f32)

theorem idx : ∀ t : Fin cfg0.N, win0_0.index t = ![t.val / 8, t.val % 4] ∧ win0_1.index t = ![t.val / 4 % 2, t.val % 4] ∧ win0_2.index t = ![t.val / 8, t.val / 4 % 2] :=
  (by decide +kernel : ∀ t : Fin grid0.N, _)

/-- The part of one block's entry that one step of the sum adds. -/
abbrev part (a : S1024x2048.Idx → EReal) (b : S1024x2048.Idx → EReal) (j : S1024x1024.Idx) : EReal := ∑ k : Fin 2048, a (ix2 (j 0) k) * b (ix2 (j 1) k)

theorem first_at (a : S1024x2048.Idx → EReal) (b : S1024x2048.Idx → EReal) (j : S1024x1024.Idx) :
    (k0_pay1 (F := Ideal) a b j : EReal) = 0 + part a b j := by
  rw [zero_add]
  pointwise [k0_pay1]

theorem next_at (s : S1024x1024.Idx → EReal) (a : S1024x2048.Idx → EReal) (b : S1024x2048.Idx → EReal) (j : S1024x1024.Idx) :
    (k0_pay2 (F := Ideal) s a b j : EReal) = s j + part a b j := by
  pointwise [k0_pay2]

theorem ref_at (A : Cert.DhRefIdeal.S4096x8192.Idx → EReal) (W : Cert.DhRefIdeal.S2048x8192.Idx → EReal) (i : Cert.DhRefIdeal.S4096x2048.Idx) :
    (REF A W i : EReal) = ∑ k : Fin 8192, A (ix2 (i 0) k) * W (ix2 (i 1) k) := by
  pointwise [REF]

/-- At the last step of a run the block written back is the carried sum. -/
theorem out_eq (c : Dev nD) (t : Fin cfg0.N) (h : t.val % 4 = 3) (j : S1024x1024.Idx) :
    ((outsAt0 m c t.val t.isLt).1 j : EReal) = (outsAt0 m c t.val t.isLt).2 j := by
  rw [outsAt0_C m c t (by omega) (by omega) h]
  frame_out

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  rw [Pipeline.eq_sum_fin_of_reset_step_apply_of_flush (fun n h => (outsAt0 m c n h).2) 4 (fun _ => 0) _
    (fun t h j => by rw [outsAt0_A m c t h (by omega) (by omega)]; frame_out; rw [first_at])
    (fun t h j => by
      by_cases h2 : t.val % 4 = 3
      · rw [outsAt0_C m c t h (by omega) h2]; frame_out; rw [next_at]; simp only [read_unread_whole]
      · rw [outsAt0_B m c t h (by omega) h2]; frame_out; rw [next_at]; simp only [read_unread_whole])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.DhIdeal.Value
end
-- ==== Proof.ConvDsValue.lean ====
/- The gradient of the input of the second pointwise product of the convolution block: the kernel's array is the reference's. -/
module

public import proofs.«01_k».proof.Proof.Gen.ConvDsIdeal.Value
public import proofs.«01_k».proof.Proof.Gen.ConvDsRefIdeal.Run
public import Idealize.ShloMosaic.Lib.Pointwise
public import Idealize.ShloMosaic.Lib.Pipeline.ValueKit

@[expose] public section

set_option maxRecDepth 16384

noncomputable section

namespace Cert.ConvDsIdeal.Value

open Idealize.ShloMosaic Idealize.ShloMosaic.TcCoe Idealize.SL.Sem
open Idealize.ShloMosaic.Pipeline (Dat)
open Cert.ConvDsIdeal Cert.ConvDsIdeal.Gen

variable (m : (ℓ : Loc nD τ sig) → Buf (Elt Ideal) ℓ)

/-- The reference's result over its arguments. -/
def REF (A : FVec Ideal Cert.ConvDsRefIdeal.S4096x2048 .bf16) (W : FVec Ideal Cert.ConvDsRefIdeal.S2048x2048 .bf16) : FVec Ideal Cert.ConvDsRefIdeal.S4096x2048 .f32 :=
  Host.dotGeneral Cert.ConvDsRefIdeal.dot_S4096x2048_S2048x2048_S4096x2048_1_1_0_0_n_n none (extf .f32 A Cert.ConvDsRefIdeal.Gen.bitsLt_bf16_f32) (extf .f32 W Cert.ConvDsRefIdeal.Gen.bitsLt_bf16_f32)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem point (c : Dev nD) (t : Fin cfg0.N) (y : S1024x1024.Idx) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ConvDsIdeal.Value
end
-- ==== Proof.ConvDhValue.lean ====
/- The gradient of the input of the convolution block: the kernel's array is the reference's. -/
module

public import proofs.«01_k».proof.Proof.Gen.ConvDhIdeal.Value
public import proofs.«01_k».proof.Proof.Gen.ConvDhRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ConvDhIdeal.Value

open Idealize.ShloMosaic Idealize.ShloMosaic.TcCoe Idealize.SL.Sem
open Idealize.ShloMosaic.Pipeline (Dat)
open Cert.ConvDhIdeal Cert.ConvDhIdeal.Gen

variable (m : (ℓ : Loc nD τ sig) → Buf (Elt Ideal) ℓ)

/-- The reference's result over its arguments. -/
def REF (A : FVec Ideal Cert.ConvDhRefIdeal.S4096x4096 .bf16) (W : FVec Ideal Cert.ConvDhRefIdeal.S2048x4096 .bf16) : FVec Ideal Cert.ConvDhRefIdeal.S4096x2048 .f32 :=
  Host.dotGeneral Cert.ConvDhRefIdeal.dot_S4096x4096_S2048x4096_S4096x2048_1_1_0_0_n_n none (extf .f32 A Cert.ConvDhRefIdeal.Gen.bitsLt_bf16_f32) (extf .f32 W Cert.ConvDhRefIdeal.Gen.bitsLt_bf16_f32)

theorem idx : ∀ t : Fin cfg0.N, win0_0.index t = ![t.val / 4, t.val % 2] ∧ win0_1.index t = ![t.val / 2 % 2, t.val % 2] ∧ win0_2.index t = ![t.val / 4, t.val / 2 % 2] :=
  (by decide +kernel : ∀ t : Fin grid0.N, _)

/-- The part of one block's entry that one step of the sum adds. -/
abbrev part (a : S1024x2048.Idx → EReal) (b : S1024x2048.Idx → EReal) (j : S1024x1024.Idx) : EReal := ∑ k : Fin 2048, a (ix2 (j 0) k) * b (ix2 (j 1) k)

theorem first_at (a : S1024x2048.Idx → EReal) (b : S1024x2048.Idx → EReal) (j : S1024x1024.Idx) :
    (k0_pay1 (F := Ideal) a b j : EReal) = 0 + part a b j := by
  rw [zero_add]
  pointwise [k0_pay1]

theorem next_at (s : S1024x1024.Idx → EReal) (a : S1024x2048.Idx → EReal) (b : S1024x2048.Idx → EReal) (j : S1024x1024.Idx) :
    (k0_pay2 (F := Ideal) s a b j : EReal) = s j + part a b j := by
  pointwise [k0_pay2]

theorem ref_at (A : Cert.ConvDhRefIdeal.S4096x4096.Idx → EReal) (W : Cert.ConvDhRefIdeal.S2048x4096.Idx → EReal) (i : Cert.ConvDhRefIdeal.S4096x2048.Idx) :
    (REF A W i : EReal) = ∑ k : Fin 4096, A (ix2 (i 0) k) * W (ix2 (i 1) k) := by
  pointwise [REF]

/-- At the last step of a run the block written back is the carried sum. -/
theorem out_eq (c : Dev nD) (t : Fin cfg0.N) (h : t.val % 2 = 1) (j : S1024x1024.Idx) :
    ((outsAt0 m c t.val t.isLt).1 j : EReal) = (outsAt0 m c t.val t.isLt).2 j := by
  rw [outsAt0_B m c t (by omega) h h]
  frame_out

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_at])
    (fun t h j => by rw [outsAt0_B m c t h (by omega) (by omega)]; frame_out; rw [next_at]; simp only [read_unread_whole])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.ConvDhIdeal.Value
end
-- ==== Proof.MlaDoValue.lean ====
/- The gradient of the attention output: the kernel's array is the reference's. -/
module

public import proofs.«01_k».proof.Proof.Gen.MlaDoIdeal.Value
public import proofs.«01_k».proof.Proof.Gen.MlaDoRefIdeal.Run
public import Idealize.ShloMosaic.Lib.Pointwise
public import Idealize.ShloMosaic.Lib.Pipeline.ValueKit

@[expose] public section

set_option maxRecDepth 16384

noncomputable section

namespace Cert.MlaDoIdeal.Value

open Idealize.ShloMosaic Idealize.ShloMosaic.TcCoe Idealize.SL.Sem
open Idealize.ShloMosaic.Pipeline (Dat)
open Cert.MlaDoIdeal Cert.MlaDoIdeal.Gen

variable (m : (ℓ : Loc nD τ sig) → Buf (Elt Ideal) ℓ)

/-- The reference's result over its arguments. -/
def REF (A : FVec Ideal Cert.MlaDoRefIdeal.S4096x2048 .bf16) (W : FVec Ideal Cert.MlaDoRefIdeal.S2048x2048 .bf16) : FVec Ideal Cert.MlaDoRefIdeal.S4096x2048 .bf16 :=
  truncf .bf16 (Host.dotGeneral Cert.MlaDoRefIdeal.dot_S4096x2048_S2048x2048_S4096x2048_1_1_0_0_n_n none (extf .f32 A Cert.MlaDoRefIdeal.Gen.bitsLt_bf16_f32) (extf .f32 W Cert.MlaDoRefIdeal.Gen.bitsLt_bf16_f32)) Cert.MlaDoRefIdeal.Gen.bitsLt_bf16_f32

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem point (c : Dev nD) (t : Fin cfg0.N) (y : S1024x1024.Idx) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MlaDoIdeal.Value
end
-- ==== Proof.MlaDqnValue.lean ====
/- The gradient of the compressed queries: the kernel's array is the reference's. -/
module

public import proofs.«01_k».proof.Proof.Gen.MlaDqnIdeal.Value
public import proofs.«01_k».proof.Proof.Gen.MlaDqnRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MlaDqnIdeal.Value

open Idealize.ShloMosaic Idealize.ShloMosaic.TcCoe Idealize.SL.Sem
open Idealize.ShloMosaic.Pipeline (Dat)
open Cert.MlaDqnIdeal Cert.MlaDqnIdeal.Gen

variable (m : (ℓ : Loc nD τ sig) → Buf (Elt Ideal) ℓ)

/-- The reference's result over its arguments. -/
def REF (A : FVec Ideal Cert.MlaDqnRefIdeal.S4096x4096 .bf16) (W : FVec Ideal Cert.MlaDqnRefIdeal.S512x4096 .bf16) : FVec Ideal Cert.MlaDqnRefIdeal.S4096x512 .f32 :=
  Host.dotGeneral Cert.MlaDqnRefIdeal.dot_S4096x4096_S512x4096_S4096x512_1_1_0_0_n_n none (extf .f32 A Cert.MlaDqnRefIdeal.Gen.bitsLt_bf16_f32) (extf .f32 W Cert.MlaDqnRefIdeal.Gen.bitsLt_bf16_f32)

theorem idx : ∀ t : Fin cfg0.N, win0_0.index t = ![t.val / 2, t.val % 2] ∧ win0_1.index t = ![0, t.val % 2] ∧ win0_2.index t = ![t.val / 2, 0] :=
  (by decide +kernel : ∀ t : Fin grid0.N, _)

/-- The part of one block's entry that one step of the sum adds. -/
abbrev part (a : S1024x2048.Idx → EReal) (b : S512x2048.Idx → EReal) (j : S1024x512.Idx) : EReal := ∑ k : Fin 2048, a (ix2 (j 0) k) * b (ix2 (j 1) k)

theorem first_at (a : S1024x2048.Idx → EReal) (b : S512x2048.Idx → EReal) (j : S1024x512.Idx) :
    (k0_pay1 (F := Ideal) a b j : EReal) = 0 + part a b j := by
  rw [zero_add]
  pointwise [k0_pay1]

theorem next_at (s : S1024x512.Idx → EReal) (a : S1024x2048.Idx → EReal) (b : S512x2048.Idx → EReal) (j : S1024x512.Idx) :
    (k0_pay2 (F := Ideal) s a b j : EReal) = s j + part a b j := by
  pointwise [k0_pay2]

theorem ref_at (A : Cert.MlaDqnRefIdeal.S4096x4096.Idx → EReal) (W : Cert.MlaDqnRefIdeal.S512x4096.Idx → EReal) (i : Cert.MlaDqnRefIdeal.S4096x512.Idx) :
    (REF A W i : EReal) = ∑ k : Fin 4096, A (ix2 (i 0) k) * W (ix2 (i 1) k) := by
  pointwise [REF]

/-- At the last step of a run the block written back is the carried sum. -/
theorem out_eq (c : Dev nD) (t : Fin cfg0.N) (h : t.val % 2 = 1) (j : S1024x512.Idx) :
    ((outsAt0 m c t.val t.isLt).1 j : EReal) = (outsAt0 m c t.val t.isLt).2 j := by
  rw [outsAt0_B m c t (by omega) h h]
  frame_out

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_at])
    (fun t h j => by rw [outsAt0_B m c t h (by omega) (by omega)]; frame_out; rw [next_at]; simp only [read_unread_whole])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.MlaDqnIdeal.Value
end
-- ==== Proof.MlaDhValue.lean ====
/- The gradient of the attention input: the kernel's array is the reference's. -/
module

public import proofs.«01_k».proof.Proof.Gen.MlaDhIdeal.Value
public import proofs.«01_k».proof.Proof.Gen.MlaDhRefIdeal.Run
public import Idealize.ShloMosaic.Lib.Pointwise
public import Idealize.ShloMosaic.Lib.Pipeline.ValueKit

@[expose] public section

set_option maxRecDepth 16384

noncomputable section

namespace Cert.MlaDhIdeal.Value

open Idealize.ShloMosaic Idealize.ShloMosaic.TcCoe Idealize.SL.Sem
open Idealize.ShloMosaic.Pipeline (Dat)
open Cert.MlaDhIdeal Cert.MlaDhIdeal.Gen

variable (m : (ℓ : Loc nD τ sig) → Buf (Elt Ideal) ℓ)

/-- The reference's result over its arguments. -/
def REF (A : FVec Ideal Cert.MlaDhRefIdeal.S4096x1152 .bf16) (W : FVec Ideal Cert.MlaDhRefIdeal.S2048x1152 .bf16) : FVec Ideal Cert.MlaDhRefIdeal.S4096x2048 .f32 :=
  Host.dotGeneral Cert.MlaDhRefIdeal.dot_S4096x1152_S2048x1152_S4096x2048_1_1_0_0_n_n none (extf .f32 A Cert.MlaDhRefIdeal.Gen.bitsLt_bf16_f32) (extf .f32 W Cert.MlaDhRefIdeal.Gen.bitsLt_bf16_f32)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem point (c : Dev nD) (t : Fin cfg0.N) (y : S1024x1024.Idx) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MlaDhIdeal.Value
end
-- ==== Proof.UpValue.lean ====
/- The first feed-forward product and its squared ReLU: the kernel's arrays are the reference's. -/
module

public import proofs.«01_k».proof.Proof.Gen.UpIdeal.Value
public import proofs.«01_k».proof.Proof.Gen.UpRefIdeal.Run
public import Idealize.ShloMosaic.Lib.Pointwise
public import Idealize.ShloMosaic.Lib.Pipeline.ValueKit

@[expose] public section

set_option maxRecDepth 16384

noncomputable section

namespace Cert.UpIdeal.Value

open Idealize.ShloMosaic Idealize.ShloMosaic.TcCoe Idealize.SL.Sem
open Idealize.ShloMosaic.Pipeline (Dat)
open Cert.UpIdeal Cert.UpIdeal.Gen

variable (m : (ℓ : Loc nD τ sig) → Buf (Elt Ideal) ℓ)

/-- The reference's first result over its arguments. -/
def REFa (A : FVec Ideal Cert.UpRefIdeal.S4096x2048 .bf16) (W : FVec Ideal Cert.UpRefIdeal.S2048x8192 .bf16) : FVec Ideal Cert.UpRefIdeal.S4096x8192 .bf16 :=
  truncf .bf16 (Host.dotGeneral Cert.UpRefIdeal.dot_S4096x2048_S2048x8192_S4096x8192_1_0_0_1_n_n none (extf .f32 A Cert.UpRefIdeal.Gen.bitsLt_bf16_f32) (extf .f32 W Cert.UpRefIdeal.Gen.bitsLt_bf16_f32)) Cert.UpRefIdeal.Gen.bitsLt_bf16_f32

/-- The reference's second result over its arguments. -/
def REFb (A : FVec Ideal Cert.UpRefIdeal.S4096x2048 .bf16) (W : FVec Ideal Cert.UpRefIdeal.S2048x8192 .bf16) : FVec Ideal Cert.UpRefIdeal.S4096x8192 .bf16 :=
  truncf .bf16 (mulf (maximumf (Host.dotGeneral Cert.UpRefIdeal.dot_S4096x2048_S2048x8192_S4096x8192_1_0_0_1_n_n none (extf .f32 A Cert.UpRefIdeal.Gen.bitsLt_bf16_f32) (extf .f32 W Cert.UpRefIdeal.Gen.bitsLt_bf16_f32)) (broadcastInDim Cert.UpRefIdeal.S4096x8192 ![] Cert.UpRefIdeal.Gen.bcast_S_S4096x8192 (constant Cert.UpRefIdeal.S_ .f32 0x00000000#32))) (maximumf (Host.dotGeneral Cert.UpRefIdeal.dot_S4096x2048_S2048x8192_S4096x8192_1_0_0_1_n_n none (extf .f32 A Cert.UpRefIdeal.Gen.bitsLt_bf16_f32) (extf .f32 W Cert.UpRefIdeal.Gen.bitsLt_bf16_f32)) (broadcastInDim Cert.UpRefIdeal.S4096x8192 ![] Cert.UpRefIdeal.Gen.bcast_S_S4096x8192 (constant Cert.UpRefIdeal.S_ .f32 0x00000000#32)))) Cert.UpRefIdeal.Gen.bitsLt_bf16_f32

theorem idx : ∀ t : Fin cfg0.N, win0_0.index t = ![t.val / 8, 0] ∧ win0_1.index t = ![0, t.val % 8] ∧ win0_2.index t = ![t.val / 8, t.val % 8] ∧ win0_3.index t = ![t.val / 8, t.val % 8] :=
  (by decide +kernel : ∀ t : Fin grid0.N, _)

theorem pointa (c : Dev nD) (t : Fin cfg0.N) (y : S1024x1024.Idx) : k0_pay2 (iblk m c 0 t) (iblk m c 1 t) y
    = REFa (m ((c : Thread nD τ).loc main_arg0)) (m ((c : Thread nD τ).loc main_arg1)) (((cfg0.win 2).blk t).view.emb y) := by
  pointwise [k0_pay2, k0_pay1, REFa]
  blk_point [iblk, V, idx t]

theorem finala (c : Dev nD) : (dats m 0 c).arrAt 2 (cfgs 0).N
    = REFa (m ((c : Thread nD τ).loc main_arg0)) (m ((c : Thread nD τ).loc main_arg1)) := by
  refine (dats m 0 c).arrAt_eq_of_covers 2 _ (by decide +kernel) fun t _ y => ?_
  blk_simp
  rw [after0_2]; frame_out
  exact pointa m c t y

theorem pointb (c : Dev nD) (t : Fin cfg0.N) (y : S1024x1024.Idx) : k0_pay3 (iblk m c 0 t) (iblk m c 1 t) y
    = REFb (m ((c : Thread nD τ).loc main_arg0)) (m ((c : Thread nD τ).loc main_arg1)) (((cfg0.win 3).blk t).view.emb y) := by
  pointwise [k0_pay3, k0_pay1, REFb]
  blk_point [iblk, V, idx t]

theorem finalb (c : Dev nD) : (dats m 0 c).arrAt 3 (cfgs 0).N
    = REFb (m ((c : Thread nD τ).loc main_arg0)) (m ((c : Thread nD τ).loc main_arg1)) := by
  refine (dats m 0 c).arrAt_eq_of_covers 3 _ (by decide +kernel) fun t _ y => ?_
  blk_simp
  rw [after0_3]; frame_out
  exact pointb m c t y

end Cert.UpIdeal.Value
end
-- ==== Proof.DownValue.lean ====
/- The second feed-forward product, added to its input: the kernel's array is the reference's. -/
module

public import proofs.«01_k».proof.Proof.Gen.DownIdeal.Value
public import proofs.«01_k».proof.Proof.Gen.DownRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DownIdeal.Value

open Idealize.ShloMosaic Idealize.ShloMosaic.TcCoe Idealize.SL.Sem
open Idealize.ShloMosaic.Pipeline (Dat)
open Cert.DownIdeal Cert.DownIdeal.Gen

variable (m : (ℓ : Loc nD τ sig) → Buf (Elt Ideal) ℓ)

/-- The reference's result over its arguments. -/
def REF (A : FVec Ideal Cert.DownRefIdeal.S4096x8192 .bf16) (W : FVec Ideal Cert.DownRefIdeal.S8192x2048 .bf16) (X : FVec Ideal Cert.DownRefIdeal.S4096x2048 .f32) : FVec Ideal Cert.DownRefIdeal.S4096x2048 .f32 :=
  addf X (Host.dotGeneral Cert.DownRefIdeal.dot_S4096x8192_S8192x2048_S4096x2048_1_0_0_1_n_n none (extf .f32 A Cert.DownRefIdeal.Gen.bitsLt_bf16_f32) (extf .f32 W Cert.DownRefIdeal.Gen.bitsLt_bf16_f32))

theorem idx : ∀ t : Fin cfg0.N, win0_0.index t = ![t.val / 8, t.val % 4] ∧ win0_1.index t = ![t.val % 4, t.val / 4 % 2] ∧ win0_2.index t = ![t.val / 8, t.val / 4 % 2] ∧ win0_3.index t = ![t.val / 8, t.val / 4 % 2] :=
  (by decide +kernel : ∀ t : Fin grid0.N, _)

/-- The part of one block's entry that one step of the sum adds. -/
abbrev part (a : S1024x2048.Idx → EReal) (b : S2048x1024.Idx → EReal) (j : S1024x1024.Idx) : EReal := ∑ k : Fin 2048, a (ix2 (j 0) k) * b (ix2 k (j 1))

theorem first_at (a : S1024x2048.Idx → EReal) (b : S2048x1024.Idx → EReal) (j : S1024x1024.Idx) :
    (k0_pay1 (F := Ideal) a b j : EReal) = 0 + part a b j := by
  rw [zero_add]
  pointwise [k0_pay1]

theorem next_at (s : S1024x1024.Idx → EReal) (a : S1024x2048.Idx → EReal) (b : S2048x1024.Idx → EReal) (j : S1024x1024.Idx) :
    (k0_pay2 (F := Ideal) s a b j : EReal) = s j + part a b j := by
  pointwise [k0_pay2]

theorem last_at (x s : S1024x1024.Idx → EReal) (j : S1024x1024.Idx) : (k0_pay3 (F := Ideal) x s j : EReal) = s j + x j := by
  pointwise [k0_pay3]

theorem ref_at (A : Cert.DownRefIdeal.S4096x8192.Idx → EReal) (W : Cert.DownRefIdeal.S8192x2048.Idx → EReal) (X : Cert.DownRefIdeal.S4096x2048.Idx → EReal) (i : Cert.DownRefIdeal.S4096x2048.Idx) :
    (REF A W X i : EReal) = X i + ∑ k : Fin 8192, A (ix2 (i 0) k) * W (ix2 k (i 1)) := by
  pointwise [REF]

/-- At the last step of a run the block written back is the carried sum, added to the other input. -/
theorem out_eq (c : Dev nD) (t : Fin cfg0.N) (h : t.val % 4 = 3) (j : S1024x1024.Idx) :
    ((outsAt0 m c t.val t.isLt).1 j : EReal) = (show EReal from iblk m c 2 t j) + (outsAt0 m c t.val t.isLt).2 j := by
  rw [outsAt0_C m c t (by omega) (by omega) h]
  frame_out
  rw [last_at]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (out_eq m c t ((flush0_3 t).mp hf) y).trans ?_
  rw [Pipeline.eq_sum_fin_of_reset_step_apply_of_flush (fun n h => (outsAt0 m c n h).2) 4 (fun _ => 0) _
    (fun t h j => by rw [outsAt0_A m c t h (by omega) (by omega)]; frame_out; rw [first_at])
    (fun t h j => by
      by_cases h2 : t.val % 4 = 3
      · rw [outsAt0_C m c t h (by omega) h2]; frame_out; rw [next_at]; simp only [read_unread_whole]
      · rw [outsAt0_B m c t h (by omega) h2]; frame_out; rw [next_at]; simp only [read_unread_whole])
    t ((flush0_3 t).mp hf) _, zero_add, ref_at]
  refine congr (congrArg _ ?_) (Fin.sum_mul_add_congr fun s k hl => ?_)
  · blk_point [iblk, V, idx t]
  · blk_point [iblk, V, idx t, idx ⟨_, Pipeline.run_point_lt_of_flush t ((flush0_3 t).mp hf) s⟩]

end Cert.DownIdeal.Value
end
-- ==== Proof.ConvOutValue.lean ====
/- The second pointwise product of the convolution block, added to its input: the kernel's array is the reference's. -/
module

public import proofs.«01_k».proof.Proof.Gen.ConvOutIdeal.Value
public import proofs.«01_k».proof.Proof.Gen.ConvOutRefIdeal.Run
public import Idealize.ShloMosaic.Lib.Pointwise
public import Idealize.ShloMosaic.Lib.Pipeline.ValueKit

@[expose] public section

set_option maxRecDepth 16384

noncomputable section

namespace Cert.ConvOutIdeal.Value

open Idealize.ShloMosaic Idealize.ShloMosaic.TcCoe Idealize.SL.Sem
open Idealize.ShloMosaic.Pipeline (Dat)
open Cert.ConvOutIdeal Cert.ConvOutIdeal.Gen

variable (m : (ℓ : Loc nD τ sig) → Buf (Elt Ideal) ℓ)

/-- The reference's result over its arguments. -/
def REF (A : FVec Ideal Cert.ConvOutRefIdeal.S4096x2048 .bf16) (W : FVec Ideal Cert.ConvOutRefIdeal.S2048x2048 .bf16) (X : FVec Ideal Cert.ConvOutRefIdeal.S4096x2048 .f32) (Y : FVec Ideal Cert.ConvOutRefIdeal.S2048 .f32) : FVec Ideal Cert.ConvOutRefIdeal.S4096x2048 .f32 :=
  addf X (addf (Host.dotGeneral Cert.ConvOutRefIdeal.dot_S4096x2048_S2048x2048_S4096x2048_1_0_0_1_n_n none (extf .f32 A Cert.ConvOutRefIdeal.Gen.bitsLt_bf16_f32) (extf .f32 W Cert.ConvOutRefIdeal.Gen.bitsLt_bf16_f32)) (broadcastInDim Cert.ConvOutRefIdeal.S4096x2048 ![0, 1] Cert.ConvOutRefIdeal.Gen.bcast_S1x2048_S4096x2048_0_1 (broadcastInDim Cert.ConvOutRefIdeal.S1x2048 ![1] Cert.ConvOutRefIdeal.Gen.bcast_S2048_S1x2048_1 Y)))

theorem idx : ∀ t : Fin cfg0.N, win0_0.index t = ![t.val / 2, 0] ∧ win0_1.index t = ![0, t.val % 2] ∧ win0_2.index t = ![t.val / 2, t.val % 2] ∧ win0_3.index t = ![0, t.val % 2] ∧ win0_4.index t = ![t.val / 2, t.val % 2] :=
  (by decide +kernel : ∀ t : Fin grid0.N, _)

/-- The bias as the kernel takes it, one row. -/
theorem bias_at (c : Dev nD) (i : S1x2048.Idx) : (V m c main_v0 i : EReal) = m ((c : Thread nD τ).loc main_arg3) (ix1 (i 1)) := by
  entry_read
  pointwise
  blk_ext

theorem point (c : Dev nD) (t : Fin cfg0.N) (y : S1024x1024.Idx) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF]
  refine (add_assoc _ _ _).trans (congr (congrArg _ ?_) (congr (congrArg _ ?_) ((bias_at m c _).trans ?_)))
  · blk_point [iblk, V, idx t]
  · blk_point [iblk, V, idx t]
  · blk_point [idx t]

theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.ConvOutIdeal.Value
end
-- ==== Proof.MlaOutValue.lean ====
/- The output projection of the attention, added to its input: the kernel's array is the reference's. -/
module

public import proofs.«01_k».proof.Proof.Gen.MlaOutIdeal.Value
public import proofs.«01_k».proof.Proof.Gen.MlaOutRefIdeal.Run
public import Idealize.ShloMosaic.Lib.Pointwise
public import Idealize.ShloMosaic.Lib.Pipeline.ValueKit

@[expose] public section

set_option maxRecDepth 16384

noncomputable section

namespace Cert.MlaOutIdeal.Value

open Idealize.ShloMosaic Idealize.ShloMosaic.TcCoe Idealize.SL.Sem
open Idealize.ShloMosaic.Pipeline (Dat)
open Cert.MlaOutIdeal Cert.MlaOutIdeal.Gen

variable (m : (ℓ : Loc nD τ sig) → Buf (Elt Ideal) ℓ)

/-- The reference's result over its arguments. -/
def REF (A : FVec Ideal Cert.MlaOutRefIdeal.S4096x2048 .bf16) (W : FVec Ideal Cert.MlaOutRefIdeal.S2048x2048 .bf16) (X : FVec Ideal Cert.MlaOutRefIdeal.S4096x2048 .f32) : FVec Ideal Cert.MlaOutRefIdeal.S4096x2048 .f32 :=
  addf X (Host.dotGeneral Cert.MlaOutRefIdeal.dot_S4096x2048_S2048x2048_S4096x2048_1_0_0_1_n_n none (extf .f32 A Cert.MlaOutRefIdeal.Gen.bitsLt_bf16_f32) (extf .f32 W Cert.MlaOutRefIdeal.Gen.bitsLt_bf16_f32))

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

theorem point (c : Dev nD) (t : Fin cfg0.N) (y : S1024x1024.Idx) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.MlaOutIdeal.Value
end
-- ==== Proof.MlaInValue.lean ====
/- The down-projection of the attention: the kernel's array is the reference's. -/
module

public import proofs.«01_k».proof.Proof.Gen.MlaInIdeal.Value
public import proofs.«01_k».proof.Proof.Gen.MlaInRefIdeal.Run
public import Idealize.ShloMosaic.Lib.Pointwise
public import Idealize.ShloMosaic.Lib.Pipeline.ValueKit

@[expose] public section

set_option maxRecDepth 16384

noncomputable section

namespace Cert.MlaInIdeal.Value

open Idealize.ShloMosaic Idealize.ShloMosaic.TcCoe Idealize.SL.Sem
open Idealize.ShloMosaic.Pipeline (Dat)
open Cert.MlaInIdeal Cert.MlaInIdeal.Gen

variable (m : (ℓ : Loc nD τ sig) → Buf (Elt Ideal) ℓ)

/-- The reference's result over its arguments. -/
def REF (A : FVec Ideal Cert.MlaInRefIdeal.S4096x2048 .bf16) (W : FVec Ideal Cert.MlaInRefIdeal.S2048x1152 .bf16) : FVec Ideal Cert.MlaInRefIdeal.S4096x1152 .f32 :=
  Host.dotGeneral Cert.MlaInRefIdeal.dot_S4096x2048_S2048x1152_S4096x1152_1_0_0_1_n_n none (extf .f32 A Cert.MlaInRefIdeal.Gen.bitsLt_bf16_f32) (extf .f32 W Cert.MlaInRefIdeal.Gen.bitsLt_bf16_f32)

theorem idx : ∀ t : Fin cfg0.N, win0_0.index t = ![t.val, 0] ∧ win0_1.index t = ![0, 0] ∧ win0_2.index t = ![t.val, 0] :=
  (by decide +kernel : ∀ t : Fin grid0.N, _)

theorem point (c : Dev nD) (t : Fin cfg0.N) (y : S1024x1152.Idx) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MlaInIdeal.Value
end
-- ==== Proof.RmsAlg.lean ====
/- The gradient of a root-mean-square norm over the extended reals. The kernel factors the inverse root out of the whole
   gradient; the reference differentiates the inverse root. The two agree for every input, infinite ones included. -/
module

public import Idealize.ShloMosaic.PureOps.Ideal
public import Idealize.ShloMosaic.Lib.Pointwise

@[expose] public section

noncomputable section

namespace Cert.RmsAlg

open Idealize.ShloMosaic

theorem bits_n : (Ideal.ofBits .f32 1157627904#32 : EReal) = ((2048 : ℝ) : EReal) := by
  simp [Ideal.ofBits, Ideal.ieee, -EReal.coe_mul]; norm_num

theorem bits_half : (Ideal.ofBits .f32 3204448256#32 : EReal) = ((-(1/2) : ℝ) : EReal) := by
  simp [Ideal.ofBits, Ideal.ieee, -EReal.coe_mul]; norm_num

theorem bits_eps : ∃ e : ℝ, 0 < e ∧ (Ideal.ofBits .f32 897988541#32 : EReal) = (e : EReal) := by
  refine ⟨8796093 * 2 ^ (-43 : ℤ), by positivity, ?_⟩
  simp [Ideal.ofBits, Ideal.ieee, -EReal.coe_mul]

/-- Division by a nonzero real is multiplication by its inverse. -/
theorem div_real (x : EReal) {y : ℝ} (hy : y ≠ 0) : Ideal.div x (y : EReal) = x * ((y⁻¹ : ℝ) : EReal) := by
  rw [Ideal.div, if_neg (by exact_mod_cast hy), EReal.coe_inv]

/-- A nonnegative real factor passes through a sum. -/
theorem mul_sum {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih => rw [Finset.sum_insert ha, Finset.sum_insert ha, EReal.right_distrib_of_nonneg_of_ne_top (by exact_mod_cast hr) (EReal.coe_ne_top r), ih]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of squares is a real with real entries, or infinite. -/
theorem squares {ι : Type*} [Fintype ι] (x : ι → EReal) :
    (∑ i, x i * x i = ⊤) ∨ ∃ y : ι → ℝ, ∀ i, x i = (y i : EReal) := by
  classical
  by_cases h : ∀ i, x i ≠ ⊤ ∧ x i ≠ ⊥
  · exact .inr ⟨fun i => (x i).toReal, fun i => (EReal.coe_toReal (h i).1 (h i).2).symm⟩
  · left
    push Not at h
    obtain ⟨i, hi⟩ := h
    have hx : x i * x i = ⊤ := by
      by_cases ht : x i = ⊤
      · rw [ht]; rfl
      · rw [hi ht]; rfl
    have h0 : ∀ k, 0 ≤ x k * x k := fun k => by
      induction x k with
      | bot => exact le_top
      | top => exact le_top
      | coe r => rw [← EReal.coe_mul]; exact_mod_cast mul_self_nonneg r
    exact top_le_iff.mp (hx ▸ Finset.single_le_sum (f := fun k => x k * x k) (fun k _ => h0 k) (Finset.mem_univ i))

/-- The mean of the squares with the small constant added. -/
def ms {ι : Type*} [Fintype ι] (x : ι → EReal) : EReal :=
  Ideal.div (∑ k, x k * x k) (Ideal.ofBits .f32 1157627904#32) + Ideal.ofBits .f32 897988541#32

/-- It is infinite, or a positive real and then every entry is real. -/
theorem ms_cases {ι : Type*} [Fintype ι] (x : ι → EReal) :
    ms x = ⊤ ∨ ∃ (y : ι → ℝ) (v : ℝ), (∀ i, x i = (y i : EReal)) ∧ 0 < v ∧ ms x = (v : EReal) := by
  obtain ⟨e, he, hb⟩ := bits_eps
  rw [ms, bits_n, hb, div_real _ (by norm_num)]
  rcases squares x with h | ⟨y, h⟩
  · left
    rw [h, EReal.top_mul_coe_of_pos (by norm_num)]; rfl
  · right
    refine ⟨y, (∑ i, y i * y i) * 2048⁻¹ + e, h, add_pos_of_nonneg_of_pos (mul_nonneg (Finset.sum_nonneg fun i _ => mul_self_nonneg _) (by norm_num)) he, ?_⟩
    rw [EReal.coe_add, EReal.coe_mul, coe_sum]
    simp only [h, EReal.coe_mul]

/-- The kernel's form of the gradient is the reference's. -/
theorem grad {ι : Type*} [Fintype ι] (x u : ι → EReal) (j : ι) :
    Ideal.rsqrt (ms x) * (u j - x j * Ideal.rsqrt (ms x) * Ideal.div (∑ k, u k * (x k * Ideal.rsqrt (ms x))) (Ideal.ofBits .f32 1157627904#32))
    = u j * Ideal.rsqrt (ms x)
      + x j * Ideal.div ((∑ k, x k * u k) * (Ideal.ofBits .f32 3204448256#32 * Ideal.div (Ideal.rsqrt (ms x)) (ms x))) (Ideal.ofBits .f32 1157627904#32)
      + Ideal.div ((∑ k, x k * u k) * (Ideal.ofBits .f32 3204448256#32 * Ideal.div (Ideal.rsqrt (ms x)) (ms x))) (Ideal.ofBits .f32 1157627904#32) * x j := by
  rw [bits_n, bits_half]
  simp only [div_real _ (show (2048 : ℝ) ≠ 0 by norm_num)]
  rcases ms_cases x with h | ⟨y, v, hy, hv, h⟩
  · rw [h, Ideal.rsqrt_top, Ideal.div, if_neg (by simp)]
    simp
  · have hr : Ideal.rsqrt ((v : ℝ) : EReal) = (((Real.sqrt v)⁻¹ : ℝ) : EReal) := by
      rw [Ideal.rsqrt_coe, if_neg (not_lt.mpr hv.le), if_neg hv.ne']
    rw [h, hr, div_real _ hv.ne']
    set r : ℝ := (Real.sqrt v)⁻¹ with hrdef
    have hr0 : 0 < r := inv_pos.mpr (Real.sqrt_pos.mpr hv)
    have hvr : v⁻¹ = r * r := by rw [hrdef, ← mul_inv, Real.mul_self_sqrt hv.le]
    have hsum : ∑ k, u k * (x k * (r : EReal)) = (∑ k, x k * u k) * (r : EReal) := by
      rw [mul_sum _ _ hr0.le]
      exact Finset.sum_congr rfl fun k _ => by rw [← mul_assoc, mul_comm (u k)]
    rw [hsum, hvr, hy j]
    generalize (∑ k, x k * u k) = A
    generalize u j = w
    generalize y j = z
    have e1 : (z : EReal) * (r : EReal) * (A * (r : EReal) * ((2048⁻¹ : ℝ) : EReal)) = A * ((z * r * r * 2048⁻¹ : ℝ) : EReal) := by
      push_cast; ac_rfl
    have e2 : A * (((-(1/2) : ℝ) : EReal) * ((r : EReal) * ((r * r : ℝ) : EReal))) * ((2048⁻¹ : ℝ) : EReal) = A * ((-(1/2) * (r * (r * r)) * 2048⁻¹ : ℝ) : EReal) := by
      push_cast; ac_rfl
    rw [e1, e2]
    have e3 : (z : EReal) * (A * ((-(1/2) * (r * (r * r)) * 2048⁻¹ : ℝ) : EReal)) = A * ((-(1/2) * (z * r * r * r * 2048⁻¹) : ℝ) : EReal) := by
      rw [mul_left_comm, ← EReal.coe_mul]; congr 2; ring
    rw [mul_comm (A * _) (z : EReal), e3]
    have e4 : (r : EReal) * (A * ((z * r * r * 2048⁻¹ : ℝ) : EReal)) = A * ((z * r * r * r * 2048⁻¹ : ℝ) : EReal) := by
      rw [mul_left_comm, ← EReal.coe_mul]; congr 2; ring
    have e5 : (r : EReal) * (w - A * ((z * r * r * 2048⁻¹ : ℝ) : EReal)) = w * (r : EReal) - A * ((z * r * r * r * 2048⁻¹ : ℝ) : EReal) := by
      rw [← e4, sub_eq_add_neg, EReal.left_distrib_of_nonneg_of_ne_top (by exact_mod_cast hr0.le) (EReal.coe_ne_top r), mul_comm w, sub_eq_add_neg, mul_neg]
    rw [e5, add_assoc, sub_eq_add_neg]
    congr 1
    generalize z * r * r * r * 2048⁻¹ = q
    induction A with
    | coe a => norm_cast; ring_nf
    | top =>
      rcases lt_trichotomy q 0 with hq | hq | hq
      · rw [EReal.top_mul_coe_of_neg hq, EReal.top_mul_coe_of_pos (by linarith)]; rfl
      · subst hq; simp
      · rw [EReal.top_mul_coe_of_pos hq, EReal.top_mul_coe_of_neg (by linarith)]; rfl
    | bot =>
      rcases lt_trichotomy q 0 with hq | hq | hq
      · rw [EReal.bot_mul_coe_of_neg hq, EReal.bot_mul_coe_of_pos (by linarith)]; rfl
      · subst hq; simp
      · rw [EReal.bot_mul_coe_of_pos hq, EReal.bot_mul_coe_of_neg (by linarith)]; rfl

end Cert.RmsAlg
end
-- ==== Proof.RmsBwdValue.lean ====
/- The gradient of the root-mean-square norm: the kernel's arrays are the reference's. -/
module

public import proofs.«01_k».proof.Proof.Gen.RmsBwdIdeal.Value
public import proofs.«01_k».proof.Proof.Gen.RmsBwdRefIdeal.Run
public import proofs.«01_k».proof.Proof.RmsAlg
public import Idealize.ShloMosaic.Lib.Pointwise
public import Idealize.ShloMosaic.Lib.Pipeline.ValueKit
public import Idealize.ShloMosaic.Lib.Pipeline.ReadBack

@[expose] public section

set_option maxRecDepth 16384

noncomputable section

namespace Cert.RmsBwdIdeal.Value

open Idealize.ShloMosaic Idealize.ShloMosaic.TcCoe Idealize.SL.Sem
open Idealize.ShloMosaic.Pipeline (Dat)
open Cert.RmsBwdIdeal Cert.RmsBwdIdeal.Gen

variable (m : (ℓ : Loc nD τ sig) → Buf (Elt Ideal) ℓ)

section
open Cert.RmsBwdRefIdeal Cert.RmsBwdRefIdeal.Gen
/-- The mean of the squares of each row, with the small constant added, as the reference forms it. -/
def msR (X : FVec Ideal Cert.RmsBwdRefIdeal.S4096x2048 .f32) : FVec Ideal Cert.RmsBwdRefIdeal.S4096x1 .f32 :=
  addf (Host.divf (broadcastInDim S4096x1 ![0] bcast_S4096_S4096x1_0 (Host.reduceAdd (mulf X X) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))
/-- The incoming gradient times the gain. -/
def uR (G : FVec Ideal Cert.RmsBwdRefIdeal.S2048 .f32) (D : FVec Ideal Cert.RmsBwdRefIdeal.S4096x2048 .f32) : FVec Ideal Cert.RmsBwdRefIdeal.S4096x2048 .f32 :=
  mulf D (broadcastInDim S4096x2048 ![0, 1] bcast_S1x2048_S4096x2048_0_1 (broadcastInDim S1x2048 ![1] bcast_S2048_S1x2048_1 G))
/-- The gradient of the reference through the mean of the squares. -/
def cR (X : FVec Ideal Cert.RmsBwdRefIdeal.S4096x2048 .f32) (G : FVec Ideal Cert.RmsBwdRefIdeal.S2048 .f32) (D : FVec Ideal Cert.RmsBwdRefIdeal.S4096x2048 .f32) : FVec Ideal Cert.RmsBwdRefIdeal.S4096x2048 .f32 :=
  broadcastInDim S4096x2048 ![0] bcast_S4096_S4096x2048_0 (Host.reduceAdd (Host.divf (mulf (shapeCast _ (Host.reduceAdd (mulf X (uR G D)) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (msR X)) (msR X)))) (broadcastInDim S4096x1 ![] bcast_S_S4096x1 (constant S_ .f32 0x45000000#32))) (constant S_ .f32 0x00000000#32) reducesTo_S4096x1_S4096_d1 h_S_)
/-- The reference's first result: the gradient of the norm's input added to the residual's. -/
def REFdx (X : FVec Ideal Cert.RmsBwdRefIdeal.S4096x2048 .f32) (G : FVec Ideal Cert.RmsBwdRefIdeal.S2048 .f32) (D R : FVec Ideal Cert.RmsBwdRefIdeal.S4096x2048 .f32) : FVec Ideal Cert.RmsBwdRefIdeal.S4096x2048 .f32 :=
  addf R (addf (addf (mulf (uR G D) (broadcastInDim S4096x2048 ![0, 1] bcast_S4096x1_S4096x2048_0_1 (Host.rsqrt (msR X)))) (mulf X (cR X G D))) (mulf (cR X G D) X))
/-- The reference's third result: the gradient of the gain. -/
def REFdg (X : FVec Ideal Cert.RmsBwdRefIdeal.S4096x2048 .f32) (D : FVec Ideal Cert.RmsBwdRefIdeal.S4096x2048 .f32) : FVec Ideal Cert.RmsBwdRefIdeal.S1x2048 .f32 :=
  shapeCast _ (Host.reduceAdd (shapeCast _ (Host.reduceAdd (mulf (mulf X (broadcastInDim S4096x2048 ![0, 1] bcast_S4096x1_S4096x2048_0_1 (Host.rsqrt (msR X)))) D) (constant S_ .f32 0x00000000#32) reducesTo_S4096x2048_S2048_d0 h_S_) Cert.RmsBwdRefIdeal.Gen.shapeCasts_S2048_S1x2048) (constant S_ .f32 0x00000000#32) reducesTo_S1x2048_S2048_d0 h_S_) Cert.RmsBwdRefIdeal.Gen.shapeCasts_S2048_S1x2048
/-- The reference's fourth result: the column sums of the first. -/
def REFcs (T : FVec Ideal Cert.RmsBwdRefIdeal.S4096x2048 .f32) : FVec Ideal Cert.RmsBwdRefIdeal.S1x2048 .f32 :=
  broadcastInDim S1x2048 ![1] bcast_S2048_S1x2048_1 (Host.reduceAdd T (constant S_ .f32 0x00000000#32) reducesTo_S4096x2048_S2048_d0 h_S_)
end

/-- The inverse root mean square of a row. -/
abbrev ri (x : Fin 2048 → EReal) : EReal := Ideal.rsqrt (Cert.RmsAlg.ms x)

/-- The gradient in the reference's order of operations, over one row. -/
abbrev gr (x u : Fin 2048 → EReal) (j : Fin 2048) : EReal :=
  u j * ri x
    + x j * Ideal.div ((∑ k, x k * u k) * (Ideal.ofBits .f32 3204448256#32 * Ideal.div (ri x) (Cert.RmsAlg.ms x))) (Ideal.ofBits .f32 1157627904#32)
    + Ideal.div ((∑ k, x k * u k) * (Ideal.ofBits .f32 3204448256#32 * Ideal.div (ri x) (Cert.RmsAlg.ms x))) (Ideal.ofBits .f32 1157627904#32) * x j

theorem dx_at (x : S256x2048.Idx → EReal) (g : S1x2048.Idx → EReal) (d r : S256x2048.Idx → EReal) (j : S256x2048.Idx) :
    (k0_pay8 (F := Ideal) x g d r j : EReal) = r j + gr (fun k => x (ix2 (j 0) k)) (fun k => d (ix2 (j 0) k) * g (ix2 0 k)) (j 1) := by
  obtain ⟨a, b, rfl⟩ : ∃ a b, j = ix2 a b := ⟨_, _, eq_ix2 j⟩
  refine Eq.trans ?_ (congrArg (r (ix2 a b) + ·) (Cert.RmsAlg.grad (fun k : Fin 2048 => x (ix2 a k)) (fun k => d (ix2 a k) * g (ix2 0 k)) b))
  pointwise [k0_pay8, k0_pay6, k0_pay5]
  rfl

theorem ref_dx_at (x : Cert.RmsBwdRefIdeal.S4096x2048.Idx → EReal) (g : Cert.RmsBwdRefIdeal.S2048.Idx → EReal) (d r : Cert.RmsBwdRefIdeal.S4096x2048.Idx → EReal) (j : Cert.RmsBwdRefIdeal.S4096x2048.Idx) :
    (REFdx x g d r j : EReal) = r j + gr (fun k => x (ix2 (j 0) k)) (fun k => d (ix2 (j 0) k) * g (ix1 k)) (j 1) := by
  obtain ⟨a, b, rfl⟩ : ∃ a b, j = ix2 a b := ⟨_, _, eq_ix2 j⟩
  pointwise [REFdx, cR, uR, msR]
  simp only [Fin.sum_univ_one, gr, add_assoc]
  rfl

theorem ref_dg_at (x d : Cert.RmsBwdRefIdeal.S4096x2048.Idx → EReal)  (j : Cert.RmsBwdRefIdeal.S1x2048.Idx) :
    (REFdg x d j : EReal) = ∑ i : Fin 4096, d (ix2 i (j 1)) * (x (ix2 i (j 1)) * ri (fun k => x (ix2 i k))) := by
  pointwise [REFdg, msR]
  simp only [Fin.sum_univ_one]
  exact Finset.sum_congr rfl fun i _ => mul_comm _ _

theorem ref_cs_at (x : Cert.RmsBwdRefIdeal.S4096x2048.Idx → EReal)  (j : Cert.RmsBwdRefIdeal.S1x2048.Idx) : (REFcs x j : EReal) = ∑ i : Fin 4096, x (ix2 i (j 1)) := by
  pointwise [REFcs]

/-- What one block of rows adds to the gradient of the gain. -/
abbrev dgp (x d : S256x2048.Idx → EReal) (j : S1x2048.Idx) : EReal := ∑ i : Fin 256, d (ix2 i (j 1)) * (x (ix2 i (j 1)) * ri (fun k => x (ix2 i k)))

theorem dg_at (x : S256x2048.Idx → EReal) (s : S1x2048.Idx → EReal) (d : S256x2048.Idx → EReal) (j : S1x2048.Idx) :
    (k0_pay1 (F := Ideal) (k0_pay7 x d) s j : EReal) = s j + dgp x d j := by
  pointwise [k0_pay1, k0_pay7, k0_pay6, k0_pay5]
  rfl

theorem cs_at (x : S256x2048.Idx → EReal) (s : S1x2048.Idx → EReal) (j : S1x2048.Idx) :
    (k0_pay2 (F := Ideal) x s j : EReal) = s j + ∑ i : Fin 256, x (ix2 i (j 1)) := by
  pointwise [k0_pay2]

theorem zero3 (j : S1x2048.Idx) : (k0_pay3 (F := Ideal) j : EReal) = 0 := by
  pointwise [k0_pay3]
theorem zero4 (j : S1x2048.Idx) : (k0_pay4 (F := Ideal) j : EReal) = 0 := by
  pointwise [k0_pay4]

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] :=
  (by decide +kernel : ∀ t : Fin grid0.N, _)

/-- The gain as the kernel takes it, one row. -/
theorem gain_at (c : Dev nD) (i : S1x2048.Idx) : (V m c main_v0 i : EReal) = m ((c : Thread nD τ).loc main_arg1) (ix1 (i 1)) := by
  entry_read
  pointwise
  blk_ext

/-- The four results of the reference on the memory's arguments. -/
abbrev DX (c : Dev nD) := REFdx (m ((c : Thread nD τ).loc main_arg0)) (m ((c : Thread nD τ).loc main_arg1)) (m ((c : Thread nD τ).loc main_arg2)) (m ((c : Thread nD τ).loc main_arg3))

theorem point4 (c : Dev nD) (t : Fin cfg0.N) (y : S256x2048.Idx) : (k0_pay8 (F := Ideal) (iblk m c 0 t) (iblk m c 1 t) (iblk m c 2 t) (iblk m c 3 t) y : EReal)
    = DX m c (((cfg0.win 4).blk t).view.emb y) := by
  refine (dx_at _ _ _ _ _).trans (Eq.trans ?_ (ref_dx_at _ _ _ _ _).symm)
  have hx : (fun k : Fin 2048 => (show EReal from iblk m c 0 t (ix2 (y 0) k))) = fun k => m ((c : Thread nD τ).loc main_arg0) (ix2 ((((cfg0.win 4).blk t).view.emb y) 0) k) := by
    funext k
    blk_point [iblk, V, idx t]
  have hd : ∀ k : Fin 2048, (show EReal from iblk m c 2 t (ix2 (y 0) k)) = m ((c : Thread nD τ).loc main_arg2) (ix2 ((((cfg0.win 4).blk t).view.emb y) 0) k) := by
    intro k
    blk_point [iblk, V, idx t]
  have hg : ∀ k : Fin 2048, (show EReal from iblk m c 1 t (ix2 0 k)) = m ((c : Thread nD τ).loc main_arg1) (ix1 k) := by
    intro k
    refine (gain_at m c _).trans ?_
    blk_point [idx t]
  have hr : (show EReal from iblk m c 3 t y) = m ((c : Thread nD τ).loc main_arg3) (((cfg0.win 4).blk t).view.emb y) := by
    blk_point [iblk, V, idx t]
  have hj : (y 1) = (((cfg0.win 4).blk t).view.emb y) 1 := by
    refine Fin.ext ?_
    blk_simp
    simp [idx t]
  refine congr (congrArg _ hr) ?_
  exact congr (congr (congrArg gr hx) (funext fun k => congr (congrArg _ (hd k)) (hg k))) hj

theorem out4 (c : Dev nD) (t : Fin cfg0.N) (j : S256x2048.Idx) :
    ((outsAt0 m c t.val t.isLt).1 j : EReal) = k0_pay8 (F := Ideal) (iblk m c 0 t) (iblk m c 1 t) (iblk m c 2 t) (iblk m c 3 t) j := by
  by_cases h : t.val % 16 = 0
  · rw [outsAt0_A m c t h]; frame_out
  · rw [outsAt0_B m c t h]; frame_out

theorem out5 (c : Dev nD) (t : Fin cfg0.N) (j : S256x2048.Idx) :
    ((outsAt0 m c t.val t.isLt).2.1 j : EReal) = k0_pay8 (F := Ideal) (iblk m c 0 t) (iblk m c 1 t) (iblk m c 2 t) (iblk m c 3 t) j := by
  by_cases h : t.val % 16 = 0
  · rw [outsAt0_A m c t h]; frame_out; pointwise [k0_pay9]
  · rw [outsAt0_B m c t h]; frame_out; pointwise [k0_pay9]

theorem final4 (c : Dev nD) : (dats m 0 c).arrAt 4 (cfgs 0).N = DX m c := by
  refine (dats m 0 c).arrAt_eq_of_covers 4 _ (by decide +kernel) fun t _ y => ?_
  blk_simp
  rw [after0_4]
  exact (out4 m c t y).trans (point4 m c t y)

theorem final5 (c : Dev nD) : (dats m 0 c).arrAt 5 (cfgs 0).N = truncf (F := Ideal) .bf16 (DX m c) Cert.RmsBwdRefIdeal.Gen.bitsLt_bf16_f32 := by
  refine (dats m 0 c).arrAt_eq_of_covers 5 _ (by decide +kernel) fun t _ y => ?_
  blk_simp
  rw [after0_5]
  refine (out5 m c t y).trans ((point4 m c t y).trans ?_)
  pointwise
  blk_point [idx t]

theorem final6 (c : Dev nD) : (dats m 0 c).arrAt 6 (cfgs 0).N = REFdg (m ((c : Thread nD τ).loc main_arg0)) (m ((c : Thread nD τ).loc main_arg2)) := by
  refine (dats m 0 c).arrAt_eq_of_covers 6 _ (by decide +kernel) fun t hf y => ?_
  blk_simp
  rw [after0_6]
  rw [Pipeline.eq_sum_fin_of_reset_step_apply_of_flush (fun n h => (outsAt0 m c n h).2.2.1) 16 (fun _ => 0) (fun t j => dgp (iblk m c 0 t) (iblk m c 2 t) j)
    (fun t h j => by rw [outsAt0_A m c t h]; frame_out; rw [dg_at, zero3])
    (fun t h j => by rw [outsAt0_B m c t h]; frame_out; rw [dg_at])
    t ((flush0_6 t).mp hf) _, zero_add, ref_dg_at]
  refine Fin.sum_mul_add_congr fun s k hl => ?_
  have hx : ∀ q : Fin 2048, (show EReal from iblk m c 0 ⟨_, Pipeline.run_point_lt_of_flush t ((flush0_6 t).mp hf) s⟩ (ix2 k q)) = m ((c : Thread nD τ).loc main_arg0) (ix2 ⟨s.val * 256 + k.val, hl⟩ q) := by
    intro q
    blk_point [iblk, V, idx t, idx ⟨_, Pipeline.run_point_lt_of_flush t ((flush0_6 t).mp hf) s⟩]
  refine congr (congrArg _ ?_) (congr (congrArg _ ?_) (congrArg ri (funext fun q => hx q)))
  · blk_point [iblk, V, idx t, idx ⟨_, Pipeline.run_point_lt_of_flush t ((flush0_6 t).mp hf) s⟩]
  · blk_point [iblk, V, idx t, idx ⟨_, Pipeline.run_point_lt_of_flush t ((flush0_6 t).mp hf) s⟩]

theorem final7 (c : Dev nD) : (dats m 0 c).arrAt 7 (cfgs 0).N = REFcs (DX m c) := by
  refine (dats m 0 c).arrAt_eq_of_covers 7 _ (by decide +kernel) fun t hf y => ?_
  blk_simp
  rw [after0_7]
  rw [Pipeline.eq_sum_fin_of_reset_step_apply_of_flush (fun n h => (outsAt0 m c n h).2.2.2) 16 (fun _ => 0) (fun t j => ∑ i : Fin 256, (show EReal from k0_pay8 (F := Ideal) (iblk m c 0 t) (iblk m c 1 t) (iblk m c 2 t) (iblk m c 3 t) (ix2 i (j 1))))
    (fun t h j => by rw [outsAt0_A m c t h]; frame_out; rw [cs_at, zero4])
    (fun t h j => by rw [outsAt0_B m c t h]; frame_out; rw [cs_at])
    t ((flush0_7 t).mp hf) _, zero_add, ref_cs_at]
  refine Fin.sum_mul_add_congr fun s k hl => ?_
  refine (point4 m c _ _).trans ?_
  generalize DX m c = X
  blk_point [idx t, idx ⟨_, Pipeline.run_point_lt_of_flush t ((flush0_7 t).mp hf) s⟩]

end Cert.RmsBwdIdeal.Value
end
-- ==== Proof.RmsFwdValue.lean ====
/- The root-mean-square norm: the kernel's array is the reference's. -/
module

public import proofs.«01_k».proof.Proof.Gen.RmsFwdIdeal.Value
public import proofs.«01_k».proof.Proof.Gen.RmsFwdRefIdeal.Run
public import proofs.«01_k».proof.Proof.RmsAlg
public import Idealize.ShloMosaic.Lib.Pointwise
public import Idealize.ShloMosaic.Lib.Pipeline.ValueKit
public import Idealize.ShloMosaic.Lib.Pipeline.ReadBack

@[expose] public section

set_option maxRecDepth 16384

noncomputable section

namespace Cert.RmsFwdIdeal.Value

open Idealize.ShloMosaic Idealize.ShloMosaic.TcCoe Idealize.SL.Sem
open Idealize.ShloMosaic.Pipeline (Dat)
open Cert.RmsFwdIdeal Cert.RmsFwdIdeal.Gen

variable (m : (ℓ : Loc nD τ sig) → Buf (Elt Ideal) ℓ)

section
open Cert.RmsFwdRefIdeal Cert.RmsFwdRefIdeal.Gen
/-- The reference's result over its arguments. -/
def REF (X : FVec Ideal Cert.RmsFwdRefIdeal.S4096x2048 .f32) (G : FVec Ideal Cert.RmsFwdRefIdeal.S2048 .f32) : FVec Ideal Cert.RmsFwdRefIdeal.S4096x2048 .bf16 :=
  truncf .bf16 (mulf (mulf X (broadcastInDim S4096x2048 ![0, 1] bcast_S4096x1_S4096x2048_0_1 (Host.rsqrt (addf (Host.divf (broadcastInDim S4096x1 ![0] bcast_S4096_S4096x1_0 (Host.reduceAdd (mulf X X) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 G))) Cert.RmsFwdRefIdeal.Gen.bitsLt_bf16_f32
end

/-- One entry of the scaled row. -/
abbrev nr (x : Fin 2048 → EReal) (g : EReal) (j : Fin 2048) : EReal := x j * Ideal.rsqrt (Cert.RmsAlg.ms x) * g

theorem nr_at (x : S512x2048.Idx → EReal) (g : S1x2048.Idx → EReal) (j : S512x2048.Idx) :
    (k0_pay1 (F := Ideal) x g j : EReal) = nr (fun k => x (ix2 (j 0) k)) (g (ix2 0 (j 1))) (j 1) := by
  obtain ⟨a, b, rfl⟩ : ∃ a b, j = ix2 a b := ⟨_, _, eq_ix2 j⟩
  pointwise [k0_pay1]
  rfl

theorem ref_at (x : Cert.RmsFwdRefIdeal.S4096x2048.Idx → EReal) (g : Cert.RmsFwdRefIdeal.S2048.Idx → EReal) (j : Cert.RmsFwdRefIdeal.S4096x2048.Idx) :
    (REF x g j : EReal) = nr (fun k => x (ix2 (j 0) k)) (g (ix1 (j 1))) (j 1) := by
  obtain ⟨a, b, rfl⟩ : ∃ a b, j = ix2 a b := ⟨_, _, eq_ix2 j⟩
  pointwise [REF]
  rfl

theorem idx : ∀ t : Fin cfg0.N, win0_0.index t = ![t.val, 0] ∧ win0_1.index t = ![0, 0] ∧ win0_2.index t = ![t.val, 0] :=
  (by decide +kernel : ∀ t : Fin grid0.N, _)

/-- The gain as the kernel takes it, one row. -/
theorem gain_at (c : Dev nD) (i : S1x2048.Idx) : (V m c main_v0 i : EReal) = m ((c : Thread nD τ).loc main_arg1) (ix1 (i 1)) := by
  entry_read
  pointwise
  blk_ext

theorem point (c : Dev nD) (t : Fin cfg0.N) (y : S512x2048.Idx) : (k0_pay1 (F := Ideal) (iblk m c 0 t) (iblk m c 1 t) y : EReal)
    = REF (m ((c : Thread nD τ).loc main_arg0)) (m ((c : Thread nD τ).loc main_arg1)) (((cfg0.win 2).blk t).view.emb y) := by
  refine (nr_at _ _ _).trans (Eq.trans ?_ (ref_at _ _ _).symm)
  have hx : (fun k : Fin 2048 => (show EReal from iblk m c 0 t (ix2 (y 0) k))) = fun k => m ((c : Thread nD τ).loc main_arg0) (ix2 ((((cfg0.win 2).blk t).view.emb y) 0) k) := by
    funext k
    blk_point [iblk, V, idx t]
  have hj : (y 1) = (((cfg0.win 2).blk t).view.emb y) 1 := by
    refine Fin.ext ?_
    blk_simp
    simp [idx t]
  have hg : (show EReal from iblk m c 1 t (ix2 0 (y 1))) = m ((c : Thread nD τ).loc main_arg1) (ix1 ((((cfg0.win 2).blk t).view.emb y) 1)) := by
    refine (gain_at m c _).trans ?_
    blk_point [idx t]
  exact congr (congr (congrArg nr hx) hg) hj

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.RmsFwdIdeal.Value
end
-- ==== Proof.HeadValue.lean ====
/- The loss of one device, with its gradients: the kernel's arrays are the reference's. -/
module

public import proofs.«01_k».proof.Proof.Gen.HeadIdeal.Value
public import proofs.«01_k».proof.Proof.Gen.HeadRefIdeal.Run
public import proofs.«01_k».proof.Proof.RmsAlg
public import Idealize.ShloMosaic.Lib.Pointwise
public import Idealize.ShloMosaic.Lib.Pipeline.ValueKit
public import Idealize.ShloMosaic.Lib.Pipeline.ReadBack

@[expose] public section

set_option maxRecDepth 16384

noncomputable section

namespace Cert.HeadIdeal.Value

open Idealize.ShloMosaic Idealize.ShloMosaic.TcCoe Idealize.SL.Sem
open Idealize.ShloMosaic.Pipeline (Dat)
open Cert.HeadIdeal Cert.HeadIdeal.Gen

variable (m : (ℓ : Loc nD τ sig) → Buf (Elt Ideal) ℓ)

section
open Cert.HeadRefIdeal Cert.HeadRefIdeal.Gen
/-- The mean of the squares of each row, with the small constant added, as the reference forms it. -/
def msR (X : FVec Ideal Cert.HeadRefIdeal.S4096x2048 .f32) : FVec Ideal Cert.HeadRefIdeal.S4096x1 .f32 :=
  addf (Host.divf (broadcastInDim S4096x1 ![0] bcast_S4096_S4096x1_0 (Host.reduceAdd (mulf X X) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))
/-- The scaled rows. -/
def yR (X : FVec Ideal Cert.HeadRefIdeal.S4096x2048 .f32) : FVec Ideal Cert.HeadRefIdeal.S4096x2048 .f32 := mulf X (broadcastInDim S4096x2048 ![0, 1] bcast_S4096x1_S4096x2048_0_1 (Host.rsqrt (msR X)))
/-- The gain on every row. -/
def gR (G : FVec Ideal Cert.HeadRefIdeal.S2048 .f32) : FVec Ideal Cert.HeadRefIdeal.S4096x2048 .f32 := broadcastInDim S4096x2048 ![0, 1] bcast_S1x2048_S4096x2048_0_1 (broadcastInDim S1x2048 ![1] bcast_S2048_S1x2048_1 G)
/-- The norm's output minus the target. -/
def eR (X : FVec Ideal Cert.HeadRefIdeal.S4096x2048 .f32) (G : FVec Ideal Cert.HeadRefIdeal.S2048 .f32) (T : FVec Ideal Cert.HeadRefIdeal.S4096x2048 .f32) : FVec Ideal Cert.HeadRefIdeal.S4096x2048 .f32 := subf (mulf (yR X) (gR G)) T
/-- The gradient of the loss in the norm's output. -/
def dR (X : FVec Ideal Cert.HeadRefIdeal.S4096x2048 .f32) (G : FVec Ideal Cert.HeadRefIdeal.S2048 .f32) (T : FVec Ideal Cert.HeadRefIdeal.S4096x2048 .f32) : FVec Ideal Cert.HeadRefIdeal.S4096x2048 .f32 :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (eR X G T))
/-- The reference's loss. -/
def REFl (X : FVec Ideal Cert.HeadRefIdeal.S4096x2048 .f32) (G : FVec Ideal Cert.HeadRefIdeal.S2048 .f32) (T : FVec Ideal Cert.HeadRefIdeal.S4096x2048 .f32) : FVec Ideal Cert.HeadRefIdeal.S1x128 .f32 :=
  broadcastInDim S1x128 ![] bcast_S_S1x128 (mulf (constant S_ .f32 0x3F000000#32) (Host.reduceAdd (Host.divf (Host.reduceAdd (mulf (eR X G T) (eR X G T)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_))
/-- The gradient of the gain. -/
def REFdg (X : FVec Ideal Cert.HeadRefIdeal.S4096x2048 .f32) (G : FVec Ideal Cert.HeadRefIdeal.S2048 .f32) (T : FVec Ideal Cert.HeadRefIdeal.S4096x2048 .f32) : FVec Ideal Cert.HeadRefIdeal.S1x2048 .f32 :=
  shapeCast _ (Host.reduceAdd (shapeCast _ (Host.reduceAdd (mulf (yR X) (dR X G T)) (constant S_ .f32 0x00000000#32) reducesTo_S4096x2048_S2048_d0 h_S_) Cert.HeadRefIdeal.Gen.shapeCasts_S2048_S1x2048) (constant S_ .f32 0x00000000#32) reducesTo_S1x2048_S2048_d0 h_S_) Cert.HeadRefIdeal.Gen.shapeCasts_S2048_S1x2048
/-- The gradient of the norm's output times the gain. -/
def uR (G : FVec Ideal Cert.HeadRefIdeal.S2048 .f32) (D : FVec Ideal Cert.HeadRefIdeal.S4096x2048 .f32) : FVec Ideal Cert.HeadRefIdeal.S4096x2048 .f32 := mulf D (gR G)
/-- The gradient through the mean of the squares. -/
def cR (X : FVec Ideal Cert.HeadRefIdeal.S4096x2048 .f32) (G : FVec Ideal Cert.HeadRefIdeal.S2048 .f32) (D : FVec Ideal Cert.HeadRefIdeal.S4096x2048 .f32) : FVec Ideal Cert.HeadRefIdeal.S4096x2048 .f32 :=
  broadcastInDim S4096x2048 ![0] bcast_S4096_S4096x2048_0 (Host.reduceAdd (Host.divf (mulf (shapeCast _ (Host.reduceAdd (mulf X (uR G D)) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (msR X)) (msR X)))) (broadcastInDim S4096x1 ![] bcast_S_S4096x1 (constant S_ .f32 0x45000000#32))) (constant S_ .f32 0x00000000#32) reducesTo_S4096x1_S4096_d1 h_S_)
/-- The gradient of the norm's input. -/
def xR (X : FVec Ideal Cert.HeadRefIdeal.S4096x2048 .f32) (G : FVec Ideal Cert.HeadRefIdeal.S2048 .f32) (D : FVec Ideal Cert.HeadRefIdeal.S4096x2048 .f32) : FVec Ideal Cert.HeadRefIdeal.S4096x2048 .f32 :=
  addf (addf (mulf (uR G D) (broadcastInDim S4096x2048 ![0, 1] bcast_S4096x1_S4096x2048_0_1 (Host.rsqrt (msR X)))) (mulf X (cR X G D))) (mulf (cR X G D) X)
/-- The reference's last result: the column sums of that gradient. -/
def REFcs (Y : FVec Ideal Cert.HeadRefIdeal.S4096x2048 .f32) : FVec Ideal Cert.HeadRefIdeal.S1x2048 .f32 :=
  broadcastInDim S1x2048 ![1] bcast_S2048_S1x2048_1 (Host.reduceAdd Y (constant S_ .f32 0x00000000#32) reducesTo_S4096x2048_S2048_d0 h_S_)
end

/-- The inverse root mean square of a row. -/
abbrev ri (x : Fin 2048 → EReal) : EReal := Ideal.rsqrt (Cert.RmsAlg.ms x)

/-- The gradient in the reference's order of operations, over one row. -/
abbrev gr (x u : Fin 2048 → EReal) (j : Fin 2048) : EReal :=
  u j * ri x
    + x j * Ideal.div ((∑ k, x k * u k) * (Ideal.ofBits .f32 3204448256#32 * Ideal.div (ri x) (Cert.RmsAlg.ms x))) (Ideal.ofBits .f32 1157627904#32)
    + Ideal.div ((∑ k, x k * u k) * (Ideal.ofBits .f32 3204448256#32 * Ideal.div (ri x) (Cert.RmsAlg.ms x))) (Ideal.ofBits .f32 1157627904#32) * x j

/-- The error of one entry, and its gradient as the kernel scales it. -/
abbrev er (x g t : Fin 2048 → EReal) (j : Fin 2048) : EReal := x j * ri x * g j - t j
abbrev de (x g t : Fin 2048 → EReal) (j : Fin 2048) : EReal := er x g t j * Ideal.ofBits .f32 973078528#32
/-- The loss of one row. -/
abbrev lr (x g t : Fin 2048 → EReal) : EReal :=
  Ideal.ofBits .f32 1056964608#32 * Ideal.div (∑ k, er x g t k * er x g t k) (Ideal.ofBits .f32 1157627904#32)
/-- The gradient of one row's input. -/
abbrev gx (x g t : Fin 2048 → EReal) (j : Fin 2048) : EReal := gr x (fun k => de x g t k * g k) j

theorem bits_h : (Ideal.ofBits .f32 1056964608#32 : EReal) = ((1/2 : ℝ) : EReal) := by
  simp [Ideal.ofBits, Ideal.ieee, -EReal.coe_mul]; norm_num
theorem bits_two : (Ideal.ofBits .f32 1073741824#32 : EReal) = ((2 : ℝ) : EReal) := by
  simp [Ideal.ofBits, Ideal.ieee, -EReal.coe_mul]; norm_num
theorem bits_inv : (Ideal.ofBits .f32 973078528#32 : EReal) = ((2048⁻¹ : ℝ) : EReal) := by
  simp [Ideal.ofBits, Ideal.ieee, -EReal.coe_mul]; norm_num

/-- The reference's scaling of the error is the kernel's. -/
theorem dct (e : EReal) : Ideal.div (Ideal.ofBits .f32 1056964608#32) (Ideal.ofBits .f32 1157627904#32) * (Ideal.ofBits .f32 1073741824#32 * e) = e * Ideal.ofBits .f32 973078528#32 := by
  rw [bits_h, bits_two, bits_inv, Cert.RmsAlg.bits_n, Cert.RmsAlg.div_real _ (by norm_num), ← mul_assoc, ← EReal.coe_mul, ← EReal.coe_mul, mul_comm]
  congr 2
  norm_num

/-- Half of a sum is the sum of the halves. -/
theorem halves {ι : Type*} [Fintype ι] (f : ι → EReal) : Ideal.ofBits .f32 1056964608#32 * ∑ i, f i = ∑ i, Ideal.ofBits .f32 1056964608#32 * f i := by
  rw [bits_h, mul_comm, Cert.RmsAlg.mul_sum _ _ (by norm_num)]
  exact Finset.sum_congr rfl fun i _ => mul_comm _ _

theorem dx_at (x t : S256x2048.Idx → EReal) (g : S1x2048.Idx → EReal) (j : S256x2048.Idx) :
    (k0_pay10 (F := Ideal) x (k0_pay4 g) (k0_pay7 x g t) j : EReal) = gx (fun k => x (ix2 (j 0) k)) (fun k => g (ix2 0 k)) (fun k => t (ix2 (j 0) k)) (j 1) := by
  obtain ⟨a, b, rfl⟩ : ∃ a b, j = ix2 a b := ⟨_, _, eq_ix2 j⟩
  refine Eq.trans ?_ (Cert.RmsAlg.grad (fun k : Fin 2048 => x (ix2 a k)) (fun k => de (fun k => x (ix2 a k)) (fun k => g (ix2 0 k)) (fun k => t (ix2 a k)) k * g (ix2 0 k)) b)
  pointwise [k0_pay4, k0_pay5, k0_pay7, k0_pay8, k0_pay9, k0_pay10]
  rfl

theorem d_at (x t : S256x2048.Idx → EReal) (g : S1x2048.Idx → EReal) (j : S256x2048.Idx) :
    (k0_pay7 (F := Ideal) x g t j : EReal) = de (fun k => x (ix2 (j 0) k)) (fun k => g (ix2 0 k)) (fun k => t (ix2 (j 0) k)) (j 1) := by
  obtain ⟨a, b, rfl⟩ : ∃ a b, j = ix2 a b := ⟨_, _, eq_ix2 j⟩
  pointwise [k0_pay4, k0_pay5, k0_pay7]
  rfl

theorem l_at (x t : S256x2048.Idx → EReal) (g : S1x2048.Idx → EReal) (s : S1x128.Idx → EReal) (j : S1x128.Idx) :
    (k0_pay6 (F := Ideal) x g t s j : EReal) = s j + ∑ i : Fin 256, lr (fun k => x (ix2 i k)) (fun k => g (ix2 0 k)) (fun k => t (ix2 i k)) := by
  refine Eq.trans ?_ (congrArg (s j + ·) (halves _))
  pointwise [k0_pay4, k0_pay5, k0_pay6]
  rfl

theorem dg_at (x t : S256x2048.Idx → EReal) (g s : S1x2048.Idx → EReal) (j : S1x2048.Idx) :
    (k0_pay12 (F := Ideal) x (k0_pay7 x g t) s j : EReal) = s j + ∑ i : Fin 256, de (fun k => x (ix2 i k)) (fun k => g (ix2 0 k)) (fun k => t (ix2 i k)) (j 1) * (x (ix2 i (j 1)) * ri (fun k => x (ix2 i k))) := by
  refine Eq.trans ?_ (congrArg (s j + ·) (Finset.sum_congr rfl fun i _ => congrArg (· * (x (ix2 i (j 1)) * ri (fun k => x (ix2 i k)))) (d_at x t g (ix2 i (j 1)))))
  generalize k0_pay7 (F := Ideal) x g t = Z
  pointwise [k0_pay12, k0_pay8, k0_pay9]
  rfl

theorem cs_at (x d : S256x2048.Idx → EReal) (g s : S1x2048.Idx → EReal) (j : S1x2048.Idx) :
    (k0_pay13 (F := Ideal) x g d s j : EReal) = s j + ∑ i : Fin 256, (show EReal from k0_pay10 (F := Ideal) x g d (ix2 i (j 1))) := by
  rw [k0_pay13]
  generalize k0_pay10 (F := Ideal) x g d = Z
  pointwise

theorem zero1 (j : S1x128.Idx) : (k0_pay1 (F := Ideal) j : EReal) = 0 := by
  pointwise [k0_pay1]
theorem zero2 (j : S1x2048.Idx) : (k0_pay2 (F := Ideal) j : EReal) = 0 := by
  pointwise [k0_pay2]
theorem zero3 (j : S1x2048.Idx) : (k0_pay3 (F := Ideal) j : EReal) = 0 := by
  pointwise [k0_pay3]

theorem ref_l_at (x t : Cert.HeadRefIdeal.S4096x2048.Idx → EReal) (g : Cert.HeadRefIdeal.S2048.Idx → EReal) (j : Cert.HeadRefIdeal.S1x128.Idx) :
    (REFl x g t j : EReal) = ∑ i : Fin 4096, lr (fun k => x (ix2 i k)) (fun k => g (ix1 k)) (fun k => t (ix2 i k)) := by
  refine Eq.trans ?_ (halves _)
  pointwise [REFl, eR, yR, gR, msR]
  rfl

theorem ref_d_at (x t : Cert.HeadRefIdeal.S4096x2048.Idx → EReal) (g : Cert.HeadRefIdeal.S2048.Idx → EReal) (j : Cert.HeadRefIdeal.S4096x2048.Idx) :
    (dR x g t j : EReal) = de (fun k => x (ix2 (j 0) k)) (fun k => g (ix1 k)) (fun k => t (ix2 (j 0) k)) (j 1) := by
  obtain ⟨a, b, rfl⟩ : ∃ a b, j = ix2 a b := ⟨_, _, eq_ix2 j⟩
  refine Eq.trans ?_ (dct _)
  pointwise [dR, eR, yR, gR, msR]
  rfl

theorem ref_x_at (x d : Cert.HeadRefIdeal.S4096x2048.Idx → EReal) (g : Cert.HeadRefIdeal.S2048.Idx → EReal) (j : Cert.HeadRefIdeal.S4096x2048.Idx) :
    (xR x g d j : EReal) = gr (fun k => x (ix2 (j 0) k)) (fun k => d (ix2 (j 0) k) * g (ix1 k)) (j 1) := by
  obtain ⟨a, b, rfl⟩ : ∃ a b, j = ix2 a b := ⟨_, _, eq_ix2 j⟩
  pointwise [xR, cR, uR, gR, msR]
  simp only [Fin.sum_univ_one, gr]
  rfl

theorem ref_dx_at (x t : Cert.HeadRefIdeal.S4096x2048.Idx → EReal) (g : Cert.HeadRefIdeal.S2048.Idx → EReal) (j : Cert.HeadRefIdeal.S4096x2048.Idx) :
    (xR x g (dR x g t) j : EReal) = gx (fun k => x (ix2 (j 0) k)) (fun k => g (ix1 k)) (fun k => t (ix2 (j 0) k)) (j 1) :=
  (ref_x_at x (dR x g t) g j).trans (congrArg (fun u => gr (fun k : Fin 2048 => x (ix2 (j 0) k)) u (j 1)) (funext fun k : Fin 2048 => congrArg (· * g (ix1 k)) (ref_d_at x t g (ix2 (j 0) k))))

theorem ref_dg_at (x t : Cert.HeadRefIdeal.S4096x2048.Idx → EReal) (g : Cert.HeadRefIdeal.S2048.Idx → EReal) (j : Cert.HeadRefIdeal.S1x2048.Idx) :
    (REFdg x g t j : EReal) = ∑ i : Fin 4096, de (fun k => x (ix2 i k)) (fun k => g (ix1 k)) (fun k => t (ix2 i k)) (j 1) * (x (ix2 i (j 1)) * ri (fun k => x (ix2 i k))) := by
  refine Eq.trans ?_ (Finset.sum_congr rfl fun i _ => congrArg (· * (x (ix2 i (j 1)) * ri (fun k => x (ix2 i k)))) (ref_d_at x t g (ix2 i (j 1))))
  rw [REFdg]
  generalize dR x g t = Z
  pointwise [yR, msR]
  simp only [Fin.sum_univ_one]
  exact Finset.sum_congr rfl fun i _ => mul_comm _ _

theorem ref_cs_at (y : Cert.HeadRefIdeal.S4096x2048.Idx → EReal) (j : Cert.HeadRefIdeal.S1x2048.Idx) : (REFcs y j : EReal) = ∑ i : Fin 4096, y (ix2 i (j 1)) := by
  pointwise [REFcs]

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] ∧ win0_7.index t = ![0, 0] :=
  (by decide +kernel : ∀ t : Fin grid0.N, _)

/-- The gain as the kernel takes it, one row. -/
theorem gain_at (c : Dev nD) (i : S1x2048.Idx) : (V m c main_v0 i : EReal) = m ((c : Thread nD τ).loc main_arg1) (ix1 (i 1)) := by
  entry_read
  pointwise
  blk_ext

theorem gains (c : Dev nD) (t : Fin cfg0.N) : (fun k : Fin 2048 => (show EReal from iblk m c 1 t (ix2 0 k))) = fun k => m ((c : Thread nD τ).loc main_arg1) (ix1 k) := by
  funext k
  refine (gain_at m c _).trans ?_
  blk_point [idx t]

/-- The reference's gradient on the memory's arguments. -/
abbrev DX (c : Dev nD) := xR (m ((c : Thread nD τ).loc main_arg0)) (m ((c : Thread nD τ).loc main_arg1)) (dR (m ((c : Thread nD τ).loc main_arg0)) (m ((c : Thread nD τ).loc main_arg1)) (m ((c : Thread nD τ).loc main_arg2)))

theorem point4 (c : Dev nD) (t : Fin cfg0.N) (y : S256x2048.Idx) : (k0_pay10 (F := Ideal) (iblk m c 0 t) (k0_pay4 (iblk m c 1 t)) (k0_pay7 (iblk m c 0 t) (iblk m c 1 t) (iblk m c 2 t)) y : EReal)
    = DX m c (((cfg0.win 4).blk t).view.emb y) := by
  refine (dx_at _ _ _ _).trans (Eq.trans ?_ (ref_dx_at _ _ _ _).symm)
  have hx : (fun k : Fin 2048 => (show EReal from iblk m c 0 t (ix2 (y 0) k))) = fun k => m ((c : Thread nD τ).loc main_arg0) (ix2 ((((cfg0.win 4).blk t).view.emb y) 0) k) := by
    funext k
    blk_point [iblk, V, idx t]
  have ht : (fun k : Fin 2048 => (show EReal from iblk m c 2 t (ix2 (y 0) k))) = fun k => m ((c : Thread nD τ).loc main_arg2) (ix2 ((((cfg0.win 4).blk t).view.emb y) 0) k) := by
    funext k
    blk_point [iblk, V, idx t]
  have hj : (y 1) = (((cfg0.win 4).blk t).view.emb y) 1 := by
    refine Fin.ext ?_
    blk_simp
    simp [idx t]
  exact congr (congr (congr (congrArg gx hx) (gains m c t)) ht) hj

theorem out4 (c : Dev nD) (t : Fin cfg0.N) (j : S256x2048.Idx) :
    ((outsAt0 m c t.val t.isLt).2.1 j : EReal) = k0_pay10 (F := Ideal) (iblk m c 0 t) (k0_pay4 (iblk m c 1 t)) (k0_pay7 (iblk m c 0 t) (iblk m c 1 t) (iblk m c 2 t)) j := by
  by_cases h : t.val % 16 = 0
  · rw [outsAt0_A m c t h]; frame_out
  · rw [outsAt0_B m c t h]; frame_out

theorem out5 (c : Dev nD) (t : Fin cfg0.N) (j : S256x2048.Idx) :
    ((outsAt0 m c t.val t.isLt).2.2.1 j : EReal) = k0_pay10 (F := Ideal) (iblk m c 0 t) (k0_pay4 (iblk m c 1 t)) (k0_pay7 (iblk m c 0 t) (iblk m c 1 t) (iblk m c 2 t)) j := by
  by_cases h : t.val % 16 = 0
  · rw [outsAt0_A m c t h]; frame_out; pointwise [k0_pay11]
  · rw [outsAt0_B m c t h]; frame_out; pointwise [k0_pay11]

theorem final4 (c : Dev nD) : (dats m 0 c).arrAt 4 (cfgs 0).N = DX m c := by
  refine (dats m 0 c).arrAt_eq_of_covers 4 _ (by decide +kernel) fun t _ y => ?_
  blk_simp
  rw [after0_4]
  exact (out4 m c t y).trans (point4 m c t y)

theorem final5 (c : Dev nD) : (dats m 0 c).arrAt 5 (cfgs 0).N = truncf (F := Ideal) .bf16 (DX m c) Cert.HeadRefIdeal.Gen.bitsLt_bf16_f32 := by
  refine (dats m 0 c).arrAt_eq_of_covers 5 _ (by decide +kernel) fun t _ y => ?_
  blk_simp
  rw [after0_5]
  refine (out5 m c t y).trans ((point4 m c t y).trans ?_)
  generalize DX m c = X
  pointwise
  blk_point [idx t]

theorem final3 (c : Dev nD) : (dats m 0 c).arrAt 3 (cfgs 0).N = REFl (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  rw [Pipeline.eq_sum_fin_of_reset_step_apply_of_flush (fun n h => (outsAt0 m c n h).1) 16 (fun _ => 0) (fun t _ => ∑ i : Fin 256, lr (fun k => iblk m c 0 t (ix2 i k)) (fun k => iblk m c 1 t (ix2 0 k)) (fun k => iblk m c 2 t (ix2 i k)))
    (fun t h j => by rw [outsAt0_A m c t h]; frame_out; rw [l_at, zero1])
    (fun t h j => by rw [outsAt0_B m c t h]; frame_out; rw [l_at])
    t ((flush0_3 t).mp hf) _, zero_add, ref_l_at]
  refine Fin.sum_mul_add_congr fun s k hl => ?_
  refine congr (congr (congrArg lr (funext fun q => ?_)) (gains m c _)) (funext fun q => ?_)
  · blk_point [iblk, V, idx t, idx ⟨_, Pipeline.run_point_lt_of_flush t ((flush0_3 t).mp hf) s⟩]
  · blk_point [iblk, V, idx t, idx ⟨_, Pipeline.run_point_lt_of_flush t ((flush0_3 t).mp hf) s⟩]

theorem final6 (c : Dev nD) : (dats m 0 c).arrAt 6 (cfgs 0).N = REFdg (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  rw [Pipeline.eq_sum_fin_of_reset_step_apply_of_flush (fun n h => (outsAt0 m c n h).2.2.2.1) 16 (fun _ => 0) (fun t j => ∑ i : Fin 256, de (fun k => iblk m c 0 t (ix2 i k)) (fun k => iblk m c 1 t (ix2 0 k)) (fun k => iblk m c 2 t (ix2 i k)) (j 1) * ((show EReal from iblk m c 0 t (ix2 i (j 1))) * ri (fun k => iblk m c 0 t (ix2 i k))))
    (fun t h j => by rw [outsAt0_A m c t h]; frame_out; rw [dg_at, zero2])
    (fun t h j => by rw [outsAt0_B m c t h]; frame_out; rw [dg_at])
    t ((flush0_6 t).mp hf) _, zero_add, ref_dg_at]
  refine Fin.sum_mul_add_congr fun s k hl => ?_
  have hx : (fun q : Fin 2048 => (show EReal from iblk m c 0 ⟨_, Pipeline.run_point_lt_of_flush t ((flush0_6 t).mp hf) s⟩ (ix2 k q))) = fun q => m ((c : Thread nD τ).loc main_arg0) (ix2 ⟨s.val * 256 + k.val, hl⟩ q) := by
    funext q
    blk_point [iblk, V, idx t, idx ⟨_, Pipeline.run_point_lt_of_flush t ((flush0_6 t).mp hf) s⟩]
  have ht : (fun q : Fin 2048 => (show EReal from iblk m c 2 ⟨_, Pipeline.run_point_lt_of_flush t ((flush0_6 t).mp hf) s⟩ (ix2 k q))) = fun q => m ((c : Thread nD τ).loc main_arg2) (ix2 ⟨s.val * 256 + k.val, hl⟩ q) := by
    funext q
    blk_point [iblk, V, idx t, idx ⟨_, Pipeline.run_point_lt_of_flush t ((flush0_6 t).mp hf) s⟩]
  have hj : (y 1) = (((cfg0.win 6).blk t).view.emb y) 1 := by
    refine Fin.ext ?_
    blk_simp
    simp [idx t]
  have h1 := congr hx hj
  exact congrArg₂ (· * ·) (congr (congr (congr (congrArg de hx) (gains m c _)) ht) hj) (congrArg₂ (· * ·) h1 (congrArg ri hx))

theorem final7 (c : Dev nD) : (dats m 0 c).arrAt 7 (cfgs 0).N = REFcs (DX m c) := by
  refine (dats m 0 c).arrAt_eq_of_covers 7 _ (by decide +kernel) fun t hf y => ?_
  blk_simp
  rw [after0_7]
  rw [Pipeline.eq_sum_fin_of_reset_step_apply_of_flush (fun n h => (outsAt0 m c n h).2.2.2.2) 16 (fun _ => 0) (fun t j => ∑ i : Fin 256, (show EReal from k0_pay10 (F := Ideal) (iblk m c 0 t) (k0_pay4 (iblk m c 1 t)) (k0_pay7 (iblk m c 0 t) (iblk m c 1 t) (iblk m c 2 t)) (ix2 i (j 1))))
    (fun t h j => by rw [outsAt0_A m c t h]; frame_out; rw [cs_at, zero3])
    (fun t h j => by rw [outsAt0_B m c t h]; frame_out; rw [cs_at])
    t ((flush0_7 t).mp hf) _, zero_add, ref_cs_at]
  refine Fin.sum_mul_add_congr fun s k hl => ?_
  refine (point4 m c _ _).trans ?_
  generalize DX m c = X
  blk_point [idx t, idx ⟨_, Pipeline.run_point_lt_of_flush t ((flush0_7 t).mp hf) s⟩]

end Cert.HeadIdeal.Value
end
-- ==== Proof.GluValue.lean ====
/- The first pointwise product of the convolution block and its gate: the kernel's arrays are the reference's. -/
module

public import proofs.«01_k».proof.Proof.Gen.GluIdeal.Value
public import proofs.«01_k».proof.Proof.Gen.GluRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GluIdeal.Value

open Idealize.ShloMosaic Idealize.ShloMosaic.TcCoe Idealize.SL.Sem
open Idealize.ShloMosaic.Pipeline (Dat)
open Cert.GluIdeal Cert.GluIdeal.Gen

variable (m : (ℓ : Loc nD τ sig) → Buf (Elt Ideal) ℓ)

section
open Cert.GluRefIdeal Cert.GluRefIdeal.Gen
/-- The product with the bias, as the reference forms it. -/
def Z (A : FVec Ideal Cert.GluRefIdeal.S4096x2048 .bf16) (W : FVec Ideal Cert.GluRefIdeal.S2048x4096 .bf16) (B : FVec Ideal Cert.GluRefIdeal.S4096 .f32) : FVec Ideal Cert.GluRefIdeal.S4096x4096 .f32 :=
  addf (Host.dotGeneral dot_S4096x2048_S2048x4096_S4096x4096_1_0_0_1_n_n none (extf .f32 A Cert.GluRefIdeal.Gen.bitsLt_bf16_f32) (extf .f32 W Cert.GluRefIdeal.Gen.bitsLt_bf16_f32)) (broadcastInDim S4096x4096 ![0, 1] bcast_S1x4096_S4096x4096_0_1 (broadcastInDim S1x4096 ![1] bcast_S4096_S1x4096_1 B))
/-- The reference's three results over its arguments. -/
def REFa (A : FVec Ideal Cert.GluRefIdeal.S4096x2048 .bf16) (W : FVec Ideal Cert.GluRefIdeal.S2048x4096 .bf16) (B : FVec Ideal Cert.GluRefIdeal.S4096 .f32) : FVec Ideal Cert.GluRefIdeal.S4096x2048 .bf16 :=
  truncf .bf16 (extractStridedSlice S4096x2048 ![0, 0] (Z A W B) slices_S4096x4096_S4096x2048_0_0) Cert.GluRefIdeal.Gen.bitsLt_bf16_f32
def REFb (A : FVec Ideal Cert.GluRefIdeal.S4096x2048 .bf16) (W : FVec Ideal Cert.GluRefIdeal.S2048x4096 .bf16) (B : FVec Ideal Cert.GluRefIdeal.S4096 .f32) : FVec Ideal Cert.GluRefIdeal.S4096x2048 .bf16 :=
  truncf .bf16 (extractStridedSlice S4096x2048 ![0, 2048] (Z A W B) slices_S4096x4096_S4096x2048_0_2048) Cert.GluRefIdeal.Gen.bitsLt_bf16_f32
def REFc (A : FVec Ideal Cert.GluRefIdeal.S4096x2048 .bf16) (W : FVec Ideal Cert.GluRefIdeal.S2048x4096 .bf16) (B : FVec Ideal Cert.GluRefIdeal.S4096 .f32) : FVec Ideal Cert.GluRefIdeal.S4096x2048 .f32 :=
  mulf (extractStridedSlice S4096x2048 ![0, 0] (Z A W B) slices_S4096x4096_S4096x2048_0_0) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 2048] (Z A W B) slices_S4096x4096_S4096x2048_0_2048)))))
end

/-- One entry of the product with the bias. -/
abbrev zz {K : ℕ} (a w : Fin K → EReal) (b : EReal) : EReal := (∑ k, a k * w k) + b
/-- One entry of the gated product. -/
abbrev gg (a b : EReal) : EReal := a * Ideal.div 1 (1 + Ideal.exp (-b))

theorem a_at (a : S1024x2048.Idx → EReal) (w : S2048x512.Idx → EReal) (b : S1x512.Idx → EReal) (j : S1024x512.Idx) : (k0_pay3 (F := Ideal) a w b j : EReal) = zz (fun k => a (ix2 (j 0) k)) (fun k => w (ix2 k (j 1))) (b (ix2 0 (j 1))) := by
  pointwise [k0_pay3, k0_pay1]
theorem b_at (a : S1024x2048.Idx → EReal) (w : S2048x512.Idx → EReal) (b : S1x512.Idx → EReal) (j : S1024x512.Idx) : (k0_pay4 (F := Ideal) a w b j : EReal) = zz (fun k => a (ix2 (j 0) k)) (fun k => w (ix2 k (j 1))) (b (ix2 0 (j 1))) := by
  pointwise [k0_pay4, k0_pay2]
theorem c_at (a : S1024x2048.Idx → EReal) (w : S2048x512.Idx → EReal) (b : S1x512.Idx → EReal) (a' : S1024x2048.Idx → EReal) (w' : S2048x512.Idx → EReal) (b' : S1x512.Idx → EReal) (j : S1024x512.Idx) : (k0_pay5 (F := Ideal) a w a' w' b b' j : EReal)
    = gg (zz (fun k => a (ix2 (j 0) k)) (fun k => w (ix2 k (j 1))) (b (ix2 0 (j 1)))) (zz (fun k => a' (ix2 (j 0) k)) (fun k => w' (ix2 k (j 1))) (b' (ix2 0 (j 1)))) := by
  refine Eq.trans ?_ (congrArg (fun r => zz (fun k => a (ix2 (j 0) k)) (fun k => w (ix2 k (j 1))) (b (ix2 0 (j 1))) * Ideal.div 1 (1 + Ideal.exp r)) (zero_sub _))
  pointwise [k0_pay5, k0_pay2, k0_pay1]

theorem z_at (A : Cert.GluRefIdeal.S4096x2048.Idx → EReal) (W : Cert.GluRefIdeal.S2048x4096.Idx → EReal) (B : Cert.GluRefIdeal.S4096.Idx → EReal) (j : Cert.GluRefIdeal.S4096x4096.Idx) : (Z A W B j : EReal) = zz (fun k => A (ix2 (j 0) k)) (fun k => W (ix2 k (j 1))) (B (ix1 (j 1))) := by
  pointwise [Z]
/-- The column of the product that a column of the second half is. -/
abbrev hi (j : Fin 2048) : Fin 4096 := ⟨2048 + j.val, by omega⟩
abbrev lo (j : Fin 2048) : Fin 4096 := ⟨j.val, by omega⟩
theorem ref_a_at (A : Cert.GluRefIdeal.S4096x2048.Idx → EReal) (W : Cert.GluRefIdeal.S2048x4096.Idx → EReal) (B : Cert.GluRefIdeal.S4096.Idx → EReal) (j : Cert.GluRefIdeal.S4096x2048.Idx) : (REFa A W B j : EReal) = zz (fun k => A (ix2 (j 0) k)) (fun k => W (ix2 k (lo (j 1)))) (B (ix1 (lo (j 1)))) := by
  pointwise [REFa, Z]
theorem ref_b_at (A : Cert.GluRefIdeal.S4096x2048.Idx → EReal) (W : Cert.GluRefIdeal.S2048x4096.Idx → EReal) (B : Cert.GluRefIdeal.S4096.Idx → EReal) (j : Cert.GluRefIdeal.S4096x2048.Idx) : (REFb A W B j : EReal) = zz (fun k => A (ix2 (j 0) k)) (fun k => W (ix2 k (hi (j 1)))) (B (ix1 (hi (j 1)))) := by
  pointwise [REFb, Z]
theorem ref_c_at (A : Cert.GluRefIdeal.S4096x2048.Idx → EReal) (W : Cert.GluRefIdeal.S2048x4096.Idx → EReal) (B : Cert.GluRefIdeal.S4096.Idx → EReal) (j : Cert.GluRefIdeal.S4096x2048.Idx) : (REFc A W B j : EReal)
    = gg (zz (fun k => A (ix2 (j 0) k)) (fun k => W (ix2 k (lo (j 1)))) (B (ix1 (lo (j 1))))) (zz (fun k => A (ix2 (j 0) k)) (fun k => W (ix2 k (hi (j 1)))) (B (ix1 (hi (j 1))))) := by
  pointwise [REFc, Z]

theorem idx : ∀ t : Fin cfg0.N, win0_0.index t = ![t.val / 4, 0] ∧ win0_1.index t = ![0, t.val % 4] ∧ win0_2.index t = ![0, t.val % 4 + 4] ∧ win0_3.index t = ![0, t.val % 4] ∧ win0_4.index t = ![0, t.val % 4 + 4] ∧ win0_5.index t = ![t.val / 4, t.val % 4] ∧ win0_6.index t = ![t.val / 4, t.val % 4] ∧ win0_7.index t = ![t.val / 4, t.val % 4] :=
  (by decide +kernel : ∀ t : Fin grid0.N, _)

/-- The bias as the kernel takes it, one row. -/
theorem bias_at (c : Dev nD) (i : S1x4096.Idx) : (V m c main_v0 i : EReal) = m ((c : Thread nD τ).loc main_arg2) (ix1 (i 1)) := by
  entry_read
  pointwise
  blk_ext

theorem col (t : Fin cfg0.N) (y : S1024x512.Idx) : ((((cfg0.win 5).blk t).view.emb y) 1).val = t.val % 4 * 512 + (y 1).val := by
  blk_simp
  simp [idx t]

theorem first (c : Dev nD) (t : Fin cfg0.N) (y : S1024x512.Idx) :
    zz (fun k : Fin 2048 => (show EReal from iblk m c 0 t (ix2 (y 0) k))) (fun k : Fin 2048 => (show EReal from iblk m c 1 t (ix2 k (y 1)))) (show EReal from iblk m c 3 t (ix2 0 (y 1)))
    = zz (fun k : Fin 2048 => (show EReal from m ((c : Thread nD τ).loc main_arg0) (ix2 ((((cfg0.win 5).blk t).view.emb y) 0) k))) (fun k : Fin 2048 => (show EReal from m ((c : Thread nD τ).loc main_arg1) (ix2 k (lo ((((cfg0.win 5).blk t).view.emb y) 1))))) (show EReal from m ((c : Thread nD τ).loc main_arg2) (ix1 (lo ((((cfg0.win 5).blk t).view.emb y) 1)))) := by
  refine congr (congr (congrArg zz (funext fun k => ?_)) (funext fun k => ?_)) ((bias_at m c _).trans ?_)
  · blk_point [iblk, V, idx t]
  · blk_point [iblk, V, idx t]
    exact (col t y).symm
  · blk_point [idx t]
    exact (col t y).symm

theorem second (c : Dev nD) (t : Fin cfg0.N) (y : S1024x512.Idx) :
    zz (fun k : Fin 2048 => (show EReal from iblk m c 0 t (ix2 (y 0) k))) (fun k : Fin 2048 => (show EReal from iblk m c 2 t (ix2 k (y 1)))) (show EReal from iblk m c 4 t (ix2 0 (y 1)))
    = zz (fun k : Fin 2048 => (show EReal from m ((c : Thread nD τ).loc main_arg0) (ix2 ((((cfg0.win 5).blk t).view.emb y) 0) k))) (fun k : Fin 2048 => (show EReal from m ((c : Thread nD τ).loc main_arg1) (ix2 k (hi ((((cfg0.win 5).blk t).view.emb y) 1))))) (show EReal from m ((c : Thread nD τ).loc main_arg2) (ix1 (hi ((((cfg0.win 5).blk t).view.emb y) 1)))) := by
  refine congr (congr (congrArg zz (funext fun k => ?_)) (funext fun k => ?_)) ((bias_at m c _).trans ?_)
  · blk_point [iblk, V, idx t]
  · blk_point [iblk, V, idx t]
    refine Eq.trans ?_ (congrArg (2048 + ·) (col t y).symm)
    dsimp only
    omega
  · blk_point [idx t]
    refine Eq.trans ?_ (congrArg (2048 + ·) (col t y).symm)
    dsimp only
    omega

theorem final5 (c : Dev nD) : (dats m 0 c).arrAt 5 (cfgs 0).N = REFa (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  refine (a_at _ _ _ _).trans (Eq.trans ?_ (ref_a_at _ _ _ _).symm)
  exact first m c t y

theorem final6 (c : Dev nD) : (dats m 0 c).arrAt 6 (cfgs 0).N = REFb (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  refine (b_at _ _ _ _).trans (Eq.trans ?_ (ref_b_at _ _ _ _).symm)
  exact second m c t y

theorem final7 (c : Dev nD) : (dats m 0 c).arrAt 7 (cfgs 0).N = REFc (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  refine (c_at _ _ _ _ _ _ _).trans (Eq.trans ?_ (ref_c_at _ _ _ _).symm)
  exact congr (congrArg gg (first m c t y)) (second m c t y)

end Cert.GluIdeal.Value
end
-- ==== Proof.AdamStep.lean ====
/- The optimiser's step on one entry, over the extended reals. -/
module

public import Idealize.ShloMosaic.PureOps.Ideal

@[expose] public section

noncomputable section

namespace Cert.AdamStep

open Idealize.ShloMosaic

/-- The first moment of one entry. -/
abbrev sm (g mo : EReal) : EReal := Ideal.ofBits .f32 0x3F666666#32 * mo + Ideal.ofBits .f32 0x3DCCCCCD#32 * g
/-- The second moment of one entry. -/
abbrev sv (g v : EReal) : EReal := Ideal.ofBits .f32 0x3F7FBE77#32 * v + Ideal.ofBits .f32 0x3A83126F#32 * (g * g)
/-- The change of one entry of the weight. -/
abbrev sd (g w mo v : EReal) : EReal :=
  Ideal.ofBits .f32 0xBA83126F#32 * (Ideal.div (Ideal.div (sm g mo) (Ideal.ofBits .f32 0x3F26BD02#32)) (Ideal.sqrt (Ideal.div (sv g v) (Ideal.ofBits .f32 0x3C231ACC#32)) + Ideal.ofBits .f32 0x322BCC77#32) + Ideal.ofBits .f32 0x3C23D70A#32 * w)

end Cert.AdamStep
end
-- ==== Proof.AdamAValue.lean ====
/- The optimiser's step: the kernel's arrays are the reference's. -/
module

public import proofs.«01_k».proof.Proof.Gen.AdamAIdeal.Value
public import proofs.«01_k».proof.Proof.Gen.AdamARefIdeal.Run
public import proofs.«01_k».proof.Proof.AdamStep
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamAIdeal.Value

open Idealize.ShloMosaic Idealize.ShloMosaic.TcCoe Idealize.SL.Sem
open Idealize.ShloMosaic.Pipeline (Dat)
open Cert.AdamAIdeal Cert.AdamAIdeal.Gen
open Cert.AdamStep

variable (m : (ℓ : Loc nD τ sig) → Buf (Elt Ideal) ℓ)

section
open Cert.AdamARefIdeal Cert.AdamARefIdeal.Gen
/-- The reference's four results over its arguments: the gradient, the first and second moments and the change of the weight. -/
def REFg (P : FVec Ideal Cert.AdamARefIdeal.S8x4096x512 .bf16) : FVec Ideal Cert.AdamARefIdeal.S4096x512 .f32 :=
  Host.reduceAdd (extf .f32 P Cert.AdamARefIdeal.Gen.bitsLt_bf16_f32) (constant S_ .f32 0x00000000#32) reducesTo_S8x4096x512_S4096x512_d0 h_S_
def REFm (P : FVec Ideal Cert.AdamARefIdeal.S8x4096x512 .bf16) (M : FVec Ideal Cert.AdamARefIdeal.S4096x512 .f32) : FVec Ideal Cert.AdamARefIdeal.S4096x512 .f32 :=
  addf (mulf (broadcastInDim S4096x512 ![] bcast_S_S4096x512 (constant S_ .f32 0x3F666666#32)) M) (mulf (broadcastInDim S4096x512 ![] bcast_S_S4096x512 (constant S_ .f32 0x3DCCCCCD#32)) (REFg P))
def REFv (P : FVec Ideal Cert.AdamARefIdeal.S8x4096x512 .bf16) (N : FVec Ideal Cert.AdamARefIdeal.S4096x512 .f32) : FVec Ideal Cert.AdamARefIdeal.S4096x512 .f32 :=
  addf (mulf (broadcastInDim S4096x512 ![] bcast_S_S4096x512 (constant S_ .f32 0x3F7FBE77#32)) N) (mulf (broadcastInDim S4096x512 ![] bcast_S_S4096x512 (constant S_ .f32 0x3A83126F#32)) (mulf (REFg P) (REFg P)))
def REFd (P : FVec Ideal Cert.AdamARefIdeal.S8x4096x512 .bf16) (W M N : FVec Ideal Cert.AdamARefIdeal.S4096x512 .f32) : FVec Ideal Cert.AdamARefIdeal.S4096x512 .f32 :=
  mulf (broadcastInDim S4096x512 ![] bcast_S_S4096x512 (constant S_ .f32 0xBA83126F#32)) (addf (Host.divf (Host.divf (REFm P M) (broadcastInDim S4096x512 ![] bcast_S_S4096x512 (constant S_ .f32 0x3F26BD02#32))) (addf (Host.sqrt (Host.divf (REFv P N) (broadcastInDim S4096x512 ![] bcast_S_S4096x512 (constant S_ .f32 0x3C231ACC#32)))) (broadcastInDim S4096x512 ![] bcast_S_S4096x512 (constant S_ .f32 0x322BCC77#32)))) (mulf (broadcastInDim S4096x512 ![] bcast_S_S4096x512 (constant S_ .f32 0x3C23D70A#32)) W))
end

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem g_at (a b c d e f g h : S1x512x512.Idx → EReal) (j : S512x512.Idx) : (k0_pay4 (F := Ideal) a b c d e f g h j : EReal)
    = a (ix3 0 (j 0) (j 1)) + b (ix3 0 (j 0) (j 1)) + c (ix3 0 (j 0) (j 1)) + d (ix3 0 (j 0) (j 1)) + e (ix3 0 (j 0) (j 1)) + f (ix3 0 (j 0) (j 1)) + g (ix3 0 (j 0) (j 1)) + h (ix3 0 (j 0) (j 1)) := by
  pointwise [k0_pay4]
theorem m_at (g mo : S512x512.Idx → EReal) (j : S512x512.Idx) : (k0_pay1 (F := Ideal) g mo (Ideal.ofBits .f32 0x3F666666#32) j : EReal) = sm (g j) (mo j) := by
  pointwise [k0_pay1]
theorem v_at (g v : S512x512.Idx → EReal) (j : S512x512.Idx) : (k0_pay2 (F := Ideal) g v j : EReal) = sv (g j) (v j) := by
  pointwise [k0_pay2]
theorem d_at (g mo v w : S512x512.Idx → EReal) (j : S512x512.Idx) : (k0_pay3 (F := Ideal) g mo (Ideal.ofBits .f32 0x3F666666#32) v w j : EReal) = sd (g j) (w j) (mo j) (v j) := by
  pointwise [k0_pay3, k0_pay1, k0_pay2]

theorem ref_g_at (P : Cert.AdamARefIdeal.S8x4096x512.Idx → EReal) (j : Cert.AdamARefIdeal.S4096x512.Idx) : (REFg P j : EReal) = ∑ q : Fin 8, P (ix3 q (j 0) (j 1)) := by
  pointwise [REFg]
theorem ref_m_at (P : Cert.AdamARefIdeal.S8x4096x512.Idx → EReal) (M : Cert.AdamARefIdeal.S4096x512.Idx → EReal) (j : Cert.AdamARefIdeal.S4096x512.Idx) : (REFm P M j : EReal) = sm (REFg P j) (M j) := by
  rw [ref_g_at]
  pointwise [REFm, REFg]
theorem ref_v_at (P : Cert.AdamARefIdeal.S8x4096x512.Idx → EReal) (N : Cert.AdamARefIdeal.S4096x512.Idx → EReal) (j : Cert.AdamARefIdeal.S4096x512.Idx) : (REFv P N j : EReal) = sv (REFg P j) (N j) := by
  rw [ref_g_at]
  pointwise [REFv, REFg]
theorem ref_d_at (P : Cert.AdamARefIdeal.S8x4096x512.Idx → EReal) (W M N : Cert.AdamARefIdeal.S4096x512.Idx → EReal) (j : Cert.AdamARefIdeal.S4096x512.Idx) : (REFd P W M N j : EReal) = sd (REFg P j) (W j) (M j) (N j) := by
  rw [ref_g_at]
  pointwise [REFd, REFm, REFv, REFg]

theorem point_g (c : Dev nD) (t : Fin cfg0.N) (y : S512x512.Idx) : (k0_pay5 (F := Ideal) (iblk m c 0 t) (iblk m c 1 t) (iblk m c 2 t) (iblk m c 3 t) y : EReal)
    = REFg (m ((c : Thread nD τ).loc main_arg0)) (((cfg0.win 4).blk t).view.emb y) := by
  unfold k0_pay5
  refine (g_at _ _ _ _ _ _ _ _ _).trans (Eq.trans ?_ (ref_g_at _ _).symm)
  rw [Fin.sum_univ_eight]
  blk_point [iblk, V, idx t]

theorem at1 (c : Dev nD) (t : Fin cfg0.N) (y : S512x512.Idx) : (show EReal from iblk m c 1 t y) = m ((c : Thread nD τ).loc main_arg1) (((cfg0.win 4).blk t).view.emb y) := by
  blk_point [iblk, V, idx t]
theorem at2 (c : Dev nD) (t : Fin cfg0.N) (y : S512x512.Idx) : (show EReal from iblk m c 2 t y) = m ((c : Thread nD τ).loc main_arg2) (((cfg0.win 4).blk t).view.emb y) := by
  blk_point [iblk, V, idx t]
theorem at3 (c : Dev nD) (t : Fin cfg0.N) (y : S512x512.Idx) : (show EReal from iblk m c 3 t y) = m ((c : Thread nD τ).loc main_arg3) (((cfg0.win 4).blk t).view.emb y) := by
  blk_point [iblk, V, idx t]

/-- The four outputs have the same blocks. -/
theorem emb5 (t : Fin cfg0.N) (y : S512x512.Idx) : ((cfg0.win 4).blk t).view.emb y = ((cfg0.win 5).blk t).view.emb y := by
  blk_ext [idx t]

theorem final4 (c : Dev nD) : (dats m 0 c).arrAt 4 (cfgs 0).N = REFg (m ((c : Thread nD τ).loc main_arg0)) := by
  refine (dats m 0 c).arrAt_eq_of_covers 4 _ (by decide +kernel) fun t _ y => ?_
  blk_simp
  rw [after0_4]; frame_out
  exact point_g m c t y

theorem final5 (c : Dev nD) : (dats m 0 c).arrAt 5 (cfgs 0).N = REFd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (d_at _ _ _ _ _).trans (Eq.trans ?_ (ref_d_at _ _ _ _ _).symm)
  exact congr (congr (congr (congrArg sd (point_g m c t y)) (at1 m c t y)) (at2 m c t y)) (at3 m c t y)

theorem final6 (c : Dev nD) : (dats m 0 c).arrAt 6 (cfgs 0).N = REFm (m ((c : Thread nD τ).loc main_arg0)) (m ((c : Thread nD τ).loc main_arg2)) := by
  refine (dats m 0 c).arrAt_eq_of_covers 6 _ (by decide +kernel) fun t _ y => ?_
  blk_simp
  rw [after0_6]; frame_out
  refine (m_at _ _ _).trans (Eq.trans ?_ (ref_m_at _ _ _).symm)
  exact congr (congrArg sm (point_g m c t y)) (at2 m c t y)

theorem final7 (c : Dev nD) : (dats m 0 c).arrAt 7 (cfgs 0).N = REFv (m ((c : Thread nD τ).loc main_arg0)) (m ((c : Thread nD τ).loc main_arg3)) := by
  refine (dats m 0 c).arrAt_eq_of_covers 7 _ (by decide +kernel) fun t _ y => ?_
  blk_simp
  rw [after0_7]; frame_out
  refine (v_at _ _ _).trans (Eq.trans ?_ (ref_v_at _ _ _).symm)
  exact congr (congrArg sv (point_g m c t y)) (at3 m c t y)

end Cert.AdamAIdeal.Value
end
-- ==== Proof.AdamBValue.lean ====
/- The optimiser's step: the kernel's arrays are the reference's. -/
module

public import proofs.«01_k».proof.Proof.Gen.AdamBIdeal.Value
public import proofs.«01_k».proof.Proof.Gen.AdamBRefIdeal.Run
public import proofs.«01_k».proof.Proof.AdamStep
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamBIdeal.Value

open Idealize.ShloMosaic Idealize.ShloMosaic.TcCoe Idealize.SL.Sem
open Idealize.ShloMosaic.Pipeline (Dat)
open Cert.AdamBIdeal Cert.AdamBIdeal.Gen
open Cert.AdamStep

variable (m : (ℓ : Loc nD τ sig) → Buf (Elt Ideal) ℓ)

section
open Cert.AdamBRefIdeal Cert.AdamBRefIdeal.Gen
/-- The reference's four results over its arguments: the gradient, the first and second moments and the change of the weight. -/
def REFg (P : FVec Ideal Cert.AdamBRefIdeal.S8x4096x2048 .bf16) : FVec Ideal Cert.AdamBRefIdeal.S4096x2048 .f32 :=
  Host.reduceAdd (extf .f32 P Cert.AdamBRefIdeal.Gen.bitsLt_bf16_f32) (constant S_ .f32 0x00000000#32) reducesTo_S8x4096x2048_S4096x2048_d0 h_S_
def REFm (P : FVec Ideal Cert.AdamBRefIdeal.S8x4096x2048 .bf16) (M : FVec Ideal Cert.AdamBRefIdeal.S4096x2048 .f32) : FVec Ideal Cert.AdamBRefIdeal.S4096x2048 .f32 :=
  addf (mulf (broadcastInDim S4096x2048 ![] bcast_S_S4096x2048 (constant S_ .f32 0x3F666666#32)) M) (mulf (broadcastInDim S4096x2048 ![] bcast_S_S4096x2048 (constant S_ .f32 0x3DCCCCCD#32)) (REFg P))
def REFv (P : FVec Ideal Cert.AdamBRefIdeal.S8x4096x2048 .bf16) (N : FVec Ideal Cert.AdamBRefIdeal.S4096x2048 .f32) : FVec Ideal Cert.AdamBRefIdeal.S4096x2048 .f32 :=
  addf (mulf (broadcastInDim S4096x2048 ![] bcast_S_S4096x2048 (constant S_ .f32 0x3F7FBE77#32)) N) (mulf (broadcastInDim S4096x2048 ![] bcast_S_S4096x2048 (constant S_ .f32 0x3A83126F#32)) (mulf (REFg P) (REFg P)))
def REFd (P : FVec Ideal Cert.AdamBRefIdeal.S8x4096x2048 .bf16) (W M N : FVec Ideal Cert.AdamBRefIdeal.S4096x2048 .f32) : FVec Ideal Cert.AdamBRefIdeal.S4096x2048 .f32 :=
  mulf (broadcastInDim S4096x2048 ![] bcast_S_S4096x2048 (constant S_ .f32 0xBA83126F#32)) (addf (Host.divf (Host.divf (REFm P M) (broadcastInDim S4096x2048 ![] bcast_S_S4096x2048 (constant S_ .f32 0x3F26BD02#32))) (addf (Host.sqrt (Host.divf (REFv P N) (broadcastInDim S4096x2048 ![] bcast_S_S4096x2048 (constant S_ .f32 0x3C231ACC#32)))) (broadcastInDim S4096x2048 ![] bcast_S_S4096x2048 (constant S_ .f32 0x322BCC77#32)))) (mulf (broadcastInDim S4096x2048 ![] bcast_S_S4096x2048 (constant S_ .f32 0x3C23D70A#32)) W))
end

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem g_at (a b c d e f g h : S1x128x2048.Idx → EReal) (j : S128x2048.Idx) : (k0_pay4 (F := Ideal) a b c d e f g h j : EReal)
    = a (ix3 0 (j 0) (j 1)) + b (ix3 0 (j 0) (j 1)) + c (ix3 0 (j 0) (j 1)) + d (ix3 0 (j 0) (j 1)) + e (ix3 0 (j 0) (j 1)) + f (ix3 0 (j 0) (j 1)) + g (ix3 0 (j 0) (j 1)) + h (ix3 0 (j 0) (j 1)) := by
  pointwise [k0_pay4]
theorem m_at (g mo : S128x2048.Idx → EReal) (j : S128x2048.Idx) : (k0_pay1 (F := Ideal) g mo (Ideal.ofBits .f32 0x3F666666#32) j : EReal) = sm (g j) (mo j) := by
  pointwise [k0_pay1]
theorem v_at (g v : S128x2048.Idx → EReal) (j : S128x2048.Idx) : (k0_pay2 (F := Ideal) g v j : EReal) = sv (g j) (v j) := by
  pointwise [k0_pay2]
theorem d_at (g mo v w : S128x2048.Idx → EReal) (j : S128x2048.Idx) : (k0_pay3 (F := Ideal) g mo (Ideal.ofBits .f32 0x3F666666#32) v w j : EReal) = sd (g j) (w j) (mo j) (v j) := by
  pointwise [k0_pay3, k0_pay1, k0_pay2]

theorem ref_g_at (P : Cert.AdamBRefIdeal.S8x4096x2048.Idx → EReal) (j : Cert.AdamBRefIdeal.S4096x2048.Idx) : (REFg P j : EReal) = ∑ q : Fin 8, P (ix3 q (j 0) (j 1)) := by
  pointwise [REFg]
theorem ref_m_at (P : Cert.AdamBRefIdeal.S8x4096x2048.Idx → EReal) (M : Cert.AdamBRefIdeal.S4096x2048.Idx → EReal) (j : Cert.AdamBRefIdeal.S4096x2048.Idx) : (REFm P M j : EReal) = sm (REFg P j) (M j) := by
  rw [ref_g_at]
  pointwise [REFm, REFg]
theorem ref_v_at (P : Cert.AdamBRefIdeal.S8x4096x2048.Idx → EReal) (N : Cert.AdamBRefIdeal.S4096x2048.Idx → EReal) (j : Cert.AdamBRefIdeal.S4096x2048.Idx) : (REFv P N j : EReal) = sv (REFg P j) (N j) := by
  rw [ref_g_at]
  pointwise [REFv, REFg]
theorem ref_d_at (P : Cert.AdamBRefIdeal.S8x4096x2048.Idx → EReal) (W M N : Cert.AdamBRefIdeal.S4096x2048.Idx → EReal) (j : Cert.AdamBRefIdeal.S4096x2048.Idx) : (REFd P W M N j : EReal) = sd (REFg P j) (W j) (M j) (N j) := by
  rw [ref_g_at]
  pointwise [REFd, REFm, REFv, REFg]

theorem point_g (c : Dev nD) (t : Fin cfg0.N) (y : S128x2048.Idx) : (k0_pay5 (F := Ideal) (iblk m c 0 t) (iblk m c 1 t) (iblk m c 2 t) (iblk m c 3 t) y : EReal)
    = REFg (m ((c : Thread nD τ).loc main_arg0)) (((cfg0.win 4).blk t).view.emb y) := by
  unfold k0_pay5
  refine (g_at _ _ _ _ _ _ _ _ _).trans (Eq.trans ?_ (ref_g_at _ _).symm)
  rw [Fin.sum_univ_eight]
  blk_point [iblk, V, idx t]

theorem at1 (c : Dev nD) (t : Fin cfg0.N) (y : S128x2048.Idx) : (show EReal from iblk m c 1 t y) = m ((c : Thread nD τ).loc main_arg1) (((cfg0.win 4).blk t).view.emb y) := by
  blk_point [iblk, V, idx t]
theorem at2 (c : Dev nD) (t : Fin cfg0.N) (y : S128x2048.Idx) : (show EReal from iblk m c 2 t y) = m ((c : Thread nD τ).loc main_arg2) (((cfg0.win 4).blk t).view.emb y) := by
  blk_point [iblk, V, idx t]
theorem at3 (c : Dev nD) (t : Fin cfg0.N) (y : S128x2048.Idx) : (show EReal from iblk m c 3 t y) = m ((c : Thread nD τ).loc main_arg3) (((cfg0.win 4).blk t).view.emb y) := by
  blk_point [iblk, V, idx t]

/-- The four outputs have the same blocks. -/
theorem emb5 (t : Fin cfg0.N) (y : S128x2048.Idx) : ((cfg0.win 4).blk t).view.emb y = ((cfg0.win 5).blk t).view.emb y := by
  blk_ext [idx t]

theorem final4 (c : Dev nD) : (dats m 0 c).arrAt 4 (cfgs 0).N = REFg (m ((c : Thread nD τ).loc main_arg0)) := by
  refine (dats m 0 c).arrAt_eq_of_covers 4 _ (by decide +kernel) fun t _ y => ?_
  blk_simp
  rw [after0_4]; frame_out
  exact point_g m c t y

theorem final5 (c : Dev nD) : (dats m 0 c).arrAt 5 (cfgs 0).N = REFd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (d_at _ _ _ _ _).trans (Eq.trans ?_ (ref_d_at _ _ _ _ _).symm)
  exact congr (congr (congr (congrArg sd (point_g m c t y)) (at1 m c t y)) (at2 m c t y)) (at3 m c t y)

theorem final6 (c : Dev nD) : (dats m 0 c).arrAt 6 (cfgs 0).N = REFm (m ((c : Thread nD τ).loc main_arg0)) (m ((c : Thread nD τ).loc main_arg2)) := by
  refine (dats m 0 c).arrAt_eq_of_covers 6 _ (by decide +kernel) fun t _ y => ?_
  blk_simp
  rw [after0_6]; frame_out
  refine (m_at _ _ _).trans (Eq.trans ?_ (ref_m_at _ _ _).symm)
  exact congr (congrArg sm (point_g m c t y)) (at2 m c t y)

theorem final7 (c : Dev nD) : (dats m 0 c).arrAt 7 (cfgs 0).N = REFv (m ((c : Thread nD τ).loc main_arg0)) (m ((c : Thread nD τ).loc main_arg3)) := by
  refine (dats m 0 c).arrAt_eq_of_covers 7 _ (by decide +kernel) fun t _ y => ?_
  blk_simp
  rw [after0_7]; frame_out
  refine (v_at _ _ _).trans (Eq.trans ?_ (ref_v_at _ _ _).symm)
  exact congr (congrArg sv (point_g m c t y)) (at3 m c t y)

end Cert.AdamBIdeal.Value
end
-- ==== Proof.AdamCValue.lean ====
/- The optimiser's step: the kernel's arrays are the reference's. -/
module

public import proofs.«01_k».proof.Proof.Gen.AdamCIdeal.Value
public import proofs.«01_k».proof.Proof.Gen.AdamCRefIdeal.Run
public import proofs.«01_k».proof.Proof.AdamStep
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamCIdeal.Value

open Idealize.ShloMosaic Idealize.ShloMosaic.TcCoe Idealize.SL.Sem
open Idealize.ShloMosaic.Pipeline (Dat)
open Cert.AdamCIdeal Cert.AdamCIdeal.Gen
open Cert.AdamStep

variable (m : (ℓ : Loc nD τ sig) → Buf (Elt Ideal) ℓ)

section
open Cert.AdamCRefIdeal Cert.AdamCRefIdeal.Gen
/-- The reference's four results over its arguments: the gradient, the first and second moments and the change of the weight. -/
def REFg (P : FVec Ideal Cert.AdamCRefIdeal.S8x512x2048 .bf16) : FVec Ideal Cert.AdamCRefIdeal.S512x2048 .f32 :=
  Host.reduceAdd (extf .f32 P Cert.AdamCRefIdeal.Gen.bitsLt_bf16_f32) (constant S_ .f32 0x00000000#32) reducesTo_S8x512x2048_S512x2048_d0 h_S_
def REFm (P : FVec Ideal Cert.AdamCRefIdeal.S8x512x2048 .bf16) (M : FVec Ideal Cert.AdamCRefIdeal.S512x2048 .f32) : FVec Ideal Cert.AdamCRefIdeal.S512x2048 .f32 :=
  addf (mulf (broadcastInDim S512x2048 ![] bcast_S_S512x2048 (constant S_ .f32 0x3F666666#32)) M) (mulf (broadcastInDim S512x2048 ![] bcast_S_S512x2048 (constant S_ .f32 0x3DCCCCCD#32)) (REFg P))
def REFv (P : FVec Ideal Cert.AdamCRefIdeal.S8x512x2048 .bf16) (N : FVec Ideal Cert.AdamCRefIdeal.S512x2048 .f32) : FVec Ideal Cert.AdamCRefIdeal.S512x2048 .f32 :=
  addf (mulf (broadcastInDim S512x2048 ![] bcast_S_S512x2048 (constant S_ .f32 0x3F7FBE77#32)) N) (mulf (broadcastInDim S512x2048 ![] bcast_S_S512x2048 (constant S_ .f32 0x3A83126F#32)) (mulf (REFg P) (REFg P)))
def REFd (P : FVec Ideal Cert.AdamCRefIdeal.S8x512x2048 .bf16) (W M N : FVec Ideal Cert.AdamCRefIdeal.S512x2048 .f32) : FVec Ideal Cert.AdamCRefIdeal.S512x2048 .f32 :=
  mulf (broadcastInDim S512x2048 ![] bcast_S_S512x2048 (constant S_ .f32 0xBA83126F#32)) (addf (Host.divf (Host.divf (REFm P M) (broadcastInDim S512x2048 ![] bcast_S_S512x2048 (constant S_ .f32 0x3F26BD02#32))) (addf (Host.sqrt (Host.divf (REFv P N) (broadcastInDim S512x2048 ![] bcast_S_S512x2048 (constant S_ .f32 0x3C231ACC#32)))) (broadcastInDim S512x2048 ![] bcast_S_S512x2048 (constant S_ .f32 0x322BCC77#32)))) (mulf (broadcastInDim S512x2048 ![] bcast_S_S512x2048 (constant S_ .f32 0x3C23D70A#32)) W))
end

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem g_at (a b c d e f g h : S1x128x2048.Idx → EReal) (j : S128x2048.Idx) : (k0_pay4 (F := Ideal) a b c d e f g h j : EReal)
    = a (ix3 0 (j 0) (j 1)) + b (ix3 0 (j 0) (j 1)) + c (ix3 0 (j 0) (j 1)) + d (ix3 0 (j 0) (j 1)) + e (ix3 0 (j 0) (j 1)) + f (ix3 0 (j 0) (j 1)) + g (ix3 0 (j 0) (j 1)) + h (ix3 0 (j 0) (j 1)) := by
  pointwise [k0_pay4]
theorem m_at (g mo : S128x2048.Idx → EReal) (j : S128x2048.Idx) : (k0_pay1 (F := Ideal) g mo (Ideal.ofBits .f32 0x3F666666#32) j : EReal) = sm (g j) (mo j) := by
  pointwise [k0_pay1]
theorem v_at (g v : S128x2048.Idx → EReal) (j : S128x2048.Idx) : (k0_pay2 (F := Ideal) g v j : EReal) = sv (g j) (v j) := by
  pointwise [k0_pay2]
theorem d_at (g mo v w : S128x2048.Idx → EReal) (j : S128x2048.Idx) : (k0_pay3 (F := Ideal) g mo (Ideal.ofBits .f32 0x3F666666#32) v w j : EReal) = sd (g j) (w j) (mo j) (v j) := by
  pointwise [k0_pay3, k0_pay1, k0_pay2]

theorem ref_g_at (P : Cert.AdamCRefIdeal.S8x512x2048.Idx → EReal) (j : Cert.AdamCRefIdeal.S512x2048.Idx) : (REFg P j : EReal) = ∑ q : Fin 8, P (ix3 q (j 0) (j 1)) := by
  pointwise [REFg]
theorem ref_m_at (P : Cert.AdamCRefIdeal.S8x512x2048.Idx → EReal) (M : Cert.AdamCRefIdeal.S512x2048.Idx → EReal) (j : Cert.AdamCRefIdeal.S512x2048.Idx) : (REFm P M j : EReal) = sm (REFg P j) (M j) := by
  rw [ref_g_at]
  pointwise [REFm, REFg]
theorem ref_v_at (P : Cert.AdamCRefIdeal.S8x512x2048.Idx → EReal) (N : Cert.AdamCRefIdeal.S512x2048.Idx → EReal) (j : Cert.AdamCRefIdeal.S512x2048.Idx) : (REFv P N j : EReal) = sv (REFg P j) (N j) := by
  rw [ref_g_at]
  pointwise [REFv, REFg]
theorem ref_d_at (P : Cert.AdamCRefIdeal.S8x512x2048.Idx → EReal) (W M N : Cert.AdamCRefIdeal.S512x2048.Idx → EReal) (j : Cert.AdamCRefIdeal.S512x2048.Idx) : (REFd P W M N j : EReal) = sd (REFg P j) (W j) (M j) (N j) := by
  rw [ref_g_at]
  pointwise [REFd, REFm, REFv, REFg]

theorem point_g (c : Dev nD) (t : Fin cfg0.N) (y : S128x2048.Idx) : (k0_pay5 (F := Ideal) (iblk m c 0 t) (iblk m c 1 t) (iblk m c 2 t) (iblk m c 3 t) y : EReal)
    = REFg (m ((c : Thread nD τ).loc main_arg0)) (((cfg0.win 4).blk t).view.emb y) := by
  unfold k0_pay5
  refine (g_at _ _ _ _ _ _ _ _ _).trans (Eq.trans ?_ (ref_g_at _ _).symm)
  rw [Fin.sum_univ_eight]
  blk_point [iblk, V, idx t]

theorem at1 (c : Dev nD) (t : Fin cfg0.N) (y : S128x2048.Idx) : (show EReal from iblk m c 1 t y) = m ((c : Thread nD τ).loc main_arg1) (((cfg0.win 4).blk t).view.emb y) := by
  blk_point [iblk, V, idx t]
theorem at2 (c : Dev nD) (t : Fin cfg0.N) (y : S128x2048.Idx) : (show EReal from iblk m c 2 t y) = m ((c : Thread nD τ).loc main_arg2) (((cfg0.win 4).blk t).view.emb y) := by
  blk_point [iblk, V, idx t]
theorem at3 (c : Dev nD) (t : Fin cfg0.N) (y : S128x2048.Idx) : (show EReal from iblk m c 3 t y) = m ((c : Thread nD τ).loc main_arg3) (((cfg0.win 4).blk t).view.emb y) := by
  blk_point [iblk, V, idx t]

/-- The four outputs have the same blocks. -/
theorem emb5 (t : Fin cfg0.N) (y : S128x2048.Idx) : ((cfg0.win 4).blk t).view.emb y = ((cfg0.win 5).blk t).view.emb y := by
  blk_ext [idx t]

theorem final4 (c : Dev nD) : (dats m 0 c).arrAt 4 (cfgs 0).N = REFg (m ((c : Thread nD τ).loc main_arg0)) := by
  refine (dats m 0 c).arrAt_eq_of_covers 4 _ (by decide +kernel) fun t _ y => ?_
  blk_simp
  rw [after0_4]; frame_out
  exact point_g m c t y

theorem final5 (c : Dev nD) : (dats m 0 c).arrAt 5 (cfgs 0).N = REFd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (d_at _ _ _ _ _).trans (Eq.trans ?_ (ref_d_at _ _ _ _ _).symm)
  exact congr (congr (congr (congrArg sd (point_g m c t y)) (at1 m c t y)) (at2 m c t y)) (at3 m c t y)

theorem final6 (c : Dev nD) : (dats m 0 c).arrAt 6 (cfgs 0).N = REFm (m ((c : Thread nD τ).loc main_arg0)) (m ((c : Thread nD τ).loc main_arg2)) := by
  refine (dats m 0 c).arrAt_eq_of_covers 6 _ (by decide +kernel) fun t _ y => ?_
  blk_simp
  rw [after0_6]; frame_out
  refine (m_at _ _ _).trans (Eq.trans ?_ (ref_m_at _ _ _).symm)
  exact congr (congrArg sm (point_g m c t y)) (at2 m c t y)

theorem final7 (c : Dev nD) : (dats m 0 c).arrAt 7 (cfgs 0).N = REFv (m ((c : Thread nD τ).loc main_arg0)) (m ((c : Thread nD τ).loc main_arg3)) := by
  refine (dats m 0 c).arrAt_eq_of_covers 7 _ (by decide +kernel) fun t _ y => ?_
  blk_simp
  rw [after0_7]; frame_out
  refine (v_at _ _ _).trans (Eq.trans ?_ (ref_v_at _ _ _).symm)
  exact congr (congrArg sv (point_g m c t y)) (at3 m c t y)

end Cert.AdamCIdeal.Value
end
-- ==== Proof.AdamDValue.lean ====
/- The optimiser's step: the kernel's arrays are the reference's. -/
module

public import proofs.«01_k».proof.Proof.Gen.AdamDIdeal.Value
public import proofs.«01_k».proof.Proof.Gen.AdamDRefIdeal.Run
public import proofs.«01_k».proof.Proof.AdamStep
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamDIdeal.Value

open Idealize.ShloMosaic Idealize.ShloMosaic.TcCoe Idealize.SL.Sem
open Idealize.ShloMosaic.Pipeline (Dat)
open Cert.AdamDIdeal Cert.AdamDIdeal.Gen
open Cert.AdamStep

variable (m : (ℓ : Loc nD τ sig) → Buf (Elt Ideal) ℓ)

section
open Cert.AdamDRefIdeal Cert.AdamDRefIdeal.Gen
/-- The reference's four results over its arguments: the gradient, the first and second moments and the change of the weight. -/
def REFg (P : FVec Ideal Cert.AdamDRefIdeal.S8x512x1088 .bf16) : FVec Ideal Cert.AdamDRefIdeal.S512x1088 .f32 :=
  Host.reduceAdd (extf .f32 P Cert.AdamDRefIdeal.Gen.bitsLt_bf16_f32) (constant S_ .f32 0x00000000#32) reducesTo_S8x512x1088_S512x1088_d0 h_S_
def REFm (P : FVec Ideal Cert.AdamDRefIdeal.S8x512x1088 .bf16) (M : FVec Ideal Cert.AdamDRefIdeal.S512x1088 .f32) : FVec Ideal Cert.AdamDRefIdeal.S512x1088 .f32 :=
  addf (mulf (broadcastInDim S512x1088 ![] bcast_S_S512x1088 (constant S_ .f32 0x3F666666#32)) M) (mulf (broadcastInDim S512x1088 ![] bcast_S_S512x1088 (constant S_ .f32 0x3DCCCCCD#32)) (REFg P))
def REFv (P : FVec Ideal Cert.AdamDRefIdeal.S8x512x1088 .bf16) (N : FVec Ideal Cert.AdamDRefIdeal.S512x1088 .f32) : FVec Ideal Cert.AdamDRefIdeal.S512x1088 .f32 :=
  addf (mulf (broadcastInDim S512x1088 ![] bcast_S_S512x1088 (constant S_ .f32 0x3F7FBE77#32)) N) (mulf (broadcastInDim S512x1088 ![] bcast_S_S512x1088 (constant S_ .f32 0x3A83126F#32)) (mulf (REFg P) (REFg P)))
def REFd (P : FVec Ideal Cert.AdamDRefIdeal.S8x512x1088 .bf16) (W M N : FVec Ideal Cert.AdamDRefIdeal.S512x1088 .f32) : FVec Ideal Cert.AdamDRefIdeal.S512x1088 .f32 :=
  mulf (broadcastInDim S512x1088 ![] bcast_S_S512x1088 (constant S_ .f32 0xBA83126F#32)) (addf (Host.divf (Host.divf (REFm P M) (broadcastInDim S512x1088 ![] bcast_S_S512x1088 (constant S_ .f32 0x3F26BD02#32))) (addf (Host.sqrt (Host.divf (REFv P N) (broadcastInDim S512x1088 ![] bcast_S_S512x1088 (constant S_ .f32 0x3C231ACC#32)))) (broadcastInDim S512x1088 ![] bcast_S_S512x1088 (constant S_ .f32 0x322BCC77#32)))) (mulf (broadcastInDim S512x1088 ![] bcast_S_S512x1088 (constant S_ .f32 0x3C23D70A#32)) W))
end

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem g_at (a b c d e f g h : S1x128x1088.Idx → EReal) (j : S128x1088.Idx) : (k0_pay4 (F := Ideal) a b c d e f g h j : EReal)
    = a (ix3 0 (j 0) (j 1)) + b (ix3 0 (j 0) (j 1)) + c (ix3 0 (j 0) (j 1)) + d (ix3 0 (j 0) (j 1)) + e (ix3 0 (j 0) (j 1)) + f (ix3 0 (j 0) (j 1)) + g (ix3 0 (j 0) (j 1)) + h (ix3 0 (j 0) (j 1)) := by
  pointwise [k0_pay4]
theorem m_at (g mo : S128x1088.Idx → EReal) (j : S128x1088.Idx) : (k0_pay1 (F := Ideal) g mo (Ideal.ofBits .f32 0x3F666666#32) j : EReal) = sm (g j) (mo j) := by
  pointwise [k0_pay1]
theorem v_at (g v : S128x1088.Idx → EReal) (j : S128x1088.Idx) : (k0_pay2 (F := Ideal) g v j : EReal) = sv (g j) (v j) := by
  pointwise [k0_pay2]
theorem d_at (g mo v w : S128x1088.Idx → EReal) (j : S128x1088.Idx) : (k0_pay3 (F := Ideal) g mo (Ideal.ofBits .f32 0x3F666666#32) v w j : EReal) = sd (g j) (w j) (mo j) (v j) := by
  pointwise [k0_pay3, k0_pay1, k0_pay2]

theorem ref_g_at (P : Cert.AdamDRefIdeal.S8x512x1088.Idx → EReal) (j : Cert.AdamDRefIdeal.S512x1088.Idx) : (REFg P j : EReal) = ∑ q : Fin 8, P (ix3 q (j 0) (j 1)) := by
  pointwise [REFg]
theorem ref_m_at (P : Cert.AdamDRefIdeal.S8x512x1088.Idx → EReal) (M : Cert.AdamDRefIdeal.S512x1088.Idx → EReal) (j : Cert.AdamDRefIdeal.S512x1088.Idx) : (REFm P M j : EReal) = sm (REFg P j) (M j) := by
  rw [ref_g_at]
  pointwise [REFm, REFg]
theorem ref_v_at (P : Cert.AdamDRefIdeal.S8x512x1088.Idx → EReal) (N : Cert.AdamDRefIdeal.S512x1088.Idx → EReal) (j : Cert.AdamDRefIdeal.S512x1088.Idx) : (REFv P N j : EReal) = sv (REFg P j) (N j) := by
  rw [ref_g_at]
  pointwise [REFv, REFg]
theorem ref_d_at (P : Cert.AdamDRefIdeal.S8x512x1088.Idx → EReal) (W M N : Cert.AdamDRefIdeal.S512x1088.Idx → EReal) (j : Cert.AdamDRefIdeal.S512x1088.Idx) : (REFd P W M N j : EReal) = sd (REFg P j) (W j) (M j) (N j) := by
  rw [ref_g_at]
  pointwise [REFd, REFm, REFv, REFg]

theorem point_g (c : Dev nD) (t : Fin cfg0.N) (y : S128x1088.Idx) : (k0_pay5 (F := Ideal) (iblk m c 0 t) (iblk m c 1 t) (iblk m c 2 t) (iblk m c 3 t) y : EReal)
    = REFg (m ((c : Thread nD τ).loc main_arg0)) (((cfg0.win 4).blk t).view.emb y) := by
  unfold k0_pay5
  refine (g_at _ _ _ _ _ _ _ _ _).trans (Eq.trans ?_ (ref_g_at _ _).symm)
  rw [Fin.sum_univ_eight]
  blk_point [iblk, V, idx t]

theorem at1 (c : Dev nD) (t : Fin cfg0.N) (y : S128x1088.Idx) : (show EReal from iblk m c 1 t y) = m ((c : Thread nD τ).loc main_arg1) (((cfg0.win 4).blk t).view.emb y) := by
  blk_point [iblk, V, idx t]
theorem at2 (c : Dev nD) (t : Fin cfg0.N) (y : S128x1088.Idx) : (show EReal from iblk m c 2 t y) = m ((c : Thread nD τ).loc main_arg2) (((cfg0.win 4).blk t).view.emb y) := by
  blk_point [iblk, V, idx t]
theorem at3 (c : Dev nD) (t : Fin cfg0.N) (y : S128x1088.Idx) : (show EReal from iblk m c 3 t y) = m ((c : Thread nD τ).loc main_arg3) (((cfg0.win 4).blk t).view.emb y) := by
  blk_point [iblk, V, idx t]

/-- The four outputs have the same blocks. -/
theorem emb5 (t : Fin cfg0.N) (y : S128x1088.Idx) : ((cfg0.win 4).blk t).view.emb y = ((cfg0.win 5).blk t).view.emb y := by
  blk_ext [idx t]

theorem final4 (c : Dev nD) : (dats m 0 c).arrAt 4 (cfgs 0).N = REFg (m ((c : Thread nD τ).loc main_arg0)) := by
  refine (dats m 0 c).arrAt_eq_of_covers 4 _ (by decide +kernel) fun t _ y => ?_
  blk_simp
  rw [after0_4]; frame_out
  exact point_g m c t y

theorem final5 (c : Dev nD) : (dats m 0 c).arrAt 5 (cfgs 0).N = REFd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (d_at _ _ _ _ _).trans (Eq.trans ?_ (ref_d_at _ _ _ _ _).symm)
  exact congr (congr (congr (congrArg sd (point_g m c t y)) (at1 m c t y)) (at2 m c t y)) (at3 m c t y)

theorem final6 (c : Dev nD) : (dats m 0 c).arrAt 6 (cfgs 0).N = REFm (m ((c : Thread nD τ).loc main_arg0)) (m ((c : Thread nD τ).loc main_arg2)) := by
  refine (dats m 0 c).arrAt_eq_of_covers 6 _ (by decide +kernel) fun t _ y => ?_
  blk_simp
  rw [after0_6]; frame_out
  refine (m_at _ _ _).trans (Eq.trans ?_ (ref_m_at _ _ _).symm)
  exact congr (congrArg sm (point_g m c t y)) (at2 m c t y)

theorem final7 (c : Dev nD) : (dats m 0 c).arrAt 7 (cfgs 0).N = REFv (m ((c : Thread nD τ).loc main_arg0)) (m ((c : Thread nD τ).loc main_arg3)) := by
  refine (dats m 0 c).arrAt_eq_of_covers 7 _ (by decide +kernel) fun t _ y => ?_
  blk_simp
  rw [after0_7]; frame_out
  refine (v_at _ _ _).trans (Eq.trans ?_ (ref_v_at _ _ _).symm)
  exact congr (congrArg sv (point_g m c t y)) (at3 m c t y)

end Cert.AdamDIdeal.Value
end
-- ==== Proof.AdamEValue.lean ====
/- The optimiser's step: the kernel's arrays are the reference's. -/
module

public import proofs.«01_k».proof.Proof.Gen.AdamEIdeal.Value
public import proofs.«01_k».proof.Proof.Gen.AdamERefIdeal.Run
public import proofs.«01_k».proof.Proof.AdamStep
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamEIdeal.Value

open Idealize.ShloMosaic Idealize.ShloMosaic.TcCoe Idealize.SL.Sem
open Idealize.ShloMosaic.Pipeline (Dat)
open Cert.AdamEIdeal Cert.AdamEIdeal.Gen
open Cert.AdamStep

variable (m : (ℓ : Loc nD τ sig) → Buf (Elt Ideal) ℓ)

section
open Cert.AdamERefIdeal Cert.AdamERefIdeal.Gen
/-- The reference's four results over its arguments: the gradient, the first and second moments and the change of the weight. -/
def REFg (P : FVec Ideal Cert.AdamERefIdeal.S8x1024x384 .bf16) : FVec Ideal Cert.AdamERefIdeal.S1024x384 .f32 :=
  Host.reduceAdd (extf .f32 P Cert.AdamERefIdeal.Gen.bitsLt_bf16_f32) (constant S_ .f32 0x00000000#32) reducesTo_S8x1024x384_S1024x384_d0 h_S_
def REFm (P : FVec Ideal Cert.AdamERefIdeal.S8x1024x384 .bf16) (M : FVec Ideal Cert.AdamERefIdeal.S1024x384 .f32) : FVec Ideal Cert.AdamERefIdeal.S1024x384 .f32 :=
  addf (mulf (broadcastInDim S1024x384 ![] bcast_S_S1024x384 (constant S_ .f32 0x3F666666#32)) M) (mulf (broadcastInDim S1024x384 ![] bcast_S_S1024x384 (constant S_ .f32 0x3DCCCCCD#32)) (REFg P))
def REFv (P : FVec Ideal Cert.AdamERefIdeal.S8x1024x384 .bf16) (N : FVec Ideal Cert.AdamERefIdeal.S1024x384 .f32) : FVec Ideal Cert.AdamERefIdeal.S1024x384 .f32 :=
  addf (mulf (broadcastInDim S1024x384 ![] bcast_S_S1024x384 (constant S_ .f32 0x3F7FBE77#32)) N) (mulf (broadcastInDim S1024x384 ![] bcast_S_S1024x384 (constant S_ .f32 0x3A83126F#32)) (mulf (REFg P) (REFg P)))
def REFd (P : FVec Ideal Cert.AdamERefIdeal.S8x1024x384 .bf16) (W M N : FVec Ideal Cert.AdamERefIdeal.S1024x384 .f32) : FVec Ideal Cert.AdamERefIdeal.S1024x384 .f32 :=
  mulf (broadcastInDim S1024x384 ![] bcast_S_S1024x384 (constant S_ .f32 0xBA83126F#32)) (addf (Host.divf (Host.divf (REFm P M) (broadcastInDim S1024x384 ![] bcast_S_S1024x384 (constant S_ .f32 0x3F26BD02#32))) (addf (Host.sqrt (Host.divf (REFv P N) (broadcastInDim S1024x384 ![] bcast_S_S1024x384 (constant S_ .f32 0x3C231ACC#32)))) (broadcastInDim S1024x384 ![] bcast_S_S1024x384 (constant S_ .f32 0x322BCC77#32)))) (mulf (broadcastInDim S1024x384 ![] bcast_S_S1024x384 (constant S_ .f32 0x3C23D70A#32)) W))
end

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem g_at (a b c d e f g h : S1x512x384.Idx → EReal) (j : S512x384.Idx) : (k0_pay4 (F := Ideal) a b c d e f g h j : EReal)
    = a (ix3 0 (j 0) (j 1)) + b (ix3 0 (j 0) (j 1)) + c (ix3 0 (j 0) (j 1)) + d (ix3 0 (j 0) (j 1)) + e (ix3 0 (j 0) (j 1)) + f (ix3 0 (j 0) (j 1)) + g (ix3 0 (j 0) (j 1)) + h (ix3 0 (j 0) (j 1)) := by
  pointwise [k0_pay4]
theorem m_at (g mo : S512x384.Idx → EReal) (j : S512x384.Idx) : (k0_pay1 (F := Ideal) g mo (Ideal.ofBits .f32 0x3F666666#32) j : EReal) = sm (g j) (mo j) := by
  pointwise [k0_pay1]
theorem v_at (g v : S512x384.Idx → EReal) (j : S512x384.Idx) : (k0_pay2 (F := Ideal) g v j : EReal) = sv (g j) (v j) := by
  pointwise [k0_pay2]
theorem d_at (g mo v w : S512x384.Idx → EReal) (j : S512x384.Idx) : (k0_pay3 (F := Ideal) g mo (Ideal.ofBits .f32 0x3F666666#32) v w j : EReal) = sd (g j) (w j) (mo j) (v j) := by
  pointwise [k0_pay3, k0_pay1, k0_pay2]

theorem ref_g_at (P : Cert.AdamERefIdeal.S8x1024x384.Idx → EReal) (j : Cert.AdamERefIdeal.S1024x384.Idx) : (REFg P j : EReal) = ∑ q : Fin 8, P (ix3 q (j 0) (j 1)) := by
  pointwise [REFg]
theorem ref_m_at (P : Cert.AdamERefIdeal.S8x1024x384.Idx → EReal) (M : Cert.AdamERefIdeal.S1024x384.Idx → EReal) (j : Cert.AdamERefIdeal.S1024x384.Idx) : (REFm P M j : EReal) = sm (REFg P j) (M j) := by
  rw [ref_g_at]
  pointwise [REFm, REFg]
theorem ref_v_at (P : Cert.AdamERefIdeal.S8x1024x384.Idx → EReal) (N : Cert.AdamERefIdeal.S1024x384.Idx → EReal) (j : Cert.AdamERefIdeal.S1024x384.Idx) : (REFv P N j : EReal) = sv (REFg P j) (N j) := by
  rw [ref_g_at]
  pointwise [REFv, REFg]
theorem ref_d_at (P : Cert.AdamERefIdeal.S8x1024x384.Idx → EReal) (W M N : Cert.AdamERefIdeal.S1024x384.Idx → EReal) (j : Cert.AdamERefIdeal.S1024x384.Idx) : (REFd P W M N j : EReal) = sd (REFg P j) (W j) (M j) (N j) := by
  rw [ref_g_at]
  pointwise [REFd, REFm, REFv, REFg]

theorem point_g (c : Dev nD) (t : Fin cfg0.N) (y : S512x384.Idx) : (k0_pay5 (F := Ideal) (iblk m c 0 t) (iblk m c 1 t) (iblk m c 2 t) (iblk m c 3 t) y : EReal)
    = REFg (m ((c : Thread nD τ).loc main_arg0)) (((cfg0.win 4).blk t).view.emb y) := by
  unfold k0_pay5
  refine (g_at _ _ _ _ _ _ _ _ _).trans (Eq.trans ?_ (ref_g_at _ _).symm)
  rw [Fin.sum_univ_eight]
  blk_point [iblk, V, idx t]

theorem at1 (c : Dev nD) (t : Fin cfg0.N) (y : S512x384.Idx) : (show EReal from iblk m c 1 t y) = m ((c : Thread nD τ).loc main_arg1) (((cfg0.win 4).blk t).view.emb y) := by
  blk_point [iblk, V, idx t]
theorem at2 (c : Dev nD) (t : Fin cfg0.N) (y : S512x384.Idx) : (show EReal from iblk m c 2 t y) = m ((c : Thread nD τ).loc main_arg2) (((cfg0.win 4).blk t).view.emb y) := by
  blk_point [iblk, V, idx t]
theorem at3 (c : Dev nD) (t : Fin cfg0.N) (y : S512x384.Idx) : (show EReal from iblk m c 3 t y) = m ((c : Thread nD τ).loc main_arg3) (((cfg0.win 4).blk t).view.emb y) := by
  blk_point [iblk, V, idx t]

/-- The four outputs have the same blocks. -/
theorem emb5 (t : Fin cfg0.N) (y : S512x384.Idx) : ((cfg0.win 4).blk t).view.emb y = ((cfg0.win 5).blk t).view.emb y := by
  blk_ext [idx t]

theorem final4 (c : Dev nD) : (dats m 0 c).arrAt 4 (cfgs 0).N = REFg (m ((c : Thread nD τ).loc main_arg0)) := by
  refine (dats m 0 c).arrAt_eq_of_covers 4 _ (by decide +kernel) fun t _ y => ?_
  blk_simp
  rw [after0_4]; frame_out
  exact point_g m c t y

theorem final5 (c : Dev nD) : (dats m 0 c).arrAt 5 (cfgs 0).N = REFd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (d_at _ _ _ _ _).trans (Eq.trans ?_ (ref_d_at _ _ _ _ _).symm)
  exact congr (congr (congr (congrArg sd (point_g m c t y)) (at1 m c t y)) (at2 m c t y)) (at3 m c t y)

theorem final6 (c : Dev nD) : (dats m 0 c).arrAt 6 (cfgs 0).N = REFm (m ((c : Thread nD τ).loc main_arg0)) (m ((c : Thread nD τ).loc main_arg2)) := by
  refine (dats m 0 c).arrAt_eq_of_covers 6 _ (by decide +kernel) fun t _ y => ?_
  blk_simp
  rw [after0_6]; frame_out
  refine (m_at _ _ _).trans (Eq.trans ?_ (ref_m_at _ _ _).symm)
  exact congr (congrArg sm (point_g m c t y)) (at2 m c t y)

theorem final7 (c : Dev nD) : (dats m 0 c).arrAt 7 (cfgs 0).N = REFv (m ((c : Thread nD τ).loc main_arg0)) (m ((c : Thread nD τ).loc main_arg3)) := by
  refine (dats m 0 c).arrAt_eq_of_covers 7 _ (by decide +kernel) fun t _ y => ?_
  blk_simp
  rw [after0_7]; frame_out
  refine (v_at _ _ _).trans (Eq.trans ?_ (ref_v_at _ _ _).symm)
  exact congr (congrArg sv (point_g m c t y)) (at3 m c t y)

end Cert.AdamEIdeal.Value
end
-- ==== Proof.AdamFValue.lean ====
/- The optimiser's step: the kernel's arrays are the reference's. -/
module

public import proofs.«01_k».proof.Proof.Gen.AdamFIdeal.Value
public import proofs.«01_k».proof.Proof.Gen.AdamFRefIdeal.Run
public import proofs.«01_k».proof.Proof.AdamStep
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamFIdeal.Value

open Idealize.ShloMosaic Idealize.ShloMosaic.TcCoe Idealize.SL.Sem
open Idealize.ShloMosaic.Pipeline (Dat)
open Cert.AdamFIdeal Cert.AdamFIdeal.Gen
open Cert.AdamStep

variable (m : (ℓ : Loc nD τ sig) → Buf (Elt Ideal) ℓ)

section
open Cert.AdamFRefIdeal Cert.AdamFRefIdeal.Gen
/-- The reference's four results over its arguments: the gradient, the first and second moments and the change of the weight. -/
def REFg (P : FVec Ideal Cert.AdamFRefIdeal.S8x1024x512 .bf16) : FVec Ideal Cert.AdamFRefIdeal.S1024x512 .f32 :=
  Host.reduceAdd (extf .f32 P Cert.AdamFRefIdeal.Gen.bitsLt_bf16_f32) (constant S_ .f32 0x00000000#32) reducesTo_S8x1024x512_S1024x512_d0 h_S_
def REFm (P : FVec Ideal Cert.AdamFRefIdeal.S8x1024x512 .bf16) (M : FVec Ideal Cert.AdamFRefIdeal.S1024x512 .f32) : FVec Ideal Cert.AdamFRefIdeal.S1024x512 .f32 :=
  addf (mulf (broadcastInDim S1024x512 ![] bcast_S_S1024x512 (constant S_ .f32 0x3F666666#32)) M) (mulf (broadcastInDim S1024x512 ![] bcast_S_S1024x512 (constant S_ .f32 0x3DCCCCCD#32)) (REFg P))
def REFv (P : FVec Ideal Cert.AdamFRefIdeal.S8x1024x512 .bf16) (N : FVec Ideal Cert.AdamFRefIdeal.S1024x512 .f32) : FVec Ideal Cert.AdamFRefIdeal.S1024x512 .f32 :=
  addf (mulf (broadcastInDim S1024x512 ![] bcast_S_S1024x512 (constant S_ .f32 0x3F7FBE77#32)) N) (mulf (broadcastInDim S1024x512 ![] bcast_S_S1024x512 (constant S_ .f32 0x3A83126F#32)) (mulf (REFg P) (REFg P)))
def REFd (P : FVec Ideal Cert.AdamFRefIdeal.S8x1024x512 .bf16) (W M N : FVec Ideal Cert.AdamFRefIdeal.S1024x512 .f32) : FVec Ideal Cert.AdamFRefIdeal.S1024x512 .f32 :=
  mulf (broadcastInDim S1024x512 ![] bcast_S_S1024x512 (constant S_ .f32 0xBA83126F#32)) (addf (Host.divf (Host.divf (REFm P M) (broadcastInDim S1024x512 ![] bcast_S_S1024x512 (constant S_ .f32 0x3F26BD02#32))) (addf (Host.sqrt (Host.divf (REFv P N) (broadcastInDim S1024x512 ![] bcast_S_S1024x512 (constant S_ .f32 0x3C231ACC#32)))) (broadcastInDim S1024x512 ![] bcast_S_S1024x512 (constant S_ .f32 0x322BCC77#32)))) (mulf (broadcastInDim S1024x512 ![] bcast_S_S1024x512 (constant S_ .f32 0x3C23D70A#32)) W))
end

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem g_at (a b c d e f g h : S1x512x512.Idx → EReal) (j : S512x512.Idx) : (k0_pay4 (F := Ideal) a b c d e f g h j : EReal)
    = a (ix3 0 (j 0) (j 1)) + b (ix3 0 (j 0) (j 1)) + c (ix3 0 (j 0) (j 1)) + d (ix3 0 (j 0) (j 1)) + e (ix3 0 (j 0) (j 1)) + f (ix3 0 (j 0) (j 1)) + g (ix3 0 (j 0) (j 1)) + h (ix3 0 (j 0) (j 1)) := by
  pointwise [k0_pay4]
theorem m_at (g mo : S512x512.Idx → EReal) (j : S512x512.Idx) : (k0_pay1 (F := Ideal) g mo (Ideal.ofBits .f32 0x3F666666#32) j : EReal) = sm (g j) (mo j) := by
  pointwise [k0_pay1]
theorem v_at (g v : S512x512.Idx → EReal) (j : S512x512.Idx) : (k0_pay2 (F := Ideal) g v j : EReal) = sv (g j) (v j) := by
  pointwise [k0_pay2]
theorem d_at (g mo v w : S512x512.Idx → EReal) (j : S512x512.Idx) : (k0_pay3 (F := Ideal) g mo (Ideal.ofBits .f32 0x3F666666#32) v w j : EReal) = sd (g j) (w j) (mo j) (v j) := by
  pointwise [k0_pay3, k0_pay1, k0_pay2]

theorem ref_g_at (P : Cert.AdamFRefIdeal.S8x1024x512.Idx → EReal) (j : Cert.AdamFRefIdeal.S1024x512.Idx) : (REFg P j : EReal) = ∑ q : Fin 8, P (ix3 q (j 0) (j 1)) := by
  pointwise [REFg]
theorem ref_m_at (P : Cert.AdamFRefIdeal.S8x1024x512.Idx → EReal) (M : Cert.AdamFRefIdeal.S1024x512.Idx → EReal) (j : Cert.AdamFRefIdeal.S1024x512.Idx) : (REFm P M j : EReal) = sm (REFg P j) (M j) := by
  rw [ref_g_at]
  pointwise [REFm, REFg]
theorem ref_v_at (P : Cert.AdamFRefIdeal.S8x1024x512.Idx → EReal) (N : Cert.AdamFRefIdeal.S1024x512.Idx → EReal) (j : Cert.AdamFRefIdeal.S1024x512.Idx) : (REFv P N j : EReal) = sv (REFg P j) (N j) := by
  rw [ref_g_at]
  pointwise [REFv, REFg]
theorem ref_d_at (P : Cert.AdamFRefIdeal.S8x1024x512.Idx → EReal) (W M N : Cert.AdamFRefIdeal.S1024x512.Idx → EReal) (j : Cert.AdamFRefIdeal.S1024x512.Idx) : (REFd P W M N j : EReal) = sd (REFg P j) (W j) (M j) (N j) := by
  rw [ref_g_at]
  pointwise [REFd, REFm, REFv, REFg]

theorem point_g (c : Dev nD) (t : Fin cfg0.N) (y : S512x512.Idx) : (k0_pay5 (F := Ideal) (iblk m c 0 t) (iblk m c 1 t) (iblk m c 2 t) (iblk m c 3 t) y : EReal)
    = REFg (m ((c : Thread nD τ).loc main_arg0)) (((cfg0.win 4).blk t).view.emb y) := by
  unfold k0_pay5
  refine (g_at _ _ _ _ _ _ _ _ _).trans (Eq.trans ?_ (ref_g_at _ _).symm)
  rw [Fin.sum_univ_eight]
  blk_point [iblk, V, idx t]

theorem at1 (c : Dev nD) (t : Fin cfg0.N) (y : S512x512.Idx) : (show EReal from iblk m c 1 t y) = m ((c : Thread nD τ).loc main_arg1) (((cfg0.win 4).blk t).view.emb y) := by
  blk_point [iblk, V, idx t]
theorem at2 (c : Dev nD) (t : Fin cfg0.N) (y : S512x512.Idx) : (show EReal from iblk m c 2 t y) = m ((c : Thread nD τ).loc main_arg2) (((cfg0.win 4).blk t).view.emb y) := by
  blk_point [iblk, V, idx t]
theorem at3 (c : Dev nD) (t : Fin cfg0.N) (y : S512x512.Idx) : (show EReal from iblk m c 3 t y) = m ((c : Thread nD τ).loc main_arg3) (((cfg0.win 4).blk t).view.emb y) := by
  blk_point [iblk, V, idx t]

/-- The four outputs have the same blocks. -/
theorem emb5 (t : Fin cfg0.N) (y : S512x512.Idx) : ((cfg0.win 4).blk t).view.emb y = ((cfg0.win 5).blk t).view.emb y := by
  blk_ext [idx t]

theorem final4 (c : Dev nD) : (dats m 0 c).arrAt 4 (cfgs 0).N = REFg (m ((c : Thread nD τ).loc main_arg0)) := by
  refine (dats m 0 c).arrAt_eq_of_covers 4 _ (by decide +kernel) fun t _ y => ?_
  blk_simp
  rw [after0_4]; frame_out
  exact point_g m c t y

theorem final5 (c : Dev nD) : (dats m 0 c).arrAt 5 (cfgs 0).N = REFd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (d_at _ _ _ _ _).trans (Eq.trans ?_ (ref_d_at _ _ _ _ _).symm)
  exact congr (congr (congr (congrArg sd (point_g m c t y)) (at1 m c t y)) (at2 m c t y)) (at3 m c t y)

theorem final6 (c : Dev nD) : (dats m 0 c).arrAt 6 (cfgs 0).N = REFm (m ((c : Thread nD τ).loc main_arg0)) (m ((c : Thread nD τ).loc main_arg2)) := by
  refine (dats m 0 c).arrAt_eq_of_covers 6 _ (by decide +kernel) fun t _ y => ?_
  blk_simp
  rw [after0_6]; frame_out
  refine (m_at _ _ _).trans (Eq.trans ?_ (ref_m_at _ _ _).symm)
  exact congr (congrArg sm (point_g m c t y)) (at2 m c t y)

theorem final7 (c : Dev nD) : (dats m 0 c).arrAt 7 (cfgs 0).N = REFv (m ((c : Thread nD τ).loc main_arg0)) (m ((c : Thread nD τ).loc main_arg3)) := by
  refine (dats m 0 c).arrAt_eq_of_covers 7 _ (by decide +kernel) fun t _ y => ?_
  blk_simp
  rw [after0_7]; frame_out
  refine (v_at _ _ _).trans (Eq.trans ?_ (ref_v_at _ _ _).symm)
  exact congr (congrArg sv (point_g m c t y)) (at3 m c t y)

end Cert.AdamFIdeal.Value
end
-- ==== Proof.AdamGValue.lean ====
/- The optimiser's step: the kernel's arrays are the reference's. -/
module

public import proofs.«01_k».proof.Proof.Gen.AdamGIdeal.Value
public import proofs.«01_k».proof.Proof.Gen.AdamGRefIdeal.Run
public import proofs.«01_k».proof.Proof.AdamStep
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamGIdeal.Value

open Idealize.ShloMosaic Idealize.ShloMosaic.TcCoe Idealize.SL.Sem
open Idealize.ShloMosaic.Pipeline (Dat)
open Cert.AdamGIdeal Cert.AdamGIdeal.Gen
open Cert.AdamStep

variable (m : (ℓ : Loc nD τ sig) → Buf (Elt Ideal) ℓ)

section
open Cert.AdamGRefIdeal Cert.AdamGRefIdeal.Gen
/-- The reference's four results over its arguments: the gradient, the first and second moments and the change of the weight. -/
def REFg (P : FVec Ideal Cert.AdamGRefIdeal.S8x8192x1024 .bf16) : FVec Ideal Cert.AdamGRefIdeal.S8192x1024 .f32 :=
  Host.reduceAdd (extf .f32 P Cert.AdamGRefIdeal.Gen.bitsLt_bf16_f32) (constant S_ .f32 0x00000000#32) reducesTo_S8x8192x1024_S8192x1024_d0 h_S_
def REFm (P : FVec Ideal Cert.AdamGRefIdeal.S8x8192x1024 .bf16) (M : FVec Ideal Cert.AdamGRefIdeal.S8192x1024 .f32) : FVec Ideal Cert.AdamGRefIdeal.S8192x1024 .f32 :=
  addf (mulf (broadcastInDim S8192x1024 ![] bcast_S_S8192x1024 (constant S_ .f32 0x3F666666#32)) M) (mulf (broadcastInDim S8192x1024 ![] bcast_S_S8192x1024 (constant S_ .f32 0x3DCCCCCD#32)) (REFg P))
def REFv (P : FVec Ideal Cert.AdamGRefIdeal.S8x8192x1024 .bf16) (N : FVec Ideal Cert.AdamGRefIdeal.S8192x1024 .f32) : FVec Ideal Cert.AdamGRefIdeal.S8192x1024 .f32 :=
  addf (mulf (broadcastInDim S8192x1024 ![] bcast_S_S8192x1024 (constant S_ .f32 0x3F7FBE77#32)) N) (mulf (broadcastInDim S8192x1024 ![] bcast_S_S8192x1024 (constant S_ .f32 0x3A83126F#32)) (mulf (REFg P) (REFg P)))
def REFd (P : FVec Ideal Cert.AdamGRefIdeal.S8x8192x1024 .bf16) (W M N : FVec Ideal Cert.AdamGRefIdeal.S8192x1024 .f32) : FVec Ideal Cert.AdamGRefIdeal.S8192x1024 .f32 :=
  mulf (broadcastInDim S8192x1024 ![] bcast_S_S8192x1024 (constant S_ .f32 0xBA83126F#32)) (addf (Host.divf (Host.divf (REFm P M) (broadcastInDim S8192x1024 ![] bcast_S_S8192x1024 (constant S_ .f32 0x3F26BD02#32))) (addf (Host.sqrt (Host.divf (REFv P N) (broadcastInDim S8192x1024 ![] bcast_S_S8192x1024 (constant S_ .f32 0x3C231ACC#32)))) (broadcastInDim S8192x1024 ![] bcast_S_S8192x1024 (constant S_ .f32 0x322BCC77#32)))) (mulf (broadcastInDim S8192x1024 ![] bcast_S_S8192x1024 (constant S_ .f32 0x3C23D70A#32)) W))
end

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem g_at (a b c d e f g h : S1x256x1024.Idx → EReal) (j : S256x1024.Idx) : (k0_pay4 (F := Ideal) a b c d e f g h j : EReal)
    = a (ix3 0 (j 0) (j 1)) + b (ix3 0 (j 0) (j 1)) + c (ix3 0 (j 0) (j 1)) + d (ix3 0 (j 0) (j 1)) + e (ix3 0 (j 0) (j 1)) + f (ix3 0 (j 0) (j 1)) + g (ix3 0 (j 0) (j 1)) + h (ix3 0 (j 0) (j 1)) := by
  pointwise [k0_pay4]
theorem m_at (g mo : S256x1024.Idx → EReal) (j : S256x1024.Idx) : (k0_pay1 (F := Ideal) g mo (Ideal.ofBits .f32 0x3F666666#32) j : EReal) = sm (g j) (mo j) := by
  pointwise [k0_pay1]
theorem v_at (g v : S256x1024.Idx → EReal) (j : S256x1024.Idx) : (k0_pay2 (F := Ideal) g v j : EReal) = sv (g j) (v j) := by
  pointwise [k0_pay2]
theorem d_at (g mo v w : S256x1024.Idx → EReal) (j : S256x1024.Idx) : (k0_pay3 (F := Ideal) g mo (Ideal.ofBits .f32 0x3F666666#32) v w j : EReal) = sd (g j) (w j) (mo j) (v j) := by
  pointwise [k0_pay3, k0_pay1, k0_pay2]

theorem ref_g_at (P : Cert.AdamGRefIdeal.S8x8192x1024.Idx → EReal) (j : Cert.AdamGRefIdeal.S8192x1024.Idx) : (REFg P j : EReal) = ∑ q : Fin 8, P (ix3 q (j 0) (j 1)) := by
  pointwise [REFg]
theorem ref_m_at (P : Cert.AdamGRefIdeal.S8x8192x1024.Idx → EReal) (M : Cert.AdamGRefIdeal.S8192x1024.Idx → EReal) (j : Cert.AdamGRefIdeal.S8192x1024.Idx) : (REFm P M j : EReal) = sm (REFg P j) (M j) := by
  rw [ref_g_at]
  pointwise [REFm, REFg]
theorem ref_v_at (P : Cert.AdamGRefIdeal.S8x8192x1024.Idx → EReal) (N : Cert.AdamGRefIdeal.S8192x1024.Idx → EReal) (j : Cert.AdamGRefIdeal.S8192x1024.Idx) : (REFv P N j : EReal) = sv (REFg P j) (N j) := by
  rw [ref_g_at]
  pointwise [REFv, REFg]
theorem ref_d_at (P : Cert.AdamGRefIdeal.S8x8192x1024.Idx → EReal) (W M N : Cert.AdamGRefIdeal.S8192x1024.Idx → EReal) (j : Cert.AdamGRefIdeal.S8192x1024.Idx) : (REFd P W M N j : EReal) = sd (REFg P j) (W j) (M j) (N j) := by
  rw [ref_g_at]
  pointwise [REFd, REFm, REFv, REFg]

theorem point_g (c : Dev nD) (t : Fin cfg0.N) (y : S256x1024.Idx) : (k0_pay5 (F := Ideal) (iblk m c 0 t) (iblk m c 1 t) (iblk m c 2 t) (iblk m c 3 t) y : EReal)
    = REFg (m ((c : Thread nD τ).loc main_arg0)) (((cfg0.win 4).blk t).view.emb y) := by
  unfold k0_pay5
  refine (g_at _ _ _ _ _ _ _ _ _).trans (Eq.trans ?_ (ref_g_at _ _).symm)
  rw [Fin.sum_univ_eight]
  blk_point [iblk, V, idx t]

theorem at1 (c : Dev nD) (t : Fin cfg0.N) (y : S256x1024.Idx) : (show EReal from iblk m c 1 t y) = m ((c : Thread nD τ).loc main_arg1) (((cfg0.win 4).blk t).view.emb y) := by
  blk_point [iblk, V, idx t]
theorem at2 (c : Dev nD) (t : Fin cfg0.N) (y : S256x1024.Idx) : (show EReal from iblk m c 2 t y) = m ((c : Thread nD τ).loc main_arg2) (((cfg0.win 4).blk t).view.emb y) := by
  blk_point [iblk, V, idx t]
theorem at3 (c : Dev nD) (t : Fin cfg0.N) (y : S256x1024.Idx) : (show EReal from iblk m c 3 t y) = m ((c : Thread nD τ).loc main_arg3) (((cfg0.win 4).blk t).view.emb y) := by
  blk_point [iblk, V, idx t]

/-- The four outputs have the same blocks. -/
theorem emb5 (t : Fin cfg0.N) (y : S256x1024.Idx) : ((cfg0.win 4).blk t).view.emb y = ((cfg0.win 5).blk t).view.emb y := by
  blk_ext [idx t]

theorem final4 (c : Dev nD) : (dats m 0 c).arrAt 4 (cfgs 0).N = REFg (m ((c : Thread nD τ).loc main_arg0)) := by
  refine (dats m 0 c).arrAt_eq_of_covers 4 _ (by decide +kernel) fun t _ y => ?_
  blk_simp
  rw [after0_4]; frame_out
  exact point_g m c t y

theorem final5 (c : Dev nD) : (dats m 0 c).arrAt 5 (cfgs 0).N = REFd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (d_at _ _ _ _ _).trans (Eq.trans ?_ (ref_d_at _ _ _ _ _).symm)
  exact congr (congr (congr (congrArg sd (point_g m c t y)) (at1 m c t y)) (at2 m c t y)) (at3 m c t y)

theorem final6 (c : Dev nD) : (dats m 0 c).arrAt 6 (cfgs 0).N = REFm (m ((c : Thread nD τ).loc main_arg0)) (m ((c : Thread nD τ).loc main_arg2)) := by
  refine (dats m 0 c).arrAt_eq_of_covers 6 _ (by decide +kernel) fun t _ y => ?_
  blk_simp
  rw [after0_6]; frame_out
  refine (m_at _ _ _).trans (Eq.trans ?_ (ref_m_at _ _ _).symm)
  exact congr (congrArg sm (point_g m c t y)) (at2 m c t y)

theorem final7 (c : Dev nD) : (dats m 0 c).arrAt 7 (cfgs 0).N = REFv (m ((c : Thread nD τ).loc main_arg0)) (m ((c : Thread nD τ).loc main_arg3)) := by
  refine (dats m 0 c).arrAt_eq_of_covers 7 _ (by decide +kernel) fun t _ y => ?_
  blk_simp
  rw [after0_7]; frame_out
  refine (v_at _ _ _).trans (Eq.trans ?_ (ref_v_at _ _ _).symm)
  exact congr (congrArg sv (point_g m c t y)) (at3 m c t y)

end Cert.AdamGIdeal.Value
end
-- ==== Proof.AdamRValue.lean ====
/- The optimiser's step: the kernel's arrays are the reference's. -/
module

public import proofs.«01_k».proof.Proof.Gen.AdamRIdeal.Value
public import proofs.«01_k».proof.Proof.Gen.AdamRRefIdeal.Run
public import proofs.«01_k».proof.Proof.AdamStep
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamRIdeal.Value

open Idealize.ShloMosaic Idealize.ShloMosaic.TcCoe Idealize.SL.Sem
open Idealize.ShloMosaic.Pipeline (Dat)
open Cert.AdamRIdeal Cert.AdamRIdeal.Gen
open Cert.AdamStep

variable (m : (ℓ : Loc nD τ sig) → Buf (Elt Ideal) ℓ)

section
open Cert.AdamRRefIdeal Cert.AdamRRefIdeal.Gen
/-- The reference's four results over its arguments: the gradient, the first and second moments and the change of the weight. -/
def REFg (P : FVec Ideal Cert.AdamRRefIdeal.S1x336x128 .f32) : FVec Ideal Cert.AdamRRefIdeal.S336x128 .f32 :=
  Host.reduceAdd P (constant S_ .f32 0x00000000#32) reducesTo_S1x336x128_S336x128_d0 h_S_
def REFm (P : FVec Ideal Cert.AdamRRefIdeal.S1x336x128 .f32) (M : FVec Ideal Cert.AdamRRefIdeal.S336x128 .f32) : FVec Ideal Cert.AdamRRefIdeal.S336x128 .f32 :=
  addf (mulf (broadcastInDim S336x128 ![] bcast_S_S336x128 (constant S_ .f32 0x3F666666#32)) M) (mulf (broadcastInDim S336x128 ![] bcast_S_S336x128 (constant S_ .f32 0x3DCCCCCD#32)) (REFg P))
def REFv (P : FVec Ideal Cert.AdamRRefIdeal.S1x336x128 .f32) (N : FVec Ideal Cert.AdamRRefIdeal.S336x128 .f32) : FVec Ideal Cert.AdamRRefIdeal.S336x128 .f32 :=
  addf (mulf (broadcastInDim S336x128 ![] bcast_S_S336x128 (constant S_ .f32 0x3F7FBE77#32)) N) (mulf (broadcastInDim S336x128 ![] bcast_S_S336x128 (constant S_ .f32 0x3A83126F#32)) (mulf (REFg P) (REFg P)))
def REFd (P : FVec Ideal Cert.AdamRRefIdeal.S1x336x128 .f32) (W M N : FVec Ideal Cert.AdamRRefIdeal.S336x128 .f32) : FVec Ideal Cert.AdamRRefIdeal.S336x128 .f32 :=
  mulf (broadcastInDim S336x128 ![] bcast_S_S336x128 (constant S_ .f32 0xBA83126F#32)) (addf (Host.divf (Host.divf (REFm P M) (broadcastInDim S336x128 ![] bcast_S_S336x128 (constant S_ .f32 0x3F26BD02#32))) (addf (Host.sqrt (Host.divf (REFv P N) (broadcastInDim S336x128 ![] bcast_S_S336x128 (constant S_ .f32 0x3C231ACC#32)))) (broadcastInDim S336x128 ![] bcast_S_S336x128 (constant S_ .f32 0x322BCC77#32)))) (mulf (broadcastInDim S336x128 ![] bcast_S_S336x128 (constant S_ .f32 0x3C23D70A#32)) W))
end

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem g_at (p : S1x336x128.Idx → EReal) (j : S336x128.Idx) : (k0_pay1 (F := Ideal) p j : EReal) = p (ix3 0 (j 0) (j 1)) := by
  pointwise [k0_pay1]
theorem m_at (p : S1x336x128.Idx → EReal) (mo : S336x128.Idx → EReal) (j : S336x128.Idx) : (k0_pay2 (F := Ideal) p mo j : EReal) = sm (p (ix3 0 (j 0) (j 1))) (mo j) := by
  pointwise [k0_pay2, k0_pay1]
theorem v_at (p : S1x336x128.Idx → EReal) (v : S336x128.Idx → EReal) (j : S336x128.Idx) : (k0_pay3 (F := Ideal) p v j : EReal) = sv (p (ix3 0 (j 0) (j 1))) (v j) := by
  pointwise [k0_pay3, k0_pay1]
theorem d_at (p : S1x336x128.Idx → EReal) (mo v w : S336x128.Idx → EReal) (j : S336x128.Idx) : (k0_pay4 (F := Ideal) p mo v w j : EReal) = sd (p (ix3 0 (j 0) (j 1))) (w j) (mo j) (v j) := by
  pointwise [k0_pay4, k0_pay1, k0_pay2, k0_pay3]

theorem ref_g_at (P : Cert.AdamRRefIdeal.S1x336x128.Idx → EReal) (j : Cert.AdamRRefIdeal.S336x128.Idx) : (REFg P j : EReal) = ∑ q : Fin 1, P (ix3 q (j 0) (j 1)) := by
  pointwise [REFg]
theorem ref_m_at (P : Cert.AdamRRefIdeal.S1x336x128.Idx → EReal) (M : Cert.AdamRRefIdeal.S336x128.Idx → EReal) (j : Cert.AdamRRefIdeal.S336x128.Idx) : (REFm P M j : EReal) = sm (REFg P j) (M j) := by
  rw [ref_g_at]
  pointwise [REFm, REFg]
theorem ref_v_at (P : Cert.AdamRRefIdeal.S1x336x128.Idx → EReal) (N : Cert.AdamRRefIdeal.S336x128.Idx → EReal) (j : Cert.AdamRRefIdeal.S336x128.Idx) : (REFv P N j : EReal) = sv (REFg P j) (N j) := by
  rw [ref_g_at]
  pointwise [REFv, REFg]
theorem ref_d_at (P : Cert.AdamRRefIdeal.S1x336x128.Idx → EReal) (W M N : Cert.AdamRRefIdeal.S336x128.Idx → EReal) (j : Cert.AdamRRefIdeal.S336x128.Idx) : (REFd P W M N j : EReal) = sd (REFg P j) (W j) (M j) (N j) := by
  rw [ref_g_at]
  pointwise [REFd, REFm, REFv, REFg]

theorem point_g (c : Dev nD) (t : Fin cfg0.N) (y : S336x128.Idx) : (show EReal from iblk m c 0 t (ix3 0 (y 0) (y 1)))
    = REFg (m ((c : Thread nD τ).loc main_arg0)) (((cfg0.win 4).blk t).view.emb y) := by
  refine Eq.trans ?_ (ref_g_at _ _).symm
  rw [Fin.sum_univ_one]
  blk_point [iblk, V, idx t]

theorem at1 (c : Dev nD) (t : Fin cfg0.N) (y : S336x128.Idx) : (show EReal from iblk m c 1 t y) = m ((c : Thread nD τ).loc main_arg1) (((cfg0.win 4).blk t).view.emb y) := by
  blk_point [iblk, V, idx t]
theorem at2 (c : Dev nD) (t : Fin cfg0.N) (y : S336x128.Idx) : (show EReal from iblk m c 2 t y) = m ((c : Thread nD τ).loc main_arg2) (((cfg0.win 4).blk t).view.emb y) := by
  blk_point [iblk, V, idx t]
theorem at3 (c : Dev nD) (t : Fin cfg0.N) (y : S336x128.Idx) : (show EReal from iblk m c 3 t y) = m ((c : Thread nD τ).loc main_arg3) (((cfg0.win 4).blk t).view.emb y) := by
  blk_point [iblk, V, idx t]

/-- The four outputs have the same blocks. -/
theorem embs5 (t : Fin cfg0.N) (y : S336x128.Idx) : ((cfg0.win 4).blk t).view.emb y = ((cfg0.win 5).blk t).view.emb y := by
  blk_ext [idx t]

theorem fin4 (c : Dev nD) : (dats m 0 c).arrAt 4 (cfgs 0).N = REFg (m ((c : Thread nD τ).loc main_arg0)) := by
  refine (dats m 0 c).arrAt_eq_of_covers 4 _ (by decide +kernel) fun t _ y => ?_
  blk_simp
  rw [after0_4]; frame_out
  exact (g_at _ _).trans (point_g m c t y)

theorem fin5 (c : Dev nD) : (dats m 0 c).arrAt 5 (cfgs 0).N = REFd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (d_at _ _ _ _ _).trans (Eq.trans ?_ (ref_d_at _ _ _ _ _).symm)
  exact congr (congr (congr (congrArg sd (point_g m c t y)) (at1 m c t y)) (at2 m c t y)) (at3 m c t y)

theorem fin6 (c : Dev nD) : (dats m 0 c).arrAt 6 (cfgs 0).N = REFm (m ((c : Thread nD τ).loc main_arg0)) (m ((c : Thread nD τ).loc main_arg2)) := by
  refine (dats m 0 c).arrAt_eq_of_covers 6 _ (by decide +kernel) fun t _ y => ?_
  blk_simp
  rw [after0_6]; frame_out
  refine (m_at _ _ _).trans (Eq.trans ?_ (ref_m_at _ _ _).symm)
  exact congr (congrArg sm (point_g m c t y)) (at2 m c t y)

theorem fin7 (c : Dev nD) : (dats m 0 c).arrAt 7 (cfgs 0).N = REFv (m ((c : Thread nD τ).loc main_arg0)) (m ((c : Thread nD τ).loc main_arg3)) := by
  refine (dats m 0 c).arrAt_eq_of_covers 7 _ (by decide +kernel) fun t _ y => ?_
  blk_simp
  rw [after0_7]; frame_out
  refine (v_at _ _ _).trans (Eq.trans ?_ (ref_v_at _ _ _).symm)
  exact congr (congrArg sv (point_g m c t y)) (at3 m c t y)

end Cert.AdamRIdeal.Value
end
-- ==== Proof.AdamSValue.lean ====
/- The optimiser's step: the kernel's arrays are the reference's. -/
module

public import proofs.«01_k».proof.Proof.Gen.AdamSIdeal.Value
public import proofs.«01_k».proof.Proof.Gen.AdamSRefIdeal.Run
public import proofs.«01_k».proof.Proof.AdamStep
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamSIdeal.Value

open Idealize.ShloMosaic Idealize.ShloMosaic.TcCoe Idealize.SL.Sem
open Idealize.ShloMosaic.Pipeline (Dat)
open Cert.AdamSIdeal Cert.AdamSIdeal.Gen
open Cert.AdamStep

variable (m : (ℓ : Loc nD τ sig) → Buf (Elt Ideal) ℓ)

section
open Cert.AdamSRefIdeal Cert.AdamSRefIdeal.Gen
/-- The reference's four results over its arguments: the gradient, the first and second moments and the change of the weight. -/
def REFg (P : FVec Ideal Cert.AdamSRefIdeal.S1x128x128 .f32) : FVec Ideal Cert.AdamSRefIdeal.S128x128 .f32 :=
  Host.reduceAdd P (constant S_ .f32 0x00000000#32) reducesTo_S1x128x128_S128x128_d0 h_S_
def REFm (P : FVec Ideal Cert.AdamSRefIdeal.S1x128x128 .f32) (M : FVec Ideal Cert.AdamSRefIdeal.S128x128 .f32) : FVec Ideal Cert.AdamSRefIdeal.S128x128 .f32 :=
  addf (mulf (broadcastInDim S128x128 ![] bcast_S_S128x128 (constant S_ .f32 0x3F666666#32)) M) (mulf (broadcastInDim S128x128 ![] bcast_S_S128x128 (constant S_ .f32 0x3DCCCCCD#32)) (REFg P))
def REFv (P : FVec Ideal Cert.AdamSRefIdeal.S1x128x128 .f32) (N : FVec Ideal Cert.AdamSRefIdeal.S128x128 .f32) : FVec Ideal Cert.AdamSRefIdeal.S128x128 .f32 :=
  addf (mulf (broadcastInDim S128x128 ![] bcast_S_S128x128 (constant S_ .f32 0x3F7FBE77#32)) N) (mulf (broadcastInDim S128x128 ![] bcast_S_S128x128 (constant S_ .f32 0x3A83126F#32)) (mulf (REFg P) (REFg P)))
def REFd (P : FVec Ideal Cert.AdamSRefIdeal.S1x128x128 .f32) (W M N : FVec Ideal Cert.AdamSRefIdeal.S128x128 .f32) : FVec Ideal Cert.AdamSRefIdeal.S128x128 .f32 :=
  mulf (broadcastInDim S128x128 ![] bcast_S_S128x128 (constant S_ .f32 0xBA83126F#32)) (addf (Host.divf (Host.divf (REFm P M) (broadcastInDim S128x128 ![] bcast_S_S128x128 (constant S_ .f32 0x3F26BD02#32))) (addf (Host.sqrt (Host.divf (REFv P N) (broadcastInDim S128x128 ![] bcast_S_S128x128 (constant S_ .f32 0x3C231ACC#32)))) (broadcastInDim S128x128 ![] bcast_S_S128x128 (constant S_ .f32 0x322BCC77#32)))) (mulf (broadcastInDim S128x128 ![] bcast_S_S128x128 (constant S_ .f32 0x3C23D70A#32)) W))
end

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem g_at (p : S1x128x128.Idx → EReal) (j : S128x128.Idx) : (k0_pay1 (F := Ideal) p j : EReal) = p (ix3 0 (j 0) (j 1)) := by
  pointwise [k0_pay1]
theorem m_at (p : S1x128x128.Idx → EReal) (mo : S128x128.Idx → EReal) (j : S128x128.Idx) : (k0_pay2 (F := Ideal) p mo j : EReal) = sm (p (ix3 0 (j 0) (j 1))) (mo j) := by
  pointwise [k0_pay2, k0_pay1]
theorem v_at (p : S1x128x128.Idx → EReal) (v : S128x128.Idx → EReal) (j : S128x128.Idx) : (k0_pay3 (F := Ideal) p v j : EReal) = sv (p (ix3 0 (j 0) (j 1))) (v j) := by
  pointwise [k0_pay3, k0_pay1]
theorem d_at (p : S1x128x128.Idx → EReal) (mo v w : S128x128.Idx → EReal) (j : S128x128.Idx) : (k0_pay4 (F := Ideal) p mo v w j : EReal) = sd (p (ix3 0 (j 0) (j 1))) (w j) (mo j) (v j) := by
  pointwise [k0_pay4, k0_pay1, k0_pay2, k0_pay3]

theorem ref_g_at (P : Cert.AdamSRefIdeal.S1x128x128.Idx → EReal) (j : Cert.AdamSRefIdeal.S128x128.Idx) : (REFg P j : EReal) = ∑ q : Fin 1, P (ix3 q (j 0) (j 1)) := by
  pointwise [REFg]
theorem ref_m_at (P : Cert.AdamSRefIdeal.S1x128x128.Idx → EReal) (M : Cert.AdamSRefIdeal.S128x128.Idx → EReal) (j : Cert.AdamSRefIdeal.S128x128.Idx) : (REFm P M j : EReal) = sm (REFg P j) (M j) := by
  rw [ref_g_at]
  pointwise [REFm, REFg]
theorem ref_v_at (P : Cert.AdamSRefIdeal.S1x128x128.Idx → EReal) (N : Cert.AdamSRefIdeal.S128x128.Idx → EReal) (j : Cert.AdamSRefIdeal.S128x128.Idx) : (REFv P N j : EReal) = sv (REFg P j) (N j) := by
  rw [ref_g_at]
  pointwise [REFv, REFg]
theorem ref_d_at (P : Cert.AdamSRefIdeal.S1x128x128.Idx → EReal) (W M N : Cert.AdamSRefIdeal.S128x128.Idx → EReal) (j : Cert.AdamSRefIdeal.S128x128.Idx) : (REFd P W M N j : EReal) = sd (REFg P j) (W j) (M j) (N j) := by
  rw [ref_g_at]
  pointwise [REFd, REFm, REFv, REFg]

theorem point_g (c : Dev nD) (t : Fin cfg0.N) (y : S128x128.Idx) : (show EReal from iblk m c 0 t (ix3 0 (y 0) (y 1)))
    = REFg (m ((c : Thread nD τ).loc main_arg0)) (((cfg0.win 4).blk t).view.emb y) := by
  refine Eq.trans ?_ (ref_g_at _ _).symm
  rw [Fin.sum_univ_one]
  blk_point [iblk, V, idx t]

theorem at1 (c : Dev nD) (t : Fin cfg0.N) (y : S128x128.Idx) : (show EReal from iblk m c 1 t y) = m ((c : Thread nD τ).loc main_arg1) (((cfg0.win 4).blk t).view.emb y) := by
  blk_point [iblk, V, idx t]
theorem at2 (c : Dev nD) (t : Fin cfg0.N) (y : S128x128.Idx) : (show EReal from iblk m c 2 t y) = m ((c : Thread nD τ).loc main_arg2) (((cfg0.win 4).blk t).view.emb y) := by
  blk_point [iblk, V, idx t]
theorem at3 (c : Dev nD) (t : Fin cfg0.N) (y : S128x128.Idx) : (show EReal from iblk m c 3 t y) = m ((c : Thread nD τ).loc main_arg3) (((cfg0.win 4).blk t).view.emb y) := by
  blk_point [iblk, V, idx t]

/-- The four outputs have the same blocks. -/
theorem embs5 (t : Fin cfg0.N) (y : S128x128.Idx) : ((cfg0.win 4).blk t).view.emb y = ((cfg0.win 5).blk t).view.emb y := by
  blk_ext [idx t]

theorem fin4 (c : Dev nD) : (dats m 0 c).arrAt 4 (cfgs 0).N = REFg (m ((c : Thread nD τ).loc main_arg0)) := by
  refine (dats m 0 c).arrAt_eq_of_covers 4 _ (by decide +kernel) fun t _ y => ?_
  blk_simp
  rw [after0_4]; frame_out
  exact (g_at _ _).trans (point_g m c t y)

theorem fin5 (c : Dev nD) : (dats m 0 c).arrAt 5 (cfgs 0).N = REFd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (d_at _ _ _ _ _).trans (Eq.trans ?_ (ref_d_at _ _ _ _ _).symm)
  exact congr (congr (congr (congrArg sd (point_g m c t y)) (at1 m c t y)) (at2 m c t y)) (at3 m c t y)

theorem fin6 (c : Dev nD) : (dats m 0 c).arrAt 6 (cfgs 0).N = REFm (m ((c : Thread nD τ).loc main_arg0)) (m ((c : Thread nD τ).loc main_arg2)) := by
  refine (dats m 0 c).arrAt_eq_of_covers 6 _ (by decide +kernel) fun t _ y => ?_
  blk_simp
  rw [after0_6]; frame_out
  refine (m_at _ _ _).trans (Eq.trans ?_ (ref_m_at _ _ _).symm)
  exact congr (congrArg sm (point_g m c t y)) (at2 m c t y)

theorem fin7 (c : Dev nD) : (dats m 0 c).arrAt 7 (cfgs 0).N = REFv (m ((c : Thread nD τ).loc main_arg0)) (m ((c : Thread nD τ).loc main_arg3)) := by
  refine (dats m 0 c).arrAt_eq_of_covers 7 _ (by decide +kernel) fun t _ y => ?_
  blk_simp
  rw [after0_7]; frame_out
  refine (v_at _ _ _).trans (Eq.trans ?_ (ref_v_at _ _ _).symm)
  exact congr (congrArg sv (point_g m c t y)) (at3 m c t y)

end Cert.AdamSIdeal.Value
end
-- ==== Proof.FlashReal.lean ====
module

public import Idealize.ShloMosaic.Lib.Pointwise

@[expose] public section

noncomputable section

/-! # The gradient of chunked attention over the reals

The step's mathematics, over real inputs: what the kernel and the reference are both read against. -/

namespace Cert.Attn

open Idealize.ShloMosaic

/-- A sum of reals among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals. -/
theorem coe_div {y : ℝ} (h : y ≠ 0) (x : ℝ) : Ideal.div (x : EReal) (y : EReal) = ((x / y : ℝ) : EReal) := by
  rw [Ideal.div_coe h, ← EReal.coe_mul, div_eq_mul_one_div x y]

/-- A maximum of extended reals of which none is infinite from above and one is real is real. -/
theorem fold_max_real {ι : Type*} [Fintype ι] (f : ι → EReal) (i0 : ι) (h0 : f i0 ≠ ⊥) (ht : ∀ i, f i ≠ ⊤) :
    ∃ M : ℝ, (Finset.univ : Finset ι).fold max ⊥ f = (M : EReal) := by
  have h : (Finset.univ : Finset ι).fold max ⊥ f = Finset.univ.sup f := rfl
  rw [h]
  obtain ⟨i, -, hi⟩ := Finset.exists_mem_eq_sup Finset.univ ⟨i0, Finset.mem_univ _⟩ f
  have hb : Finset.univ.sup f ≠ ⊥ := fun hb => h0 (le_bot_iff.mp (hb ▸ Finset.le_sup (Finset.mem_univ i0)))
  exact ⟨_, (EReal.coe_toReal (hi ▸ ht i) hb).symm⟩

/-- The chunk of a position, as the host computes it: floor division of the word by 64. -/
def chunkW (a : BitVec 32) : BitVec 32 :=
  Scalar.select
    (IntOp.andi
      (IntOp.cmpi (w := 32) CmpIPredicate.ne (if a = 0 then 0 else if a.msb = true then -1 else 1)
        (if (64#32 : BitVec 32) = 0 then 0 else if BitVec.msb (64#32 : BitVec 32) = true then -1 else 1))
      (IntOp.cmpi CmpIPredicate.ne (IntOp.remsi ArithUnit.host a 64#32) 0#32))
    (IntOp.subi (IntOp.divsi ArithUnit.host a 64#32) 1#32)
    (IntOp.divsi ArithUnit.host a 64#32)

theorem chunkW_at : ∀ a : Fin 4096, chunkW (BitVec.ofNat 32 a) = BitVec.ofNat 32 (a / 64) := by decide +kernel
theorem chunk_le : ∀ a b : Fin 64, IntOp.cmpi CmpIPredicate.sle (BitVec.ofNat 32 a) (BitVec.ofNat 32 b) = if a.val ≤ b.val then 1#1 else 0#1 := by decide +kernel
theorem chunk_mask (x y : Fin 4096) : IntOp.cmpi CmpIPredicate.sle (chunkW (BitVec.ofNat 32 y)) (chunkW (BitVec.ofNat 32 x)) = if y.val / 64 ≤ x.val / 64 then 1#1 else 0#1 := by
  rw [chunkW_at, chunkW_at]
  exact chunk_le ⟨y.val / 64, by omega⟩ ⟨x.val / 64, by omega⟩

theorem neg_inf : Ideal.ofBits .f32 0xFF800000#32 = ⊥ := by simp [Ideal.ofBits, Ideal.ieee]

/-- A choice under a decided mask. -/
theorem sel_mask {α : Type} (p : Prop) [Decidable p] (a b : α) : Scalar.select (if p then 1#1 else 0#1) a b = if p then a else b := by
  by_cases h : p <;> simp [h, Scalar.select]

/-- The exponential of a masked score. -/
theorem exp_mask (p : Prop) [Decidable p] (s M : ℝ) : Ideal.exp ((if p then (s : EReal) else ⊥) - (M : EReal)) = ((if p then Real.exp (s - M) else 0 : ℝ) : EReal) := by
  by_cases h : p
  · rw [if_pos h, if_pos h, ← EReal.coe_sub]; rfl
  · rw [if_neg h, if_neg h]; rfl

/-- The maximum of a row of masked scores, of which the row's own is visible. -/
theorem max_row (s : ℕ → ℝ) (x : Fin 4096) : ∃ M : ℝ, ((Finset.univ : Finset (Fin 4096)).fold max ⊥ fun y : Fin 4096 => if y.val / 64 ≤ x.val / 64 then ((s y : ℝ) : EReal) else ⊥) = (M : EReal) := by
  refine fold_max_real _ x ?_ fun y => ?_
  · show (if x.val / 64 ≤ x.val / 64 then _ else _) ≠ _
    rw [if_pos le_rfl]; exact EReal.coe_ne_bot _
  · show (if _ then _ else _) ≠ _
    split
    · exact EReal.coe_ne_top _
    · exact bot_ne_top

/-- The scale of the scores. -/
def sigma : ℝ := (Ideal.ofBits .f32 0x3D93CD3A#32).toReal
theorem sigma_coe : Ideal.ofBits .f32 0x3D93CD3A#32 = ((sigma : ℝ) : EReal) := by
  refine (EReal.coe_toReal ?_ ?_).symm
  all_goals simp [Ideal.ofBits, Ideal.ieee, -EReal.coe_mul]

/-- The six inputs as real tables. -/
structure Inp where
  q : ℕ → ℕ → ℝ
  kv : ℕ → ℕ → ℝ
  pe : ℕ → ℕ → ℝ
  co : ℕ → ℕ → ℝ
  si : ℕ → ℕ → ℝ
  dO : ℕ → ℕ → ℝ

/-- The rotation of a row of 64, by halves, and its transpose. -/
def rope (a c s : ℕ → ℝ) (d : ℕ) : ℝ := if d < 32 then a d * c d - a (32 + d) * s d else a d * c (d - 32) + a (d - 32) * s (d - 32)
def ropeT (a c s : ℕ → ℝ) (d : ℕ) : ℝ := if d < 32 then a (32 + d) * s d + a d * c d else a d * c (d - 32) + -a (d - 32) * s (d - 32)

namespace Inp

variable (I : Inp)

def qn (h x d : ℕ) : ℝ := I.q x (h * 192 + d)
def qp (h x d : ℕ) : ℝ := rope (fun e => I.q x (h * 192 + (128 + e))) (I.co x) (I.si x) d
def kn (h y d : ℕ) : ℝ := I.kv y (h * 256 + d)
def vv (h y d : ℕ) : ℝ := I.kv y (h * 256 + (128 + d))
def kp (y d : ℕ) : ℝ := rope (I.pe y) (I.co y) (I.si y) d
def dd (h x d : ℕ) : ℝ := I.dO x (h * 128 + d)
/-- The score of key `y` for query `x`, its exponential where the key is visible, the row sum, the probability. -/
def sc (h x y : ℕ) : ℝ := ((∑ d : Fin 128, I.qn h x d * I.kn h y d) + ∑ d : Fin 64, I.kp y d * I.qp h x d) * sigma
def ex (M : ℝ) (h x y : ℕ) : ℝ := if y / 64 ≤ x / 64 then Real.exp (I.sc h x y - M) else 0
def L (M : ℝ) (h x : ℕ) : ℝ := ∑ y : Fin 4096, I.ex M h x y
def pr (h x y : ℕ) : ℝ := I.ex 0 h x y / I.L 0 h x
def dp (h x y : ℕ) : ℝ := ∑ d : Fin 128, I.dd h x d * I.vv h y d
def de (h x : ℕ) : ℝ := ∑ y : Fin 4096, I.pr h x y * I.dp h x y
def ds (h x y : ℕ) : ℝ := I.pr h x y * (I.dp h x y - I.de h x)

/-- The gradients. -/
def dq (h x d : ℕ) : ℝ := if d < 128 then ∑ y : Fin 4096, I.ds h x y * sigma * I.kn h y d
  else if d < 192 then ropeT (fun e => ∑ y : Fin 4096, I.ds h x y * sigma * I.kp y e) (I.co x) (I.si x) (d - 128) else 0
def dkv (h y d : ℕ) : ℝ := if d < 128 then ∑ x : Fin 4096, I.ds h x y * sigma * I.qn h x d else ∑ x : Fin 4096, I.dd h x (d - 128) * I.pr h x y
def dpe (y e : ℕ) : ℝ := if e < 64 then ropeT (fun e => ∑ h : Fin 16, ∑ x : Fin 4096, I.ds h x y * sigma * I.qp h x e) (I.co y) (I.si y) e else 0

theorem ex_shift (M : ℝ) (h x y : ℕ) : I.ex M h x y = I.ex 0 h x y * Real.exp (-M) := by
  unfold ex; split
  · rw [sub_zero, ← Real.exp_add, sub_eq_add_neg]
  · rw [zero_mul]
theorem L_shift (M : ℝ) (h x : ℕ) : I.L M h x = I.L 0 h x * Real.exp (-M) := by
  unfold L; rw [Finset.sum_mul]; exact Finset.sum_congr rfl fun y _ => I.ex_shift M h x y
theorem ex_nonneg (M : ℝ) (h x y : ℕ) : 0 ≤ I.ex M h x y := by
  unfold ex; split
  · exact (Real.exp_pos _).le
  · exact le_rfl
theorem L_pos (M : ℝ) (h x : ℕ) (hx : x < 4096) : 0 < I.L M h x := by
  refine lt_of_lt_of_le ?_ (Finset.single_le_sum (f := fun y : Fin 4096 => I.ex M h x y) (fun y _ => I.ex_nonneg M h x y) (Finset.mem_univ (⟨x, hx⟩ : Fin 4096)))
  show 0 < I.ex M h x x
  rw [ex, if_pos le_rfl]; exact Real.exp_pos _
theorem pr_eq (M : ℝ) (h x y : ℕ) : I.ex M h x y / I.L M h x = I.pr h x y := by
  rw [ex_shift, L_shift, pr, mul_div_mul_right _ _ (Real.exp_pos _).ne']
theorem pr_hidden (h x y : ℕ) (hv : ¬ y / 64 ≤ x / 64) : I.pr h x y = 0 := by rw [pr, ex, if_neg hv, zero_div]
theorem pr_log (M : ℝ) (h x y : ℕ) (hx : x < 4096) (hv : y / 64 ≤ x / 64) : Real.exp (I.sc h x y - (M + Real.log (I.L M h x))) = I.pr h x y := by
  rw [← I.pr_eq M, ex, if_pos hv, ← sub_sub, Real.exp_sub, Real.exp_log (I.L_pos M h x hx)]
theorem ds_hidden (h x y : ℕ) (hv : ¬ y / 64 ≤ x / 64) : I.ds h x y = 0 := by rw [ds, I.pr_hidden h x y hv, zero_mul]

/-- The reference's spelling of the gradient of the scores. -/
theorem ds_ref (M : ℝ) (h x y : ℕ) (hx : x < 4096) :
    (I.dp h x y / I.L M h x + -∑ z : Fin 4096, I.dp h x z * (1 / (I.L M h x * I.L M h x)) * I.ex M h x z) * I.ex M h x y = I.ds h x y := by
  have hL := (I.L_pos M h x hx).ne'
  have e : ∑ z : Fin 4096, I.dp h x z * (1 / (I.L M h x * I.L M h x)) * I.ex M h x z = I.de h x / I.L M h x := by
    rw [de, Finset.sum_div]
    refine Finset.sum_congr rfl fun z _ => ?_
    rw [← I.pr_eq M]; field_simp
  rw [e, ds, ← I.pr_eq M]; field_simp; ring

/-- The padded rows that the kernel multiplies, and the tables of its transposed rotation. -/
def qq (h x d : ℕ) : ℝ := sigma * (if d < 128 then I.qn h x d else if d - 128 < 64 then I.qp h x (d - 128) else 0)
def kk (h y d : ℕ) : ℝ := if d < 128 then I.kn h y d else if d - 128 < 64 then I.kp y (d - 128) else 0
def ck (x e : ℕ) : ℝ := if e < 32 then I.co x e else if e - 32 < 32 then I.co x (e - 32) else 0
def sk (x e : ℕ) : ℝ := if e < 32 then -I.si x e else if e - 32 < 32 then I.si x (e - 32) else 0
def cq (x d : ℕ) : ℝ := sigma * (if d < 128 then 1 else I.ck x (d - 128))
def sq (x d : ℕ) : ℝ := sigma * (if d < 128 then 0 else I.sk x (d - 128))

theorem sc_eq (h x y : ℕ) : ∑ d : Fin 256, I.kk h y d * I.qq h x d = I.sc h x y := by
  rw [Fin.sum_univ_two_halves 128 128 rfl, Fin.sum_univ_two_halves (N := 128) 64 64 rfl (fun k => I.kk h y (⟨128 + k.val, by omega⟩ : Fin 256) * I.qq h x (⟨128 + k.val, by omega⟩ : Fin 256)), sc, add_mul, Finset.sum_mul, Finset.sum_mul]
  have z : ∑ k : Fin 64, I.kk h y (128 + (64 + k.val)) * I.qq h x (128 + (64 + k.val)) = 0 := by
    refine Finset.sum_eq_zero fun k _ => ?_
    rw [kk, if_neg (by omega), if_neg (by omega), zero_mul]
  refine congrArg₂ (· + ·) (Finset.sum_congr rfl fun d _ => ?_) (((congrArg₂ (· + ·) (Finset.sum_congr rfl fun d _ => ?_) z).trans (add_zero _)))
  · show I.kk h y d * I.qq h x d = _
    rw [kk, qq, if_pos d.isLt, if_pos d.isLt]; ring
  · show I.kk h y (128 + d.val) * I.qq h x (128 + d.val) = I.kp y d * I.qp h x d * sigma
    have hd := d.isLt
    have h1 : ¬ 128 + d.val < 128 := by omega
    have h2 : 128 + d.val - 128 < 64 := by omega
    simp only [kk, qq, h1, h2, hd, if_true, if_false, Nat.add_sub_cancel_left]; ring

theorem de_eq (h x : ℕ) : ∑ d : Fin 128, I.dd h x d * ∑ y : Fin 4096, I.vv h y d * I.pr h x y = I.de h x := by
  simp only [de, dp, Finset.mul_sum]
  rw [Finset.sum_comm]
  exact Finset.sum_congr rfl fun y _ => Finset.sum_congr rfl fun d _ => by ring

end Inp

/-- Sums over the tiles from a position's own to the last, or from the first to its own, of a function that vanishes on the others. -/
theorem sum_tiles (f : ℕ → ℝ) : ∑ J ∈ Finset.range 8, ∑ r : Fin 512, f (J * 512 + r) = ∑ x : Fin 4096, f x := by
  rw [Fin.sum_univ_tiles 8 512 rfl (fun x : Fin 4096 => f x)]
  exact (Fin.sum_univ_eq_sum_range (fun J => ∑ r : Fin 512, f (J * 512 + r)) 8).symm
theorem sum_upper (f : ℕ → ℝ) (n : ℕ) (hz : ∀ x, x / 512 < n → f x = 0) : ∑ J ∈ Finset.Ico n 8, ∑ r : Fin 512, f (J * 512 + r) = ∑ x : Fin 4096, f x := by
  rw [← sum_tiles]
  refine Finset.sum_subset (fun J hJ => Finset.mem_range.mpr (Finset.mem_Ico.mp hJ).2) fun J hJ hn => Finset.sum_eq_zero fun r _ => hz _ ?_
  have h1 := Finset.mem_range.mp hJ
  have h2 : J < n := by
    by_contra hc
    exact hn (Finset.mem_Ico.mpr ⟨by omega, h1⟩)
  have := r.isLt
  omega
theorem sum_lower (f : ℕ → ℝ) (n : ℕ) (hn : n < 8) (hz : ∀ x, n < x / 512 → f x = 0) : ∑ J ∈ Finset.range (n + 1), ∑ r : Fin 512, f (J * 512 + r) = ∑ x : Fin 4096, f x := by
  rw [← sum_tiles]
  refine Finset.sum_subset (fun J hJ => Finset.mem_range.mpr (by have := Finset.mem_range.mp hJ; omega)) fun J hJ hm => Finset.sum_eq_zero fun r _ => hz _ ?_
  have h2 : ¬ J < n + 1 := fun hc => hm (Finset.mem_range.mpr hc)
  have := r.isLt
  omega

end Cert.Attn

end
-- ==== Proof.FlashRun.lean ====
module

public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.FrameValue
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

/-- The proof's user algebra: the pipeline library's beside the transfers' counters. -/
local notation "𝕄" => MT nD τ sig Unit (Elt F) ℕ (Pipeline.UD sig nD τ) ℕ

/-! ## The body's operands -/

abbrev tbM2 : Memref sig .tc .smem S36 .i32 := Memref.whole main_c
abbrev tbM3 : Memref sig .tc .smem S36 .i32 := Memref.whole main_c_0
abbrev dkM : Memref sig .tc .vmem S2x512x256 .f32 := Memref.whole cc0_scratch0
abbrev dvM : Memref sig .tc .vmem S2x512x128 .f32 := Memref.whole cc0_scratch1
abbrev dqM : Memref sig .tc .vmem S2x256x4096 .f32 := Memref.whole cc0_scratch2
abbrev dlM : Memref sig .tc .vmem S2x1x4096 .f32 := Memref.whole cc0_scratch3
abbrev peM : Memref sig .tc .vmem S4096x128 .f32 := Memref.whole cc0_scratch4
abbrev dqsM : Memref sig .tc .vmem S512x512 .bf16 := Memref.whole cc0_scratch5
abbrev pesM : Memref sig .tc .vmem S512x128 .f32 := Memref.whole cc0_scratch6
abbrev dqH : Memref sig .tc .hbm S4096x4096 .bf16 := Memref.whole main_v87_0
abbrev peH : Memref sig .tc .hbm S4096x128 .f32 := Memref.whole main_v87_2
/-- A buffer's contents through a memref, on core `c`. -/
abbrev Bf (c : Dev nD) {sp : Space} {S : Shape} {e : EltTy} (M : Memref sig .tc sp S e) : Type := Buf (Elt F) (M.view.loc (c : Thread nD τ))
/-- A buffer held whole at contents. -/
abbrev pt (c : Dev nD) {sp : Space} {S : Shape} {e : EltTy} (M : Memref sig .tc sp S e) (f : Bf (F := F) c M) : sProp 𝕄 :=
  M.view.loc (c : Thread nD τ) ↦{fullShare} f
/-- A table held at the half of it the region hands the body. -/
abbrev tpt (c : Dev nD) {S : Shape} {e : EltTy} (M : Memref sig .tc .smem S e) (f : Bf (F := F) c M) : sProp 𝕄 :=
  M.view.loc (c : Thread nD τ) ↦{fullShare.right} f
/-- A staging buffer held at the contents it reads. -/
abbrev spt (c : Dev nD) {S : Shape} {e : EltTy} (M : Memref sig .tc .vmem S e) (h : M.IsWhole) (x : Vec F S e) : sProp 𝕄 :=
  M.view.loc (c : Thread nD τ) ↦[M.view.set]{fullShare} (h.unread x)

/-- What the kernel carries from point to point. -/
structure St (F : FTy → Type) where
  dk : Vec F S2x512x256 .f32
  dv : Vec F S2x512x128 .f32
  dq : Vec F S2x256x4096 .f32
  dl : Vec F S2x1x4096 .f32
  pe : Vec F S4096x128 .f32
  dqs : Vec F S512x512 .bf16
  pes : Vec F S512x128 .f32
  hq : Vec F S4096x4096 .bf16
  hp : Vec F S4096x128 .f32

/-- The carried buffers, held. -/
abbrev stPt (c : Dev nD) (s : St F) : sProp 𝕄 :=
  iprop(pt c dkM s.dk ∗ pt c dvM s.dv ∗ pt c dqM s.dq ∗ pt c dlM s.dl ∗ pt c peM s.pe ∗ pt c dqsM s.dqs ∗ pt c pesM s.pes
    ∗ pt c dqH s.hq ∗ pt c peH s.hp)

/-- The word a table's load at a point reads. -/
abbrev wd (c : Dev nD) (i : grid0.Coords) (M : Memref sig .tc .smem S36 .i32) (T : Bf (F := F) c M) : Elt F .i32 :=
  (M.access (Rect.unit (s := S36) (k0_off1 i) S1.size (k0_off1_inb i))).read (Elt F) T (Shape.Idx.first (numel1_S1.symm ▸ Nat.one_pos))

set_option maxHeartbeats 400000 in
set_option sl_exec.resultNames true in
/-- The body at a point whose words are `v1` and `v3`, from any carried contents. -/
noncomputable def kernelRun (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S2x1x512 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x128 .f32) (harg13 : arg13.IsWhole) (arg14 : Memref sig .tc .vmem S512x128 .f32) (harg14 : arg14.IsWhole) (arg16 : Memref sig .tc .vmem S512x512 .bf16) (harg16 : arg16.IsWhole)
    (x4 : Vec F S512x512 .bf16) (x5 : Vec F S512x512 .bf16) (x6 : Vec F S512x512 .bf16) (x7 : Vec F S512x256 .bf16) (x8 : Vec F S512x256 .bf16) (x9 : Vec F S512x256 .bf16) (x10 : Vec F S2x1x512 .f32) (x11 : Vec F S512x256 .f32) (x12 : Vec F S512x256 .f32) (x13 : Vec F S512x128 .f32) (x14 : Vec F S512x128 .f32) (x16 : Vec F S512x512 .bf16) (T2 : Bf (F := F) c tbM2) (T3 : Bf (F := F) c tbM3)
    (hc2 : k0_chk2 (wd c i tbM2 T2)) (hc1 : k0_chk1 i (wd c i tbM2 T2) (wd c i tbM3 T3)) (s : St F) :
    { R : Bf (F := F) c dkM × Bf (F := F) c dvM × Bf (F := F) c dqM × Bf (F := F) c dlM × Bf (F := F) c peM × Bf (F := F) c dqsM × Bf (F := F) c pesM × Bf (F := F) c dqH × Bf (F := F) c peH × Bf (F := F) c arg16 //
      ∀ (W : Waits sig Unit) (K : PUnit → sProp 𝕄),
        iprop(iprop(spt c arg4 harg4 x4 ∗ spt c arg5 harg5 x5 ∗ spt c arg6 harg6 x6 ∗ spt c arg7 harg7 x7 ∗ spt c arg8 harg8 x8 ∗ spt c arg9 harg9 x9 ∗ spt c arg10 harg10 x10 ∗ spt c arg11 harg11 x11 ∗ spt c arg12 harg12 x12 ∗ spt c arg13 harg13 x13 ∗ spt c arg14 harg14 x14) ∗ spt c arg16 harg16 x16
            ∗ tpt c tbM2 T2 ∗ tpt c tbM3 T3 ∗ stPt c s
            ∗ semVal ((c : Thread nD τ), SemLoc.dma 24) 0 ∗ semVal ((c : Thread nD τ), SemLoc.dma 25) 0
            ∗ owes (c : Thread nD τ) 0 W
            ∗ (iprop(iprop(spt c arg4 harg4 x4 ∗ spt c arg5 harg5 x5 ∗ spt c arg6 harg6 x6 ∗ spt c arg7 harg7 x7 ∗ spt c arg8 harg8 x8 ∗ spt c arg9 harg9 x9 ∗ spt c arg10 harg10 x10 ∗ spt c arg11 harg11 x11 ∗ spt c arg12 harg12 x12 ∗ spt c arg13 harg13 x13 ∗ spt c arg14 harg14 x14) ∗ (arg16.view.loc (c : Thread nD τ) ↦[arg16.view.set]{fullShare} R.2.2.2.2.2.2.2.2.2)
            ∗ tpt c tbM2 T2 ∗ tpt c tbM3 T3 ∗ iprop(pt c dkM R.1 ∗ pt c dvM R.2.1 ∗ pt c dqM R.2.2.1 ∗ pt c dlM R.2.2.2.1 ∗ pt c peM R.2.2.2.2.1 ∗ pt c dqsM R.2.2.2.2.2.1 ∗ pt c pesM R.2.2.2.2.2.2.1 ∗ pt c dqH R.2.2.2.2.2.2.2.1 ∗ pt c peH R.2.2.2.2.2.2.2.2.1)
            ∗ semVal ((c : Thread nD τ), SemLoc.dma 24) 0 ∗ semVal ((c : Thread nD τ), SemLoc.dma 25) 0
            ∗ (∃ W', owes (c : Thread nD τ) 0 W')) -∗ K ⟨⟩))
          ⊢ wp frame (wpE (defs₀ (F := F)) Variants.none c none) Set.univ
              (cc0_mla_attn_bwd i tbM2 (Memref.isWhole_whole _) tbM3 (Memref.isWhole_whole _) arg4 harg4 arg5 harg5 arg6 harg6 arg7 harg7 arg8 harg8 arg9 harg9 arg10 harg10 arg11 harg11 arg12 harg12 arg13 harg13 arg14 harg14 dqH (Memref.isWhole_whole _) arg16 harg16 peH (Memref.isWhole_whole _) dkM (Memref.isWhole_whole _) dvM (Memref.isWhole_whole _) dqM (Memref.isWhole_whole _) dlM (Memref.isWhole_whole _) peM (Memref.isWhole_whole _) dqsM (Memref.isWhole_whole _) pesM (Memref.isWhole_whole _) cc0_scratch7) K } := by
  refine ⟨⟨?_, ?_, ?_, ?_, ?_, ?_, ?_, ?_, ?_, ?_⟩, fun W K => ?run⟩
  case run =>
    dsimp only
    simp only [cc0_mla_attn_bwd_eq_skeleton, k0_part1_eq_skeleton, k0_part2_eq_skeleton, k0_part3_eq_skeleton, k0_part4_eq_skeleton, k0_part5_eq_skeleton, k0_part6_eq_skeleton, k0_part7_eq_skeleton]; unfold cc0_mla_attn_bwd_skel
    iintro ⟨⟨H4, H5, H6, H7, H8, H9, H10, H11, H12, H13, H14⟩, H16, HT2, HT3, ⟨Hdk, Hdv, Hdq, Hdl, Hpe, Hdqs, Hpes, Hhq, Hhp⟩, Hq0, Hq1, HW, Hk⟩
    sl_exec (disch := first | exact hc2 | exact hc1)
    sl_step
    iapply Hk
    isplitl [H4 H5 H6 H7 H8 H9 H10 H11 H12 H13 H14]
    · isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H16]; · iexact H16
    isplitl [HT2]; · iexact HT2
    isplitl [HT3]; · iexact HT3
    isplitl [Hdk Hdv Hdq Hdl Hpe Hdqs Hpes Hhq Hhp]
    · isplitl [Hdk]; · iexact Hdk
      isplitl [Hdv]; · iexact Hdv
      isplitl [Hdq]; · iexact Hdq
      isplitl [Hdl]; · iexact Hdl
      isplitl [Hpe]; · iexact Hpe
      isplitl [Hdqs]; · iexact Hdqs
      isplitl [Hpes]; · iexact Hpes
      isplitl [Hhq]; · iexact Hhq
      iexact Hhp
    isplitl [Hq0]; · iexact Hq0
    isplitl [Hq1]; · iexact Hq1
    iexists _; iexact HW

end Cert.KernelIdeal.Hand

end
-- ==== Proof.FlashTab.lean ====
module

public import proofs.«01_k».proof.Proof.FlashRun
public import Idealize.ShloMosaic.PureOps.BitExact

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

/-! ## The tables and the side conditions they meet -/

/-- The table of the tiles' key blocks, as the host writes it. -/
abbrev tab2 (c : Dev nD) : Bf (F := F) c tbM2 := fun i => lit0 (S36.rowMajor i)
/-- The table of the tiles' query blocks, as the host writes it. -/
abbrev tab3 (c : Dev nD) : Bf (F := F) c tbM3 := fun i => lit1 (S36.rowMajor i)

/-- The two tables' contents. -/
def tabs : pre0.Contents (Elt F) := fun | ⟨0, _⟩ => fun i => lit0 (S36.rowMajor i) | ⟨1, _⟩ => fun i => lit1 (S36.rowMajor i) | ⟨_ + 2, h⟩ => absurd h (by simp)

theorem ok_tabs_bits : ok0 (F := Bits) tabs := by decide +kernel
theorem ok_tabs : ok0 (F := F) tabs := ok_tabs_bits

theorem chk2_bits (c : Dev nD) : ∀ t : Fin grid0.N, k0_chk2 (wd (F := Bits) c (grid0.coords t) tbM2 (tab2 c)) := by revert c; decide +kernel
theorem chk2_at (c : Dev nD) (t : Fin grid0.N) : k0_chk2 (wd (F := F) c (grid0.coords t) tbM2 (tab2 c)) := chk2_bits c t
theorem chk1_bits (c : Dev nD) : ∀ t : Fin grid0.N, k0_chk1 (grid0.coords t) (wd (F := Bits) c (grid0.coords t) tbM2 (tab2 c)) (wd (F := Bits) c (grid0.coords t) tbM3 (tab3 c)) := by revert c; decide +kernel
theorem chk1_at (c : Dev nD) (t : Fin grid0.N) : k0_chk1 (grid0.coords t) (wd (F := F) c (grid0.coords t) tbM2 (tab2 c)) (wd (F := F) c (grid0.coords t) tbM3 (tab3 c)) := chk1_bits c t

end Cert.KernelIdeal.Hand

end
-- ==== Proof.FlashFrame.lean ====
module

public import proofs.«01_k».proof.Proof.FlashTab
public import Idealize.ShloMosaic.Lib.StableHlo.RunRead
public import Idealize.ShloMosaic.Lib.Pipeline.DatRel
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (Pipeline.UD sig nD τ) ℕ

/-! ## What the host code leaves -/

/-- The host operations before the call, in order. -/
abbrev allOps : List (List (HloOp τ sig (Elt F))) := [hostOps0, hostOps0_1, hostOps0_2, hostOps0_3, hostOps0_4]

/-- The arrays the host operations write, in order, after the two tables. -/
def wr : List (Ref sig .tc) := [main_cst, main_v0, main_v1, main_v2, main_v3, main_cst_1, main_v4, main_v5, main_cst_2, main_v6, main_v7, main_cst_3, main_v8, main_v9, main_cst_4, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_cst_5, main_v46, main_v47, main_v48, main_c_6, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v49, main_v50, main_v51, main_v52, main_v53, main_v54, main_cst_7, main_call1_v0, main_call1_v1, main_call1_v2, main_v55, main_cst_8, main_v56, main_v57, main_v58, main_v59, main_v60, main_cst_9, main_v61, main_v62, main_v63, main_v64, main_v65, main_v66, main_v67, main_v68, main_v69, main_v70, main_cst_10, main_v71, main_v72, main_cst_11, main_v73, main_v74, main_v75, main_v76, main_v77, main_v78, main_v79, main_v80, main_v81, main_v82, main_v83, main_v84, main_v85, main_v86]

variable (m : (ℓ : Loc nD τ sig) → Buf (Elt F) ℓ) (g : Dev nD → PrngReg)

/-- What each array holds when the call is entered. -/
def V (c : Dev nD) (b : Ref sig .tc) : Buf (Elt F) ((c.tc : Thread nD τ).loc b) :=
  StableHlo.after (allOps (F := F)).flatten (fun b => m (c, b)) (Proc.devRef .tc b)

/-- The host operations after the two that write the tables. -/
def tailOps : List (HloOp τ sig (Elt F)) := (allOps (F := F)).flatten.drop 2

theorem tailOps_writes : (tailOps (F := F)).map HloOp.writes = wr.map fun w => {Proc.devRef (τ := τ) .tc w} := by rfl

theorem V_tab2 (c : Dev nD) : V m c main_c = tab2 c := by
  unfold V
  rw [show (allOps (F := F)).flatten = StableHlo.nullary main_c (fun i => lit0 (S36.rowMajor i)) :: StableHlo.nullary main_c_0 (fun i => lit1 (S36.rowMajor i)) :: tailOps from rfl,
    StableHlo.after_cons, StableHlo.after_cons, StableHlo.after_unwritten wr tailOps_writes (by decide)]
  rw [StableHlo.nullary_result_ne (h := by decide), StableHlo.nullary_result']

theorem V_tab3 (c : Dev nD) : V m c main_c_0 = tab3 c := by
  unfold V
  rw [show (allOps (F := F)).flatten = StableHlo.nullary main_c (fun i => lit0 (S36.rowMajor i)) :: StableHlo.nullary main_c_0 (fun i => lit1 (S36.rowMajor i)) :: tailOps from rfl,
    StableHlo.after_cons, StableHlo.after_cons, StableHlo.after_unwritten wr tailOps_writes (by decide)]
  rw [StableHlo.nullary_result']

/-- An array no host operation writes holds what it held at the launch. -/
theorem V_arg (c : Dev nD) (b : Ref sig .tc) (h : b ∉ main_c :: main_c_0 :: wr) : V m c b = m ((c.tc : Thread nD τ).loc b) :=
  StableHlo.after_unwritten (main_c :: main_c_0 :: wr) (by rfl) h _

/-! ## The pipeline at the tables' contents -/

/-- The tables' contents, with the side condition they meet. -/
def adm : (pcfg0 (F := F)).Adm := ⟨tabs, ok_tabs⟩
/-- The pipeline at those contents. -/
abbrev cfgT : Cfg sig Λ₀ := pcfg0.at (adm (F := F))

abbrev ms0 (t : Fin (cfgT (F := F)).N) : Memref sig .tc .vmem S512x512 .bf16 := spec0_0.stage ((cfgT (F := F)).slots t 0)
theorem hs0 (t : Fin (cfgT (F := F)).N) : (ms0 (F := F) t).IsWhole := hstage0_0 (((cfgT (F := F)).slots t 0).cast nbuf0_0)

abbrev ms1 (t : Fin (cfgT (F := F)).N) : Memref sig .tc .vmem S512x512 .bf16 := spec0_1.stage ((cfgT (F := F)).slots t 1)
theorem hs1 (t : Fin (cfgT (F := F)).N) : (ms1 (F := F) t).IsWhole := hstage0_1 (((cfgT (F := F)).slots t 1).cast nbuf0_1)

abbrev ms2 (t : Fin (cfgT (F := F)).N) : Memref sig .tc .vmem S512x512 .bf16 := spec0_2.stage ((cfgT (F := F)).slots t 2)
theorem hs2 (t : Fin (cfgT (F := F)).N) : (ms2 (F := F) t).IsWhole := hstage0_2 (((cfgT (F := F)).slots t 2).cast nbuf0_2)

abbrev ms3 (t : Fin (cfgT (F := F)).N) : Memref sig .tc .vmem S512x256 .bf16 := spec0_3.stage ((cfgT (F := F)).slots t 3)
theorem hs3 (t : Fin (cfgT (F := F)).N) : (ms3 (F := F) t).IsWhole := hstage0_3 (((cfgT (F := F)).slots t 3).cast nbuf0_3)

abbrev ms4 (t : Fin (cfgT (F := F)).N) : Memref sig .tc .vmem S512x256 .bf16 := spec0_4.stage ((cfgT (F := F)).slots t 4)
theorem hs4 (t : Fin (cfgT (F := F)).N) : (ms4 (F := F) t).IsWhole := hstage0_4 (((cfgT (F := F)).slots t 4).cast nbuf0_4)

abbrev ms5 (t : Fin (cfgT (F := F)).N) : Memref sig .tc .vmem S512x256 .bf16 := spec0_5.stage ((cfgT (F := F)).slots t 5)
theorem hs5 (t : Fin (cfgT (F := F)).N) : (ms5 (F := F) t).IsWhole := hstage0_5 (((cfgT (F := F)).slots t 5).cast nbuf0_5)

abbrev ms6 (t : Fin (cfgT (F := F)).N) : Memref sig .tc .vmem S2x1x512 .f32 := spec0_6.stage ((cfgT (F := F)).slots t 6)
theorem hs6 (t : Fin (cfgT (F := F)).N) : (ms6 (F := F) t).IsWhole := hstage0_6 (((cfgT (F := F)).slots t 6).cast nbuf0_6)

abbrev ms7 (t : Fin (cfgT (F := F)).N) : Memref sig .tc .vmem S512x256 .f32 := spec0_7.stage ((cfgT (F := F)).slots t 7)
theorem hs7 (t : Fin (cfgT (F := F)).N) : (ms7 (F := F) t).IsWhole := hstage0_7 (((cfgT (F := F)).slots t 7).cast nbuf0_7)

abbrev ms8 (t : Fin (cfgT (F := F)).N) : Memref sig .tc .vmem S512x256 .f32 := spec0_8.stage ((cfgT (F := F)).slots t 8)
theorem hs8 (t : Fin (cfgT (F := F)).N) : (ms8 (F := F) t).IsWhole := hstage0_8 (((cfgT (F := F)).slots t 8).cast nbuf0_8)

abbrev ms9 (t : Fin (cfgT (F := F)).N) : Memref sig .tc .vmem S512x128 .f32 := spec0_9.stage ((cfgT (F := F)).slots t 9)
theorem hs9 (t : Fin (cfgT (F := F)).N) : (ms9 (F := F) t).IsWhole := hstage0_9 (((cfgT (F := F)).slots t 9).cast nbuf0_9)

abbrev ms10 (t : Fin (cfgT (F := F)).N) : Memref sig .tc .vmem S512x128 .f32 := spec0_10.stage ((cfgT (F := F)).slots t 10)
theorem hs10 (t : Fin (cfgT (F := F)).N) : (ms10 (F := F) t).IsWhole := hstage0_10 (((cfgT (F := F)).slots t 10).cast nbuf0_10)

abbrev ms11 (t : Fin (cfgT (F := F)).N) : Memref sig .tc .vmem S512x512 .bf16 := spec0_11.stage ((cfgT (F := F)).slots t 11)
theorem hs11 (t : Fin (cfgT (F := F)).N) : (ms11 (F := F) t).IsWhole := hstage0_11 (((cfgT (F := F)).slots t 11).cast nbuf0_11)

/-- Window `w`'s block at point `t`, read off the array as the call finds it. -/
def iblk (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V m c (Pipeline.arrRef spec0 w))

/-- What one point leaves in the buffers the kernel carries, and in the block of its result. -/
def stepOf (c : Dev nD) (t : Fin (cfgT (F := F)).N) (s : St F) (x16 : Vec F S512x512 .bf16) :=
  (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) x16 (tab2 c) (tab3 c) (chk2_at c t) (chk1_at c t) s)

/-- The carried contents after the point. -/
def nxt (c : Dev nD) (t : Fin (cfgT (F := F)).N) (s : St F) (x16 : Vec F S512x512 .bf16) : St F :=
  ⟨(stepOf m c t s x16).1.1, (stepOf m c t s x16).1.2.1, (stepOf m c t s x16).1.2.2.1, (stepOf m c t s x16).1.2.2.2.1, (stepOf m c t s x16).1.2.2.2.2.1,
    (stepOf m c t s x16).1.2.2.2.2.2.1, (stepOf m c t s x16).1.2.2.2.2.2.2.1, (stepOf m c t s x16).1.2.2.2.2.2.2.2.1, (stepOf m c t s x16).1.2.2.2.2.2.2.2.2.1⟩

/-- The result block after the point. -/
def out16 (c : Dev nD) (t : Fin (cfgT (F := F)).N) (s : St F) (x16 : Vec F S512x512 .bf16) : Vec F S512x512 .bf16 :=
  (ms11 (F := F) t).view.read (Elt F) (stepOf m c t s x16).1.2.2.2.2.2.2.2.2.2

/-- The contents the carried buffers may have when point `n` is entered. -/
def Reach (c : Dev nD) : ℕ → St F → Prop
  | 0, s => s.hq = V m c main_v87_0 ∧ s.hp = V m c main_v87_2
  | n + 1, s' => ∃ (h : n < (cfgT (F := F)).N) (s : St F) (x16 : Vec F S512x512 .bf16), Reach c n s ∧ s' = nxt m c ⟨n, h⟩ s x16

/-! ## The proof data -/

/-- The cells the kernel's own transfers complete on. -/
abbrev osem0 : Fin 2 → SemLoc sig := ![.dma 24, .dma 25]
theorem ownSemFacts0 : Pipeline.OwnSemFacts spec0 osem0 := by decide
/-- The arrays the kernel writes by its own transfers. -/
abbrev R0 : Finset (Ref sig .tc) := {main_v87_0, main_v87_2}
abbrev H0 : Finset (Ref sig .tc) := ∅
theorem H0_sub : H0 ⊆ Pipeline.restRefsP sig pre0 spec0 := by decide
theorem R0_sub : R0 ⊆ Pipeline.restRefsP sig pre0 spec0 \ H0 := by decide

/-- What is held between points. -/
def Phi (c : Dev nD) (t : Fin ((cfgT (F := F)).N + 1)) : sProp 𝕄 :=
  iprop(∃ s : St F, ⌜Reach m c t.val s⌝ ∗ stPt c s ∗ (∃ r, prngReg c r) ∗ semVal ((c : Thread nD τ), SemLoc.dma 24) 0
    ∗ semVal ((c : Thread nD τ), SemLoc.dma 25) 0 ∗ tpt c tbM2 (tab2 c) ∗ tpt c tbM3 (tab3 c))

/-- The exact part of the proof data: each fetched block left as it was found. -/
def dat (c : Dev nD) : Dat τ (Elt F) Unit ℕ (Pipeline.UD sig nD τ) ℕ (cfgT (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ t := Phi m c t
  q w := Pipeline.shareOf spec0 w
  owed _ := 0

/-- The one window held to a relation: the result. -/
def fg : Fin (cfgT (F := F)).W → Bool := fun w => w.val == 11

/-- What the result's block may hold after a point: what the point leaves from contents that may be reached. -/
def Rl (c : Dev nD) (w : Fin (cfgT (F := F)).W) (t : Fin (cfgT (F := F)).N) : (((cfgT (F := F)).win w).block.Idx → Elt F ((cfgT (F := F)).win w).elt) → Prop :=
  match w with
  | ⟨11, _⟩ => fun X => ∃ s x16, Reach m c t.val s ∧ X = out16 m c t s x16
  | _ => fun _ => True

/-- The proof data. -/
abbrev rdat (c : Dev nD) : RDat τ (Elt F) Unit ℕ (Pipeline.UD sig nD τ) ℕ (cfgT (F := F)) c := (dat m c).toRRel fg (Rl m c)

set_option maxHeartbeats 1000000 in
theorem before0 (c : Dev nD) (t : Fin (cfgT (F := F)).N) (d) : (dat m c).before 0 t d = iblk m c 0 t :=
  ((dat m c).before_in_eq_fetched 0 rfl (fun _ => rfl) (fun _ _ _ => rfl) (fun t => by unfold Dat.blockOf; rfl) t d).trans
    (by unfold Dat.fetched Dat.blockOf; rfl)

set_option maxHeartbeats 1000000 in
theorem before1 (c : Dev nD) (t : Fin (cfgT (F := F)).N) (d) : (dat m c).before 1 t d = iblk m c 1 t :=
  ((dat m c).before_in_eq_fetched 1 rfl (fun _ => rfl) (fun _ _ _ => rfl) (fun t => by unfold Dat.blockOf; rfl) t d).trans
    (by unfold Dat.fetched Dat.blockOf; rfl)

set_option maxHeartbeats 1000000 in
theorem before2 (c : Dev nD) (t : Fin (cfgT (F := F)).N) (d) : (dat m c).before 2 t d = iblk m c 2 t :=
  ((dat m c).before_in_eq_fetched 2 rfl (fun _ => rfl) (fun _ _ _ => rfl) (fun t => by unfold Dat.blockOf; rfl) t d).trans
    (by unfold Dat.fetched Dat.blockOf; rfl)

set_option maxHeartbeats 1000000 in
theorem before3 (c : Dev nD) (t : Fin (cfgT (F := F)).N) (d) : (dat m c).before 3 t d = iblk m c 3 t :=
  ((dat m c).before_in_eq_fetched 3 rfl (fun _ => rfl) (fun _ _ _ => rfl) (fun t => by unfold Dat.blockOf; rfl) t d).trans
    (by unfold Dat.fetched Dat.blockOf; rfl)

set_option maxHeartbeats 1000000 in
theorem before4 (c : Dev nD) (t : Fin (cfgT (F := F)).N) (d) : (dat m c).before 4 t d = iblk m c 4 t :=
  ((dat m c).before_in_eq_fetched 4 rfl (fun _ => rfl) (fun _ _ _ => rfl) (fun t => by unfold Dat.blockOf; rfl) t d).trans
    (by unfold Dat.fetched Dat.blockOf; rfl)

set_option maxHeartbeats 1000000 in
theorem before5 (c : Dev nD) (t : Fin (cfgT (F := F)).N) (d) : (dat m c).before 5 t d = iblk m c 5 t :=
  ((dat m c).before_in_eq_fetched 5 rfl (fun _ => rfl) (fun _ _ _ => rfl) (fun t => by unfold Dat.blockOf; rfl) t d).trans
    (by unfold Dat.fetched Dat.blockOf; rfl)

set_option maxHeartbeats 1000000 in
theorem before6 (c : Dev nD) (t : Fin (cfgT (F := F)).N) (d) : (dat m c).before 6 t d = iblk m c 6 t :=
  ((dat m c).before_in_eq_fetched 6 rfl (fun _ => rfl) (fun _ _ _ => rfl) (fun t => by unfold Dat.blockOf; rfl) t d).trans
    (by unfold Dat.fetched Dat.blockOf; rfl)

set_option maxHeartbeats 1000000 in
theorem before7 (c : Dev nD) (t : Fin (cfgT (F := F)).N) (d) : (dat m c).before 7 t d = iblk m c 7 t :=
  ((dat m c).before_in_eq_fetched 7 rfl (fun _ => rfl) (fun _ _ _ => rfl) (fun t => by unfold Dat.blockOf; rfl) t d).trans
    (by unfold Dat.fetched Dat.blockOf; rfl)

set_option maxHeartbeats 1000000 in
theorem before8 (c : Dev nD) (t : Fin (cfgT (F := F)).N) (d) : (dat m c).before 8 t d = iblk m c 8 t :=
  ((dat m c).before_in_eq_fetched 8 rfl (fun _ => rfl) (fun _ _ _ => rfl) (fun t => by unfold Dat.blockOf; rfl) t d).trans
    (by unfold Dat.fetched Dat.blockOf; rfl)

set_option maxHeartbeats 1000000 in
theorem before9 (c : Dev nD) (t : Fin (cfgT (F := F)).N) (d) : (dat m c).before 9 t d = iblk m c 9 t :=
  ((dat m c).before_in_eq_fetched 9 rfl (fun _ => rfl) (fun _ _ _ => rfl) (fun t => by unfold Dat.blockOf; rfl) t d).trans
    (by unfold Dat.fetched Dat.blockOf; rfl)

set_option maxHeartbeats 1000000 in
theorem before10 (c : Dev nD) (t : Fin (cfgT (F := F)).N) (d) : (dat m c).before 10 t d = iblk m c 10 t :=
  ((dat m c).before_in_eq_fetched 10 rfl (fun _ => rfl) (fun _ _ _ => rfl) (fun t => by unfold Dat.blockOf; rfl) t d).trans
    (by unfold Dat.fetched Dat.blockOf; rfl)

end Cert.KernelIdeal.Hand

end
-- ==== Proof.FlashMain.lean ====
module

public import proofs.«01_k».proof.Proof.FlashFrame
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (Pipeline.UD sig nD τ) ℕ

variable (m : (ℓ : Loc nD τ sig) → Buf (Elt F) ℓ) (g : Dev nD → PrngReg)

theorem main_reads (c : Dev nD) : main (F := F) c = Pipeline.chain ((allOps (F := F)).map StableHlo.seq ++ [Prog.lift (.customCall (Pipeline.entry 0) ())]) :=
  main_chain c

theorem hmain : Pipeline.HMainP (Ix := Unit) (Name := ℕ) (U := Pipeline.UD sig nD τ) (Lvl := ℕ) (pcfgs (F := F)) 0 (defs₀ (F := F)) Variants.none m main (V m) :=
  Pipeline.hmainP_prefixes (pcfgs (F := F)) 0 (defs₀ (F := F)) Variants.none m main allOps
    (by simp only [List.Forall]; exact ⟨hostOps0_sub, hostOps0_1_sub, hostOps0_2_sub, hostOps0_3_sub, hostOps0_4_sub⟩)
    (by simp only [List.Forall]; repeat' constructor) main_reads

theorem reach_zero (c : Dev nD) (s : St F) (h₁ : s.hq = V m c main_v87_0) (h₂ : s.hp = V m c main_v87_2) : Reach m c 0 s := ⟨h₁, h₂⟩
theorem reach_succ (c : Dev nD) (t : Fin (cfgT (F := F)).N) (s : St F) (x16 : Vec F S512x512 .bf16) (h : Reach m c t.castSucc.val s) :
    Reach m c t.succ.val (nxt m c t s x16) := by
  rw [Fin.val_succ]; rw [Fin.val_castSucc] at h
  exact ⟨t.isLt, s, x16, h, rfl⟩
theorem rl_out (c : Dev nD) (t : Fin (cfgT (F := F)).N) (s : St F) (x16 : Vec F S512x512 .bf16) (h : Reach m c t.castSucc.val s) :
    Rl m c 11 t (out16 m c t s x16) := by
  rw [Fin.val_castSucc] at h
  exact ⟨s, x16, h, rfl⟩

attribute [local irreducible] V stepOf kernelRun iblk Reach

/-! ## The body at a point -/

/-- The body as the pipeline calls it at point `t`. -/
def bodyAt (t : Fin (cfgT (F := F)).N) : Prog (TpuEff nD τ sig (Elt F) Λ₀ .tc) PUnit :=
  cc0_mla_attn_bwd (grid0.coords t) tbM2 (Memref.isWhole_whole _) tbM3 (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) dqH (Memref.isWhole_whole _) (ms11 t) (hs11 t) peH (Memref.isWhole_whole _) dkM (Memref.isWhole_whole _) dvM (Memref.isWhole_whole _) dqM (Memref.isWhole_whole _) dlM (Memref.isWhole_whole _) peM (Memref.isWhole_whole _) dqsM (Memref.isWhole_whole _) pesM (Memref.isWhole_whole _) cc0_scratch7

def bodyPre (c : Dev nD) (t : Fin (cfgT (F := F)).N) : sProp 𝕄 :=
  iprop(Phi m c t.castSucc ∗ (dat m c).owesAt () t.castSucc ∗ (∃ d, owns (c : Thread nD τ) (ms0 t) fullShare ((dat m c).before 0 t d)) ∗ (∃ d, owns (c : Thread nD τ) (ms1 t) fullShare ((dat m c).before 1 t d)) ∗ (∃ d, owns (c : Thread nD τ) (ms2 t) fullShare ((dat m c).before 2 t d)) ∗ (∃ d, owns (c : Thread nD τ) (ms3 t) fullShare ((dat m c).before 3 t d)) ∗ (∃ d, owns (c : Thread nD τ) (ms4 t) fullShare ((dat m c).before 4 t d)) ∗ (∃ d, owns (c : Thread nD τ) (ms5 t) fullShare ((dat m c).before 5 t d)) ∗ (∃ d, owns (c : Thread nD τ) (ms6 t) fullShare ((dat m c).before 6 t d)) ∗ (∃ d, owns (c : Thread nD τ) (ms7 t) fullShare ((dat m c).before 7 t d)) ∗ (∃ d, owns (c : Thread nD τ) (ms8 t) fullShare ((dat m c).before 8 t d)) ∗ (∃ d, owns (c : Thread nD τ) (ms9 t) fullShare ((dat m c).before 9 t d)) ∗ (∃ d, owns (c : Thread nD τ) (ms10 t) fullShare ((dat m c).before 10 t d))
    ∗ (∃ Y, ⌜(rdat m c).Finds 11 t Y⌝ ∗ owns (c : Thread nD τ) (ms11 t) fullShare Y))
def bodyPost (c : Dev nD) (t : Fin (cfgT (F := F)).N) : sProp 𝕄 :=
  iprop(Phi m c t.succ ∗ (dat m c).owesAt () t.succ ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t)
    ∗ (∃ X, ⌜Rl m c 11 t X⌝ ∗ owns (c : Thread nD τ) (ms11 t) fullShare X))

/-- A whole staging buffer owned at contents is held at what reads as them. -/
theorem spt_of_owns (c : Dev nD) {S : Shape} {e : EltTy} (M : Memref sig .tc .vmem S e) (h : M.IsWhole) (x : Vec F S e) :
    (owns (c : Thread nD τ) M fullShare x : sProp 𝕄) ⊢ spt c M h x := by
  unfold owns; iintro ⟨%f, %hf, H⟩; obtain rfl := h.eq_unread hf; iexact H
theorem owns_of_spt (c : Dev nD) {S : Shape} {e : EltTy} (M : Memref sig .tc .vmem S e) (h : M.IsWhole) (x : Vec F S e) :
    spt c M h x ⊢ (owns (c : Thread nD τ) M fullShare x : sProp 𝕄) := by
  unfold owns; iintro H; iexists _; isplitr
  swap; · iexact H
  ipureintro; exact h.read_unread x

set_option maxHeartbeats 1000000 in
theorem sound_body (c : Dev nD) (t : Fin (cfgT (F := F)).N) :
    bodyPre m c t ⊢ wp frame (wpE (defs₀ (F := F)) Variants.none c none) Set.univ (bodyAt t) (fun _ => bodyPost m c t) := by
  unfold bodyPre bodyPost bodyAt
  simp only [before0, before1, before2, before3, before4, before5, before6, before7, before8, before9, before10]
  unfold Dat.owesAt Pipeline.owesWithin
  rw [show (dat m c).owed t.castSucc = 0 from rfl, show (dat m c).owed t.succ = 0 from rfl]
  unfold Phi
  iintro ⟨⟨%s, %hs, Hst, Hg, Hq0, Hq1, HT2, HT3⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%x16, -, H16⟩⟩

  ihave G0 := (spt_of_owns c (ms0 t) (hs0 t) (iblk m c 0 t)) $$ H0
  ihave G1 := (spt_of_owns c (ms1 t) (hs1 t) (iblk m c 1 t)) $$ H1
  ihave G2 := (spt_of_owns c (ms2 t) (hs2 t) (iblk m c 2 t)) $$ H2
  ihave G3 := (spt_of_owns c (ms3 t) (hs3 t) (iblk m c 3 t)) $$ H3
  ihave G4 := (spt_of_owns c (ms4 t) (hs4 t) (iblk m c 4 t)) $$ H4
  ihave G5 := (spt_of_owns c (ms5 t) (hs5 t) (iblk m c 5 t)) $$ H5
  ihave G6 := (spt_of_owns c (ms6 t) (hs6 t) (iblk m c 6 t)) $$ H6
  ihave G7 := (spt_of_owns c (ms7 t) (hs7 t) (iblk m c 7 t)) $$ H7
  ihave G8 := (spt_of_owns c (ms8 t) (hs8 t) (iblk m c 8 t)) $$ H8
  ihave G9 := (spt_of_owns c (ms9 t) (hs9 t) (iblk m c 9 t)) $$ H9
  ihave G10 := (spt_of_owns c (ms10 t) (hs10 t) (iblk m c 10 t)) $$ H10
  ihave G16 := (spt_of_owns c (ms11 t) (hs11 t) x16) $$ H16
  iapply ((stepOf m c t s x16).2 W _)
  isplitl [G0 G1 G2 G3 G4 G5 G6 G7 G8 G9 G10]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    iexact G10
  isplitl [G16]; · iexact G16
  isplitl [HT2]; · iexact HT2
  isplitl [HT3]; · iexact HT3
  isplitl [Hst]; · iexact Hst
  isplitl [Hq0]; · iexact Hq0
  isplitl [Hq1]; · iexact Hq1
  isplitl [HW]; · iexact HW
  iintro ⟨⟨G0, G1, G2, G3, G4, G5, G6, G7, G8, G9, G10⟩, G16, HT2, HT3, Hst, Hq0, Hq1, ⟨%W', HW'⟩⟩
  isplitl [Hst Hg Hq0 Hq1 HT2 HT3]
  · iexists (nxt m c t s x16)
    isplitr
    · ipureintro; exact reach_succ m c t s x16 hs
    isplitl [Hst]; · iexact Hst
    isplitl [Hg]; · iexact Hg
    isplitl [Hq0]; · iexact Hq0
    isplitl [Hq1]; · iexact Hq1
    isplitl [HT2]; · iexact HT2
    iexact HT3
  isplitl [HW']
  · iexists W'; isplitr; · ipureintro; exact fun _ _ => Or.inl trivial
    iexact HW'
  isplitl [G0]; · iapply (owns_of_spt c (ms0 t) (hs0 t) (iblk m c 0 t)); iexact G0
  isplitl [G1]; · iapply (owns_of_spt c (ms1 t) (hs1 t) (iblk m c 1 t)); iexact G1
  isplitl [G2]; · iapply (owns_of_spt c (ms2 t) (hs2 t) (iblk m c 2 t)); iexact G2
  isplitl [G3]; · iapply (owns_of_spt c (ms3 t) (hs3 t) (iblk m c 3 t)); iexact G3
  isplitl [G4]; · iapply (owns_of_spt c (ms4 t) (hs4 t) (iblk m c 4 t)); iexact G4
  isplitl [G5]; · iapply (owns_of_spt c (ms5 t) (hs5 t) (iblk m c 5 t)); iexact G5
  isplitl [G6]; · iapply (owns_of_spt c (ms6 t) (hs6 t) (iblk m c 6 t)); iexact G6
  isplitl [G7]; · iapply (owns_of_spt c (ms7 t) (hs7 t) (iblk m c 7 t)); iexact G7
  isplitl [G8]; · iapply (owns_of_spt c (ms8 t) (hs8 t) (iblk m c 8 t)); iexact G8
  isplitl [G9]; · iapply (owns_of_spt c (ms9 t) (hs9 t) (iblk m c 9 t)); iexact G9
  isplitl [G10]; · iapply (owns_of_spt c (ms10 t) (hs10 t) (iblk m c 10 t)); iexact G10
  iexists (out16 m c t s x16)
  isplitr
  · ipureintro; exact rl_out m c t s x16 hs
  unfold owns; iexists _; isplitr
  swap; · iexact G16
  ipureintro; rfl

theorem defs₀_row (t : Fin (cfgT (F := F)).N) :
    defs₀ (F := F) .tc (cfgT (F := F)).body ((cfgT (F := F)).bodyArgs t ((cfgT (F := F)).slots t)) = bodyAt t := by
  unfold defs₀; rw [Defs.onTc_tc]; rfl

set_option maxHeartbeats 1000000 in
theorem body_obligation (c : Dev nD) : Pipeline.BodyObligationRel (dat m c) (defs₀ (F := F)) Variants.none () Set.univ fg (Rl m c) := fun t => by
  rw [bigSep_W0, bigSep_W0, defs₀_row]
  exact triple_restated (sound_body m c t) rfl .rfl fun _ => .rfl

/-! ## The run -/

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 24) 0 ∗ semVal ((c : Thread nD τ), SemLoc.dma 25) 0) := by
  rw [Pipeline.ownSems0_eq_of_list c osem0 [0, 1] (by decide) (by decide)]; rfl
theorem routed_eq (c : Dev nD) (W : (b : Ref sig .tc) → Buf (Elt F) ((c.tc : Thread nD τ).loc b)) :
    (Pipeline.routed R0 c W : sProp 𝕄) = iprop(pt c dqH (W main_v87_0) ∗ pt c peH (W main_v87_2)) := by
  unfold Pipeline.routed; rw [BI.bigSep_eq_bigSepL_of_eq [main_v87_0, main_v87_2] (by decide) (by decide)]; rfl
theorem tabs_eq (c : Dev nD) :
    (Pipeline.ΦT pre0 (tabs (F := F)) c : sProp 𝕄) = iprop(tpt c tbM2 (tab2 c) ∗ tpt c tbM3 (tab3 c)) := by
  unfold Pipeline.ΦT Pipeline.prefHeld; rw [bigSep_univ_eq_bigSepL [(0 : Fin 2), (1 : Fin 2)] (by decide) (by decide)]; rfl

/-- What the arrays written by the kernel's own transfers hold at the end: what contents that may be reached say. -/
def PG (c : Dev nD) (W : (b : Ref sig .tc) → Buf (Elt F) ((c.tc : Thread nD τ).loc b)) : Prop :=
  ∃ s, Reach m c (cfgT (F := F)).N s ∧ W main_v87_0 = s.hq ∧ W main_v87_2 = s.hp

theorem hin (c : Dev nD) : iprop(Pipeline.ΦDRG osem0 (cfgT (F := F)).spec H0 R0 (V m) (V m) c ∗ Pipeline.ΦT pre0 (tabs (F := F)) c) ⊢ Phi m c 0 := by
  rw [Pipeline.ΦDRG_eq, scopedRest0_eq, ownSems00_eq, routed_eq, tabs_eq]
  unfold Phi
  iintro ⟨⟨⟨⟨%f0, H0⟩, ⟨%f1, H1⟩, ⟨%f2, H2⟩, ⟨%f3, H3⟩, ⟨%f4, H4⟩, ⟨%f5, H5⟩, ⟨%f6, H6⟩⟩, Hg, ⟨Hq0, Hq1⟩, -, ⟨Ha, Hb⟩⟩, HT2, HT3⟩
  iexists (⟨f0, f1, f2, f3, f4, f5, f6, V m c main_v87_0, V m c main_v87_2⟩ : St F)
  isplitr; · ipureintro; exact reach_zero m c _ rfl rfl
  isplitl [H0 H1 H2 H3 H4 H5 H6 Ha Hb]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Ha]; · iexact Ha
    iexact Hb
  isplitl [Hg]; · iexact Hg
  isplitl [Hq0]; · iexact Hq0
  isplitl [Hq1]; · iexact Hq1
  isplitl [HT2]; · iexact HT2
  iexact HT3

theorem hout (c : Dev nD) : Phi m c (Fin.last (cfgT (F := F)).N) ⊢ iprop(Pipeline.ΦD osem0 (cfgT (F := F)).spec H0 (V m) c ∗ Pipeline.routedSat R0 c (PG m c)) := by
  rw [Pipeline.ΦD_eq, scopedRest0_eq, ownSems00_eq]
  unfold Phi Pipeline.routedSat
  iintro ⟨%s, %hs, ⟨H0, H1, H2, H3, H4, H5, H6, Ha, Hb⟩, Hg, Hq0, Hq1, -, -⟩
  isplitr [Ha Hb]
  · isplitl [H0 H1 H2 H3 H4 H5 H6]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
    isplitl [Hg]; · iexact Hg
    isplitl [Hq0 Hq1]
    · isplitl [Hq0]; · iexact Hq0
      iexact Hq1
    rw [BI.bigSep_empty]; iempintro
  iexists (Function.update (Function.update (V m c) main_v87_0 s.hq) main_v87_2 s.hp)
  isplitr
  · ipureintro; exact ⟨s, hs, by rw [Function.update_of_ne (by decide), Function.update_self], by rw [Function.update_self]⟩
  rw [routed_eq, Function.update_of_ne (by decide), Function.update_self, Function.update_self]
  isplitl [Ha]; · iexact Ha
  iexact Hb

set_option backward.isDefEq.respectTransparency.types false in
set_option maxHeartbeats 1000000 in
/-- The run: it ends with every array that is no result of the call as the call found it, the blocks of the result written back at what
    contents that may be reached say, and the arrays the kernel's own transfers write at what such contents say. -/
theorem run_main : θ_run (defs (F := F)) (onTc (τ := τ) (main (F := F))) (s₀ m g) (fun r => (Pipeline.RDat.FramePostR (cfgT (F := F)) (rdat m) R0 (V m) r
      ∧ ∀ c : Dev nD, ∃ W : (b : Ref sig .tc) → Buf (Elt F) ((c.tc : Thread nD τ).loc b), PG m c W ∧ ∀ b ∈ R0, r.2.mem ((c.tc : Thread nD τ).loc b) = W b)
      ∧ r.2.sem = fun _ => 0) :=
  Pipeline.RDat.θ_run_frameP_dmaRSat_shared (Q' := _) (pcfgs (F := F)) (fun _ => adm) (0 : Fin 1) launch0.to₀ osem0 (defs₀ (F := F)) Variants.none (rdat m) ownSemFacts0 H0 R0 H0_sub R0_sub m g main
    (hbody := fun c => (body_obligation m c).toRRel) (hq := fun _ _ _ => rfl) (howed := fun _ _ => rfl) (V := V m) (hmain := hmain m)
    (hA := fun _ _ => rfl)
    (hpf := fun c k => match k with | ⟨0, _⟩ => V_tab2 m c | ⟨1, _⟩ => V_tab3 m c | ⟨_ + 2, h⟩ => absurd h (by simp))
    (PG := PG m) (hin := hin m) (hout := hout m) (hQ' := fun _ h => h)

/-! ## The frame -/

/-- The frame's statement, at any float values: the arguments end as they began and every counter ends at zero. -/
theorem frame : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run _ _ _).mono (fun r h => ⟨fun c => ?_, h.2⟩) (run_main m g)
  have hr : ∀ b : Ref sig .tc, b ∈ Pipeline.restRefs sig spec0 \ R0 → b ∉ main_c :: main_c_0 :: wr →
      r.2.mem ((c.tc : Thread nD τ).loc b) = m ((c.tc : Thread nD τ).loc b) :=
    fun b hb hw => ((h.1.1 c).2 b hb).trans (V_arg m c b hw)
  exact ⟨hr main_arg0 (by decide) (by decide), hr main_arg1 (by decide) (by decide), hr main_arg2 (by decide) (by decide),
    hr main_arg3 (by decide) (by decide), hr main_arg4 (by decide) (by decide),
    (h.1.1.arr_in c 4 rfl).trans (V_arg m c main_arg5 (by decide))⟩

end Cert.KernelIdeal.Hand

end
-- ==== Proof.FlashPay.lean ====
module

public import proofs.«01_k».proof.Proof.FlashMain
public import Idealize.ShloMosaic.Lib.Pointwise
public import Idealize.ShloMosaic.Lib.Pipeline.ValueKit
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

/-- A store's newest rectangle, read at a place. -/
theorem wr_gen {sg : RefSig} {κ : Kind} {sp : Space} {S : Shape} {e : EltTy} {Val : EltTy → Type} (v : View sg κ sp S e) (f : v.ty.Contents Val)
    (off sz : Fin S.rank → ℕ) (h) (X) (L) (y : S.Idx) :
    v.read Val (v.writes Val f (⟨Rect.unit off sz h, X⟩ :: L)) y
      = if hy : ∀ a, off a ≤ (y a).val ∧ (y a).val < off a + sz a then X (fun a => ⟨(y a).val - off a, by have := hy a; show _ < sz a; omega⟩)
        else v.read Val (v.writes Val f L) y := by
  split
  · rename_i hy
    refine View.read_writes_cons_hit_of_coords _ _ _ _ _ _ _ fun a => ?_
    have := hy a
    show (y a).val = off a + 1 * ((y a).val - off a)
    omega
  · rename_i hy
    obtain ⟨a, ha⟩ := not_forall.mp hy
    refine View.read_writes_cons_miss_of_axis _ _ _ _ _ a (off a) (sz a) rfl rfl rfl ?_
    omega

/-- A store over rank three at literal offsets. -/
theorem wr3 {sg : RefSig} {κ : Kind} {sp : Space} {n0 n1 n2 : ℕ} {e : EltTy} {Val : EltTy → Type} (v : View sg κ sp ⟨3, ![n0, n1, n2]⟩ e) (f : v.ty.Contents Val)
    (off : Fin 3 → ℕ) (s0 s1 s2 : ℕ) (h) (X) (L) (o0 o1 o2 : ℕ) (hoff : off = ![o0, o1, o2]) (a : Fin n0) (b : Fin n1) (d : Fin n2) :
    v.read Val (v.writes Val f (⟨Rect.unit (s := ⟨3, ![n0, n1, n2]⟩) off ![s0, s1, s2] h, X⟩ :: L)) (ix3 a b d)
      = if hy : (o0 ≤ a.val ∧ a.val < o0 + s0) ∧ (o1 ≤ b.val ∧ b.val < o1 + s1) ∧ (o2 ≤ d.val ∧ d.val < o2 + s2) then
          X (ix3 (⟨a.val - o0, by omega⟩ : Fin s0) (⟨b.val - o1, by omega⟩ : Fin s1) (⟨d.val - o2, by omega⟩ : Fin s2))
        else v.read Val (v.writes Val f L) (ix3 a b d) := by
  subst hoff
  rw [wr_gen]
  have e : (∀ x : Fin 3, ((![o0, o1, o2] : Fin 3 → ℕ) x ≤ (ix3 a b d x).val ∧ (ix3 a b d x).val < (![o0, o1, o2] : Fin 3 → ℕ) x + (![s0, s1, s2] : Fin 3 → ℕ) x)) ↔
      ((o0 ≤ a.val ∧ a.val < o0 + s0) ∧ (o1 ≤ b.val ∧ b.val < o1 + s1) ∧ (o2 ≤ d.val ∧ d.val < o2 + s2)) := by
    constructor
    · intro h; exact ⟨h 0, h 1, h 2⟩
    · rintro ⟨h0, h1, h2⟩ x; fin_cases x; exacts [h0, h1, h2]
  by_cases hy : (o0 ≤ a.val ∧ a.val < o0 + s0) ∧ (o1 ≤ b.val ∧ b.val < o1 + s1) ∧ (o2 ≤ d.val ∧ d.val < o2 + s2)
  · rw [dif_pos hy, dif_pos (e.mpr hy)]
    congr 1
    funext x
    fin_cases x <;> rfl
  · rw [dif_neg hy, dif_neg (fun h => hy (e.mp h))]

/-- A store over rank two at literal offsets. -/
theorem wr2 {sg : RefSig} {κ : Kind} {sp : Space} {n0 n1 : ℕ} {e : EltTy} {Val : EltTy → Type} (v : View sg κ sp ⟨2, ![n0, n1]⟩ e) (f : v.ty.Contents Val)
    (off : Fin 2 → ℕ) (s0 s1 : ℕ) (h) (X) (L) (o0 o1 : ℕ) (hoff : off = ![o0, o1]) (a : Fin n0) (b : Fin n1) :
    v.read Val (v.writes Val f (⟨Rect.unit (s := ⟨2, ![n0, n1]⟩) off ![s0, s1] h, X⟩ :: L)) (ix2 a b)
      = if hy : (o0 ≤ a.val ∧ a.val < o0 + s0) ∧ (o1 ≤ b.val ∧ b.val < o1 + s1) then
          X (ix2 (⟨a.val - o0, by omega⟩ : Fin s0) (⟨b.val - o1, by omega⟩ : Fin s1))
        else v.read Val (v.writes Val f L) (ix2 a b) := by
  subst hoff
  rw [wr_gen]
  have e : (∀ x : Fin 2, ((![o0, o1] : Fin 2 → ℕ) x ≤ (ix2 a b x).val ∧ (ix2 a b x).val < (![o0, o1] : Fin 2 → ℕ) x + (![s0, s1] : Fin 2 → ℕ) x)) ↔
      ((o0 ≤ a.val ∧ a.val < o0 + s0) ∧ (o1 ≤ b.val ∧ b.val < o1 + s1)) := by
    constructor
    · intro h; exact ⟨h 0, h 1⟩
    · rintro ⟨h0, h1⟩ x; fin_cases x; exacts [h0, h1]
  by_cases hy : (o0 ≤ a.val ∧ a.val < o0 + s0) ∧ (o1 ≤ b.val ∧ b.val < o1 + s1)
  · rw [dif_pos hy, dif_pos (e.mpr hy)]
    congr 1
    funext x
    fin_cases x <;> rfl
  · rw [dif_neg hy, dif_neg (fun h => hy (e.mp h))]

/-! ## The payloads -/

theorem pay2_at (v) (r : Fin 512) : k0_pay2 (F := Ideal) v (ix3 0 0 r) = v (ix2 0 r) := by pointwise [k0_pay2]
theorem pay17_at (u v) (r : Fin 512) : k0_pay17 (F := Ideal) u v (ix3 0 0 r) = ∑ d : Fin 128, u (ix2 r d) * v (ix2 r d) := by pointwise [k0_pay17]
theorem pay19_at (u v) (r : Fin 512) : k0_pay19 (F := Ideal) u v (ix2 0 r) = ∑ d : Fin 128, u (ix2 r d) * v (ix2 r d) := by pointwise [k0_pay19]

/-- The word the kernel's mask compares, a row's chunk. -/
theorem shr6 (a : Fin 512) : IntOp.shrsi ArithUnit.vector (BitVec.ofNat 32 a.val) 6#32 = BitVec.ofNat 32 (a.val / 64) := by
  revert a; decide +kernel

theorem sle64 (a b : Fin 8) : IntOp.cmpi CmpIPredicate.sle (BitVec.ofNat 32 a.val) (BitVec.ofNat 32 b.val) = if a.val ≤ b.val then 1#1 else 0#1 := by
  revert a b; decide +kernel

theorem mask_at (a b : Fin 512) : IntOp.cmpi CmpIPredicate.sle (IntOp.shrsi ArithUnit.vector (BitVec.ofNat 32 a.val) 6#32) (IntOp.shrsi ArithUnit.vector (BitVec.ofNat 32 b.val) 6#32)
    = if a.val / 64 ≤ b.val / 64 then 1#1 else 0#1 := by
  rw [shr6, shr6]
  exact sle64 ⟨a.val / 64, by omega⟩ ⟨b.val / 64, by omega⟩

theorem select_mask (a b : Fin 512) (x y : EReal) : Scalar.select (IntOp.cmpi CmpIPredicate.sle (IntOp.shrsi ArithUnit.vector (BitVec.ofNat 32 a.val) 6#32) (IntOp.shrsi ArithUnit.vector (BitVec.ofNat 32 b.val) 6#32)) x y
    = if a.val / 64 ≤ b.val / 64 then x else y := by
  rw [mask_at]
  by_cases h : a.val / 64 ≤ b.val / 64 <;> simp [h, Scalar.select]

/-- The word by which the transposed rotation picks its half. -/
theorem half_at (b : Fin 256) : IntOp.cmpi CmpIPredicate.slt (IntOp.andi (BitVec.ofNat 32 b.val) 63#32) 32#32 = if b.val % 64 < 32 then 1#1 else 0#1 := by
  revert b; decide +kernel

theorem select_half (b : ℕ) (hb : b < 256) (x y : EReal) : Scalar.select (IntOp.cmpi CmpIPredicate.slt (IntOp.andi (BitVec.ofNat 32 b) 63#32) 32#32) x y
    = if b % 64 < 32 then x else y := by
  rw [half_at ⟨b, hb⟩]
  by_cases h : b % 64 < 32 <;> simp [h, Scalar.select]

/-- The scores of one head's tile. -/
def scf (q k : S512x256.Idx → EReal) (a b : Fin 512) : EReal := ∑ d : Fin 256, k (ix2 a d) * q (ix2 b d)
/-- The probabilities of one head's tile, keys by queries; on the diagonal tile the mask's. -/
def prf (dg : Bool) (q k : S512x256.Idx → EReal) (l : Fin 512 → EReal) (a b : Fin 512) : EReal :=
  if dg = false ∨ a.val / 64 ≤ b.val / 64 then Ideal.exp (scf q k a b - l b) else 0
/-- Value by gradient. -/
def dpf (v o : S512x128.Idx → EReal) (a b : Fin 512) : EReal := ∑ d : Fin 128, v (ix2 a d) * o (ix2 b d)

section Pays
variable (q k : FVec Ideal S512x256 .bf16) (l l2 : FVec Ideal S1x1x512 .f32) (o v : FVec Ideal S512x128 .bf16) (a b : Fin 512) (d : Fin 256) (e : Fin 128)

theorem pay21_at : k0_pay21 (F := Ideal) q k l (ix2 a b) = prf false q k (fun r => l (ix3 0 0 r)) a b := by
  rw [prf, if_pos (Or.inl rfl), scf]; pointwise [k0_pay21, k0_pay20]
theorem pay28_at : k0_pay28 (F := Ideal) q k l (ix2 a b) = prf false q k (fun r => l (ix3 0 0 r)) a b := by
  rw [prf, if_pos (Or.inl rfl), scf]; pointwise [k0_pay28, k0_pay27]
theorem pay31_at : k0_pay31 (F := Ideal) q k l (ix2 a b) = prf true q k (fun r => l (ix3 0 0 r)) a b := by
  simp only [prf, Bool.true_eq_false, false_or]; rw [scf]; pointwise [k0_pay31, k0_pay30]; rw [select_mask]
theorem pay40_at : k0_pay40 (F := Ideal) (k0_pay39 (F := Ideal) q k l) (iota .tc S512x512 32 [0] iota_S512x512_d0_w32) (ix2 a b) = prf true q k (fun r => l (ix3 0 0 r)) a b := by
  simp only [prf, Bool.true_eq_false, false_or]; rw [scf]; pointwise [k0_pay40, k0_pay39, k0_pay38]; rw [select_mask]
theorem pay20_at : k0_pay20 (F := Ideal) q (ix2 a d) = q (ix2 a d) := by pointwise [k0_pay20]
theorem pay27_at : k0_pay27 (F := Ideal) q (ix2 a d) = q (ix2 a d) := by pointwise [k0_pay27]
theorem pay30_at : k0_pay30 (F := Ideal) q (ix2 a d) = q (ix2 a d) := by pointwise [k0_pay30]
theorem pay38_at : k0_pay38 (F := Ideal) q (ix2 a d) = q (ix2 a d) := by pointwise [k0_pay38]
theorem pay33_at : k0_pay33 (F := Ideal) o v (ix2 a b) = dpf v o a b := by rw [dpf]; pointwise [k0_pay33]
theorem pay34_at : k0_pay34 (F := Ideal) l (ix2 0 b) = l (ix3 0 0 b) := by pointwise [k0_pay34]

/-- The probabilities' gradient. -/
def dsf (dg : Bool) (q k : S512x256.Idx → EReal) (l dl : Fin 512 → EReal) (v o : S512x128.Idx → EReal) (a b : Fin 512) : EReal :=
  prf dg q k l a b * (dpf v o a b - dl b)

theorem pay23_at : k0_pay23 (F := Ideal) q o k l v l2 (ix2 a b) = dsf false q k (fun r => l (ix3 0 0 r)) (fun r => l2 (ix3 0 0 r)) v o a b := by
  rw [dsf, dpf]; pointwise [k0_pay23, pay21_at]
theorem pay6_at : k0_pay6 (F := Ideal) o (k0_pay28 (F := Ideal) q k l) v l2 (ix2 a b) = dsf false q k (fun r => l (ix3 0 0 r)) (fun r => l2 (ix3 0 0 r)) v o a b := by
  rw [dsf, dpf]; pointwise [k0_pay6, pay28_at]
theorem pay35_at : k0_pay35 (F := Ideal) (k0_pay31 (F := Ideal) q k l) (k0_pay33 (F := Ideal) o v) (k0_pay34 (F := Ideal) l2) (ix2 a b) = dsf true q k (fun r => l (ix3 0 0 r)) (fun r => l2 (ix3 0 0 r)) v o a b := by
  rw [dsf]; pointwise [k0_pay35, pay31_at, pay33_at, pay34_at]
theorem pay42_at : k0_pay42 (F := Ideal) o (k0_pay39 (F := Ideal) q k l) (iota .tc S512x512 32 [0] iota_S512x512_d0_w32) v l2 (ix2 a b) = dsf true q k (fun r => l (ix3 0 0 r)) (fun r => l2 (ix3 0 0 r)) v o a b := by
  rw [dsf, dpf]; pointwise [k0_pay42]; refine congrArg (· * _) (pay40_at q k l a b)

variable (pv : FVec Ideal S1x512x128 .f32) (pk : FVec Ideal S1x512x256 .f32) (pq : FVec Ideal S1x256x512 .f32) (kt : FVec Ideal S256x512 .bf16)

theorem pay22_at : k0_pay22 (F := Ideal) q o k l pv (ix3 0 a e) = pv (ix3 0 a e) + ∑ r : Fin 512, prf false q k (fun r => l (ix3 0 0 r)) a r * o (ix2 r e) := by
  pointwise [k0_pay22, pay21_at]
theorem pay29_at : k0_pay5 (F := Ideal) (k0_pay29 (F := Ideal) q o k l pv) (ix3 0 a e) = pv (ix3 0 a e) + ∑ r : Fin 512, prf false q k (fun r => l (ix3 0 0 r)) a r * o (ix2 r e) := by
  pointwise [k0_pay5, k0_pay29, pay28_at]
theorem pay32_at : k0_pay32 (F := Ideal) q o k l pv (ix3 0 a e) = pv (ix3 0 a e) + ∑ r : Fin 512, prf true q k (fun r => l (ix3 0 0 r)) a r * o (ix2 r e) := by
  pointwise [k0_pay32, pay31_at]
theorem pay41_at : k0_pay41 (F := Ideal) o (k0_pay39 (F := Ideal) q k l) (iota .tc S512x512 32 [0] iota_S512x512_d0_w32) pv (ix3 0 a e) = pv (ix3 0 a e) + ∑ r : Fin 512, prf true q k (fun r => l (ix3 0 0 r)) a r * o (ix2 r e) := by
  pointwise [k0_pay41]; exact congrArg (_ + ·) (Finset.sum_congr rfl fun r _ => congrArg (· * _) (pay40_at q k l a r))

theorem pay24_at : k0_pay25 (F := Ideal) (k0_pay24 (F := Ideal) q o k l v l2 pk) (ix3 0 a d) = pk (ix3 0 a d) + ∑ r : Fin 512, dsf false q k (fun r => l (ix3 0 0 r)) (fun r => l2 (ix3 0 0 r)) v o a r * q (ix2 r d) := by
  pointwise [k0_pay25, k0_pay24, pay23_at, pay20_at]
theorem pay7_at : k0_pay7 (F := Ideal) (k0_pay27 (F := Ideal) q) o (k0_pay28 (F := Ideal) q k l) v l2 pk (ix3 0 a d) = pk (ix3 0 a d) + ∑ r : Fin 512, dsf false q k (fun r => l (ix3 0 0 r)) (fun r => l2 (ix3 0 0 r)) v o a r * q (ix2 r d) := by
  pointwise [k0_pay7, pay6_at, pay27_at]
theorem pay36_at : k0_pay36 (F := Ideal) (k0_pay30 (F := Ideal) q) (k0_pay31 (F := Ideal) q k l) (k0_pay33 (F := Ideal) o v) (k0_pay34 (F := Ideal) l2) pk (ix3 0 a d) = pk (ix3 0 a d) + ∑ r : Fin 512, dsf true q k (fun r => l (ix3 0 0 r)) (fun r => l2 (ix3 0 0 r)) v o a r * q (ix2 r d) := by
  pointwise [k0_pay36, pay35_at, pay30_at]
theorem pay43_at : k0_pay43 (F := Ideal) (k0_pay38 (F := Ideal) q) o (k0_pay39 (F := Ideal) q k l) (iota .tc S512x512 32 [0] iota_S512x512_d0_w32) v l2 pk (ix3 0 a d) = pk (ix3 0 a d) + ∑ r : Fin 512, dsf true q k (fun r => l (ix3 0 0 r)) (fun r => l2 (ix3 0 0 r)) v o a r * q (ix2 r d) := by
  pointwise [k0_pay43, pay38_at]; exact congrArg (_ + ·) (Finset.sum_congr rfl fun r _ => congrArg (· * _) (pay42_at q k l l2 o v a r))

theorem pay26_at : k0_pay26 (F := Ideal) (k0_pay23 (F := Ideal) q o k l v l2) pq kt (ix3 0 d b) = pq (ix3 0 d b) + ∑ r : Fin 512, kt (ix2 d r) * dsf false q k (fun r => l (ix3 0 0 r)) (fun r => l2 (ix3 0 0 r)) v o r b := by
  pointwise [k0_pay26, pay23_at]
theorem pay8_at : k0_pay8 (F := Ideal) o (k0_pay28 (F := Ideal) q k l) v l2 pq kt (ix3 0 d b) = pq (ix3 0 d b) + ∑ r : Fin 512, kt (ix2 d r) * dsf false q k (fun r => l (ix3 0 0 r)) (fun r => l2 (ix3 0 0 r)) v o r b := by
  pointwise [k0_pay8, pay6_at]
theorem pay37_at : k0_pay37 (F := Ideal) (k0_pay31 (F := Ideal) q k l) (k0_pay33 (F := Ideal) o v) (k0_pay34 (F := Ideal) l2) pq kt (ix3 0 d b) = pq (ix3 0 d b) + ∑ r : Fin 512, kt (ix2 d r) * dsf true q k (fun r => l (ix3 0 0 r)) (fun r => l2 (ix3 0 0 r)) v o r b := by
  pointwise [k0_pay37, pay35_at]
theorem pay44_at : k0_pay44 (F := Ideal) (k0_pay42 (F := Ideal) o (k0_pay39 (F := Ideal) q k l) (iota .tc S512x512 32 [0] iota_S512x512_d0_w32) v l2) pq kt (ix3 0 d b) = pq (ix3 0 d b) + ∑ r : Fin 512, kt (ix2 d r) * dsf true q k (fun r => l (ix3 0 0 r)) (fun r => l2 (ix3 0 0 r)) v o r b := by
  pointwise [k0_pay44]; exact congrArg (_ + ·) (Finset.sum_congr rfl fun r _ => congrArg (_ * ·) (pay42_at q k l l2 o v r b))

theorem pay16_at : k0_pay16 (F := Ideal) (ix3 0 d b) = 0 := by pointwise [k0_pay16]
theorem pay18_at : k0_pay18 (F := Ideal) (ix3 0 d b) = 0 := by pointwise [k0_pay18]
theorem pay3_at (hh : Fin 2) : k0_pay3 (F := Ideal) (ix3 hh a d) = 0 := by pointwise [k0_pay3]
theorem pay4_at (hh : Fin 2) : k0_pay4 (F := Ideal) (ix3 hh a e) = 0 := by pointwise [k0_pay4]
theorem pay1_at (x : Fin 4096) : k0_pay1 (F := Ideal) (ix2 x e) = 0 := by pointwise [k0_pay1]

/-- The transposed rotation of a row of 256. -/
def rotq (x c s : Fin 256 → EReal) (d : Fin 256) : EReal :=
  x d * c d + if d.val % 64 < 32 then x ⟨(d.val + 256 - 224) % 256, by omega⟩ * s ⟨(d.val + 256 - 224) % 256, by omega⟩ else x ⟨(d.val + 256 - 32) % 256, by omega⟩ * s ⟨(d.val + 256 - 32) % 256, by omega⟩
/-- The transposed rotation of a row of 128. -/
def rotk (x c s : Fin 128 → EReal) (d : Fin 128) : EReal :=
  x d * c d + if d.val % 64 < 32 then x ⟨(d.val + 128 - 96) % 128, by omega⟩ * s ⟨(d.val + 128 - 96) % 128, by omega⟩ else x ⟨(d.val + 128 - 32) % 128, by omega⟩ * s ⟨(d.val + 128 - 32) % 128, by omega⟩

variable (cq sq : FVec Ideal S512x256 .f32) (x ck sk : FVec Ideal S512x128 .f32) (pk2 : FVec Ideal S1x512x256 .f32)
theorem pay45_at : k0_pay45 (F := Ideal) pq cq sq (ix2 a d) = rotq (fun d => pq (ix3 0 d a)) (fun d => cq (ix2 a d)) (fun d => sq (ix2 a d)) d := by
  rw [rotq]; pointwise [k0_pay45]; rw [select_half _ d.isLt]
theorem pay9_at : k0_pay9 (F := Ideal) (k0_pay46 (F := Ideal) pq) cq sq (ix2 a d) = rotq (fun d => pq (ix3 0 d a)) (fun d => cq (ix2 a d)) (fun d => sq (ix2 a d)) d := by
  rw [rotq]; pointwise [k0_pay9, k0_pay46]; rw [select_half _ d.isLt]
theorem pay15_at : k0_pay15 (F := Ideal) x ck sk (ix2 a e) = rotk (fun d => x (ix2 a d)) (fun d => ck (ix2 a d)) (fun d => sk (ix2 a d)) e := by
  rw [rotk]; pointwise [k0_pay15]; rw [select_half _ (by omega)]
theorem pay11_at : k0_pay11 (F := Ideal) pk pv (ix2 a d) = if h : d.val < 128 then pk (ix3 0 a d) else pv (ix3 0 a ⟨d.val - 128, by omega⟩) := by
  pointwise [k0_pay11, k0_pay10]
theorem pay13_at : k0_pay13 (F := Ideal) pk pv (ix2 a d) = if h : d.val < 128 then pk (ix3 0 a d) else pv (ix3 0 a ⟨d.val - 128, by omega⟩) := by
  pointwise [k0_pay13, k0_pay12]
theorem pay14_at : k0_pay14 (F := Ideal) pk pk2 x (ix2 a e) = x (ix2 a e) + (pk (ix3 0 a ⟨128 + e.val, by omega⟩) + pk2 (ix3 0 a ⟨128 + e.val, by omega⟩)) := by
  pointwise [k0_pay14, k0_pay10, k0_pay12]
end Pays

end Cert.KernelIdeal.Hand

end
-- ==== Proof.FlashHost.lean ====
module

public import proofs.«01_k».proof.Proof.FlashPay
public import proofs.«01_k».proof.Proof.FlashFrame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]
variable (m : (ℓ : Loc nD τ sig) → Buf (Elt F) ℓ) (c : Dev nD)

/-! ## What the host operations before the call leave -/

/-- The arrays the host operations write, in order. -/
def Wl : List (Ref sig .tc) := main_c :: main_c_0 :: wr
variable (F) in
/-- The host operations, in order. -/
def Ls : List (HloOp τ sig (Elt F)) := (allOps (F := F)).flatten
variable (F) in
theorem Ls_writes : (Ls F).map HloOp.writes = Wl.map fun w => {Proc.devRef (τ := τ) .tc w} := by rfl
variable (F) in
theorem Ls_drop (i : ℕ) : ((Ls F).drop i).map HloOp.writes = (Wl.drop i).map fun w => {Proc.devRef (τ := τ) .tc w} := by
  rw [List.map_drop, Ls_writes F, List.map_drop]
/-- What the launch holds, per array. -/
abbrev V0 : Idealize.ShloMosaic.Valuation τ sig (Elt F) := fun b => m (c, b)
theorem up (i : ℕ) (a : Ref sig .tc) (ha : a ∉ Wl.drop i) : StableHlo.upto (Ls F) (V0 m c) i (Proc.devRef .tc a) = V m c a := by
  have h := StableHlo.after_unwritten (Wl.drop i) (Ls_drop F i) ha (StableHlo.upto (Ls F) (V0 m c) i)
  rw [← h, StableHlo.upto, ← StableHlo.after_append, List.take_append_drop]; rfl
theorem drop_of (i : ℕ) (op : HloOp τ sig (Elt F)) (h : (Ls F)[i]? = some op) : (Ls F).drop i = op :: (Ls F).drop (i + 1) := by
  obtain ⟨hi, e⟩ := List.getElem?_eq_some_iff.mp h
  rw [List.drop_eq_getElem_cons hi, e]
theorem lastw (i : ℕ) (op : HloOp τ sig (Elt F)) (y : Ref sig .tc) (hd : (Ls F)[i]? = some (op)) (hy : y ∉ Wl.drop (i + 1)) :
    V m c y = op.result (StableHlo.upto (Ls F) (V0 m c) i) (Proc.devRef .tc y) :=
  StableHlo.after_last_write (Wl.drop (i + 1)) (drop_of i op hd) (Ls_drop F (i + 1)) hy (V0 m c)
theorem V_null (i : ℕ) (y : Ref sig .tc) (v : y.ty.Contents (Elt F)) (h1) (hd : (Ls F)[i]? = some (StableHlo.nullary y v h1)) (hy : y ∉ Wl.drop (i + 1)) :
    V m c y = v := (lastw m c i _ y hd hy).trans (StableHlo.nullary_result' ..)
theorem V_un (i : ℕ) (x y : Ref sig .tc) (f : x.ty.Contents (Elt F) → y.ty.Contents (Elt F)) (h1 h2) (hd : (Ls F)[i]? = some (StableHlo.unary x y f h1 h2)) (hy : y ∉ Wl.drop (i + 1)) (hx : x ∉ Wl.drop i) :
    V m c y = f (V m c x) := (lastw m c i _ y hd hy).trans ((StableHlo.unary_result' ..).trans (congrArg f (up m c i x hx)))
theorem V_bin (i : ℕ) (x x' y : Ref sig .tc) (f : x.ty.Contents (Elt F) → x'.ty.Contents (Elt F) → y.ty.Contents (Elt F)) (h1 h2 h3) (hd : (Ls F)[i]? = some (StableHlo.binary x x' y f h1 h2 h3)) (hy : y ∉ Wl.drop (i + 1)) (hx : x ∉ Wl.drop i) (hx' : x' ∉ Wl.drop i) :
    V m c y = f (V m c x) (V m c x') := (lastw m c i _ y hd hy).trans ((StableHlo.binary_result' ..).trans (congrArg₂ f (up m c i x hx) (up m c i x' hx')))
theorem V_ter (i : ℕ) (x x' x'' y : Ref sig .tc) (f : x.ty.Contents (Elt F) → x'.ty.Contents (Elt F) → x''.ty.Contents (Elt F) → y.ty.Contents (Elt F)) (h1 h2 h3 h4) (hd : (Ls F)[i]? = some (StableHlo.ternary x x' x'' y f h1 h2 h3 h4)) (hy : y ∉ Wl.drop (i + 1)) (hx : x ∉ Wl.drop i) (hx' : x' ∉ Wl.drop i) (hx'' : x'' ∉ Wl.drop i) :
    V m c y = f (V m c x) (V m c x') (V m c x'') := by
  refine (lastw m c i _ y hd hy).trans ((StableHlo.ternary_result' ..).trans ?_)
  have e1 := up m c i x hx
  have e2 := up m c i x' hx'
  have e3 := up m c i x'' hx''
  rw [e1, e2, e3]
theorem V_nary {n : ℕ} (i : ℕ) (xs : Fin n → Ref sig .tc) (y : Ref sig .tc) (f : ((k : Fin n) → (xs k).ty.Contents (Elt F)) → y.ty.Contents (Elt F)) (h1 h2) (hd : (Ls F)[i]? = some (StableHlo.nary xs y f h1 h2)) (hy : y ∉ Wl.drop (i + 1)) (hx : ∀ k, xs k ∉ Wl.drop i) :
    V m c y = f (fun k => V m c (xs k)) := (lastw m c i _ y hd hy).trans ((StableHlo.nary_result' ..).trans (congrArg f (funext fun k => up m c i (xs k) (hx k))))
theorem V_resh (i : ℕ) (x y : Ref sig .tc) (he hn h1 h2) (hd : (Ls F)[i]? = some (StableHlo.reshape (Val := Elt F) x y he hn h1 h2)) (hy : y ∉ Wl.drop (i + 1)) (hx : x ∉ Wl.drop i) :
    V m c y = fun j => he ▸ shapeCast y.ty.shape (V m c x) hn j := (lastw m c i _ y hd hy).trans ((StableHlo.reshape_result' ..).trans (by rw [up m c i x hx]))

theorem V_cst : V m c main_cst = (constant S_ .f32 0x00000000#32)  :=
  V_null m c 2 main_cst (constant S_ .f32 0x00000000#32) _ rfl (by decide)
theorem V_v0 : V m c main_v0 = (broadcastInDim S4096x64 ![] bcast_S_S4096x64 : (⟨S_, .f32⟩ : BufTy).Contents (Elt F) → (⟨S4096x64, .f32⟩ : BufTy).Contents (Elt F)) (V m c main_cst) :=
  V_un m c 3 main_cst main_v0 (broadcastInDim S4096x64 ![] bcast_S_S4096x64 : (⟨S_, .f32⟩ : BufTy).Contents (Elt F) → (⟨S4096x64, .f32⟩ : BufTy).Contents (Elt F)) _ _ rfl (by decide) (by decide)
theorem V_v1 : V m c main_v1 = (concatenate S4096x128 1 [⟨S4096x32, (V m c main_arg3 : (⟨S4096x32, .f32⟩ : BufTy).Contents (Elt F))⟩, ⟨S4096x32, (V m c main_arg3 : (⟨S4096x32, .f32⟩ : BufTy).Contents (Elt F))⟩, ⟨S4096x64, (V m c main_v0 : (⟨S4096x64, .f32⟩ : BufTy).Contents (Elt F))⟩] concatenates_S4096x32_S4096x32_S4096x64_S4096x128_d1 : (⟨S4096x128, .f32⟩ : BufTy).Contents (Elt F)) :=
  V_nary m c 4 ![main_arg3, main_arg3, main_v0] main_v1 (fun u => (concatenate S4096x128 1 [⟨S4096x32, (u 0 : (⟨S4096x32, .f32⟩ : BufTy).Contents (Elt F))⟩, ⟨S4096x32, (u 1 : (⟨S4096x32, .f32⟩ : BufTy).Contents (Elt F))⟩, ⟨S4096x64, (u 2 : (⟨S4096x64, .f32⟩ : BufTy).Contents (Elt F))⟩] concatenates_S4096x32_S4096x32_S4096x64_S4096x128_d1 : (⟨S4096x128, .f32⟩ : BufTy).Contents (Elt F))) _ _ rfl (by decide) (by decide)
theorem V_v2 : V m c main_v2 = (Host.negf : (⟨S4096x32, .f32⟩ : BufTy).Contents (Elt F) → (⟨S4096x32, .f32⟩ : BufTy).Contents (Elt F)) (V m c main_arg4) :=
  V_un m c 5 main_arg4 main_v2 (Host.negf : (⟨S4096x32, .f32⟩ : BufTy).Contents (Elt F) → (⟨S4096x32, .f32⟩ : BufTy).Contents (Elt F)) _ _ rfl (by decide) (by decide)
theorem V_v3 : V m c main_v3 = (concatenate S4096x128 1 [⟨S4096x32, (V m c main_v2 : (⟨S4096x32, .f32⟩ : BufTy).Contents (Elt F))⟩, ⟨S4096x32, (V m c main_arg4 : (⟨S4096x32, .f32⟩ : BufTy).Contents (Elt F))⟩, ⟨S4096x64, (V m c main_v0 : (⟨S4096x64, .f32⟩ : BufTy).Contents (Elt F))⟩] concatenates_S4096x32_S4096x32_S4096x64_S4096x128_d1 : (⟨S4096x128, .f32⟩ : BufTy).Contents (Elt F)) :=
  V_nary m c 6 ![main_v2, main_arg4, main_v0] main_v3 (fun u => (concatenate S4096x128 1 [⟨S4096x32, (u 0 : (⟨S4096x32, .f32⟩ : BufTy).Contents (Elt F))⟩, ⟨S4096x32, (u 1 : (⟨S4096x32, .f32⟩ : BufTy).Contents (Elt F))⟩, ⟨S4096x64, (u 2 : (⟨S4096x64, .f32⟩ : BufTy).Contents (Elt F))⟩] concatenates_S4096x32_S4096x32_S4096x64_S4096x128_d1 : (⟨S4096x128, .f32⟩ : BufTy).Contents (Elt F))) _ _ rfl (by decide) (by decide)
theorem V_cst_1 : V m c main_cst_1 = (constant S_ .f32 0x3F800000#32)  :=
  V_null m c 7 main_cst_1 (constant S_ .f32 0x3F800000#32) _ rfl (by decide)
theorem V_v4 : V m c main_v4 = (broadcastInDim S4096x128 ![] bcast_S_S4096x128 : (⟨S_, .f32⟩ : BufTy).Contents (Elt F) → (⟨S4096x128, .f32⟩ : BufTy).Contents (Elt F)) (V m c main_cst_1) :=
  V_un m c 8 main_cst_1 main_v4 (broadcastInDim S4096x128 ![] bcast_S_S4096x128 : (⟨S_, .f32⟩ : BufTy).Contents (Elt F) → (⟨S4096x128, .f32⟩ : BufTy).Contents (Elt F)) _ _ rfl (by decide) (by decide)
theorem V_v5 : V m c main_v5 = ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)) (V m c main_v4) (V m c main_v1) :=
  V_bin m c 9 main_v4 main_v1 main_v5 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)) _ _ _ rfl (by decide) (by decide) (by decide)
theorem V_cst_2 : V m c main_cst_2 = (constant S_ .f32 0x3D93CD3A#32)  :=
  V_null m c 10 main_cst_2 (constant S_ .f32 0x3D93CD3A#32) _ rfl (by decide)
theorem V_v6 : V m c main_v6 = (broadcastInDim S4096x256 ![] bcast_S_S4096x256 : (⟨S_, .f32⟩ : BufTy).Contents (Elt F) → (⟨S4096x256, .f32⟩ : BufTy).Contents (Elt F)) (V m c main_cst_2) :=
  V_un m c 11 main_cst_2 main_v6 (broadcastInDim S4096x256 ![] bcast_S_S4096x256 : (⟨S_, .f32⟩ : BufTy).Contents (Elt F) → (⟨S4096x256, .f32⟩ : BufTy).Contents (Elt F)) _ _ rfl (by decide) (by decide)
theorem V_v7 : V m c main_v7 = (mulf : (⟨S4096x256, .f32⟩ : BufTy).Contents (Elt F) → (⟨S4096x256, .f32⟩ : BufTy).Contents (Elt F) → (⟨S4096x256, .f32⟩ : BufTy).Contents (Elt F)) (V m c main_v6) (V m c main_v5) :=
  V_bin m c 12 main_v6 main_v5 main_v7 (mulf : (⟨S4096x256, .f32⟩ : BufTy).Contents (Elt F) → (⟨S4096x256, .f32⟩ : BufTy).Contents (Elt F) → (⟨S4096x256, .f32⟩ : BufTy).Contents (Elt F)) _ _ _ rfl (by decide) (by decide) (by decide)
theorem V_cst_3 : V m c main_cst_3 = (constant S_ .f32 0x00000000#32)  :=
  V_null m c 13 main_cst_3 (constant S_ .f32 0x00000000#32) _ rfl (by decide)
theorem V_v8 : V m c main_v8 = (broadcastInDim S4096x128 ![] bcast_S_S4096x128 : (⟨S_, .f32⟩ : BufTy).Contents (Elt F) → (⟨S4096x128, .f32⟩ : BufTy).Contents (Elt F)) (V m c main_cst_3) :=
  V_un m c 14 main_cst_3 main_v8 (broadcastInDim S4096x128 ![] bcast_S_S4096x128 : (⟨S_, .f32⟩ : BufTy).Contents (Elt F) → (⟨S4096x128, .f32⟩ : BufTy).Contents (Elt F)) _ _ rfl (by decide) (by decide)
theorem V_v9 : V m c main_v9 = ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)) (V m c main_v8) (V m c main_v3) :=
  V_bin m c 15 main_v8 main_v3 main_v9 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)) _ _ _ rfl (by decide) (by decide) (by decide)
theorem V_cst_4 : V m c main_cst_4 = (constant S_ .f32 0x3D93CD3A#32)  :=
  V_null m c 16 main_cst_4 (constant S_ .f32 0x3D93CD3A#32) _ rfl (by decide)
theorem V_v10 : V m c main_v10 = (broadcastInDim S4096x256 ![] bcast_S_S4096x256 : (⟨S_, .f32⟩ : BufTy).Contents (Elt F) → (⟨S4096x256, .f32⟩ : BufTy).Contents (Elt F)) (V m c main_cst_4) :=
  V_un m c 17 main_cst_4 main_v10 (broadcastInDim S4096x256 ![] bcast_S_S4096x256 : (⟨S_, .f32⟩ : BufTy).Contents (Elt F) → (⟨S4096x256, .f32⟩ : BufTy).Contents (Elt F)) _ _ rfl (by decide) (by decide)
theorem V_v11 : V m c main_v11 = (mulf : (⟨S4096x256, .f32⟩ : BufTy).Contents (Elt F) → (⟨S4096x256, .f32⟩ : BufTy).Contents (Elt F) → (⟨S4096x256, .f32⟩ : BufTy).Contents (Elt F)) (V m c main_v10) (V m c main_v9) :=
  V_bin m c 18 main_v10 main_v9 main_v11 (mulf : (⟨S4096x256, .f32⟩ : BufTy).Contents (Elt F) → (⟨S4096x256, .f32⟩ : BufTy).Contents (Elt F) → (⟨S4096x256, .f32⟩ : BufTy).Contents (Elt F)) _ _ _ rfl (by decide) (by decide) (by decide)
theorem V_v12 : V m c main_v12 = shapeCast main_v12.ty.shape (V m c main_arg0) shapeCasts_S4096x3072_S4096x16x192 :=
  V_resh m c 19 main_arg0 main_v12 rfl shapeCasts_S4096x3072_S4096x16x192 _ _ rfl (by decide) (by decide)
theorem hd_v13 : (Ls F)[20]? = some (StableHlo.unary main_v12 main_v13 ((extractStridedSlice S4096x16x128 ![0, 0, 0] · slices_S4096x16x192_S4096x16x128_0_0_0) : (⟨S4096x16x192, .f32⟩ : BufTy).Contents (Elt F) → (⟨S4096x16x128, .f32⟩ : BufTy).Contents (Elt F))) := rfl
theorem V_v13 : V m c main_v13 = ((extractStridedSlice S4096x16x128 ![0, 0, 0] · slices_S4096x16x192_S4096x16x128_0_0_0) : (⟨S4096x16x192, .f32⟩ : BufTy).Contents (Elt F) → (⟨S4096x16x128, .f32⟩ : BufTy).Contents (Elt F)) (V m c main_v12) :=
  V_un m c 20 main_v12 main_v13 _ _ _ hd_v13 (by decide) (by decide)
theorem hd_v14 : (Ls F)[21]? = some (StableHlo.unary main_v12 main_v14 ((extractStridedSlice S4096x16x64 ![0, 0, 128] · slices_S4096x16x192_S4096x16x64_0_0_128) : (⟨S4096x16x192, .f32⟩ : BufTy).Contents (Elt F) → (⟨S4096x16x64, .f32⟩ : BufTy).Contents (Elt F))) := rfl
theorem V_v14 : V m c main_v14 = ((extractStridedSlice S4096x16x64 ![0, 0, 128] · slices_S4096x16x192_S4096x16x64_0_0_128) : (⟨S4096x16x192, .f32⟩ : BufTy).Contents (Elt F) → (⟨S4096x16x64, .f32⟩ : BufTy).Contents (Elt F)) (V m c main_v12) :=
  V_un m c 21 main_v12 main_v14 _ _ _ hd_v14 (by decide) (by decide)
theorem V_v15 : V m c main_v15 = shapeCast main_v15.ty.shape (V m c main_arg1) shapeCasts_S4096x4096_S4096x16x256 :=
  V_resh m c 22 main_arg1 main_v15 rfl shapeCasts_S4096x4096_S4096x16x256 _ _ rfl (by decide) (by decide)
theorem hd_v16 : (Ls F)[23]? = some (StableHlo.unary main_v15 main_v16 ((extractStridedSlice S4096x16x128 ![0, 0, 0] · slices_S4096x16x256_S4096x16x128_0_0_0) : (⟨S4096x16x256, .f32⟩ : BufTy).Contents (Elt F) → (⟨S4096x16x128, .f32⟩ : BufTy).Contents (Elt F))) := rfl
theorem V_v16 : V m c main_v16 = ((extractStridedSlice S4096x16x128 ![0, 0, 0] · slices_S4096x16x256_S4096x16x128_0_0_0) : (⟨S4096x16x256, .f32⟩ : BufTy).Contents (Elt F) → (⟨S4096x16x128, .f32⟩ : BufTy).Contents (Elt F)) (V m c main_v15) :=
  V_un m c 23 main_v15 main_v16 _ _ _ hd_v16 (by decide) (by decide)
theorem hd_v17 : (Ls F)[24]? = some (StableHlo.unary main_v15 main_v17 ((extractStridedSlice S4096x16x128 ![0, 0, 128] · slices_S4096x16x256_S4096x16x128_0_0_128) : (⟨S4096x16x256, .f32⟩ : BufTy).Contents (Elt F) → (⟨S4096x16x128, .f32⟩ : BufTy).Contents (Elt F))) := rfl
theorem V_v17 : V m c main_v17 = ((extractStridedSlice S4096x16x128 ![0, 0, 128] · slices_S4096x16x256_S4096x16x128_0_0_128) : (⟨S4096x16x256, .f32⟩ : BufTy).Contents (Elt F) → (⟨S4096x16x128, .f32⟩ : BufTy).Contents (Elt F)) (V m c main_v15) :=
  V_un m c 24 main_v15 main_v17 _ _ _ hd_v17 (by decide) (by decide)
theorem V_v18 : V m c main_v18 = (broadcastInDim S4096x1x32 ![0, 2] bcast_S4096x32_S4096x1x32_0_2 : (⟨S4096x32, .f32⟩ : BufTy).Contents (Elt F) → (⟨S4096x1x32, .f32⟩ : BufTy).Contents (Elt F)) (V m c main_arg3) :=
  V_un m c 25 main_arg3 main_v18 (broadcastInDim S4096x1x32 ![0, 2] bcast_S4096x32_S4096x1x32_0_2 : (⟨S4096x32, .f32⟩ : BufTy).Contents (Elt F) → (⟨S4096x1x32, .f32⟩ : BufTy).Contents (Elt F)) _ _ rfl (by decide) (by decide)
theorem V_v19 : V m c main_v19 = (broadcastInDim S4096x1x32 ![0, 2] bcast_S4096x32_S4096x1x32_0_2 : (⟨S4096x32, .f32⟩ : BufTy).Contents (Elt F) → (⟨S4096x1x32, .f32⟩ : BufTy).Contents (Elt F)) (V m c main_arg4) :=
  V_un m c 26 main_arg4 main_v19 (broadcastInDim S4096x1x32 ![0, 2] bcast_S4096x32_S4096x1x32_0_2 : (⟨S4096x32, .f32⟩ : BufTy).Contents (Elt F) → (⟨S4096x1x32, .f32⟩ : BufTy).Contents (Elt F)) _ _ rfl (by decide) (by decide)
theorem hd_v20 : (Ls F)[27]? = some (StableHlo.unary main_v14 main_v20 ((extractStridedSlice S4096x16x32 ![0, 0, 0] · slices_S4096x16x64_S4096x16x32_0_0_0) : (⟨S4096x16x64, .f32⟩ : BufTy).Contents (Elt F) → (⟨S4096x16x32, .f32⟩ : BufTy).Contents (Elt F))) := rfl
theorem V_v20 : V m c main_v20 = ((extractStridedSlice S4096x16x32 ![0, 0, 0] · slices_S4096x16x64_S4096x16x32_0_0_0) : (⟨S4096x16x64, .f32⟩ : BufTy).Contents (Elt F) → (⟨S4096x16x32, .f32⟩ : BufTy).Contents (Elt F)) (V m c main_v14) :=
  V_un m c 27 main_v14 main_v20 _ _ _ hd_v20 (by decide) (by decide)
theorem hd_v21 : (Ls F)[28]? = some (StableHlo.unary main_v14 main_v21 ((extractStridedSlice S4096x16x32 ![0, 0, 32] · slices_S4096x16x64_S4096x16x32_0_0_32) : (⟨S4096x16x64, .f32⟩ : BufTy).Contents (Elt F) → (⟨S4096x16x32, .f32⟩ : BufTy).Contents (Elt F))) := rfl
theorem V_v21 : V m c main_v21 = ((extractStridedSlice S4096x16x32 ![0, 0, 32] · slices_S4096x16x64_S4096x16x32_0_0_32) : (⟨S4096x16x64, .f32⟩ : BufTy).Contents (Elt F) → (⟨S4096x16x32, .f32⟩ : BufTy).Contents (Elt F)) (V m c main_v14) :=
  V_un m c 28 main_v14 main_v21 _ _ _ hd_v21 (by decide) (by decide)
theorem V_v22 : V m c main_v22 = (broadcastInDim S4096x16x32 ![0, 1, 2] bcast_S4096x1x32_S4096x16x32_0_1_2 : (⟨S4096x1x32, .f32⟩ : BufTy).Contents (Elt F) → (⟨S4096x16x32, .f32⟩ : BufTy).Contents (Elt F)) (V m c main_v18) :=
  V_un m c 29 main_v18 main_v22 (broadcastInDim S4096x16x32 ![0, 1, 2] bcast_S4096x1x32_S4096x16x32_0_1_2 : (⟨S4096x1x32, .f32⟩ : BufTy).Contents (Elt F) → (⟨S4096x16x32, .f32⟩ : BufTy).Contents (Elt F)) _ _ rfl (by decide) (by decide)
theorem V_v23 : V m c main_v23 = (mulf : (⟨S4096x16x32, .f32⟩ : BufTy).Contents (Elt F) → (⟨S4096x16x32, .f32⟩ : BufTy).Contents (Elt F) → (⟨S4096x16x32, .f32⟩ : BufTy).Contents (Elt F)) (V m c main_v20) (V m c main_v22) :=
  V_bin m c 30 main_v20 main_v22 main_v23 (mulf : (⟨S4096x16x32, .f32⟩ : BufTy).Contents (Elt F) → (⟨S4096x16x32, .f32⟩ : BufTy).Contents (Elt F) → (⟨S4096x16x32, .f32⟩ : BufTy).Contents (Elt F)) _ _ _ rfl (by decide) (by decide) (by decide)
theorem V_v24 : V m c main_v24 = (broadcastInDim S4096x16x32 ![0, 1, 2] bcast_S4096x1x32_S4096x16x32_0_1_2 : (⟨S4096x1x32, .f32⟩ : BufTy).Contents (Elt F) → (⟨S4096x16x32, .f32⟩ : BufTy).Contents (Elt F)) (V m c main_v19) :=
  V_un m c 31 main_v19 main_v24 (broadcastInDim S4096x16x32 ![0, 1, 2] bcast_S4096x1x32_S4096x16x32_0_1_2 : (⟨S4096x1x32, .f32⟩ : BufTy).Contents (Elt F) → (⟨S4096x16x32, .f32⟩ : BufTy).Contents (Elt F)) _ _ rfl (by decide) (by decide)
theorem V_v25 : V m c main_v25 = (mulf : (⟨S4096x16x32, .f32⟩ : BufTy).Contents (Elt F) → (⟨S4096x16x32, .f32⟩ : BufTy).Contents (Elt F) → (⟨S4096x16x32, .f32⟩ : BufTy).Contents (Elt F)) (V m c main_v21) (V m c main_v24) :=
  V_bin m c 32 main_v21 main_v24 main_v25 (mulf : (⟨S4096x16x32, .f32⟩ : BufTy).Contents (Elt F) → (⟨S4096x16x32, .f32⟩ : BufTy).Contents (Elt F) → (⟨S4096x16x32, .f32⟩ : BufTy).Contents (Elt F)) _ _ _ rfl (by decide) (by decide) (by decide)
theorem V_v26 : V m c main_v26 = (subf : (⟨S4096x16x32, .f32⟩ : BufTy).Contents (Elt F) → (⟨S4096x16x32, .f32⟩ : BufTy).Contents (Elt F) → (⟨S4096x16x32, .f32⟩ : BufTy).Contents (Elt F)) (V m c main_v23) (V m c main_v25) :=
  V_bin m c 33 main_v23 main_v25 main_v26 (subf : (⟨S4096x16x32, .f32⟩ : BufTy).Contents (Elt F) → (⟨S4096x16x32, .f32⟩ : BufTy).Contents (Elt F) → (⟨S4096x16x32, .f32⟩ : BufTy).Contents (Elt F)) _ _ _ rfl (by decide) (by decide) (by decide)
theorem V_v27 : V m c main_v27 = (broadcastInDim S4096x16x32 ![0, 1, 2] bcast_S4096x1x32_S4096x16x32_0_1_2 : (⟨S4096x1x32, .f32⟩ : BufTy).Contents (Elt F) → (⟨S4096x16x32, .f32⟩ : BufTy).Contents (Elt F)) (V m c main_v18) :=
  V_un m c 34 main_v18 main_v27 (broadcastInDim S4096x16x32 ![0, 1, 2] bcast_S4096x1x32_S4096x16x32_0_1_2 : (⟨S4096x1x32, .f32⟩ : BufTy).Contents (Elt F) → (⟨S4096x16x32, .f32⟩ : BufTy).Contents (Elt F)) _ _ rfl (by decide) (by decide)
theorem V_v28 : V m c main_v28 = (mulf : (⟨S4096x16x32, .f32⟩ : BufTy).Contents (Elt F) → (⟨S4096x16x32, .f32⟩ : BufTy).Contents (Elt F) → (⟨S4096x16x32, .f32⟩ : BufTy).Contents (Elt F)) (V m c main_v21) (V m c main_v27) :=
  V_bin m c 35 main_v21 main_v27 main_v28 (mulf : (⟨S4096x16x32, .f32⟩ : BufTy).Contents (Elt F) → (⟨S4096x16x32, .f32⟩ : BufTy).Contents (Elt F) → (⟨S4096x16x32, .f32⟩ : BufTy).Contents (Elt F)) _ _ _ rfl (by decide) (by decide) (by decide)
theorem V_v29 : V m c main_v29 = (broadcastInDim S4096x16x32 ![0, 1, 2] bcast_S4096x1x32_S4096x16x32_0_1_2 : (⟨S4096x1x32, .f32⟩ : BufTy).Contents (Elt F) → (⟨S4096x16x32, .f32⟩ : BufTy).Contents (Elt F)) (V m c main_v19) :=
  V_un m c 36 main_v19 main_v29 (broadcastInDim S4096x16x32 ![0, 1, 2] bcast_S4096x1x32_S4096x16x32_0_1_2 : (⟨S4096x1x32, .f32⟩ : BufTy).Contents (Elt F) → (⟨S4096x16x32, .f32⟩ : BufTy).Contents (Elt F)) _ _ rfl (by decide) (by decide)
theorem V_v30 : V m c main_v30 = (mulf : (⟨S4096x16x32, .f32⟩ : BufTy).Contents (Elt F) → (⟨S4096x16x32, .f32⟩ : BufTy).Contents (Elt F) → (⟨S4096x16x32, .f32⟩ : BufTy).Contents (Elt F)) (V m c main_v20) (V m c main_v29) :=
  V_bin m c 37 main_v20 main_v29 main_v30 (mulf : (⟨S4096x16x32, .f32⟩ : BufTy).Contents (Elt F) → (⟨S4096x16x32, .f32⟩ : BufTy).Contents (Elt F) → (⟨S4096x16x32, .f32⟩ : BufTy).Contents (Elt F)) _ _ _ rfl (by decide) (by decide) (by decide)
theorem V_v31 : V m c main_v31 = (addf : (⟨S4096x16x32, .f32⟩ : BufTy).Contents (Elt F) → (⟨S4096x16x32, .f32⟩ : BufTy).Contents (Elt F) → (⟨S4096x16x32, .f32⟩ : BufTy).Contents (Elt F)) (V m c main_v28) (V m c main_v30) :=
  V_bin m c 38 main_v28 main_v30 main_v31 (addf : (⟨S4096x16x32, .f32⟩ : BufTy).Contents (Elt F) → (⟨S4096x16x32, .f32⟩ : BufTy).Contents (Elt F) → (⟨S4096x16x32, .f32⟩ : BufTy).Contents (Elt F)) _ _ _ rfl (by decide) (by decide) (by decide)
theorem V_v32 : V m c main_v32 = ((fun a b => concatenate S4096x16x64 2 [⟨S4096x16x32, a⟩, ⟨S4096x16x32, b⟩] concatenates_S4096x16x32_S4096x16x32_S4096x16x64_d2) : (⟨S4096x16x32, .f32⟩ : BufTy).Contents (Elt F) → (⟨S4096x16x32, .f32⟩ : BufTy).Contents (Elt F) → (⟨S4096x16x64, .f32⟩ : BufTy).Contents (Elt F)) (V m c main_v26) (V m c main_v31) :=
  V_bin m c 39 main_v26 main_v31 main_v32 ((fun a b => concatenate S4096x16x64 2 [⟨S4096x16x32, a⟩, ⟨S4096x16x32, b⟩] concatenates_S4096x16x32_S4096x16x32_S4096x16x64_d2) : (⟨S4096x16x32, .f32⟩ : BufTy).Contents (Elt F) → (⟨S4096x16x32, .f32⟩ : BufTy).Contents (Elt F) → (⟨S4096x16x64, .f32⟩ : BufTy).Contents (Elt F)) _ _ _ rfl (by decide) (by decide) (by decide)
theorem hd_v33 : (Ls F)[40]? = some (StableHlo.unary main_arg2 main_v33 ((extractStridedSlice S4096x32 ![0, 0] · slices_S4096x64_S4096x32_0_0) : (⟨S4096x64, .f32⟩ : BufTy).Contents (Elt F) → (⟨S4096x32, .f32⟩ : BufTy).Contents (Elt F))) := rfl
theorem V_v33 : V m c main_v33 = ((extractStridedSlice S4096x32 ![0, 0] · slices_S4096x64_S4096x32_0_0) : (⟨S4096x64, .f32⟩ : BufTy).Contents (Elt F) → (⟨S4096x32, .f32⟩ : BufTy).Contents (Elt F)) (V m c main_arg2) :=
  V_un m c 40 main_arg2 main_v33 _ _ _ hd_v33 (by decide) (by decide)
theorem hd_v34 : (Ls F)[41]? = some (StableHlo.unary main_arg2 main_v34 ((extractStridedSlice S4096x32 ![0, 32] · slices_S4096x64_S4096x32_0_32) : (⟨S4096x64, .f32⟩ : BufTy).Contents (Elt F) → (⟨S4096x32, .f32⟩ : BufTy).Contents (Elt F))) := rfl
theorem V_v34 : V m c main_v34 = ((extractStridedSlice S4096x32 ![0, 32] · slices_S4096x64_S4096x32_0_32) : (⟨S4096x64, .f32⟩ : BufTy).Contents (Elt F) → (⟨S4096x32, .f32⟩ : BufTy).Contents (Elt F)) (V m c main_arg2) :=
  V_un m c 41 main_arg2 main_v34 _ _ _ hd_v34 (by decide) (by decide)
theorem V_v35 : V m c main_v35 = (mulf : (⟨S4096x32, .f32⟩ : BufTy).Contents (Elt F) → (⟨S4096x32, .f32⟩ : BufTy).Contents (Elt F) → (⟨S4096x32, .f32⟩ : BufTy).Contents (Elt F)) (V m c main_v33) (V m c main_arg3) :=
  V_bin m c 42 main_v33 main_arg3 main_v35 (mulf : (⟨S4096x32, .f32⟩ : BufTy).Contents (Elt F) → (⟨S4096x32, .f32⟩ : BufTy).Contents (Elt F) → (⟨S4096x32, .f32⟩ : BufTy).Contents (Elt F)) _ _ _ rfl (by decide) (by decide) (by decide)
theorem V_v36 : V m c main_v36 = (mulf : (⟨S4096x32, .f32⟩ : BufTy).Contents (Elt F) → (⟨S4096x32, .f32⟩ : BufTy).Contents (Elt F) → (⟨S4096x32, .f32⟩ : BufTy).Contents (Elt F)) (V m c main_v34) (V m c main_arg4) :=
  V_bin m c 43 main_v34 main_arg4 main_v36 (mulf : (⟨S4096x32, .f32⟩ : BufTy).Contents (Elt F) → (⟨S4096x32, .f32⟩ : BufTy).Contents (Elt F) → (⟨S4096x32, .f32⟩ : BufTy).Contents (Elt F)) _ _ _ rfl (by decide) (by decide) (by decide)
theorem V_v37 : V m c main_v37 = (subf : (⟨S4096x32, .f32⟩ : BufTy).Contents (Elt F) → (⟨S4096x32, .f32⟩ : BufTy).Contents (Elt F) → (⟨S4096x32, .f32⟩ : BufTy).Contents (Elt F)) (V m c main_v35) (V m c main_v36) :=
  V_bin m c 44 main_v35 main_v36 main_v37 (subf : (⟨S4096x32, .f32⟩ : BufTy).Contents (Elt F) → (⟨S4096x32, .f32⟩ : BufTy).Contents (Elt F) → (⟨S4096x32, .f32⟩ : BufTy).Contents (Elt F)) _ _ _ rfl (by decide) (by decide) (by decide)
theorem V_v38 : V m c main_v38 = (mulf : (⟨S4096x32, .f32⟩ : BufTy).Contents (Elt F) → (⟨S4096x32, .f32⟩ : BufTy).Contents (Elt F) → (⟨S4096x32, .f32⟩ : BufTy).Contents (Elt F)) (V m c main_v34) (V m c main_arg3) :=
  V_bin m c 45 main_v34 main_arg3 main_v38 (mulf : (⟨S4096x32, .f32⟩ : BufTy).Contents (Elt F) → (⟨S4096x32, .f32⟩ : BufTy).Contents (Elt F) → (⟨S4096x32, .f32⟩ : BufTy).Contents (Elt F)) _ _ _ rfl (by decide) (by decide) (by decide)
theorem V_v39 : V m c main_v39 = (mulf : (⟨S4096x32, .f32⟩ : BufTy).Contents (Elt F) → (⟨S4096x32, .f32⟩ : BufTy).Contents (Elt F) → (⟨S4096x32, .f32⟩ : BufTy).Contents (Elt F)) (V m c main_v33) (V m c main_arg4) :=
  V_bin m c 46 main_v33 main_arg4 main_v39 (mulf : (⟨S4096x32, .f32⟩ : BufTy).Contents (Elt F) → (⟨S4096x32, .f32⟩ : BufTy).Contents (Elt F) → (⟨S4096x32, .f32⟩ : BufTy).Contents (Elt F)) _ _ _ rfl (by decide) (by decide) (by decide)
theorem V_v40 : V m c main_v40 = (addf : (⟨S4096x32, .f32⟩ : BufTy).Contents (Elt F) → (⟨S4096x32, .f32⟩ : BufTy).Contents (Elt F) → (⟨S4096x32, .f32⟩ : BufTy).Contents (Elt F)) (V m c main_v38) (V m c main_v39) :=
  V_bin m c 47 main_v38 main_v39 main_v40 (addf : (⟨S4096x32, .f32⟩ : BufTy).Contents (Elt F) → (⟨S4096x32, .f32⟩ : BufTy).Contents (Elt F) → (⟨S4096x32, .f32⟩ : BufTy).Contents (Elt F)) _ _ _ rfl (by decide) (by decide) (by decide)
theorem V_v41 : V m c main_v41 = ((fun a b => concatenate S4096x64 1 [⟨S4096x32, a⟩, ⟨S4096x32, b⟩] concatenates_S4096x32_S4096x32_S4096x64_d1) : (⟨S4096x32, .f32⟩ : BufTy).Contents (Elt F) → (⟨S4096x32, .f32⟩ : BufTy).Contents (Elt F) → (⟨S4096x64, .f32⟩ : BufTy).Contents (Elt F)) (V m c main_v37) (V m c main_v40) :=
  V_bin m c 48 main_v37 main_v40 main_v41 ((fun a b => concatenate S4096x64 1 [⟨S4096x32, a⟩, ⟨S4096x32, b⟩] concatenates_S4096x32_S4096x32_S4096x64_d1) : (⟨S4096x32, .f32⟩ : BufTy).Contents (Elt F) → (⟨S4096x32, .f32⟩ : BufTy).Contents (Elt F) → (⟨S4096x64, .f32⟩ : BufTy).Contents (Elt F)) _ _ _ rfl (by decide) (by decide) (by decide)
theorem V_v42 : V m c main_v42 = ((fun l r => Host.dotGeneral dot_S4096x16x128_S4096x16x128_S16x4096x4096_2_2_0_0_1_1 none l r) : (⟨S4096x16x128, .f32⟩ : BufTy).Contents (Elt F) → (⟨S4096x16x128, .f32⟩ : BufTy).Contents (Elt F) → (⟨S16x4096x4096, .f32⟩ : BufTy).Contents (Elt F)) (V m c main_v13) (V m c main_v16) :=
  V_bin m c 49 main_v13 main_v16 main_v42 ((fun l r => Host.dotGeneral dot_S4096x16x128_S4096x16x128_S16x4096x4096_2_2_0_0_1_1 none l r) : (⟨S4096x16x128, .f32⟩ : BufTy).Contents (Elt F) → (⟨S4096x16x128, .f32⟩ : BufTy).Contents (Elt F) → (⟨S16x4096x4096, .f32⟩ : BufTy).Contents (Elt F)) _ _ _ rfl (by decide) (by decide) (by decide)
theorem V_v43 : V m c main_v43 = ((fun l r => Host.dotGeneral dot_S4096x64_S4096x16x64_S4096x4096x16_1_2_0_01_n_n none l r) : (⟨S4096x64, .f32⟩ : BufTy).Contents (Elt F) → (⟨S4096x16x64, .f32⟩ : BufTy).Contents (Elt F) → (⟨S4096x4096x16, .f32⟩ : BufTy).Contents (Elt F)) (V m c main_v41) (V m c main_v32) :=
  V_bin m c 50 main_v41 main_v32 main_v43 ((fun l r => Host.dotGeneral dot_S4096x64_S4096x16x64_S4096x4096x16_1_2_0_01_n_n none l r) : (⟨S4096x64, .f32⟩ : BufTy).Contents (Elt F) → (⟨S4096x16x64, .f32⟩ : BufTy).Contents (Elt F) → (⟨S4096x4096x16, .f32⟩ : BufTy).Contents (Elt F)) _ _ _ rfl (by decide) (by decide) (by decide)
theorem V_v44 : V m c main_v44 = ((transpose S16x4096x4096 [2, 1, 0] · transposes_S4096x4096x16_S16x4096x4096_2_1_0) : (⟨S4096x4096x16, .f32⟩ : BufTy).Contents (Elt F) → (⟨S16x4096x4096, .f32⟩ : BufTy).Contents (Elt F)) (V m c main_v43) :=
  V_un m c 51 main_v43 main_v44 ((transpose S16x4096x4096 [2, 1, 0] · transposes_S4096x4096x16_S16x4096x4096_2_1_0) : (⟨S4096x4096x16, .f32⟩ : BufTy).Contents (Elt F) → (⟨S16x4096x4096, .f32⟩ : BufTy).Contents (Elt F)) _ _ rfl (by decide) (by decide)
theorem V_v45 : V m c main_v45 = (addf : (⟨S16x4096x4096, .f32⟩ : BufTy).Contents (Elt F) → (⟨S16x4096x4096, .f32⟩ : BufTy).Contents (Elt F) → (⟨S16x4096x4096, .f32⟩ : BufTy).Contents (Elt F)) (V m c main_v42) (V m c main_v44) :=
  V_bin m c 52 main_v42 main_v44 main_v45 (addf : (⟨S16x4096x4096, .f32⟩ : BufTy).Contents (Elt F) → (⟨S16x4096x4096, .f32⟩ : BufTy).Contents (Elt F) → (⟨S16x4096x4096, .f32⟩ : BufTy).Contents (Elt F)) _ _ _ rfl (by decide) (by decide) (by decide)
theorem V_cst_5 : V m c main_cst_5 = (constant S_ .f32 0x3D93CD3A#32)  :=
  V_null m c 53 main_cst_5 (constant S_ .f32 0x3D93CD3A#32) _ rfl (by decide)
theorem V_v46 : V m c main_v46 = (broadcastInDim S16x4096x4096 ![] bcast_S_S16x4096x4096 : (⟨S_, .f32⟩ : BufTy).Contents (Elt F) → (⟨S16x4096x4096, .f32⟩ : BufTy).Contents (Elt F)) (V m c main_cst_5) :=
  V_un m c 54 main_cst_5 main_v46 (broadcastInDim S16x4096x4096 ![] bcast_S_S16x4096x4096 : (⟨S_, .f32⟩ : BufTy).Contents (Elt F) → (⟨S16x4096x4096, .f32⟩ : BufTy).Contents (Elt F)) _ _ rfl (by decide) (by decide)
theorem V_v47 : V m c main_v47 = (mulf : (⟨S16x4096x4096, .f32⟩ : BufTy).Contents (Elt F) → (⟨S16x4096x4096, .f32⟩ : BufTy).Contents (Elt F) → (⟨S16x4096x4096, .f32⟩ : BufTy).Contents (Elt F)) (V m c main_v45) (V m c main_v46) :=
  V_bin m c 55 main_v45 main_v46 main_v47 (mulf : (⟨S16x4096x4096, .f32⟩ : BufTy).Contents (Elt F) → (⟨S16x4096x4096, .f32⟩ : BufTy).Contents (Elt F) → (⟨S16x4096x4096, .f32⟩ : BufTy).Contents (Elt F)) _ _ _ rfl (by decide) (by decide) (by decide)
theorem V_v48 : V m c main_v48 = (iotaInDim S4096 32 0)  :=
  V_null m c 56 main_v48 (iotaInDim S4096 32 0) _ rfl (by decide)
theorem V_c_6 : V m c main_c_6 = (constantI S_ 32 64#32)  :=
  V_null m c 57 main_c_6 (constantI S_ 32 64#32) _ rfl (by decide)
theorem V_call0_v0 : V m c main_call0_v0 = (id : (⟨S_, .i32⟩ : BufTy).Contents (Elt F) → (⟨S_, .i32⟩ : BufTy).Contents (Elt F)) (V m c main_c_6) :=
  V_un m c 58 main_c_6 main_call0_v0 (id : (⟨S_, .i32⟩ : BufTy).Contents (Elt F) → (⟨S_, .i32⟩ : BufTy).Contents (Elt F)) _ _ rfl (by decide) (by decide)
theorem V_call0_v1 : V m c main_call0_v1 = ((broadcastInDim S4096 ![] bcast_S_S4096) : (⟨S_, .i32⟩ : BufTy).Contents (Elt F) → (⟨S4096, .i32⟩ : BufTy).Contents (Elt F)) (V m c main_call0_v0) :=
  V_un m c 59 main_call0_v0 main_call0_v1 ((broadcastInDim S4096 ![] bcast_S_S4096) : (⟨S_, .i32⟩ : BufTy).Contents (Elt F) → (⟨S4096, .i32⟩ : BufTy).Contents (Elt F)) _ _ rfl (by decide) (by decide)
theorem V_call0_v2 : V m c main_call0_v2 = (Host.divsi : (⟨S4096, .i32⟩ : BufTy).Contents (Elt F) → (⟨S4096, .i32⟩ : BufTy).Contents (Elt F) → (⟨S4096, .i32⟩ : BufTy).Contents (Elt F)) (V m c main_v48) (V m c main_call0_v1) :=
  V_bin m c 60 main_v48 main_call0_v1 main_call0_v2 (Host.divsi : (⟨S4096, .i32⟩ : BufTy).Contents (Elt F) → (⟨S4096, .i32⟩ : BufTy).Contents (Elt F) → (⟨S4096, .i32⟩ : BufTy).Contents (Elt F)) _ _ _ rfl (by decide) (by decide) (by decide)
theorem V_call0_v3 : V m c main_call0_v3 = (signi : (⟨S4096, .i32⟩ : BufTy).Contents (Elt F) → (⟨S4096, .i32⟩ : BufTy).Contents (Elt F)) (V m c main_v48) :=
  V_un m c 61 main_v48 main_call0_v3 (signi : (⟨S4096, .i32⟩ : BufTy).Contents (Elt F) → (⟨S4096, .i32⟩ : BufTy).Contents (Elt F)) _ _ rfl (by decide) (by decide)
theorem V_call0_v4 : V m c main_call0_v4 = (signi : (⟨S_, .i32⟩ : BufTy).Contents (Elt F) → (⟨S_, .i32⟩ : BufTy).Contents (Elt F)) (V m c main_call0_v0) :=
  V_un m c 62 main_call0_v0 main_call0_v4 (signi : (⟨S_, .i32⟩ : BufTy).Contents (Elt F) → (⟨S_, .i32⟩ : BufTy).Contents (Elt F)) _ _ rfl (by decide) (by decide)
theorem V_call0_v5 : V m c main_call0_v5 = ((broadcastInDim S4096 ![] bcast_S_S4096) : (⟨S_, .i32⟩ : BufTy).Contents (Elt F) → (⟨S4096, .i32⟩ : BufTy).Contents (Elt F)) (V m c main_call0_v4) :=
  V_un m c 63 main_call0_v4 main_call0_v5 ((broadcastInDim S4096 ![] bcast_S_S4096) : (⟨S_, .i32⟩ : BufTy).Contents (Elt F) → (⟨S4096, .i32⟩ : BufTy).Contents (Elt F)) _ _ rfl (by decide) (by decide)
theorem V_call0_v6 : V m c main_call0_v6 = ((cmpi .ne) : (⟨S4096, .i32⟩ : BufTy).Contents (Elt F) → (⟨S4096, .i32⟩ : BufTy).Contents (Elt F) → (⟨S4096, .i1⟩ : BufTy).Contents (Elt F)) (V m c main_call0_v3) (V m c main_call0_v5) :=
  V_bin m c 64 main_call0_v3 main_call0_v5 main_call0_v6 ((cmpi .ne) : (⟨S4096, .i32⟩ : BufTy).Contents (Elt F) → (⟨S4096, .i32⟩ : BufTy).Contents (Elt F) → (⟨S4096, .i1⟩ : BufTy).Contents (Elt F)) _ _ _ rfl (by decide) (by decide) (by decide)
theorem V_call0_v7 : V m c main_call0_v7 = ((broadcastInDim S4096 ![] bcast_S_S4096) : (⟨S_, .i32⟩ : BufTy).Contents (Elt F) → (⟨S4096, .i32⟩ : BufTy).Contents (Elt F)) (V m c main_call0_v0) :=
  V_un m c 65 main_call0_v0 main_call0_v7 ((broadcastInDim S4096 ![] bcast_S_S4096) : (⟨S_, .i32⟩ : BufTy).Contents (Elt F) → (⟨S4096, .i32⟩ : BufTy).Contents (Elt F)) _ _ rfl (by decide) (by decide)
theorem V_call0_v8 : V m c main_call0_v8 = (Host.remsi : (⟨S4096, .i32⟩ : BufTy).Contents (Elt F) → (⟨S4096, .i32⟩ : BufTy).Contents (Elt F) → (⟨S4096, .i32⟩ : BufTy).Contents (Elt F)) (V m c main_v48) (V m c main_call0_v7) :=
  V_bin m c 66 main_v48 main_call0_v7 main_call0_v8 (Host.remsi : (⟨S4096, .i32⟩ : BufTy).Contents (Elt F) → (⟨S4096, .i32⟩ : BufTy).Contents (Elt F) → (⟨S4096, .i32⟩ : BufTy).Contents (Elt F)) _ _ _ rfl (by decide) (by decide) (by decide)
theorem V_call0_c : V m c main_call0_c = ((constantI S_ 32 0#32) : (⟨S_, .i32⟩ : BufTy).Contents (Elt F))  :=
  V_null m c 67 main_call0_c ((constantI S_ 32 0#32) : (⟨S_, .i32⟩ : BufTy).Contents (Elt F)) _ rfl (by decide)
theorem V_call0_v9 : V m c main_call0_v9 = ((broadcastInDim S4096 ![] bcast_S_S4096) : (⟨S_, .i32⟩ : BufTy).Contents (Elt F) → (⟨S4096, .i32⟩ : BufTy).Contents (Elt F)) (V m c main_call0_c) :=
  V_un m c 68 main_call0_c main_call0_v9 ((broadcastInDim S4096 ![] bcast_S_S4096) : (⟨S_, .i32⟩ : BufTy).Contents (Elt F) → (⟨S4096, .i32⟩ : BufTy).Contents (Elt F)) _ _ rfl (by decide) (by decide)
theorem V_call0_v10 : V m c main_call0_v10 = ((cmpi .ne) : (⟨S4096, .i32⟩ : BufTy).Contents (Elt F) → (⟨S4096, .i32⟩ : BufTy).Contents (Elt F) → (⟨S4096, .i1⟩ : BufTy).Contents (Elt F)) (V m c main_call0_v8) (V m c main_call0_v9) :=
  V_bin m c 69 main_call0_v8 main_call0_v9 main_call0_v10 ((cmpi .ne) : (⟨S4096, .i32⟩ : BufTy).Contents (Elt F) → (⟨S4096, .i32⟩ : BufTy).Contents (Elt F) → (⟨S4096, .i1⟩ : BufTy).Contents (Elt F)) _ _ _ rfl (by decide) (by decide) (by decide)
theorem V_call0_v11 : V m c main_call0_v11 = (andi : (⟨S4096, .i1⟩ : BufTy).Contents (Elt F) → (⟨S4096, .i1⟩ : BufTy).Contents (Elt F) → (⟨S4096, .i1⟩ : BufTy).Contents (Elt F)) (V m c main_call0_v6) (V m c main_call0_v10) :=
  V_bin m c 70 main_call0_v6 main_call0_v10 main_call0_v11 (andi : (⟨S4096, .i1⟩ : BufTy).Contents (Elt F) → (⟨S4096, .i1⟩ : BufTy).Contents (Elt F) → (⟨S4096, .i1⟩ : BufTy).Contents (Elt F)) _ _ _ rfl (by decide) (by decide) (by decide)
theorem V_call0_c_0 : V m c main_call0_c_0 = ((constantI S_ 32 1#32) : (⟨S_, .i32⟩ : BufTy).Contents (Elt F))  :=
  V_null m c 71 main_call0_c_0 ((constantI S_ 32 1#32) : (⟨S_, .i32⟩ : BufTy).Contents (Elt F)) _ rfl (by decide)
theorem V_call0_v12 : V m c main_call0_v12 = ((broadcastInDim S4096 ![] bcast_S_S4096) : (⟨S_, .i32⟩ : BufTy).Contents (Elt F) → (⟨S4096, .i32⟩ : BufTy).Contents (Elt F)) (V m c main_call0_c_0) :=
  V_un m c 72 main_call0_c_0 main_call0_v12 ((broadcastInDim S4096 ![] bcast_S_S4096) : (⟨S_, .i32⟩ : BufTy).Contents (Elt F) → (⟨S4096, .i32⟩ : BufTy).Contents (Elt F)) _ _ rfl (by decide) (by decide)
theorem V_call0_v13 : V m c main_call0_v13 = (subi : (⟨S4096, .i32⟩ : BufTy).Contents (Elt F) → (⟨S4096, .i32⟩ : BufTy).Contents (Elt F) → (⟨S4096, .i32⟩ : BufTy).Contents (Elt F)) (V m c main_call0_v2) (V m c main_call0_v12) :=
  V_bin m c 73 main_call0_v2 main_call0_v12 main_call0_v13 (subi : (⟨S4096, .i32⟩ : BufTy).Contents (Elt F) → (⟨S4096, .i32⟩ : BufTy).Contents (Elt F) → (⟨S4096, .i32⟩ : BufTy).Contents (Elt F)) _ _ _ rfl (by decide) (by decide) (by decide)
theorem V_v49 : V m c main_v49 = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (V m c main_call0_v11) (V m c main_call0_v13) (V m c main_call0_v2) :=
  V_ter m c 74 main_call0_v11 main_call0_v13 main_call0_v2 main_v49 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) _ _ _ _ rfl (by decide) (by decide) (by decide) (by decide)
theorem V_v50 : V m c main_v50 = (broadcastInDim S1x1x4096 ![2] bcast_S4096_S1x1x4096_2 : (⟨S4096, .i32⟩ : BufTy).Contents (Elt F) → (⟨S1x1x4096, .i32⟩ : BufTy).Contents (Elt F)) (V m c main_v49) :=
  V_un m c 75 main_v49 main_v50 (broadcastInDim S1x1x4096 ![2] bcast_S4096_S1x1x4096_2 : (⟨S4096, .i32⟩ : BufTy).Contents (Elt F) → (⟨S1x1x4096, .i32⟩ : BufTy).Contents (Elt F)) _ _ rfl (by decide) (by decide)
theorem V_v51 : V m c main_v51 = (broadcastInDim S1x4096x1 ![1] bcast_S4096_S1x4096x1_1 : (⟨S4096, .i32⟩ : BufTy).Contents (Elt F) → (⟨S1x4096x1, .i32⟩ : BufTy).Contents (Elt F)) (V m c main_v49) :=
  V_un m c 76 main_v49 main_v51 (broadcastInDim S1x4096x1 ![1] bcast_S4096_S1x4096x1_1 : (⟨S4096, .i32⟩ : BufTy).Contents (Elt F) → (⟨S1x4096x1, .i32⟩ : BufTy).Contents (Elt F)) _ _ rfl (by decide) (by decide)
theorem V_v52 : V m c main_v52 = (broadcastInDim S1x4096x4096 ![0, 1, 2] bcast_S1x1x4096_S1x4096x4096_0_1_2 : (⟨S1x1x4096, .i32⟩ : BufTy).Contents (Elt F) → (⟨S1x4096x4096, .i32⟩ : BufTy).Contents (Elt F)) (V m c main_v50) :=
  V_un m c 77 main_v50 main_v52 (broadcastInDim S1x4096x4096 ![0, 1, 2] bcast_S1x1x4096_S1x4096x4096_0_1_2 : (⟨S1x1x4096, .i32⟩ : BufTy).Contents (Elt F) → (⟨S1x4096x4096, .i32⟩ : BufTy).Contents (Elt F)) _ _ rfl (by decide) (by decide)
theorem V_v53 : V m c main_v53 = (broadcastInDim S1x4096x4096 ![0, 1, 2] bcast_S1x4096x1_S1x4096x4096_0_1_2 : (⟨S1x4096x1, .i32⟩ : BufTy).Contents (Elt F) → (⟨S1x4096x4096, .i32⟩ : BufTy).Contents (Elt F)) (V m c main_v51) :=
  V_un m c 78 main_v51 main_v53 (broadcastInDim S1x4096x4096 ![0, 1, 2] bcast_S1x4096x1_S1x4096x4096_0_1_2 : (⟨S1x4096x1, .i32⟩ : BufTy).Contents (Elt F) → (⟨S1x4096x4096, .i32⟩ : BufTy).Contents (Elt F)) _ _ rfl (by decide) (by decide)
theorem V_v54 : V m c main_v54 = (cmpi .sle : (⟨S1x4096x4096, .i32⟩ : BufTy).Contents (Elt F) → (⟨S1x4096x4096, .i32⟩ : BufTy).Contents (Elt F) → (⟨S1x4096x4096, .i1⟩ : BufTy).Contents (Elt F)) (V m c main_v52) (V m c main_v53) :=
  V_bin m c 79 main_v52 main_v53 main_v54 (cmpi .sle : (⟨S1x4096x4096, .i32⟩ : BufTy).Contents (Elt F) → (⟨S1x4096x4096, .i32⟩ : BufTy).Contents (Elt F) → (⟨S1x4096x4096, .i1⟩ : BufTy).Contents (Elt F)) _ _ _ rfl (by decide) (by decide) (by decide)
theorem V_cst_7 : V m c main_cst_7 = (constant S_ .f32 0xFF800000#32)  :=
  V_null m c 80 main_cst_7 (constant S_ .f32 0xFF800000#32) _ rfl (by decide)
theorem V_call1_v0 : V m c main_call1_v0 = (id : (⟨S_, .f32⟩ : BufTy).Contents (Elt F) → (⟨S_, .f32⟩ : BufTy).Contents (Elt F)) (V m c main_cst_7) :=
  V_un m c 81 main_cst_7 main_call1_v0 (id : (⟨S_, .f32⟩ : BufTy).Contents (Elt F) → (⟨S_, .f32⟩ : BufTy).Contents (Elt F)) _ _ rfl (by decide) (by decide)
theorem V_call1_v1 : V m c main_call1_v1 = ((broadcastInDim S16x4096x4096 ![0, 1, 2] bcast_S1x4096x4096_S16x4096x4096_0_1_2) : (⟨S1x4096x4096, .i1⟩ : BufTy).Contents (Elt F) → (⟨S16x4096x4096, .i1⟩ : BufTy).Contents (Elt F)) (V m c main_v54) :=
  V_un m c 82 main_v54 main_call1_v1 ((broadcastInDim S16x4096x4096 ![0, 1, 2] bcast_S1x4096x4096_S16x4096x4096_0_1_2) : (⟨S1x4096x4096, .i1⟩ : BufTy).Contents (Elt F) → (⟨S16x4096x4096, .i1⟩ : BufTy).Contents (Elt F)) _ _ rfl (by decide) (by decide)
theorem V_call1_v2 : V m c main_call1_v2 = ((broadcastInDim S16x4096x4096 ![] bcast_S_S16x4096x4096) : (⟨S_, .f32⟩ : BufTy).Contents (Elt F) → (⟨S16x4096x4096, .f32⟩ : BufTy).Contents (Elt F)) (V m c main_call1_v0) :=
  V_un m c 83 main_call1_v0 main_call1_v2 ((broadcastInDim S16x4096x4096 ![] bcast_S_S16x4096x4096) : (⟨S_, .f32⟩ : BufTy).Contents (Elt F) → (⟨S16x4096x4096, .f32⟩ : BufTy).Contents (Elt F)) _ _ rfl (by decide) (by decide)
theorem V_v55 : V m c main_v55 = (select : (⟨S16x4096x4096, .i1⟩ : BufTy).Contents (Elt F) → (⟨S16x4096x4096, .f32⟩ : BufTy).Contents (Elt F) → (⟨S16x4096x4096, .f32⟩ : BufTy).Contents (Elt F) → (⟨S16x4096x4096, .f32⟩ : BufTy).Contents (Elt F)) (V m c main_call1_v1) (V m c main_v47) (V m c main_call1_v2) :=
  V_ter m c 84 main_call1_v1 main_v47 main_call1_v2 main_v55 (select : (⟨S16x4096x4096, .i1⟩ : BufTy).Contents (Elt F) → (⟨S16x4096x4096, .f32⟩ : BufTy).Contents (Elt F) → (⟨S16x4096x4096, .f32⟩ : BufTy).Contents (Elt F) → (⟨S16x4096x4096, .f32⟩ : BufTy).Contents (Elt F)) _ _ _ _ rfl (by decide) (by decide) (by decide) (by decide)
theorem V_cst_8 : V m c main_cst_8 = (constant S_ .f32 0xFF800000#32)  :=
  V_null m c 85 main_cst_8 (constant S_ .f32 0xFF800000#32) _ rfl (by decide)
theorem V_v56 : V m c main_v56 = ((fun x v => Host.reduce FloatOps.maximumf x v reducesTo_S16x4096x4096_S16x4096_d2 h_S_) : (⟨S16x4096x4096, .f32⟩ : BufTy).Contents (Elt F) → (⟨S_, .f32⟩ : BufTy).Contents (Elt F) → (⟨S16x4096, .f32⟩ : BufTy).Contents (Elt F)) (V m c main_v55) (V m c main_cst_8) :=
  V_bin m c 86 main_v55 main_cst_8 main_v56 ((fun x v => Host.reduce FloatOps.maximumf x v reducesTo_S16x4096x4096_S16x4096_d2 h_S_) : (⟨S16x4096x4096, .f32⟩ : BufTy).Contents (Elt F) → (⟨S_, .f32⟩ : BufTy).Contents (Elt F) → (⟨S16x4096, .f32⟩ : BufTy).Contents (Elt F)) _ _ _ rfl (by decide) (by decide) (by decide)
theorem V_v57 : V m c main_v57 = (broadcastInDim S16x4096x1 ![0, 1] bcast_S16x4096_S16x4096x1_0_1 : (⟨S16x4096, .f32⟩ : BufTy).Contents (Elt F) → (⟨S16x4096x1, .f32⟩ : BufTy).Contents (Elt F)) (V m c main_v56) :=
  V_un m c 87 main_v56 main_v57 (broadcastInDim S16x4096x1 ![0, 1] bcast_S16x4096_S16x4096x1_0_1 : (⟨S16x4096, .f32⟩ : BufTy).Contents (Elt F) → (⟨S16x4096x1, .f32⟩ : BufTy).Contents (Elt F)) _ _ rfl (by decide) (by decide)
theorem V_v58 : V m c main_v58 = (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)) (V m c main_v57) :=
  V_un m c 88 main_v57 main_v58 (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)) _ _ rfl (by decide) (by decide)
theorem V_v59 : V m c main_v59 = (subf : (⟨S16x4096x4096, .f32⟩ : BufTy).Contents (Elt F) → (⟨S16x4096x4096, .f32⟩ : BufTy).Contents (Elt F) → (⟨S16x4096x4096, .f32⟩ : BufTy).Contents (Elt F)) (V m c main_v55) (V m c main_v58) :=
  V_bin m c 89 main_v55 main_v58 main_v59 (subf : (⟨S16x4096x4096, .f32⟩ : BufTy).Contents (Elt F) → (⟨S16x4096x4096, .f32⟩ : BufTy).Contents (Elt F) → (⟨S16x4096x4096, .f32⟩ : BufTy).Contents (Elt F)) _ _ _ rfl (by decide) (by decide) (by decide)
theorem V_v60 : V m c main_v60 = (Host.exp : (⟨S16x4096x4096, .f32⟩ : BufTy).Contents (Elt F) → (⟨S16x4096x4096, .f32⟩ : BufTy).Contents (Elt F)) (V m c main_v59) :=
  V_un m c 90 main_v59 main_v60 (Host.exp : (⟨S16x4096x4096, .f32⟩ : BufTy).Contents (Elt F) → (⟨S16x4096x4096, .f32⟩ : BufTy).Contents (Elt F)) _ _ rfl (by decide) (by decide)
theorem V_cst_9 : V m c main_cst_9 = (constant S_ .f32 0x00000000#32)  :=
  V_null m c 91 main_cst_9 (constant S_ .f32 0x00000000#32) _ rfl (by decide)
theorem V_v61 : V m c main_v61 = ((fun x v => Host.reduceAdd x v reducesTo_S16x4096x4096_S16x4096_d2 h_S_) : (⟨S16x4096x4096, .f32⟩ : BufTy).Contents (Elt F) → (⟨S_, .f32⟩ : BufTy).Contents (Elt F) → (⟨S16x4096, .f32⟩ : BufTy).Contents (Elt F)) (V m c main_v60) (V m c main_cst_9) :=
  V_bin m c 92 main_v60 main_cst_9 main_v61 ((fun x v => Host.reduceAdd x v reducesTo_S16x4096x4096_S16x4096_d2 h_S_) : (⟨S16x4096x4096, .f32⟩ : BufTy).Contents (Elt F) → (⟨S_, .f32⟩ : BufTy).Contents (Elt F) → (⟨S16x4096, .f32⟩ : BufTy).Contents (Elt F)) _ _ _ rfl (by decide) (by decide) (by decide)
theorem V_v62 : V m c main_v62 = (Host.log : (⟨S16x4096, .f32⟩ : BufTy).Contents (Elt F) → (⟨S16x4096, .f32⟩ : BufTy).Contents (Elt F)) (V m c main_v61) :=
  V_un m c 93 main_v61 main_v62 (Host.log : (⟨S16x4096, .f32⟩ : BufTy).Contents (Elt F) → (⟨S16x4096, .f32⟩ : BufTy).Contents (Elt F)) _ _ rfl (by decide) (by decide)
theorem V_v63 : V m c main_v63 = (addf : (⟨S16x4096, .f32⟩ : BufTy).Contents (Elt F) → (⟨S16x4096, .f32⟩ : BufTy).Contents (Elt F) → (⟨S16x4096, .f32⟩ : BufTy).Contents (Elt F)) (V m c main_v56) (V m c main_v62) :=
  V_bin m c 94 main_v56 main_v62 main_v63 (addf : (⟨S16x4096, .f32⟩ : BufTy).Contents (Elt F) → (⟨S16x4096, .f32⟩ : BufTy).Contents (Elt F) → (⟨S16x4096, .f32⟩ : BufTy).Contents (Elt F)) _ _ _ rfl (by decide) (by decide) (by decide)
theorem V_v64 : V m c main_v64 = shapeCast main_v64.ty.shape (V m c main_v63) shapeCasts_S16x4096_S16x1x4096 :=
  V_resh m c 95 main_v63 main_v64 rfl shapeCasts_S16x4096_S16x1x4096 _ _ rfl (by decide) (by decide)
theorem V_v65 : V m c main_v65 = (broadcastInDim S16x4096x1 ![0, 1] bcast_S16x4096_S16x4096x1_0_1 : (⟨S16x4096, .f32⟩ : BufTy).Contents (Elt F) → (⟨S16x4096x1, .f32⟩ : BufTy).Contents (Elt F)) (V m c main_v61) :=
  V_un m c 96 main_v61 main_v65 (broadcastInDim S16x4096x1 ![0, 1] bcast_S16x4096_S16x4096x1_0_1 : (⟨S16x4096, .f32⟩ : BufTy).Contents (Elt F) → (⟨S16x4096x1, .f32⟩ : BufTy).Contents (Elt F)) _ _ rfl (by decide) (by decide)
theorem V_v66 : V m c main_v66 = (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)) (V m c main_v65) :=
  V_un m c 97 main_v65 main_v66 (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)) _ _ rfl (by decide) (by decide)
theorem V_v67 : V m c main_v67 = (Host.divf : (⟨S16x4096x4096, .f32⟩ : BufTy).Contents (Elt F) → (⟨S16x4096x4096, .f32⟩ : BufTy).Contents (Elt F) → (⟨S16x4096x4096, .f32⟩ : BufTy).Contents (Elt F)) (V m c main_v60) (V m c main_v66) :=
  V_bin m c 98 main_v60 main_v66 main_v67 (Host.divf : (⟨S16x4096x4096, .f32⟩ : BufTy).Contents (Elt F) → (⟨S16x4096x4096, .f32⟩ : BufTy).Contents (Elt F) → (⟨S16x4096x4096, .f32⟩ : BufTy).Contents (Elt F)) _ _ _ rfl (by decide) (by decide) (by decide)
theorem V_v68 : V m c main_v68 = ((fun l r => Host.dotGeneral dot_S4096x16x128_S16x4096x4096_S16x128x4096_0_2_2_1_1_0 none l r) : (⟨S4096x16x128, .f32⟩ : BufTy).Contents (Elt F) → (⟨S16x4096x4096, .f32⟩ : BufTy).Contents (Elt F) → (⟨S16x128x4096, .f32⟩ : BufTy).Contents (Elt F)) (V m c main_v17) (V m c main_v67) :=
  V_bin m c 99 main_v17 main_v67 main_v68 ((fun l r => Host.dotGeneral dot_S4096x16x128_S16x4096x4096_S16x128x4096_0_2_2_1_1_0 none l r) : (⟨S4096x16x128, .f32⟩ : BufTy).Contents (Elt F) → (⟨S16x4096x4096, .f32⟩ : BufTy).Contents (Elt F) → (⟨S16x128x4096, .f32⟩ : BufTy).Contents (Elt F)) _ _ _ rfl (by decide) (by decide) (by decide)
theorem V_v69 : V m c main_v69 = ((transpose S4096x16x128 [2, 0, 1] · transposes_S16x128x4096_S4096x16x128_2_0_1) : (⟨S16x128x4096, .f32⟩ : BufTy).Contents (Elt F) → (⟨S4096x16x128, .f32⟩ : BufTy).Contents (Elt F)) (V m c main_v68) :=
  V_un m c 100 main_v68 main_v69 ((transpose S4096x16x128 [2, 0, 1] · transposes_S16x128x4096_S4096x16x128_2_0_1) : (⟨S16x128x4096, .f32⟩ : BufTy).Contents (Elt F) → (⟨S4096x16x128, .f32⟩ : BufTy).Contents (Elt F)) _ _ rfl (by decide) (by decide)
theorem V_v70 : V m c main_v70 = shapeCast main_v70.ty.shape (V m c main_v69) shapeCasts_S4096x16x128_S4096x2048 :=
  V_resh m c 101 main_v69 main_v70 rfl shapeCasts_S4096x16x128_S4096x2048 _ _ rfl (by decide) (by decide)
theorem V_cst_10 : V m c main_cst_10 = (constant S_ .f32 0x00000000#32)  :=
  V_null m c 102 main_cst_10 (constant S_ .f32 0x00000000#32) _ rfl (by decide)
theorem V_v71 : V m c main_v71 = (broadcastInDim S4096x16x64 ![] bcast_S_S4096x16x64 : (⟨S_, .f32⟩ : BufTy).Contents (Elt F) → (⟨S4096x16x64, .f32⟩ : BufTy).Contents (Elt F)) (V m c main_cst_10) :=
  V_un m c 103 main_cst_10 main_v71 (broadcastInDim S4096x16x64 ![] bcast_S_S4096x16x64 : (⟨S_, .f32⟩ : BufTy).Contents (Elt F) → (⟨S4096x16x64, .f32⟩ : BufTy).Contents (Elt F)) _ _ rfl (by decide) (by decide)
theorem V_v72 : V m c main_v72 = (concatenate S4096x16x256 2 [⟨S4096x16x128, (V m c main_v13 : (⟨S4096x16x128, .f32⟩ : BufTy).Contents (Elt F))⟩, ⟨S4096x16x64, (V m c main_v32 : (⟨S4096x16x64, .f32⟩ : BufTy).Contents (Elt F))⟩, ⟨S4096x16x64, (V m c main_v71 : (⟨S4096x16x64, .f32⟩ : BufTy).Contents (Elt F))⟩] concatenates_S4096x16x128_S4096x16x64_S4096x16x64_S4096x16x256_d2 : (⟨S4096x16x256, .f32⟩ : BufTy).Contents (Elt F)) :=
  V_nary m c 104 ![main_v13, main_v32, main_v71] main_v72 (fun u => (concatenate S4096x16x256 2 [⟨S4096x16x128, (u 0 : (⟨S4096x16x128, .f32⟩ : BufTy).Contents (Elt F))⟩, ⟨S4096x16x64, (u 1 : (⟨S4096x16x64, .f32⟩ : BufTy).Contents (Elt F))⟩, ⟨S4096x16x64, (u 2 : (⟨S4096x16x64, .f32⟩ : BufTy).Contents (Elt F))⟩] concatenates_S4096x16x128_S4096x16x64_S4096x16x64_S4096x16x256_d2 : (⟨S4096x16x256, .f32⟩ : BufTy).Contents (Elt F))) _ _ rfl (by decide) (by decide)
theorem V_cst_11 : V m c main_cst_11 = (constant S_ .f32 0x3D93CD3A#32)  :=
  V_null m c 105 main_cst_11 (constant S_ .f32 0x3D93CD3A#32) _ rfl (by decide)
theorem V_v73 : V m c main_v73 = (broadcastInDim S4096x16x256 ![] bcast_S_S4096x16x256 : (⟨S_, .f32⟩ : BufTy).Contents (Elt F) → (⟨S4096x16x256, .f32⟩ : BufTy).Contents (Elt F)) (V m c main_cst_11) :=
  V_un m c 106 main_cst_11 main_v73 (broadcastInDim S4096x16x256 ![] bcast_S_S4096x16x256 : (⟨S_, .f32⟩ : BufTy).Contents (Elt F) → (⟨S4096x16x256, .f32⟩ : BufTy).Contents (Elt F)) _ _ rfl (by decide) (by decide)
theorem V_v74 : V m c main_v74 = (mulf : (⟨S4096x16x256, .f32⟩ : BufTy).Contents (Elt F) → (⟨S4096x16x256, .f32⟩ : BufTy).Contents (Elt F) → (⟨S4096x16x256, .f32⟩ : BufTy).Contents (Elt F)) (V m c main_v73) (V m c main_v72) :=
  V_bin m c 107 main_v73 main_v72 main_v74 (mulf : (⟨S4096x16x256, .f32⟩ : BufTy).Contents (Elt F) → (⟨S4096x16x256, .f32⟩ : BufTy).Contents (Elt F) → (⟨S4096x16x256, .f32⟩ : BufTy).Contents (Elt F)) _ _ _ rfl (by decide) (by decide) (by decide)
theorem V_v75 : V m c main_v75 = shapeCast main_v75.ty.shape (V m c main_v74) shapeCasts_S4096x16x256_S4096x4096 :=
  V_resh m c 108 main_v74 main_v75 rfl shapeCasts_S4096x16x256_S4096x4096 _ _ rfl (by decide) (by decide)
theorem V_v76 : V m c main_v76 = (broadcastInDim S4096x1x64 ![0, 2] bcast_S4096x64_S4096x1x64_0_2 : (⟨S4096x64, .f32⟩ : BufTy).Contents (Elt F) → (⟨S4096x1x64, .f32⟩ : BufTy).Contents (Elt F)) (V m c main_v41) :=
  V_un m c 109 main_v41 main_v76 (broadcastInDim S4096x1x64 ![0, 2] bcast_S4096x64_S4096x1x64_0_2 : (⟨S4096x64, .f32⟩ : BufTy).Contents (Elt F) → (⟨S4096x1x64, .f32⟩ : BufTy).Contents (Elt F)) _ _ rfl (by decide) (by decide)
theorem V_v77 : V m c main_v77 = (broadcastInDim S4096x16x64 ![0, 1, 2] bcast_S4096x1x64_S4096x16x64_0_1_2 : (⟨S4096x1x64, .f32⟩ : BufTy).Contents (Elt F) → (⟨S4096x16x64, .f32⟩ : BufTy).Contents (Elt F)) (V m c main_v76) :=
  V_un m c 110 main_v76 main_v77 (broadcastInDim S4096x16x64 ![0, 1, 2] bcast_S4096x1x64_S4096x16x64_0_1_2 : (⟨S4096x1x64, .f32⟩ : BufTy).Contents (Elt F) → (⟨S4096x16x64, .f32⟩ : BufTy).Contents (Elt F)) _ _ rfl (by decide) (by decide)
theorem V_v78 : V m c main_v78 = (concatenate S4096x16x256 2 [⟨S4096x16x128, (V m c main_v16 : (⟨S4096x16x128, .f32⟩ : BufTy).Contents (Elt F))⟩, ⟨S4096x16x64, (V m c main_v77 : (⟨S4096x16x64, .f32⟩ : BufTy).Contents (Elt F))⟩, ⟨S4096x16x64, (V m c main_v71 : (⟨S4096x16x64, .f32⟩ : BufTy).Contents (Elt F))⟩] concatenates_S4096x16x128_S4096x16x64_S4096x16x64_S4096x16x256_d2 : (⟨S4096x16x256, .f32⟩ : BufTy).Contents (Elt F)) :=
  V_nary m c 111 ![main_v16, main_v77, main_v71] main_v78 (fun u => (concatenate S4096x16x256 2 [⟨S4096x16x128, (u 0 : (⟨S4096x16x128, .f32⟩ : BufTy).Contents (Elt F))⟩, ⟨S4096x16x64, (u 1 : (⟨S4096x16x64, .f32⟩ : BufTy).Contents (Elt F))⟩, ⟨S4096x16x64, (u 2 : (⟨S4096x16x64, .f32⟩ : BufTy).Contents (Elt F))⟩] concatenates_S4096x16x128_S4096x16x64_S4096x16x64_S4096x16x256_d2 : (⟨S4096x16x256, .f32⟩ : BufTy).Contents (Elt F))) _ _ rfl (by decide) (by decide)
theorem V_v79 : V m c main_v79 = shapeCast main_v79.ty.shape (V m c main_v78) shapeCasts_S4096x16x256_S4096x4096 :=
  V_resh m c 112 main_v78 main_v79 rfl shapeCasts_S4096x16x256_S4096x4096 _ _ rfl (by decide) (by decide)
theorem V_v80 : V m c main_v80 = ((truncf .bf16 · bitsLt_bf16_f32) : (⟨S4096x4096, .f32⟩ : BufTy).Contents (Elt F) → (⟨S4096x4096, .bf16⟩ : BufTy).Contents (Elt F)) (V m c main_v75) :=
  V_un m c 113 main_v75 main_v80 ((truncf .bf16 · bitsLt_bf16_f32) : (⟨S4096x4096, .f32⟩ : BufTy).Contents (Elt F) → (⟨S4096x4096, .bf16⟩ : BufTy).Contents (Elt F)) _ _ rfl (by decide) (by decide)
theorem V_v81 : V m c main_v81 = ((truncf .bf16 · bitsLt_bf16_f32) : (⟨S4096x4096, .f32⟩ : BufTy).Contents (Elt F) → (⟨S4096x4096, .bf16⟩ : BufTy).Contents (Elt F)) (V m c main_v79) :=
  V_un m c 114 main_v79 main_v81 ((truncf .bf16 · bitsLt_bf16_f32) : (⟨S4096x4096, .f32⟩ : BufTy).Contents (Elt F) → (⟨S4096x4096, .bf16⟩ : BufTy).Contents (Elt F)) _ _ rfl (by decide) (by decide)
theorem V_v82 : V m c main_v82 = ((transpose S4096x4096 [1, 0] · transposes_S4096x4096_S4096x4096_1_0) : (⟨S4096x4096, .f32⟩ : BufTy).Contents (Elt F) → (⟨S4096x4096, .f32⟩ : BufTy).Contents (Elt F)) (V m c main_v79) :=
  V_un m c 115 main_v79 main_v82 ((transpose S4096x4096 [1, 0] · transposes_S4096x4096_S4096x4096_1_0) : (⟨S4096x4096, .f32⟩ : BufTy).Contents (Elt F) → (⟨S4096x4096, .f32⟩ : BufTy).Contents (Elt F)) _ _ rfl (by decide) (by decide)
theorem V_v83 : V m c main_v83 = ((truncf .bf16 · bitsLt_bf16_f32) : (⟨S4096x4096, .f32⟩ : BufTy).Contents (Elt F) → (⟨S4096x4096, .bf16⟩ : BufTy).Contents (Elt F)) (V m c main_v82) :=
  V_un m c 116 main_v82 main_v83 ((truncf .bf16 · bitsLt_bf16_f32) : (⟨S4096x4096, .f32⟩ : BufTy).Contents (Elt F) → (⟨S4096x4096, .bf16⟩ : BufTy).Contents (Elt F)) _ _ rfl (by decide) (by decide)
theorem V_v84 : V m c main_v84 = shapeCast main_v84.ty.shape (V m c main_v17) shapeCasts_S4096x16x128_S4096x2048 :=
  V_resh m c 117 main_v17 main_v84 rfl shapeCasts_S4096x16x128_S4096x2048 _ _ rfl (by decide) (by decide)
theorem V_v85 : V m c main_v85 = ((truncf .bf16 · bitsLt_bf16_f32) : (⟨S4096x2048, .f32⟩ : BufTy).Contents (Elt F) → (⟨S4096x2048, .bf16⟩ : BufTy).Contents (Elt F)) (V m c main_v84) :=
  V_un m c 118 main_v84 main_v85 ((truncf .bf16 · bitsLt_bf16_f32) : (⟨S4096x2048, .f32⟩ : BufTy).Contents (Elt F) → (⟨S4096x2048, .bf16⟩ : BufTy).Contents (Elt F)) _ _ rfl (by decide) (by decide)
theorem V_v86 : V m c main_v86 = ((truncf .bf16 · bitsLt_bf16_f32) : (⟨S4096x2048, .f32⟩ : BufTy).Contents (Elt F) → (⟨S4096x2048, .bf16⟩ : BufTy).Contents (Elt F)) (V m c main_v70) :=
  V_un m c 119 main_v70 main_v86 ((truncf .bf16 · bitsLt_bf16_f32) : (⟨S4096x2048, .f32⟩ : BufTy).Contents (Elt F) → (⟨S4096x2048, .bf16⟩ : BufTy).Contents (Elt F)) _ _ rfl (by decide) (by decide)

end Cert.KernelIdeal.Hand

end
-- ==== Proof.FlashWord.lean ====
module

public import proofs.«01_k».proof.Proof.FlashPay

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

/-! ## The words at a point -/

/-- The grid's points are the eight pairs of heads by the 36 tiles. -/
def jts : Fin 36 → ℕ := ![0, 0, 0, 0, 0, 0, 0, 0, 1, 1, 1, 1, 1, 1, 1, 2, 2, 2, 2, 2, 2, 3, 3, 3, 3, 3, 4, 4, 4, 4, 5, 5, 5, 6, 6, 7]
def its : Fin 36 → ℕ := ![0, 1, 2, 3, 4, 5, 6, 7, 1, 2, 3, 4, 5, 6, 7, 2, 3, 4, 5, 6, 7, 3, 4, 5, 6, 7, 4, 5, 6, 7, 5, 6, 7, 6, 7, 7]
/-- The tile of a point, and its pair of heads. -/
def sp (t : Fin grid0.N) : Fin 36 := ⟨t.val % 36, by omega⟩
def hp (t : Fin grid0.N) : ℕ := t.val / 36
abbrev jt (t : Fin grid0.N) : ℕ := jts (sp t)
abbrev it (t : Fin grid0.N) : ℕ := its (sp t)

variable (c : Dev nD) (t : Fin grid0.N)
abbrev w1 (F : FTy → Type) [FloatOps F] := kernelRun.sl.v1 (F := F) c (grid0.coords t) (tab2 c)
abbrev w3 (F : FTy → Type) [FloatOps F] := kernelRun.sl.v3 (F := F) c (grid0.coords t) (tab3 c)

theorem c2_bits : (k0_cond2 (w1 c t Bits) = 1#1) ↔ jt t = 0 := by revert t c; decide +kernel
theorem c4_bits : (k0_cond4 (w1 c t Bits) (w3 c t Bits) = 1#1) ↔ it t ≠ jt t := by revert t c; decide +kernel
theorem c5_bits : (k0_cond5 (w1 c t Bits) (w3 c t Bits) = 1#1) ↔ it t = jt t := by revert t c; decide +kernel
theorem c6_bits : (k0_cond6 (w3 c t Bits) = 1#1) ↔ it t = 7 := by revert t c; decide +kernel
theorem c7_bits : (k0_cond7 (grid0.coords t) = 1#1) ↔ hp t = 7 := by revert t; decide +kernel
theorem c12_bits : (kernelRun.sl.v12 (grid0.coords t) = 1#1) ↔ t.val = 0 := by revert t; decide +kernel
theorem c2_at : (k0_cond2 (w1 c t Ideal) = 1#1) ↔ jt t = 0 := c2_bits c t
theorem c4_at : (k0_cond4 (w1 c t Ideal) (w3 c t Ideal) = 1#1) ↔ it t ≠ jt t := c4_bits c t
theorem c5_at : (k0_cond5 (w1 c t Ideal) (w3 c t Ideal) = 1#1) ↔ it t = jt t := c5_bits c t
theorem c6_at : (k0_cond6 (w3 c t Ideal) = 1#1) ↔ it t = 7 := c6_bits c t

theorem off2_at : k0_off2 (w3 c t Ideal) = ![0, 0, it t * 512] := (by revert t c; decide +kernel : ∀ (c : Dev nD) t, k0_off2 (w3 c t Bits) = ![0, 0, it t * 512]) c t
theorem off3_at : k0_off3 (w3 c t Ideal) = ![0, 0, it t * 512] := (by revert t c; decide +kernel : ∀ (c : Dev nD) t, k0_off3 (w3 c t Bits) = ![0, 0, it t * 512]) c t
theorem off4_at : k0_off4 (w3 c t Ideal) = ![1, 0, it t * 512] := (by revert t c; decide +kernel : ∀ (c : Dev nD) t, k0_off4 (w3 c t Bits) = ![1, 0, it t * 512]) c t
theorem off5_at : k0_off5 (w3 c t Ideal) = ![1, 0, it t * 512] := (by revert t c; decide +kernel : ∀ (c : Dev nD) t, k0_off5 (w3 c t Bits) = ![1, 0, it t * 512]) c t
theorem off6_at : k0_off6 (w3 c t Ideal) = ![0, 0, it t * 512] := (by revert t c; decide +kernel : ∀ (c : Dev nD) t, k0_off6 (w3 c t Bits) = ![0, 0, it t * 512]) c t
theorem off7_at : k0_off7 (w3 c t Ideal) = ![0, 0, it t * 512] := (by revert t c; decide +kernel : ∀ (c : Dev nD) t, k0_off7 (w3 c t Bits) = ![0, 0, it t * 512]) c t
theorem off8_at : k0_off8 (w3 c t Ideal) = ![1, 0, it t * 512] := (by revert t c; decide +kernel : ∀ (c : Dev nD) t, k0_off8 (w3 c t Bits) = ![1, 0, it t * 512]) c t
theorem off9_at : k0_off9 (w3 c t Ideal) = ![1, 0, it t * 512] := (by revert t c; decide +kernel : ∀ (c : Dev nD) t, k0_off9 (w3 c t Bits) = ![1, 0, it t * 512]) c t
theorem off10_at : k0_off10 (w3 c t Ideal) = ![0, 0, it t * 512] := (by revert t c; decide +kernel : ∀ (c : Dev nD) t, k0_off10 (w3 c t Bits) = ![0, 0, it t * 512]) c t
theorem off11_at : k0_off11 (w3 c t Ideal) = ![0, 0, it t * 512] := (by revert t c; decide +kernel : ∀ (c : Dev nD) t, k0_off11 (w3 c t Bits) = ![0, 0, it t * 512]) c t
theorem off12_at : k0_off12 (w3 c t Ideal) = ![1, 0, it t * 512] := (by revert t c; decide +kernel : ∀ (c : Dev nD) t, k0_off12 (w3 c t Bits) = ![1, 0, it t * 512]) c t
theorem off13_at : k0_off13 (w3 c t Ideal) = ![1, 0, it t * 512] := (by revert t c; decide +kernel : ∀ (c : Dev nD) t, k0_off13 (w3 c t Bits) = ![1, 0, it t * 512]) c t
theorem off14_at : k0_off14 (grid0.coords t) (w3 c t Ideal) = ![it t * 512, hp t * 512] := (by revert t c; decide +kernel : ∀ (c : Dev nD) t, k0_off14 (grid0.coords t) (w3 c t Bits) = ![it t * 512, hp t * 512]) c t
theorem off15_at : k0_off15 (w1 c t Ideal) = ![jt t * 512, 0] := (by revert t c; decide +kernel : ∀ (c : Dev nD) t, k0_off15 (w1 c t Bits) = ![jt t * 512, 0]) c t
theorem off16_at : k0_off16 (w1 c t Ideal) = ![jt t * 512, 0] := (by revert t c; decide +kernel : ∀ (c : Dev nD) t, k0_off16 (w1 c t Bits) = ![jt t * 512, 0]) c t
theorem off17_at : k0_off17 (w1 c t Ideal) = ![jt t * 512, 0] := (by revert t c; decide +kernel : ∀ (c : Dev nD) t, k0_off17 (w1 c t Bits) = ![jt t * 512, 0]) c t

/-! ## Loads -/

/-- A load over rank three at known offsets. -/
theorem ra3 {sg : RefSig} {κ : Kind} {sp : Space} {n0 n1 n2 : ℕ} {e : EltTy} {Val : EltTy → Type} (v : View sg κ sp ⟨3, ![n0, n1, n2]⟩ e) (f : v.ty.Contents Val)
    (off : Fin 3 → ℕ) (s0 s1 s2 : ℕ) (h) (o0 o1 o2 : ℕ) (hoff : off = ![o0, o1, o2]) (a : Fin s0) (b : Fin s1) (d : Fin s2) :
    View.readAt Val v (Rect.unit (s := ⟨3, ![n0, n1, n2]⟩) off ![s0, s1, s2] h).toLoadRect f (ix3 a b d)
      = v.read Val f (ix3 (⟨o0 + a.val, by subst hoff; have := h 0; have e : o0 + s0 ≤ n0 := this; omega⟩ : Fin n0) (⟨o1 + b.val, by subst hoff; have := h 1; have e : o1 + s1 ≤ n1 := this; omega⟩ : Fin n1)
          (⟨o2 + d.val, by subst hoff; have := h 2; have e : o2 + s2 ≤ n2 := this; omega⟩ : Fin n2)) := by
  subst hoff
  show v.read Val f _ = _
  congr 1
  funext x
  fin_cases x <;> refine Fin.ext ?_ <;> show _ + 1 * _ = _ <;> rw [Nat.one_mul] <;> rfl

/-- A load over rank two at known offsets. -/
theorem ra2 {sg : RefSig} {κ : Kind} {sp : Space} {n0 n1 : ℕ} {e : EltTy} {Val : EltTy → Type} (v : View sg κ sp ⟨2, ![n0, n1]⟩ e) (f : v.ty.Contents Val)
    (off : Fin 2 → ℕ) (s0 s1 : ℕ) (h) (o0 o1 : ℕ) (hoff : off = ![o0, o1]) (a : Fin s0) (b : Fin s1) :
    View.readAt Val v (Rect.unit (s := ⟨2, ![n0, n1]⟩) off ![s0, s1] h).toLoadRect f (ix2 a b)
      = v.read Val f (ix2 (⟨o0 + a.val, by subst hoff; have := h 0; have e : o0 + s0 ≤ n0 := this; omega⟩ : Fin n0) (⟨o1 + b.val, by subst hoff; have := h 1; have e : o1 + s1 ≤ n1 := this; omega⟩ : Fin n1)) := by
  subst hoff
  show v.read Val f _ = _
  congr 1
  funext x
  fin_cases x <;> refine Fin.ext ?_ <;> show _ + 1 * _ = _ <;> rw [Nat.one_mul] <;> rfl

/-- One head's columns of a block. -/
def cutc {n w : ℕ} (hw : w + w = n) (X : (⟨2, ![512, n]⟩ : Shape).Idx → EReal) (hh : Fin 2) : (⟨2, ![512, w]⟩ : Shape).Idx → EReal :=
  fun y => X (ix2 (y 0) ⟨hh.val * w + (y 1).val, by have := hh.isLt; have h2 : (y 1).val < w := (y 1).isLt; rcases hh with ⟨_ | _ | _, h⟩ <;> simp <;> omega⟩)
/-- One head's rows of a block. -/
def cutr (X : S512x512.Idx → EReal) (hh : Fin 2) : S256x512.Idx → EReal :=
  fun y => X (ix2 ⟨hh.val * 256 + (y 0).val, by have := hh.isLt; have h2 : (y 0).val < 256 := (y 0).isLt; omega⟩ (y 1))
/-- One head's row of the statistics. -/
def cutl (X : S2x1x512.Idx → EReal) (hh : Fin 2) : S1x1x512.Idx → EReal := fun y => X (ix3 hh 0 (y 2))

section Loads
variable {e : EltTy} (M : Memref sig .tc .vmem S512x512 .bf16) (hM : M.IsWhole) (X : Vec Ideal S512x512 .bf16) (h)
theorem ldq0 : View.readAt (Elt Ideal) M.view (Rect.unit (s := S512x512) ![0, 0] ![512, 256] h).toLoadRect (hM.unread X) = cutc rfl X 0 := by
  funext y; exact (hM.readAt_unread X _ y).trans (congrArg X (by funext x; fin_cases x <;> refine Fin.ext ?_ <;> show _ + 1 * _ = _ <;> simp <;> rfl))
theorem ldq1 : View.readAt (Elt Ideal) M.view (Rect.unit (s := S512x512) ![0, 256] ![512, 256] h).toLoadRect (hM.unread X) = cutc rfl X 1 := by
  funext y; exact (hM.readAt_unread X _ y).trans (congrArg X (by funext x; fin_cases x <;> refine Fin.ext ?_ <;> show _ + 1 * _ = _ <;> simp <;> rfl))
theorem ldr0 : View.readAt (Elt Ideal) M.view (Rect.unit (s := S512x512) ![0, 0] ![256, 512] h).toLoadRect (hM.unread X) = cutr X 0 := by
  funext y; exact (hM.readAt_unread X _ y).trans (congrArg X (by funext x; fin_cases x <;> refine Fin.ext ?_ <;> show _ + 1 * _ = _ <;> simp <;> rfl))
theorem ldr1 : View.readAt (Elt Ideal) M.view (Rect.unit (s := S512x512) ![256, 0] ![256, 512] h).toLoadRect (hM.unread X) = cutr X 1 := by
  funext y; exact (hM.readAt_unread X _ y).trans (congrArg X (by funext x; fin_cases x <;> refine Fin.ext ?_ <;> show _ + 1 * _ = _ <;> simp <;> rfl))
end Loads
section Loads
variable (M : Memref sig .tc .vmem S512x256 .bf16) (hM : M.IsWhole) (X : Vec Ideal S512x256 .bf16) (h)
theorem ldo0 : View.readAt (Elt Ideal) M.view (Rect.unit (s := S512x256) ![0, 0] ![512, 128] h).toLoadRect (hM.unread X) = cutc rfl X 0 := by
  funext y; exact (hM.readAt_unread X _ y).trans (congrArg X (by funext x; fin_cases x <;> refine Fin.ext ?_ <;> show _ + 1 * _ = _ <;> simp <;> rfl))
theorem ldo1 : View.readAt (Elt Ideal) M.view (Rect.unit (s := S512x256) ![0, 128] ![512, 128] h).toLoadRect (hM.unread X) = cutc rfl X 1 := by
  funext y; exact (hM.readAt_unread X _ y).trans (congrArg X (by funext x; fin_cases x <;> refine Fin.ext ?_ <;> show _ + 1 * _ = _ <;> simp <;> rfl))
end Loads
section Loads
variable (M : Memref sig .tc .vmem S2x1x512 .f32) (hM : M.IsWhole) (X : Vec Ideal S2x1x512 .f32) (h)
theorem ldl0 : View.readAt (Elt Ideal) M.view (Rect.unit (s := S2x1x512) ![0, 0, 0] ![1, 1, 512] h).toLoadRect (hM.unread X) = cutl X 0 := by
  funext y; exact (hM.readAt_unread X _ y).trans (congrArg X (by funext x; have h0 : (y 0).val < 1 := (y 0).isLt; have h1 : (y 1).val < 1 := (y 1).isLt; fin_cases x <;> refine Fin.ext ?_ <;> show _ + 1 * _ = _ <;> simp <;> first | rfl | omega))
theorem ldl1 : View.readAt (Elt Ideal) M.view (Rect.unit (s := S2x1x512) ![1, 0, 0] ![1, 1, 512] h).toLoadRect (hM.unread X) = cutl X 1 := by
  funext y; exact (hM.readAt_unread X _ y).trans (congrArg X (by funext x; have h0 : (y 0).val < 1 := (y 0).isLt; have h1 : (y 1).val < 1 := (y 1).isLt; fin_cases x <;> refine Fin.ext ?_ <;> show _ + 1 * _ = _ <;> simp <;> first | rfl | omega))
end Loads

end Cert.KernelIdeal.Hand

end
-- ==== Proof.FlashStep.lean ====
module

public import proofs.«01_k».proof.Proof.FlashWord

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable (m : (ℓ : Loc nD τ sig) → Buf (Elt Ideal) ℓ) (c : Dev nD) (t : Fin (cfgT (F := Ideal)).N) (s : St Ideal) (x16 : Vec Ideal S512x512 .bf16)

/-! ## One point's operands -/

abbrev bq (hh : Fin 2) : S512x256.Idx → EReal := cutc rfl (iblk m c 0 t) hh
abbrev bk (hh : Fin 2) : S512x256.Idx → EReal := cutc rfl (iblk m c 1 t) hh
abbrev bkt (hh : Fin 2) : S256x512.Idx → EReal := cutr (iblk m c 2 t) hh
abbrev bv (hh : Fin 2) : S512x128.Idx → EReal := cutc rfl (iblk m c 3 t) hh
abbrev bo (hh : Fin 2) : S512x128.Idx → EReal := cutc rfl (iblk m c 4 t) hh
abbrev bf (hh : Fin 2) : S512x128.Idx → EReal := cutc rfl (iblk m c 5 t) hh
abbrev bl (hh : Fin 2) : Fin 512 → EReal := fun r => cutl (iblk m c 6 t) hh (ix3 0 0 r)

/-- Whether the point's tile is on the diagonal. -/
abbrev dg : Bool := decide (it t = jt t)

theorem nxt_dl (hh : Fin 2) (r : Fin 4096) : (nxt m c t s x16).dl (ix3 hh 0 r)
    = if h : jt t = 0 ∧ it t * 512 ≤ r.val ∧ r.val < it t * 512 + 512 then
        ∑ d : Fin 128, bo m c t hh (ix2 ⟨r.val - it t * 512, by omega⟩ d) * bf m c t hh (ix2 ⟨r.val - it t * 512, by omega⟩ d)
      else s.dl (ix3 hh 0 r) := by
  unfold nxt stepOf kernelRun; dsimp only
  by_cases h2 : jt t = 0
  · have h2' := (c2_at c t).mpr h2
    rw [dif_pos h2']
    refine (congrFun (View.read_whole (Val := Elt Ideal) cc0_scratch3 _).symm _).trans ?_
    rw [wr3 _ _ _ _ _ _ _ _ _ _ _ _ (off5_at c t), wr3 _ _ _ _ _ _ _ _ _ _ _ _ (off3_at c t)]
    obtain rfl | rfl : hh = 0 ∨ hh = 1 := by omega
    · rw [dif_neg (by simp)]
      by_cases hr : it t * 512 ≤ r.val ∧ r.val < it t * 512 + 512
      · rw [dif_pos ⟨by simp, by simp, hr⟩, dif_pos ⟨h2, hr⟩]
        exact (pay17_at _ _ (⟨r.val - it t * 512, by omega⟩ : Fin 512)).trans (by rw [ldo0, ldo0])
      · rw [dif_neg (fun h => hr h.2.2), dif_neg (fun h => hr h.2)]; rfl
    · by_cases hr : it t * 512 ≤ r.val ∧ r.val < it t * 512 + 512
      · rw [dif_pos ⟨by simp, by simp, hr⟩, dif_pos ⟨h2, hr⟩]
        refine (pay2_at _ (⟨r.val - it t * 512, by omega⟩ : Fin 512)).trans ?_
        dsimp only [kernelRun.sl.v65]
        exact (pay19_at _ _ _).trans (by rw [ldo1, ldo1])
      · rw [dif_neg (fun h => hr h.2.2), dif_neg (fun h => hr h.2.2), dif_neg (fun h => hr h.2)]; rfl
  · rw [dif_neg (fun h => h2 ((c2_at c t).mp h)), dif_neg (fun h => h2 h.1)]

theorem c18_bits (t : Fin grid0.N) : (kernelRun.sl.v18 c (grid0.coords t) (tab2 (F := Bits) c) (tab3 (F := Bits) c) = 1#1) ↔ it t = jt t := by revert t c; decide +kernel
theorem c18_at (t : Fin grid0.N) : (kernelRun.sl.v18 c (grid0.coords t) (tab2 (F := Ideal) c) (tab3 (F := Ideal) c) = 1#1) ↔ it t = jt t := c18_bits c t

theorem z_dv (f) (h) (hh : Fin 2) (a : Fin 512) (e : Fin 128) :
    (View.whole cc0_scratch1).read (Elt Ideal) ((View.whole cc0_scratch1).writes (Elt Ideal) f [⟨Rect.unit ![0, 0, 0] ![2, 512, 128] h, k0_pay4 (F := Ideal)⟩]) (ix3 hh a e) = (0 : EReal) := by
  rw [wr3 _ _ _ _ _ _ _ _ _ 0 0 0 rfl, dif_pos (by omega)]
  exact pay4_at _ _ _
theorem z_dk (f) (h) (hh : Fin 2) (a : Fin 512) (e : Fin 256) :
    (View.whole cc0_scratch0).read (Elt Ideal) ((View.whole cc0_scratch0).writes (Elt Ideal) f [⟨Rect.unit ![0, 0, 0] ![2, 512, 256] h, k0_pay3 (F := Ideal)⟩]) (ix3 hh a e) = (0 : EReal) := by
  rw [wr3 _ _ _ _ _ _ _ _ _ 0 0 0 rfl, dif_pos (by omega)]
  exact pay3_at _ _ _

theorem nxt_dv (hh : Fin 2) (a : Fin 512) (e : Fin 128) : (nxt m c t s x16).dv (ix3 hh a e)
    = (if it t = jt t then 0 else s.dv (ix3 hh a e)) + ∑ r : Fin 512, prf (dg t) (bq m c t hh) (bk m c t hh) (bl m c t hh) a r * bo m c t hh (ix2 r e) := by
  unfold nxt stepOf kernelRun; dsimp only
  by_cases hd : it t = jt t
  · have h5 := (c5_at c t).mpr hd
    have h4 : ¬ _ := fun h => (c4_at c t).mp h hd
    have hg : dg t = true := by simp [dg, hd]
    rw [dif_pos h5, dif_neg h4, if_pos hd, hg]
    refine (congrFun (View.read_whole (Val := Elt Ideal) cc0_scratch1 _).symm _).trans ?_
    rw [wr3 _ _ _ _ _ _ _ _ _ 1 0 0 rfl, wr3 _ _ _ _ _ _ _ _ _ 0 0 0 rfl]
    obtain rfl | rfl : hh = 0 ∨ hh = 1 := by omega
    · rw [dif_neg (by simp), dif_pos (by simp)]
      refine (pay32_at _ _ _ _ _ _ _).trans ?_
      refine congrArg₂ (· + ·) ?_ (by rw [ldq0, ldq0, ldo0, ldl0]; rfl)
      dsimp only [kernelRun.sl.v48]
      rw [ra3 _ _ _ _ _ _ _ 0 0 0 rfl, dif_neg h4]
      exact z_dv _ _ _ _ _
    · rw [dif_pos (by simp)]
      dsimp only [kernelRun.sl.v77, kernelRun.sl.v94, kernelRun.sl.v95]
      refine (pay41_at _ _ _ _ _ _ _).trans ?_
      refine congrArg₂ (· + ·) ?_ (by rw [ldq1, ldq1, ldo1, ldl1]; rfl)
      dsimp only [kernelRun.sl.v104_1]
      rw [ra3 _ _ _ _ _ _ _ 1 0 0 rfl, dif_neg h4]
      exact z_dv _ _ _ _ _
  · have h5 : ¬ _ := fun h => hd ((c5_at c t).mp h)
    have h4 := (c4_at c t).mpr hd
    have h18 : ¬ _ := fun h => hd ((c18_at c t).mp h)
    have hg : dg t = false := by simp [dg, hd]
    rw [dif_neg h5, dif_pos h4, if_neg hd, hg]
    refine (congrFun (View.read_whole (Val := Elt Ideal) cc0_scratch1 _).symm _).trans ?_
    rw [wr3 _ _ _ _ _ _ _ _ _ 1 0 0 rfl, wr3 _ _ _ _ _ _ _ _ _ 0 0 0 rfl]
    obtain rfl | rfl : hh = 0 ∨ hh = 1 := by omega
    · rw [dif_neg (by simp), dif_pos (by simp)]
      refine (pay22_at _ _ _ _ _ _ _).trans ?_
      refine congrArg₂ (· + ·) ?_ (by rw [ldq0, ldq0, ldo0, ldl0]; rfl)
      dsimp only [kernelRun.sl.v39]
      rw [ra3 _ _ _ _ _ _ _ 0 0 0 rfl, dif_neg h18]
      simp
    · rw [dif_pos (by simp)]
      dsimp only [kernelRun.sl.v90]
      refine (pay29_at _ _ _ _ _ _ _).trans ?_
      refine congrArg₂ (· + ·) ?_ (by rw [ldq1, ldq1, ldo1, ldl1]; rfl)
      dsimp only [kernelRun.sl.v86]
      rw [ra3 _ _ _ _ _ _ _ 1 0 0 rfl, dif_neg h18]
      simp
/-! ## dk and dq -/

theorem it_lt (t : Fin grid0.N) : it t < 8 := by revert t; decide +kernel
theorem jt_le (t : Fin grid0.N) : jt t ≤ it t := by revert t; decide +kernel

/-- The row of the row sums the point reads. -/
abbrev dlr (hh : Fin 2) : Fin 512 → EReal := fun r => (nxt m c t s x16).dl (ix3 hh 0 ⟨it t * 512 + r.val, by have := it_lt t; omega⟩)

theorem dl51 (hc) (r : Fin 512) : kernelRun.sl.v51 c (grid0.coords t) (ms4 t) (hs4 t) (ms5 t) (hs5 t) (iblk m c 4 t) (iblk m c 5 t) (tab2 c) (tab3 c) (chk1_at c t) s hc (ix3 0 0 r) = dlr m c t s x16 0 r := by
  dsimp only [kernelRun.sl.v51]
  rw [ra3 _ _ _ _ _ _ _ _ _ _ (off6_at c t)]; unfold dlr nxt stepOf kernelRun; simp
theorem dl98 (hc) (r : Fin 512) : kernelRun.sl.v98 c (grid0.coords t) (ms4 t) (hs4 t) (ms5 t) (hs5 t) (iblk m c 4 t) (iblk m c 5 t) (tab2 c) (tab3 c) (chk1_at c t) s hc (ix3 0 0 r) = dlr m c t s x16 1 r := by
  dsimp only [kernelRun.sl.v98]
  rw [ra3 _ _ _ _ _ _ _ _ _ _ (off8_at c t)]; unfold dlr nxt stepOf kernelRun; simp
theorem dl60 (hc) (r : Fin 512) : kernelRun.sl.v60_1 c (grid0.coords t) (ms4 t) (hs4 t) (ms5 t) (hs5 t) (iblk m c 4 t) (iblk m c 5 t) (tab2 c) (tab3 c) (chk1_at c t) s hc (ix3 0 0 r) = dlr m c t s x16 0 r := by
  dsimp only [kernelRun.sl.v60_1]
  rw [ra3 _ _ _ _ _ _ _ _ _ _ (off10_at c t)]; unfold dlr nxt stepOf kernelRun; simp
theorem dl116 (hc) (r : Fin 512) : kernelRun.sl.v116 c (grid0.coords t) (ms4 t) (hs4 t) (ms5 t) (hs5 t) (iblk m c 4 t) (iblk m c 5 t) (tab2 c) (tab3 c) (chk1_at c t) s hc (ix3 0 0 r) = dlr m c t s x16 1 r := by
  dsimp only [kernelRun.sl.v116]
  rw [ra3 _ _ _ _ _ _ _ _ _ _ (off12_at c t)]; unfold dlr nxt stepOf kernelRun; simp

/-- The point's tile of the probabilities' gradient. -/
abbrev dst (hh : Fin 2) (a b : Fin 512) : EReal :=
  dsf (dg t) (bq m c t hh) (bk m c t hh) (bl m c t hh) (dlr m c t s x16 hh) (bv m c t hh) (bo m c t hh) a b

theorem nxt_dk (hh : Fin 2) (a : Fin 512) (d : Fin 256) : (nxt m c t s x16).dk (ix3 hh a d)
    = (if it t = jt t then 0 else s.dk (ix3 hh a d)) + ∑ r : Fin 512, dst m c t s x16 hh a r * bq m c t hh (ix2 r d) := by
  have e51 := fun hc r => dl51 m c t s x16 hc r
  have e98 := fun hc r => dl98 m c t s x16 hc r
  have e60 := fun hc r => dl60 m c t s x16 hc r
  have e116 := fun hc r => dl116 m c t s x16 hc r
  unfold dst
  generalize dlr m c t s x16 = D at *
  unfold nxt stepOf kernelRun; dsimp only
  by_cases hd : it t = jt t
  · have h5 := (c5_at c t).mpr hd
    have h4 : ¬ _ := fun h => (c4_at c t).mp h hd
    have hg : dg t = true := by simp [dg, hd]
    rw [dif_pos h5, dif_neg h4, if_pos hd, hg]
    refine (congrFun (View.read_whole (Val := Elt Ideal) cc0_scratch0 _).symm _).trans ?_
    rw [wr3 _ _ _ _ _ _ _ _ _ 1 0 0 rfl, wr3 _ _ _ _ _ _ _ _ _ 0 0 0 rfl]
    obtain rfl | rfl : hh = 0 ∨ hh = 1 := by omega
    · rw [dif_neg (by simp), dif_pos (by simp)]
      dsimp only [kernelRun.sl.v29, kernelRun.sl.v47, kernelRun.sl.v58, kernelRun.sl.v61]
      refine (pay36_at _ _ _ _ _ _ _ _ _).trans ?_
      refine congrArg₂ (· + ·) ?_ (by rw [ldq0, ldq0, ldo0, ldl0, ldo0]; simp only [e60]; rfl)
      dsimp only [kernelRun.sl.v66]
      rw [ra3 _ _ _ _ _ _ _ 0 0 0 rfl, dif_neg h4]
      exact z_dk _ _ _ _ _
    · rw [dif_pos (by simp)]
      dsimp only [kernelRun.sl.v77, kernelRun.sl.v94, kernelRun.sl.v95, kernelRun.sl.v85_1]
      refine (pay43_at _ _ _ _ _ _ _ _ _).trans ?_
      refine congrArg₂ (· + ·) ?_ (by rw [ldq1, ldq1, ldo1, ldl1, ldo1]; simp only [e116]; rfl)
      dsimp only [kernelRun.sl.v122]
      rw [ra3 _ _ _ _ _ _ _ 1 0 0 rfl, dif_neg h4]
      exact z_dk _ _ _ _ _
  · have h5 : ¬ _ := fun h => hd ((c5_at c t).mp h)
    have h4 := (c4_at c t).mpr hd
    have h18 : ¬ _ := fun h => hd ((c18_at c t).mp h)
    have hg : dg t = false := by simp [dg, hd]
    rw [dif_neg h5, dif_pos h4, if_neg hd, hg]
    refine (congrFun (View.read_whole (Val := Elt Ideal) cc0_scratch0 _).symm _).trans ?_
    rw [wr3 _ _ _ _ _ _ _ _ _ 1 0 0 rfl, wr3 _ _ _ _ _ _ _ _ _ 0 0 0 rfl]
    obtain rfl | rfl : hh = 0 ∨ hh = 1 := by omega
    · rw [dif_neg (by simp), dif_pos (by simp)]
      dsimp only [kernelRun.sl.v60]
      refine (pay24_at _ _ _ _ _ _ _ _ _).trans ?_
      refine congrArg₂ (· + ·) ?_ (by rw [ldq0, ldq0, ldo0, ldl0, ldo0]; simp only [e51]; rfl)
      dsimp only [kernelRun.sl.v57]
      rw [ra3 _ _ _ _ _ _ _ 0 0 0 rfl, dif_neg h18]
      simp
    · rw [dif_pos (by simp)]
      dsimp only [kernelRun.sl.v76, kernelRun.sl.v77, kernelRun.sl.v85]
      refine (pay7_at _ _ _ _ _ _ _ _ _).trans ?_
      refine congrArg₂ (· + ·) ?_ (by rw [ldq1, ldq1, ldo1, ldl1, ldo1]; simp only [e98]; rfl)
      dsimp only [kernelRun.sl.v104]
      rw [ra3 _ _ _ _ _ _ _ 1 0 0 rfl, dif_neg h18]
      simp

theorem b_dq (p : ∀ hc : k0_cond2 (w1 c t Ideal) = 1#1, ∀ a, k0_off4 (w3 c t Ideal) a + (![1, 256, 512] : Fin 3 → ℕ) a ≤ S2x256x4096.size a) (q : ∀ hc : k0_cond2 (w1 c t Ideal) = 1#1, ∀ a, k0_off2 (w3 c t Ideal) a + (![1, 256, 512] : Fin 3 → ℕ) a ≤ S2x256x4096.size a) (hh : Fin 2) (d : Fin 256) (x : Fin 4096) :
    (View.whole cc0_scratch2).read (Elt Ideal) (if hc : k0_cond2 (w1 c t Ideal) = 1#1 then (View.whole cc0_scratch2).writes (Elt Ideal) s.dq
      [⟨Rect.unit (k0_off4 (w3 c t Ideal)) ![1, 256, 512] (p hc), k0_pay18 (F := Ideal)⟩, ⟨Rect.unit (k0_off2 (w3 c t Ideal)) ![1, 256, 512] (q hc), k0_pay16 (F := Ideal)⟩] else s.dq) (ix3 hh d x)
      = (if jt t = 0 ∧ it t * 512 ≤ x.val ∧ x.val < it t * 512 + 512 then (0 : EReal) else s.dq (ix3 hh d x)) := by
  by_cases h2 : jt t = 0
  · have h2' := (c2_at c t).mpr h2
    rw [dif_pos h2', wr3 _ _ _ _ _ _ _ _ _ _ _ _ (off4_at c t), wr3 _ _ _ _ _ _ _ _ _ _ _ _ (off2_at c t)]
    by_cases hr : it t * 512 ≤ x.val ∧ x.val < it t * 512 + 512
    · rw [if_pos ⟨h2, hr⟩]
      obtain rfl | rfl : hh = 0 ∨ hh = 1 := by omega
      · rw [dif_neg (by simp), dif_pos ⟨by simp, by simp, hr⟩]; exact pay16_at _ _
      · rw [dif_pos ⟨by simp, by simp, hr⟩]; exact pay18_at _ _
    · rw [if_neg (fun h => hr h.2), dif_neg (fun h => hr h.2.2), dif_neg (fun h => hr h.2.2)]; rfl
  · rw [dif_neg (fun h => h2 ((c2_at c t).mp h)), if_neg (fun h => h2 h.1)]; rfl

theorem b_dq' (p : ∀ hc : k0_cond2 (w1 c t Ideal) = 1#1, ∀ a, k0_off4 (w3 c t Ideal) a + (![1, 256, 512] : Fin 3 → ℕ) a ≤ S2x256x4096.size a) (q : ∀ hc : k0_cond2 (w1 c t Ideal) = 1#1, ∀ a, k0_off2 (w3 c t Ideal) a + (![1, 256, 512] : Fin 3 → ℕ) a ≤ S2x256x4096.size a) (hh : Fin 2) (d : Fin 256) (x : Fin 4096)
    (hr : it t * 512 ≤ x.val ∧ x.val < it t * 512 + 512) (hh' : Fin 2) (d' : Fin 256) (x' : Fin 4096) (eh : hh'.val = hh.val) (ed : d'.val = d.val) (ex : x'.val = x.val) :
    (View.whole cc0_scratch2).read (Elt Ideal) (if hc : k0_cond2 (w1 c t Ideal) = 1#1 then (View.whole cc0_scratch2).writes (Elt Ideal) s.dq
      [⟨Rect.unit (k0_off4 (w3 c t Ideal)) ![1, 256, 512] (p hc), k0_pay18 (F := Ideal)⟩, ⟨Rect.unit (k0_off2 (w3 c t Ideal)) ![1, 256, 512] (q hc), k0_pay16 (F := Ideal)⟩] else s.dq) (ix3 hh' d' x')
      = (if jt t = 0 then (0 : EReal) else s.dq (ix3 hh d x)) := by
  obtain rfl := Fin.ext eh; obtain rfl := Fin.ext ed; obtain rfl := Fin.ext ex
  rw [b_dq]
  simp only [hr, and_true]

theorem nxt_dq (hh : Fin 2) (d : Fin 256) (x : Fin 4096) : (nxt m c t s x16).dq (ix3 hh d x)
    = if h : it t * 512 ≤ x.val ∧ x.val < it t * 512 + 512 then
        (if jt t = 0 then 0 else s.dq (ix3 hh d x)) + ∑ r : Fin 512, bkt m c t hh (ix2 d r) * dst m c t s x16 hh r ⟨x.val - it t * 512, by omega⟩
      else s.dq (ix3 hh d x) := by
  have e51 := fun hc r => dl51 m c t s x16 hc r
  have e98 := fun hc r => dl98 m c t s x16 hc r
  have e60 := fun hc r => dl60 m c t s x16 hc r
  have e116 := fun hc r => dl116 m c t s x16 hc r
  unfold dst
  generalize dlr m c t s x16 = D at *
  unfold nxt stepOf kernelRun; dsimp only
  by_cases hd : it t = jt t
  · have h5 := (c5_at c t).mpr hd
    have h4 : ¬ _ := fun h => (c4_at c t).mp h hd
    have hg : dg t = true := by simp [dg, hd]
    rw [dif_pos h5, dif_neg h4, hg]
    refine (congrFun (View.read_whole (Val := Elt Ideal) cc0_scratch2 _).symm _).trans ?_
    dsimp only [kernelRun.sl.Hdq_2, kernelRun.sl.Hdq_1_1]
    rw [wr3 _ _ _ _ _ _ _ _ _ _ _ _ (off13_at c t), wr3 _ _ _ _ _ _ _ _ _ _ _ _ (off11_at c t)]
    by_cases hr : it t * 512 ≤ x.val ∧ x.val < it t * 512 + 512
    · rw [dif_pos hr]
      obtain rfl | rfl : hh = 0 ∨ hh = 1 := by omega
      · rw [dif_neg (by simp), dif_pos ⟨by simp, by simp, hr⟩]
        dsimp only [kernelRun.sl.v47, kernelRun.sl.v58, kernelRun.sl.v61]
        refine (pay37_at _ _ _ _ _ _ (⟨x.val - it t * 512, by omega⟩ : Fin 512) _ _ _).trans ?_
        refine congrArg₂ (· + ·) ?_ (by rw [ldq0, ldq0, ldo0, ldl0, ldo0, ldr0]; simp only [e60]; rfl)
        dsimp only [kernelRun.sl.v74]
        rw [ra3 _ _ _ _ _ _ _ _ _ _ (off11_at c t), dif_neg h4]
        refine b_dq' c t s _ _ _ d x hr _ _ _ (by simp) (by simp) (by simp; omega)
      · rw [dif_pos ⟨by simp, by simp, hr⟩]
        dsimp only [kernelRun.sl.v121, kernelRun.sl.v77, kernelRun.sl.v94, kernelRun.sl.v95]
        refine (pay44_at _ _ _ _ _ _ (⟨x.val - it t * 512, by omega⟩ : Fin 512) _ _ _).trans ?_
        refine congrArg₂ (· + ·) ?_ (by rw [ldq1, ldq1, ldo1, ldl1, ldo1, ldr1]; simp only [e116]; rfl)
        dsimp only [kernelRun.sl.v130, kernelRun.sl.Hdq_1_1]
        rw [ra3 _ _ _ _ _ _ _ _ _ _ (off13_at c t), dif_neg h4, wr3 _ _ _ _ _ _ _ _ _ _ _ _ (off11_at c t), dif_neg (by simp)]
        refine b_dq' c t s _ _ _ d x hr _ _ _ (by simp) (by simp) (by simp; omega)
    · rw [dif_neg hr, dif_neg (fun h => hr h.2.2), dif_neg (fun h => hr h.2.2)]
      exact (b_dq c t s _ _ _ _ _).trans (if_neg (fun h => hr h.2))
  · have h5 : ¬ _ := fun h => hd ((c5_at c t).mp h)
    have h4 := (c4_at c t).mpr hd
    have hg : dg t = false := by simp [dg, hd]
    rw [dif_neg h5, dif_pos h4, hg]
    refine (congrFun (View.read_whole (Val := Elt Ideal) cc0_scratch2 _).symm _).trans ?_
    dsimp only [kernelRun.sl.Hdq_1]
    rw [wr3 _ _ _ _ _ _ _ _ _ _ _ _ (off9_at c t), wr3 _ _ _ _ _ _ _ _ _ _ _ _ (off7_at c t)]
    by_cases hr : it t * 512 ≤ x.val ∧ x.val < it t * 512 + 512
    · rw [dif_pos hr]
      obtain rfl | rfl : hh = 0 ∨ hh = 1 := by omega
      · rw [dif_neg (by simp), dif_pos ⟨by simp, by simp, hr⟩]
        dsimp only [kernelRun.sl.v56]
        refine (pay26_at _ _ _ _ _ _ (⟨x.val - it t * 512, by omega⟩ : Fin 512) _ _ _).trans ?_
        refine congrArg₂ (· + ·) ?_ (by rw [ldq0, ldq0, ldo0, ldl0, ldo0, ldr0]; simp only [e51]; rfl)
        dsimp only [kernelRun.sl.v65_1]
        rw [ra3 _ _ _ _ _ _ _ _ _ _ (off7_at c t)]
        refine b_dq' c t s _ _ _ d x hr _ _ _ (by simp) (by simp) (by simp; omega)
      · rw [dif_pos ⟨by simp, by simp, hr⟩]
        dsimp only [kernelRun.sl.v77, kernelRun.sl.v85]
        refine (pay8_at _ _ _ _ _ _ (⟨x.val - it t * 512, by omega⟩ : Fin 512) _ _ _).trans ?_
        refine congrArg₂ (· + ·) ?_ (by rw [ldq1, ldq1, ldo1, ldl1, ldo1, ldr1]; simp only [e98]; rfl)
        dsimp only [kernelRun.sl.v112, kernelRun.sl.Hdq_1]
        rw [ra3 _ _ _ _ _ _ _ _ _ _ (off9_at c t), wr3 _ _ _ _ _ _ _ _ _ _ _ _ (off7_at c t), dif_neg (by simp)]
        refine b_dq' c t s _ _ _ d x hr _ _ _ (by simp) (by simp) (by simp; omega)
    · rw [dif_neg hr, dif_neg (fun h => hr h.2.2), dif_neg (fun h => hr h.2.2)]
      exact (b_dq c t s _ _ _ _ _).trans (if_neg (fun h => hr h.2))

end Cert.KernelIdeal.Hand

end
-- ==== Proof.FlashStep2.lean ====
module

public import proofs.«01_k».proof.Proof.FlashStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable (m : (ℓ : Loc nD τ sig) → Buf (Elt Ideal) ℓ) (c : Dev nD) (t : Fin (cfgT (F := Ideal)).N) (s : St Ideal) (x16 : Vec Ideal S512x512 .bf16)

theorem hp_lt (t : Fin grid0.N) : hp t < 8 := by revert t; decide +kernel

theorem rd28 (a : Fin 512) (d : Fin 256) : kernelRun.sl.v28 c (grid0.coords t) (ms0 t) (hs0 t) (ms1 t) (hs1 t) (ms3 t) (hs3 t) (ms4 t) (hs4 t) (ms5 t) (hs5 t) (ms6 t) (hs6 t) (iblk m c 0 t) (iblk m c 1 t) (iblk m c 3 t) (iblk m c 4 t) (iblk m c 5 t) (iblk m c 6 t) (tab2 c) (tab3 c) (chk1_at c t) s (ix3 0 a d)
    = (nxt m c t s x16).dk (ix3 0 a d) := by
  dsimp only [kernelRun.sl.v28]
  rw [ra3 _ _ _ _ _ _ _ 0 0 0 rfl]; unfold nxt stepOf kernelRun; dsimp only; refine (congrFun (View.read_whole (Val := Elt Ideal) _ _) _).trans ?_; refine congrArg _ ?_; simp
theorem rd37 (a : Fin 512) (d : Fin 256) : kernelRun.sl.v37 c (grid0.coords t) (ms0 t) (hs0 t) (ms1 t) (hs1 t) (ms3 t) (hs3 t) (ms4 t) (hs4 t) (ms5 t) (hs5 t) (ms6 t) (hs6 t) (iblk m c 0 t) (iblk m c 1 t) (iblk m c 3 t) (iblk m c 4 t) (iblk m c 5 t) (iblk m c 6 t) (tab2 c) (tab3 c) (chk1_at c t) s (ix3 0 a d)
    = (nxt m c t s x16).dk (ix3 1 a d) := by
  dsimp only [kernelRun.sl.v37]
  rw [ra3 _ _ _ _ _ _ _ 1 0 0 rfl]; unfold nxt stepOf kernelRun; dsimp only; refine (congrFun (View.read_whole (Val := Elt Ideal) _ _) _).trans ?_; refine congrArg _ ?_; simp
theorem rd31 (a : Fin 512) (d : Fin 128) : kernelRun.sl.v31 c (grid0.coords t) (ms0 t) (hs0 t) (ms1 t) (hs1 t) (ms4 t) (hs4 t) (ms6 t) (hs6 t) (iblk m c 0 t) (iblk m c 1 t) (iblk m c 4 t) (iblk m c 6 t) (tab2 c) (tab3 c) s (ix3 0 a d)
    = (nxt m c t s x16).dv (ix3 0 a d) := by
  dsimp only [kernelRun.sl.v31]
  rw [ra3 _ _ _ _ _ _ _ 0 0 0 rfl]; unfold nxt stepOf kernelRun; dsimp only; refine (congrFun (View.read_whole (Val := Elt Ideal) _ _) _).trans ?_; refine congrArg _ ?_; simp
theorem rd40 (a : Fin 512) (d : Fin 128) : kernelRun.sl.v40 c (grid0.coords t) (ms0 t) (hs0 t) (ms1 t) (hs1 t) (ms4 t) (hs4 t) (ms6 t) (hs6 t) (iblk m c 0 t) (iblk m c 1 t) (iblk m c 4 t) (iblk m c 6 t) (tab2 c) (tab3 c) s (ix3 0 a d)
    = (nxt m c t s x16).dv (ix3 1 a d) := by
  dsimp only [kernelRun.sl.v40]
  rw [ra3 _ _ _ _ _ _ _ 1 0 0 rfl]; unfold nxt stepOf kernelRun; dsimp only; refine (congrFun (View.read_whole (Val := Elt Ideal) _ _) _).trans ?_; refine congrArg _ ?_; simp

/-- The result block at the last tile of a column of tiles. -/
theorem out16_at (h7 : it t = 7) (hh : Fin 2) (a : Fin 512) (d : Fin 256) : out16 m c t s x16 (ix2 a ⟨hh.val * 256 + d.val, by omega⟩)
    = if h : d.val < 128 then (nxt m c t s x16).dk (ix3 hh a d) else (nxt m c t s x16).dv (ix3 hh a ⟨d.val - 128, by omega⟩) := by
  have e28 := fun a d => rd28 m c t s x16 a d
  have e37 := fun a d => rd37 m c t s x16 a d
  have e31 := fun a d => rd31 m c t s x16 a d
  have e40 := fun a d => rd40 m c t s x16 a d
  generalize (nxt m c t s x16).dk = DK at *
  generalize (nxt m c t s x16).dv = DV at *
  unfold out16 stepOf kernelRun; dsimp only
  rw [dif_pos ((c6_at c t).mpr h7)]
  dsimp only [kernelRun.sl.H16_2]
  rw [wr2 _ _ _ _ _ _ _ _ 0 256 rfl, wr2 _ _ _ _ _ _ _ _ 0 0 rfl]
  obtain rfl | rfl : hh = 0 ∨ hh = 1 := by omega
  · rw [dif_neg (by simp), dif_pos (by simp)]
    refine (pay11_at _ _ _ _).trans ?_
    simp only [e28, e31]
    simp
  · rw [dif_pos (by simp; omega)]
    refine (pay13_at _ _ _ _).trans ?_
    simp only [e37, e40]
    simp

theorem nxt_pe (x : Fin 4096) (e : Fin 128) : (nxt m c t s x16).pe (ix2 x e)
    = (if t.val = 0 then 0 else s.pe (ix2 x e)) + if h : it t = 7 ∧ jt t * 512 ≤ x.val ∧ x.val < jt t * 512 + 512 then
        (nxt m c t s x16).dk (ix3 0 ⟨x.val - jt t * 512, by omega⟩ ⟨128 + e.val, by omega⟩) + (nxt m c t s x16).dk (ix3 1 ⟨x.val - jt t * 512, by omega⟩ ⟨128 + e.val, by omega⟩) else 0 := by
  have e28 := fun a d => rd28 m c t s x16 a d
  have e37 := fun a d => rd37 m c t s x16 a d
  generalize (nxt m c t s x16).dk = DK at *
  have b : ∀ (x : Fin 4096) (e : Fin 128), (View.whole cc0_scratch4).read (Elt Ideal) (if hc : kernelRun.sl.v12 (grid0.coords t) = 1#1 then
      (View.whole cc0_scratch4).writes (Elt Ideal) s.5 [⟨Rect.unit ![0, 0] ![4096, 128] inb_S4096x128_S4096x128_0_0, k0_pay1 (F := Ideal)⟩] else s.pe) (ix2 x e) = (if t.val = 0 then (0 : EReal) else s.pe (ix2 x e)) := by
    intro x e
    by_cases h0 : t.val = 0
    · have h12 := (c12_bits t).mpr h0
      rw [dif_pos h12, if_pos h0, wr2 _ _ _ _ _ _ _ _ 0 0 rfl, dif_pos (by simp)]
      exact pay1_at _ _
    · rw [dif_neg (fun h => h0 ((c12_bits t).mp h)), if_neg h0]; rfl
  unfold nxt stepOf kernelRun; dsimp only
  by_cases h7 : it t = 7
  · have h6 := (c6_at c t).mpr h7
    rw [dif_pos h6]
    refine (congrFun (View.read_whole (Val := Elt Ideal) cc0_scratch4 _).symm _).trans ?_
    dsimp only [kernelRun.sl.Hpe_1]
    rw [wr2 _ _ _ _ _ _ _ _ _ _ (off15_at c t)]
    by_cases hr : jt t * 512 ≤ x.val ∧ x.val < jt t * 512 + 512
    · rw [dif_pos ⟨hr, by simp⟩, dif_pos ⟨h7, hr⟩]
      refine (pay14_at _ _ _ _ _).trans ?_
      simp only [e28, e37]
      refine congrArg₂ (· + ·) ?_ rfl
      dsimp only [kernelRun.sl.v48_1]
      rw [ra2 _ _ _ _ _ _ _ _ (off15_at c t)]
      refine (b _ _).trans ?_
      have : jt t * 512 + (x.val - jt t * 512) = x.val := by omega
      simp [this]
    · rw [dif_neg (fun h => hr h.1), dif_neg (fun h : it t = 7 ∧ _ => hr h.2), add_zero]
      exact b _ _
  · rw [dif_neg (fun h => h7 ((c6_at c t).mp h)), dif_neg (fun h : it t = 7 ∧ _ => h7 h.1), add_zero]
    exact b _ _

theorem rd141 (hc) (d : Fin 256) (r : Fin 512) : kernelRun.sl.v141 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (iblk m c 4 t) (iblk m c 5 t) (iblk m c 6 t) (tab2 c) (tab3 c) (chk1_at c t) s hc (ix3 0 d r)
    = (nxt m c t s x16).dq (ix3 0 d ⟨it t * 512 + r.val, by have := it_lt t; omega⟩) := by
  dsimp only [kernelRun.sl.v141]
  rw [ra3 _ _ _ _ _ _ _ _ _ _ (off11_at c t)]; unfold nxt stepOf kernelRun; dsimp only; rw [dif_pos hc]; refine (congrFun (View.read_whole (Val := Elt Ideal) _ _) _).trans ?_; refine congrArg _ ?_; simp
theorem rd164 (hc) (d : Fin 256) (r : Fin 512) : kernelRun.sl.v164 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (iblk m c 4 t) (iblk m c 5 t) (iblk m c 6 t) (tab2 c) (tab3 c) (chk1_at c t) s hc (ix3 0 d r)
    = (nxt m c t s x16).dq (ix3 1 d ⟨it t * 512 + r.val, by have := it_lt t; omega⟩) := by
  dsimp only [kernelRun.sl.v164]
  rw [ra3 _ _ _ _ _ _ _ _ _ _ (off13_at c t)]; unfold nxt stepOf kernelRun; dsimp only; rw [dif_pos hc]; refine (congrFun (View.read_whole (Val := Elt Ideal) _ _) _).trans ?_; refine congrArg _ ?_; simp

theorem ldt256 (M : Memref sig .tc .vmem S512x256 .f32) (hM : M.IsWhole) (X : Vec Ideal S512x256 .f32) (h) (a : Fin 512) (d : Fin 256) :
    View.readAt (Elt Ideal) M.view (Rect.unit (s := S512x256) ![0, 0] ![512, 256] h).toLoadRect (hM.unread X) (ix2 a d) = X (ix2 a d) := by
  rw [ra2 _ _ _ _ _ _ 0 0 rfl, hM.read_unread]; simp
theorem ldt128 (M : Memref sig .tc .vmem S512x128 .f32) (hM : M.IsWhole) (X : Vec Ideal S512x128 .f32) (h) (a : Fin 512) (d : Fin 128) :
    View.readAt (Elt Ideal) M.view (Rect.unit (s := S512x128) ![0, 0] ![512, 128] h).toLoadRect (hM.unread X) (ix2 a d) = X (ix2 a d) := by
  rw [ra2 _ _ _ _ _ _ 0 0 rfl, hM.read_unread]; simp

theorem rd58 (hc hc') (a : Fin 512) (e : Fin 128) : kernelRun.sl.v58_1 c (grid0.coords t) (ms0 t) (hs0 t) (ms1 t) (hs1 t) (ms3 t) (hs3 t) (ms4 t) (hs4 t) (ms5 t) (hs5 t) (ms6 t) (hs6 t) (iblk m c 0 t) (iblk m c 1 t) (iblk m c 3 t) (iblk m c 4 t) (iblk m c 5 t) (iblk m c 6 t) (tab2 c) (tab3 c) (chk1_at c t) s hc hc' (ix2 a e)
    = (nxt m c t s x16).pe (ix2 ⟨jt t * 512 + a.val, by have := it_lt t; have := jt_le t; omega⟩ e) := by
  dsimp only [kernelRun.sl.v58_1]
  rw [ra2 _ _ _ _ _ _ _ _ (off16_at c t)]; unfold nxt stepOf kernelRun; dsimp only; rw [dif_pos hc]; refine (congrFun (View.read_whole (Val := Elt Ideal) _ _) _).trans ?_; refine congrArg _ ?_; simp

/-- The query gradient's array after the point. -/
theorem nxt_hq_in (hd : it t = jt t) (hh : Fin 2) (a : Fin 512) (d : Fin 256) : (nxt m c t s x16).hq (ix2 ⟨it t * 512 + a.val, by have := it_lt t; omega⟩ ⟨hp t * 512 + hh.val * 256 + d.val, by have := hp_lt t; omega⟩)
    = rotq (fun d => (nxt m c t s x16).dq (ix3 hh d ⟨it t * 512 + a.val, by have := it_lt t; omega⟩)) (fun d => iblk m c 7 t (ix2 a d)) (fun d => iblk m c 8 t (ix2 a d)) d := by
  have e141 := fun hc d r => rd141 m c t s x16 hc d r
  have e164 := fun hc d r => rd164 m c t s x16 hc d r
  generalize (nxt m c t s x16).dq = DQ at *
  unfold nxt stepOf kernelRun; dsimp only
  rw [dif_pos ((c5_at c t).mpr hd)]
  dsimp only [kernelRun.sl.Hhq_w0]
  rw [← View.writes_singleton]
  refine (congrFun (View.read_whole (Val := Elt Ideal) main_v87_0 _).symm _).trans ?_
  rw [wr2 _ _ _ _ _ _ _ _ _ _ (off14_at c t), dif_pos (by have := hh.isLt; constructor <;> simp <;> omega)]
  dsimp only [kernelRun.sl.dma94, ReadAs.apply, kernelRun.sl.Hdqs_2]
  rw [wr2 _ _ _ _ _ _ _ _ 0 256 rfl, wr2 _ _ _ _ _ _ _ _ 0 0 rfl]
  obtain rfl | rfl : hh = 0 ∨ hh = 1 := by omega
  · rw [dif_neg (by simp), dif_pos (by simp)]
    refine (pay45_at _ _ _ _ _).trans ?_
    simp only [e141, ldt256]
    have ea : it t * 512 + (it t * 512 + a.val - it t * 512 - 0) = it t * 512 + a.val := by omega
    have ea' : (it t * 512 + a.val - it t * 512 - 0) = a.val := by omega
    have ed : hp t * 512 + (0 : Fin 2).val * 256 + d.val - hp t * 512 - 0 = d.val := by simp
    simp only [ea, ea', ed]
  · rw [dif_pos (by simp; omega)]
    dsimp only [kernelRun.sl.v166]
    refine (pay9_at _ _ _ _ _).trans ?_
    simp only [e164, ldt256]
    have ea : it t * 512 + (it t * 512 + a.val - it t * 512 - 0) = it t * 512 + a.val := by omega
    have ea' : (it t * 512 + a.val - it t * 512 - 0) = a.val := by omega
    have ed : hp t * 512 + (1 : Fin 2).val * 256 + d.val - hp t * 512 - 256 = d.val := by simp; omega
    simp only [ea, ea', ed]

theorem nxt_hq_out (x y : Fin 4096) (h : ¬ (it t = jt t ∧ (it t * 512 ≤ x.val ∧ x.val < it t * 512 + 512) ∧ (hp t * 512 ≤ y.val ∧ y.val < hp t * 512 + 512))) :
    (nxt m c t s x16).hq (ix2 x y) = s.hq (ix2 x y) := by
  unfold nxt stepOf kernelRun; dsimp only
  by_cases hd : it t = jt t
  · rw [dif_pos ((c5_at c t).mpr hd)]
    dsimp only [kernelRun.sl.Hhq_w0]
    rw [← View.writes_singleton]
    refine (congrFun (View.read_whole (Val := Elt Ideal) main_v87_0 _).symm _).trans ?_
    rw [wr2 _ _ _ _ _ _ _ _ _ _ (off14_at c t), dif_neg (fun h' => h ⟨hd, h'⟩)]
    rfl
  · rw [dif_neg (fun h => hd ((c5_at c t).mp h))]

/-- The positional key gradient's array after the point. -/
theorem nxt_hp_in (h7 : it t = 7) (hh7 : hp t = 7) (a : Fin 512) (e : Fin 128) : (nxt m c t s x16).hp (ix2 ⟨jt t * 512 + a.val, by have := it_lt t; have := jt_le t; omega⟩ e)
    = rotk (fun e => (nxt m c t s x16).pe (ix2 ⟨jt t * 512 + a.val, by have := it_lt t; have := jt_le t; omega⟩ e)) (fun e => iblk m c 9 t (ix2 a e)) (fun e => iblk m c 10 t (ix2 a e)) e := by
  have e58 := fun hc hc' a e => rd58 m c t s x16 hc hc' a e
  generalize (nxt m c t s x16).pe = PE at *
  unfold nxt stepOf kernelRun; dsimp only
  rw [dif_pos ((c6_at c t).mpr h7), dif_pos ((c7_bits t).mpr hh7)]
  dsimp only [kernelRun.sl.Hhp_w1]
  rw [← View.writes_singleton]
  refine (congrFun (View.read_whole (Val := Elt Ideal) main_v87_2 _).symm _).trans ?_
  rw [wr2 _ _ _ _ _ _ _ _ _ _ (off17_at c t), dif_pos (by constructor <;> simp)]
  dsimp only [kernelRun.sl.dma110, ReadAs.apply, kernelRun.sl.Hpes_1]
  rw [wr2 _ _ _ _ _ _ _ _ 0 0 rfl, dif_pos (by constructor <;> simp)]
  refine (pay15_at _ _ _ _ _).trans ?_
  simp only [e58, ldt128]
  have ea : jt t * 512 + (jt t * 512 + a.val - jt t * 512 - 0) = jt t * 512 + a.val := by omega
  have ea' : (jt t * 512 + a.val - jt t * 512 - 0) = a.val := by omega
  simp only [ea, ea', Nat.sub_zero]

theorem nxt_hp_out (x : Fin 4096) (e : Fin 128) (h : ¬ (it t = 7 ∧ hp t = 7 ∧ (jt t * 512 ≤ x.val ∧ x.val < jt t * 512 + 512))) :
    (nxt m c t s x16).hp (ix2 x e) = s.hp (ix2 x e) := by
  unfold nxt stepOf kernelRun; dsimp only
  by_cases hd : it t = 7
  · rw [dif_pos ((c6_at c t).mpr hd)]
    by_cases hd' : hp t = 7
    · rw [dif_pos ((c7_bits t).mpr hd')]
      dsimp only [kernelRun.sl.Hhp_w1]
      rw [← View.writes_singleton]
      refine (congrFun (View.read_whole (Val := Elt Ideal) main_v87_2 _).symm _).trans ?_
      rw [wr2 _ _ _ _ _ _ _ _ _ _ (off17_at c t), dif_neg (fun h' => h ⟨hd, hd', h'.1⟩)]
      rfl
    · rw [dif_neg (fun h => hd' ((c7_bits t).mp h))]
  · rw [dif_neg (fun h => hd ((c6_at c t).mp h))]

end Cert.KernelIdeal.Hand

end
-- ==== Proof.FlashBlk.lean ====
module

public import proofs.«01_k».proof.Proof.FlashStep2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable (m : (ℓ : Loc nD τ sig) → Buf (Elt Ideal) ℓ) (c : Dev nD) (t : Fin (cfgT (F := Ideal)).N)

/-! ## The blocks, of the arrays -/

/-- The row tile of the block of `o`: the tile itself in the first column of tiles, where it is used, and the last tile elsewhere. -/
def ot (t : Fin grid0.N) : ℕ := if jt t = 0 then it t else 7
theorem blk_lt (t : Fin grid0.N) : it t < 8 ∧ jt t < 8 ∧ hp t < 8 ∧ ot t < 8 := by revert t; decide +kernel
theorem ext6 (x y : S16x1x4096.Idx) (h0 : (x 0).val = (y 0).val) (h2 : (x 2).val = (y 2).val) : x = y := by
  funext i
  match i with
  | ⟨0, _⟩ => exact Fin.ext h0
  | ⟨1, _⟩ => exact Subsingleton.elim (α := Fin 1) _ _
  | ⟨2, _⟩ => exact Fin.ext h2
theorem ext2 {a b : ℕ} (x y : (Shape.mk 2 ![a, b]).Idx) (h0 : (x 0).val = (y 0).val) (h1 : (x 1).val = (y 1).val) : x = y := by
  funext i
  match i with
  | ⟨0, _⟩ => exact Fin.ext h0
  | ⟨1, _⟩ => exact Fin.ext h1

theorem tr0 (t : Fin grid0.N) : cc0_transform_0 k0_off1_inb numel1_S1 (tabs (F := Ideal)) (grid0.coords t) = ![it t, hp t] :=
  (by revert t; decide +kernel : ∀ t, cc0_transform_0 k0_off1_inb numel1_S1 (tabs (F := Bits)) (grid0.coords t) = ![it t, hp t]) t
theorem e00 (y : S512x512.Idx) : ((((cfgT (F := Ideal)).win 0).blk t).view.emb y 0).val = it t * 512 + (y 0).val := by
  blk_simp
  exact (congrArg (· * 512 + (y 0).val) (congrFun (tr0 t) 0))
theorem e01 (y : S512x512.Idx) : ((((cfgT (F := Ideal)).win 0).blk t).view.emb y 1).val = hp t * 512 + (y 1).val := by
  blk_simp
  exact (congrArg (· * 512 + (y 1).val) (congrFun (tr0 t) 1))
theorem rdb0 (A : (b : Ref sig .tc) → Buf (Elt Ideal) ((c.tc : Thread nD τ).loc b)) (a : Fin 512) (b : Fin 512) : (((cfgT (F := Ideal)).win 0).blk t).view.read (Elt Ideal) (A (Pipeline.arrRef spec0 0)) (ix2 a b) = A main_v80 (ix2 ⟨it t * 512 + a.val, by have := blk_lt t; omega⟩ ⟨hp t * 512 + b.val, by have := blk_lt t; omega⟩) :=
  congrArg (A main_v80) (ext2 _ _ (e00 t (ix2 a b)) (e01 t (ix2 a b)))
theorem iblk0_at (a : Fin 512) (b : Fin 512) : iblk m c 0 t (ix2 a b) = V m c main_v80 (ix2 ⟨it t * 512 + a.val, by have := blk_lt t; omega⟩ ⟨hp t * 512 + b.val, by have := blk_lt t; omega⟩) := rdb0 c t (V m c) a b
theorem tr1 (t : Fin grid0.N) : cc0_transform_1 k0_off1_inb numel1_S1 (tabs (F := Ideal)) (grid0.coords t) = ![jt t, hp t] :=
  (by revert t; decide +kernel : ∀ t, cc0_transform_1 k0_off1_inb numel1_S1 (tabs (F := Bits)) (grid0.coords t) = ![jt t, hp t]) t
theorem e10 (y : S512x512.Idx) : ((((cfgT (F := Ideal)).win 1).blk t).view.emb y 0).val = jt t * 512 + (y 0).val := by
  blk_simp
  exact (congrArg (· * 512 + (y 0).val) (congrFun (tr1 t) 0))
theorem e11 (y : S512x512.Idx) : ((((cfgT (F := Ideal)).win 1).blk t).view.emb y 1).val = hp t * 512 + (y 1).val := by
  blk_simp
  exact (congrArg (· * 512 + (y 1).val) (congrFun (tr1 t) 1))
theorem rdb1 (A : (b : Ref sig .tc) → Buf (Elt Ideal) ((c.tc : Thread nD τ).loc b)) (a : Fin 512) (b : Fin 512) : (((cfgT (F := Ideal)).win 1).blk t).view.read (Elt Ideal) (A (Pipeline.arrRef spec0 1)) (ix2 a b) = A main_v81 (ix2 ⟨jt t * 512 + a.val, by have := blk_lt t; omega⟩ ⟨hp t * 512 + b.val, by have := blk_lt t; omega⟩) :=
  congrArg (A main_v81) (ext2 _ _ (e10 t (ix2 a b)) (e11 t (ix2 a b)))
theorem iblk1_at (a : Fin 512) (b : Fin 512) : iblk m c 1 t (ix2 a b) = V m c main_v81 (ix2 ⟨jt t * 512 + a.val, by have := blk_lt t; omega⟩ ⟨hp t * 512 + b.val, by have := blk_lt t; omega⟩) := rdb1 c t (V m c) a b
theorem tr2 (t : Fin grid0.N) : cc0_transform_2 k0_off1_inb numel1_S1 (tabs (F := Ideal)) (grid0.coords t) = ![hp t, jt t] :=
  (by revert t; decide +kernel : ∀ t, cc0_transform_2 k0_off1_inb numel1_S1 (tabs (F := Bits)) (grid0.coords t) = ![hp t, jt t]) t
theorem e20 (y : S512x512.Idx) : ((((cfgT (F := Ideal)).win 2).blk t).view.emb y 0).val = hp t * 512 + (y 0).val := by
  blk_simp
  exact (congrArg (· * 512 + (y 0).val) (congrFun (tr2 t) 0))
theorem e21 (y : S512x512.Idx) : ((((cfgT (F := Ideal)).win 2).blk t).view.emb y 1).val = jt t * 512 + (y 1).val := by
  blk_simp
  exact (congrArg (· * 512 + (y 1).val) (congrFun (tr2 t) 1))
theorem rdb2 (A : (b : Ref sig .tc) → Buf (Elt Ideal) ((c.tc : Thread nD τ).loc b)) (a : Fin 512) (b : Fin 512) : (((cfgT (F := Ideal)).win 2).blk t).view.read (Elt Ideal) (A (Pipeline.arrRef spec0 2)) (ix2 a b) = A main_v83 (ix2 ⟨hp t * 512 + a.val, by have := blk_lt t; omega⟩ ⟨jt t * 512 + b.val, by have := blk_lt t; omega⟩) :=
  congrArg (A main_v83) (ext2 _ _ (e20 t (ix2 a b)) (e21 t (ix2 a b)))
theorem iblk2_at (a : Fin 512) (b : Fin 512) : iblk m c 2 t (ix2 a b) = V m c main_v83 (ix2 ⟨hp t * 512 + a.val, by have := blk_lt t; omega⟩ ⟨jt t * 512 + b.val, by have := blk_lt t; omega⟩) := rdb2 c t (V m c) a b
theorem tr3 (t : Fin grid0.N) : cc0_transform_3 k0_off1_inb numel1_S1 (tabs (F := Ideal)) (grid0.coords t) = ![jt t, hp t] :=
  (by revert t; decide +kernel : ∀ t, cc0_transform_3 k0_off1_inb numel1_S1 (tabs (F := Bits)) (grid0.coords t) = ![jt t, hp t]) t
theorem e30 (y : S512x256.Idx) : ((((cfgT (F := Ideal)).win 3).blk t).view.emb y 0).val = jt t * 512 + (y 0).val := by
  blk_simp
  exact (congrArg (· * 512 + (y 0).val) (congrFun (tr3 t) 0))
theorem e31 (y : S512x256.Idx) : ((((cfgT (F := Ideal)).win 3).blk t).view.emb y 1).val = hp t * 256 + (y 1).val := by
  blk_simp
  exact (congrArg (· * 256 + (y 1).val) (congrFun (tr3 t) 1))
theorem rdb3 (A : (b : Ref sig .tc) → Buf (Elt Ideal) ((c.tc : Thread nD τ).loc b)) (a : Fin 512) (b : Fin 256) : (((cfgT (F := Ideal)).win 3).blk t).view.read (Elt Ideal) (A (Pipeline.arrRef spec0 3)) (ix2 a b) = A main_v85 (ix2 ⟨jt t * 512 + a.val, by have := blk_lt t; omega⟩ ⟨hp t * 256 + b.val, by have := blk_lt t; omega⟩) :=
  congrArg (A main_v85) (ext2 _ _ (e30 t (ix2 a b)) (e31 t (ix2 a b)))
theorem iblk3_at (a : Fin 512) (b : Fin 256) : iblk m c 3 t (ix2 a b) = V m c main_v85 (ix2 ⟨jt t * 512 + a.val, by have := blk_lt t; omega⟩ ⟨hp t * 256 + b.val, by have := blk_lt t; omega⟩) := rdb3 c t (V m c) a b
theorem tr4 (t : Fin grid0.N) : cc0_transform_4 k0_off1_inb numel1_S1 (tabs (F := Ideal)) (grid0.coords t) = ![it t, hp t] :=
  (by revert t; decide +kernel : ∀ t, cc0_transform_4 k0_off1_inb numel1_S1 (tabs (F := Bits)) (grid0.coords t) = ![it t, hp t]) t
theorem e40 (y : S512x256.Idx) : ((((cfgT (F := Ideal)).win 4).blk t).view.emb y 0).val = it t * 512 + (y 0).val := by
  blk_simp
  exact (congrArg (· * 512 + (y 0).val) (congrFun (tr4 t) 0))
theorem e41 (y : S512x256.Idx) : ((((cfgT (F := Ideal)).win 4).blk t).view.emb y 1).val = hp t * 256 + (y 1).val := by
  blk_simp
  exact (congrArg (· * 256 + (y 1).val) (congrFun (tr4 t) 1))
theorem rdb4 (A : (b : Ref sig .tc) → Buf (Elt Ideal) ((c.tc : Thread nD τ).loc b)) (a : Fin 512) (b : Fin 256) : (((cfgT (F := Ideal)).win 4).blk t).view.read (Elt Ideal) (A (Pipeline.arrRef spec0 4)) (ix2 a b) = A main_arg5 (ix2 ⟨it t * 512 + a.val, by have := blk_lt t; omega⟩ ⟨hp t * 256 + b.val, by have := blk_lt t; omega⟩) :=
  congrArg (A main_arg5) (ext2 _ _ (e40 t (ix2 a b)) (e41 t (ix2 a b)))
theorem iblk4_at (a : Fin 512) (b : Fin 256) : iblk m c 4 t (ix2 a b) = V m c main_arg5 (ix2 ⟨it t * 512 + a.val, by have := blk_lt t; omega⟩ ⟨hp t * 256 + b.val, by have := blk_lt t; omega⟩) := rdb4 c t (V m c) a b
theorem tr5 (t : Fin grid0.N) : cc0_transform_5 k0_off1_inb numel1_S1 (tabs (F := Ideal)) (grid0.coords t) = ![ot t, hp t] :=
  (by revert t; decide +kernel : ∀ t, cc0_transform_5 k0_off1_inb numel1_S1 (tabs (F := Bits)) (grid0.coords t) = ![ot t, hp t]) t
theorem e50 (y : S512x256.Idx) : ((((cfgT (F := Ideal)).win 5).blk t).view.emb y 0).val = ot t * 512 + (y 0).val := by
  blk_simp
  exact (congrArg (· * 512 + (y 0).val) (congrFun (tr5 t) 0))
theorem e51 (y : S512x256.Idx) : ((((cfgT (F := Ideal)).win 5).blk t).view.emb y 1).val = hp t * 256 + (y 1).val := by
  blk_simp
  exact (congrArg (· * 256 + (y 1).val) (congrFun (tr5 t) 1))
theorem rdb5 (A : (b : Ref sig .tc) → Buf (Elt Ideal) ((c.tc : Thread nD τ).loc b)) (a : Fin 512) (b : Fin 256) : (((cfgT (F := Ideal)).win 5).blk t).view.read (Elt Ideal) (A (Pipeline.arrRef spec0 5)) (ix2 a b) = A main_v86 (ix2 ⟨ot t * 512 + a.val, by have := blk_lt t; omega⟩ ⟨hp t * 256 + b.val, by have := blk_lt t; omega⟩) :=
  congrArg (A main_v86) (ext2 _ _ (e50 t (ix2 a b)) (e51 t (ix2 a b)))
theorem iblk5_at (a : Fin 512) (b : Fin 256) : iblk m c 5 t (ix2 a b) = V m c main_v86 (ix2 ⟨ot t * 512 + a.val, by have := blk_lt t; omega⟩ ⟨hp t * 256 + b.val, by have := blk_lt t; omega⟩) := rdb5 c t (V m c) a b
theorem tr6 (t : Fin grid0.N) : cc0_transform_6 k0_off1_inb numel1_S1 (tabs (F := Ideal)) (grid0.coords t) = ![hp t, 0, it t] :=
  (by revert t; decide +kernel : ∀ t, cc0_transform_6 k0_off1_inb numel1_S1 (tabs (F := Bits)) (grid0.coords t) = ![hp t, 0, it t]) t
theorem e60 (y : S2x1x512.Idx) : ((((cfgT (F := Ideal)).win 6).blk t).view.emb y 0).val = hp t * 2 + (y 0).val := by
  blk_simp
  exact (congrArg (· * 2 + (y 0).val) (congrFun (tr6 t) 0))
theorem e62 (y : S2x1x512.Idx) : ((((cfgT (F := Ideal)).win 6).blk t).view.emb y 2).val = it t * 512 + (y 2).val := by
  blk_simp
  exact (congrArg (· * 512 + (y 2).val) (congrFun (tr6 t) 2))
theorem rdb6 (A : (b : Ref sig .tc) → Buf (Elt Ideal) ((c.tc : Thread nD τ).loc b)) (hh : Fin 2) (b : Fin 512) : (((cfgT (F := Ideal)).win 6).blk t).view.read (Elt Ideal) (A (Pipeline.arrRef spec0 6)) (ix3 hh 0 b) = A main_v64 (ix3 ⟨hp t * 2 + hh.val, by have := blk_lt t; omega⟩ 0 ⟨it t * 512 + b.val, by have := blk_lt t; omega⟩) :=
  congrArg (A main_v64) (ext6 _ _ (e60 t (ix3 hh 0 b)) (e62 t (ix3 hh 0 b)))
theorem iblk6_at (hh : Fin 2) (b : Fin 512) : iblk m c 6 t (ix3 hh 0 b) = V m c main_v64 (ix3 ⟨hp t * 2 + hh.val, by have := blk_lt t; omega⟩ 0 ⟨it t * 512 + b.val, by have := blk_lt t; omega⟩) := rdb6 c t (V m c) hh b
theorem tr7 (t : Fin grid0.N) : cc0_transform_7 k0_off1_inb numel1_S1 (tabs (F := Ideal)) (grid0.coords t) = ![it t, 0] :=
  (by revert t; decide +kernel : ∀ t, cc0_transform_7 k0_off1_inb numel1_S1 (tabs (F := Bits)) (grid0.coords t) = ![it t, 0]) t
theorem e70 (y : S512x256.Idx) : ((((cfgT (F := Ideal)).win 7).blk t).view.emb y 0).val = it t * 512 + (y 0).val := by
  blk_simp
  exact (congrArg (· * 512 + (y 0).val) (congrFun (tr7 t) 0))
theorem e71 (y : S512x256.Idx) : ((((cfgT (F := Ideal)).win 7).blk t).view.emb y 1).val = 0 * 256 + (y 1).val := by
  blk_simp
  exact (congrArg (· * 256 + (y 1).val) (congrFun (tr7 t) 1)).trans ((congrArg (· + (y 1).val) (Nat.zero_mul 256)).trans (Nat.zero_add _))
theorem rdb7 (A : (b : Ref sig .tc) → Buf (Elt Ideal) ((c.tc : Thread nD τ).loc b)) (a : Fin 512) (b : Fin 256) : (((cfgT (F := Ideal)).win 7).blk t).view.read (Elt Ideal) (A (Pipeline.arrRef spec0 7)) (ix2 a b) = A main_v7 (ix2 ⟨it t * 512 + a.val, by have := blk_lt t; omega⟩ ⟨0 * 256 + b.val, by have := blk_lt t; omega⟩) :=
  congrArg (A main_v7) (ext2 _ _ (e70 t (ix2 a b)) (e71 t (ix2 a b)))
theorem iblk7_at (a : Fin 512) (b : Fin 256) : iblk m c 7 t (ix2 a b) = V m c main_v7 (ix2 ⟨it t * 512 + a.val, by have := blk_lt t; omega⟩ ⟨0 * 256 + b.val, by have := blk_lt t; omega⟩) := rdb7 c t (V m c) a b
theorem tr8 (t : Fin grid0.N) : cc0_transform_8 k0_off1_inb numel1_S1 (tabs (F := Ideal)) (grid0.coords t) = ![it t, 0] :=
  (by revert t; decide +kernel : ∀ t, cc0_transform_8 k0_off1_inb numel1_S1 (tabs (F := Bits)) (grid0.coords t) = ![it t, 0]) t
theorem e80 (y : S512x256.Idx) : ((((cfgT (F := Ideal)).win 8).blk t).view.emb y 0).val = it t * 512 + (y 0).val := by
  blk_simp
  exact (congrArg (· * 512 + (y 0).val) (congrFun (tr8 t) 0))
theorem e81 (y : S512x256.Idx) : ((((cfgT (F := Ideal)).win 8).blk t).view.emb y 1).val = 0 * 256 + (y 1).val := by
  blk_simp
  exact (congrArg (· * 256 + (y 1).val) (congrFun (tr8 t) 1)).trans ((congrArg (· + (y 1).val) (Nat.zero_mul 256)).trans (Nat.zero_add _))
theorem rdb8 (A : (b : Ref sig .tc) → Buf (Elt Ideal) ((c.tc : Thread nD τ).loc b)) (a : Fin 512) (b : Fin 256) : (((cfgT (F := Ideal)).win 8).blk t).view.read (Elt Ideal) (A (Pipeline.arrRef spec0 8)) (ix2 a b) = A main_v11 (ix2 ⟨it t * 512 + a.val, by have := blk_lt t; omega⟩ ⟨0 * 256 + b.val, by have := blk_lt t; omega⟩) :=
  congrArg (A main_v11) (ext2 _ _ (e80 t (ix2 a b)) (e81 t (ix2 a b)))
theorem iblk8_at (a : Fin 512) (b : Fin 256) : iblk m c 8 t (ix2 a b) = V m c main_v11 (ix2 ⟨it t * 512 + a.val, by have := blk_lt t; omega⟩ ⟨0 * 256 + b.val, by have := blk_lt t; omega⟩) := rdb8 c t (V m c) a b
theorem tr9 (t : Fin grid0.N) : cc0_transform_9 k0_off1_inb numel1_S1 (tabs (F := Ideal)) (grid0.coords t) = ![jt t, 0] :=
  (by revert t; decide +kernel : ∀ t, cc0_transform_9 k0_off1_inb numel1_S1 (tabs (F := Bits)) (grid0.coords t) = ![jt t, 0]) t
theorem e90 (y : S512x128.Idx) : ((((cfgT (F := Ideal)).win 9).blk t).view.emb y 0).val = jt t * 512 + (y 0).val := by
  blk_simp
  exact (congrArg (· * 512 + (y 0).val) (congrFun (tr9 t) 0))
theorem e91 (y : S512x128.Idx) : ((((cfgT (F := Ideal)).win 9).blk t).view.emb y 1).val = 0 * 128 + (y 1).val := by
  blk_simp
  exact (congrArg (· * 128 + (y 1).val) (congrFun (tr9 t) 1)).trans ((congrArg (· + (y 1).val) (Nat.zero_mul 128)).trans (Nat.zero_add _))
theorem rdb9 (A : (b : Ref sig .tc) → Buf (Elt Ideal) ((c.tc : Thread nD τ).loc b)) (a : Fin 512) (b : Fin 128) : (((cfgT (F := Ideal)).win 9).blk t).view.read (Elt Ideal) (A (Pipeline.arrRef spec0 9)) (ix2 a b) = A main_v1 (ix2 ⟨jt t * 512 + a.val, by have := blk_lt t; omega⟩ ⟨0 * 128 + b.val, by have := blk_lt t; omega⟩) :=
  congrArg (A main_v1) (ext2 _ _ (e90 t (ix2 a b)) (e91 t (ix2 a b)))
theorem iblk9_at (a : Fin 512) (b : Fin 128) : iblk m c 9 t (ix2 a b) = V m c main_v1 (ix2 ⟨jt t * 512 + a.val, by have := blk_lt t; omega⟩ ⟨0 * 128 + b.val, by have := blk_lt t; omega⟩) := rdb9 c t (V m c) a b
theorem tr10 (t : Fin grid0.N) : cc0_transform_10 k0_off1_inb numel1_S1 (tabs (F := Ideal)) (grid0.coords t) = ![jt t, 0] :=
  (by revert t; decide +kernel : ∀ t, cc0_transform_10 k0_off1_inb numel1_S1 (tabs (F := Bits)) (grid0.coords t) = ![jt t, 0]) t
theorem e100 (y : S512x128.Idx) : ((((cfgT (F := Ideal)).win 10).blk t).view.emb y 0).val = jt t * 512 + (y 0).val := by
  blk_simp
  exact (congrArg (· * 512 + (y 0).val) (congrFun (tr10 t) 0))
theorem e101 (y : S512x128.Idx) : ((((cfgT (F := Ideal)).win 10).blk t).view.emb y 1).val = 0 * 128 + (y 1).val := by
  blk_simp
  exact (congrArg (· * 128 + (y 1).val) (congrFun (tr10 t) 1)).trans ((congrArg (· + (y 1).val) (Nat.zero_mul 128)).trans (Nat.zero_add _))
theorem rdb10 (A : (b : Ref sig .tc) → Buf (Elt Ideal) ((c.tc : Thread nD τ).loc b)) (a : Fin 512) (b : Fin 128) : (((cfgT (F := Ideal)).win 10).blk t).view.read (Elt Ideal) (A (Pipeline.arrRef spec0 10)) (ix2 a b) = A main_v3 (ix2 ⟨jt t * 512 + a.val, by have := blk_lt t; omega⟩ ⟨0 * 128 + b.val, by have := blk_lt t; omega⟩) :=
  congrArg (A main_v3) (ext2 _ _ (e100 t (ix2 a b)) (e101 t (ix2 a b)))
theorem iblk10_at (a : Fin 512) (b : Fin 128) : iblk m c 10 t (ix2 a b) = V m c main_v3 (ix2 ⟨jt t * 512 + a.val, by have := blk_lt t; omega⟩ ⟨0 * 128 + b.val, by have := blk_lt t; omega⟩) := rdb10 c t (V m c) a b

end Cert.KernelIdeal.Hand

end
-- ==== Proof.FlashTile.lean ====
module

public import proofs.«01_k».proof.Proof.FlashBlk

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable (m : (ℓ : Loc nD τ sig) → Buf (Elt Ideal) ℓ) (c : Dev nD) (t : Fin (cfgT (F := Ideal)).N) (s : St Ideal) (x16 : Vec Ideal S512x512 .bf16)

/-! ## What the call's arrays hold, per head -/

/-- The scaled queries, the keys (by rows and by columns), the values, the gradient, the result and the statistics of head `g`. -/
def gq (g x d : ℕ) : EReal := V m c main_v80 (ix2 ⟨x % 4096, Nat.mod_lt _ (by decide)⟩ ⟨(g * 256 + d) % 4096, Nat.mod_lt _ (by decide)⟩)
def gk (g y d : ℕ) : EReal := V m c main_v81 (ix2 ⟨y % 4096, Nat.mod_lt _ (by decide)⟩ ⟨(g * 256 + d) % 4096, Nat.mod_lt _ (by decide)⟩)
def gkt (g d y : ℕ) : EReal := V m c main_v83 (ix2 ⟨(g * 256 + d) % 4096, Nat.mod_lt _ (by decide)⟩ ⟨y % 4096, Nat.mod_lt _ (by decide)⟩)
def gv (g y d : ℕ) : EReal := V m c main_v85 (ix2 ⟨y % 4096, Nat.mod_lt _ (by decide)⟩ ⟨(g * 128 + d) % 2048, Nat.mod_lt _ (by decide)⟩)
def go (g x d : ℕ) : EReal := V m c main_arg5 (ix2 ⟨x % 4096, Nat.mod_lt _ (by decide)⟩ ⟨(g * 128 + d) % 2048, Nat.mod_lt _ (by decide)⟩)
def gf (g x d : ℕ) : EReal := V m c main_v86 (ix2 ⟨x % 4096, Nat.mod_lt _ (by decide)⟩ ⟨(g * 128 + d) % 2048, Nat.mod_lt _ (by decide)⟩)
def gl (g x : ℕ) : EReal := V m c main_v64 (ix3 ⟨g % 16, Nat.mod_lt _ (by decide)⟩ 0 ⟨x % 4096, Nat.mod_lt _ (by decide)⟩)
def gcq (x : ℕ) (d : Fin 256) : EReal := V m c main_v7 (ix2 ⟨x % 4096, Nat.mod_lt _ (by decide)⟩ d)
def gsq (x : ℕ) (d : Fin 256) : EReal := V m c main_v11 (ix2 ⟨x % 4096, Nat.mod_lt _ (by decide)⟩ d)
def gck (x : ℕ) (d : Fin 128) : EReal := V m c main_v1 (ix2 ⟨x % 4096, Nat.mod_lt _ (by decide)⟩ d)
def gsk (x : ℕ) (d : Fin 128) : EReal := V m c main_v3 (ix2 ⟨x % 4096, Nat.mod_lt _ (by decide)⟩ d)

/-- The probability of key `y` for query `x`. -/
def GP (g y x : ℕ) : EReal := if y / 64 ≤ x / 64 then Ideal.exp ((∑ d : Fin 256, gk m c g y d * gq m c g x d) - gl m c g x) else 0
/-- The row sum of gradient times result. -/
def Gdel (g x : ℕ) : EReal := ∑ d : Fin 128, go m c g x d * gf m c g x d
/-- The gradient of the scores. -/
def GS (g y x : ℕ) : EReal := GP m c g y x * ((∑ d : Fin 128, gv m c g y d * go m c g x d) - Gdel m c g x)
/-- One tile's part of the gradients of the queries, the keys and the values. -/
def CQ (g d x J : ℕ) : EReal := ∑ b : Fin 512, gkt m c g d (J * 512 + b) * GS m c g (J * 512 + b) x
def CK (g y d I : ℕ) : EReal := ∑ r : Fin 512, GS m c g y (I * 512 + r) * gq m c g (I * 512 + r) d
def CV (g y d I : ℕ) : EReal := ∑ r : Fin 512, GP m c g y (I * 512 + r) * go m c g (I * 512 + r) d
def DK (g y d : ℕ) : EReal := ∑ I ∈ Finset.Ico (y / 512) 8, CK m c g y d I
def DV (g y d : ℕ) : EReal := ∑ I ∈ Finset.Ico (y / 512) 8, CV m c g y d I
def DQ (g d x : ℕ) : EReal := ∑ J ∈ Finset.range (x / 512 + 1), CQ m c g d x J
def PE (y d n : ℕ) : EReal := ∑ h ∈ Finset.range n, (DK m c (h * 2) y d + DK m c (h * 2 + 1) y d)
def HQ (g x : ℕ) (d : Fin 256) : EReal := rotq (fun d => DQ m c g d x) (gcq m c x) (gsq m c x) d
def HP (y : ℕ) (e : Fin 128) : EReal := rotk (fun e => PE m c y (128 + e.val) 8) (gck m c y) (gsk m c y) e

theorem fin_mod {n : ℕ} (a b : ℕ) (ha : a < n) (hb : b % n < n) (e : a = b) : (⟨a, ha⟩ : Fin n) = ⟨b % n, hb⟩ := by
  subst e; exact Fin.ext (Nat.mod_eq_of_lt ha).symm
theorem fin_mod' {n : ℕ} (a : Fin n) (b : ℕ) (hb : b % n < n) (e : a.val = b) : a = ⟨b % n, hb⟩ := fin_mod a.val b a.isLt hb e

theorem bq_at (hh : Fin 2) (a : Fin 512) (d : Fin 256) : bq m c t hh (ix2 a d) = gq m c (hp t * 2 + hh) (it t * 512 + a) d :=
  (iblk0_at m c t a _).trans (congrArg (V m c main_v80) (congrArg₂ ix2 (fin_mod _ _ _ _ rfl) (fin_mod _ _ _ _ (by show _ + (hh.val * 256 + d.val) = _; ring))))
theorem bk_at (hh : Fin 2) (a : Fin 512) (d : Fin 256) : bk m c t hh (ix2 a d) = gk m c (hp t * 2 + hh) (jt t * 512 + a) d :=
  (iblk1_at m c t a _).trans (congrArg (V m c main_v81) (congrArg₂ ix2 (fin_mod _ _ _ _ rfl) (fin_mod _ _ _ _ (by show _ + (hh.val * 256 + d.val) = _; ring))))
theorem bkt_at (hh : Fin 2) (d : Fin 256) (a : Fin 512) : bkt m c t hh (ix2 d a) = gkt m c (hp t * 2 + hh) d (jt t * 512 + a) :=
  (iblk2_at m c t _ a).trans (congrArg (V m c main_v83) (congrArg₂ ix2 (fin_mod _ _ _ _ (by show _ + (hh.val * 256 + d.val) = _; ring)) (fin_mod _ _ _ _ rfl)))
theorem bv_at (hh : Fin 2) (a : Fin 512) (d : Fin 128) : bv m c t hh (ix2 a d) = gv m c (hp t * 2 + hh) (jt t * 512 + a) d :=
  (iblk3_at m c t a _).trans (congrArg (V m c main_v85) (congrArg₂ ix2 (fin_mod _ _ _ _ rfl) (fin_mod _ _ _ _ (by show _ + (hh.val * 128 + d.val) = _; ring))))
theorem bo_at (hh : Fin 2) (a : Fin 512) (d : Fin 128) : bo m c t hh (ix2 a d) = go m c (hp t * 2 + hh) (it t * 512 + a) d :=
  (iblk4_at m c t a _).trans (congrArg (V m c main_arg5) (congrArg₂ ix2 (fin_mod _ _ _ _ rfl) (fin_mod _ _ _ _ (by show _ + (hh.val * 128 + d.val) = _; ring))))
theorem bf_at (h0 : jt t = 0) (hh : Fin 2) (a : Fin 512) (d : Fin 128) : bf m c t hh (ix2 a d) = gf m c (hp t * 2 + hh) (it t * 512 + a) d :=
  (iblk5_at m c t a _).trans (congrArg (V m c main_v86) (congrArg₂ ix2 (fin_mod _ _ _ _ (by rw [ot, if_pos h0])) (fin_mod _ _ _ _ (by show _ + (hh.val * 128 + d.val) = _; ring))))
theorem bl_at (hh : Fin 2) (a : Fin 512) : bl m c t hh a = gl m c (hp t * 2 + hh) (it t * 512 + a) :=
  (iblk6_at m c t hh a).trans (congrArg (V m c main_v64) (congrArg₂ (fun x y => ix3 x 0 y) (fin_mod _ _ _ _ rfl) (fin_mod _ _ _ _ rfl)))
theorem i7_at (a : Fin 512) (d : Fin 256) : iblk m c 7 t (ix2 a d) = gcq m c (it t * 512 + a) d :=
  (iblk7_at m c t a d).trans (congrArg (V m c main_v7) (congrArg₂ ix2 (fin_mod _ _ _ _ rfl) (Fin.ext (by show 0 * 256 + d.val = _; omega))))
theorem i8_at (a : Fin 512) (d : Fin 256) : iblk m c 8 t (ix2 a d) = gsq m c (it t * 512 + a) d :=
  (iblk8_at m c t a d).trans (congrArg (V m c main_v11) (congrArg₂ ix2 (fin_mod _ _ _ _ rfl) (Fin.ext (by show 0 * 256 + d.val = _; omega))))
theorem i9_at (a : Fin 512) (d : Fin 128) : iblk m c 9 t (ix2 a d) = gck m c (jt t * 512 + a) d :=
  (iblk9_at m c t a d).trans (congrArg (V m c main_v1) (congrArg₂ ix2 (fin_mod _ _ _ _ rfl) (Fin.ext (by show 0 * 128 + d.val = _; omega))))
theorem i10_at (a : Fin 512) (d : Fin 128) : iblk m c 10 t (ix2 a d) = gsk m c (jt t * 512 + a) d :=
  (iblk10_at m c t a d).trans (congrArg (V m c main_v3) (congrArg₂ ix2 (fin_mod _ _ _ _ rfl) (Fin.ext (by show 0 * 128 + d.val = _; omega))))

theorem prf_at (hh : Fin 2) (a b : Fin 512) : prf (dg t) (bq m c t hh) (bk m c t hh) (bl m c t hh) a b = GP m c (hp t * 2 + hh) (jt t * 512 + a) (it t * 512 + b) := by
  rw [prf, GP, bl_at, scf]
  simp only [bq_at, bk_at]
  have h1 := jt_le t; have ha := a.isLt; have hb := b.isLt
  refine if_congr ?_ rfl rfl
  rw [dg, decide_eq_false_iff_not]
  omega

end Cert.KernelIdeal.Hand

end
-- ==== Proof.FlashVal.lean ====
module

public import proofs.«01_k».proof.Proof.FlashReal
public import proofs.«01_k».proof.Proof.FlashHost
public import proofs.«01_k».proof.Proof.FlashTile

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

attribute [local irreducible] V

variable (m : (ℓ : Loc nD τ sig) → Buf (Elt Ideal) ℓ) (c : Dev nD) (I : Inp)

/-- The arguments hold the real inputs. -/
structure Holds : Prop where
  q : ∀ (x : Fin 4096) (d : Fin 3072), V m c main_arg0 (ix2 x d) = ((I.q x d : ℝ) : EReal)
  kv : ∀ (x : Fin 4096) (d : Fin 4096), V m c main_arg1 (ix2 x d) = ((I.kv x d : ℝ) : EReal)
  pe : ∀ (x : Fin 4096) (d : Fin 64), V m c main_arg2 (ix2 x d) = ((I.pe x d : ℝ) : EReal)
  co : ∀ (x : Fin 4096) (d : Fin 32), V m c main_arg3 (ix2 x d) = ((I.co x d : ℝ) : EReal)
  si : ∀ (x : Fin 4096) (d : Fin 32), V m c main_arg4 (ix2 x d) = ((I.si x d : ℝ) : EReal)
  dO : ∀ (x : Fin 4096) (d : Fin 2048), V m c main_arg5 (ix2 x d) = ((I.dO x d : ℝ) : EReal)

variable {m c I} (H : Holds m c I)
include H

theorem h13_at (x : Fin 4096) (h : Fin 16) (d : Fin 128) : V m c main_v13 (ix3 x h d) = ((I.qn h x d : ℝ) : EReal) := by
  rw [V_v13, V_v12]
  pointwise
  exact H.q _ _
theorem h16_at (x : Fin 4096) (h : Fin 16) (d : Fin 128) : V m c main_v16 (ix3 x h d) = ((I.kn h x d : ℝ) : EReal) := by
  rw [V_v16, V_v15]
  pointwise
  exact H.kv _ _
theorem h17_at (x : Fin 4096) (h : Fin 16) (d : Fin 128) : V m c main_v17 (ix3 x h d) = ((I.vv h x d : ℝ) : EReal) := by
  rw [V_v17, V_v15]
  pointwise
  exact H.kv _ _
omit H in
/-- The rotation among the extended reals. -/
theorem rope_e (a c s : ℕ → ℝ) (d : ℕ) :
    (if d < 32 then ((a d : ℝ) : EReal) * ((c d : ℝ) : EReal) - ((a (32 + d) : ℝ) : EReal) * ((s d : ℝ) : EReal)
      else ((a (32 + (d - 32)) : ℝ) : EReal) * ((c (d - 32) : ℝ) : EReal) + ((a (d - 32) : ℝ) : EReal) * ((s (d - 32) : ℝ) : EReal)) = ((rope a c s d : ℝ) : EReal) := by
  rw [rope]
  split
  · push_cast; rfl
  · have e : 32 + (d - 32) = d := by omega
    rw [e]; push_cast; rfl
theorem h32_at (x : Fin 4096) (h : Fin 16) (d : Fin 64) : V m c main_v32 (ix3 x h d) = ((I.qp h x d : ℝ) : EReal) := by
  rw [Inp.qp, ← rope_e]
  rw [V_v32, V_v26, V_v31, V_v23, V_v25, V_v28, V_v30, V_v22, V_v24, V_v27, V_v29, V_v20, V_v21, V_v18, V_v19, V_v14, V_v12]
  pointwise
  by_cases hd : d.val < 32
  · rw [dif_pos hd, if_pos hd, H.q, H.q, H.co, H.si]
  · rw [dif_neg hd, if_neg hd, H.q, H.q, H.co, H.si]
theorem h41_at (x : Fin 4096) (d : Fin 64) : V m c main_v41 (ix2 x d) = ((I.kp x d : ℝ) : EReal) := by
  rw [Inp.kp, ← rope_e]
  rw [V_v41, V_v37, V_v40, V_v35, V_v36, V_v38, V_v39, V_v33, V_v34]
  pointwise
  by_cases hd : d.val < 32
  · rw [dif_pos hd, if_pos hd, H.pe, H.pe, H.co, H.si]
  · rw [dif_neg hd, if_neg hd, H.pe, H.pe, H.co, H.si]

omit H in
theorem hmask_at (h : Fin 16) (x y : Fin 4096) : V m c main_call1_v1 (ix3 h x y) = if y.val / 64 ≤ x.val / 64 then 1#1 else 0#1 := by
  rw [V_call1_v1, V_v54, V_v52, V_v53, V_v50, V_v51, V_v49, V_call0_v11, V_call0_v13, V_call0_v6, V_call0_v10, V_call0_v12, V_call0_v2, V_call0_v3, V_call0_v5, V_call0_v8, V_call0_v9, V_call0_v4, V_call0_v7, V_call0_v1,
    V_call0_v0, V_v48, V_c_6, V_call0_c, V_call0_c_0]
  pointwise
  exact chunk_mask x y

theorem h55_at (h : Fin 16) (x y : Fin 4096) : V m c main_v55 (ix3 h x y) = if y.val / 64 ≤ x.val / 64 then ((I.sc h x y : ℝ) : EReal) else ⊥ := by
  rw [V_v55, V_v47, V_v45, V_v42, V_v44, V_v43, V_v46, V_call1_v2, V_call1_v0, V_cst_5, V_cst_7]
  pointwise
  rw [hmask_at, sel_mask]
  refine if_congr Iff.rfl ?_ neg_inf
  simp only [h13_at H, h16_at H, h41_at H, h32_at H, sigma_coe]
  rw [Inp.sc]; simp only [EReal.coe_mul, EReal.coe_add, coe_sum]

omit H in
theorem hmax_at (v : FVec Ideal S16x4096x4096 .f32) (b : FVec Ideal S_ .f32) (h : Fin 16) (x : Fin 4096) :
    Host.reduce FloatOps.maximumf v b reducesTo_S16x4096x4096_S16x4096_d2 h_S_ (ix2 h x) = (Finset.univ : Finset (Fin 4096)).fold max (b (Shape.Idx.first h_S_)) fun k => v (ix3 h x k) := by
  pointwise

variable (m c) in
/-- The row's maximum. -/
def KM (h : Fin 16) (x : Fin 4096) : ℝ := (show EReal from V m c main_v56 (ix2 h x)).toReal

theorem h56_at (h : Fin 16) (x : Fin 4096) : V m c main_v56 (ix2 h x) = ((KM m c h x : ℝ) : EReal) := by
  obtain ⟨M, hM⟩ := max_row (fun y => I.sc h x y) x
  have e : V m c main_v56 (ix2 h x) = ((M : ℝ) : EReal) := by
    rw [V_v56, V_cst_8]
    refine (hmax_at _ _ h x).trans (Eq.trans ?_ hM)
    exact congrArg₂ (fun b f => (Finset.univ : Finset (Fin 4096)).fold max b f) neg_inf (funext fun y => h55_at H h x y)
  rw [KM, e]; rfl

omit H in
theorem hexp_at (v : FVec Ideal S16x4096x4096 .f32) (w : FVec Ideal S16x4096 .f32) (h : Fin 16) (x y : Fin 4096) :
    Host.exp (subf v (broadcastInDim S16x4096x4096 ![0, 1, 2] bcast_S16x4096x1_S16x4096x4096_0_1_2 (broadcastInDim S16x4096x1 ![0, 1] bcast_S16x4096_S16x4096x1_0_1 w))) (ix3 h x y)
      = Ideal.exp (v (ix3 h x y) - w (ix2 h x)) := by
  pointwise

theorem h60_at (h : Fin 16) (x y : Fin 4096) : V m c main_v60 (ix3 h x y) = ((I.ex (KM m c h x) h x y : ℝ) : EReal) := by
  rw [V_v60, V_v59, V_v58, V_v57]
  refine (hexp_at _ _ h x y).trans ?_
  have e1 := h55_at H h x y
  have e2 := h56_at H h x
  generalize V m c main_v55 (ix3 h x y) = a at e1 ⊢
  generalize V m c main_v56 (ix2 h x) = b at e2 ⊢
  generalize KM m c h x = M at e2 ⊢
  subst e1; subst e2
  rw [Inp.ex]
  exact exp_mask _ _ _

theorem h61_at (h : Fin 16) (x : Fin 4096) : V m c main_v61 (ix2 h x) = ((I.L (KM m c h x) h x : ℝ) : EReal) := by
  rw [V_v61, V_cst_9]
  pointwise
  simp only [h60_at H, zero_add]
  rw [Inp.L, coe_sum]

omit H in
theorem hlog_at (v w : FVec Ideal S16x4096 .f32) (h : Fin 16) (x : Fin 4096) :
    shapeCast S16x1x4096 (addf v (Host.log w)) shapeCasts_S16x4096_S16x1x4096 (ix3 h 0 x) = (show EReal from v (ix2 h x)) + Ideal.log (w (ix2 h x)) := by
  pointwise

theorem h64_at (h : Fin 16) (x : Fin 4096) : V m c main_v64 (ix3 h 0 x) = ((KM m c h x + Real.log (I.L (KM m c h x) h x) : ℝ) : EReal) := by
  rw [V_v64, V_v63, V_v62]
  refine (hlog_at _ _ h x).trans ?_
  have e1 := h56_at H h x
  have e2 := h61_at H h x
  have hp := I.L_pos (KM m c h x) h x x.isLt
  generalize V m c main_v56 (ix2 h x) = a at e1 ⊢
  generalize V m c main_v61 (ix2 h x) = b at e2 ⊢
  generalize I.L (KM m c h x) h x = l at e2 hp ⊢
  generalize KM m c h x = M at e1 ⊢
  subst e1; subst e2
  show ((M : ℝ) : EReal) + Ideal.log ((l : ℝ) : EReal) = _
  rw [Ideal.log_coe, if_neg (not_le.mpr hp), EReal.coe_add]

theorem h67_at (h : Fin 16) (x y : Fin 4096) : V m c main_v67 (ix3 h x y) = ((I.pr h x y : ℝ) : EReal) := by
  rw [V_v67, V_v66, V_v65]
  pointwise
  rw [h60_at H, h61_at H, coe_div (I.L_pos _ _ _ x.isLt).ne', I.pr_eq]

theorem h86_at (x : Fin 4096) (h : Fin 16) (d : Fin 128) : V m c main_v86 (ix2 x ⟨h.val * 128 + d.val, by omega⟩) = ((∑ y : Fin 4096, I.vv h y d * I.pr h x y : ℝ) : EReal) := by
  rw [V_v86, V_v70, V_v69, V_v68]
  pointwise
  refine Eq.trans (α := EReal) (b := ∑ y : Fin 4096, ((I.vv h y d : ℝ) : EReal) * ((I.pr h x y : ℝ) : EReal)) (Finset.sum_congr rfl fun y _ => congrArg₂ (fun a b : EReal => a * b) (h17_at H y h d) (h67_at H h x y)) ?_
  simp only [coe_sum, EReal.coe_mul]

theorem h85_at (x : Fin 4096) (h : Fin 16) (d : Fin 128) : V m c main_v85 (ix2 x ⟨h.val * 128 + d.val, by omega⟩) = ((I.vv h x d : ℝ) : EReal) := by
  rw [V_v85, V_v84]
  pointwise
  exact h17_at H x h d

theorem h80_at (x : Fin 4096) (h : Fin 16) (d : Fin 256) : V m c main_v80 (ix2 x ⟨h.val * 256 + d.val, by omega⟩) = ((I.qq h x d : ℝ) : EReal) := by
  rw [V_v80, V_v75, V_v74, V_v73, V_v72, V_v71, V_cst_10, V_cst_11]
  pointwise
  rw [sigma_coe, Inp.qq]
  by_cases h1 : d.val < 128
  · rw [dif_pos h1, if_pos h1, h13_at H, EReal.coe_mul]
  · rw [dif_neg h1, if_neg h1]
    by_cases h2 : d.val - 128 < 64
    · rw [dif_pos h2, if_pos h2, h32_at H, EReal.coe_mul]
    · rw [dif_neg h2, if_neg h2, mul_zero, mul_zero]; rfl

theorem h79_at (x : Fin 4096) (h : Fin 16) (d : Fin 256) : V m c main_v79 (ix2 x ⟨h.val * 256 + d.val, by omega⟩) = ((I.kk h x d : ℝ) : EReal) := by
  rw [V_v79, V_v78, V_v77, V_v76, V_v71, V_cst_10]
  pointwise
  rw [Inp.kk]
  by_cases h1 : d.val < 128
  · rw [dif_pos h1, if_pos h1, h16_at H]
  · rw [dif_neg h1, if_neg h1]
    by_cases h2 : d.val - 128 < 64
    · rw [dif_pos h2, if_pos h2, h41_at H]
    · rw [dif_neg h2, if_neg h2]; rfl

theorem h81_at (x : Fin 4096) (h : Fin 16) (d : Fin 256) : V m c main_v81 (ix2 x ⟨h.val * 256 + d.val, by omega⟩) = ((I.kk h x d : ℝ) : EReal) := by
  rw [V_v81]
  pointwise
  exact h79_at H x h d
theorem h83_at (x : Fin 4096) (h : Fin 16) (d : Fin 256) : V m c main_v83 (ix2 ⟨h.val * 256 + d.val, by omega⟩ x) = ((I.kk h x d : ℝ) : EReal) := by
  rw [V_v83, V_v82]
  pointwise
  exact h79_at H x h d
theorem h1_at (x : Fin 4096) (e : Fin 128) : V m c main_v1 (ix2 x e) = ((I.ck x e : ℝ) : EReal) := by
  rw [V_v1, V_v0, V_cst]
  pointwise
  rw [Inp.ck]
  by_cases h1 : e.val < 32
  · rw [dif_pos h1, if_pos h1, H.co]
  · rw [dif_neg h1, if_neg h1]
    by_cases h2 : e.val - 32 < 32
    · rw [dif_pos h2, if_pos h2, H.co]
    · rw [dif_neg h2, if_neg h2]; rfl

theorem h3_at (x : Fin 4096) (e : Fin 128) : V m c main_v3 (ix2 x e) = ((I.sk x e : ℝ) : EReal) := by
  rw [V_v3, V_v2, V_v0, V_cst]
  pointwise
  rw [Inp.sk]
  by_cases h1 : e.val < 32
  · rw [dif_pos h1, if_pos h1, H.si, EReal.coe_neg]
  · rw [dif_neg h1, if_neg h1]
    by_cases h2 : e.val - 32 < 32
    · rw [dif_pos h2, if_pos h2, H.si]
    · rw [dif_neg h2, if_neg h2]; rfl

theorem h7_at (x : Fin 4096) (d : Fin 256) : V m c main_v7 (ix2 x d) = ((I.cq x d : ℝ) : EReal) := by
  rw [V_v7, V_v6, V_v5, V_v4, V_cst_1, V_cst_2]
  pointwise
  rw [sigma_coe, Inp.cq]
  by_cases h1 : d.val < 128
  · rw [dif_pos h1, if_pos h1, mul_one, mul_one]
  · rw [dif_neg h1, if_neg h1, h1_at H _ ⟨d.val - 128, by omega⟩, EReal.coe_mul]

theorem h11_at (x : Fin 4096) (d : Fin 256) : V m c main_v11 (ix2 x d) = ((I.sq x d : ℝ) : EReal) := by
  rw [V_v11, V_v10, V_v9, V_v8, V_cst_3, V_cst_4]
  pointwise
  rw [sigma_coe, Inp.sq]
  by_cases h1 : d.val < 128
  · rw [dif_pos h1, if_pos h1, mul_zero, mul_zero]; rfl
  · rw [dif_neg h1, if_neg h1, h3_at H _ ⟨d.val - 128, by omega⟩, EReal.coe_mul]

omit H in
theorem at_mod {n k : ℕ} (f : Fin n → Fin k → EReal) (a b : ℕ) (ha : a < n) (hb : b < k) (p : a % n < n) (q : b % k < k) :
    f ⟨a % n, p⟩ ⟨b % k, q⟩ = f ⟨a, ha⟩ ⟨b, hb⟩ := by
  exact congrArg₂ f (Fin.ext (Nat.mod_eq_of_lt ha)) (Fin.ext (Nat.mod_eq_of_lt hb))

theorem gq_at (g x d : ℕ) (hg : g < 16) (hx : x < 4096) (hd : d < 256) : gq m c g x d = ((I.qq g x d : ℝ) : EReal) := by
  refine Eq.trans (at_mod (fun a b => V m c main_v80 (ix2 a b)) (x) (g * 256 + d) (by omega) (by omega) _ _) ?_
  exact h80_at H ⟨x, hx⟩ ⟨g, hg⟩ ⟨d, hd⟩

theorem gk_at (g x d : ℕ) (hg : g < 16) (hx : x < 4096) (hd : d < 256) : gk m c g x d = ((I.kk g x d : ℝ) : EReal) := by
  refine Eq.trans (at_mod (fun a b => V m c main_v81 (ix2 a b)) (x) (g * 256 + d) (by omega) (by omega) _ _) ?_
  exact h81_at H ⟨x, hx⟩ ⟨g, hg⟩ ⟨d, hd⟩

theorem gkt_at (g d x : ℕ) (hg : g < 16) (hx : x < 4096) (hd : d < 256) : gkt m c g d x = ((I.kk g x d : ℝ) : EReal) := by
  refine Eq.trans (at_mod (fun a b => V m c main_v83 (ix2 a b)) (g * 256 + d) (x) (by omega) (by omega) _ _) ?_
  exact h83_at H ⟨x, hx⟩ ⟨g, hg⟩ ⟨d, hd⟩

theorem gv_at (g x d : ℕ) (hg : g < 16) (hx : x < 4096) (hd : d < 128) : gv m c g x d = ((I.vv g x d : ℝ) : EReal) := by
  refine Eq.trans (at_mod (fun a b => V m c main_v85 (ix2 a b)) (x) (g * 128 + d) (by omega) (by omega) _ _) ?_
  exact h85_at H ⟨x, hx⟩ ⟨g, hg⟩ ⟨d, hd⟩

theorem go_at (g x d : ℕ) (hg : g < 16) (hx : x < 4096) (hd : d < 128) : go m c g x d = ((I.dd g x d : ℝ) : EReal) := by
  refine Eq.trans (at_mod (fun a b => V m c main_arg5 (ix2 a b)) (x) (g * 128 + d) (by omega) (by omega) _ _) ?_
  exact H.dO ⟨x, hx⟩ ⟨g * 128 + d, by omega⟩

theorem gf_at (g x d : ℕ) (hg : g < 16) (hx : x < 4096) (hd : d < 128) :
    gf m c g x d = ((∑ y : Fin 4096, I.vv g y d * I.pr g x y : ℝ) : EReal) := by
  refine Eq.trans (at_mod (fun a b => V m c main_v86 (ix2 a b)) (x) (g * 128 + d) (by omega) (by omega) _ _) ?_
  exact h86_at H ⟨x, hx⟩ ⟨g, hg⟩ ⟨d, hd⟩

theorem gl_at (g x : ℕ) (hg : g < 16) (hx : x < 4096) : ∃ M : ℝ, gl m c g x = ((M + Real.log (I.L M g x) : ℝ) : EReal) := by
  refine ⟨KM m c ⟨g, hg⟩ ⟨x, hx⟩, ?_⟩
  refine Eq.trans (at_mod (fun a b => V m c main_v64 (ix3 a 0 b)) g x hg hx _ _) ?_
  exact h64_at H ⟨g, hg⟩ ⟨x, hx⟩

theorem gcq_at (x : ℕ) (d : Fin 256) (hx : x < 4096) : gcq m c x d = ((I.cq x d : ℝ) : EReal) :=
  Eq.trans (congrArg (V m c main_v7) (congrArg (fun a => ix2 a d) (Fin.ext (Nat.mod_eq_of_lt hx)))) (h7_at H ⟨x, hx⟩ d)

theorem gsq_at (x : ℕ) (d : Fin 256) (hx : x < 4096) : gsq m c x d = ((I.sq x d : ℝ) : EReal) :=
  Eq.trans (congrArg (V m c main_v11) (congrArg (fun a => ix2 a d) (Fin.ext (Nat.mod_eq_of_lt hx)))) (h11_at H ⟨x, hx⟩ d)

theorem gck_at (x : ℕ) (d : Fin 128) (hx : x < 4096) : gck m c x d = ((I.ck x d : ℝ) : EReal) :=
  Eq.trans (congrArg (V m c main_v1) (congrArg (fun a => ix2 a d) (Fin.ext (Nat.mod_eq_of_lt hx)))) (h1_at H ⟨x, hx⟩ d)

theorem gsk_at (x : ℕ) (d : Fin 128) (hx : x < 4096) : gsk m c x d = ((I.sk x d : ℝ) : EReal) :=
  Eq.trans (congrArg (V m c main_v3) (congrArg (fun a => ix2 a d) (Fin.ext (Nat.mod_eq_of_lt hx)))) (h3_at H ⟨x, hx⟩ d)

end Cert.KernelIdeal.Hand

end
-- ==== Proof.FlashAlg.lean ====
module

public import proofs.«01_k».proof.Proof.FlashReal
public import proofs.«01_k».proof.Proof.FlashHost
public import proofs.«01_k».proof.Proof.FlashTile
public import proofs.«01_k».proof.Proof.FlashVal

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

attribute [local irreducible] V
variable {m : (ℓ : Loc nD τ sig) → Buf (Elt Ideal) ℓ} {c : Dev nD} {I : Inp} (H : Holds m c I)
include H

theorem GP_at (g y x : ℕ) (hg : g < 16) (hy : y < 4096) (hx : x < 4096) : GP m c g y x = ((I.pr g x y : ℝ) : EReal) := by
  rw [GP]
  by_cases hv : y / 64 ≤ x / 64
  · obtain ⟨M, hM⟩ := gl_at H g x hg hx
    have e : ∑ d : Fin 256, gk m c g y d * gq m c g x d = ((I.sc g x y : ℝ) : EReal) := by
      rw [← I.sc_eq, coe_sum]
      exact Finset.sum_congr rfl fun d _ => by rw [gk_at H g y d hg hy d.isLt, gq_at H g x d hg hx d.isLt, EReal.coe_mul]
    have h1 := exp_mask (y / 64 ≤ x / 64) (I.sc g x y) (M + Real.log (I.L M g x))
    rw [if_pos hv, if_pos hv] at h1
    rw [if_pos hv, hM, e, h1, I.pr_log M g x y hx hv]
  · rw [if_neg hv, I.pr_hidden g x y hv]; rfl

theorem Gdel_at (g x : ℕ) (hg : g < 16) (hx : x < 4096) : Gdel m c g x = ((I.de g x : ℝ) : EReal) := by
  rw [Gdel, ← I.de_eq, coe_sum]
  exact Finset.sum_congr rfl fun d _ => by rw [go_at H g x d hg hx d.isLt, gf_at H g x d hg hx d.isLt, EReal.coe_mul]

theorem GS_at (g y x : ℕ) (hg : g < 16) (hy : y < 4096) (hx : x < 4096) : GS m c g y x = ((I.ds g x y : ℝ) : EReal) := by
  have e : ∑ d : Fin 128, gv m c g y d * go m c g x d = ((I.dp g x y : ℝ) : EReal) := by
    rw [Inp.dp, coe_sum]
    exact Finset.sum_congr rfl fun d _ => by rw [go_at H g x d hg hx d.isLt, gv_at H g y d hg hy d.isLt, ← EReal.coe_mul, mul_comm]
  rw [GS, e, GP_at H g y x hg hy hx, Gdel_at H g x hg hx, Inp.ds, EReal.coe_mul, EReal.coe_sub]

theorem DK_at (g y d : ℕ) (hg : g < 16) (hy : y < 4096) (hd : d < 256) :
    DK m c g y d = ((∑ x : Fin 4096, I.ds g x y * I.qq g x d : ℝ) : EReal) := by
  rw [DK, ← sum_upper (fun x => I.ds g x y * I.qq g x d) (y / 512) (fun x hx => by rw [I.ds_hidden g x y (by omega), zero_mul]), coe_sum]
  refine Finset.sum_congr rfl fun J hJ => ?_
  have := (Finset.mem_Ico.mp hJ).2
  rw [CK, coe_sum]
  exact Finset.sum_congr rfl fun r _ => by rw [GS_at H g y _ hg hy (by omega), gq_at H g _ d hg (by omega) hd, EReal.coe_mul]

theorem DV_at (g y d : ℕ) (hg : g < 16) (hy : y < 4096) (hd : d < 128) :
    DV m c g y d = ((∑ x : Fin 4096, I.pr g x y * I.dd g x d : ℝ) : EReal) := by
  rw [DV, ← sum_upper (fun x => I.pr g x y * I.dd g x d) (y / 512) (fun x hx => by rw [I.pr_hidden g x y (by omega), zero_mul]), coe_sum]
  refine Finset.sum_congr rfl fun J hJ => ?_
  have := (Finset.mem_Ico.mp hJ).2
  rw [CV, coe_sum]
  exact Finset.sum_congr rfl fun r _ => by rw [GP_at H g y _ hg hy (by omega), go_at H g _ d hg (by omega) hd, EReal.coe_mul]

theorem DQ_at (g d x : ℕ) (hg : g < 16) (hx : x < 4096) (hd : d < 256) :
    DQ m c g d x = ((∑ y : Fin 4096, I.kk g y d * I.ds g x y : ℝ) : EReal) := by
  rw [DQ, ← sum_lower (fun y => I.kk g y d * I.ds g x y) (x / 512) (by omega) (fun y hy => by rw [I.ds_hidden g x y (by omega), mul_zero]), coe_sum]
  refine Finset.sum_congr rfl fun J hJ => ?_
  have := Finset.mem_range.mp hJ
  rw [CQ, coe_sum]
  exact Finset.sum_congr rfl fun r _ => by rw [GS_at H g _ x hg (by omega) hx, gkt_at H g d _ hg (by omega) hd, EReal.coe_mul]

theorem PE_at (y d : ℕ) (hy : y < 4096) (hd : d < 256) :
    PE m c y d 8 = ((∑ h : Fin 16, ∑ x : Fin 4096, I.ds h x y * I.qq h x d : ℝ) : EReal) := by
  have e : ∑ h : Fin 16, ∑ x : Fin 4096, I.ds h x y * I.qq h x d
      = ∑ h ∈ Finset.range 8, ((∑ x : Fin 4096, I.ds (h * 2) x y * I.qq (h * 2) x d) + ∑ x : Fin 4096, I.ds (h * 2 + 1) x y * I.qq (h * 2 + 1) x d) := by
    rw [Fin.sum_univ_tiles 8 2 rfl (fun h : Fin 16 => ∑ x : Fin 4096, I.ds h x y * I.qq h x d)]
    rw [← Fin.sum_univ_eq_sum_range (fun h => (∑ x : Fin 4096, I.ds (h * 2) x y * I.qq (h * 2) x d) + ∑ x : Fin 4096, I.ds (h * 2 + 1) x y * I.qq (h * 2 + 1) x d) 8]
    exact Finset.sum_congr rfl fun h _ => Fin.sum_univ_two _
  rw [e, PE, coe_sum]
  refine Finset.sum_congr rfl fun h hh => ?_
  have := Finset.mem_range.mp hh
  rw [DK_at H _ y d (by omega) hy hd, DK_at H _ y d (by omega) hy hd, EReal.coe_add]

theorem DQ_eq (g d x : ℕ) : ∑ y : Fin 4096, I.kk g y d * I.ds g x y * sigma
    = if d < 128 then ∑ y : Fin 4096, I.ds g x y * sigma * I.kn g y d else if d - 128 < 64 then ∑ y : Fin 4096, I.ds g x y * sigma * I.kp y (d - 128) else 0 := by
  split_ifs with h1 h2
  · exact Finset.sum_congr rfl fun y _ => by rw [Inp.kk, if_pos h1]; ring
  · exact Finset.sum_congr rfl fun y _ => by rw [Inp.kk, if_neg h1, if_pos h2]; ring
  · exact Finset.sum_eq_zero fun y _ => by rw [Inp.kk, if_neg h1, if_neg h2]; ring

theorem HQ_at (g x : ℕ) (d : Fin 256) (hg : g < 16) (hx : x < 4096) : HQ m c g x d = ((I.dq g x d : ℝ) : EReal) := by
  have hd := d.isLt
  have e : ∀ d : ℕ, (∑ y : Fin 4096, I.kk g y d * I.ds g x y) * sigma
    = if d < 128 then ∑ y : Fin 4096, I.ds g x y * sigma * I.kn g y d else if d - 128 < 64 then ∑ y : Fin 4096, I.ds g x y * sigma * I.kp y (d - 128) else 0 :=
    fun d => by rw [Finset.sum_mul]; exact DQ_eq H g d x
  have e0 : ∀ (d : ℕ) (t : ℝ), (∑ y : Fin 4096, I.kk g y d * I.ds g x y) * (sigma * t)
    = (if d < 128 then ∑ y : Fin 4096, I.ds g x y * sigma * I.kn g y d else if d - 128 < 64 then ∑ y : Fin 4096, I.ds g x y * sigma * I.kp y (d - 128) else 0) * t :=
    fun d t => by rw [← mul_assoc, e]
  rw [HQ, rotq]
  simp only [gcq_at H x _ hx, gsq_at H x _ hx, DQ_at H g _ x hg hx (Fin.isLt _), DQ_at H g _ x hg hx (Nat.mod_lt _ (by decide : 256 > 0)), ← EReal.coe_mul]
  rw [Inp.cq, Inp.sq, Inp.sq, e0, e0, e0]
  by_cases h1 : d.val < 128
  · have h2 : (d.val + 256 - 224) % 256 < 128 ∨ ¬ d.val % 64 < 32 := by omega
    have h3 : (d.val + 256 - 32) % 256 < 128 ∨ d.val % 64 < 32 := by omega
    rw [Inp.dq, if_pos h1, if_pos h1, if_pos h1]
    split_ifs <;> simp_all
  · rw [Inp.dq, if_neg h1, if_neg h1, if_neg h1]
    by_cases h2 : d.val < 160
    · rw [if_pos (show d.val % 64 < 32 by omega), if_pos (show d.val - 128 < 64 by omega)]
      rw [show (d.val + 256 - 224) % 256 = d.val + 32 by omega, if_neg (show ¬ d.val + 32 < 128 by omega), if_neg (show ¬ d.val + 32 < 128 by omega), if_pos (show d.val + 32 - 128 < 64 by omega),
        if_pos (show d.val < 192 by omega), ropeT, if_pos (show d.val - 128 < 32 by omega), Inp.ck, if_pos (show d.val - 128 < 32 by omega), Inp.sk, if_neg (show ¬ d.val + 32 - 128 < 32 by omega), if_pos (show d.val + 32 - 128 - 32 < 32 by omega),
        show d.val + 32 - 128 - 32 = d.val - 128 by omega, show d.val + 32 - 128 = 32 + (d.val - 128) by omega, ← EReal.coe_add, add_comm]
    · by_cases h3 : d.val < 192
      · rw [if_neg (show ¬ d.val % 64 < 32 by omega), if_pos (show d.val - 128 < 64 by omega)]
        rw [show (d.val + 256 - 32) % 256 = d.val - 32 by omega, if_neg (show ¬ d.val - 32 < 128 by omega), if_neg (show ¬ d.val - 32 < 128 by omega), if_pos (show d.val - 32 - 128 < 64 by omega),
          if_pos h3, ropeT, if_neg (show ¬ d.val - 128 < 32 by omega), Inp.ck, if_neg (show ¬ d.val - 128 < 32 by omega), if_pos (show d.val - 128 - 32 < 32 by omega), Inp.sk, if_pos (show d.val - 32 - 128 < 32 by omega),
          show d.val - 32 - 128 = d.val - 128 - 32 by omega, ← EReal.coe_add, mul_neg, neg_mul]
      · rw [if_neg (show ¬ d.val < 192 by omega), if_neg (show ¬ d.val - 128 < 64 by omega)]
        have h4 : (d.val + 256 - 224) % 256 ≥ 192 ∨ (d.val % 64 < 32 → False) := by omega
        have h5 : (d.val + 256 - 32) % 256 ≥ 192 ∨ d.val % 64 < 32 := by omega
        split_ifs <;> first | omega | simp

theorem DK_eq (g y d : ℕ) : ∑ x : Fin 4096, I.ds g x y * I.qq g x d
    = if d < 128 then ∑ x : Fin 4096, I.ds g x y * sigma * I.qn g x d else if d - 128 < 64 then ∑ x : Fin 4096, I.ds g x y * sigma * I.qp g x (d - 128) else 0 := by
  split_ifs with h1 h2
  · exact Finset.sum_congr rfl fun y _ => by rw [Inp.qq, if_pos h1]; ring
  · exact Finset.sum_congr rfl fun y _ => by rw [Inp.qq, if_neg h1, if_pos h2]; ring
  · exact Finset.sum_eq_zero fun y _ => by rw [Inp.qq, if_neg h1, if_neg h2]; ring

theorem HKV_at (g y : ℕ) (d : Fin 256) (hg : g < 16) (hy : y < 4096) :
    (if d.val < 128 then DK m c g y d else DV m c g y (d.val - 128)) = ((I.dkv g y d : ℝ) : EReal) := by
  have hd := d.isLt
  rw [Inp.dkv]
  by_cases h1 : d.val < 128
  · rw [if_pos h1, if_pos h1, DK_at H g y d hg hy hd, DK_eq H, if_pos h1]
  · rw [if_neg h1, if_neg h1, DV_at H g y _ hg hy (by omega)]
    exact congrArg _ (Finset.sum_congr rfl fun x _ => mul_comm _ _)

theorem PE_eq (y e : ℕ) : ∑ h : Fin 16, ∑ x : Fin 4096, I.ds h x y * I.qq h x (128 + e)
    = if e < 64 then ∑ h : Fin 16, ∑ x : Fin 4096, I.ds h x y * sigma * I.qp h x e else 0 := by
  split_ifs with h1
  · exact Finset.sum_congr rfl fun h _ => by rw [DK_eq H, if_neg (by omega), if_pos (by omega), Nat.add_sub_cancel_left]
  · exact Finset.sum_eq_zero fun h _ => by rw [DK_eq H, if_neg (by omega), if_neg (by omega)]

theorem HP_at (y : ℕ) (e : Fin 128) (hy : y < 4096) : HP m c y e = ((I.dpe y e : ℝ) : EReal) := by
  have he := e.isLt
  rw [HP, rotk]
  simp only [gck_at H y _ hy, gsk_at H y _ hy]
  rw [PE_at H y _ hy (by omega), PE_at H y _ hy (by omega), PE_at H y _ hy (by omega), PE_eq H, PE_eq H, PE_eq H, Inp.dpe]
  simp only [← EReal.coe_mul]
  by_cases h2 : e.val < 32
  · rw [if_pos (show e.val % 64 < 32 by omega), if_pos (show e.val < 64 by omega), if_pos (show e.val < 64 by omega),
      show (e.val + 128 - 96) % 128 = 32 + e.val by omega, if_pos (show 32 + e.val < 64 by omega), ropeT, if_pos h2, Inp.ck, if_pos h2, Inp.sk, if_neg (show ¬ 32 + e.val < 32 by omega), Nat.add_sub_cancel_left, if_pos h2,
      ← EReal.coe_add, add_comm]
  · by_cases h3 : e.val < 64
    · rw [if_neg (show ¬ e.val % 64 < 32 by omega), if_pos h3, if_pos h3,
        show (e.val + 128 - 32) % 128 = e.val - 32 by omega, if_pos (show e.val - 32 < 64 by omega), ropeT, if_neg h2, Inp.ck, if_neg h2, if_pos (show e.val - 32 < 32 by omega), Inp.sk, if_pos (show e.val - 32 < 32 by omega),
        ← EReal.coe_add, mul_neg, neg_mul]
    · rw [if_neg h3, if_neg h3]
      split_ifs <;> first | omega | simp

end Cert.KernelIdeal.Hand

end
-- ==== Proof.FlashInv.lean ====
module

public import proofs.«01_k».proof.Proof.FlashTile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable (m : (ℓ : Loc nD τ sig) → Buf (Elt Ideal) ℓ) (c : Dev nD) (t : Fin (cfgT (F := Ideal)).N) (s : St Ideal) (x16 : Vec Ideal S512x512 .bf16)

/-- How many tiles of keys the gradient of the queries of tile `I` has taken after point `t`. -/
def nq (t : Fin grid0.N) (I : ℕ) : ℕ := min (I + 1) (if I ≤ it t then jt t + 1 else jt t)
/-- How many pairs of heads the gradient of the shared keys of tile `K` has taken after point `t`. -/
def np (t : Fin grid0.N) (K : ℕ) : ℕ := hp t + if K < jt t ∨ K = jt t ∧ it t = 7 then 1 else 0

/-- What the buffers hold after point `t`. -/
structure Inv (t : Fin grid0.N) (s : St Ideal) : Prop where
  dl : ∀ (hh : Fin 2) (x : Fin 4096), x.val / 512 ≤ (sp t).val → s.dl (ix3 hh 0 x) = Gdel m c (hp t * 2 + hh) x
  dq : ∀ (hh : Fin 2) (d : Fin 256) (x : Fin 4096), (0 < jt t ∨ x.val / 512 ≤ it t) → s.dq (ix3 hh d x) = ∑ J ∈ Finset.range (nq t (x / 512)), CQ m c (hp t * 2 + hh) d x J
  dk : ∀ (hh : Fin 2) (a : Fin 512) (d : Fin 256), s.dk (ix3 hh a d) = ∑ I ∈ Finset.Ico (jt t) (it t + 1), CK m c (hp t * 2 + hh) (jt t * 512 + a) d I
  dv : ∀ (hh : Fin 2) (a : Fin 512) (d : Fin 128), s.dv (ix3 hh a d) = ∑ I ∈ Finset.Ico (jt t) (it t + 1), CV m c (hp t * 2 + hh) (jt t * 512 + a) d I
  pe : ∀ (x : Fin 4096) (e : Fin 128), s.pe (ix2 x e) = PE m c x (128 + e) (np t (x / 512))
  hq : ∀ (h : Fin 8) (hh : Fin 2) (d : Fin 256) (x : Fin 4096), (h.val < hp t ∨ h.val = hp t ∧ x.val / 512 ≤ jt t) →
    s.hq (ix2 x ⟨h.val * 512 + hh.val * 256 + d.val, by omega⟩) = HQ m c (h * 2 + hh) x d
  hpe : hp t = 7 → ∀ (x : Fin 4096) (e : Fin 128), (x.val / 512 < jt t ∨ x.val / 512 = jt t ∧ it t = 7) → s.hp (ix2 x e) = HP m c x e

/-- Two points in order. -/
def Next (p t : Fin grid0.N) : Prop :=
  (hp t = hp p + 1 ∧ jt p = 7 ∧ it p = 7 ∧ jt t = 0 ∧ it t = 0 ∧ (sp t).val = 0) ∨
  (hp t = hp p ∧ jt t = jt p + 1 ∧ it p = 7 ∧ it t = jt t ∧ (sp t).val = (sp p).val + 1 ∧ 8 ≤ (sp t).val) ∨
  (hp t = hp p ∧ jt t = jt p ∧ it t = it p + 1 ∧ jt t < it t ∧ (sp t).val = (sp p).val + 1 ∧ (jt t = 0 → (sp t).val = it t) ∧ (0 < jt t → 8 ≤ (sp t).val))
theorem next0 : ∀ n : Fin 287, Next ⟨n.val, by show n.val < 288; omega⟩ ⟨n.val + 1, by show n.val + 1 < 288; omega⟩ := by
  unfold Next; decide +kernel
theorem next (n : ℕ) (h : n + 1 < 288) : Next ⟨n, by show n < 288; omega⟩ ⟨n + 1, h⟩ := next0 ⟨n, by omega⟩
theorem first (t : Fin grid0.N) (h : t.val = 0) : hp t = 0 ∧ jt t = 0 ∧ it t = 0 ∧ (sp t).val = 0 := by
  revert h; revert t; decide +kernel

variable (hpre : (t.val = 0) ∨ ∃ p : Fin grid0.N, t.val ≠ 0 ∧ Next p t ∧ Inv m c p s)

include hpre in
theorem step_dl (hh : Fin 2) (x : Fin 4096) (hx : x.val / 512 ≤ (sp t).val) : (nxt m c t s x16).dl (ix3 hh 0 x) = Gdel m c (hp t * 2 + hh) x := by
  rw [nxt_dl]
  by_cases h : jt t = 0 ∧ it t * 512 ≤ x.val ∧ x.val < it t * 512 + 512
  · rw [dif_pos h, Gdel]
    refine Finset.sum_congr rfl fun d _ => ?_
    rw [bo_at, bf_at m c t h.1]
    have e : it t * 512 + (x.val - it t * 512) = x.val := by omega
    simp only [e]
  · rw [dif_neg h]
    rcases hpre with h0 | ⟨p, h0, hn, hi⟩
    · have hf := first t h0
      exact absurd ⟨hf.2.1, by omega, by omega⟩ h
    · rcases hn with hn | hn | hn
      · exact absurd ⟨hn.2.2.2.1, by omega, by omega⟩ h
      · rw [hi.dl hh x (by omega), hn.1]
      · have := x.isLt
        have h2 := hn.2.2.2.2.2.1
        have h3 := hn.2.2.2.2.2.2
        rw [hi.dl hh x (by omega), hn.1]

/-- The rows of the point's own tile have their row sums. -/
theorem it_sp (t : Fin grid0.N) : it t ≤ (sp t).val := by revert t; decide +kernel

include hpre in
theorem dst_at (hh : Fin 2) (a b : Fin 512) : dst m c t s x16 hh a b = GS m c (hp t * 2 + hh) (jt t * 512 + a) (it t * 512 + b) := by
  rw [dst, dsf, prf_at, dpf, GS, dlr, step_dl m c t s x16 hpre hh _ (by have := it_sp t; have := b.isLt; show (it t * 512 + b.val) / 512 ≤ _; omega)]
  simp only [bv_at, bo_at]

include hpre in
theorem step_dk (hh : Fin 2) (a : Fin 512) (d : Fin 256) : (nxt m c t s x16).dk (ix3 hh a d) = ∑ I ∈ Finset.Ico (jt t) (it t + 1), CK m c (hp t * 2 + hh) (jt t * 512 + a) d I := by
  rw [nxt_dk]
  simp only [dst_at m c t s x16 hpre, bq_at]
  rw [Finset.sum_Ico_succ_top (jt_le t)]
  refine congrArg₂ (· + ·) ?_ rfl
  by_cases h : it t = jt t
  · rw [if_pos h, h, Finset.Ico_self, Finset.sum_empty]
  · rw [if_neg h]
    rcases hpre with h0 | ⟨p, h0, hn, hi⟩
    · have hf := first t h0; omega
    · rcases hn with hn | hn | hn
      · omega
      · omega
      · rw [hi.dk, hn.1, hn.2.1, hn.2.2.1]

include hpre in
theorem step_dv (hh : Fin 2) (a : Fin 512) (d : Fin 128) : (nxt m c t s x16).dv (ix3 hh a d) = ∑ I ∈ Finset.Ico (jt t) (it t + 1), CV m c (hp t * 2 + hh) (jt t * 512 + a) d I := by
  rw [nxt_dv]
  simp only [prf_at, bo_at]
  rw [Finset.sum_Ico_succ_top (jt_le t)]
  refine congrArg₂ (· + ·) ?_ rfl
  by_cases h : it t = jt t
  · rw [if_pos h, h, Finset.Ico_self, Finset.sum_empty]
  · rw [if_neg h]
    rcases hpre with h0 | ⟨p, h0, hn, hi⟩
    · have hf := first t h0; omega
    · rcases hn with hn | hn | hn
      · omega
      · omega
      · rw [hi.dv, hn.1, hn.2.1, hn.2.2.1]

include hpre in
theorem step_dq (hh : Fin 2) (d : Fin 256) (x : Fin 4096) (hx : 0 < jt t ∨ x.val / 512 ≤ it t) :
    (nxt m c t s x16).dq (ix3 hh d x) = ∑ J ∈ Finset.range (nq t (x / 512)), CQ m c (hp t * 2 + hh) d x J := by
  rw [nxt_dq]
  have hjt := jt_le t
  by_cases h : it t * 512 ≤ x.val ∧ x.val < it t * 512 + 512
  · rw [dif_pos h]
    have hI : x.val / 512 = it t := by omega
    have hq : nq t (x.val / 512) = jt t + 1 := by rw [nq, hI, if_pos le_rfl]; omega
    rw [hq, Finset.sum_range_succ]
    refine congrArg₂ (· + ·) ?_ (Finset.sum_congr rfl fun r _ => ?_)
    · by_cases hj : jt t = 0
      · rw [if_pos hj, hj, Finset.sum_range_zero]
      · rw [if_neg hj]
        rcases hpre with h0 | ⟨p, h0, hn, hi⟩
        · have hf := first t h0; omega
        · rcases hn with hn | hn | hn
          · omega
          · rw [hi.dq hh d x (by omega), hn.1]
            congr 2
            rw [nq, if_pos (by omega)]; omega
          · rw [hi.dq hh d x (by omega), hn.1]
            congr 2
            rw [nq, if_neg (by omega)]; omega
    · rw [dst_at m c t s x16 hpre, bkt_at]
      have e : it t * 512 + (x.val - it t * 512) = x.val := by omega
      simp only [e]
  · rw [dif_neg h]
    rcases hpre with h0 | ⟨p, h0, hn, hi⟩
    · have hf := first t h0; omega
    · rcases hn with hn | hn | hn
      · omega
      · have := x.isLt
        rw [hi.dq hh d x (by omega), hn.1]
        congr 2
        rw [nq, nq, if_pos (by omega)]; split <;> omega
      · rw [hi.dq hh d x (by omega), hn.1]
        congr 2
        rw [nq, nq, hn.2.1, hn.2.2.1]; split <;> split <;> omega

include hpre in
theorem step_pe (x : Fin 4096) (e : Fin 128) : (nxt m c t s x16).pe (ix2 x e) = PE m c x (128 + e) (np t (x / 512)) := by
  rw [nxt_pe]
  have hjt := jt_le t
  have hx := x.isLt
  have hprev : (if t.val = 0 then 0 else s.pe (ix2 x e)) = PE m c x (128 + e) (hp t + if x.val / 512 < jt t then 1 else 0) := by
    rcases hpre with h0 | ⟨p, h0, hn, hi⟩
    · have hf := first t h0
      rw [if_pos h0, hf.1, hf.2.1, if_neg (by omega), PE]; simp
    · rw [if_neg h0, hi.pe]
      congr 1
      rw [np]
      rcases hn with hn | hn | hn
      · rw [if_pos (by omega), if_neg (by omega)]; omega
      · rw [hn.1]; congr 1; exact if_congr (by omega) rfl rfl
      · rw [hn.1]; congr 1; have := it_lt t; exact if_congr (by omega) rfl rfl
  rw [hprev]
  by_cases h : it t = 7 ∧ jt t * 512 ≤ x.val ∧ x.val < jt t * 512 + 512
  · rw [dif_pos h, np, if_neg (by omega), if_pos (by omega)]
    rw [PE, PE, Finset.sum_range_succ]
    refine congrArg₂ (· + ·) rfl ?_
    rw [step_dk m c t s x16 hpre, step_dk m c t s x16 hpre]
    have e1 : jt t * 512 + (x.val - jt t * 512) = x.val := by omega
    have e2 : x.val / 512 = jt t := by omega
    simp only [e1, h.1, DK, e2]
    rfl
  · rw [dif_neg h, add_zero, np]
    congr 2
    exact if_congr (by omega) rfl rfl

include hpre in
theorem step_hq (h : Fin 8) (hh : Fin 2) (d : Fin 256) (x : Fin 4096) (hx : h.val < hp t ∨ h.val = hp t ∧ x.val / 512 ≤ jt t) :
    (nxt m c t s x16).hq (ix2 x ⟨h.val * 512 + hh.val * 256 + d.val, by omega⟩) = HQ m c (h * 2 + hh) x d := by
  by_cases hin : it t = jt t ∧ (it t * 512 ≤ x.val ∧ x.val < it t * 512 + 512) ∧ h.val = hp t
  · have e := nxt_hq_in m c t s x16 hin.1 hh ⟨x.val - it t * 512, by omega⟩ d
    have e1 : it t * 512 + (x.val - it t * 512) = x.val := by omega
    have e2 : (x.val) / 512 = it t := by omega
    simp only [e1, ← hin.2.2, i7_at, i8_at] at e
    refine e.trans ?_
    rw [HQ]
    congr 1
    funext d
    refine (step_dq m c t s x16 hpre hh d _ (by show _ ∨ x.val / 512 ≤ _; omega)).trans ?_
    have e3 : nq t (x.val / 512) = x.val / 512 + 1 := by rw [nq, if_pos (by omega)]; omega
    show ∑ J ∈ Finset.range (nq t (x.val / 512)), CQ m c (hp t * 2 + hh) d x J = _
    rw [DQ, e3, hin.2.2]
  · rw [nxt_hq_out m c t s x16 x _ (by
      rintro ⟨h1, h2, h3⟩
      apply hin
      have := hh.isLt; have := d.isLt; have := h.isLt
      dsimp only at h3
      exact ⟨h1, h2, by omega⟩)]
    rcases hpre with h0 | ⟨p, h0, hn, hi⟩
    · have hf := first t h0
      exact absurd ⟨by omega, by omega, by omega⟩ hin
    · have hx' := x.isLt
      have hjt := jt_le t
      rcases hn with hn | hn | hn
      · refine hi.hq h hh d x ?_; omega
      · refine hi.hq h hh d x ?_; omega
      · refine hi.hq h hh d x ?_; omega

include hpre in
theorem step_hp (h7 : hp t = 7) (x : Fin 4096) (e : Fin 128) (hx : x.val / 512 < jt t ∨ x.val / 512 = jt t ∧ it t = 7) : (nxt m c t s x16).hp (ix2 x e) = HP m c x e := by
  have hx' := x.isLt
  have hjt := jt_le t
  by_cases hin : it t = 7 ∧ hp t = 7 ∧ (jt t * 512 ≤ x.val ∧ x.val < jt t * 512 + 512)
  · have e0 := nxt_hp_in m c t s x16 hin.1 h7 ⟨x.val - jt t * 512, by omega⟩ e
    have e1 : jt t * 512 + (x.val - jt t * 512) = x.val := by omega
    have e2 : (x.val) / 512 = jt t := by omega
    simp only [e1, i9_at, i10_at] at e0
    refine e0.trans ?_
    rw [HP]
    congr 1
    funext e
    refine (step_pe m c t s x16 hpre _ e).trans ?_
    have e3 : np t (x.val / 512) = 8 := by rw [np, if_pos (by omega), h7]
    show PE m c x (128 + e) (np t (x.val / 512)) = _
    rw [e3]
  · rw [nxt_hp_out m c t s x16 x e hin]
    rcases hpre with h0 | ⟨p, h0, hn, hi⟩
    · have hf := first t h0; omega
    · have := it_lt p
      rcases hn with hn | hn | hn
      · omega
      · refine hi.hpe (by omega) x e ?_; omega
      · refine hi.hpe (by omega) x e ?_; omega

include hpre in
theorem step : Inv m c t (nxt m c t s x16) where
  dl := step_dl m c t s x16 hpre
  dq := step_dq m c t s x16 hpre
  dk := step_dk m c t s x16 hpre
  dv := step_dv m c t s x16 hpre
  pe := step_pe m c t s x16 hpre
  hq := step_hq m c t s x16 hpre
  hpe := step_hp m c t s x16 hpre

/-- After each point the buffers hold the sums so far. -/
theorem inv (n : ℕ) (h : n < 288) (s : St Ideal) (hr : Reach m c (n + 1) s) : Inv m c ⟨n, h⟩ s := by
  induction n generalizing s with
  | zero =>
    obtain ⟨h', s0, x16, _, rfl⟩ := hr
    exact step m c ⟨0, h⟩ s0 x16 (Or.inl rfl)
  | succ n ih =>
    obtain ⟨h', s0, x16, hr', rfl⟩ := hr
    exact step m c ⟨n + 1, h⟩ s0 x16 (Or.inr ⟨⟨n, by show n < 288; omega⟩, by show n + 1 ≠ 0; omega, next n h, ih (by omega) s0 hr'⟩)

end Cert.KernelIdeal.Hand

end
-- ==== Proof.FlashEnd.lean ====
module

public import proofs.«01_k».proof.Proof.FlashAlg
public import proofs.«01_k».proof.Proof.FlashInv
public import proofs.«01_k».proof.Proof.FlashMain
public import Idealize.ShloMosaic.Lib.Pipeline.ArrRel

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable (m : (ℓ : Loc nD τ sig) → Buf (Elt Ideal) ℓ) (c : Dev nD) (t : Fin (cfgT (F := Ideal)).N)
theorem tr11 (t : Fin grid0.N) : cc0_transform_12 k0_off1_inb numel1_S1 (tabs (F := Ideal)) (grid0.coords t) = ![jt t, hp t] :=
  (by revert t; decide +kernel : ∀ t, cc0_transform_12 k0_off1_inb numel1_S1 (tabs (F := Bits)) (grid0.coords t) = ![jt t, hp t]) t
theorem e110 (y : S512x512.Idx) : ((((cfgT (F := Ideal)).win 11).blk t).view.emb y 0).val = jt t * 512 + (y 0).val := by
  blk_simp
  exact (congrArg (· * 512 + (y 0).val) (congrFun (tr11 t) 0))
theorem e111 (y : S512x512.Idx) : ((((cfgT (F := Ideal)).win 11).blk t).view.emb y 1).val = hp t * 512 + (y 1).val := by
  blk_simp
  exact (congrArg (· * 512 + (y 1).val) (congrFun (tr11 t) 1))
theorem fl11 (t : Fin (cfgT (F := Ideal)).N) : ((cfgT (F := Ideal)).win 11).flush t = true → it t = 7 :=
  (by decide +kernel : ∀ t : Fin (cfgT (F := Bits)).N, ((cfgT (F := Bits)).win 11).flush t = true → it t = 7) t
theorem cov11 : ((cfgT (F := Ideal)).win 11).Covers := (by decide +kernel : ((cfgT (F := Bits)).win 11).Covers)
attribute [local irreducible] V stepOf kernelRun iblk Reach

theorem reach_pre (n : ℕ) (h : n < 288) (s : St Ideal) (hr : Reach m c n s) : n = 0 ∨ ∃ p : Fin grid0.N, n ≠ 0 ∧ Next p ⟨n, h⟩ ∧ Inv m c p s := by
  cases n with
  | zero => exact Or.inl rfl
  | succ k => exact Or.inr ⟨⟨k, by show k < 288; omega⟩, by omega, next k h, inv m c k (by omega) s hr⟩

/-- The block of the gradient of the keys and the values at the last tile of its column. -/
theorem blk11 (I : Inp) (H : Holds m c I) (h7 : it t = 7) (s : St Ideal) (x16 : Vec Ideal S512x512 .bf16) (hr : Reach m c t.val s) (a b : Fin 512) :
    out16 m c t s x16 (ix2 a b) = ((I.dkv (hp t * 2 + b / 256) (jt t * 512 + a) (b % 256) : ℝ) : EReal) := by
  have hpre := reach_pre m c t.val t.isLt s hr
  have hl := blk_lt t
  have hb := b.isLt
  have ha := a.isLt
  have e : b = ⟨(⟨b / 256, by omega⟩ : Fin 2).val * 256 + (⟨b % 256, by omega⟩ : Fin 256).val, by dsimp only; omega⟩ := Fin.ext (by dsimp only; omega)
  have k := out16_at m c t s x16 h7 ⟨b / 256, by omega⟩ a ⟨b % 256, by omega⟩
  rw [← e] at k
  have hv := HKV_at H (hp t * 2 + b / 256) (jt t * 512 + a) ⟨b % 256, by omega⟩ (by omega) (by omega)
  refine k.trans (Eq.trans ?_ hv)
  by_cases hd : b.val % 256 < 128
  · rw [dif_pos hd, if_pos hd, step_dk m c t s x16 hpre, h7, DK, show (jt t * 512 + a.val) / 512 = jt t by omega]
  · rw [dif_neg hd, if_neg hd, step_dv m c t s x16 hpre, h7, DV, show (jt t * 512 + a.val) / 512 = jt t by omega]

/-- The array of the gradient of the keys and the values. -/
def GKV (I : Inp) (i : S4096x4096.Idx) : EReal := ((I.dkv ((i 1).val / 256) (i 0).val ((i 1).val % 256) : ℝ) : EReal)

theorem arr11 (I : Inp) (H : Holds m c I) (after : (w : Fin (cfgT (F := Ideal)).W) → Fin (cfgT (F := Ideal)).N → ((cfgT (F := Ideal)).win w).block.Idx → Elt Ideal ((cfgT (F := Ideal)).win w).elt)
    (ha : ∀ t, ((cfgT (F := Ideal)).win 11).flush t = true → ∃ s x16, Reach m c t.val s ∧ after 11 t = out16 m c t s x16) :
    ((rdat m c).withAfter after).arrAt 11 (cfgT (F := Ideal)).N = GKV I := by
  refine ((rdat m c).withAfter after).arrAt_eq_of_covers 11 _ cov11 fun t hf y => ?_
  obtain ⟨s, x16, hr, he⟩ := ha t hf
  have e0 := e110 t y
  have e1 := e111 t y
  have hb := (y 1).isLt
  show after 11 t y = _
  rw [he]
  refine (congrArg _ (ext2 y (ix2 (y 0) (y 1)) rfl rfl)).trans ((blk11 m c t I H (fl11 t hf) s x16 hr (y 0) (y 1)).trans ?_)
  unfold GKV
  rw [e0, e1]
  have : (y 1).val < 512 := (y 1).isLt
  rw [show (hp t * 512 + (y 1).val) / 256 = hp t * 2 + (y 1).val / 256 by omega, show (hp t * 512 + (y 1).val) % 256 = (y 1).val % 256 by omega]

theorem last287 : hp (⟨287, by decide⟩ : Fin grid0.N) = 7 ∧ jt (⟨287, by decide⟩ : Fin grid0.N) = 7 ∧ it (⟨287, by decide⟩ : Fin grid0.N) = 7 := by decide +kernel

theorem hq_end (I : Inp) (H : Holds m c I) (s : St Ideal) (hr : Reach m c 288 s) (x : Fin 4096) (h : Fin 16) (d : Fin 256) :
    s.hq (ix2 x ⟨h.val * 256 + d.val, by omega⟩) = ((I.dq h x d : ℝ) : EReal) := by
  have hi := inv m c 287 (by decide) s hr
  have hx := x.isLt
  have k := hi.hq ⟨h / 2, by omega⟩ ⟨h % 2, by omega⟩ d x (by rw [last287.1, last287.2.1]; dsimp only; omega)
  refine Eq.trans (congrArg (fun j => s.hq (ix2 x j)) (Fin.ext ?_)) (k.trans ((HQ_at H _ x d (by dsimp only; omega) hx).trans ?_))
  · dsimp only; omega
  · dsimp only; rw [show h.val / 2 * 2 + h.val % 2 = h.val by omega]

theorem hp_end (I : Inp) (H : Holds m c I) (s : St Ideal) (hr : Reach m c 288 s) (x : Fin 4096) (e : Fin 128) :
    s.hp (ix2 x e) = ((I.dpe x e : ℝ) : EReal) := by
  have hi := inv m c 287 (by decide) s hr
  have hx := x.isLt
  exact (hi.hpe last287.1 x e (by rw [last287.2.1, last287.2.2]; omega)).trans (HP_at H x e hx)

/-- What the run leaves in the three results. -/
theorem run_values (g : Dev nD → PrngReg) (I : Dev nD → Inp) (H : ∀ c, Holds m c (I c)) :
    θ_run (defs (F := Ideal)) (onTc (τ := τ) (main (F := Ideal))) ⟨m, fun _ => 0, g⟩ (fun r => ∀ c : Dev nD,
      (∀ (x : Fin 4096) (h : Fin 16) (d : Fin 256), r.2.mem ((c.tc : Thread nD τ).loc main_v87_0) (ix2 x ⟨h.val * 256 + d.val, by omega⟩) = (((I c).dq h x d : ℝ) : EReal))
      ∧ r.2.mem ((c.tc : Thread nD τ).loc main_v87_1) = GKV (I c)
      ∧ (∀ (x : Fin 4096) (e : Fin 128), r.2.mem ((c.tc : Thread nD τ).loc main_v87_2) (ix2 x e) = (((I c).dpe x e : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun r h c => ?_) (run_main m g)
  have hr : ∀ b : Ref sig .tc, b ∈ Pipeline.restRefs sig spec0 \ R0 → b ∉ main_c :: main_c_0 :: wr →
      r.2.mem ((c.tc : Thread nD τ).loc b) = m ((c.tc : Thread nD τ).loc b) :=
    fun b hb hw => ((h.1.1 c).2 b hb).trans (V_arg m c b hw)
  obtain ⟨W, ⟨s, hs, w0, w2⟩, hW⟩ := h.1.2 c
  obtain ⟨after, hL, hA⟩ := h.1.1.exists_exact c
  refine ⟨fun x k d => ?_, ?_, fun x e => ?_, hr main_arg0 (by decide) (by decide), hr main_arg1 (by decide) (by decide), hr main_arg2 (by decide) (by decide),
    hr main_arg3 (by decide) (by decide), hr main_arg4 (by decide) (by decide), ?_⟩
  · rw [hW main_v87_0 (by decide), w0]; exact hq_end m c (I c) (H c) s hs x k d
  · exact (hA 11).trans (arr11 m c (I c) (H c) after fun t hf => Dat.toRRel_leaves (dat m c) (w := 11) rfl (hL 11 t hf))
  · rw [hW main_v87_2 (by decide), w2]; exact hp_end m c (I c) (H c) s hs x e
  · exact (h.1.1.arr_in c 4 rfl).trans (V_arg m c main_arg5 (by decide))

end Cert.KernelIdeal.Hand

end
-- ==== Proof.FlashRef.lean ====
module

public import proofs.«01_k».proof.Proof.FlashReal
public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Idealize.SL.Sem Cert.Attn

variable (V0 : Valuation τ sig (Elt Ideal)) (I : Inp)

/-- The arguments hold the real inputs. -/
structure Holds : Prop where
  q : ∀ (x : Fin 4096) (d : Fin 3072), V0 (Proc.devRef .tc main_arg0) (ix2 x d) = ((I.q x d : ℝ) : EReal)
  kv : ∀ (x : Fin 4096) (d : Fin 4096), V0 (Proc.devRef .tc main_arg1) (ix2 x d) = ((I.kv x d : ℝ) : EReal)
  pe : ∀ (x : Fin 4096) (d : Fin 64), V0 (Proc.devRef .tc main_arg2) (ix2 x d) = ((I.pe x d : ℝ) : EReal)
  co : ∀ (x : Fin 4096) (d : Fin 32), V0 (Proc.devRef .tc main_arg3) (ix2 x d) = ((I.co x d : ℝ) : EReal)
  si : ∀ (x : Fin 4096) (d : Fin 32), V0 (Proc.devRef .tc main_arg4) (ix2 x d) = ((I.si x d : ℝ) : EReal)
  dO : ∀ (x : Fin 4096) (d : Fin 2048), V0 (Proc.devRef .tc main_arg5) (ix2 x d) = ((I.dO x d : ℝ) : EReal)

variable {V0 I} (H : Holds V0 I)
include H

theorem v1_at (x : Fin 4096) (h : Fin 16) (d : Fin 128) : res_main_v1 V0 (ix3 x h d) = ((I.qn h x d : ℝ) : EReal) := by
  pointwise [res_main_v1, res_main_v0]
  exact H.q _ _
theorem v4_at (x : Fin 4096) (h : Fin 16) (d : Fin 128) : res_main_v4 V0 (ix3 x h d) = ((I.kn h x d : ℝ) : EReal) := by
  pointwise [res_main_v4, res_main_v3]
  exact H.kv _ _
theorem v5_at (x : Fin 4096) (h : Fin 16) (d : Fin 128) : res_main_v5 V0 (ix3 x h d) = ((I.vv h x d : ℝ) : EReal) := by
  pointwise [res_main_v5, res_main_v3]
  exact H.kv _ _
theorem v20_at (x : Fin 4096) (h : Fin 16) (d : Fin 64) : res_main_v20 V0 (ix3 x h d) = ((I.qp h x d : ℝ) : EReal) := by
  rw [Inp.qp, rope]
  pointwise [res_main_v20, res_main_v8, res_main_v9, res_main_v6, res_main_v7, res_main_v2, res_main_v0]
  by_cases hd : d.val < 32
  · rw [dif_pos hd, if_pos hd, H.q, H.q, H.co, H.si]; push_cast; rfl
  · rw [dif_neg hd, if_neg hd, H.q, H.q, H.co, H.si]
    have e : 32 + (d.val - 32) = d.val := by omega
    simp only [e]; push_cast; rfl
theorem v29_at (x : Fin 4096) (d : Fin 64) : res_main_v29 V0 (ix2 x d) = ((I.kp x d : ℝ) : EReal) := by
  rw [Inp.kp, rope]
  pointwise [res_main_v29, res_main_v21, res_main_v22]
  by_cases hd : d.val < 32
  · rw [dif_pos hd, if_pos hd, H.pe, H.pe, H.co, H.si]; push_cast; rfl
  · rw [dif_neg hd, if_neg hd, H.pe, H.pe, H.co, H.si]
    have e : 32 + (d.val - 32) = d.val := by omega
    simp only [e]; push_cast; rfl

omit H in
theorem mask_at (h : Fin 16) (x y : Fin 4096) : res_main_v43_1 V0 (ix3 h x y) = if y.val / 64 ≤ x.val / 64 then 1#1 else 0#1 := by
  pointwise [res_main_v43_1, res_main_v37, res_main_call0_v2, res_main_v36, res_main_call0_v0]
  exact chunk_mask x y

theorem s_at (h : Fin 16) (x y : Fin 4096) : res_main_v43_0 V0 (ix3 h x y) = if y.val / 64 ≤ x.val / 64 then ((I.sc h x y : ℝ) : EReal) else ⊥ := by
  pointwise [res_main_v43_0]
  rw [mask_at, sel_mask]
  refine if_congr Iff.rfl ?_ neg_inf
  simp only [v1_at H, v4_at H, v29_at H, v20_at H, sigma_coe]
  rw [Inp.sc]; simp only [EReal.coe_mul, EReal.coe_add, coe_sum]

omit H in
theorem max_at (v : FVec Ideal S16x4096x4096 .f32) (b : FVec Ideal S_ .f32) (h : Fin 16) (x : Fin 4096) :
    Host.reduce FloatOps.maximumf v b reducesTo_S16x4096x4096_S16x4096_d2 h_S_ (ix2 h x) = (Finset.univ : Finset (Fin 4096)).fold max (b (Shape.Idx.first h_S_)) fun k => v (ix3 h x k) := by
  pointwise
omit H in
theorem exp_at (v : FVec Ideal S16x4096x4096 .f32) (w : FVec Ideal S16x4096 .f32) (h : Fin 16) (x y : Fin 4096) :
    Host.exp (subf v (broadcastInDim S16x4096x4096 ![0, 1, 2] bcast_S16x4096x1_S16x4096x4096_0_1_2 (broadcastInDim S16x4096x1 ![0, 1] bcast_S16x4096_S16x4096x1_0_1 (maximumf (broadcastInDim S16x4096 ![] bcast_S_S16x4096 (constant S_ .f32 0xFF800000#32)) w)))) (ix3 h x y)
      = Ideal.exp (v (ix3 h x y) - max (Ideal.ofBits .f32 0xFF800000#32) (w (ix2 h x))) := by
  pointwise

/-- The row's maximum. -/
def MM (V0 : Valuation τ sig (Elt Ideal)) (h : Fin 16) (x : Fin 4096) : ℝ := (show EReal from res_main_v44 V0 (ix2 h x)).toReal

theorem v44_at (h : Fin 16) (x : Fin 4096) : res_main_v44 V0 (ix2 h x) = ((MM V0 h x : ℝ) : EReal) := by
  obtain ⟨M, hM⟩ := max_row (fun y => I.sc h x y) x
  have e : res_main_v44 V0 (ix2 h x) = ((M : ℝ) : EReal) := by
    rw [res_main_v44]
    refine (max_at _ _ h x).trans (Eq.trans ?_ hM)
    exact congrArg₂ (fun b f => (Finset.univ : Finset (Fin 4096)).fold max b f) neg_inf (funext fun y => s_at H h x y)
  rw [MM, e]; rfl

theorem v64_at (h : Fin 16) (x y : Fin 4096) : res_main_v64 V0 (ix3 h x y) = ((I.ex (MM V0 h x) h x y : ℝ) : EReal) := by
  rw [res_main_v64]
  refine (exp_at _ _ h x y).trans ?_
  have e1 := s_at H h x y
  have e2 := v44_at H h x
  generalize res_main_v43_0 V0 (ix3 h x y) = a at e1 ⊢
  generalize res_main_v44 V0 (ix2 h x) = b at e2 ⊢
  generalize MM V0 h x = M at e2 ⊢
  subst e1; subst e2
  rw [neg_inf, max_eq_right bot_le, Inp.ex]
  exact exp_mask _ _ _

theorem v66_at (h : Fin 16) (x : Fin 4096) : res_main_v66 V0 (ix3 h x 0) = ((I.L (MM V0 h x) h x : ℝ) : EReal) := by
  pointwise [res_main_v66]
  simp only [v64_at H, zero_add]
  rw [Inp.L, coe_sum]

theorem v68_at (h : Fin 16) (x y : Fin 4096) : res_main_v68 V0 (ix3 h x y) = ((I.pr h x y : ℝ) : EReal) := by
  pointwise [res_main_v68]
  rw [v64_at H, v66_at H, coe_div (I.L_pos _ _ _ x.isLt).ne', I.pr_eq]

theorem v77_at (h : Fin 16) (d : Fin 128) (x : Fin 4096) : res_main_v77 V0 (ix3 h d x) = ((I.dd h x d : ℝ) : EReal) := by
  pointwise [res_main_v77]
  exact H.dO _ _

theorem v78_at (h : Fin 16) (x y : Fin 4096) : res_main_v78 V0 (ix3 h x y) = ((I.dp h x y : ℝ) : EReal) := by
  pointwise [res_main_v78]
  simp only [v77_at H, v5_at H]
  rw [Inp.dp]; simp only [EReal.coe_mul, coe_sum]

omit H in
theorem ds_e (I : Inp) (M : ℝ) (h x y : ℕ) (hx : x < 4096) :
    (if y / 64 ≤ x / 64 then
      (Ideal.div ((I.dp h x y : ℝ) : EReal) ((I.L M h x : ℝ) : EReal) + ∑ _k : Fin 1, -∑ z : Fin 4096, ((I.dp h x z : ℝ) : EReal) * Ideal.div 1 (((I.L M h x : ℝ) : EReal) * ((I.L M h x : ℝ) : EReal)) * ((I.ex M h x z : ℝ) : EReal))
        * ((I.ex M h x y : ℝ) : EReal) * ((sigma : ℝ) : EReal) else (0 : EReal)) = ((I.ds h x y * sigma : ℝ) : EReal) := by
  have hL := (I.L_pos M h x hx).ne'
  by_cases hv : y / 64 ≤ x / 64
  · rw [if_pos hv, ← I.ds_ref M h x y hx, Fin.sum_univ_one, ← EReal.coe_one, ← EReal.coe_mul, coe_div hL, coe_div (mul_ne_zero hL hL)]
    simp only [EReal.coe_mul, EReal.coe_add, EReal.coe_neg, coe_sum]
  · rw [if_neg hv, I.ds_hidden h x y hv, zero_mul, EReal.coe_zero]

theorem v95_at (h : Fin 16) (x y : Fin 4096) : res_main_v95 V0 (ix3 h x y) = ((I.ds h x y * sigma : ℝ) : EReal) := by
  pointwise [res_main_v95]
  simp only [mask_at, sel_mask, v78_at H, v66_at H, v64_at H, sigma_coe]
  exact ds_e I _ h x y x.isLt

theorem v96_at (y x : Fin 4096) (h : Fin 16) : res_main_v96 V0 (ix3 y x h) = ((I.ds h x y * sigma : ℝ) : EReal) := by
  pointwise [res_main_v96]
  exact v95_at H h x y
theorem v97_at (x : Fin 4096) (h : Fin 16) (e : Fin 64) : res_main_v97 V0 (ix3 x h e) = ((∑ y : Fin 4096, I.ds h x y * sigma * I.kp y e : ℝ) : EReal) := by
  pointwise [res_main_v97]
  simp only [v96_at H, v29_at H, EReal.coe_mul, coe_sum]
theorem v98_at (y : Fin 4096) (e : Fin 64) : res_main_v98 V0 (ix2 y e) = ((∑ h : Fin 16, ∑ x : Fin 4096, I.ds h x y * sigma * I.qp h x e : ℝ) : EReal) := by
  rw [Finset.sum_comm]
  pointwise [res_main_v98]
  simp only [v96_at H, v20_at H, EReal.coe_mul, coe_sum]

variable (V0 I)
/-- The three results, as the run states them. -/
def RT : FVec Ideal S4096x16x64 .f32 := concatenate S4096x16x64 2 [⟨S4096x16x32, (addf (mulf (res_main_v114 V0) (broadcastInDim S4096x16x32 ![0, 1, 2] bcast_S4096x1x32_S4096x16x32_0_1_2 (res_main_v7 V0))) (mulf (res_main_v113 V0) (broadcastInDim S4096x16x32 ![0, 1, 2] bcast_S4096x1x32_S4096x16x32_0_1_2 (res_main_v6 V0))))⟩, ⟨S4096x16x32, (addf (mulf (res_main_v114 V0) (broadcastInDim S4096x16x32 ![0, 1, 2] bcast_S4096x1x32_S4096x16x32_0_1_2 (res_main_v6 V0))) (mulf (Host.negf (res_main_v113 V0)) (broadcastInDim S4096x16x32 ![0, 1, 2] bcast_S4096x1x32_S4096x16x32_0_1_2 (res_main_v7 V0))))⟩] concatenates_S4096x16x32_S4096x16x32_S4096x16x64_d2
def R0 : FVec Ideal S4096x4096 .bf16 := truncf .bf16 (shapeCast _ (pad S4096x16x256 ![0, 0, 0] ![0, 0, 64] ![0, 0, 0] (shapeCast _ (shapeCast _ (concatenate S4096x16x192 2 [⟨S4096x16x128, (transpose S4096x16x128 [1, 0, 2] (Host.dotGeneral (φ₁ := .f32) (φ₂ := .f32) dot_S16x4096x4096_S4096x16x128_S16x4096x128_2_0_1_2_0_1 none (res_main_v95 V0) (res_main_v4 V0)) transposes_S16x4096x128_S4096x16x128_1_0_2)⟩, ⟨S4096x16x64, (RT V0)⟩] concatenates_S4096x16x128_S4096x16x64_S4096x16x192_d2) shapeCasts_S4096x16x192_S4096x3072) shapeCasts_S4096x3072_S4096x16x192) (sitofp .f32 (constantI S_ 32 0#32)) pads_S4096x16x192_S4096x16x256_000_000_0640 h_S_) shapeCasts_S4096x16x256_S4096x4096) bitsLt_bf16_f32
def R1 : FVec Ideal S4096x4096 .bf16 := truncf .bf16 (shapeCast _ (concatenate S4096x16x256 2 [⟨S4096x16x128, (transpose S4096x16x128 [1, 0, 2] (Host.dotGeneral (φ₁ := .f32) (φ₂ := .f32) dot_S16x4096x4096_S4096x16x128_S16x4096x128_1_0_2_2_0_1 none (res_main_v95 V0) (res_main_v1 V0)) transposes_S16x4096x128_S4096x16x128_1_0_2)⟩, ⟨S4096x16x128, (transpose S4096x16x128 [2, 0, 1] (Host.dotGeneral (φ₁ := .f32) (φ₂ := .f32) dot_S16x128x4096_S16x4096x4096_S16x128x4096_2_1_1_2_0_0 none (res_main_v77 V0) (res_main_v68 V0)) transposes_S16x128x4096_S4096x16x128_2_0_1)⟩] concatenates_S4096x16x128_S4096x16x128_S4096x16x256_d2) shapeCasts_S4096x16x256_S4096x4096) bitsLt_bf16_f32
def R2 : FVec Ideal S4096x128 .f32 := pad S4096x128 ![0, 0] ![0, 64] ![0, 0] (concatenate S4096x64 1 [⟨S4096x32, (addf (mulf (res_main_v104 V0) (V0 (Proc.devRef .tc main_arg4))) (mulf (res_main_v103 V0) (V0 (Proc.devRef .tc main_arg3))))⟩, ⟨S4096x32, (addf (mulf (res_main_v104 V0) (V0 (Proc.devRef .tc main_arg3))) (mulf (Host.negf (res_main_v103 V0)) (V0 (Proc.devRef .tc main_arg4))))⟩] concatenates_S4096x32_S4096x32_S4096x64_d1) (sitofp .f32 (constantI S_ 32 0#32)) pads_S4096x64_S4096x128_000_0640 h_S_
variable {V0 I}

omit H in
theorem pad_zero : (FloatOps.sitofp .f32 (0#32) : Ideal .f32) = ((0 : ℝ) : EReal) := by
  show (((0#32 : BitVec 32).toInt : ℝ) : EReal) = _
  simp

omit H in
/-- The transposed rotation among the extended reals. -/
theorem ropeT_e (a c s : ℕ → ℝ) (d : ℕ) :
    (if d < 32 then ((a (32 + d) : ℝ) : EReal) * ((s d : ℝ) : EReal) + ((a d : ℝ) : EReal) * ((c d : ℝ) : EReal)
      else ((a (32 + (d - 32)) : ℝ) : EReal) * ((c (d - 32) : ℝ) : EReal) + -((a (d - 32) : ℝ) : EReal) * ((s (d - 32) : ℝ) : EReal)) = ((ropeT a c s d : ℝ) : EReal) := by
  rw [ropeT]
  split
  · push_cast; rfl
  · have e : 32 + (d - 32) = d := by omega
    rw [e]; push_cast; rfl

theorem R2_at (x : Fin 4096) (e : Fin 128) : R2 V0 (ix2 x e) = ((I.dpe x e : ℝ) : EReal) := by
  pointwise [R2, res_main_v103, res_main_v104]
  rw [Inp.dpe]
  by_cases he : e.val < 64
  · rw [dif_pos he, if_pos he, ← ropeT_e]
    by_cases h2 : e.val < 32
    · rw [dif_pos h2, if_pos h2, v98_at H, v98_at H, H.co, H.si]
    · rw [dif_neg h2, if_neg h2, v98_at H, v98_at H, H.co, H.si]
  · rw [dif_neg he, if_neg he]; exact pad_zero
theorem R1_at (x : Fin 4096) (h : Fin 16) (d : Fin 256) : R1 V0 (ix2 x ⟨h.val * 256 + d.val, by omega⟩) = ((I.dkv h x d : ℝ) : EReal) := by
  pointwise [R1]
  rw [Inp.dkv]
  by_cases hd : d.val < 128
  · rw [dif_pos hd, if_pos hd, coe_sum]
    refine Finset.sum_congr rfl fun y _ => ?_
    rw [v95_at H, v1_at H, ← EReal.coe_mul]
  · rw [dif_neg hd, if_neg hd, coe_sum]
    refine Finset.sum_congr rfl fun y _ => ?_
    rw [v77_at H, v68_at H, ← EReal.coe_mul]
theorem RT_at (x : Fin 4096) (h : Fin 16) (d : Fin 64) : RT V0 (ix3 x h d) = ((ropeT (fun e => ∑ y : Fin 4096, I.ds h x y * sigma * I.kp y e) (I.co x) (I.si x) d : ℝ) : EReal) := by
  pointwise [RT, res_main_v113, res_main_v114, res_main_v6, res_main_v7]
  rw [← ropeT_e]
  by_cases h2 : d.val < 32
  · rw [dif_pos h2, if_pos h2, v97_at H, v97_at H, H.co, H.si]
  · rw [dif_neg h2, if_neg h2, v97_at H, v97_at H, H.co, H.si]
theorem R0_at (x : Fin 4096) (h : Fin 16) (d : Fin 256) : R0 V0 (ix2 x ⟨h.val * 256 + d.val, by omega⟩) = ((I.dq h x d : ℝ) : EReal) := by
  pointwise [R0]
  rw [Inp.dq]
  by_cases hd : d.val < 192
  · rw [dif_pos hd]
    by_cases h1 : d.val < 128
    · rw [dif_pos h1, if_pos h1, coe_sum]
      refine Finset.sum_congr rfl fun y _ => ?_
      rw [v95_at H, v4_at H, ← EReal.coe_mul]
    · rw [dif_neg h1, if_neg h1, if_pos hd]
      exact RT_at H x h ⟨d.val - 128, _⟩
  · rw [dif_neg hd, if_neg (by omega), if_neg hd]; exact pad_zero

end Cert.ReferenceIdeal.Hand

end
-- ==== Proof.FlashClaim.lean ====
/- The backward pass of the chunk-causal attention: the kernel's three results are the gradients of the reference. -/
module

public import proofs.«01_k».proof.Defs
public import proofs.«01_k».proof.Proof.Gen.Kernel
public import proofs.«01_k».proof.Proof.FlashEnd
public import proofs.«01_k».proof.Proof.WordMain
public import proofs.«01_k».proof.Proof.FlashRef

@[expose] public section

set_option maxRecDepth 16384

noncomputable section

namespace Cert.Attn

open Idealize.ShloMosaic Idealize.ShloMosaic.TcCoe Idealize.SL.Sem Idealize.ShloMosaic.Tactic

/-- The side conditions of the precondition's own operations. -/
theorem pre_facts : Cert.Pre_finite.Facts where
  bcast_S_S4096x3072 := by decide
  bcast_S_S4096x4096 := by decide
  bcast_S_S4096x64 := by decide
  bcast_S_S4096x32 := by decide
  bitsLt_bf16_f32 := by decide
  bcast_S_S4096x2048 := by decide

/-- An entry whose magnitude compares below infinity is a real number. -/
theorem finite_at {S : Shape} (h : Cert.Pre_finite.S_.BroadcastsInDim S (![] : Fin 0 → Fin S.rank)) (v : FVec Ideal S .f32)
    (e : cmpf .olt (Host.absf v) (broadcastInDim S ![] h (constant Cert.Pre_finite.S_ .f32 0x7F800000#32)) = fun _ => 1#1) (i : S.Idx) :
    v i = (((show EReal from v i).toReal : ℝ) : EReal) := by
  have k : BitVec.ofBool (decide (max (show EReal from v i) (-(show EReal from v i)) < Ideal.ofBits .f32 0x7F800000#32)) = 1#1 := congrFun e i
  have t : Ideal.ofBits .f32 0x7F800000#32 = (⊤ : EReal) := by simp [Ideal.ofBits, Ideal.ieee]
  rw [t] at k
  generalize v i = a at k ⊢
  change EReal at a
  refine (EReal.coe_toReal ?_ ?_).symm
  · rintro rfl; simp at k
  · rintro rfl; simp at k

variable (m : (ℓ : Loc Cert.KernelIdeal.nD Cert.KernelIdeal.τ Cert.KernelIdeal.sig) → Buf (Elt Ideal) ℓ) (c : Dev Cert.KernelIdeal.nD)

/-- The arguments as real tables. -/
def inp : Inp where
  q x d := (show EReal from m ((c.tc : Thread Cert.KernelIdeal.nD Cert.KernelIdeal.τ).loc Cert.KernelIdeal.main_arg0) (ix2 (⟨x % 4096, Nat.mod_lt _ (by decide)⟩ : Fin 4096) (⟨d % 3072, Nat.mod_lt _ (by decide)⟩ : Fin 3072))).toReal
  kv x d := (show EReal from m ((c.tc : Thread Cert.KernelIdeal.nD Cert.KernelIdeal.τ).loc Cert.KernelIdeal.main_arg1) (ix2 (⟨x % 4096, Nat.mod_lt _ (by decide)⟩ : Fin 4096) (⟨d % 4096, Nat.mod_lt _ (by decide)⟩ : Fin 4096))).toReal
  pe x d := (show EReal from m ((c.tc : Thread Cert.KernelIdeal.nD Cert.KernelIdeal.τ).loc Cert.KernelIdeal.main_arg2) (ix2 (⟨x % 4096, Nat.mod_lt _ (by decide)⟩ : Fin 4096) (⟨d % 64, Nat.mod_lt _ (by decide)⟩ : Fin 64))).toReal
  co x d := (show EReal from m ((c.tc : Thread Cert.KernelIdeal.nD Cert.KernelIdeal.τ).loc Cert.KernelIdeal.main_arg3) (ix2 (⟨x % 4096, Nat.mod_lt _ (by decide)⟩ : Fin 4096) (⟨d % 32, Nat.mod_lt _ (by decide)⟩ : Fin 32))).toReal
  si x d := (show EReal from m ((c.tc : Thread Cert.KernelIdeal.nD Cert.KernelIdeal.τ).loc Cert.KernelIdeal.main_arg4) (ix2 (⟨x % 4096, Nat.mod_lt _ (by decide)⟩ : Fin 4096) (⟨d % 32, Nat.mod_lt _ (by decide)⟩ : Fin 32))).toReal
  dO x d := (show EReal from m ((c.tc : Thread Cert.KernelIdeal.nD Cert.KernelIdeal.τ).loc Cert.KernelIdeal.main_arg5) (ix2 (⟨x % 4096, Nat.mod_lt _ (by decide)⟩ : Fin 4096) (⟨d % 2048, Nat.mod_lt _ (by decide)⟩ : Fin 2048))).toReal

theorem real_at {n k : ℕ} (v : (Shape.mk 2 ![n, k]).Idx → EReal) (hv : ∀ i, v i = (((v i).toReal : ℝ) : EReal)) (x : Fin n) (d : Fin k) (p : x.val % n < n) (q : d.val % k < k) :
    v (ix2 x d) = (((v (ix2 (⟨x.val % n, p⟩ : Fin n) (⟨d.val % k, q⟩ : Fin k))).toReal : ℝ) : EReal) := by
  rw [show (⟨x.val % n, p⟩ : Fin n) = x from Fin.ext (Nat.mod_eq_of_lt x.isLt), show (⟨d.val % k, q⟩ : Fin k) = d from Fin.ext (Nat.mod_eq_of_lt d.isLt)]
  exact hv _

/-- Under the precondition the arguments are the real tables. -/
structure Args : Prop where
  q : ∀ (x : Fin 4096) (d : Fin 3072), m ((c.tc : Thread Cert.KernelIdeal.nD Cert.KernelIdeal.τ).loc Cert.KernelIdeal.main_arg0) (ix2 x d) = (((inp m c).q x d : ℝ) : EReal)
  kv : ∀ (x : Fin 4096) (d : Fin 4096), m ((c.tc : Thread Cert.KernelIdeal.nD Cert.KernelIdeal.τ).loc Cert.KernelIdeal.main_arg1) (ix2 x d) = (((inp m c).kv x d : ℝ) : EReal)
  pe : ∀ (x : Fin 4096) (d : Fin 64), m ((c.tc : Thread Cert.KernelIdeal.nD Cert.KernelIdeal.τ).loc Cert.KernelIdeal.main_arg2) (ix2 x d) = (((inp m c).pe x d : ℝ) : EReal)
  co : ∀ (x : Fin 4096) (d : Fin 32), m ((c.tc : Thread Cert.KernelIdeal.nD Cert.KernelIdeal.τ).loc Cert.KernelIdeal.main_arg3) (ix2 x d) = (((inp m c).co x d : ℝ) : EReal)
  si : ∀ (x : Fin 4096) (d : Fin 32), m ((c.tc : Thread Cert.KernelIdeal.nD Cert.KernelIdeal.τ).loc Cert.KernelIdeal.main_arg4) (ix2 x d) = (((inp m c).si x d : ℝ) : EReal)
  dO : ∀ (x : Fin 4096) (d : Fin 2048), m ((c.tc : Thread Cert.KernelIdeal.nD Cert.KernelIdeal.τ).loc Cert.KernelIdeal.main_arg5) (ix2 x d) = (((inp m c).dO x d : ℝ) : EReal)

theorem args (h : Cert.Pre_KernelIdeal_finite (hPre_finite := pre_facts) m) : Args m c where
  q x d := real_at (n := 4096) (k := 3072) _ (finite_at _ _ (h c).1) x d _ _
  kv x d := real_at (n := 4096) (k := 4096) _ (finite_at _ _ (h c).2.1) x d _ _
  pe x d := real_at (n := 4096) (k := 64) _ (finite_at _ _ (h c).2.2.1) x d _ _
  co x d := real_at (n := 4096) (k := 32) _ (finite_at _ _ (h c).2.2.2.1) x d _ _
  si x d := real_at (n := 4096) (k := 32) _ (finite_at _ _ (h c).2.2.2.2.1) x d _ _
  dO x d := real_at (n := 4096) (k := 2048) _ (finite_at (S := Cert.Pre_finite.S4096x2048) _ _ (h c).2.2.2.2.2) x d _ _

/-- Two arrays of 16 heads of 256 are equal when they agree at each head's entries. -/
theorem ext_heads {α : Type} (f g : (Shape.mk 2 ![4096, 4096]).Idx → α)
    (h : ∀ (x : Fin 4096) (k : Fin 16) (d : Fin 256), f (ix2 x (⟨k.val * 256 + d.val, by omega⟩ : Fin 4096)) = g (ix2 x (⟨k.val * 256 + d.val, by omega⟩ : Fin 4096))) : f = g := by
  funext i
  have hl : (i 1).val < 4096 := (i 1).isLt
  have e : i = ix2 (i 0) (⟨(⟨(i 1).val / 256, by omega⟩ : Fin 16).val * 256 + (⟨(i 1).val % 256, by omega⟩ : Fin 256).val, by dsimp only; omega⟩ : Fin 4096) :=
    Cert.KernelIdeal.Hand.ext2 _ _ rfl (by show (i 1).val = (i 1).val / 256 * 256 + (i 1).val % 256; omega)
  have k := h (i 0) ⟨(i 1).val / 256, by omega⟩ ⟨(i 1).val % 256, by omega⟩
  exact (congrArg f e).trans (k.trans (congrArg g e).symm)

/-! ## The frames -/

theorem frame_kernel : Cert.quiescent_Kernel (hKernel := Cert.Kernel.Gen.facts) := fun m g _ => Cert.Kernel.Hand.frame (F := Bits) m g
theorem frame_ideal : Cert.quiescent_KernelIdeal (hKernelIdeal := Cert.KernelIdeal.Gen.facts) := fun m g _ => Cert.KernelIdeal.Hand.frame (F := Ideal) m g
theorem frame_reference : Cert.quiescent_ReferenceIdeal (hReferenceIdeal := Cert.ReferenceIdeal.Gen.facts) := fun m g _ =>
  (θ_run Cert.ReferenceIdeal.defs _ _).mono (fun r h => ⟨fun c => (h c).2.2.2, Idealize.ShloMosaic.sem_eq_zero_of_no_sems (by decide) r.2⟩) (Cert.ReferenceIdeal.Value.run (F := Ideal) m g)

/-! ## The values -/

theorem values : Cert.algebraic_KernelIdeal_ReferenceIdeal_pre_finite (hKernelIdeal := Cert.KernelIdeal.Gen.facts) (hReferenceIdeal := Cert.ReferenceIdeal.Gen.facts) (hPre_finite := pre_facts) := by
  intro m g m' g' hpre hag
  have H : ∀ c, Cert.KernelIdeal.Hand.Holds m c (inp m c) := fun c =>
    have A := args m c hpre
    { q := fun x d => (congrFun (Cert.KernelIdeal.Hand.V_arg m c _ (by decide)) _).trans (A.q x d)
      kv := fun x d => (congrFun (Cert.KernelIdeal.Hand.V_arg m c _ (by decide)) _).trans (A.kv x d)
      pe := fun x d => (congrFun (Cert.KernelIdeal.Hand.V_arg m c _ (by decide)) _).trans (A.pe x d)
      co := fun x d => (congrFun (Cert.KernelIdeal.Hand.V_arg m c _ (by decide)) _).trans (A.co x d)
      si := fun x d => (congrFun (Cert.KernelIdeal.Hand.V_arg m c _ (by decide)) _).trans (A.si x d)
      dO := fun x d => (congrFun (Cert.KernelIdeal.Hand.V_arg m c _ (by decide)) _).trans (A.dO x d) }
  have H' : ∀ c, Cert.ReferenceIdeal.Hand.Holds (StableHlo.launchContents m' c) (inp m c) := fun c =>
    have A := args m c hpre
    { q := fun x d => (congrFun (hag c).1 _).trans (A.q x d)
      kv := fun x d => (congrFun (hag c).2.1 _).trans (A.kv x d)
      pe := fun x d => (congrFun (hag c).2.2.1 _).trans (A.pe x d)
      co := fun x d => (congrFun (hag c).2.2.2.1 _).trans (A.co x d)
      si := fun x d => (congrFun (hag c).2.2.2.2.1 _).trans (A.si x d)
      dO := fun x d => (congrFun (hag c).2.2.2.2.2 _).trans (A.dO x d) }
  refine ⟨fun c => Cert.ReferenceIdeal.Hand.R0 (StableHlo.launchContents m' c), fun c => Cert.ReferenceIdeal.Hand.R1 (StableHlo.launchContents m' c),
    fun c => Cert.ReferenceIdeal.Hand.R2 (StableHlo.launchContents m' c), ?_, ?_⟩
  · refine (θ_run _ _ _).mono (fun r h c => ⟨?_, ?_, ?_, (h c).2.2.2⟩) (Cert.KernelIdeal.Hand.run_values m g (inp m) H)
    · exact ext_heads _ _ fun x k d => ((h c).1 x k d).trans (Cert.ReferenceIdeal.Hand.R0_at (H' c) x k d).symm
    · refine (h c).2.1.trans (ext_heads _ _ fun x k d => Eq.trans ?_ (Cert.ReferenceIdeal.Hand.R1_at (H' c) x k d).symm)
      show ((((inp m c).dkv ((k.val * 256 + d.val) / 256) x ((k.val * 256 + d.val) % 256) : ℝ)) : EReal) = _
      rw [show (k.val * 256 + d.val) / 256 = k.val by omega, show (k.val * 256 + d.val) % 256 = d.val by omega]
    · funext i
      refine Eq.trans (congrArg _ (Cert.KernelIdeal.Hand.ext2 (a := 4096) (b := 128) i (ix2 (i 0) (i 1)) rfl rfl)) (((h c).2.2.1 (i 0) (i 1)).trans ((Cert.ReferenceIdeal.Hand.R2_at (H' c) (i 0) (i 1)).symm.trans
        (congrArg _ (Cert.KernelIdeal.Hand.ext2 (a := 4096) (b := 128) i (ix2 (i 0) (i 1)) rfl rfl).symm)))
  · exact (θ_run Cert.ReferenceIdeal.defs _ _).mono (fun r h c => h c) (Cert.ReferenceIdeal.Value.run (F := Ideal) m' g')

end Cert.Attn

end
-- ==== Proof.lean ====
module

public import proofs.«01_k».proof.Defs
public import proofs.«01_k».proof.Proof.Gen.Dz
public import proofs.«01_k».proof.Proof.Gen.Dz.Skeleton
public import proofs.«01_k».proof.Proof.Gen.Dz.Launch
public import proofs.«01_k».proof.Proof.Gen.Dz.Points
public import proofs.«01_k».proof.Proof.Gen.Dz.Frame
public import proofs.«01_k».proof.Proof.Gen.DzIdeal
public import proofs.«01_k».proof.Proof.Gen.DzIdeal.Skeleton
public import proofs.«01_k».proof.Proof.Gen.DzIdeal.Launch
public import proofs.«01_k».proof.Proof.Gen.DzIdeal.Points
public import proofs.«01_k».proof.Proof.Gen.DzIdeal.Frame
public import proofs.«01_k».proof.Proof.Gen.DzRefIdeal
public import proofs.«01_k».proof.Proof.Gen.DzIdeal.Value
public import proofs.«01_k».proof.Proof.Gen.DzRefIdeal.Run
public import proofs.«01_k».proof.Proof.Gen.Dwb
public import proofs.«01_k».proof.Proof.Gen.Dwb.Skeleton
public import proofs.«01_k».proof.Proof.Gen.Dwb.Launch
public import proofs.«01_k».proof.Proof.Gen.Dwb.Points
public import proofs.«01_k».proof.Proof.Gen.Dwb.Frame
public import proofs.«01_k».proof.Proof.Gen.DwbIdeal
public import proofs.«01_k».proof.Proof.Gen.DwbIdeal.Skeleton
public import proofs.«01_k».proof.Proof.Gen.DwbIdeal.Launch
public import proofs.«01_k».proof.Proof.Gen.DwbIdeal.Points
public import proofs.«01_k».proof.Proof.Gen.DwbIdeal.Frame
public import proofs.«01_k».proof.Proof.Gen.DwbIdeal.Value
public import proofs.«01_k».proof.Proof.Gen.DwbRefIdeal
public import proofs.«01_k».proof.Proof.Gen.DwbRefIdeal.Run
public import proofs.«01_k».proof.Proof.Gen.Dwa
public import proofs.«01_k».proof.Proof.Gen.Dwa.Skeleton
public import proofs.«01_k».proof.Proof.Gen.Dwa.Launch
public import proofs.«01_k».proof.Proof.Gen.Dwa.Points
public import proofs.«01_k».proof.Proof.Gen.Dwa.Frame
public import proofs.«01_k».proof.Proof.Gen.DwaIdeal
public import proofs.«01_k».proof.Proof.Gen.DwaIdeal.Skeleton
public import proofs.«01_k».proof.Proof.Gen.DwaIdeal.Launch
public import proofs.«01_k».proof.Proof.Gen.DwaIdeal.Points
public import proofs.«01_k».proof.Proof.Gen.DwaIdeal.Frame
public import proofs.«01_k».proof.Proof.Gen.DwaIdeal.Value
public import proofs.«01_k».proof.Proof.Gen.DwaRefIdeal
public import proofs.«01_k».proof.Proof.Gen.DwaRefIdeal.Run
public import proofs.«01_k».proof.Proof.Gen.ConvDwb
public import proofs.«01_k».proof.Proof.Gen.ConvDwb.Skeleton
public import proofs.«01_k».proof.Proof.Gen.ConvDwb.Launch
public import proofs.«01_k».proof.Proof.Gen.ConvDwb.Points
public import proofs.«01_k».proof.Proof.Gen.ConvDwb.Frame
public import proofs.«01_k».proof.Proof.Gen.ConvDwbIdeal
public import proofs.«01_k».proof.Proof.Gen.ConvDwbIdeal.Skeleton
public import proofs.«01_k».proof.Proof.Gen.ConvDwbIdeal.Launch
public import proofs.«01_k».proof.Proof.Gen.ConvDwbIdeal.Points
public import proofs.«01_k».proof.Proof.Gen.ConvDwbIdeal.Frame
public import proofs.«01_k».proof.Proof.Gen.ConvDwbIdeal.Value
public import proofs.«01_k».proof.Proof.Gen.ConvDwbRefIdeal
public import proofs.«01_k».proof.Proof.Gen.ConvDwbRefIdeal.Run
public import proofs.«01_k».proof.Proof.Gen.ConvDwa
public import proofs.«01_k».proof.Proof.Gen.ConvDwa.Skeleton
public import proofs.«01_k».proof.Proof.Gen.ConvDwa.Launch
public import proofs.«01_k».proof.Proof.Gen.ConvDwa.Points
public import proofs.«01_k».proof.Proof.Gen.ConvDwa.Frame
public import proofs.«01_k».proof.Proof.Gen.ConvDwaIdeal
public import proofs.«01_k».proof.Proof.Gen.ConvDwaIdeal.Skeleton
public import proofs.«01_k».proof.Proof.Gen.ConvDwaIdeal.Launch
public import proofs.«01_k».proof.Proof.Gen.ConvDwaIdeal.Points
public import proofs.«01_k».proof.Proof.Gen.ConvDwaIdeal.Frame
public import proofs.«01_k».proof.Proof.Gen.ConvDwaIdeal.Value
public import proofs.«01_k».proof.Proof.Gen.ConvDwaRefIdeal
public import proofs.«01_k».proof.Proof.Gen.ConvDwaRefIdeal.Run
public import proofs.«01_k».proof.Proof.Gen.MlaDwq
public import proofs.«01_k».proof.Proof.Gen.MlaDwq.Skeleton
public import proofs.«01_k».proof.Proof.Gen.MlaDwq.Launch
public import proofs.«01_k».proof.Proof.Gen.MlaDwq.Points
public import proofs.«01_k».proof.Proof.Gen.MlaDwq.Frame
public import proofs.«01_k».proof.Proof.Gen.MlaDwqIdeal
public import proofs.«01_k».proof.Proof.Gen.MlaDwqIdeal.Skeleton
public import proofs.«01_k».proof.Proof.Gen.MlaDwqIdeal.Launch
public import proofs.«01_k».proof.Proof.Gen.MlaDwqIdeal.Points
public import proofs.«01_k».proof.Proof.Gen.MlaDwqIdeal.Frame
public import proofs.«01_k».proof.Proof.Gen.MlaDwqIdeal.Value
public import proofs.«01_k».proof.Proof.Gen.MlaDwqRefIdeal
public import proofs.«01_k».proof.Proof.Gen.MlaDwqRefIdeal.Run
public import proofs.«01_k».proof.Proof.Gen.MlaDwin
public import proofs.«01_k».proof.Proof.Gen.MlaDwin.Skeleton
public import proofs.«01_k».proof.Proof.Gen.MlaDwin.Launch
public import proofs.«01_k».proof.Proof.Gen.MlaDwin.Points
public import proofs.«01_k».proof.Proof.Gen.MlaDwin.Frame
public import proofs.«01_k».proof.Proof.Gen.MlaDwinIdeal
public import proofs.«01_k».proof.Proof.Gen.MlaDwinIdeal.Skeleton
public import proofs.«01_k».proof.Proof.Gen.MlaDwinIdeal.Launch
public import proofs.«01_k».proof.Proof.Gen.MlaDwinIdeal.Points
public import proofs.«01_k».proof.Proof.Gen.MlaDwinIdeal.Frame
public import proofs.«01_k».proof.Proof.Gen.MlaDwinIdeal.Value
public import proofs.«01_k».proof.Proof.Gen.MlaDwinRefIdeal
public import proofs.«01_k».proof.Proof.Gen.MlaDwinRefIdeal.Run
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Gen.ConvDs
public import proofs.«01_k».proof.Proof.Gen.ConvDs.Skeleton
public import proofs.«01_k».proof.Proof.Gen.ConvDs.Launch
public import proofs.«01_k».proof.Proof.Gen.ConvDs.Points
public import proofs.«01_k».proof.Proof.Gen.ConvDs.Frame
public import proofs.«01_k».proof.Proof.Gen.ConvDsIdeal
public import proofs.«01_k».proof.Proof.Gen.ConvDsIdeal.Skeleton
public import proofs.«01_k».proof.Proof.Gen.ConvDsIdeal.Launch
public import proofs.«01_k».proof.Proof.Gen.ConvDsIdeal.Points
public import proofs.«01_k».proof.Proof.Gen.ConvDsIdeal.Frame
public import proofs.«01_k».proof.Proof.Gen.ConvDsIdeal.Value
public import proofs.«01_k».proof.Proof.Gen.ConvDsRefIdeal
public import proofs.«01_k».proof.Proof.Gen.ConvDsRefIdeal.Run
public import proofs.«01_k».proof.Proof.Gen.ConvDh
public import proofs.«01_k».proof.Proof.Gen.ConvDh.Skeleton
public import proofs.«01_k».proof.Proof.Gen.ConvDh.Launch
public import proofs.«01_k».proof.Proof.Gen.ConvDh.Points
public import proofs.«01_k».proof.Proof.Gen.ConvDh.Frame
public import proofs.«01_k».proof.Proof.Gen.ConvDhIdeal
public import proofs.«01_k».proof.Proof.Gen.ConvDhIdeal.Skeleton
public import proofs.«01_k».proof.Proof.Gen.ConvDhIdeal.Launch
public import proofs.«01_k».proof.Proof.Gen.ConvDhIdeal.Points
public import proofs.«01_k».proof.Proof.Gen.ConvDhIdeal.Frame
public import proofs.«01_k».proof.Proof.Gen.ConvDhIdeal.Value
public import proofs.«01_k».proof.Proof.Gen.ConvDhRefIdeal
public import proofs.«01_k».proof.Proof.Gen.ConvDhRefIdeal.Run
public import proofs.«01_k».proof.Proof.Gen.MlaDo
public import proofs.«01_k».proof.Proof.Gen.MlaDo.Skeleton
public import proofs.«01_k».proof.Proof.Gen.MlaDo.Launch
public import proofs.«01_k».proof.Proof.Gen.MlaDo.Points
public import proofs.«01_k».proof.Proof.Gen.MlaDo.Frame
public import proofs.«01_k».proof.Proof.Gen.MlaDoIdeal
public import proofs.«01_k».proof.Proof.Gen.MlaDoIdeal.Skeleton
public import proofs.«01_k».proof.Proof.Gen.MlaDoIdeal.Launch
public import proofs.«01_k».proof.Proof.Gen.MlaDoIdeal.Points
public import proofs.«01_k».proof.Proof.Gen.MlaDoIdeal.Frame
public import proofs.«01_k».proof.Proof.Gen.MlaDoIdeal.Value
public import proofs.«01_k».proof.Proof.Gen.MlaDoRefIdeal
public import proofs.«01_k».proof.Proof.Gen.MlaDoRefIdeal.Run
public import proofs.«01_k».proof.Proof.Gen.MlaDqn
public import proofs.«01_k».proof.Proof.Gen.MlaDqn.Skeleton
public import proofs.«01_k».proof.Proof.Gen.MlaDqn.Launch
public import proofs.«01_k».proof.Proof.Gen.MlaDqn.Points
public import proofs.«01_k».proof.Proof.Gen.MlaDqn.Frame
public import proofs.«01_k».proof.Proof.Gen.MlaDqnIdeal
public import proofs.«01_k».proof.Proof.Gen.MlaDqnIdeal.Skeleton
public import proofs.«01_k».proof.Proof.Gen.MlaDqnIdeal.Launch
public import proofs.«01_k».proof.Proof.Gen.MlaDqnIdeal.Points
public import proofs.«01_k».proof.Proof.Gen.MlaDqnIdeal.Frame
public import proofs.«01_k».proof.Proof.Gen.MlaDqnIdeal.Value
public import proofs.«01_k».proof.Proof.Gen.MlaDqnRefIdeal
public import proofs.«01_k».proof.Proof.Gen.MlaDqnRefIdeal.Run
public import proofs.«01_k».proof.Proof.Gen.MlaDh
public import proofs.«01_k».proof.Proof.Gen.MlaDh.Skeleton
public import proofs.«01_k».proof.Proof.Gen.MlaDh.Launch
public import proofs.«01_k».proof.Proof.Gen.MlaDh.Points
public import proofs.«01_k».proof.Proof.Gen.MlaDh.Frame
public import proofs.«01_k».proof.Proof.Gen.MlaDhIdeal
public import proofs.«01_k».proof.Proof.Gen.MlaDhIdeal.Skeleton
public import proofs.«01_k».proof.Proof.Gen.MlaDhIdeal.Launch
public import proofs.«01_k».proof.Proof.Gen.MlaDhIdeal.Points
public import proofs.«01_k».proof.Proof.Gen.MlaDhIdeal.Frame
public import proofs.«01_k».proof.Proof.Gen.MlaDhIdeal.Value
public import proofs.«01_k».proof.Proof.Gen.MlaDhRefIdeal
public import proofs.«01_k».proof.Proof.Gen.MlaDhRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.ConvOut
public import proofs.«01_k».proof.Proof.Gen.ConvOut.Skeleton
public import proofs.«01_k».proof.Proof.Gen.ConvOut.Launch
public import proofs.«01_k».proof.Proof.Gen.ConvOut.Points
public import proofs.«01_k».proof.Proof.Gen.ConvOut.Frame
public import proofs.«01_k».proof.Proof.Gen.ConvOutIdeal
public import proofs.«01_k».proof.Proof.Gen.ConvOutIdeal.Skeleton
public import proofs.«01_k».proof.Proof.Gen.ConvOutIdeal.Launch
public import proofs.«01_k».proof.Proof.Gen.ConvOutIdeal.Points
public import proofs.«01_k».proof.Proof.Gen.ConvOutIdeal.Frame
public import proofs.«01_k».proof.Proof.Gen.ConvOutIdeal.Value
public import proofs.«01_k».proof.Proof.Gen.ConvOutRefIdeal
public import proofs.«01_k».proof.Proof.Gen.ConvOutRefIdeal.Run
public import proofs.«01_k».proof.Proof.Gen.MlaOut
public import proofs.«01_k».proof.Proof.Gen.MlaOut.Skeleton
public import proofs.«01_k».proof.Proof.Gen.MlaOut.Launch
public import proofs.«01_k».proof.Proof.Gen.MlaOut.Points
public import proofs.«01_k».proof.Proof.Gen.MlaOut.Frame
public import proofs.«01_k».proof.Proof.Gen.MlaOutIdeal
public import proofs.«01_k».proof.Proof.Gen.MlaOutIdeal.Skeleton
public import proofs.«01_k».proof.Proof.Gen.MlaOutIdeal.Launch
public import proofs.«01_k».proof.Proof.Gen.MlaOutIdeal.Points
public import proofs.«01_k».proof.Proof.Gen.MlaOutIdeal.Frame
public import proofs.«01_k».proof.Proof.Gen.MlaOutIdeal.Value
public import proofs.«01_k».proof.Proof.Gen.MlaOutRefIdeal
public import proofs.«01_k».proof.Proof.Gen.MlaOutRefIdeal.Run
public import proofs.«01_k».proof.Proof.Gen.MlaIn
public import proofs.«01_k».proof.Proof.Gen.MlaIn.Skeleton
public import proofs.«01_k».proof.Proof.Gen.MlaIn.Launch
public import proofs.«01_k».proof.Proof.Gen.MlaIn.Points
public import proofs.«01_k».proof.Proof.Gen.MlaIn.Frame
public import proofs.«01_k».proof.Proof.Gen.MlaInIdeal
public import proofs.«01_k».proof.Proof.Gen.MlaInIdeal.Skeleton
public import proofs.«01_k».proof.Proof.Gen.MlaInIdeal.Launch
public import proofs.«01_k».proof.Proof.Gen.MlaInIdeal.Points
public import proofs.«01_k».proof.Proof.Gen.MlaInIdeal.Frame
public import proofs.«01_k».proof.Proof.Gen.MlaInIdeal.Value
public import proofs.«01_k».proof.Proof.Gen.MlaInRefIdeal
public import proofs.«01_k».proof.Proof.Gen.MlaInRefIdeal.Run
public import proofs.«01_k».proof.Proof.Gen.RmsBwd
public import proofs.«01_k».proof.Proof.Gen.Head
public import proofs.«01_k».proof.Proof.Gen.RmsBwd.Skeleton
public import proofs.«01_k».proof.Proof.Gen.Head.Skeleton
public import proofs.«01_k».proof.Proof.Gen.RmsBwd.Launch
public import proofs.«01_k».proof.Proof.Gen.Head.Launch
public import proofs.«01_k».proof.Proof.Gen.RmsBwd.Points
public import proofs.«01_k».proof.Proof.Gen.Head.Points
public import proofs.«01_k».proof.Proof.Gen.RmsBwd.Frame
public import proofs.«01_k».proof.Proof.Gen.Head.Frame
public import proofs.«01_k».proof.Proof.Gen.RmsBwdIdeal
public import proofs.«01_k».proof.Proof.Gen.HeadIdeal
public import proofs.«01_k».proof.Proof.Gen.RmsBwdIdeal.Skeleton
public import proofs.«01_k».proof.Proof.Gen.HeadIdeal.Skeleton
public import proofs.«01_k».proof.Proof.Gen.RmsBwdIdeal.Launch
public import proofs.«01_k».proof.Proof.Gen.HeadIdeal.Launch
public import proofs.«01_k».proof.Proof.Gen.RmsBwdIdeal.Points
public import proofs.«01_k».proof.Proof.Gen.HeadIdeal.Points
public import proofs.«01_k».proof.Proof.Gen.RmsBwdIdeal.Frame
public import proofs.«01_k».proof.Proof.Gen.HeadIdeal.Frame
public import proofs.«01_k».proof.Proof.Gen.RmsBwdIdeal.Value
public import proofs.«01_k».proof.Proof.Gen.HeadIdeal.Value
public import proofs.«01_k».proof.Proof.Gen.RmsBwdRefIdeal
public import proofs.«01_k».proof.Proof.Gen.HeadRefIdeal
public import proofs.«01_k».proof.Proof.Gen.RmsBwdRefIdeal.Run
public import proofs.«01_k».proof.Proof.Gen.HeadRefIdeal.Run
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdIdeal.Value
public import proofs.«01_k».proof.Proof.Gen.RmsFwdRefIdeal
public import proofs.«01_k».proof.Proof.Gen.RmsFwdRefIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.AdamB
public import proofs.«01_k».proof.Proof.Gen.AdamS
public import proofs.«01_k».proof.Proof.Gen.AdamR
public import proofs.«01_k».proof.Proof.Gen.AdamG
public import proofs.«01_k».proof.Proof.Gen.AdamF
public import proofs.«01_k».proof.Proof.Gen.AdamE
public import proofs.«01_k».proof.Proof.Gen.AdamD
public import proofs.«01_k».proof.Proof.Gen.AdamC
public import proofs.«01_k».proof.Proof.Gen.AdamA
public import proofs.«01_k».proof.Proof.Gen.AdamB.Skeleton
public import proofs.«01_k».proof.Proof.Gen.AdamS.Skeleton
public import proofs.«01_k».proof.Proof.Gen.AdamR.Skeleton
public import proofs.«01_k».proof.Proof.Gen.AdamG.Skeleton
public import proofs.«01_k».proof.Proof.Gen.AdamF.Skeleton
public import proofs.«01_k».proof.Proof.Gen.AdamE.Skeleton
public import proofs.«01_k».proof.Proof.Gen.AdamD.Skeleton
public import proofs.«01_k».proof.Proof.Gen.AdamC.Skeleton
public import proofs.«01_k».proof.Proof.Gen.AdamA.Skeleton
public import proofs.«01_k».proof.Proof.Gen.AdamB.Launch
public import proofs.«01_k».proof.Proof.Gen.AdamS.Launch
public import proofs.«01_k».proof.Proof.Gen.AdamR.Launch
public import proofs.«01_k».proof.Proof.Gen.AdamG.Launch
public import proofs.«01_k».proof.Proof.Gen.AdamF.Launch
public import proofs.«01_k».proof.Proof.Gen.AdamE.Launch
public import proofs.«01_k».proof.Proof.Gen.AdamD.Launch
public import proofs.«01_k».proof.Proof.Gen.AdamC.Launch
public import proofs.«01_k».proof.Proof.Gen.AdamA.Launch
public import proofs.«01_k».proof.Proof.Gen.AdamB.Points
public import proofs.«01_k».proof.Proof.Gen.AdamS.Points
public import proofs.«01_k».proof.Proof.Gen.AdamR.Points
public import proofs.«01_k».proof.Proof.Gen.AdamG.Points
public import proofs.«01_k».proof.Proof.Gen.AdamF.Points
public import proofs.«01_k».proof.Proof.Gen.AdamE.Points
public import proofs.«01_k».proof.Proof.Gen.AdamD.Points
public import proofs.«01_k».proof.Proof.Gen.AdamC.Points
public import proofs.«01_k».proof.Proof.Gen.AdamA.Points
public import proofs.«01_k».proof.Proof.Gen.AdamB.Frame
public import proofs.«01_k».proof.Proof.Gen.AdamS.Frame
public import proofs.«01_k».proof.Proof.Gen.AdamR.Frame
public import proofs.«01_k».proof.Proof.Gen.AdamG.Frame
public import proofs.«01_k».proof.Proof.Gen.AdamF.Frame
public import proofs.«01_k».proof.Proof.Gen.AdamE.Frame
public import proofs.«01_k».proof.Proof.Gen.AdamD.Frame
public import proofs.«01_k».proof.Proof.Gen.AdamC.Frame
public import proofs.«01_k».proof.Proof.Gen.AdamA.Frame
public import proofs.«01_k».proof.Proof.Gen.AdamBIdeal
public import proofs.«01_k».proof.Proof.Gen.AdamSIdeal
public import proofs.«01_k».proof.Proof.Gen.AdamRIdeal
public import proofs.«01_k».proof.Proof.Gen.AdamGIdeal
public import proofs.«01_k».proof.Proof.Gen.AdamFIdeal
public import proofs.«01_k».proof.Proof.Gen.AdamEIdeal
public import proofs.«01_k».proof.Proof.Gen.AdamDIdeal
public import proofs.«01_k».proof.Proof.Gen.AdamCIdeal
public import proofs.«01_k».proof.Proof.Gen.AdamAIdeal
public import proofs.«01_k».proof.Proof.Gen.AdamBIdeal.Skeleton
public import proofs.«01_k».proof.Proof.Gen.AdamSIdeal.Skeleton
public import proofs.«01_k».proof.Proof.Gen.AdamRIdeal.Skeleton
public import proofs.«01_k».proof.Proof.Gen.AdamGIdeal.Skeleton
public import proofs.«01_k».proof.Proof.Gen.AdamFIdeal.Skeleton
public import proofs.«01_k».proof.Proof.Gen.AdamEIdeal.Skeleton
public import proofs.«01_k».proof.Proof.Gen.AdamDIdeal.Skeleton
public import proofs.«01_k».proof.Proof.Gen.AdamCIdeal.Skeleton
public import proofs.«01_k».proof.Proof.Gen.AdamAIdeal.Skeleton
public import proofs.«01_k».proof.Proof.Gen.AdamBIdeal.Launch
public import proofs.«01_k».proof.Proof.Gen.AdamSIdeal.Launch
public import proofs.«01_k».proof.Proof.Gen.AdamRIdeal.Launch
public import proofs.«01_k».proof.Proof.Gen.AdamGIdeal.Launch
public import proofs.«01_k».proof.Proof.Gen.AdamFIdeal.Launch
public import proofs.«01_k».proof.Proof.Gen.AdamEIdeal.Launch
public import proofs.«01_k».proof.Proof.Gen.AdamDIdeal.Launch
public import proofs.«01_k».proof.Proof.Gen.AdamCIdeal.Launch
public import proofs.«01_k».proof.Proof.Gen.AdamAIdeal.Launch
public import proofs.«01_k».proof.Proof.Gen.AdamBIdeal.Points
public import proofs.«01_k».proof.Proof.Gen.AdamSIdeal.Points
public import proofs.«01_k».proof.Proof.Gen.AdamRIdeal.Points
public import proofs.«01_k».proof.Proof.Gen.AdamGIdeal.Points
public import proofs.«01_k».proof.Proof.Gen.AdamFIdeal.Points
public import proofs.«01_k».proof.Proof.Gen.AdamEIdeal.Points
public import proofs.«01_k».proof.Proof.Gen.AdamDIdeal.Points
public import proofs.«01_k».proof.Proof.Gen.AdamCIdeal.Points
public import proofs.«01_k».proof.Proof.Gen.AdamAIdeal.Points
public import proofs.«01_k».proof.Proof.Gen.AdamBIdeal.Frame
public import proofs.«01_k».proof.Proof.Gen.AdamSIdeal.Frame
public import proofs.«01_k».proof.Proof.Gen.AdamRIdeal.Frame
public import proofs.«01_k».proof.Proof.Gen.AdamGIdeal.Frame
public import proofs.«01_k».proof.Proof.Gen.AdamFIdeal.Frame
public import proofs.«01_k».proof.Proof.Gen.AdamEIdeal.Frame
public import proofs.«01_k».proof.Proof.Gen.AdamDIdeal.Frame
public import proofs.«01_k».proof.Proof.Gen.AdamCIdeal.Frame
public import proofs.«01_k».proof.Proof.Gen.AdamAIdeal.Frame
public import proofs.«01_k».proof.Proof.Gen.AdamBIdeal.Value
public import proofs.«01_k».proof.Proof.Gen.AdamSIdeal.Value
public import proofs.«01_k».proof.Proof.Gen.AdamRIdeal.Value
public import proofs.«01_k».proof.Proof.Gen.AdamGIdeal.Value
public import proofs.«01_k».proof.Proof.Gen.AdamFIdeal.Value
public import proofs.«01_k».proof.Proof.Gen.AdamEIdeal.Value
public import proofs.«01_k».proof.Proof.Gen.AdamDIdeal.Value
public import proofs.«01_k».proof.Proof.Gen.AdamCIdeal.Value
public import proofs.«01_k».proof.Proof.Gen.AdamAIdeal.Value
public import proofs.«01_k».proof.Proof.Gen.AdamBRefIdeal
public import proofs.«01_k».proof.Proof.Gen.AdamSRefIdeal
public import proofs.«01_k».proof.Proof.Gen.AdamRRefIdeal
public import proofs.«01_k».proof.Proof.Gen.AdamGRefIdeal
public import proofs.«01_k».proof.Proof.Gen.AdamFRefIdeal
public import proofs.«01_k».proof.Proof.Gen.AdamERefIdeal
public import proofs.«01_k».proof.Proof.Gen.AdamDRefIdeal
public import proofs.«01_k».proof.Proof.Gen.AdamCRefIdeal
public import proofs.«01_k».proof.Proof.Gen.AdamARefIdeal
public import proofs.«01_k».proof.Proof.Gen.AdamBRefIdeal.Run
public import proofs.«01_k».proof.Proof.Gen.AdamSRefIdeal.Run
public import proofs.«01_k».proof.Proof.Gen.AdamRRefIdeal.Run
public import proofs.«01_k».proof.Proof.Gen.AdamGRefIdeal.Run
public import proofs.«01_k».proof.Proof.Gen.AdamFRefIdeal.Run
public import proofs.«01_k».proof.Proof.Gen.AdamERefIdeal.Run
public import proofs.«01_k».proof.Proof.Gen.AdamDRefIdeal.Run
public import proofs.«01_k».proof.Proof.Gen.AdamCRefIdeal.Run
public import proofs.«01_k».proof.Proof.Gen.AdamARefIdeal.Run
public import proofs.«01_k».proof.Proof.DzValue
public import proofs.«01_k».proof.Proof.DwbValue
public import proofs.«01_k».proof.Proof.DwaValue
public import proofs.«01_k».proof.Proof.ConvDwbValue
public import proofs.«01_k».proof.Proof.ConvDwaValue
public import proofs.«01_k».proof.Proof.MlaDwqValue
public import proofs.«01_k».proof.Proof.MlaDwinValue
public import proofs.«01_k».proof.Proof.DhValue
public import proofs.«01_k».proof.Proof.ConvDsValue
public import proofs.«01_k».proof.Proof.ConvDhValue
public import proofs.«01_k».proof.Proof.MlaDoValue
public import proofs.«01_k».proof.Proof.MlaDqnValue
public import proofs.«01_k».proof.Proof.MlaDhValue
public import proofs.«01_k».proof.Proof.UpValue
public import proofs.«01_k».proof.Proof.DownValue
public import proofs.«01_k».proof.Proof.ConvOutValue
public import proofs.«01_k».proof.Proof.MlaOutValue
public import proofs.«01_k».proof.Proof.MlaInValue
public import proofs.«01_k».proof.Proof.RmsBwdValue
public import proofs.«01_k».proof.Proof.RmsFwdValue
public import proofs.«01_k».proof.Proof.HeadValue
public import proofs.«01_k».proof.Proof.GluValue
public import proofs.«01_k».proof.Proof.AdamAValue
public import proofs.«01_k».proof.Proof.AdamBValue
public import proofs.«01_k».proof.Proof.AdamCValue
public import proofs.«01_k».proof.Proof.AdamDValue
public import proofs.«01_k».proof.Proof.AdamEValue
public import proofs.«01_k».proof.Proof.AdamFValue
public import proofs.«01_k».proof.Proof.AdamGValue
public import proofs.«01_k».proof.Proof.AdamRValue
public import proofs.«01_k».proof.Proof.AdamSValue
public import proofs.«01_k».proof.Proof.FlashClaim
public import Idealize.ShloMosaic.Lib.Claim
public import Idealize.ShloMosaic.Adequacy
public import Idealize.ShloMosaic.Init

@[expose] public section

noncomputable section

namespace Cert.Proof

open Idealize.ShloMosaic Idealize.SL.Sem

theorem frame_Dz : Cert.quiescent_Dz (hDz := Cert.Dz.Gen.facts) := fun m g _ => Cert.Dz.Gen.frame m g
theorem frame_DzIdeal : Cert.quiescent_DzIdeal (hDzIdeal := Cert.DzIdeal.Gen.facts) := fun m g _ => Cert.DzIdeal.Gen.frame m g
theorem frame_DzRefIdeal : Cert.quiescent_DzRefIdeal (hDzRefIdeal := Cert.DzRefIdeal.Gen.facts) := fun m g _ =>
  (θ_run Cert.DzRefIdeal.defs _ _).mono (fun r h => ⟨fun c => (h c).2, Idealize.ShloMosaic.sem_eq_zero_of_no_sems (by decide) r.2⟩)
    (Cert.DzRefIdeal.Value.run (F := Ideal) m g)

theorem algebraic_Dz : Cert.algebraic_DzIdeal_DzRefIdeal (hDzIdeal := Cert.DzIdeal.Gen.facts) (hDzRefIdeal := Cert.DzRefIdeal.Gen.facts) := by
  pair_intro
  · run_from Cert.DzIdeal.Gen.run_main m g
  · hlo_run
    exact (Cert.DzIdeal.Value.final m c).symm

theorem frame_Dwb : Cert.quiescent_Dwb (hDwb := Cert.Dwb.Gen.facts) := fun m g _ => Cert.Dwb.Gen.frame m g
theorem frame_DwbIdeal : Cert.quiescent_DwbIdeal (hDwbIdeal := Cert.DwbIdeal.Gen.facts) := fun m g _ => Cert.DwbIdeal.Gen.frame m g
theorem frame_DwbRefIdeal : Cert.quiescent_DwbRefIdeal (hDwbRefIdeal := Cert.DwbRefIdeal.Gen.facts) := fun m g _ =>
  (θ_run Cert.DwbRefIdeal.defs _ _).mono (fun r h => ⟨fun c => (h c).2, Idealize.ShloMosaic.sem_eq_zero_of_no_sems (by decide) r.2⟩)
    (Cert.DwbRefIdeal.Value.run (F := Ideal) m g)

theorem algebraic_Dwb : Cert.algebraic_DwbIdeal_DwbRefIdeal (hDwbIdeal := Cert.DwbIdeal.Gen.facts) (hDwbRefIdeal := Cert.DwbRefIdeal.Gen.facts) := by
  pair_intro
  · run_from Cert.DwbIdeal.Gen.run_main m g
  · hlo_run
    exact (Cert.DwbIdeal.Value.final m c).symm

theorem frame_Dwa : Cert.quiescent_Dwa (hDwa := Cert.Dwa.Gen.facts) := fun m g _ => Cert.Dwa.Gen.frame m g
theorem frame_DwaIdeal : Cert.quiescent_DwaIdeal (hDwaIdeal := Cert.DwaIdeal.Gen.facts) := fun m g _ => Cert.DwaIdeal.Gen.frame m g
theorem frame_DwaRefIdeal : Cert.quiescent_DwaRefIdeal (hDwaRefIdeal := Cert.DwaRefIdeal.Gen.facts) := fun m g _ =>
  (θ_run Cert.DwaRefIdeal.defs _ _).mono (fun r h => ⟨fun c => (h c).2, Idealize.ShloMosaic.sem_eq_zero_of_no_sems (by decide) r.2⟩)
    (Cert.DwaRefIdeal.Value.run (F := Ideal) m g)

theorem algebraic_Dwa : Cert.algebraic_DwaIdeal_DwaRefIdeal (hDwaIdeal := Cert.DwaIdeal.Gen.facts) (hDwaRefIdeal := Cert.DwaRefIdeal.Gen.facts) := by
  pair_intro
  · run_from Cert.DwaIdeal.Gen.run_main m g
  · hlo_run
    exact (Cert.DwaIdeal.Value.final m c).symm

theorem frame_ConvDwb : Cert.quiescent_ConvDwb (hConvDwb := Cert.ConvDwb.Gen.facts) := fun m g _ => Cert.ConvDwb.Gen.frame m g
theorem frame_ConvDwbIdeal : Cert.quiescent_ConvDwbIdeal (hConvDwbIdeal := Cert.ConvDwbIdeal.Gen.facts) := fun m g _ => Cert.ConvDwbIdeal.Gen.frame m g
theorem frame_ConvDwbRefIdeal : Cert.quiescent_ConvDwbRefIdeal (hConvDwbRefIdeal := Cert.ConvDwbRefIdeal.Gen.facts) := fun m g _ =>
  (θ_run Cert.ConvDwbRefIdeal.defs _ _).mono (fun r h => ⟨fun c => (h c).2, Idealize.ShloMosaic.sem_eq_zero_of_no_sems (by decide) r.2⟩)
    (Cert.ConvDwbRefIdeal.Value.run (F := Ideal) m g)

theorem algebraic_ConvDwb : Cert.algebraic_ConvDwbIdeal_ConvDwbRefIdeal (hConvDwbIdeal := Cert.ConvDwbIdeal.Gen.facts) (hConvDwbRefIdeal := Cert.ConvDwbRefIdeal.Gen.facts) := by
  pair_intro
  · run_from Cert.ConvDwbIdeal.Gen.run_main m g
  · hlo_run
    exact (Cert.ConvDwbIdeal.Value.final m c).symm

theorem frame_ConvDwa : Cert.quiescent_ConvDwa (hConvDwa := Cert.ConvDwa.Gen.facts) := fun m g _ => Cert.ConvDwa.Gen.frame m g
theorem frame_ConvDwaIdeal : Cert.quiescent_ConvDwaIdeal (hConvDwaIdeal := Cert.ConvDwaIdeal.Gen.facts) := fun m g _ => Cert.ConvDwaIdeal.Gen.frame m g
theorem frame_ConvDwaRefIdeal : Cert.quiescent_ConvDwaRefIdeal (hConvDwaRefIdeal := Cert.ConvDwaRefIdeal.Gen.facts) := fun m g _ =>
  (θ_run Cert.ConvDwaRefIdeal.defs _ _).mono (fun r h => ⟨fun c => (h c).2, Idealize.ShloMosaic.sem_eq_zero_of_no_sems (by decide) r.2⟩)
    (Cert.ConvDwaRefIdeal.Value.run (F := Ideal) m g)

theorem algebraic_ConvDwa : Cert.algebraic_ConvDwaIdeal_ConvDwaRefIdeal (hConvDwaIdeal := Cert.ConvDwaIdeal.Gen.facts) (hConvDwaRefIdeal := Cert.ConvDwaRefIdeal.Gen.facts) := by
  pair_intro
  · run_from Cert.ConvDwaIdeal.Gen.run_main m g
  · hlo_run
    exact (Cert.ConvDwaIdeal.Value.final m c).symm

theorem frame_MlaDwq : Cert.quiescent_MlaDwq (hMlaDwq := Cert.MlaDwq.Gen.facts) := fun m g _ => Cert.MlaDwq.Gen.frame m g
theorem frame_MlaDwqIdeal : Cert.quiescent_MlaDwqIdeal (hMlaDwqIdeal := Cert.MlaDwqIdeal.Gen.facts) := fun m g _ => Cert.MlaDwqIdeal.Gen.frame m g
theorem frame_MlaDwqRefIdeal : Cert.quiescent_MlaDwqRefIdeal (hMlaDwqRefIdeal := Cert.MlaDwqRefIdeal.Gen.facts) := fun m g _ =>
  (θ_run Cert.MlaDwqRefIdeal.defs _ _).mono (fun r h => ⟨fun c => (h c).2, Idealize.ShloMosaic.sem_eq_zero_of_no_sems (by decide) r.2⟩)
    (Cert.MlaDwqRefIdeal.Value.run (F := Ideal) m g)

theorem algebraic_MlaDwq : Cert.algebraic_MlaDwqIdeal_MlaDwqRefIdeal (hMlaDwqIdeal := Cert.MlaDwqIdeal.Gen.facts) (hMlaDwqRefIdeal := Cert.MlaDwqRefIdeal.Gen.facts) := by
  pair_intro
  · run_from Cert.MlaDwqIdeal.Gen.run_main m g
  · hlo_run
    exact (Cert.MlaDwqIdeal.Value.final m c).symm

theorem frame_MlaDwin : Cert.quiescent_MlaDwin (hMlaDwin := Cert.MlaDwin.Gen.facts) := fun m g _ => Cert.MlaDwin.Gen.frame m g
theorem frame_MlaDwinIdeal : Cert.quiescent_MlaDwinIdeal (hMlaDwinIdeal := Cert.MlaDwinIdeal.Gen.facts) := fun m g _ => Cert.MlaDwinIdeal.Gen.frame m g
theorem frame_MlaDwinRefIdeal : Cert.quiescent_MlaDwinRefIdeal (hMlaDwinRefIdeal := Cert.MlaDwinRefIdeal.Gen.facts) := fun m g _ =>
  (θ_run Cert.MlaDwinRefIdeal.defs _ _).mono (fun r h => ⟨fun c => (h c).2, Idealize.ShloMosaic.sem_eq_zero_of_no_sems (by decide) r.2⟩)
    (Cert.MlaDwinRefIdeal.Value.run (F := Ideal) m g)

theorem algebraic_MlaDwin : Cert.algebraic_MlaDwinIdeal_MlaDwinRefIdeal (hMlaDwinIdeal := Cert.MlaDwinIdeal.Gen.facts) (hMlaDwinRefIdeal := Cert.MlaDwinRefIdeal.Gen.facts) := by
  pair_intro
  · run_from Cert.MlaDwinIdeal.Gen.run_main m g
  · hlo_run
    exact (Cert.MlaDwinIdeal.Value.final m c).symm

theorem frame_Dh : Cert.quiescent_Dh (hDh := Cert.Dh.Gen.facts) := fun m g _ => Cert.Dh.Gen.frame m g
theorem frame_DhIdeal : Cert.quiescent_DhIdeal (hDhIdeal := Cert.DhIdeal.Gen.facts) := fun m g _ => Cert.DhIdeal.Gen.frame m g
theorem frame_DhRefIdeal : Cert.quiescent_DhRefIdeal (hDhRefIdeal := Cert.DhRefIdeal.Gen.facts) := fun m g _ =>
  (θ_run Cert.DhRefIdeal.defs _ _).mono (fun r h => ⟨fun c => (h c).2, Idealize.ShloMosaic.sem_eq_zero_of_no_sems (by decide) r.2⟩)
    (Cert.DhRefIdeal.Value.run (F := Ideal) m g)

theorem algebraic_Dh : Cert.algebraic_DhIdeal_DhRefIdeal (hDhIdeal := Cert.DhIdeal.Gen.facts) (hDhRefIdeal := Cert.DhRefIdeal.Gen.facts) := by
  pair_intro
  · run_from Cert.DhIdeal.Gen.run_main m g
  · hlo_run
    exact (Cert.DhIdeal.Value.final m c).symm

theorem frame_ConvDs : Cert.quiescent_ConvDs (hConvDs := Cert.ConvDs.Gen.facts) := fun m g _ => Cert.ConvDs.Gen.frame m g
theorem frame_ConvDsIdeal : Cert.quiescent_ConvDsIdeal (hConvDsIdeal := Cert.ConvDsIdeal.Gen.facts) := fun m g _ => Cert.ConvDsIdeal.Gen.frame m g
theorem frame_ConvDsRefIdeal : Cert.quiescent_ConvDsRefIdeal (hConvDsRefIdeal := Cert.ConvDsRefIdeal.Gen.facts) := fun m g _ =>
  (θ_run Cert.ConvDsRefIdeal.defs _ _).mono (fun r h => ⟨fun c => (h c).2, Idealize.ShloMosaic.sem_eq_zero_of_no_sems (by decide) r.2⟩)
    (Cert.ConvDsRefIdeal.Value.run (F := Ideal) m g)

theorem algebraic_ConvDs : Cert.algebraic_ConvDsIdeal_ConvDsRefIdeal (hConvDsIdeal := Cert.ConvDsIdeal.Gen.facts) (hConvDsRefIdeal := Cert.ConvDsRefIdeal.Gen.facts) := by
  pair_intro
  · run_from Cert.ConvDsIdeal.Gen.run_main m g
  · hlo_run
    exact (Cert.ConvDsIdeal.Value.final m c).symm

theorem frame_ConvDh : Cert.quiescent_ConvDh (hConvDh := Cert.ConvDh.Gen.facts) := fun m g _ => Cert.ConvDh.Gen.frame m g
theorem frame_ConvDhIdeal : Cert.quiescent_ConvDhIdeal (hConvDhIdeal := Cert.ConvDhIdeal.Gen.facts) := fun m g _ => Cert.ConvDhIdeal.Gen.frame m g
theorem frame_ConvDhRefIdeal : Cert.quiescent_ConvDhRefIdeal (hConvDhRefIdeal := Cert.ConvDhRefIdeal.Gen.facts) := fun m g _ =>
  (θ_run Cert.ConvDhRefIdeal.defs _ _).mono (fun r h => ⟨fun c => (h c).2, Idealize.ShloMosaic.sem_eq_zero_of_no_sems (by decide) r.2⟩)
    (Cert.ConvDhRefIdeal.Value.run (F := Ideal) m g)

theorem algebraic_ConvDh : Cert.algebraic_ConvDhIdeal_ConvDhRefIdeal (hConvDhIdeal := Cert.ConvDhIdeal.Gen.facts) (hConvDhRefIdeal := Cert.ConvDhRefIdeal.Gen.facts) := by
  pair_intro
  · run_from Cert.ConvDhIdeal.Gen.run_main m g
  · hlo_run
    exact (Cert.ConvDhIdeal.Value.final m c).symm

theorem frame_MlaDo : Cert.quiescent_MlaDo (hMlaDo := Cert.MlaDo.Gen.facts) := fun m g _ => Cert.MlaDo.Gen.frame m g
theorem frame_MlaDoIdeal : Cert.quiescent_MlaDoIdeal (hMlaDoIdeal := Cert.MlaDoIdeal.Gen.facts) := fun m g _ => Cert.MlaDoIdeal.Gen.frame m g
theorem frame_MlaDoRefIdeal : Cert.quiescent_MlaDoRefIdeal (hMlaDoRefIdeal := Cert.MlaDoRefIdeal.Gen.facts) := fun m g _ =>
  (θ_run Cert.MlaDoRefIdeal.defs _ _).mono (fun r h => ⟨fun c => (h c).2, Idealize.ShloMosaic.sem_eq_zero_of_no_sems (by decide) r.2⟩)
    (Cert.MlaDoRefIdeal.Value.run (F := Ideal) m g)

theorem algebraic_MlaDo : Cert.algebraic_MlaDoIdeal_MlaDoRefIdeal (hMlaDoIdeal := Cert.MlaDoIdeal.Gen.facts) (hMlaDoRefIdeal := Cert.MlaDoRefIdeal.Gen.facts) := by
  pair_intro
  · run_from Cert.MlaDoIdeal.Gen.run_main m g
  · hlo_run
    exact (Cert.MlaDoIdeal.Value.final m c).symm

theorem frame_MlaDqn : Cert.quiescent_MlaDqn (hMlaDqn := Cert.MlaDqn.Gen.facts) := fun m g _ => Cert.MlaDqn.Gen.frame m g
theorem frame_MlaDqnIdeal : Cert.quiescent_MlaDqnIdeal (hMlaDqnIdeal := Cert.MlaDqnIdeal.Gen.facts) := fun m g _ => Cert.MlaDqnIdeal.Gen.frame m g
theorem frame_MlaDqnRefIdeal : Cert.quiescent_MlaDqnRefIdeal (hMlaDqnRefIdeal := Cert.MlaDqnRefIdeal.Gen.facts) := fun m g _ =>
  (θ_run Cert.MlaDqnRefIdeal.defs _ _).mono (fun r h => ⟨fun c => (h c).2, Idealize.ShloMosaic.sem_eq_zero_of_no_sems (by decide) r.2⟩)
    (Cert.MlaDqnRefIdeal.Value.run (F := Ideal) m g)

theorem algebraic_MlaDqn : Cert.algebraic_MlaDqnIdeal_MlaDqnRefIdeal (hMlaDqnIdeal := Cert.MlaDqnIdeal.Gen.facts) (hMlaDqnRefIdeal := Cert.MlaDqnRefIdeal.Gen.facts) := by
  pair_intro
  · run_from Cert.MlaDqnIdeal.Gen.run_main m g
  · hlo_run
    exact (Cert.MlaDqnIdeal.Value.final m c).symm

theorem frame_MlaDh : Cert.quiescent_MlaDh (hMlaDh := Cert.MlaDh.Gen.facts) := fun m g _ => Cert.MlaDh.Gen.frame m g
theorem frame_MlaDhIdeal : Cert.quiescent_MlaDhIdeal (hMlaDhIdeal := Cert.MlaDhIdeal.Gen.facts) := fun m g _ => Cert.MlaDhIdeal.Gen.frame m g
theorem frame_MlaDhRefIdeal : Cert.quiescent_MlaDhRefIdeal (hMlaDhRefIdeal := Cert.MlaDhRefIdeal.Gen.facts) := fun m g _ =>
  (θ_run Cert.MlaDhRefIdeal.defs _ _).mono (fun r h => ⟨fun c => (h c).2, Idealize.ShloMosaic.sem_eq_zero_of_no_sems (by decide) r.2⟩)
    (Cert.MlaDhRefIdeal.Value.run (F := Ideal) m g)

theorem algebraic_MlaDh : Cert.algebraic_MlaDhIdeal_MlaDhRefIdeal (hMlaDhIdeal := Cert.MlaDhIdeal.Gen.facts) (hMlaDhRefIdeal := Cert.MlaDhRefIdeal.Gen.facts) := by
  pair_intro
  · run_from Cert.MlaDhIdeal.Gen.run_main m g
  · hlo_run
    exact (Cert.MlaDhIdeal.Value.final m c).symm

theorem frame_Up : Cert.quiescent_Up (hUp := Cert.Up.Gen.facts) := fun m g _ => Cert.Up.Gen.frame m g
theorem frame_UpIdeal : Cert.quiescent_UpIdeal (hUpIdeal := Cert.UpIdeal.Gen.facts) := fun m g _ => Cert.UpIdeal.Gen.frame m g
theorem frame_UpRefIdeal : Cert.quiescent_UpRefIdeal (hUpRefIdeal := Cert.UpRefIdeal.Gen.facts) := fun m g _ =>
  (θ_run Cert.UpRefIdeal.defs _ _).mono (fun r h => ⟨fun c => (h c).2.2, Idealize.ShloMosaic.sem_eq_zero_of_no_sems (by decide) r.2⟩)
    (Cert.UpRefIdeal.Value.run (F := Ideal) m g)

theorem algebraic_Up : Cert.algebraic_UpIdeal_UpRefIdeal (hUpIdeal := Cert.UpIdeal.Gen.facts) (hUpRefIdeal := Cert.UpRefIdeal.Gen.facts) := by
  pair_intro
  · run_from Cert.UpIdeal.Gen.run_main m g
  · hlo_run
    exact (Cert.UpIdeal.Value.finala m c).symm
    exact (Cert.UpIdeal.Value.finalb m c).symm

theorem frame_Down : Cert.quiescent_Down (hDown := Cert.Down.Gen.facts) := fun m g _ => Cert.Down.Gen.frame m g
theorem frame_DownIdeal : Cert.quiescent_DownIdeal (hDownIdeal := Cert.DownIdeal.Gen.facts) := fun m g _ => Cert.DownIdeal.Gen.frame m g
theorem frame_DownRefIdeal : Cert.quiescent_DownRefIdeal (hDownRefIdeal := Cert.DownRefIdeal.Gen.facts) := fun m g _ =>
  (θ_run Cert.DownRefIdeal.defs _ _).mono (fun r h => ⟨fun c => (h c).2, Idealize.ShloMosaic.sem_eq_zero_of_no_sems (by decide) r.2⟩)
    (Cert.DownRefIdeal.Value.run (F := Ideal) m g)

theorem algebraic_Down : Cert.algebraic_DownIdeal_DownRefIdeal (hDownIdeal := Cert.DownIdeal.Gen.facts) (hDownRefIdeal := Cert.DownRefIdeal.Gen.facts) := by
  pair_intro
  · run_from Cert.DownIdeal.Gen.run_main m g
  · hlo_run
    exact (Cert.DownIdeal.Value.final m c).symm

theorem frame_ConvOut : Cert.quiescent_ConvOut (hConvOut := Cert.ConvOut.Gen.facts) := fun m g _ => Cert.ConvOut.Gen.frame m g
theorem frame_ConvOutIdeal : Cert.quiescent_ConvOutIdeal (hConvOutIdeal := Cert.ConvOutIdeal.Gen.facts) := fun m g _ => Cert.ConvOutIdeal.Gen.frame m g
theorem frame_ConvOutRefIdeal : Cert.quiescent_ConvOutRefIdeal (hConvOutRefIdeal := Cert.ConvOutRefIdeal.Gen.facts) := fun m g _ =>
  (θ_run Cert.ConvOutRefIdeal.defs _ _).mono (fun r h => ⟨fun c => (h c).2, Idealize.ShloMosaic.sem_eq_zero_of_no_sems (by decide) r.2⟩)
    (Cert.ConvOutRefIdeal.Value.run (F := Ideal) m g)

theorem algebraic_ConvOut : Cert.algebraic_ConvOutIdeal_ConvOutRefIdeal (hConvOutIdeal := Cert.ConvOutIdeal.Gen.facts) (hConvOutRefIdeal := Cert.ConvOutRefIdeal.Gen.facts) := by
  pair_intro
  · run_from Cert.ConvOutIdeal.Gen.run_main m g
  · hlo_run
    exact (Cert.ConvOutIdeal.Value.final m c).symm

theorem frame_MlaOut : Cert.quiescent_MlaOut (hMlaOut := Cert.MlaOut.Gen.facts) := fun m g _ => Cert.MlaOut.Gen.frame m g
theorem frame_MlaOutIdeal : Cert.quiescent_MlaOutIdeal (hMlaOutIdeal := Cert.MlaOutIdeal.Gen.facts) := fun m g _ => Cert.MlaOutIdeal.Gen.frame m g
theorem frame_MlaOutRefIdeal : Cert.quiescent_MlaOutRefIdeal (hMlaOutRefIdeal := Cert.MlaOutRefIdeal.Gen.facts) := fun m g _ =>
  (θ_run Cert.MlaOutRefIdeal.defs _ _).mono (fun r h => ⟨fun c => (h c).2, Idealize.ShloMosaic.sem_eq_zero_of_no_sems (by decide) r.2⟩)
    (Cert.MlaOutRefIdeal.Value.run (F := Ideal) m g)

theorem algebraic_MlaOut : Cert.algebraic_MlaOutIdeal_MlaOutRefIdeal (hMlaOutIdeal := Cert.MlaOutIdeal.Gen.facts) (hMlaOutRefIdeal := Cert.MlaOutRefIdeal.Gen.facts) := by
  pair_intro
  · run_from Cert.MlaOutIdeal.Gen.run_main m g
  · hlo_run
    exact (Cert.MlaOutIdeal.Value.final m c).symm

theorem frame_MlaIn : Cert.quiescent_MlaIn (hMlaIn := Cert.MlaIn.Gen.facts) := fun m g _ => Cert.MlaIn.Gen.frame m g
theorem frame_MlaInIdeal : Cert.quiescent_MlaInIdeal (hMlaInIdeal := Cert.MlaInIdeal.Gen.facts) := fun m g _ => Cert.MlaInIdeal.Gen.frame m g
theorem frame_MlaInRefIdeal : Cert.quiescent_MlaInRefIdeal (hMlaInRefIdeal := Cert.MlaInRefIdeal.Gen.facts) := fun m g _ =>
  (θ_run Cert.MlaInRefIdeal.defs _ _).mono (fun r h => ⟨fun c => (h c).2, Idealize.ShloMosaic.sem_eq_zero_of_no_sems (by decide) r.2⟩)
    (Cert.MlaInRefIdeal.Value.run (F := Ideal) m g)

theorem algebraic_MlaIn : Cert.algebraic_MlaInIdeal_MlaInRefIdeal (hMlaInIdeal := Cert.MlaInIdeal.Gen.facts) (hMlaInRefIdeal := Cert.MlaInRefIdeal.Gen.facts) := by
  pair_intro
  · run_from Cert.MlaInIdeal.Gen.run_main m g
  · hlo_run
    exact (Cert.MlaInIdeal.Value.final m c).symm

theorem frame_RmsBwd : Cert.quiescent_RmsBwd (hRmsBwd := Cert.RmsBwd.Gen.facts) := fun m g _ => Cert.RmsBwd.Gen.frame m g
theorem frame_RmsBwdIdeal : Cert.quiescent_RmsBwdIdeal (hRmsBwdIdeal := Cert.RmsBwdIdeal.Gen.facts) := fun m g _ => Cert.RmsBwdIdeal.Gen.frame m g
theorem frame_RmsBwdRefIdeal : Cert.quiescent_RmsBwdRefIdeal (hRmsBwdRefIdeal := Cert.RmsBwdRefIdeal.Gen.facts) := fun m g _ =>
  (θ_run Cert.RmsBwdRefIdeal.defs _ _).mono (fun r h => ⟨fun c => (h c).2.2.2.2, Idealize.ShloMosaic.sem_eq_zero_of_no_sems (by decide) r.2⟩)
    (Cert.RmsBwdRefIdeal.Value.run (F := Ideal) m g)

theorem algebraic_RmsBwd : Cert.algebraic_RmsBwdIdeal_RmsBwdRefIdeal (hRmsBwdIdeal := Cert.RmsBwdIdeal.Gen.facts) (hRmsBwdRefIdeal := Cert.RmsBwdRefIdeal.Gen.facts) := by
  pair_intro
  · run_from Cert.RmsBwdIdeal.Gen.run_main m g
  · hlo_run
    exact (Cert.RmsBwdIdeal.Value.final4 m c).symm
    exact (Cert.RmsBwdIdeal.Value.final5 m c).symm
    exact (Cert.RmsBwdIdeal.Value.final6 m c).symm
    exact (Cert.RmsBwdIdeal.Value.final7 m c).symm

theorem frame_RmsFwd : Cert.quiescent_RmsFwd (hRmsFwd := Cert.RmsFwd.Gen.facts) := fun m g _ => Cert.RmsFwd.Gen.frame m g
theorem frame_RmsFwdIdeal : Cert.quiescent_RmsFwdIdeal (hRmsFwdIdeal := Cert.RmsFwdIdeal.Gen.facts) := fun m g _ => Cert.RmsFwdIdeal.Gen.frame m g
theorem frame_RmsFwdRefIdeal : Cert.quiescent_RmsFwdRefIdeal (hRmsFwdRefIdeal := Cert.RmsFwdRefIdeal.Gen.facts) := fun m g _ =>
  (θ_run Cert.RmsFwdRefIdeal.defs _ _).mono (fun r h => ⟨fun c => (h c).2, Idealize.ShloMosaic.sem_eq_zero_of_no_sems (by decide) r.2⟩)
    (Cert.RmsFwdRefIdeal.Value.run (F := Ideal) m g)

theorem algebraic_RmsFwd : Cert.algebraic_RmsFwdIdeal_RmsFwdRefIdeal (hRmsFwdIdeal := Cert.RmsFwdIdeal.Gen.facts) (hRmsFwdRefIdeal := Cert.RmsFwdRefIdeal.Gen.facts) := by
  pair_intro
  · run_from Cert.RmsFwdIdeal.Gen.run_main m g
  · hlo_run
    exact (Cert.RmsFwdIdeal.Value.final m c).symm

theorem frame_Head : Cert.quiescent_Head (hHead := Cert.Head.Gen.facts) := fun m g _ => Cert.Head.Gen.frame m g
theorem frame_HeadIdeal : Cert.quiescent_HeadIdeal (hHeadIdeal := Cert.HeadIdeal.Gen.facts) := fun m g _ => Cert.HeadIdeal.Gen.frame m g
theorem frame_HeadRefIdeal : Cert.quiescent_HeadRefIdeal (hHeadRefIdeal := Cert.HeadRefIdeal.Gen.facts) := fun m g _ =>
  (θ_run Cert.HeadRefIdeal.defs _ _).mono (fun r h => ⟨fun c => (h c).2.2.2.2.2, Idealize.ShloMosaic.sem_eq_zero_of_no_sems (by decide) r.2⟩)
    (Cert.HeadRefIdeal.Value.run (F := Ideal) m g)

theorem algebraic_Head : Cert.algebraic_HeadIdeal_HeadRefIdeal (hHeadIdeal := Cert.HeadIdeal.Gen.facts) (hHeadRefIdeal := Cert.HeadRefIdeal.Gen.facts) := by
  pair_intro
  · run_from Cert.HeadIdeal.Gen.run_main m g
  · hlo_run
    exact (Cert.HeadIdeal.Value.final3 m c).symm
    exact (Cert.HeadIdeal.Value.final4 m c).symm
    exact (Cert.HeadIdeal.Value.final5 m c).symm
    exact (Cert.HeadIdeal.Value.final6 m c).symm
    exact (Cert.HeadIdeal.Value.final7 m c).symm

theorem frame_Glu : Cert.quiescent_Glu (hGlu := Cert.Glu.Gen.facts) := fun m g _ => Cert.Glu.Gen.frame m g
theorem frame_GluIdeal : Cert.quiescent_GluIdeal (hGluIdeal := Cert.GluIdeal.Gen.facts) := fun m g _ => Cert.GluIdeal.Gen.frame m g
theorem frame_GluRefIdeal : Cert.quiescent_GluRefIdeal (hGluRefIdeal := Cert.GluRefIdeal.Gen.facts) := fun m g _ =>
  (θ_run Cert.GluRefIdeal.defs _ _).mono (fun r h => ⟨fun c => (h c).2.2.2, Idealize.ShloMosaic.sem_eq_zero_of_no_sems (by decide) r.2⟩)
    (Cert.GluRefIdeal.Value.run (F := Ideal) m g)

theorem algebraic_Glu : Cert.algebraic_GluIdeal_GluRefIdeal (hGluIdeal := Cert.GluIdeal.Gen.facts) (hGluRefIdeal := Cert.GluRefIdeal.Gen.facts) := by
  pair_intro
  · run_from Cert.GluIdeal.Gen.run_main m g
  · hlo_run
    exact (Cert.GluIdeal.Value.final5 m c).symm
    exact (Cert.GluIdeal.Value.final6 m c).symm
    exact (Cert.GluIdeal.Value.final7 m c).symm

theorem frame_AdamA : Cert.quiescent_AdamA (hAdamA := Cert.AdamA.Gen.facts) := fun m g _ => Cert.AdamA.Gen.frame m g
theorem frame_AdamAIdeal : Cert.quiescent_AdamAIdeal (hAdamAIdeal := Cert.AdamAIdeal.Gen.facts) := fun m g _ => Cert.AdamAIdeal.Gen.frame m g
theorem frame_AdamARefIdeal : Cert.quiescent_AdamARefIdeal (hAdamARefIdeal := Cert.AdamARefIdeal.Gen.facts) := fun m g _ =>
  (θ_run Cert.AdamARefIdeal.defs _ _).mono (fun r h => ⟨fun c => (h c).2.2.2.2, Idealize.ShloMosaic.sem_eq_zero_of_no_sems (by decide) r.2⟩)
    (Cert.AdamARefIdeal.Value.run (F := Ideal) m g)

theorem algebraic_AdamA : Cert.algebraic_AdamAIdeal_AdamARefIdeal (hAdamAIdeal := Cert.AdamAIdeal.Gen.facts) (hAdamARefIdeal := Cert.AdamARefIdeal.Gen.facts) := by
  pair_intro
  · run_from Cert.AdamAIdeal.Gen.run_main m g
  · hlo_run
    exact (Cert.AdamAIdeal.Value.final4 m c).symm
    exact (Cert.AdamAIdeal.Value.final5 m c).symm
    exact (Cert.AdamAIdeal.Value.final6 m c).symm
    exact (Cert.AdamAIdeal.Value.final7 m c).symm

theorem frame_AdamB : Cert.quiescent_AdamB (hAdamB := Cert.AdamB.Gen.facts) := fun m g _ => Cert.AdamB.Gen.frame m g
theorem frame_AdamBIdeal : Cert.quiescent_AdamBIdeal (hAdamBIdeal := Cert.AdamBIdeal.Gen.facts) := fun m g _ => Cert.AdamBIdeal.Gen.frame m g
theorem frame_AdamBRefIdeal : Cert.quiescent_AdamBRefIdeal (hAdamBRefIdeal := Cert.AdamBRefIdeal.Gen.facts) := fun m g _ =>
  (θ_run Cert.AdamBRefIdeal.defs _ _).mono (fun r h => ⟨fun c => (h c).2.2.2.2, Idealize.ShloMosaic.sem_eq_zero_of_no_sems (by decide) r.2⟩)
    (Cert.AdamBRefIdeal.Value.run (F := Ideal) m g)

theorem algebraic_AdamB : Cert.algebraic_AdamBIdeal_AdamBRefIdeal (hAdamBIdeal := Cert.AdamBIdeal.Gen.facts) (hAdamBRefIdeal := Cert.AdamBRefIdeal.Gen.facts) := by
  pair_intro
  · run_from Cert.AdamBIdeal.Gen.run_main m g
  · hlo_run
    exact (Cert.AdamBIdeal.Value.final4 m c).symm
    exact (Cert.AdamBIdeal.Value.final5 m c).symm
    exact (Cert.AdamBIdeal.Value.final6 m c).symm
    exact (Cert.AdamBIdeal.Value.final7 m c).symm

theorem frame_AdamC : Cert.quiescent_AdamC (hAdamC := Cert.AdamC.Gen.facts) := fun m g _ => Cert.AdamC.Gen.frame m g
theorem frame_AdamCIdeal : Cert.quiescent_AdamCIdeal (hAdamCIdeal := Cert.AdamCIdeal.Gen.facts) := fun m g _ => Cert.AdamCIdeal.Gen.frame m g
theorem frame_AdamCRefIdeal : Cert.quiescent_AdamCRefIdeal (hAdamCRefIdeal := Cert.AdamCRefIdeal.Gen.facts) := fun m g _ =>
  (θ_run Cert.AdamCRefIdeal.defs _ _).mono (fun r h => ⟨fun c => (h c).2.2.2.2, Idealize.ShloMosaic.sem_eq_zero_of_no_sems (by decide) r.2⟩)
    (Cert.AdamCRefIdeal.Value.run (F := Ideal) m g)

theorem algebraic_AdamC : Cert.algebraic_AdamCIdeal_AdamCRefIdeal (hAdamCIdeal := Cert.AdamCIdeal.Gen.facts) (hAdamCRefIdeal := Cert.AdamCRefIdeal.Gen.facts) := by
  pair_intro
  · run_from Cert.AdamCIdeal.Gen.run_main m g
  · hlo_run
    exact (Cert.AdamCIdeal.Value.final4 m c).symm
    exact (Cert.AdamCIdeal.Value.final5 m c).symm
    exact (Cert.AdamCIdeal.Value.final6 m c).symm
    exact (Cert.AdamCIdeal.Value.final7 m c).symm

theorem frame_AdamD : Cert.quiescent_AdamD (hAdamD := Cert.AdamD.Gen.facts) := fun m g _ => Cert.AdamD.Gen.frame m g
theorem frame_AdamDIdeal : Cert.quiescent_AdamDIdeal (hAdamDIdeal := Cert.AdamDIdeal.Gen.facts) := fun m g _ => Cert.AdamDIdeal.Gen.frame m g
theorem frame_AdamDRefIdeal : Cert.quiescent_AdamDRefIdeal (hAdamDRefIdeal := Cert.AdamDRefIdeal.Gen.facts) := fun m g _ =>
  (θ_run Cert.AdamDRefIdeal.defs _ _).mono (fun r h => ⟨fun c => (h c).2.2.2.2, Idealize.ShloMosaic.sem_eq_zero_of_no_sems (by decide) r.2⟩)
    (Cert.AdamDRefIdeal.Value.run (F := Ideal) m g)

theorem algebraic_AdamD : Cert.algebraic_AdamDIdeal_AdamDRefIdeal (hAdamDIdeal := Cert.AdamDIdeal.Gen.facts) (hAdamDRefIdeal := Cert.AdamDRefIdeal.Gen.facts) := by
  pair_intro
  · run_from Cert.AdamDIdeal.Gen.run_main m g
  · hlo_run
    exact (Cert.AdamDIdeal.Value.final4 m c).symm
    exact (Cert.AdamDIdeal.Value.final5 m c).symm
    exact (Cert.AdamDIdeal.Value.final6 m c).symm
    exact (Cert.AdamDIdeal.Value.final7 m c).symm

theorem frame_AdamE : Cert.quiescent_AdamE (hAdamE := Cert.AdamE.Gen.facts) := fun m g _ => Cert.AdamE.Gen.frame m g
theorem frame_AdamEIdeal : Cert.quiescent_AdamEIdeal (hAdamEIdeal := Cert.AdamEIdeal.Gen.facts) := fun m g _ => Cert.AdamEIdeal.Gen.frame m g
theorem frame_AdamERefIdeal : Cert.quiescent_AdamERefIdeal (hAdamERefIdeal := Cert.AdamERefIdeal.Gen.facts) := fun m g _ =>
  (θ_run Cert.AdamERefIdeal.defs _ _).mono (fun r h => ⟨fun c => (h c).2.2.2.2, Idealize.ShloMosaic.sem_eq_zero_of_no_sems (by decide) r.2⟩)
    (Cert.AdamERefIdeal.Value.run (F := Ideal) m g)

theorem algebraic_AdamE : Cert.algebraic_AdamEIdeal_AdamERefIdeal (hAdamEIdeal := Cert.AdamEIdeal.Gen.facts) (hAdamERefIdeal := Cert.AdamERefIdeal.Gen.facts) := by
  pair_intro
  · run_from Cert.AdamEIdeal.Gen.run_main m g
  · hlo_run
    exact (Cert.AdamEIdeal.Value.final4 m c).symm
    exact (Cert.AdamEIdeal.Value.final5 m c).symm
    exact (Cert.AdamEIdeal.Value.final6 m c).symm
    exact (Cert.AdamEIdeal.Value.final7 m c).symm

theorem frame_AdamF : Cert.quiescent_AdamF (hAdamF := Cert.AdamF.Gen.facts) := fun m g _ => Cert.AdamF.Gen.frame m g
theorem frame_AdamFIdeal : Cert.quiescent_AdamFIdeal (hAdamFIdeal := Cert.AdamFIdeal.Gen.facts) := fun m g _ => Cert.AdamFIdeal.Gen.frame m g
theorem frame_AdamFRefIdeal : Cert.quiescent_AdamFRefIdeal (hAdamFRefIdeal := Cert.AdamFRefIdeal.Gen.facts) := fun m g _ =>
  (θ_run Cert.AdamFRefIdeal.defs _ _).mono (fun r h => ⟨fun c => (h c).2.2.2.2, Idealize.ShloMosaic.sem_eq_zero_of_no_sems (by decide) r.2⟩)
    (Cert.AdamFRefIdeal.Value.run (F := Ideal) m g)

theorem algebraic_AdamF : Cert.algebraic_AdamFIdeal_AdamFRefIdeal (hAdamFIdeal := Cert.AdamFIdeal.Gen.facts) (hAdamFRefIdeal := Cert.AdamFRefIdeal.Gen.facts) := by
  pair_intro
  · run_from Cert.AdamFIdeal.Gen.run_main m g
  · hlo_run
    exact (Cert.AdamFIdeal.Value.final4 m c).symm
    exact (Cert.AdamFIdeal.Value.final5 m c).symm
    exact (Cert.AdamFIdeal.Value.final6 m c).symm
    exact (Cert.AdamFIdeal.Value.final7 m c).symm

theorem frame_AdamG : Cert.quiescent_AdamG (hAdamG := Cert.AdamG.Gen.facts) := fun m g _ => Cert.AdamG.Gen.frame m g
theorem frame_AdamGIdeal : Cert.quiescent_AdamGIdeal (hAdamGIdeal := Cert.AdamGIdeal.Gen.facts) := fun m g _ => Cert.AdamGIdeal.Gen.frame m g
theorem frame_AdamGRefIdeal : Cert.quiescent_AdamGRefIdeal (hAdamGRefIdeal := Cert.AdamGRefIdeal.Gen.facts) := fun m g _ =>
  (θ_run Cert.AdamGRefIdeal.defs _ _).mono (fun r h => ⟨fun c => (h c).2.2.2.2, Idealize.ShloMosaic.sem_eq_zero_of_no_sems (by decide) r.2⟩)
    (Cert.AdamGRefIdeal.Value.run (F := Ideal) m g)

theorem algebraic_AdamG : Cert.algebraic_AdamGIdeal_AdamGRefIdeal (hAdamGIdeal := Cert.AdamGIdeal.Gen.facts) (hAdamGRefIdeal := Cert.AdamGRefIdeal.Gen.facts) := by
  pair_intro
  · run_from Cert.AdamGIdeal.Gen.run_main m g
  · hlo_run
    exact (Cert.AdamGIdeal.Value.final4 m c).symm
    exact (Cert.AdamGIdeal.Value.final5 m c).symm
    exact (Cert.AdamGIdeal.Value.final6 m c).symm
    exact (Cert.AdamGIdeal.Value.final7 m c).symm

theorem frame_AdamR : Cert.quiescent_AdamR (hAdamR := Cert.AdamR.Gen.facts) := fun m g _ => Cert.AdamR.Gen.frame m g
theorem frame_AdamRIdeal : Cert.quiescent_AdamRIdeal (hAdamRIdeal := Cert.AdamRIdeal.Gen.facts) := fun m g _ => Cert.AdamRIdeal.Gen.frame m g
theorem frame_AdamRRefIdeal : Cert.quiescent_AdamRRefIdeal (hAdamRRefIdeal := Cert.AdamRRefIdeal.Gen.facts) := fun m g _ =>
  (θ_run Cert.AdamRRefIdeal.defs _ _).mono (fun r h => ⟨fun c => (h c).2.2.2.2, Idealize.ShloMosaic.sem_eq_zero_of_no_sems (by decide) r.2⟩)
    (Cert.AdamRRefIdeal.Value.run (F := Ideal) m g)

theorem algebraic_AdamR : Cert.algebraic_AdamRIdeal_AdamRRefIdeal (hAdamRIdeal := Cert.AdamRIdeal.Gen.facts) (hAdamRRefIdeal := Cert.AdamRRefIdeal.Gen.facts) := by
  pair_intro
  · run_from Cert.AdamRIdeal.Gen.run_main m g
  · hlo_run
    exact (Cert.AdamRIdeal.Value.fin4 m c).symm
    exact (Cert.AdamRIdeal.Value.fin5 m c).symm
    exact (Cert.AdamRIdeal.Value.fin6 m c).symm
    exact (Cert.AdamRIdeal.Value.fin7 m c).symm

theorem frame_AdamS : Cert.quiescent_AdamS (hAdamS := Cert.AdamS.Gen.facts) := fun m g _ => Cert.AdamS.Gen.frame m g
theorem frame_AdamSIdeal : Cert.quiescent_AdamSIdeal (hAdamSIdeal := Cert.AdamSIdeal.Gen.facts) := fun m g _ => Cert.AdamSIdeal.Gen.frame m g
theorem frame_AdamSRefIdeal : Cert.quiescent_AdamSRefIdeal (hAdamSRefIdeal := Cert.AdamSRefIdeal.Gen.facts) := fun m g _ =>
  (θ_run Cert.AdamSRefIdeal.defs _ _).mono (fun r h => ⟨fun c => (h c).2.2.2.2, Idealize.ShloMosaic.sem_eq_zero_of_no_sems (by decide) r.2⟩)
    (Cert.AdamSRefIdeal.Value.run (F := Ideal) m g)

theorem algebraic_AdamS : Cert.algebraic_AdamSIdeal_AdamSRefIdeal (hAdamSIdeal := Cert.AdamSIdeal.Gen.facts) (hAdamSRefIdeal := Cert.AdamSRefIdeal.Gen.facts) := by
  pair_intro
  · run_from Cert.AdamSIdeal.Gen.run_main m g
  · hlo_run
    exact (Cert.AdamSIdeal.Value.fin4 m c).symm
    exact (Cert.AdamSIdeal.Value.fin5 m c).symm
    exact (Cert.AdamSIdeal.Value.fin6 m c).symm
    exact (Cert.AdamSIdeal.Value.fin7 m c).symm

theorem claim : Cert.Claim := ⟨Cert.Kernel.Gen.facts, Cert.KernelIdeal.Gen.facts, Cert.ReferenceIdeal.Gen.facts,
  Cert.Dz.Gen.facts, Cert.DzIdeal.Gen.facts, Cert.DzRefIdeal.Gen.facts,
  Cert.Dwb.Gen.facts, Cert.DwbIdeal.Gen.facts, Cert.DwbRefIdeal.Gen.facts,
  Cert.Dwa.Gen.facts, Cert.DwaIdeal.Gen.facts, Cert.DwaRefIdeal.Gen.facts,
  Cert.ConvDwb.Gen.facts, Cert.ConvDwbIdeal.Gen.facts, Cert.ConvDwbRefIdeal.Gen.facts,
  Cert.ConvDwa.Gen.facts, Cert.ConvDwaIdeal.Gen.facts, Cert.ConvDwaRefIdeal.Gen.facts,
  Cert.MlaDwq.Gen.facts, Cert.MlaDwqIdeal.Gen.facts, Cert.MlaDwqRefIdeal.Gen.facts,
  Cert.MlaDwin.Gen.facts, Cert.MlaDwinIdeal.Gen.facts, Cert.MlaDwinRefIdeal.Gen.facts,
  Cert.Dh.Gen.facts, Cert.DhIdeal.Gen.facts, Cert.DhRefIdeal.Gen.facts,
  Cert.ConvDs.Gen.facts, Cert.ConvDsIdeal.Gen.facts, Cert.ConvDsRefIdeal.Gen.facts,
  Cert.ConvDh.Gen.facts, Cert.ConvDhIdeal.Gen.facts, Cert.ConvDhRefIdeal.Gen.facts,
  Cert.MlaDo.Gen.facts, Cert.MlaDoIdeal.Gen.facts, Cert.MlaDoRefIdeal.Gen.facts,
  Cert.MlaDqn.Gen.facts, Cert.MlaDqnIdeal.Gen.facts, Cert.MlaDqnRefIdeal.Gen.facts,
  Cert.MlaDh.Gen.facts, Cert.MlaDhIdeal.Gen.facts, Cert.MlaDhRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.ConvOut.Gen.facts, Cert.ConvOutIdeal.Gen.facts, Cert.ConvOutRefIdeal.Gen.facts,
  Cert.MlaOut.Gen.facts, Cert.MlaOutIdeal.Gen.facts, Cert.MlaOutRefIdeal.Gen.facts,
  Cert.MlaIn.Gen.facts, Cert.MlaInIdeal.Gen.facts, Cert.MlaInRefIdeal.Gen.facts,
  Cert.RmsBwd.Gen.facts, Cert.RmsBwdIdeal.Gen.facts, Cert.RmsBwdRefIdeal.Gen.facts,
  Cert.RmsFwd.Gen.facts, Cert.RmsFwdIdeal.Gen.facts, Cert.RmsFwdRefIdeal.Gen.facts,
  Cert.Head.Gen.facts, Cert.HeadIdeal.Gen.facts, Cert.HeadRefIdeal.Gen.facts,
  Cert.Glu.Gen.facts, Cert.GluIdeal.Gen.facts, Cert.GluRefIdeal.Gen.facts,
  Cert.AdamA.Gen.facts, Cert.AdamAIdeal.Gen.facts, Cert.AdamARefIdeal.Gen.facts,
  Cert.AdamB.Gen.facts, Cert.AdamBIdeal.Gen.facts, Cert.AdamBRefIdeal.Gen.facts,
  Cert.AdamC.Gen.facts, Cert.AdamCIdeal.Gen.facts, Cert.AdamCRefIdeal.Gen.facts,
  Cert.AdamD.Gen.facts, Cert.AdamDIdeal.Gen.facts, Cert.AdamDRefIdeal.Gen.facts,
  Cert.AdamE.Gen.facts, Cert.AdamEIdeal.Gen.facts, Cert.AdamERefIdeal.Gen.facts,
  Cert.AdamF.Gen.facts, Cert.AdamFIdeal.Gen.facts, Cert.AdamFRefIdeal.Gen.facts,
  Cert.AdamG.Gen.facts, Cert.AdamGIdeal.Gen.facts, Cert.AdamGRefIdeal.Gen.facts,
  Cert.AdamR.Gen.facts, Cert.AdamRIdeal.Gen.facts, Cert.AdamRRefIdeal.Gen.facts,
  Cert.AdamS.Gen.facts, Cert.AdamSIdeal.Gen.facts, Cert.AdamSRefIdeal.Gen.facts,
  Cert.Attn.pre_facts,
  Cert.Attn.frame_kernel, Cert.Attn.frame_ideal, fun m g _ => Cert.Attn.frame_ideal m g trivial,
  Cert.Attn.frame_reference, fun m g _ => Cert.Attn.frame_reference m g trivial,
  frame_Dz, frame_DzIdeal, frame_DzRefIdeal,
  frame_Dwb, frame_DwbIdeal, frame_DwbRefIdeal,
  frame_Dwa, frame_DwaIdeal, frame_DwaRefIdeal,
  frame_ConvDwb, frame_ConvDwbIdeal, frame_ConvDwbRefIdeal,
  frame_ConvDwa, frame_ConvDwaIdeal, frame_ConvDwaRefIdeal,
  frame_MlaDwq, frame_MlaDwqIdeal, frame_MlaDwqRefIdeal,
  frame_MlaDwin, frame_MlaDwinIdeal, frame_MlaDwinRefIdeal,
  frame_Dh, frame_DhIdeal, frame_DhRefIdeal,
  frame_ConvDs, frame_ConvDsIdeal, frame_ConvDsRefIdeal,
  frame_ConvDh, frame_ConvDhIdeal, frame_ConvDhRefIdeal,
  frame_MlaDo, frame_MlaDoIdeal, frame_MlaDoRefIdeal,
  frame_MlaDqn, frame_MlaDqnIdeal, frame_MlaDqnRefIdeal,
  frame_MlaDh, frame_MlaDhIdeal, frame_MlaDhRefIdeal,
  frame_Up, frame_UpIdeal, frame_UpRefIdeal,
  frame_Down, frame_DownIdeal, frame_DownRefIdeal,
  frame_ConvOut, frame_ConvOutIdeal, frame_ConvOutRefIdeal,
  frame_MlaOut, frame_MlaOutIdeal, frame_MlaOutRefIdeal,
  frame_MlaIn, frame_MlaInIdeal, frame_MlaInRefIdeal,
  frame_RmsBwd, frame_RmsBwdIdeal, frame_RmsBwdRefIdeal,
  frame_RmsFwd, frame_RmsFwdIdeal, frame_RmsFwdRefIdeal,
  frame_Head, frame_HeadIdeal, frame_HeadRefIdeal,
  frame_Glu, frame_GluIdeal, frame_GluRefIdeal,
  frame_AdamA, frame_AdamAIdeal, frame_AdamARefIdeal,
  frame_AdamB, frame_AdamBIdeal, frame_AdamBRefIdeal,
  frame_AdamC, frame_AdamCIdeal, frame_AdamCRefIdeal,
  frame_AdamD, frame_AdamDIdeal, frame_AdamDRefIdeal,
  frame_AdamE, frame_AdamEIdeal, frame_AdamERefIdeal,
  frame_AdamF, frame_AdamFIdeal, frame_AdamFRefIdeal,
  frame_AdamG, frame_AdamGIdeal, frame_AdamGRefIdeal,
  frame_AdamR, frame_AdamRIdeal, frame_AdamRRefIdeal,
  frame_AdamS, frame_AdamSIdeal, frame_AdamSRefIdeal,
  trivial, Cert.Attn.values,
  trivial, algebraic_Dz,
  trivial, algebraic_Dwb,
  trivial, algebraic_Dwa,
  trivial, algebraic_ConvDwb,
  trivial, algebraic_ConvDwa,
  trivial, algebraic_MlaDwq,
  trivial, algebraic_MlaDwin,
  trivial, algebraic_Dh,
  trivial, algebraic_ConvDs,
  trivial, algebraic_ConvDh,
  trivial, algebraic_MlaDo,
  trivial, algebraic_MlaDqn,
  trivial, algebraic_MlaDh,
  trivial, algebraic_Up,
  trivial, algebraic_Down,
  trivial, algebraic_ConvOut,
  trivial, algebraic_MlaOut,
  trivial, algebraic_MlaIn,
  trivial, algebraic_RmsBwd,
  trivial, algebraic_RmsFwd,
  trivial, algebraic_Head,
  trivial, algebraic_Glu,
  trivial, algebraic_AdamA,
  trivial, algebraic_AdamB,
  trivial, algebraic_AdamC,
  trivial, algebraic_AdamD,
  trivial, algebraic_AdamE,
  trivial, algebraic_AdamF,
  trivial, algebraic_AdamG,
  trivial, algebraic_AdamR,
  trivial, algebraic_AdamS⟩

end Cert.Proof

end
